-- ==== Defs.lean ====
def Pre_AttnGrad (m : (ℓ : Loc Cert.AttnGrad.nD Cert.AttnGrad.τ Cert.AttnGrad.sig) → Buf (Elt Bits) ℓ) : Prop :=
  True

def Pre_AttnGradIdeal (m : (ℓ : Loc Cert.AttnGradIdeal.nD Cert.AttnGradIdeal.τ Cert.AttnGradIdeal.sig) → Buf (Elt Ideal) ℓ) : Prop :=
  True

def Pre_AttnGradIdeal_attn_finite [hPre_attn_finite : Cert.Pre_attn_finite.Facts] (m : (ℓ : Loc Cert.AttnGradIdeal.nD Cert.AttnGradIdeal.τ Cert.AttnGradIdeal.sig) → Buf (Elt Ideal) ℓ) : Prop :=
  ∀ c : Dev Cert.AttnGradIdeal.nD,
    (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).1 = (fun _ => 1#1)
    ∧ (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).2.1 = (fun _ => 1#1)
    ∧ (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).2.2.1 = (fun _ => 1#1)
    ∧ (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).2.2.2.1 = (fun _ => 1#1)
    ∧ (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).2.2.2.2 = (fun _ => 1#1)

def Pre_AttnGradRefIdeal (m : (ℓ : Loc Cert.AttnGradRefIdeal.nD Cert.AttnGradRefIdeal.τ Cert.AttnGradRefIdeal.sig) → Buf (Elt Ideal) ℓ) : Prop :=
  True

def Pre_AttnGradRefIdeal_attn_finite [hPre_attn_finite : Cert.Pre_attn_finite.Facts] (m : (ℓ : Loc Cert.AttnGradRefIdeal.nD Cert.AttnGradRefIdeal.τ Cert.AttnGradRefIdeal.sig) → Buf (Elt Ideal) ℓ) : Prop :=
  ∀ c : Dev Cert.AttnGradRefIdeal.nD,
    (Cert.Pre_attn_finite.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).1 = (fun _ => 1#1)
    ∧ (Cert.Pre_attn_finite.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).2.1 = (fun _ => 1#1)
    ∧ (Cert.Pre_attn_finite.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).2.2.1 = (fun _ => 1#1)
    ∧ (Cert.Pre_attn_finite.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).2.2.2.1 = (fun _ => 1#1)
    ∧ (Cert.Pre_attn_finite.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).2.2.2.2 = (fun _ => 1#1)

def Pre_SwigluGrad (m : (ℓ : Loc Cert.SwigluGrad.nD Cert.SwigluGrad.τ Cert.SwigluGrad.sig) → Buf (Elt Bits) ℓ) : Prop :=
  True

def Pre_SwigluGradIdeal (m : (ℓ : Loc Cert.SwigluGradIdeal.nD Cert.SwigluGradIdeal.τ Cert.SwigluGradIdeal.sig) → Buf (Elt Ideal) ℓ) : Prop :=
  True

def Pre_SwigluGradIdeal_swiglu_finite [hPre_swiglu_finite : Cert.Pre_swiglu_finite.Facts] (m : (ℓ : Loc Cert.SwigluGradIdeal.nD Cert.SwigluGradIdeal.τ Cert.SwigluGradIdeal.sig) → Buf (Elt Ideal) ℓ) : Prop :=
  ∀ c : Dev Cert.SwigluGradIdeal.nD,
    (Cert.Pre_swiglu_finite.fn (F := Ideal) (m ((c.tc : Thread Cert.SwigluGradIdeal.nD Cert.SwigluGradIdeal.τ).loc Cert.SwigluGradIdeal.main_arg0)) (m ((c.tc : Thread Cert.SwigluGradIdeal.nD Cert.SwigluGradIdeal.τ).loc Cert.SwigluGradIdeal.main_arg1)) (m ((c.tc : Thread Cert.SwigluGradIdeal.nD Cert.SwigluGradIdeal.τ).loc Cert.SwigluGradIdeal.main_arg2)) (m ((c.tc : Thread Cert.SwigluGradIdeal.nD Cert.SwigluGradIdeal.τ).loc Cert.SwigluGradIdeal.main_arg3))).1 = (fun _ => 1#1)
    ∧ (Cert.Pre_swiglu_finite.fn (F := Ideal) (m ((c.tc : Thread Cert.SwigluGradIdeal.nD Cert.SwigluGradIdeal.τ).loc Cert.SwigluGradIdeal.main_arg0)) (m ((c.tc : Thread Cert.SwigluGradIdeal.nD Cert.SwigluGradIdeal.τ).loc Cert.SwigluGradIdeal.main_arg1)) (m ((c.tc : Thread Cert.SwigluGradIdeal.nD Cert.SwigluGradIdeal.τ).loc Cert.SwigluGradIdeal.main_arg2)) (m ((c.tc : Thread Cert.SwigluGradIdeal.nD Cert.SwigluGradIdeal.τ).loc Cert.SwigluGradIdeal.main_arg3))).2.1 = (fun _ => 1#1)
    ∧ (Cert.Pre_swiglu_finite.fn (F := Ideal) (m ((c.tc : Thread Cert.SwigluGradIdeal.nD Cert.SwigluGradIdeal.τ).loc Cert.SwigluGradIdeal.main_arg0)) (m ((c.tc : Thread Cert.SwigluGradIdeal.nD Cert.SwigluGradIdeal.τ).loc Cert.SwigluGradIdeal.main_arg1)) (m ((c.tc : Thread Cert.SwigluGradIdeal.nD Cert.SwigluGradIdeal.τ).loc Cert.SwigluGradIdeal.main_arg2)) (m ((c.tc : Thread Cert.SwigluGradIdeal.nD Cert.SwigluGradIdeal.τ).loc Cert.SwigluGradIdeal.main_arg3))).2.2 = (fun _ => 1#1)

def Pre_SwigluGradRefIdeal (m : (ℓ : Loc Cert.SwigluGradRefIdeal.nD Cert.SwigluGradRefIdeal.τ Cert.SwigluGradRefIdeal.sig) → Buf (Elt Ideal) ℓ) : Prop :=
  True

def Pre_SwigluGradRefIdeal_swiglu_finite [hPre_swiglu_finite : Cert.Pre_swiglu_finite.Facts] (m : (ℓ : Loc Cert.SwigluGradRefIdeal.nD Cert.SwigluGradRefIdeal.τ Cert.SwigluGradRefIdeal.sig) → Buf (Elt Ideal) ℓ) : Prop :=
  ∀ c : Dev Cert.SwigluGradRefIdeal.nD,
    (Cert.Pre_swiglu_finite.fn (F := Ideal) (m ((c.tc : Thread Cert.SwigluGradRefIdeal.nD Cert.SwigluGradRefIdeal.τ).loc Cert.SwigluGradRefIdeal.main_arg0)) (m ((c.tc : Thread Cert.SwigluGradRefIdeal.nD Cert.SwigluGradRefIdeal.τ).loc Cert.SwigluGradRefIdeal.main_arg1)) (m ((c.tc : Thread Cert.SwigluGradRefIdeal.nD Cert.SwigluGradRefIdeal.τ).loc Cert.SwigluGradRefIdeal.main_arg2)) (m ((c.tc : Thread Cert.SwigluGradRefIdeal.nD Cert.SwigluGradRefIdeal.τ).loc Cert.SwigluGradRefIdeal.main_arg3))).1 = (fun _ => 1#1)
    ∧ (Cert.Pre_swiglu_finite.fn (F := Ideal) (m ((c.tc : Thread Cert.SwigluGradRefIdeal.nD Cert.SwigluGradRefIdeal.τ).loc Cert.SwigluGradRefIdeal.main_arg0)) (m ((c.tc : Thread Cert.SwigluGradRefIdeal.nD Cert.SwigluGradRefIdeal.τ).loc Cert.SwigluGradRefIdeal.main_arg1)) (m ((c.tc : Thread Cert.SwigluGradRefIdeal.nD Cert.SwigluGradRefIdeal.τ).loc Cert.SwigluGradRefIdeal.main_arg2)) (m ((c.tc : Thread Cert.SwigluGradRefIdeal.nD Cert.SwigluGradRefIdeal.τ).loc Cert.SwigluGradRefIdeal.main_arg3))).2.1 = (fun _ => 1#1)
    ∧ (Cert.Pre_swiglu_finite.fn (F := Ideal) (m ((c.tc : Thread Cert.SwigluGradRefIdeal.nD Cert.SwigluGradRefIdeal.τ).loc Cert.SwigluGradRefIdeal.main_arg0)) (m ((c.tc : Thread Cert.SwigluGradRefIdeal.nD Cert.SwigluGradRefIdeal.τ).loc Cert.SwigluGradRefIdeal.main_arg1)) (m ((c.tc : Thread Cert.SwigluGradRefIdeal.nD Cert.SwigluGradRefIdeal.τ).loc Cert.SwigluGradRefIdeal.main_arg2)) (m ((c.tc : Thread Cert.SwigluGradRefIdeal.nD Cert.SwigluGradRefIdeal.τ).loc Cert.SwigluGradRefIdeal.main_arg3))).2.2 = (fun _ => 1#1)

def Pre_FfnOutGradW (m : (ℓ : Loc Cert.FfnOutGradW.nD Cert.FfnOutGradW.τ Cert.FfnOutGradW.sig) → Buf (Elt Bits) ℓ) : Prop :=
  True

def Pre_FfnOutGradWIdeal (m : (ℓ : Loc Cert.FfnOutGradWIdeal.nD Cert.FfnOutGradWIdeal.τ Cert.FfnOutGradWIdeal.sig) → Buf (Elt Ideal) ℓ) : Prop :=
  True

def Pre_FfnOutGradWRefIdeal (m : (ℓ : Loc Cert.FfnOutGradWRefIdeal.nD Cert.FfnOutGradWRefIdeal.τ Cert.FfnOutGradWRefIdeal.sig) → Buf (Elt Ideal) ℓ) : Prop :=
  True

def Pre_FfnInGradW (m : (ℓ : Loc Cert.FfnInGradW.nD Cert.FfnInGradW.τ Cert.FfnInGradW.sig) → Buf (Elt Bits) ℓ) : Prop :=
  True

def Pre_FfnInGradWIdeal (m : (ℓ : Loc Cert.FfnInGradWIdeal.nD Cert.FfnInGradWIdeal.τ Cert.FfnInGradWIdeal.sig) → Buf (Elt Ideal) ℓ) : Prop :=
  True

def Pre_FfnInGradWRefIdeal (m : (ℓ : Loc Cert.FfnInGradWRefIdeal.nD Cert.FfnInGradWRefIdeal.τ Cert.FfnInGradWRefIdeal.sig) → Buf (Elt Ideal) ℓ) : Prop :=
  True

def Pre_ProjGradW (m : (ℓ : Loc Cert.ProjGradW.nD Cert.ProjGradW.τ Cert.ProjGradW.sig) → Buf (Elt Bits) ℓ) : Prop :=
  True

def Pre_ProjGradWIdeal (m : (ℓ : Loc Cert.ProjGradWIdeal.nD Cert.ProjGradWIdeal.τ Cert.ProjGradWIdeal.sig) → Buf (Elt Ideal) ℓ) : Prop :=
  True

def Pre_ProjGradWRefIdeal (m : (ℓ : Loc Cert.ProjGradWRefIdeal.nD Cert.ProjGradWRefIdeal.τ Cert.ProjGradWRefIdeal.sig) → Buf (Elt Ideal) ℓ) : Prop :=
  True

def Pre_OutGradW (m : (ℓ : Loc Cert.OutGradW.nD Cert.OutGradW.τ Cert.OutGradW.sig) → Buf (Elt Bits) ℓ) : Prop :=
  True

def Pre_OutGradWIdeal (m : (ℓ : Loc Cert.OutGradWIdeal.nD Cert.OutGradWIdeal.τ Cert.OutGradWIdeal.sig) → Buf (Elt Ideal) ℓ) : Prop :=
  True

def Pre_OutGradWRefIdeal (m : (ℓ : Loc Cert.OutGradWRefIdeal.nD Cert.OutGradWRefIdeal.τ Cert.OutGradWRefIdeal.sig) → Buf (Elt Ideal) ℓ) : Prop :=
  True

def Pre_OutGradX (m : (ℓ : Loc Cert.OutGradX.nD Cert.OutGradX.τ Cert.OutGradX.sig) → Buf (Elt Bits) ℓ) : Prop :=
  True

def Pre_OutGradXIdeal (m : (ℓ : Loc Cert.OutGradXIdeal.nD Cert.OutGradXIdeal.τ Cert.OutGradXIdeal.sig) → Buf (Elt Ideal) ℓ) : Prop :=
  True

def Pre_OutGradXRefIdeal (m : (ℓ : Loc Cert.OutGradXRefIdeal.nD Cert.OutGradXRefIdeal.τ Cert.OutGradXRefIdeal.sig) → Buf (Elt Ideal) ℓ) : Prop :=
  True

def Pre_FfnInGradX (m : (ℓ : Loc Cert.FfnInGradX.nD Cert.FfnInGradX.τ Cert.FfnInGradX.sig) → Buf (Elt Bits) ℓ) : Prop :=
  True

def Pre_FfnInGradXIdeal (m : (ℓ : Loc Cert.FfnInGradXIdeal.nD Cert.FfnInGradXIdeal.τ Cert.FfnInGradXIdeal.sig) → Buf (Elt Ideal) ℓ) : Prop :=
  True

def Pre_FfnInGradXRefIdeal (m : (ℓ : Loc Cert.FfnInGradXRefIdeal.nD Cert.FfnInGradXRefIdeal.τ Cert.FfnInGradXRefIdeal.sig) → Buf (Elt Ideal) ℓ) : Prop :=
  True

def Pre_ProjGradX (m : (ℓ : Loc Cert.ProjGradX.nD Cert.ProjGradX.τ Cert.ProjGradX.sig) → Buf (Elt Bits) ℓ) : Prop :=
  True

def Pre_ProjGradXIdeal (m : (ℓ : Loc Cert.ProjGradXIdeal.nD Cert.ProjGradXIdeal.τ Cert.ProjGradXIdeal.sig) → Buf (Elt Ideal) ℓ) : Prop :=
  True

def Pre_ProjGradXRefIdeal (m : (ℓ : Loc Cert.ProjGradXRefIdeal.nD Cert.ProjGradXRefIdeal.τ Cert.ProjGradXRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_NormStep (m : (ℓ : Loc Cert.NormStep.nD Cert.NormStep.τ Cert.NormStep.sig) → Buf (Elt Bits) ℓ) : Prop :=
  True

def Pre_NormStepIdeal (m : (ℓ : Loc Cert.NormStepIdeal.nD Cert.NormStepIdeal.τ Cert.NormStepIdeal.sig) → Buf (Elt Ideal) ℓ) : Prop :=
  True

def Pre_NormStepRefIdeal (m : (ℓ : Loc Cert.NormStepRefIdeal.nD Cert.NormStepRefIdeal.τ Cert.NormStepRefIdeal.sig) → Buf (Elt Ideal) ℓ) : Prop :=
  True

def Pre_FfnInStep (m : (ℓ : Loc Cert.FfnInStep.nD Cert.FfnInStep.τ Cert.FfnInStep.sig) → Buf (Elt Bits) ℓ) : Prop :=
  True

def Pre_FfnInStepIdeal (m : (ℓ : Loc Cert.FfnInStepIdeal.nD Cert.FfnInStepIdeal.τ Cert.FfnInStepIdeal.sig) → Buf (Elt Ideal) ℓ) : Prop :=
  True

def Pre_FfnInStepRefIdeal (m : (ℓ : Loc Cert.FfnInStepRefIdeal.nD Cert.FfnInStepRefIdeal.τ Cert.FfnInStepRefIdeal.sig) → Buf (Elt Ideal) ℓ) : Prop :=
  True

def Pre_AdaStep (m : (ℓ : Loc Cert.AdaStep.nD Cert.AdaStep.τ Cert.AdaStep.sig) → Buf (Elt Bits) ℓ) : Prop :=
  True

def Pre_AdaStepIdeal (m : (ℓ : Loc Cert.AdaStepIdeal.nD Cert.AdaStepIdeal.τ Cert.AdaStepIdeal.sig) → Buf (Elt Ideal) ℓ) : Prop :=
  True

def Pre_AdaStepRefIdeal (m : (ℓ : Loc Cert.AdaStepRefIdeal.nD Cert.AdaStepRefIdeal.τ Cert.AdaStepRefIdeal.sig) → Buf (Elt Ideal) ℓ) : Prop :=
  True

def Pre_HeadStep (m : (ℓ : Loc Cert.HeadStep.nD Cert.HeadStep.τ Cert.HeadStep.sig) → Buf (Elt Bits) ℓ) : Prop :=
  True

def Pre_HeadStepIdeal (m : (ℓ : Loc Cert.HeadStepIdeal.nD Cert.HeadStepIdeal.τ Cert.HeadStepIdeal.sig) → Buf (Elt Ideal) ℓ) : Prop :=
  True

def Pre_HeadStepRefIdeal (m : (ℓ : Loc Cert.HeadStepRefIdeal.nD Cert.HeadStepRefIdeal.τ Cert.HeadStepRefIdeal.sig) → Buf (Elt Ideal) ℓ) : Prop :=
  True

def Pre_QkStep (m : (ℓ : Loc Cert.QkStep.nD Cert.QkStep.τ Cert.QkStep.sig) → Buf (Elt Bits) ℓ) : Prop :=
  True

def Pre_QkStepIdeal (m : (ℓ : Loc Cert.QkStepIdeal.nD Cert.QkStepIdeal.τ Cert.QkStepIdeal.sig) → Buf (Elt Ideal) ℓ) : Prop :=
  True

def Pre_QkStepRefIdeal (m : (ℓ : Loc Cert.QkStepRefIdeal.nD Cert.QkStepRefIdeal.τ Cert.QkStepRefIdeal.sig) → Buf (Elt Ideal) ℓ) : Prop :=
  True

def Pre_BiasStep (m : (ℓ : Loc Cert.BiasStep.nD Cert.BiasStep.τ Cert.BiasStep.sig) → Buf (Elt Bits) ℓ) : Prop :=
  True

def Pre_BiasStepIdeal (m : (ℓ : Loc Cert.BiasStepIdeal.nD Cert.BiasStepIdeal.τ Cert.BiasStepIdeal.sig) → Buf (Elt Ideal) ℓ) : Prop :=
  True

def Pre_BiasStepRefIdeal (m : (ℓ : Loc Cert.BiasStepRefIdeal.nD Cert.BiasStepRefIdeal.τ Cert.BiasStepRefIdeal.sig) → Buf (Elt Ideal) ℓ) : Prop :=
  True

def quiescent_AttnGrad [hAttnGrad : Cert.AttnGrad.Facts] : Prop :=
  ∀ (m : (ℓ : Loc Cert.AttnGrad.nD Cert.AttnGrad.τ Cert.AttnGrad.sig) → Buf (Elt Bits) ℓ) (g : Dev Cert.AttnGrad.nD → PrngReg), Pre_AttnGrad m →
    θ_run (Cert.AttnGrad.defs (F := Bits)) (onTc (τ := Cert.AttnGrad.τ) (Cert.AttnGrad.main (F := Bits))) ⟨m, fun _ => 0, g⟩ (fun r => (∀ c : Dev Cert.AttnGrad.nD,
      r.2.mem ((c.tc : Thread Cert.AttnGrad.nD Cert.AttnGrad.τ).loc Cert.AttnGrad.main_arg0) = m ((c.tc : Thread Cert.AttnGrad.nD Cert.AttnGrad.τ).loc Cert.AttnGrad.main_arg0)
      ∧ r.2.mem ((c.tc : Thread Cert.AttnGrad.nD Cert.AttnGrad.τ).loc Cert.AttnGrad.main_arg1) = m ((c.tc : Thread Cert.AttnGrad.nD Cert.AttnGrad.τ).loc Cert.AttnGrad.main_arg1)
      ∧ r.2.mem ((c.tc : Thread Cert.AttnGrad.nD Cert.AttnGrad.τ).loc Cert.AttnGrad.main_arg2) = m ((c.tc : Thread Cert.AttnGrad.nD Cert.AttnGrad.τ).loc Cert.AttnGrad.main_arg2)
      ∧ r.2.mem ((c.tc : Thread Cert.AttnGrad.nD Cert.AttnGrad.τ).loc Cert.AttnGrad.main_arg3) = m ((c.tc : Thread Cert.AttnGrad.nD Cert.AttnGrad.τ).loc Cert.AttnGrad.main_arg3)
      ∧ r.2.mem ((c.tc : Thread Cert.AttnGrad.nD Cert.AttnGrad.τ).loc Cert.AttnGrad.main_arg4) = m ((c.tc : Thread Cert.AttnGrad.nD Cert.AttnGrad.τ).loc Cert.AttnGrad.main_arg4))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4))
      ∧ r.2.sem = fun _ => 0)

def quiescent_AttnGradIdeal_pre_attn_finite [hAttnGradIdeal : Cert.AttnGradIdeal.Facts] [hPre_attn_finite : Cert.Pre_attn_finite.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal_attn_finite m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4))
      ∧ r.2.sem = fun _ => 0)

def quiescent_AttnGradRefIdeal [hAttnGradRefIdeal : Cert.AttnGradRefIdeal.Facts] : Prop :=
  ∀ (m : (ℓ : Loc Cert.AttnGradRefIdeal.nD Cert.AttnGradRefIdeal.τ Cert.AttnGradRefIdeal.sig) → Buf (Elt Ideal) ℓ) (g : Dev Cert.AttnGradRefIdeal.nD → PrngReg), Pre_AttnGradRefIdeal m →
    θ_run (Cert.AttnGradRefIdeal.defs (F := Ideal)) (onTc (τ := Cert.AttnGradRefIdeal.τ) (Cert.AttnGradRefIdeal.main (F := Ideal))) ⟨m, fun _ => 0, g⟩ (fun r => (∀ c : Dev Cert.AttnGradRefIdeal.nD,
      r.2.mem ((c.tc : Thread Cert.AttnGradRefIdeal.nD Cert.AttnGradRefIdeal.τ).loc Cert.AttnGradRefIdeal.main_arg0) = m ((c.tc : Thread Cert.AttnGradRefIdeal.nD Cert.AttnGradRefIdeal.τ).loc Cert.AttnGradRefIdeal.main_arg0)
      ∧ r.2.mem ((c.tc : Thread Cert.AttnGradRefIdeal.nD Cert.AttnGradRefIdeal.τ).loc Cert.AttnGradRefIdeal.main_arg1) = m ((c.tc : Thread Cert.AttnGradRefIdeal.nD Cert.AttnGradRefIdeal.τ).loc Cert.AttnGradRefIdeal.main_arg1)
      ∧ r.2.mem ((c.tc : Thread Cert.AttnGradRefIdeal.nD Cert.AttnGradRefIdeal.τ).loc Cert.AttnGradRefIdeal.main_arg2) = m ((c.tc : Thread Cert.AttnGradRefIdeal.nD Cert.AttnGradRefIdeal.τ).loc Cert.AttnGradRefIdeal.main_arg2)
      ∧ r.2.mem ((c.tc : Thread Cert.AttnGradRefIdeal.nD Cert.AttnGradRefIdeal.τ).loc Cert.AttnGradRefIdeal.main_arg3) = m ((c.tc : Thread Cert.AttnGradRefIdeal.nD Cert.AttnGradRefIdeal.τ).loc Cert.AttnGradRefIdeal.main_arg3)
      ∧ r.2.mem ((c.tc : Thread Cert.AttnGradRefIdeal.nD Cert.AttnGradRefIdeal.τ).loc Cert.AttnGradRefIdeal.main_arg4) = m ((c.tc : Thread Cert.AttnGradRefIdeal.nD Cert.AttnGradRefIdeal.τ).loc Cert.AttnGradRefIdeal.main_arg4))
      ∧ r.2.sem = fun _ => 0)

def quiescent_AttnGradRefIdeal_pre_attn_finite [hAttnGradRefIdeal : Cert.AttnGradRefIdeal.Facts] [hPre_attn_finite : Cert.Pre_attn_finite.Facts] : Prop :=
  ∀ (m : (ℓ : Loc Cert.AttnGradRefIdeal.nD Cert.AttnGradRefIdeal.τ Cert.AttnGradRefIdeal.sig) → Buf (Elt Ideal) ℓ) (g : Dev Cert.AttnGradRefIdeal.nD → PrngReg), Pre_AttnGradRefIdeal_attn_finite m →
    θ_run (Cert.AttnGradRefIdeal.defs (F := Ideal)) (onTc (τ := Cert.AttnGradRefIdeal.τ) (Cert.AttnGradRefIdeal.main (F := Ideal))) ⟨m, fun _ => 0, g⟩ (fun r => (∀ c : Dev Cert.AttnGradRefIdeal.nD,
      r.2.mem ((c.tc : Thread Cert.AttnGradRefIdeal.nD Cert.AttnGradRefIdeal.τ).loc Cert.AttnGradRefIdeal.main_arg0) = m ((c.tc : Thread Cert.AttnGradRefIdeal.nD Cert.AttnGradRefIdeal.τ).loc Cert.AttnGradRefIdeal.main_arg0)
      ∧ r.2.mem ((c.tc : Thread Cert.AttnGradRefIdeal.nD Cert.AttnGradRefIdeal.τ).loc Cert.AttnGradRefIdeal.main_arg1) = m ((c.tc : Thread Cert.AttnGradRefIdeal.nD Cert.AttnGradRefIdeal.τ).loc Cert.AttnGradRefIdeal.main_arg1)
      ∧ r.2.mem ((c.tc : Thread Cert.AttnGradRefIdeal.nD Cert.AttnGradRefIdeal.τ).loc Cert.AttnGradRefIdeal.main_arg2) = m ((c.tc : Thread Cert.AttnGradRefIdeal.nD Cert.AttnGradRefIdeal.τ).loc Cert.AttnGradRefIdeal.main_arg2)
      ∧ r.2.mem ((c.tc : Thread Cert.AttnGradRefIdeal.nD Cert.AttnGradRefIdeal.τ).loc Cert.AttnGradRefIdeal.main_arg3) = m ((c.tc : Thread Cert.AttnGradRefIdeal.nD Cert.AttnGradRefIdeal.τ).loc Cert.AttnGradRefIdeal.main_arg3)
      ∧ r.2.mem ((c.tc : Thread Cert.AttnGradRefIdeal.nD Cert.AttnGradRefIdeal.τ).loc Cert.AttnGradRefIdeal.main_arg4) = m ((c.tc : Thread Cert.AttnGradRefIdeal.nD Cert.AttnGradRefIdeal.τ).loc Cert.AttnGradRefIdeal.main_arg4))
      ∧ r.2.sem = fun _ => 0)

def quiescent_SwigluGrad [hSwigluGrad : Cert.SwigluGrad.Facts] : Prop :=
  ∀ (m : (ℓ : Loc Cert.SwigluGrad.nD Cert.SwigluGrad.τ Cert.SwigluGrad.sig) → Buf (Elt Bits) ℓ) (g : Dev Cert.SwigluGrad.nD → PrngReg), Pre_SwigluGrad m →
    θ_run (Cert.SwigluGrad.defs (F := Bits)) (onTc (τ := Cert.SwigluGrad.τ) (Cert.SwigluGrad.main (F := Bits))) ⟨m, fun _ => 0, g⟩ (fun r => (∀ c : Dev Cert.SwigluGrad.nD,
      r.2.mem ((c.tc : Thread Cert.SwigluGrad.nD Cert.SwigluGrad.τ).loc Cert.SwigluGrad.main_arg0) = m ((c.tc : Thread Cert.SwigluGrad.nD Cert.SwigluGrad.τ).loc Cert.SwigluGrad.main_arg0)
      ∧ r.2.mem ((c.tc : Thread Cert.SwigluGrad.nD Cert.SwigluGrad.τ).loc Cert.SwigluGrad.main_arg1) = m ((c.tc : Thread Cert.SwigluGrad.nD Cert.SwigluGrad.τ).loc Cert.SwigluGrad.main_arg1)
      ∧ r.2.mem ((c.tc : Thread Cert.SwigluGrad.nD Cert.SwigluGrad.τ).loc Cert.SwigluGrad.main_arg2) = m ((c.tc : Thread Cert.SwigluGrad.nD Cert.SwigluGrad.τ).loc Cert.SwigluGrad.main_arg2)
      ∧ r.2.mem ((c.tc : Thread Cert.SwigluGrad.nD Cert.SwigluGrad.τ).loc Cert.SwigluGrad.main_arg3) = m ((c.tc : Thread Cert.SwigluGrad.nD Cert.SwigluGrad.τ).loc Cert.SwigluGrad.main_arg3))
      ∧ r.2.sem = fun _ => 0)

def quiescent_SwigluGradIdeal [hSwigluGradIdeal : Cert.SwigluGradIdeal.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg), Pre_SwigluGradIdeal m →
    θ_run (Cert.SwigluGradIdeal.defs (F := Ideal)) (onTc (τ := Cert.SwigluGradIdeal.τ) (Cert.SwigluGradIdeal.main (F := Ideal))) ⟨m, fun _ => 0, g⟩ (fun r => (∀ c : Dev Cert.SwigluGradIdeal.nD,
      r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
      ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
      ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2)
      ∧ r.2.mem ((c.tc : Thread Cert.SwigluGradIdeal.nD Cert.SwigluGradIdeal.τ).loc Cert.SwigluGradIdeal.main_arg3) = m ((c.tc : Thread Cert.SwigluGradIdeal.nD Cert.SwigluGradIdeal.τ).loc Cert.SwigluGradIdeal.main_arg3))
      ∧ r.2.sem = fun _ => 0)

def quiescent_SwigluGradIdeal_pre_swiglu_finite [hSwigluGradIdeal : Cert.SwigluGradIdeal.Facts] [hPre_swiglu_finite : Cert.Pre_swiglu_finite.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg), Pre_SwigluGradIdeal_swiglu_finite m →
    θ_run (Cert.SwigluGradIdeal.defs (F := Ideal)) (onTc (τ := Cert.SwigluGradIdeal.τ) (Cert.SwigluGradIdeal.main (F := Ideal))) ⟨m, fun _ => 0, g⟩ (fun r => (∀ c : Dev Cert.SwigluGradIdeal.nD,
      r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
      ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
      ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2)
      ∧ r.2.mem ((c.tc : Thread Cert.SwigluGradIdeal.nD Cert.SwigluGradIdeal.τ).loc Cert.SwigluGradIdeal.main_arg3) = m ((c.tc : Thread Cert.SwigluGradIdeal.nD Cert.SwigluGradIdeal.τ).loc Cert.SwigluGradIdeal.main_arg3))
      ∧ r.2.sem = fun _ => 0)

def quiescent_SwigluGradRefIdeal [hSwigluGradRefIdeal : Cert.SwigluGradRefIdeal.Facts] : Prop :=
  ∀ (m : (ℓ : Loc Cert.SwigluGradRefIdeal.nD Cert.SwigluGradRefIdeal.τ Cert.SwigluGradRefIdeal.sig) → Buf (Elt Ideal) ℓ) (g : Dev Cert.SwigluGradRefIdeal.nD → PrngReg), Pre_SwigluGradRefIdeal m →
    θ_run (Cert.SwigluGradRefIdeal.defs (F := Ideal)) (onTc (τ := Cert.SwigluGradRefIdeal.τ) (Cert.SwigluGradRefIdeal.main (F := Ideal))) ⟨m, fun _ => 0, g⟩ (fun r => (∀ c : Dev Cert.SwigluGradRefIdeal.nD,
      r.2.mem ((c.tc : Thread Cert.SwigluGradRefIdeal.nD Cert.SwigluGradRefIdeal.τ).loc Cert.SwigluGradRefIdeal.main_arg0) = m ((c.tc : Thread Cert.SwigluGradRefIdeal.nD Cert.SwigluGradRefIdeal.τ).loc Cert.SwigluGradRefIdeal.main_arg0)
      ∧ r.2.mem ((c.tc : Thread Cert.SwigluGradRefIdeal.nD Cert.SwigluGradRefIdeal.τ).loc Cert.SwigluGradRefIdeal.main_arg1) = m ((c.tc : Thread Cert.SwigluGradRefIdeal.nD Cert.SwigluGradRefIdeal.τ).loc Cert.SwigluGradRefIdeal.main_arg1)
      ∧ r.2.mem ((c.tc : Thread Cert.SwigluGradRefIdeal.nD Cert.SwigluGradRefIdeal.τ).loc Cert.SwigluGradRefIdeal.main_arg2) = m ((c.tc : Thread Cert.SwigluGradRefIdeal.nD Cert.SwigluGradRefIdeal.τ).loc Cert.SwigluGradRefIdeal.main_arg2)
      ∧ r.2.mem ((c.tc : Thread Cert.SwigluGradRefIdeal.nD Cert.SwigluGradRefIdeal.τ).loc Cert.SwigluGradRefIdeal.main_arg3) = m ((c.tc : Thread Cert.SwigluGradRefIdeal.nD Cert.SwigluGradRefIdeal.τ).loc Cert.SwigluGradRefIdeal.main_arg3))
      ∧ r.2.sem = fun _ => 0)

def quiescent_SwigluGradRefIdeal_pre_swiglu_finite [hSwigluGradRefIdeal : Cert.SwigluGradRefIdeal.Facts] [hPre_swiglu_finite : Cert.Pre_swiglu_finite.Facts] : Prop :=
  ∀ (m : (ℓ : Loc Cert.SwigluGradRefIdeal.nD Cert.SwigluGradRefIdeal.τ Cert.SwigluGradRefIdeal.sig) → Buf (Elt Ideal) ℓ) (g : Dev Cert.SwigluGradRefIdeal.nD → PrngReg), Pre_SwigluGradRefIdeal_swiglu_finite m →
    θ_run (Cert.SwigluGradRefIdeal.defs (F := Ideal)) (onTc (τ := Cert.SwigluGradRefIdeal.τ) (Cert.SwigluGradRefIdeal.main (F := Ideal))) ⟨m, fun _ => 0, g⟩ (fun r => (∀ c : Dev Cert.SwigluGradRefIdeal.nD,
      r.2.mem ((c.tc : Thread Cert.SwigluGradRefIdeal.nD Cert.SwigluGradRefIdeal.τ).loc Cert.SwigluGradRefIdeal.main_arg0) = m ((c.tc : Thread Cert.SwigluGradRefIdeal.nD Cert.SwigluGradRefIdeal.τ).loc Cert.SwigluGradRefIdeal.main_arg0)
      ∧ r.2.mem ((c.tc : Thread Cert.SwigluGradRefIdeal.nD Cert.SwigluGradRefIdeal.τ).loc Cert.SwigluGradRefIdeal.main_arg1) = m ((c.tc : Thread Cert.SwigluGradRefIdeal.nD Cert.SwigluGradRefIdeal.τ).loc Cert.SwigluGradRefIdeal.main_arg1)
      ∧ r.2.mem ((c.tc : Thread Cert.SwigluGradRefIdeal.nD Cert.SwigluGradRefIdeal.τ).loc Cert.SwigluGradRefIdeal.main_arg2) = m ((c.tc : Thread Cert.SwigluGradRefIdeal.nD Cert.SwigluGradRefIdeal.τ).loc Cert.SwigluGradRefIdeal.main_arg2)
      ∧ r.2.mem ((c.tc : Thread Cert.SwigluGradRefIdeal.nD Cert.SwigluGradRefIdeal.τ).loc Cert.SwigluGradRefIdeal.main_arg3) = m ((c.tc : Thread Cert.SwigluGradRefIdeal.nD Cert.SwigluGradRefIdeal.τ).loc Cert.SwigluGradRefIdeal.main_arg3))
      ∧ r.2.sem = fun _ => 0)

def quiescent_FfnOutGradW [hFfnOutGradW : Cert.FfnOutGradW.Facts] : Prop :=
  ∀ (m : (ℓ : Loc Cert.FfnOutGradW.nD Cert.FfnOutGradW.τ Cert.FfnOutGradW.sig) → Buf (Elt Bits) ℓ) (g : Dev Cert.FfnOutGradW.nD → PrngReg), Pre_FfnOutGradW m →
    θ_run (Cert.FfnOutGradW.defs (F := Bits)) (onTc (τ := Cert.FfnOutGradW.τ) (Cert.FfnOutGradW.main (F := Bits))) ⟨m, fun _ => 0, g⟩ (fun r => (∀ c : Dev Cert.FfnOutGradW.nD,
      r.2.mem ((c.tc : Thread Cert.FfnOutGradW.nD Cert.FfnOutGradW.τ).loc Cert.FfnOutGradW.main_arg0) = m ((c.tc : Thread Cert.FfnOutGradW.nD Cert.FfnOutGradW.τ).loc Cert.FfnOutGradW.main_arg0)
      ∧ r.2.mem ((c.tc : Thread Cert.FfnOutGradW.nD Cert.FfnOutGradW.τ).loc Cert.FfnOutGradW.main_arg1) = m ((c.tc : Thread Cert.FfnOutGradW.nD Cert.FfnOutGradW.τ).loc Cert.FfnOutGradW.main_arg1))
      ∧ r.2.sem = fun _ => 0)

def quiescent_FfnOutGradWIdeal [hFfnOutGradWIdeal : Cert.FfnOutGradWIdeal.Facts] : Prop :=
  ∀ (m : (ℓ : Loc Cert.FfnOutGradWIdeal.nD Cert.FfnOutGradWIdeal.τ Cert.FfnOutGradWIdeal.sig) → Buf (Elt Ideal) ℓ) (g : Dev Cert.FfnOutGradWIdeal.nD → PrngReg), Pre_FfnOutGradWIdeal m →
    θ_run (Cert.FfnOutGradWIdeal.defs (F := Ideal)) (onTc (τ := Cert.FfnOutGradWIdeal.τ) (Cert.FfnOutGradWIdeal.main (F := Ideal))) ⟨m, fun _ => 0, g⟩ (fun r => (∀ c : Dev Cert.FfnOutGradWIdeal.nD,
      r.2.mem ((c.tc : Thread Cert.FfnOutGradWIdeal.nD Cert.FfnOutGradWIdeal.τ).loc Cert.FfnOutGradWIdeal.main_arg0) = m ((c.tc : Thread Cert.FfnOutGradWIdeal.nD Cert.FfnOutGradWIdeal.τ).loc Cert.FfnOutGradWIdeal.main_arg0)
      ∧ r.2.mem ((c.tc : Thread Cert.FfnOutGradWIdeal.nD Cert.FfnOutGradWIdeal.τ).loc Cert.FfnOutGradWIdeal.main_arg1) = m ((c.tc : Thread Cert.FfnOutGradWIdeal.nD Cert.FfnOutGradWIdeal.τ).loc Cert.FfnOutGradWIdeal.main_arg1))
      ∧ r.2.sem = fun _ => 0)

def quiescent_FfnOutGradWRefIdeal [hFfnOutGradWRefIdeal : Cert.FfnOutGradWRefIdeal.Facts] : Prop :=
  ∀ (m : (ℓ : Loc Cert.FfnOutGradWRefIdeal.nD Cert.FfnOutGradWRefIdeal.τ Cert.FfnOutGradWRefIdeal.sig) → Buf (Elt Ideal) ℓ) (g : Dev Cert.FfnOutGradWRefIdeal.nD → PrngReg), Pre_FfnOutGradWRefIdeal m →
    θ_run (Cert.FfnOutGradWRefIdeal.defs (F := Ideal)) (onTc (τ := Cert.FfnOutGradWRefIdeal.τ) (Cert.FfnOutGradWRefIdeal.main (F := Ideal))) ⟨m, fun _ => 0, g⟩ (fun r => (∀ c : Dev Cert.FfnOutGradWRefIdeal.nD,
      r.2.mem ((c.tc : Thread Cert.FfnOutGradWRefIdeal.nD Cert.FfnOutGradWRefIdeal.τ).loc Cert.FfnOutGradWRefIdeal.main_arg0) = m ((c.tc : Thread Cert.FfnOutGradWRefIdeal.nD Cert.FfnOutGradWRefIdeal.τ).loc Cert.FfnOutGradWRefIdeal.main_arg0)
      ∧ r.2.mem ((c.tc : Thread Cert.FfnOutGradWRefIdeal.nD Cert.FfnOutGradWRefIdeal.τ).loc Cert.FfnOutGradWRefIdeal.main_arg1) = m ((c.tc : Thread Cert.FfnOutGradWRefIdeal.nD Cert.FfnOutGradWRefIdeal.τ).loc Cert.FfnOutGradWRefIdeal.main_arg1))
      ∧ r.2.sem = fun _ => 0)

def quiescent_FfnInGradW [hFfnInGradW : Cert.FfnInGradW.Facts] : Prop :=
  ∀ (m : (ℓ : Loc Cert.FfnInGradW.nD Cert.FfnInGradW.τ Cert.FfnInGradW.sig) → Buf (Elt Bits) ℓ) (g : Dev Cert.FfnInGradW.nD → PrngReg), Pre_FfnInGradW m →
    θ_run (Cert.FfnInGradW.defs (F := Bits)) (onTc (τ := Cert.FfnInGradW.τ) (Cert.FfnInGradW.main (F := Bits))) ⟨m, fun _ => 0, g⟩ (fun r => (∀ c : Dev Cert.FfnInGradW.nD,
      r.2.mem ((c.tc : Thread Cert.FfnInGradW.nD Cert.FfnInGradW.τ).loc Cert.FfnInGradW.main_arg0) = m ((c.tc : Thread Cert.FfnInGradW.nD Cert.FfnInGradW.τ).loc Cert.FfnInGradW.main_arg0)
      ∧ r.2.mem ((c.tc : Thread Cert.FfnInGradW.nD Cert.FfnInGradW.τ).loc Cert.FfnInGradW.main_arg1) = m ((c.tc : Thread Cert.FfnInGradW.nD Cert.FfnInGradW.τ).loc Cert.FfnInGradW.main_arg1)
      ∧ r.2.mem ((c.tc : Thread Cert.FfnInGradW.nD Cert.FfnInGradW.τ).loc Cert.FfnInGradW.main_arg2) = m ((c.tc : Thread Cert.FfnInGradW.nD Cert.FfnInGradW.τ).loc Cert.FfnInGradW.main_arg2))
      ∧ r.2.sem = fun _ => 0)

def quiescent_FfnInGradWIdeal [hFfnInGradWIdeal : Cert.FfnInGradWIdeal.Facts] : Prop :=
  ∀ (m : (ℓ : Loc Cert.FfnInGradWIdeal.nD Cert.FfnInGradWIdeal.τ Cert.FfnInGradWIdeal.sig) → Buf (Elt Ideal) ℓ) (g : Dev Cert.FfnInGradWIdeal.nD → PrngReg), Pre_FfnInGradWIdeal m →
    θ_run (Cert.FfnInGradWIdeal.defs (F := Ideal)) (onTc (τ := Cert.FfnInGradWIdeal.τ) (Cert.FfnInGradWIdeal.main (F := Ideal))) ⟨m, fun _ => 0, g⟩ (fun r => (∀ c : Dev Cert.FfnInGradWIdeal.nD,
      r.2.mem ((c.tc : Thread Cert.FfnInGradWIdeal.nD Cert.FfnInGradWIdeal.τ).loc Cert.FfnInGradWIdeal.main_arg0) = m ((c.tc : Thread Cert.FfnInGradWIdeal.nD Cert.FfnInGradWIdeal.τ).loc Cert.FfnInGradWIdeal.main_arg0)
      ∧ r.2.mem ((c.tc : Thread Cert.FfnInGradWIdeal.nD Cert.FfnInGradWIdeal.τ).loc Cert.FfnInGradWIdeal.main_arg1) = m ((c.tc : Thread Cert.FfnInGradWIdeal.nD Cert.FfnInGradWIdeal.τ).loc Cert.FfnInGradWIdeal.main_arg1)
      ∧ r.2.mem ((c.tc : Thread Cert.FfnInGradWIdeal.nD Cert.FfnInGradWIdeal.τ).loc Cert.FfnInGradWIdeal.main_arg2) = m ((c.tc : Thread Cert.FfnInGradWIdeal.nD Cert.FfnInGradWIdeal.τ).loc Cert.FfnInGradWIdeal.main_arg2))
      ∧ r.2.sem = fun _ => 0)

def quiescent_FfnInGradWRefIdeal [hFfnInGradWRefIdeal : Cert.FfnInGradWRefIdeal.Facts] : Prop :=
  ∀ (m : (ℓ : Loc Cert.FfnInGradWRefIdeal.nD Cert.FfnInGradWRefIdeal.τ Cert.FfnInGradWRefIdeal.sig) → Buf (Elt Ideal) ℓ) (g : Dev Cert.FfnInGradWRefIdeal.nD → PrngReg), Pre_FfnInGradWRefIdeal m →
    θ_run (Cert.FfnInGradWRefIdeal.defs (F := Ideal)) (onTc (τ := Cert.FfnInGradWRefIdeal.τ) (Cert.FfnInGradWRefIdeal.main (F := Ideal))) ⟨m, fun _ => 0, g⟩ (fun r => (∀ c : Dev Cert.FfnInGradWRefIdeal.nD,
      r.2.mem ((c.tc : Thread Cert.FfnInGradWRefIdeal.nD Cert.FfnInGradWRefIdeal.τ).loc Cert.FfnInGradWRefIdeal.main_arg0) = m ((c.tc : Thread Cert.FfnInGradWRefIdeal.nD Cert.FfnInGradWRefIdeal.τ).loc Cert.FfnInGradWRefIdeal.main_arg0)
      ∧ r.2.mem ((c.tc : Thread Cert.FfnInGradWRefIdeal.nD Cert.FfnInGradWRefIdeal.τ).loc Cert.FfnInGradWRefIdeal.main_arg1) = m ((c.tc : Thread Cert.FfnInGradWRefIdeal.nD Cert.FfnInGradWRefIdeal.τ).loc Cert.FfnInGradWRefIdeal.main_arg1)
      ∧ r.2.mem ((c.tc : Thread Cert.FfnInGradWRefIdeal.nD Cert.FfnInGradWRefIdeal.τ).loc Cert.FfnInGradWRefIdeal.main_arg2) = m ((c.tc : Thread Cert.FfnInGradWRefIdeal.nD Cert.FfnInGradWRefIdeal.τ).loc Cert.FfnInGradWRefIdeal.main_arg2))
      ∧ r.2.sem = fun _ => 0)

def quiescent_ProjGradW [hProjGradW : Cert.ProjGradW.Facts] : Prop :=
  ∀ (m : (ℓ : Loc Cert.ProjGradW.nD Cert.ProjGradW.τ Cert.ProjGradW.sig) → Buf (Elt Bits) ℓ) (g : Dev Cert.ProjGradW.nD → PrngReg), Pre_ProjGradW m →
    θ_run (Cert.ProjGradW.defs (F := Bits)) (onTc (τ := Cert.ProjGradW.τ) (Cert.ProjGradW.main (F := Bits))) ⟨m, fun _ => 0, g⟩ (fun r => (∀ c : Dev Cert.ProjGradW.nD,
      r.2.mem ((c.tc : Thread Cert.ProjGradW.nD Cert.ProjGradW.τ).loc Cert.ProjGradW.main_arg0) = m ((c.tc : Thread Cert.ProjGradW.nD Cert.ProjGradW.τ).loc Cert.ProjGradW.main_arg0)
      ∧ r.2.mem ((c.tc : Thread Cert.ProjGradW.nD Cert.ProjGradW.τ).loc Cert.ProjGradW.main_arg1) = m ((c.tc : Thread Cert.ProjGradW.nD Cert.ProjGradW.τ).loc Cert.ProjGradW.main_arg1))
      ∧ r.2.sem = fun _ => 0)

def quiescent_ProjGradWIdeal [hProjGradWIdeal : Cert.ProjGradWIdeal.Facts] : Prop :=
  ∀ (m : (ℓ : Loc Cert.ProjGradWIdeal.nD Cert.ProjGradWIdeal.τ Cert.ProjGradWIdeal.sig) → Buf (Elt Ideal) ℓ) (g : Dev Cert.ProjGradWIdeal.nD → PrngReg), Pre_ProjGradWIdeal m →
    θ_run (Cert.ProjGradWIdeal.defs (F := Ideal)) (onTc (τ := Cert.ProjGradWIdeal.τ) (Cert.ProjGradWIdeal.main (F := Ideal))) ⟨m, fun _ => 0, g⟩ (fun r => (∀ c : Dev Cert.ProjGradWIdeal.nD,
      r.2.mem ((c.tc : Thread Cert.ProjGradWIdeal.nD Cert.ProjGradWIdeal.τ).loc Cert.ProjGradWIdeal.main_arg0) = m ((c.tc : Thread Cert.ProjGradWIdeal.nD Cert.ProjGradWIdeal.τ).loc Cert.ProjGradWIdeal.main_arg0)
      ∧ r.2.mem ((c.tc : Thread Cert.ProjGradWIdeal.nD Cert.ProjGradWIdeal.τ).loc Cert.ProjGradWIdeal.main_arg1) = m ((c.tc : Thread Cert.ProjGradWIdeal.nD Cert.ProjGradWIdeal.τ).loc Cert.ProjGradWIdeal.main_arg1))
      ∧ r.2.sem = fun _ => 0)

def quiescent_ProjGradWRefIdeal [hProjGradWRefIdeal : Cert.ProjGradWRefIdeal.Facts] : Prop :=
  ∀ (m : (ℓ : Loc Cert.ProjGradWRefIdeal.nD Cert.ProjGradWRefIdeal.τ Cert.ProjGradWRefIdeal.sig) → Buf (Elt Ideal) ℓ) (g : Dev Cert.ProjGradWRefIdeal.nD → PrngReg), Pre_ProjGradWRefIdeal m →
    θ_run (Cert.ProjGradWRefIdeal.defs (F := Ideal)) (onTc (τ := Cert.ProjGradWRefIdeal.τ) (Cert.ProjGradWRefIdeal.main (F := Ideal))) ⟨m, fun _ => 0, g⟩ (fun r => (∀ c : Dev Cert.ProjGradWRefIdeal.nD,
      r.2.mem ((c.tc : Thread Cert.ProjGradWRefIdeal.nD Cert.ProjGradWRefIdeal.τ).loc Cert.ProjGradWRefIdeal.main_arg0) = m ((c.tc : Thread Cert.ProjGradWRefIdeal.nD Cert.ProjGradWRefIdeal.τ).loc Cert.ProjGradWRefIdeal.main_arg0)
      ∧ r.2.mem ((c.tc : Thread Cert.ProjGradWRefIdeal.nD Cert.ProjGradWRefIdeal.τ).loc Cert.ProjGradWRefIdeal.main_arg1) = m ((c.tc : Thread Cert.ProjGradWRefIdeal.nD Cert.ProjGradWRefIdeal.τ).loc Cert.ProjGradWRefIdeal.main_arg1))
      ∧ r.2.sem = fun _ => 0)

def quiescent_OutGradW [hOutGradW : Cert.OutGradW.Facts] : Prop :=
  ∀ (m : (ℓ : Loc Cert.OutGradW.nD Cert.OutGradW.τ Cert.OutGradW.sig) → Buf (Elt Bits) ℓ) (g : Dev Cert.OutGradW.nD → PrngReg), Pre_OutGradW m →
    θ_run (Cert.OutGradW.defs (F := Bits)) (onTc (τ := Cert.OutGradW.τ) (Cert.OutGradW.main (F := Bits))) ⟨m, fun _ => 0, g⟩ (fun r => (∀ c : Dev Cert.OutGradW.nD,
      r.2.mem ((c.tc : Thread Cert.OutGradW.nD Cert.OutGradW.τ).loc Cert.OutGradW.main_arg0) = m ((c.tc : Thread Cert.OutGradW.nD Cert.OutGradW.τ).loc Cert.OutGradW.main_arg0)
      ∧ r.2.mem ((c.tc : Thread Cert.OutGradW.nD Cert.OutGradW.τ).loc Cert.OutGradW.main_arg1) = m ((c.tc : Thread Cert.OutGradW.nD Cert.OutGradW.τ).loc Cert.OutGradW.main_arg1))
      ∧ r.2.sem = fun _ => 0)

def quiescent_OutGradWIdeal [hOutGradWIdeal : Cert.OutGradWIdeal.Facts] : Prop :=
  ∀ (m : (ℓ : Loc Cert.OutGradWIdeal.nD Cert.OutGradWIdeal.τ Cert.OutGradWIdeal.sig) → Buf (Elt Ideal) ℓ) (g : Dev Cert.OutGradWIdeal.nD → PrngReg), Pre_OutGradWIdeal m →
    θ_run (Cert.OutGradWIdeal.defs (F := Ideal)) (onTc (τ := Cert.OutGradWIdeal.τ) (Cert.OutGradWIdeal.main (F := Ideal))) ⟨m, fun _ => 0, g⟩ (fun r => (∀ c : Dev Cert.OutGradWIdeal.nD,
      r.2.mem ((c.tc : Thread Cert.OutGradWIdeal.nD Cert.OutGradWIdeal.τ).loc Cert.OutGradWIdeal.main_arg0) = m ((c.tc : Thread Cert.OutGradWIdeal.nD Cert.OutGradWIdeal.τ).loc Cert.OutGradWIdeal.main_arg0)
      ∧ r.2.mem ((c.tc : Thread Cert.OutGradWIdeal.nD Cert.OutGradWIdeal.τ).loc Cert.OutGradWIdeal.main_arg1) = m ((c.tc : Thread Cert.OutGradWIdeal.nD Cert.OutGradWIdeal.τ).loc Cert.OutGradWIdeal.main_arg1))
      ∧ r.2.sem = fun _ => 0)

def quiescent_OutGradWRefIdeal [hOutGradWRefIdeal : Cert.OutGradWRefIdeal.Facts] : Prop :=
  ∀ (m : (ℓ : Loc Cert.OutGradWRefIdeal.nD Cert.OutGradWRefIdeal.τ Cert.OutGradWRefIdeal.sig) → Buf (Elt Ideal) ℓ) (g : Dev Cert.OutGradWRefIdeal.nD → PrngReg), Pre_OutGradWRefIdeal m →
    θ_run (Cert.OutGradWRefIdeal.defs (F := Ideal)) (onTc (τ := Cert.OutGradWRefIdeal.τ) (Cert.OutGradWRefIdeal.main (F := Ideal))) ⟨m, fun _ => 0, g⟩ (fun r => (∀ c : Dev Cert.OutGradWRefIdeal.nD,
      r.2.mem ((c.tc : Thread Cert.OutGradWRefIdeal.nD Cert.OutGradWRefIdeal.τ).loc Cert.OutGradWRefIdeal.main_arg0) = m ((c.tc : Thread Cert.OutGradWRefIdeal.nD Cert.OutGradWRefIdeal.τ).loc Cert.OutGradWRefIdeal.main_arg0)
      ∧ r.2.mem ((c.tc : Thread Cert.OutGradWRefIdeal.nD Cert.OutGradWRefIdeal.τ).loc Cert.OutGradWRefIdeal.main_arg1) = m ((c.tc : Thread Cert.OutGradWRefIdeal.nD Cert.OutGradWRefIdeal.τ).loc Cert.OutGradWRefIdeal.main_arg1))
      ∧ r.2.sem = fun _ => 0)

def quiescent_OutGradX [hOutGradX : Cert.OutGradX.Facts] : Prop :=
  ∀ (m : (ℓ : Loc Cert.OutGradX.nD Cert.OutGradX.τ Cert.OutGradX.sig) → Buf (Elt Bits) ℓ) (g : Dev Cert.OutGradX.nD → PrngReg), Pre_OutGradX m →
    θ_run (Cert.OutGradX.defs (F := Bits)) (onTc (τ := Cert.OutGradX.τ) (Cert.OutGradX.main (F := Bits))) ⟨m, fun _ => 0, g⟩ (fun r => (∀ c : Dev Cert.OutGradX.nD,
      r.2.mem ((c.tc : Thread Cert.OutGradX.nD Cert.OutGradX.τ).loc Cert.OutGradX.main_arg0) = m ((c.tc : Thread Cert.OutGradX.nD Cert.OutGradX.τ).loc Cert.OutGradX.main_arg0)
      ∧ r.2.mem ((c.tc : Thread Cert.OutGradX.nD Cert.OutGradX.τ).loc Cert.OutGradX.main_arg1) = m ((c.tc : Thread Cert.OutGradX.nD Cert.OutGradX.τ).loc Cert.OutGradX.main_arg1))
      ∧ r.2.sem = fun _ => 0)

def quiescent_OutGradXIdeal [hOutGradXIdeal : Cert.OutGradXIdeal.Facts] : Prop :=
  ∀ (m : (ℓ : Loc Cert.OutGradXIdeal.nD Cert.OutGradXIdeal.τ Cert.OutGradXIdeal.sig) → Buf (Elt Ideal) ℓ) (g : Dev Cert.OutGradXIdeal.nD → PrngReg), Pre_OutGradXIdeal m →
    θ_run (Cert.OutGradXIdeal.defs (F := Ideal)) (onTc (τ := Cert.OutGradXIdeal.τ) (Cert.OutGradXIdeal.main (F := Ideal))) ⟨m, fun _ => 0, g⟩ (fun r => (∀ c : Dev Cert.OutGradXIdeal.nD,
      r.2.mem ((c.tc : Thread Cert.OutGradXIdeal.nD Cert.OutGradXIdeal.τ).loc Cert.OutGradXIdeal.main_arg0) = m ((c.tc : Thread Cert.OutGradXIdeal.nD Cert.OutGradXIdeal.τ).loc Cert.OutGradXIdeal.main_arg0)
      ∧ r.2.mem ((c.tc : Thread Cert.OutGradXIdeal.nD Cert.OutGradXIdeal.τ).loc Cert.OutGradXIdeal.main_arg1) = m ((c.tc : Thread Cert.OutGradXIdeal.nD Cert.OutGradXIdeal.τ).loc Cert.OutGradXIdeal.main_arg1))
      ∧ r.2.sem = fun _ => 0)

def quiescent_OutGradXRefIdeal [hOutGradXRefIdeal : Cert.OutGradXRefIdeal.Facts] : Prop :=
  ∀ (m : (ℓ : Loc Cert.OutGradXRefIdeal.nD Cert.OutGradXRefIdeal.τ Cert.OutGradXRefIdeal.sig) → Buf (Elt Ideal) ℓ) (g : Dev Cert.OutGradXRefIdeal.nD → PrngReg), Pre_OutGradXRefIdeal m →
    θ_run (Cert.OutGradXRefIdeal.defs (F := Ideal)) (onTc (τ := Cert.OutGradXRefIdeal.τ) (Cert.OutGradXRefIdeal.main (F := Ideal))) ⟨m, fun _ => 0, g⟩ (fun r => (∀ c : Dev Cert.OutGradXRefIdeal.nD,
      r.2.mem ((c.tc : Thread Cert.OutGradXRefIdeal.nD Cert.OutGradXRefIdeal.τ).loc Cert.OutGradXRefIdeal.main_arg0) = m ((c.tc : Thread Cert.OutGradXRefIdeal.nD Cert.OutGradXRefIdeal.τ).loc Cert.OutGradXRefIdeal.main_arg0)
      ∧ r.2.mem ((c.tc : Thread Cert.OutGradXRefIdeal.nD Cert.OutGradXRefIdeal.τ).loc Cert.OutGradXRefIdeal.main_arg1) = m ((c.tc : Thread Cert.OutGradXRefIdeal.nD Cert.OutGradXRefIdeal.τ).loc Cert.OutGradXRefIdeal.main_arg1))
      ∧ r.2.sem = fun _ => 0)

def quiescent_FfnInGradX [hFfnInGradX : Cert.FfnInGradX.Facts] : Prop :=
  ∀ (m : (ℓ : Loc Cert.FfnInGradX.nD Cert.FfnInGradX.τ Cert.FfnInGradX.sig) → Buf (Elt Bits) ℓ) (g : Dev Cert.FfnInGradX.nD → PrngReg), Pre_FfnInGradX m →
    θ_run (Cert.FfnInGradX.defs (F := Bits)) (onTc (τ := Cert.FfnInGradX.τ) (Cert.FfnInGradX.main (F := Bits))) ⟨m, fun _ => 0, g⟩ (fun r => (∀ c : Dev Cert.FfnInGradX.nD,
      r.2.mem ((c.tc : Thread Cert.FfnInGradX.nD Cert.FfnInGradX.τ).loc Cert.FfnInGradX.main_arg0) = m ((c.tc : Thread Cert.FfnInGradX.nD Cert.FfnInGradX.τ).loc Cert.FfnInGradX.main_arg0)
      ∧ r.2.mem ((c.tc : Thread Cert.FfnInGradX.nD Cert.FfnInGradX.τ).loc Cert.FfnInGradX.main_arg1) = m ((c.tc : Thread Cert.FfnInGradX.nD Cert.FfnInGradX.τ).loc Cert.FfnInGradX.main_arg1)
      ∧ r.2.mem ((c.tc : Thread Cert.FfnInGradX.nD Cert.FfnInGradX.τ).loc Cert.FfnInGradX.main_arg2) = m ((c.tc : Thread Cert.FfnInGradX.nD Cert.FfnInGradX.τ).loc Cert.FfnInGradX.main_arg2))
      ∧ r.2.sem = fun _ => 0)

def quiescent_FfnInGradXIdeal [hFfnInGradXIdeal : Cert.FfnInGradXIdeal.Facts] : Prop :=
  ∀ (m : (ℓ : Loc Cert.FfnInGradXIdeal.nD Cert.FfnInGradXIdeal.τ Cert.FfnInGradXIdeal.sig) → Buf (Elt Ideal) ℓ) (g : Dev Cert.FfnInGradXIdeal.nD → PrngReg), Pre_FfnInGradXIdeal m →
    θ_run (Cert.FfnInGradXIdeal.defs (F := Ideal)) (onTc (τ := Cert.FfnInGradXIdeal.τ) (Cert.FfnInGradXIdeal.main (F := Ideal))) ⟨m, fun _ => 0, g⟩ (fun r => (∀ c : Dev Cert.FfnInGradXIdeal.nD,
      r.2.mem ((c.tc : Thread Cert.FfnInGradXIdeal.nD Cert.FfnInGradXIdeal.τ).loc Cert.FfnInGradXIdeal.main_arg0) = m ((c.tc : Thread Cert.FfnInGradXIdeal.nD Cert.FfnInGradXIdeal.τ).loc Cert.FfnInGradXIdeal.main_arg0)
      ∧ r.2.mem ((c.tc : Thread Cert.FfnInGradXIdeal.nD Cert.FfnInGradXIdeal.τ).loc Cert.FfnInGradXIdeal.main_arg1) = m ((c.tc : Thread Cert.FfnInGradXIdeal.nD Cert.FfnInGradXIdeal.τ).loc Cert.FfnInGradXIdeal.main_arg1)
      ∧ r.2.mem ((c.tc : Thread Cert.FfnInGradXIdeal.nD Cert.FfnInGradXIdeal.τ).loc Cert.FfnInGradXIdeal.main_arg2) = m ((c.tc : Thread Cert.FfnInGradXIdeal.nD Cert.FfnInGradXIdeal.τ).loc Cert.FfnInGradXIdeal.main_arg2))
      ∧ r.2.sem = fun _ => 0)

def quiescent_FfnInGradXRefIdeal [hFfnInGradXRefIdeal : Cert.FfnInGradXRefIdeal.Facts] : Prop :=
  ∀ (m : (ℓ : Loc Cert.FfnInGradXRefIdeal.nD Cert.FfnInGradXRefIdeal.τ Cert.FfnInGradXRefIdeal.sig) → Buf (Elt Ideal) ℓ) (g : Dev Cert.FfnInGradXRefIdeal.nD → PrngReg), Pre_FfnInGradXRefIdeal m →
    θ_run (Cert.FfnInGradXRefIdeal.defs (F := Ideal)) (onTc (τ := Cert.FfnInGradXRefIdeal.τ) (Cert.FfnInGradXRefIdeal.main (F := Ideal))) ⟨m, fun _ => 0, g⟩ (fun r => (∀ c : Dev Cert.FfnInGradXRefIdeal.nD,
      r.2.mem ((c.tc : Thread Cert.FfnInGradXRefIdeal.nD Cert.FfnInGradXRefIdeal.τ).loc Cert.FfnInGradXRefIdeal.main_arg0) = m ((c.tc : Thread Cert.FfnInGradXRefIdeal.nD Cert.FfnInGradXRefIdeal.τ).loc Cert.FfnInGradXRefIdeal.main_arg0)
      ∧ r.2.mem ((c.tc : Thread Cert.FfnInGradXRefIdeal.nD Cert.FfnInGradXRefIdeal.τ).loc Cert.FfnInGradXRefIdeal.main_arg1) = m ((c.tc : Thread Cert.FfnInGradXRefIdeal.nD Cert.FfnInGradXRefIdeal.τ).loc Cert.FfnInGradXRefIdeal.main_arg1)
      ∧ r.2.mem ((c.tc : Thread Cert.FfnInGradXRefIdeal.nD Cert.FfnInGradXRefIdeal.τ).loc Cert.FfnInGradXRefIdeal.main_arg2) = m ((c.tc : Thread Cert.FfnInGradXRefIdeal.nD Cert.FfnInGradXRefIdeal.τ).loc Cert.FfnInGradXRefIdeal.main_arg2))
      ∧ r.2.sem = fun _ => 0)

def quiescent_ProjGradX [hProjGradX : Cert.ProjGradX.Facts] : Prop :=
  ∀ (m : (ℓ : Loc Cert.ProjGradX.nD Cert.ProjGradX.τ Cert.ProjGradX.sig) → Buf (Elt Bits) ℓ) (g : Dev Cert.ProjGradX.nD → PrngReg), Pre_ProjGradX m →
    θ_run (Cert.ProjGradX.defs (F := Bits)) (onTc (τ := Cert.ProjGradX.τ) (Cert.ProjGradX.main (F := Bits))) ⟨m, fun _ => 0, g⟩ (fun r => (∀ c : Dev Cert.ProjGradX.nD,
      r.2.mem ((c.tc : Thread Cert.ProjGradX.nD Cert.ProjGradX.τ).loc Cert.ProjGradX.main_arg0) = m ((c.tc : Thread Cert.ProjGradX.nD Cert.ProjGradX.τ).loc Cert.ProjGradX.main_arg0)
      ∧ r.2.mem ((c.tc : Thread Cert.ProjGradX.nD Cert.ProjGradX.τ).loc Cert.ProjGradX.main_arg1) = m ((c.tc : Thread Cert.ProjGradX.nD Cert.ProjGradX.τ).loc Cert.ProjGradX.main_arg1))
      ∧ r.2.sem = fun _ => 0)

def quiescent_ProjGradXIdeal [hProjGradXIdeal : Cert.ProjGradXIdeal.Facts] : Prop :=
  ∀ (m : (ℓ : Loc Cert.ProjGradXIdeal.nD Cert.ProjGradXIdeal.τ Cert.ProjGradXIdeal.sig) → Buf (Elt Ideal) ℓ) (g : Dev Cert.ProjGradXIdeal.nD → PrngReg), Pre_ProjGradXIdeal m →
    θ_run (Cert.ProjGradXIdeal.defs (F := Ideal)) (onTc (τ := Cert.ProjGradXIdeal.τ) (Cert.ProjGradXIdeal.main (F := Ideal))) ⟨m, fun _ => 0, g⟩ (fun r => (∀ c : Dev Cert.ProjGradXIdeal.nD,
      r.2.mem ((c.tc : Thread Cert.ProjGradXIdeal.nD Cert.ProjGradXIdeal.τ).loc Cert.ProjGradXIdeal.main_arg0) = m ((c.tc : Thread Cert.ProjGradXIdeal.nD Cert.ProjGradXIdeal.τ).loc Cert.ProjGradXIdeal.main_arg0)
      ∧ r.2.mem ((c.tc : Thread Cert.ProjGradXIdeal.nD Cert.ProjGradXIdeal.τ).loc Cert.ProjGradXIdeal.main_arg1) = m ((c.tc : Thread Cert.ProjGradXIdeal.nD Cert.ProjGradXIdeal.τ).loc Cert.ProjGradXIdeal.main_arg1))
      ∧ r.2.sem = fun _ => 0)

def quiescent_ProjGradXRefIdeal [hProjGradXRefIdeal : Cert.ProjGradXRefIdeal.Facts] : Prop :=
  ∀ (m : (ℓ : Loc Cert.ProjGradXRefIdeal.nD Cert.ProjGradXRefIdeal.τ Cert.ProjGradXRefIdeal.sig) → Buf (Elt Ideal) ℓ) (g : Dev Cert.ProjGradXRefIdeal.nD → PrngReg), Pre_ProjGradXRefIdeal m →
    θ_run (Cert.ProjGradXRefIdeal.defs (F := Ideal)) (onTc (τ := Cert.ProjGradXRefIdeal.τ) (Cert.ProjGradXRefIdeal.main (F := Ideal))) ⟨m, fun _ => 0, g⟩ (fun r => (∀ c : Dev Cert.ProjGradXRefIdeal.nD,
      r.2.mem ((c.tc : Thread Cert.ProjGradXRefIdeal.nD Cert.ProjGradXRefIdeal.τ).loc Cert.ProjGradXRefIdeal.main_arg0) = m ((c.tc : Thread Cert.ProjGradXRefIdeal.nD Cert.ProjGradXRefIdeal.τ).loc Cert.ProjGradXRefIdeal.main_arg0)
      ∧ r.2.mem ((c.tc : Thread Cert.ProjGradXRefIdeal.nD Cert.ProjGradXRefIdeal.τ).loc Cert.ProjGradXRefIdeal.main_arg1) = m ((c.tc : Thread Cert.ProjGradXRefIdeal.nD Cert.ProjGradXRefIdeal.τ).loc Cert.ProjGradXRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_NormStep [hNormStep : Cert.NormStep.Facts] : Prop :=
  ∀ (m : (ℓ : Loc Cert.NormStep.nD Cert.NormStep.τ Cert.NormStep.sig) → Buf (Elt Bits) ℓ) (g : Dev Cert.NormStep.nD → PrngReg), Pre_NormStep m →
    θ_run (Cert.NormStep.defs (F := Bits)) (onTc (τ := Cert.NormStep.τ) (Cert.NormStep.main (F := Bits))) ⟨m, fun _ => 0, g⟩ (fun r => (∀ c : Dev Cert.NormStep.nD,
      r.2.mem ((c.tc : Thread Cert.NormStep.nD Cert.NormStep.τ).loc Cert.NormStep.main_arg0) = m ((c.tc : Thread Cert.NormStep.nD Cert.NormStep.τ).loc Cert.NormStep.main_arg0)
      ∧ r.2.mem ((c.tc : Thread Cert.NormStep.nD Cert.NormStep.τ).loc Cert.NormStep.main_arg1) = m ((c.tc : Thread Cert.NormStep.nD Cert.NormStep.τ).loc Cert.NormStep.main_arg1)
      ∧ r.2.mem ((c.tc : Thread Cert.NormStep.nD Cert.NormStep.τ).loc Cert.NormStep.main_arg2) = m ((c.tc : Thread Cert.NormStep.nD Cert.NormStep.τ).loc Cert.NormStep.main_arg2)
      ∧ r.2.mem ((c.tc : Thread Cert.NormStep.nD Cert.NormStep.τ).loc Cert.NormStep.main_arg3) = m ((c.tc : Thread Cert.NormStep.nD Cert.NormStep.τ).loc Cert.NormStep.main_arg3))
      ∧ r.2.sem = fun _ => 0)

def quiescent_NormStepIdeal [hNormStepIdeal : Cert.NormStepIdeal.Facts] : Prop :=
  ∀ (m : (ℓ : Loc Cert.NormStepIdeal.nD Cert.NormStepIdeal.τ Cert.NormStepIdeal.sig) → Buf (Elt Ideal) ℓ) (g : Dev Cert.NormStepIdeal.nD → PrngReg), Pre_NormStepIdeal m →
    θ_run (Cert.NormStepIdeal.defs (F := Ideal)) (onTc (τ := Cert.NormStepIdeal.τ) (Cert.NormStepIdeal.main (F := Ideal))) ⟨m, fun _ => 0, g⟩ (fun r => (∀ c : Dev Cert.NormStepIdeal.nD,
      r.2.mem ((c.tc : Thread Cert.NormStepIdeal.nD Cert.NormStepIdeal.τ).loc Cert.NormStepIdeal.main_arg0) = m ((c.tc : Thread Cert.NormStepIdeal.nD Cert.NormStepIdeal.τ).loc Cert.NormStepIdeal.main_arg0)
      ∧ r.2.mem ((c.tc : Thread Cert.NormStepIdeal.nD Cert.NormStepIdeal.τ).loc Cert.NormStepIdeal.main_arg1) = m ((c.tc : Thread Cert.NormStepIdeal.nD Cert.NormStepIdeal.τ).loc Cert.NormStepIdeal.main_arg1)
      ∧ r.2.mem ((c.tc : Thread Cert.NormStepIdeal.nD Cert.NormStepIdeal.τ).loc Cert.NormStepIdeal.main_arg2) = m ((c.tc : Thread Cert.NormStepIdeal.nD Cert.NormStepIdeal.τ).loc Cert.NormStepIdeal.main_arg2)
      ∧ r.2.mem ((c.tc : Thread Cert.NormStepIdeal.nD Cert.NormStepIdeal.τ).loc Cert.NormStepIdeal.main_arg3) = m ((c.tc : Thread Cert.NormStepIdeal.nD Cert.NormStepIdeal.τ).loc Cert.NormStepIdeal.main_arg3))
      ∧ r.2.sem = fun _ => 0)

def quiescent_NormStepRefIdeal [hNormStepRefIdeal : Cert.NormStepRefIdeal.Facts] : Prop :=
  ∀ (m : (ℓ : Loc Cert.NormStepRefIdeal.nD Cert.NormStepRefIdeal.τ Cert.NormStepRefIdeal.sig) → Buf (Elt Ideal) ℓ) (g : Dev Cert.NormStepRefIdeal.nD → PrngReg), Pre_NormStepRefIdeal m →
    θ_run (Cert.NormStepRefIdeal.defs (F := Ideal)) (onTc (τ := Cert.NormStepRefIdeal.τ) (Cert.NormStepRefIdeal.main (F := Ideal))) ⟨m, fun _ => 0, g⟩ (fun r => (∀ c : Dev Cert.NormStepRefIdeal.nD,
      r.2.mem ((c.tc : Thread Cert.NormStepRefIdeal.nD Cert.NormStepRefIdeal.τ).loc Cert.NormStepRefIdeal.main_arg0) = m ((c.tc : Thread Cert.NormStepRefIdeal.nD Cert.NormStepRefIdeal.τ).loc Cert.NormStepRefIdeal.main_arg0)
      ∧ r.2.mem ((c.tc : Thread Cert.NormStepRefIdeal.nD Cert.NormStepRefIdeal.τ).loc Cert.NormStepRefIdeal.main_arg1) = m ((c.tc : Thread Cert.NormStepRefIdeal.nD Cert.NormStepRefIdeal.τ).loc Cert.NormStepRefIdeal.main_arg1)
      ∧ r.2.mem ((c.tc : Thread Cert.NormStepRefIdeal.nD Cert.NormStepRefIdeal.τ).loc Cert.NormStepRefIdeal.main_arg2) = m ((c.tc : Thread Cert.NormStepRefIdeal.nD Cert.NormStepRefIdeal.τ).loc Cert.NormStepRefIdeal.main_arg2)
      ∧ r.2.mem ((c.tc : Thread Cert.NormStepRefIdeal.nD Cert.NormStepRefIdeal.τ).loc Cert.NormStepRefIdeal.main_arg3) = m ((c.tc : Thread Cert.NormStepRefIdeal.nD Cert.NormStepRefIdeal.τ).loc Cert.NormStepRefIdeal.main_arg3))
      ∧ r.2.sem = fun _ => 0)

def quiescent_FfnInStep [hFfnInStep : Cert.FfnInStep.Facts] : Prop :=
  ∀ (m : (ℓ : Loc Cert.FfnInStep.nD Cert.FfnInStep.τ Cert.FfnInStep.sig) → Buf (Elt Bits) ℓ) (g : Dev Cert.FfnInStep.nD → PrngReg), Pre_FfnInStep m →
    θ_run (Cert.FfnInStep.defs (F := Bits)) (onTc (τ := Cert.FfnInStep.τ) (Cert.FfnInStep.main (F := Bits))) ⟨m, fun _ => 0, g⟩ (fun r => (∀ c : Dev Cert.FfnInStep.nD,
      r.2.mem ((c.tc : Thread Cert.FfnInStep.nD Cert.FfnInStep.τ).loc Cert.FfnInStep.main_arg0) = m ((c.tc : Thread Cert.FfnInStep.nD Cert.FfnInStep.τ).loc Cert.FfnInStep.main_arg0)
      ∧ r.2.mem ((c.tc : Thread Cert.FfnInStep.nD Cert.FfnInStep.τ).loc Cert.FfnInStep.main_arg1) = m ((c.tc : Thread Cert.FfnInStep.nD Cert.FfnInStep.τ).loc Cert.FfnInStep.main_arg1)
      ∧ r.2.mem ((c.tc : Thread Cert.FfnInStep.nD Cert.FfnInStep.τ).loc Cert.FfnInStep.main_arg2) = m ((c.tc : Thread Cert.FfnInStep.nD Cert.FfnInStep.τ).loc Cert.FfnInStep.main_arg2)
      ∧ r.2.mem ((c.tc : Thread Cert.FfnInStep.nD Cert.FfnInStep.τ).loc Cert.FfnInStep.main_arg3) = m ((c.tc : Thread Cert.FfnInStep.nD Cert.FfnInStep.τ).loc Cert.FfnInStep.main_arg3)
      ∧ r.2.mem ((c.tc : Thread Cert.FfnInStep.nD Cert.FfnInStep.τ).loc Cert.FfnInStep.main_arg4) = m ((c.tc : Thread Cert.FfnInStep.nD Cert.FfnInStep.τ).loc Cert.FfnInStep.main_arg4)
      ∧ r.2.mem ((c.tc : Thread Cert.FfnInStep.nD Cert.FfnInStep.τ).loc Cert.FfnInStep.main_arg5) = m ((c.tc : Thread Cert.FfnInStep.nD Cert.FfnInStep.τ).loc Cert.FfnInStep.main_arg5)
      ∧ r.2.mem ((c.tc : Thread Cert.FfnInStep.nD Cert.FfnInStep.τ).loc Cert.FfnInStep.main_arg6) = m ((c.tc : Thread Cert.FfnInStep.nD Cert.FfnInStep.τ).loc Cert.FfnInStep.main_arg6))
      ∧ r.2.sem = fun _ => 0)

def quiescent_FfnInStepIdeal [hFfnInStepIdeal : Cert.FfnInStepIdeal.Facts] : Prop :=
  ∀ (m : (ℓ : Loc Cert.FfnInStepIdeal.nD Cert.FfnInStepIdeal.τ Cert.FfnInStepIdeal.sig) → Buf (Elt Ideal) ℓ) (g : Dev Cert.FfnInStepIdeal.nD → PrngReg), Pre_FfnInStepIdeal m →
    θ_run (Cert.FfnInStepIdeal.defs (F := Ideal)) (onTc (τ := Cert.FfnInStepIdeal.τ) (Cert.FfnInStepIdeal.main (F := Ideal))) ⟨m, fun _ => 0, g⟩ (fun r => (∀ c : Dev Cert.FfnInStepIdeal.nD,
      r.2.mem ((c.tc : Thread Cert.FfnInStepIdeal.nD Cert.FfnInStepIdeal.τ).loc Cert.FfnInStepIdeal.main_arg0) = m ((c.tc : Thread Cert.FfnInStepIdeal.nD Cert.FfnInStepIdeal.τ).loc Cert.FfnInStepIdeal.main_arg0)
      ∧ r.2.mem ((c.tc : Thread Cert.FfnInStepIdeal.nD Cert.FfnInStepIdeal.τ).loc Cert.FfnInStepIdeal.main_arg1) = m ((c.tc : Thread Cert.FfnInStepIdeal.nD Cert.FfnInStepIdeal.τ).loc Cert.FfnInStepIdeal.main_arg1)
      ∧ r.2.mem ((c.tc : Thread Cert.FfnInStepIdeal.nD Cert.FfnInStepIdeal.τ).loc Cert.FfnInStepIdeal.main_arg2) = m ((c.tc : Thread Cert.FfnInStepIdeal.nD Cert.FfnInStepIdeal.τ).loc Cert.FfnInStepIdeal.main_arg2)
      ∧ r.2.mem ((c.tc : Thread Cert.FfnInStepIdeal.nD Cert.FfnInStepIdeal.τ).loc Cert.FfnInStepIdeal.main_arg3) = m ((c.tc : Thread Cert.FfnInStepIdeal.nD Cert.FfnInStepIdeal.τ).loc Cert.FfnInStepIdeal.main_arg3)
      ∧ r.2.mem ((c.tc : Thread Cert.FfnInStepIdeal.nD Cert.FfnInStepIdeal.τ).loc Cert.FfnInStepIdeal.main_arg4) = m ((c.tc : Thread Cert.FfnInStepIdeal.nD Cert.FfnInStepIdeal.τ).loc Cert.FfnInStepIdeal.main_arg4)
      ∧ r.2.mem ((c.tc : Thread Cert.FfnInStepIdeal.nD Cert.FfnInStepIdeal.τ).loc Cert.FfnInStepIdeal.main_arg5) = m ((c.tc : Thread Cert.FfnInStepIdeal.nD Cert.FfnInStepIdeal.τ).loc Cert.FfnInStepIdeal.main_arg5)
      ∧ r.2.mem ((c.tc : Thread Cert.FfnInStepIdeal.nD Cert.FfnInStepIdeal.τ).loc Cert.FfnInStepIdeal.main_arg6) = m ((c.tc : Thread Cert.FfnInStepIdeal.nD Cert.FfnInStepIdeal.τ).loc Cert.FfnInStepIdeal.main_arg6))
      ∧ r.2.sem = fun _ => 0)

def quiescent_FfnInStepRefIdeal [hFfnInStepRefIdeal : Cert.FfnInStepRefIdeal.Facts] : Prop :=
  ∀ (m : (ℓ : Loc Cert.FfnInStepRefIdeal.nD Cert.FfnInStepRefIdeal.τ Cert.FfnInStepRefIdeal.sig) → Buf (Elt Ideal) ℓ) (g : Dev Cert.FfnInStepRefIdeal.nD → PrngReg), Pre_FfnInStepRefIdeal m →
    θ_run (Cert.FfnInStepRefIdeal.defs (F := Ideal)) (onTc (τ := Cert.FfnInStepRefIdeal.τ) (Cert.FfnInStepRefIdeal.main (F := Ideal))) ⟨m, fun _ => 0, g⟩ (fun r => (∀ c : Dev Cert.FfnInStepRefIdeal.nD,
      r.2.mem ((c.tc : Thread Cert.FfnInStepRefIdeal.nD Cert.FfnInStepRefIdeal.τ).loc Cert.FfnInStepRefIdeal.main_arg0) = m ((c.tc : Thread Cert.FfnInStepRefIdeal.nD Cert.FfnInStepRefIdeal.τ).loc Cert.FfnInStepRefIdeal.main_arg0)
      ∧ r.2.mem ((c.tc : Thread Cert.FfnInStepRefIdeal.nD Cert.FfnInStepRefIdeal.τ).loc Cert.FfnInStepRefIdeal.main_arg1) = m ((c.tc : Thread Cert.FfnInStepRefIdeal.nD Cert.FfnInStepRefIdeal.τ).loc Cert.FfnInStepRefIdeal.main_arg1)
      ∧ r.2.mem ((c.tc : Thread Cert.FfnInStepRefIdeal.nD Cert.FfnInStepRefIdeal.τ).loc Cert.FfnInStepRefIdeal.main_arg2) = m ((c.tc : Thread Cert.FfnInStepRefIdeal.nD Cert.FfnInStepRefIdeal.τ).loc Cert.FfnInStepRefIdeal.main_arg2)
      ∧ r.2.mem ((c.tc : Thread Cert.FfnInStepRefIdeal.nD Cert.FfnInStepRefIdeal.τ).loc Cert.FfnInStepRefIdeal.main_arg3) = m ((c.tc : Thread Cert.FfnInStepRefIdeal.nD Cert.FfnInStepRefIdeal.τ).loc Cert.FfnInStepRefIdeal.main_arg3)
      ∧ r.2.mem ((c.tc : Thread Cert.FfnInStepRefIdeal.nD Cert.FfnInStepRefIdeal.τ).loc Cert.FfnInStepRefIdeal.main_arg4) = m ((c.tc : Thread Cert.FfnInStepRefIdeal.nD Cert.FfnInStepRefIdeal.τ).loc Cert.FfnInStepRefIdeal.main_arg4)
      ∧ r.2.mem ((c.tc : Thread Cert.FfnInStepRefIdeal.nD Cert.FfnInStepRefIdeal.τ).loc Cert.FfnInStepRefIdeal.main_arg5) = m ((c.tc : Thread Cert.FfnInStepRefIdeal.nD Cert.FfnInStepRefIdeal.τ).loc Cert.FfnInStepRefIdeal.main_arg5)
      ∧ r.2.mem ((c.tc : Thread Cert.FfnInStepRefIdeal.nD Cert.FfnInStepRefIdeal.τ).loc Cert.FfnInStepRefIdeal.main_arg6) = m ((c.tc : Thread Cert.FfnInStepRefIdeal.nD Cert.FfnInStepRefIdeal.τ).loc Cert.FfnInStepRefIdeal.main_arg6))
      ∧ r.2.sem = fun _ => 0)

def quiescent_AdaStep [hAdaStep : Cert.AdaStep.Facts] : Prop :=
  ∀ (m : (ℓ : Loc Cert.AdaStep.nD Cert.AdaStep.τ Cert.AdaStep.sig) → Buf (Elt Bits) ℓ) (g : Dev Cert.AdaStep.nD → PrngReg), Pre_AdaStep m →
    θ_run (Cert.AdaStep.defs (F := Bits)) (onTc (τ := Cert.AdaStep.τ) (Cert.AdaStep.main (F := Bits))) ⟨m, fun _ => 0, g⟩ (fun r => (∀ c : Dev Cert.AdaStep.nD,
      r.2.mem ((c.tc : Thread Cert.AdaStep.nD Cert.AdaStep.τ).loc Cert.AdaStep.main_arg0) = m ((c.tc : Thread Cert.AdaStep.nD Cert.AdaStep.τ).loc Cert.AdaStep.main_arg0)
      ∧ r.2.mem ((c.tc : Thread Cert.AdaStep.nD Cert.AdaStep.τ).loc Cert.AdaStep.main_arg1) = m ((c.tc : Thread Cert.AdaStep.nD Cert.AdaStep.τ).loc Cert.AdaStep.main_arg1)
      ∧ r.2.mem ((c.tc : Thread Cert.AdaStep.nD Cert.AdaStep.τ).loc Cert.AdaStep.main_arg2) = m ((c.tc : Thread Cert.AdaStep.nD Cert.AdaStep.τ).loc Cert.AdaStep.main_arg2)
      ∧ r.2.mem ((c.tc : Thread Cert.AdaStep.nD Cert.AdaStep.τ).loc Cert.AdaStep.main_arg3) = m ((c.tc : Thread Cert.AdaStep.nD Cert.AdaStep.τ).loc Cert.AdaStep.main_arg3)
      ∧ r.2.mem ((c.tc : Thread Cert.AdaStep.nD Cert.AdaStep.τ).loc Cert.AdaStep.main_arg4) = m ((c.tc : Thread Cert.AdaStep.nD Cert.AdaStep.τ).loc Cert.AdaStep.main_arg4))
      ∧ r.2.sem = fun _ => 0)

def quiescent_AdaStepIdeal [hAdaStepIdeal : Cert.AdaStepIdeal.Facts] : Prop :=
  ∀ (m : (ℓ : Loc Cert.AdaStepIdeal.nD Cert.AdaStepIdeal.τ Cert.AdaStepIdeal.sig) → Buf (Elt Ideal) ℓ) (g : Dev Cert.AdaStepIdeal.nD → PrngReg), Pre_AdaStepIdeal m →
    θ_run (Cert.AdaStepIdeal.defs (F := Ideal)) (onTc (τ := Cert.AdaStepIdeal.τ) (Cert.AdaStepIdeal.main (F := Ideal))) ⟨m, fun _ => 0, g⟩ (fun r => (∀ c : Dev Cert.AdaStepIdeal.nD,
      r.2.mem ((c.tc : Thread Cert.AdaStepIdeal.nD Cert.AdaStepIdeal.τ).loc Cert.AdaStepIdeal.main_arg0) = m ((c.tc : Thread Cert.AdaStepIdeal.nD Cert.AdaStepIdeal.τ).loc Cert.AdaStepIdeal.main_arg0)
      ∧ r.2.mem ((c.tc : Thread Cert.AdaStepIdeal.nD Cert.AdaStepIdeal.τ).loc Cert.AdaStepIdeal.main_arg1) = m ((c.tc : Thread Cert.AdaStepIdeal.nD Cert.AdaStepIdeal.τ).loc Cert.AdaStepIdeal.main_arg1)
      ∧ r.2.mem ((c.tc : Thread Cert.AdaStepIdeal.nD Cert.AdaStepIdeal.τ).loc Cert.AdaStepIdeal.main_arg2) = m ((c.tc : Thread Cert.AdaStepIdeal.nD Cert.AdaStepIdeal.τ).loc Cert.AdaStepIdeal.main_arg2)
      ∧ r.2.mem ((c.tc : Thread Cert.AdaStepIdeal.nD Cert.AdaStepIdeal.τ).loc Cert.AdaStepIdeal.main_arg3) = m ((c.tc : Thread Cert.AdaStepIdeal.nD Cert.AdaStepIdeal.τ).loc Cert.AdaStepIdeal.main_arg3)
      ∧ r.2.mem ((c.tc : Thread Cert.AdaStepIdeal.nD Cert.AdaStepIdeal.τ).loc Cert.AdaStepIdeal.main_arg4) = m ((c.tc : Thread Cert.AdaStepIdeal.nD Cert.AdaStepIdeal.τ).loc Cert.AdaStepIdeal.main_arg4))
      ∧ r.2.sem = fun _ => 0)

def quiescent_AdaStepRefIdeal [hAdaStepRefIdeal : Cert.AdaStepRefIdeal.Facts] : Prop :=
  ∀ (m : (ℓ : Loc Cert.AdaStepRefIdeal.nD Cert.AdaStepRefIdeal.τ Cert.AdaStepRefIdeal.sig) → Buf (Elt Ideal) ℓ) (g : Dev Cert.AdaStepRefIdeal.nD → PrngReg), Pre_AdaStepRefIdeal m →
    θ_run (Cert.AdaStepRefIdeal.defs (F := Ideal)) (onTc (τ := Cert.AdaStepRefIdeal.τ) (Cert.AdaStepRefIdeal.main (F := Ideal))) ⟨m, fun _ => 0, g⟩ (fun r => (∀ c : Dev Cert.AdaStepRefIdeal.nD,
      r.2.mem ((c.tc : Thread Cert.AdaStepRefIdeal.nD Cert.AdaStepRefIdeal.τ).loc Cert.AdaStepRefIdeal.main_arg0) = m ((c.tc : Thread Cert.AdaStepRefIdeal.nD Cert.AdaStepRefIdeal.τ).loc Cert.AdaStepRefIdeal.main_arg0)
      ∧ r.2.mem ((c.tc : Thread Cert.AdaStepRefIdeal.nD Cert.AdaStepRefIdeal.τ).loc Cert.AdaStepRefIdeal.main_arg1) = m ((c.tc : Thread Cert.AdaStepRefIdeal.nD Cert.AdaStepRefIdeal.τ).loc Cert.AdaStepRefIdeal.main_arg1)
      ∧ r.2.mem ((c.tc : Thread Cert.AdaStepRefIdeal.nD Cert.AdaStepRefIdeal.τ).loc Cert.AdaStepRefIdeal.main_arg2) = m ((c.tc : Thread Cert.AdaStepRefIdeal.nD Cert.AdaStepRefIdeal.τ).loc Cert.AdaStepRefIdeal.main_arg2)
      ∧ r.2.mem ((c.tc : Thread Cert.AdaStepRefIdeal.nD Cert.AdaStepRefIdeal.τ).loc Cert.AdaStepRefIdeal.main_arg3) = m ((c.tc : Thread Cert.AdaStepRefIdeal.nD Cert.AdaStepRefIdeal.τ).loc Cert.AdaStepRefIdeal.main_arg3)
      ∧ r.2.mem ((c.tc : Thread Cert.AdaStepRefIdeal.nD Cert.AdaStepRefIdeal.τ).loc Cert.AdaStepRefIdeal.main_arg4) = m ((c.tc : Thread Cert.AdaStepRefIdeal.nD Cert.AdaStepRefIdeal.τ).loc Cert.AdaStepRefIdeal.main_arg4))
      ∧ r.2.sem = fun _ => 0)

def quiescent_HeadStep [hHeadStep : Cert.HeadStep.Facts] : Prop :=
  ∀ (m : (ℓ : Loc Cert.HeadStep.nD Cert.HeadStep.τ Cert.HeadStep.sig) → Buf (Elt Bits) ℓ) (g : Dev Cert.HeadStep.nD → PrngReg), Pre_HeadStep m →
    θ_run (Cert.HeadStep.defs (F := Bits)) (onTc (τ := Cert.HeadStep.τ) (Cert.HeadStep.main (F := Bits))) ⟨m, fun _ => 0, g⟩ (fun r => (∀ c : Dev Cert.HeadStep.nD,
      r.2.mem ((c.tc : Thread Cert.HeadStep.nD Cert.HeadStep.τ).loc Cert.HeadStep.main_arg0) = m ((c.tc : Thread Cert.HeadStep.nD Cert.HeadStep.τ).loc Cert.HeadStep.main_arg0)
      ∧ r.2.mem ((c.tc : Thread Cert.HeadStep.nD Cert.HeadStep.τ).loc Cert.HeadStep.main_arg1) = m ((c.tc : Thread Cert.HeadStep.nD Cert.HeadStep.τ).loc Cert.HeadStep.main_arg1)
      ∧ r.2.mem ((c.tc : Thread Cert.HeadStep.nD Cert.HeadStep.τ).loc Cert.HeadStep.main_arg2) = m ((c.tc : Thread Cert.HeadStep.nD Cert.HeadStep.τ).loc Cert.HeadStep.main_arg2)
      ∧ r.2.mem ((c.tc : Thread Cert.HeadStep.nD Cert.HeadStep.τ).loc Cert.HeadStep.main_arg3) = m ((c.tc : Thread Cert.HeadStep.nD Cert.HeadStep.τ).loc Cert.HeadStep.main_arg3))
      ∧ r.2.sem = fun _ => 0)

def quiescent_HeadStepIdeal [hHeadStepIdeal : Cert.HeadStepIdeal.Facts] : Prop :=
  ∀ (m : (ℓ : Loc Cert.HeadStepIdeal.nD Cert.HeadStepIdeal.τ Cert.HeadStepIdeal.sig) → Buf (Elt Ideal) ℓ) (g : Dev Cert.HeadStepIdeal.nD → PrngReg), Pre_HeadStepIdeal m →
    θ_run (Cert.HeadStepIdeal.defs (F := Ideal)) (onTc (τ := Cert.HeadStepIdeal.τ) (Cert.HeadStepIdeal.main (F := Ideal))) ⟨m, fun _ => 0, g⟩ (fun r => (∀ c : Dev Cert.HeadStepIdeal.nD,
      r.2.mem ((c.tc : Thread Cert.HeadStepIdeal.nD Cert.HeadStepIdeal.τ).loc Cert.HeadStepIdeal.main_arg0) = m ((c.tc : Thread Cert.HeadStepIdeal.nD Cert.HeadStepIdeal.τ).loc Cert.HeadStepIdeal.main_arg0)
      ∧ r.2.mem ((c.tc : Thread Cert.HeadStepIdeal.nD Cert.HeadStepIdeal.τ).loc Cert.HeadStepIdeal.main_arg1) = m ((c.tc : Thread Cert.HeadStepIdeal.nD Cert.HeadStepIdeal.τ).loc Cert.HeadStepIdeal.main_arg1)
      ∧ r.2.mem ((c.tc : Thread Cert.HeadStepIdeal.nD Cert.HeadStepIdeal.τ).loc Cert.HeadStepIdeal.main_arg2) = m ((c.tc : Thread Cert.HeadStepIdeal.nD Cert.HeadStepIdeal.τ).loc Cert.HeadStepIdeal.main_arg2)
      ∧ r.2.mem ((c.tc : Thread Cert.HeadStepIdeal.nD Cert.HeadStepIdeal.τ).loc Cert.HeadStepIdeal.main_arg3) = m ((c.tc : Thread Cert.HeadStepIdeal.nD Cert.HeadStepIdeal.τ).loc Cert.HeadStepIdeal.main_arg3))
      ∧ r.2.sem = fun _ => 0)

def quiescent_HeadStepRefIdeal [hHeadStepRefIdeal : Cert.HeadStepRefIdeal.Facts] : Prop :=
  ∀ (m : (ℓ : Loc Cert.HeadStepRefIdeal.nD Cert.HeadStepRefIdeal.τ Cert.HeadStepRefIdeal.sig) → Buf (Elt Ideal) ℓ) (g : Dev Cert.HeadStepRefIdeal.nD → PrngReg), Pre_HeadStepRefIdeal m →
    θ_run (Cert.HeadStepRefIdeal.defs (F := Ideal)) (onTc (τ := Cert.HeadStepRefIdeal.τ) (Cert.HeadStepRefIdeal.main (F := Ideal))) ⟨m, fun _ => 0, g⟩ (fun r => (∀ c : Dev Cert.HeadStepRefIdeal.nD,
      r.2.mem ((c.tc : Thread Cert.HeadStepRefIdeal.nD Cert.HeadStepRefIdeal.τ).loc Cert.HeadStepRefIdeal.main_arg0) = m ((c.tc : Thread Cert.HeadStepRefIdeal.nD Cert.HeadStepRefIdeal.τ).loc Cert.HeadStepRefIdeal.main_arg0)
      ∧ r.2.mem ((c.tc : Thread Cert.HeadStepRefIdeal.nD Cert.HeadStepRefIdeal.τ).loc Cert.HeadStepRefIdeal.main_arg1) = m ((c.tc : Thread Cert.HeadStepRefIdeal.nD Cert.HeadStepRefIdeal.τ).loc Cert.HeadStepRefIdeal.main_arg1)
      ∧ r.2.mem ((c.tc : Thread Cert.HeadStepRefIdeal.nD Cert.HeadStepRefIdeal.τ).loc Cert.HeadStepRefIdeal.main_arg2) = m ((c.tc : Thread Cert.HeadStepRefIdeal.nD Cert.HeadStepRefIdeal.τ).loc Cert.HeadStepRefIdeal.main_arg2)
      ∧ r.2.mem ((c.tc : Thread Cert.HeadStepRefIdeal.nD Cert.HeadStepRefIdeal.τ).loc Cert.HeadStepRefIdeal.main_arg3) = m ((c.tc : Thread Cert.HeadStepRefIdeal.nD Cert.HeadStepRefIdeal.τ).loc Cert.HeadStepRefIdeal.main_arg3))
      ∧ r.2.sem = fun _ => 0)

def quiescent_QkStep [hQkStep : Cert.QkStep.Facts] : Prop :=
  ∀ (m : (ℓ : Loc Cert.QkStep.nD Cert.QkStep.τ Cert.QkStep.sig) → Buf (Elt Bits) ℓ) (g : Dev Cert.QkStep.nD → PrngReg), Pre_QkStep m →
    θ_run (Cert.QkStep.defs (F := Bits)) (onTc (τ := Cert.QkStep.τ) (Cert.QkStep.main (F := Bits))) ⟨m, fun _ => 0, g⟩ (fun r => (∀ c : Dev Cert.QkStep.nD,
      r.2.mem ((c.tc : Thread Cert.QkStep.nD Cert.QkStep.τ).loc Cert.QkStep.main_arg0) = m ((c.tc : Thread Cert.QkStep.nD Cert.QkStep.τ).loc Cert.QkStep.main_arg0)
      ∧ r.2.mem ((c.tc : Thread Cert.QkStep.nD Cert.QkStep.τ).loc Cert.QkStep.main_arg1) = m ((c.tc : Thread Cert.QkStep.nD Cert.QkStep.τ).loc Cert.QkStep.main_arg1)
      ∧ r.2.mem ((c.tc : Thread Cert.QkStep.nD Cert.QkStep.τ).loc Cert.QkStep.main_arg2) = m ((c.tc : Thread Cert.QkStep.nD Cert.QkStep.τ).loc Cert.QkStep.main_arg2)
      ∧ r.2.mem ((c.tc : Thread Cert.QkStep.nD Cert.QkStep.τ).loc Cert.QkStep.main_arg3) = m ((c.tc : Thread Cert.QkStep.nD Cert.QkStep.τ).loc Cert.QkStep.main_arg3))
      ∧ r.2.sem = fun _ => 0)

def quiescent_QkStepIdeal [hQkStepIdeal : Cert.QkStepIdeal.Facts] : Prop :=
  ∀ (m : (ℓ : Loc Cert.QkStepIdeal.nD Cert.QkStepIdeal.τ Cert.QkStepIdeal.sig) → Buf (Elt Ideal) ℓ) (g : Dev Cert.QkStepIdeal.nD → PrngReg), Pre_QkStepIdeal m →
    θ_run (Cert.QkStepIdeal.defs (F := Ideal)) (onTc (τ := Cert.QkStepIdeal.τ) (Cert.QkStepIdeal.main (F := Ideal))) ⟨m, fun _ => 0, g⟩ (fun r => (∀ c : Dev Cert.QkStepIdeal.nD,
      r.2.mem ((c.tc : Thread Cert.QkStepIdeal.nD Cert.QkStepIdeal.τ).loc Cert.QkStepIdeal.main_arg0) = m ((c.tc : Thread Cert.QkStepIdeal.nD Cert.QkStepIdeal.τ).loc Cert.QkStepIdeal.main_arg0)
      ∧ r.2.mem ((c.tc : Thread Cert.QkStepIdeal.nD Cert.QkStepIdeal.τ).loc Cert.QkStepIdeal.main_arg1) = m ((c.tc : Thread Cert.QkStepIdeal.nD Cert.QkStepIdeal.τ).loc Cert.QkStepIdeal.main_arg1)
      ∧ r.2.mem ((c.tc : Thread Cert.QkStepIdeal.nD Cert.QkStepIdeal.τ).loc Cert.QkStepIdeal.main_arg2) = m ((c.tc : Thread Cert.QkStepIdeal.nD Cert.QkStepIdeal.τ).loc Cert.QkStepIdeal.main_arg2)
      ∧ r.2.mem ((c.tc : Thread Cert.QkStepIdeal.nD Cert.QkStepIdeal.τ).loc Cert.QkStepIdeal.main_arg3) = m ((c.tc : Thread Cert.QkStepIdeal.nD Cert.QkStepIdeal.τ).loc Cert.QkStepIdeal.main_arg3))
      ∧ r.2.sem = fun _ => 0)

def quiescent_QkStepRefIdeal [hQkStepRefIdeal : Cert.QkStepRefIdeal.Facts] : Prop :=
  ∀ (m : (ℓ : Loc Cert.QkStepRefIdeal.nD Cert.QkStepRefIdeal.τ Cert.QkStepRefIdeal.sig) → Buf (Elt Ideal) ℓ) (g : Dev Cert.QkStepRefIdeal.nD → PrngReg), Pre_QkStepRefIdeal m →
    θ_run (Cert.QkStepRefIdeal.defs (F := Ideal)) (onTc (τ := Cert.QkStepRefIdeal.τ) (Cert.QkStepRefIdeal.main (F := Ideal))) ⟨m, fun _ => 0, g⟩ (fun r => (∀ c : Dev Cert.QkStepRefIdeal.nD,
      r.2.mem ((c.tc : Thread Cert.QkStepRefIdeal.nD Cert.QkStepRefIdeal.τ).loc Cert.QkStepRefIdeal.main_arg0) = m ((c.tc : Thread Cert.QkStepRefIdeal.nD Cert.QkStepRefIdeal.τ).loc Cert.QkStepRefIdeal.main_arg0)
      ∧ r.2.mem ((c.tc : Thread Cert.QkStepRefIdeal.nD Cert.QkStepRefIdeal.τ).loc Cert.QkStepRefIdeal.main_arg1) = m ((c.tc : Thread Cert.QkStepRefIdeal.nD Cert.QkStepRefIdeal.τ).loc Cert.QkStepRefIdeal.main_arg1)
      ∧ r.2.mem ((c.tc : Thread Cert.QkStepRefIdeal.nD Cert.QkStepRefIdeal.τ).loc Cert.QkStepRefIdeal.main_arg2) = m ((c.tc : Thread Cert.QkStepRefIdeal.nD Cert.QkStepRefIdeal.τ).loc Cert.QkStepRefIdeal.main_arg2)
      ∧ r.2.mem ((c.tc : Thread Cert.QkStepRefIdeal.nD Cert.QkStepRefIdeal.τ).loc Cert.QkStepRefIdeal.main_arg3) = m ((c.tc : Thread Cert.QkStepRefIdeal.nD Cert.QkStepRefIdeal.τ).loc Cert.QkStepRefIdeal.main_arg3))
      ∧ r.2.sem = fun _ => 0)

def quiescent_BiasStep [hBiasStep : Cert.BiasStep.Facts] : Prop :=
  ∀ (m : (ℓ : Loc Cert.BiasStep.nD Cert.BiasStep.τ Cert.BiasStep.sig) → Buf (Elt Bits) ℓ) (g : Dev Cert.BiasStep.nD → PrngReg), Pre_BiasStep m →
    θ_run (Cert.BiasStep.defs (F := Bits)) (onTc (τ := Cert.BiasStep.τ) (Cert.BiasStep.main (F := Bits))) ⟨m, fun _ => 0, g⟩ (fun r => (∀ c : Dev Cert.BiasStep.nD,
      r.2.mem ((c.tc : Thread Cert.BiasStep.nD Cert.BiasStep.τ).loc Cert.BiasStep.main_arg0) = m ((c.tc : Thread Cert.BiasStep.nD Cert.BiasStep.τ).loc Cert.BiasStep.main_arg0)
      ∧ r.2.mem ((c.tc : Thread Cert.BiasStep.nD Cert.BiasStep.τ).loc Cert.BiasStep.main_arg1) = m ((c.tc : Thread Cert.BiasStep.nD Cert.BiasStep.τ).loc Cert.BiasStep.main_arg1)
      ∧ r.2.mem ((c.tc : Thread Cert.BiasStep.nD Cert.BiasStep.τ).loc Cert.BiasStep.main_arg2) = m ((c.tc : Thread Cert.BiasStep.nD Cert.BiasStep.τ).loc Cert.BiasStep.main_arg2)
      ∧ r.2.mem ((c.tc : Thread Cert.BiasStep.nD Cert.BiasStep.τ).loc Cert.BiasStep.main_arg3) = m ((c.tc : Thread Cert.BiasStep.nD Cert.BiasStep.τ).loc Cert.BiasStep.main_arg3))
      ∧ r.2.sem = fun _ => 0)

def quiescent_BiasStepIdeal [hBiasStepIdeal : Cert.BiasStepIdeal.Facts] : Prop :=
  ∀ (m : (ℓ : Loc Cert.BiasStepIdeal.nD Cert.BiasStepIdeal.τ Cert.BiasStepIdeal.sig) → Buf (Elt Ideal) ℓ) (g : Dev Cert.BiasStepIdeal.nD → PrngReg), Pre_BiasStepIdeal m →
    θ_run (Cert.BiasStepIdeal.defs (F := Ideal)) (onTc (τ := Cert.BiasStepIdeal.τ) (Cert.BiasStepIdeal.main (F := Ideal))) ⟨m, fun _ => 0, g⟩ (fun r => (∀ c : Dev Cert.BiasStepIdeal.nD,
      r.2.mem ((c.tc : Thread Cert.BiasStepIdeal.nD Cert.BiasStepIdeal.τ).loc Cert.BiasStepIdeal.main_arg0) = m ((c.tc : Thread Cert.BiasStepIdeal.nD Cert.BiasStepIdeal.τ).loc Cert.BiasStepIdeal.main_arg0)
      ∧ r.2.mem ((c.tc : Thread Cert.BiasStepIdeal.nD Cert.BiasStepIdeal.τ).loc Cert.BiasStepIdeal.main_arg1) = m ((c.tc : Thread Cert.BiasStepIdeal.nD Cert.BiasStepIdeal.τ).loc Cert.BiasStepIdeal.main_arg1)
      ∧ r.2.mem ((c.tc : Thread Cert.BiasStepIdeal.nD Cert.BiasStepIdeal.τ).loc Cert.BiasStepIdeal.main_arg2) = m ((c.tc : Thread Cert.BiasStepIdeal.nD Cert.BiasStepIdeal.τ).loc Cert.BiasStepIdeal.main_arg2)
      ∧ r.2.mem ((c.tc : Thread Cert.BiasStepIdeal.nD Cert.BiasStepIdeal.τ).loc Cert.BiasStepIdeal.main_arg3) = m ((c.tc : Thread Cert.BiasStepIdeal.nD Cert.BiasStepIdeal.τ).loc Cert.BiasStepIdeal.main_arg3))
      ∧ r.2.sem = fun _ => 0)

def quiescent_BiasStepRefIdeal [hBiasStepRefIdeal : Cert.BiasStepRefIdeal.Facts] : Prop :=
  ∀ (m : (ℓ : Loc Cert.BiasStepRefIdeal.nD Cert.BiasStepRefIdeal.τ Cert.BiasStepRefIdeal.sig) → Buf (Elt Ideal) ℓ) (g : Dev Cert.BiasStepRefIdeal.nD → PrngReg), Pre_BiasStepRefIdeal m →
    θ_run (Cert.BiasStepRefIdeal.defs (F := Ideal)) (onTc (τ := Cert.BiasStepRefIdeal.τ) (Cert.BiasStepRefIdeal.main (F := Ideal))) ⟨m, fun _ => 0, g⟩ (fun r => (∀ c : Dev Cert.BiasStepRefIdeal.nD,
      r.2.mem ((c.tc : Thread Cert.BiasStepRefIdeal.nD Cert.BiasStepRefIdeal.τ).loc Cert.BiasStepRefIdeal.main_arg0) = m ((c.tc : Thread Cert.BiasStepRefIdeal.nD Cert.BiasStepRefIdeal.τ).loc Cert.BiasStepRefIdeal.main_arg0)
      ∧ r.2.mem ((c.tc : Thread Cert.BiasStepRefIdeal.nD Cert.BiasStepRefIdeal.τ).loc Cert.BiasStepRefIdeal.main_arg1) = m ((c.tc : Thread Cert.BiasStepRefIdeal.nD Cert.BiasStepRefIdeal.τ).loc Cert.BiasStepRefIdeal.main_arg1)
      ∧ r.2.mem ((c.tc : Thread Cert.BiasStepRefIdeal.nD Cert.BiasStepRefIdeal.τ).loc Cert.BiasStepRefIdeal.main_arg2) = m ((c.tc : Thread Cert.BiasStepRefIdeal.nD Cert.BiasStepRefIdeal.τ).loc Cert.BiasStepRefIdeal.main_arg2)
      ∧ r.2.mem ((c.tc : Thread Cert.BiasStepRefIdeal.nD Cert.BiasStepRefIdeal.τ).loc Cert.BiasStepRefIdeal.main_arg3) = m ((c.tc : Thread Cert.BiasStepRefIdeal.nD Cert.BiasStepRefIdeal.τ).loc Cert.BiasStepRefIdeal.main_arg3))
      ∧ r.2.sem = fun _ => 0)

def preserves_AttnGrad_AttnGradIdeal : Prop :=
  IdealRules.named_const.Statement Cert.AttnGradIdeal.κ "skip" .f32 0xC2D00000#32 ⊥

def algebraic_AttnGradIdeal_AttnGradRefIdeal_pre_attn_finite [hAttnGradIdeal : Cert.AttnGradIdeal.Facts] [hAttnGradRefIdeal : Cert.AttnGradRefIdeal.Facts] [hPre_attn_finite : Cert.Pre_attn_finite.Facts] : Prop :=
  ∀ (m : (ℓ : Loc Cert.AttnGradIdeal.nD Cert.AttnGradIdeal.τ Cert.AttnGradIdeal.sig) → Buf (Elt Ideal) ℓ) (g : Dev Cert.AttnGradIdeal.nD → PrngReg)
    (m' : (ℓ : Loc Cert.AttnGradRefIdeal.nD Cert.AttnGradRefIdeal.τ Cert.AttnGradRefIdeal.sig) → Buf (Elt Ideal) ℓ) (g' : Dev Cert.AttnGradRefIdeal.nD → PrngReg), Pre_AttnGradIdeal_attn_finite m →
    (∀ c : Dev Cert.AttnGradIdeal.nD,
      m' ((c.tc : Thread Cert.AttnGradRefIdeal.nD Cert.AttnGradRefIdeal.τ).loc Cert.AttnGradRefIdeal.main_arg0) = m ((c.tc : Thread Cert.AttnGradIdeal.nD Cert.AttnGradIdeal.τ).loc Cert.AttnGradIdeal.main_arg0)
      ∧ m' ((c.tc : Thread Cert.AttnGradRefIdeal.nD Cert.AttnGradRefIdeal.τ).loc Cert.AttnGradRefIdeal.main_arg1) = m ((c.tc : Thread Cert.AttnGradIdeal.nD Cert.AttnGradIdeal.τ).loc Cert.AttnGradIdeal.main_arg1)
      ∧ m' ((c.tc : Thread Cert.AttnGradRefIdeal.nD Cert.AttnGradRefIdeal.τ).loc Cert.AttnGradRefIdeal.main_arg2) = m ((c.tc : Thread Cert.AttnGradIdeal.nD Cert.AttnGradIdeal.τ).loc Cert.AttnGradIdeal.main_arg2)
      ∧ m' ((c.tc : Thread Cert.AttnGradRefIdeal.nD Cert.AttnGradRefIdeal.τ).loc Cert.AttnGradRefIdeal.main_arg3) = m ((c.tc : Thread Cert.AttnGradIdeal.nD Cert.AttnGradIdeal.τ).loc Cert.AttnGradIdeal.main_arg3)
      ∧ m' ((c.tc : Thread Cert.AttnGradRefIdeal.nD Cert.AttnGradRefIdeal.τ).loc Cert.AttnGradRefIdeal.main_arg4) = m ((c.tc : Thread Cert.AttnGradIdeal.nD Cert.AttnGradIdeal.τ).loc Cert.AttnGradIdeal.main_arg4)) →
    ∃ (v0 : (c : Dev Cert.AttnGradIdeal.nD) → Buf (Elt Ideal) ((c.tc : Thread Cert.AttnGradIdeal.nD Cert.AttnGradIdeal.τ).loc Cert.AttnGradIdeal.main_v36_0)) (v1 : (c : Dev Cert.AttnGradIdeal.nD) → Buf (Elt Ideal) ((c.tc : Thread Cert.AttnGradIdeal.nD Cert.AttnGradIdeal.τ).loc Cert.AttnGradIdeal.main_v36_1)) (v2 : (c : Dev Cert.AttnGradIdeal.nD) → Buf (Elt Ideal) ((c.tc : Thread Cert.AttnGradIdeal.nD Cert.AttnGradIdeal.τ).loc Cert.AttnGradIdeal.main_v36_2)) (v3 : (c : Dev Cert.AttnGradIdeal.nD) → Buf (Elt Ideal) ((c.tc : Thread Cert.AttnGradIdeal.nD Cert.AttnGradIdeal.τ).loc Cert.AttnGradIdeal.main_v36_3)),
      θ_run (Cert.AttnGradIdeal.defs (F := Ideal)) (onTc (τ := Cert.AttnGradIdeal.τ) (Cert.AttnGradIdeal.main (F := Ideal))) ⟨m, fun _ => 0, g⟩ (fun r => ∀ c : Dev Cert.AttnGradIdeal.nD,
          r.2.mem ((c.tc : Thread Cert.AttnGradIdeal.nD Cert.AttnGradIdeal.τ).loc Cert.AttnGradIdeal.main_v36_0) = v0 c
          ∧ r.2.mem ((c.tc : Thread Cert.AttnGradIdeal.nD Cert.AttnGradIdeal.τ).loc Cert.AttnGradIdeal.main_v36_1) = v1 c
          ∧ r.2.mem ((c.tc : Thread Cert.AttnGradIdeal.nD Cert.AttnGradIdeal.τ).loc Cert.AttnGradIdeal.main_v36_2) = v2 c
          ∧ r.2.mem ((c.tc : Thread Cert.AttnGradIdeal.nD Cert.AttnGradIdeal.τ).loc Cert.AttnGradIdeal.main_v36_3) = v3 c
          ∧ r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
          ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
          ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4))
      ∧ θ_run (Cert.AttnGradRefIdeal.defs (F := Ideal)) (onTc (τ := Cert.AttnGradRefIdeal.τ) (Cert.AttnGradRefIdeal.main (F := Ideal))) ⟨m', fun _ => 0, g'⟩ (fun r => ∀ c : Dev Cert.AttnGradRefIdeal.nD,
          r.2.mem ((c.tc : Thread Cert.AttnGradRefIdeal.nD Cert.AttnGradRefIdeal.τ).loc Cert.AttnGradRefIdeal.main_v93) = v0 c
          ∧ r.2.mem ((c.tc : Thread Cert.AttnGradRefIdeal.nD Cert.AttnGradRefIdeal.τ).loc Cert.AttnGradRefIdeal.main_v94) = v1 c
          ∧ r.2.mem ((c.tc : Thread Cert.AttnGradRefIdeal.nD Cert.AttnGradRefIdeal.τ).loc Cert.AttnGradRefIdeal.main_v95) = v2 c
          ∧ r.2.mem ((c.tc : Thread Cert.AttnGradRefIdeal.nD Cert.AttnGradRefIdeal.τ).loc Cert.AttnGradRefIdeal.main_v69) = v3 c
          ∧ r.2.mem ((c.tc : Thread Cert.AttnGradRefIdeal.nD Cert.AttnGradRefIdeal.τ).loc Cert.AttnGradRefIdeal.main_arg0) = m' ((c.tc : Thread Cert.AttnGradRefIdeal.nD Cert.AttnGradRefIdeal.τ).loc Cert.AttnGradRefIdeal.main_arg0)
          ∧ r.2.mem ((c.tc : Thread Cert.AttnGradRefIdeal.nD Cert.AttnGradRefIdeal.τ).loc Cert.AttnGradRefIdeal.main_arg1) = m' ((c.tc : Thread Cert.AttnGradRefIdeal.nD Cert.AttnGradRefIdeal.τ).loc Cert.AttnGradRefIdeal.main_arg1)
          ∧ r.2.mem ((c.tc : Thread Cert.AttnGradRefIdeal.nD Cert.AttnGradRefIdeal.τ).loc Cert.AttnGradRefIdeal.main_arg2) = m' ((c.tc : Thread Cert.AttnGradRefIdeal.nD Cert.AttnGradRefIdeal.τ).loc Cert.AttnGradRefIdeal.main_arg2)
          ∧ r.2.mem ((c.tc : Thread Cert.AttnGradRefIdeal.nD Cert.AttnGradRefIdeal.τ).loc Cert.AttnGradRefIdeal.main_arg3) = m' ((c.tc : Thread Cert.AttnGradRefIdeal.nD Cert.AttnGradRefIdeal.τ).loc Cert.AttnGradRefIdeal.main_arg3)
          ∧ r.2.mem ((c.tc : Thread Cert.AttnGradRefIdeal.nD Cert.AttnGradRefIdeal.τ).loc Cert.AttnGradRefIdeal.main_arg4) = m' ((c.tc : Thread Cert.AttnGradRefIdeal.nD Cert.AttnGradRefIdeal.τ).loc Cert.AttnGradRefIdeal.main_arg4))

def preserves_SwigluGrad_SwigluGradIdeal : Prop :=
  True

def algebraic_SwigluGradIdeal_SwigluGradRefIdeal_pre_swiglu_finite [hSwigluGradIdeal : Cert.SwigluGradIdeal.Facts] [hSwigluGradRefIdeal : Cert.SwigluGradRefIdeal.Facts] [hPre_swiglu_finite : Cert.Pre_swiglu_finite.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg)
    (m' : (ℓ : Loc Cert.SwigluGradRefIdeal.nD Cert.SwigluGradRefIdeal.τ Cert.SwigluGradRefIdeal.sig) → Buf (Elt Ideal) ℓ) (g' : Dev Cert.SwigluGradRefIdeal.nD → PrngReg), Pre_SwigluGradIdeal_swiglu_finite m →
    (∀ c : Dev Cert.SwigluGradIdeal.nD,
      m' ((c.tc : Thread Cert.SwigluGradRefIdeal.nD Cert.SwigluGradRefIdeal.τ).loc Cert.SwigluGradRefIdeal.main_arg0) = m ((c.tc : Thread Cert.SwigluGradIdeal.nD Cert.SwigluGradIdeal.τ).loc Cert.SwigluGradIdeal.main_arg0)
      ∧ m' ((c.tc : Thread Cert.SwigluGradRefIdeal.nD Cert.SwigluGradRefIdeal.τ).loc Cert.SwigluGradRefIdeal.main_arg1) = m ((c.tc : Thread Cert.SwigluGradIdeal.nD Cert.SwigluGradIdeal.τ).loc Cert.SwigluGradIdeal.main_arg1)
      ∧ m' ((c.tc : Thread Cert.SwigluGradRefIdeal.nD Cert.SwigluGradRefIdeal.τ).loc Cert.SwigluGradRefIdeal.main_arg2) = m ((c.tc : Thread Cert.SwigluGradIdeal.nD Cert.SwigluGradIdeal.τ).loc Cert.SwigluGradIdeal.main_arg2)
      ∧ m' ((c.tc : Thread Cert.SwigluGradRefIdeal.nD Cert.SwigluGradRefIdeal.τ).loc Cert.SwigluGradRefIdeal.main_arg3) = m ((c.tc : Thread Cert.SwigluGradIdeal.nD Cert.SwigluGradIdeal.τ).loc Cert.SwigluGradIdeal.main_arg3)) →
    ∃ (v0 : (c : Dev Cert.SwigluGradIdeal.nD) → Buf (Elt Ideal) ((c.tc : Thread Cert.SwigluGradIdeal.nD Cert.SwigluGradIdeal.τ).loc Cert.SwigluGradIdeal.main_v0_0)) (v1 : (c : Dev Cert.SwigluGradIdeal.nD) → Buf (Elt Ideal) ((c.tc : Thread Cert.SwigluGradIdeal.nD Cert.SwigluGradIdeal.τ).loc Cert.SwigluGradIdeal.main_v0_1)),
      θ_run (Cert.SwigluGradIdeal.defs (F := Ideal)) (onTc (τ := Cert.SwigluGradIdeal.τ) (Cert.SwigluGradIdeal.main (F := Ideal))) ⟨m, fun _ => 0, g⟩ (fun r => ∀ c : Dev Cert.SwigluGradIdeal.nD,
          r.2.mem ((c.tc : Thread Cert.SwigluGradIdeal.nD Cert.SwigluGradIdeal.τ).loc Cert.SwigluGradIdeal.main_v0_0) = v0 c
          ∧ r.2.mem ((c.tc : Thread Cert.SwigluGradIdeal.nD Cert.SwigluGradIdeal.τ).loc Cert.SwigluGradIdeal.main_v0_1) = v1 c
          ∧ r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
          ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
          ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2)
          ∧ r.2.mem ((c.tc : Thread Cert.SwigluGradIdeal.nD Cert.SwigluGradIdeal.τ).loc Cert.SwigluGradIdeal.main_arg3) = m ((c.tc : Thread Cert.SwigluGradIdeal.nD Cert.SwigluGradIdeal.τ).loc Cert.SwigluGradIdeal.main_arg3))
      ∧ θ_run (Cert.SwigluGradRefIdeal.defs (F := Ideal)) (onTc (τ := Cert.SwigluGradRefIdeal.τ) (Cert.SwigluGradRefIdeal.main (F := Ideal))) ⟨m', fun _ => 0, g'⟩ (fun r => ∀ c : Dev Cert.SwigluGradRefIdeal.nD,
          r.2.mem ((c.tc : Thread Cert.SwigluGradRefIdeal.nD Cert.SwigluGradRefIdeal.τ).loc Cert.SwigluGradRefIdeal.main_v9) = v0 c
          ∧ r.2.mem ((c.tc : Thread Cert.SwigluGradRefIdeal.nD Cert.SwigluGradRefIdeal.τ).loc Cert.SwigluGradRefIdeal.main_v10) = v1 c
          ∧ r.2.mem ((c.tc : Thread Cert.SwigluGradRefIdeal.nD Cert.SwigluGradRefIdeal.τ).loc Cert.SwigluGradRefIdeal.main_arg0) = m' ((c.tc : Thread Cert.SwigluGradRefIdeal.nD Cert.SwigluGradRefIdeal.τ).loc Cert.SwigluGradRefIdeal.main_arg0)
          ∧ r.2.mem ((c.tc : Thread Cert.SwigluGradRefIdeal.nD Cert.SwigluGradRefIdeal.τ).loc Cert.SwigluGradRefIdeal.main_arg1) = m' ((c.tc : Thread Cert.SwigluGradRefIdeal.nD Cert.SwigluGradRefIdeal.τ).loc Cert.SwigluGradRefIdeal.main_arg1)
          ∧ r.2.mem ((c.tc : Thread Cert.SwigluGradRefIdeal.nD Cert.SwigluGradRefIdeal.τ).loc Cert.SwigluGradRefIdeal.main_arg2) = m' ((c.tc : Thread Cert.SwigluGradRefIdeal.nD Cert.SwigluGradRefIdeal.τ).loc Cert.SwigluGradRefIdeal.main_arg2)
          ∧ r.2.mem ((c.tc : Thread Cert.SwigluGradRefIdeal.nD Cert.SwigluGradRefIdeal.τ).loc Cert.SwigluGradRefIdeal.main_arg3) = m' ((c.tc : Thread Cert.SwigluGradRefIdeal.nD Cert.SwigluGradRefIdeal.τ).loc Cert.SwigluGradRefIdeal.main_arg3))

def preserves_FfnOutGradW_FfnOutGradWIdeal : Prop :=
  True

def algebraic_FfnOutGradWIdeal_FfnOutGradWRefIdeal [hFfnOutGradWIdeal : Cert.FfnOutGradWIdeal.Facts] [hFfnOutGradWRefIdeal : Cert.FfnOutGradWRefIdeal.Facts] : Prop :=
  ∀ (m : (ℓ : Loc Cert.FfnOutGradWIdeal.nD Cert.FfnOutGradWIdeal.τ Cert.FfnOutGradWIdeal.sig) → Buf (Elt Ideal) ℓ) (g : Dev Cert.FfnOutGradWIdeal.nD → PrngReg)
    (m' : (ℓ : Loc Cert.FfnOutGradWRefIdeal.nD Cert.FfnOutGradWRefIdeal.τ Cert.FfnOutGradWRefIdeal.sig) → Buf (Elt Ideal) ℓ) (g' : Dev Cert.FfnOutGradWRefIdeal.nD → PrngReg), Pre_FfnOutGradWIdeal m →
    (∀ c : Dev Cert.FfnOutGradWIdeal.nD,
      m' ((c.tc : Thread Cert.FfnOutGradWRefIdeal.nD Cert.FfnOutGradWRefIdeal.τ).loc Cert.FfnOutGradWRefIdeal.main_arg0) = m ((c.tc : Thread Cert.FfnOutGradWIdeal.nD Cert.FfnOutGradWIdeal.τ).loc Cert.FfnOutGradWIdeal.main_arg0)
      ∧ m' ((c.tc : Thread Cert.FfnOutGradWRefIdeal.nD Cert.FfnOutGradWRefIdeal.τ).loc Cert.FfnOutGradWRefIdeal.main_arg1) = m ((c.tc : Thread Cert.FfnOutGradWIdeal.nD Cert.FfnOutGradWIdeal.τ).loc Cert.FfnOutGradWIdeal.main_arg1)) →
    ∃ (v0 : (c : Dev Cert.FfnOutGradWIdeal.nD) → Buf (Elt Ideal) ((c.tc : Thread Cert.FfnOutGradWIdeal.nD Cert.FfnOutGradWIdeal.τ).loc Cert.FfnOutGradWIdeal.main_v0)),
      θ_run (Cert.FfnOutGradWIdeal.defs (F := Ideal)) (onTc (τ := Cert.FfnOutGradWIdeal.τ) (Cert.FfnOutGradWIdeal.main (F := Ideal))) ⟨m, fun _ => 0, g⟩ (fun r => ∀ c : Dev Cert.FfnOutGradWIdeal.nD,
          r.2.mem ((c.tc : Thread Cert.FfnOutGradWIdeal.nD Cert.FfnOutGradWIdeal.τ).loc Cert.FfnOutGradWIdeal.main_v0) = v0 c
          ∧ r.2.mem ((c.tc : Thread Cert.FfnOutGradWIdeal.nD Cert.FfnOutGradWIdeal.τ).loc Cert.FfnOutGradWIdeal.main_arg0) = m ((c.tc : Thread Cert.FfnOutGradWIdeal.nD Cert.FfnOutGradWIdeal.τ).loc Cert.FfnOutGradWIdeal.main_arg0)
          ∧ r.2.mem ((c.tc : Thread Cert.FfnOutGradWIdeal.nD Cert.FfnOutGradWIdeal.τ).loc Cert.FfnOutGradWIdeal.main_arg1) = m ((c.tc : Thread Cert.FfnOutGradWIdeal.nD Cert.FfnOutGradWIdeal.τ).loc Cert.FfnOutGradWIdeal.main_arg1))
      ∧ θ_run (Cert.FfnOutGradWRefIdeal.defs (F := Ideal)) (onTc (τ := Cert.FfnOutGradWRefIdeal.τ) (Cert.FfnOutGradWRefIdeal.main (F := Ideal))) ⟨m', fun _ => 0, g'⟩ (fun r => ∀ c : Dev Cert.FfnOutGradWRefIdeal.nD,
          r.2.mem ((c.tc : Thread Cert.FfnOutGradWRefIdeal.nD Cert.FfnOutGradWRefIdeal.τ).loc Cert.FfnOutGradWRefIdeal.main_v6) = v0 c
          ∧ r.2.mem ((c.tc : Thread Cert.FfnOutGradWRefIdeal.nD Cert.FfnOutGradWRefIdeal.τ).loc Cert.FfnOutGradWRefIdeal.main_arg0) = m' ((c.tc : Thread Cert.FfnOutGradWRefIdeal.nD Cert.FfnOutGradWRefIdeal.τ).loc Cert.FfnOutGradWRefIdeal.main_arg0)
          ∧ r.2.mem ((c.tc : Thread Cert.FfnOutGradWRefIdeal.nD Cert.FfnOutGradWRefIdeal.τ).loc Cert.FfnOutGradWRefIdeal.main_arg1) = m' ((c.tc : Thread Cert.FfnOutGradWRefIdeal.nD Cert.FfnOutGradWRefIdeal.τ).loc Cert.FfnOutGradWRefIdeal.main_arg1))

def preserves_FfnInGradW_FfnInGradWIdeal : Prop :=
  True

def algebraic_FfnInGradWIdeal_FfnInGradWRefIdeal [hFfnInGradWIdeal : Cert.FfnInGradWIdeal.Facts] [hFfnInGradWRefIdeal : Cert.FfnInGradWRefIdeal.Facts] : Prop :=
  ∀ (m : (ℓ : Loc Cert.FfnInGradWIdeal.nD Cert.FfnInGradWIdeal.τ Cert.FfnInGradWIdeal.sig) → Buf (Elt Ideal) ℓ) (g : Dev Cert.FfnInGradWIdeal.nD → PrngReg)
    (m' : (ℓ : Loc Cert.FfnInGradWRefIdeal.nD Cert.FfnInGradWRefIdeal.τ Cert.FfnInGradWRefIdeal.sig) → Buf (Elt Ideal) ℓ) (g' : Dev Cert.FfnInGradWRefIdeal.nD → PrngReg), Pre_FfnInGradWIdeal m →
    (∀ c : Dev Cert.FfnInGradWIdeal.nD,
      m' ((c.tc : Thread Cert.FfnInGradWRefIdeal.nD Cert.FfnInGradWRefIdeal.τ).loc Cert.FfnInGradWRefIdeal.main_arg0) = m ((c.tc : Thread Cert.FfnInGradWIdeal.nD Cert.FfnInGradWIdeal.τ).loc Cert.FfnInGradWIdeal.main_arg0)
      ∧ m' ((c.tc : Thread Cert.FfnInGradWRefIdeal.nD Cert.FfnInGradWRefIdeal.τ).loc Cert.FfnInGradWRefIdeal.main_arg1) = m ((c.tc : Thread Cert.FfnInGradWIdeal.nD Cert.FfnInGradWIdeal.τ).loc Cert.FfnInGradWIdeal.main_arg1)
      ∧ m' ((c.tc : Thread Cert.FfnInGradWRefIdeal.nD Cert.FfnInGradWRefIdeal.τ).loc Cert.FfnInGradWRefIdeal.main_arg2) = m ((c.tc : Thread Cert.FfnInGradWIdeal.nD Cert.FfnInGradWIdeal.τ).loc Cert.FfnInGradWIdeal.main_arg2)) →
    ∃ (v0 : (c : Dev Cert.FfnInGradWIdeal.nD) → Buf (Elt Ideal) ((c.tc : Thread Cert.FfnInGradWIdeal.nD Cert.FfnInGradWIdeal.τ).loc Cert.FfnInGradWIdeal.main_v0)),
      θ_run (Cert.FfnInGradWIdeal.defs (F := Ideal)) (onTc (τ := Cert.FfnInGradWIdeal.τ) (Cert.FfnInGradWIdeal.main (F := Ideal))) ⟨m, fun _ => 0, g⟩ (fun r => ∀ c : Dev Cert.FfnInGradWIdeal.nD,
          r.2.mem ((c.tc : Thread Cert.FfnInGradWIdeal.nD Cert.FfnInGradWIdeal.τ).loc Cert.FfnInGradWIdeal.main_v0) = v0 c
          ∧ r.2.mem ((c.tc : Thread Cert.FfnInGradWIdeal.nD Cert.FfnInGradWIdeal.τ).loc Cert.FfnInGradWIdeal.main_arg0) = m ((c.tc : Thread Cert.FfnInGradWIdeal.nD Cert.FfnInGradWIdeal.τ).loc Cert.FfnInGradWIdeal.main_arg0)
          ∧ r.2.mem ((c.tc : Thread Cert.FfnInGradWIdeal.nD Cert.FfnInGradWIdeal.τ).loc Cert.FfnInGradWIdeal.main_arg1) = m ((c.tc : Thread Cert.FfnInGradWIdeal.nD Cert.FfnInGradWIdeal.τ).loc Cert.FfnInGradWIdeal.main_arg1)
          ∧ r.2.mem ((c.tc : Thread Cert.FfnInGradWIdeal.nD Cert.FfnInGradWIdeal.τ).loc Cert.FfnInGradWIdeal.main_arg2) = m ((c.tc : Thread Cert.FfnInGradWIdeal.nD Cert.FfnInGradWIdeal.τ).loc Cert.FfnInGradWIdeal.main_arg2))
      ∧ θ_run (Cert.FfnInGradWRefIdeal.defs (F := Ideal)) (onTc (τ := Cert.FfnInGradWRefIdeal.τ) (Cert.FfnInGradWRefIdeal.main (F := Ideal))) ⟨m', fun _ => 0, g'⟩ (fun r => ∀ c : Dev Cert.FfnInGradWRefIdeal.nD,
          r.2.mem ((c.tc : Thread Cert.FfnInGradWRefIdeal.nD Cert.FfnInGradWRefIdeal.τ).loc Cert.FfnInGradWRefIdeal.main_v14) = v0 c
          ∧ r.2.mem ((c.tc : Thread Cert.FfnInGradWRefIdeal.nD Cert.FfnInGradWRefIdeal.τ).loc Cert.FfnInGradWRefIdeal.main_arg0) = m' ((c.tc : Thread Cert.FfnInGradWRefIdeal.nD Cert.FfnInGradWRefIdeal.τ).loc Cert.FfnInGradWRefIdeal.main_arg0)
          ∧ r.2.mem ((c.tc : Thread Cert.FfnInGradWRefIdeal.nD Cert.FfnInGradWRefIdeal.τ).loc Cert.FfnInGradWRefIdeal.main_arg1) = m' ((c.tc : Thread Cert.FfnInGradWRefIdeal.nD Cert.FfnInGradWRefIdeal.τ).loc Cert.FfnInGradWRefIdeal.main_arg1)
          ∧ r.2.mem ((c.tc : Thread Cert.FfnInGradWRefIdeal.nD Cert.FfnInGradWRefIdeal.τ).loc Cert.FfnInGradWRefIdeal.main_arg2) = m' ((c.tc : Thread Cert.FfnInGradWRefIdeal.nD Cert.FfnInGradWRefIdeal.τ).loc Cert.FfnInGradWRefIdeal.main_arg2))

def preserves_ProjGradW_ProjGradWIdeal : Prop :=
  True

def algebraic_ProjGradWIdeal_ProjGradWRefIdeal [hProjGradWIdeal : Cert.ProjGradWIdeal.Facts] [hProjGradWRefIdeal : Cert.ProjGradWRefIdeal.Facts] : Prop :=
  ∀ (m : (ℓ : Loc Cert.ProjGradWIdeal.nD Cert.ProjGradWIdeal.τ Cert.ProjGradWIdeal.sig) → Buf (Elt Ideal) ℓ) (g : Dev Cert.ProjGradWIdeal.nD → PrngReg)
    (m' : (ℓ : Loc Cert.ProjGradWRefIdeal.nD Cert.ProjGradWRefIdeal.τ Cert.ProjGradWRefIdeal.sig) → Buf (Elt Ideal) ℓ) (g' : Dev Cert.ProjGradWRefIdeal.nD → PrngReg), Pre_ProjGradWIdeal m →
    (∀ c : Dev Cert.ProjGradWIdeal.nD,
      m' ((c.tc : Thread Cert.ProjGradWRefIdeal.nD Cert.ProjGradWRefIdeal.τ).loc Cert.ProjGradWRefIdeal.main_arg0) = m ((c.tc : Thread Cert.ProjGradWIdeal.nD Cert.ProjGradWIdeal.τ).loc Cert.ProjGradWIdeal.main_arg0)
      ∧ m' ((c.tc : Thread Cert.ProjGradWRefIdeal.nD Cert.ProjGradWRefIdeal.τ).loc Cert.ProjGradWRefIdeal.main_arg1) = m ((c.tc : Thread Cert.ProjGradWIdeal.nD Cert.ProjGradWIdeal.τ).loc Cert.ProjGradWIdeal.main_arg1)) →
    ∃ (v0 : (c : Dev Cert.ProjGradWIdeal.nD) → Buf (Elt Ideal) ((c.tc : Thread Cert.ProjGradWIdeal.nD Cert.ProjGradWIdeal.τ).loc Cert.ProjGradWIdeal.main_v0)),
      θ_run (Cert.ProjGradWIdeal.defs (F := Ideal)) (onTc (τ := Cert.ProjGradWIdeal.τ) (Cert.ProjGradWIdeal.main (F := Ideal))) ⟨m, fun _ => 0, g⟩ (fun r => ∀ c : Dev Cert.ProjGradWIdeal.nD,
          r.2.mem ((c.tc : Thread Cert.ProjGradWIdeal.nD Cert.ProjGradWIdeal.τ).loc Cert.ProjGradWIdeal.main_v0) = v0 c
          ∧ r.2.mem ((c.tc : Thread Cert.ProjGradWIdeal.nD Cert.ProjGradWIdeal.τ).loc Cert.ProjGradWIdeal.main_arg0) = m ((c.tc : Thread Cert.ProjGradWIdeal.nD Cert.ProjGradWIdeal.τ).loc Cert.ProjGradWIdeal.main_arg0)
          ∧ r.2.mem ((c.tc : Thread Cert.ProjGradWIdeal.nD Cert.ProjGradWIdeal.τ).loc Cert.ProjGradWIdeal.main_arg1) = m ((c.tc : Thread Cert.ProjGradWIdeal.nD Cert.ProjGradWIdeal.τ).loc Cert.ProjGradWIdeal.main_arg1))
      ∧ θ_run (Cert.ProjGradWRefIdeal.defs (F := Ideal)) (onTc (τ := Cert.ProjGradWRefIdeal.τ) (Cert.ProjGradWRefIdeal.main (F := Ideal))) ⟨m', fun _ => 0, g'⟩ (fun r => ∀ c : Dev Cert.ProjGradWRefIdeal.nD,
          r.2.mem ((c.tc : Thread Cert.ProjGradWRefIdeal.nD Cert.ProjGradWRefIdeal.τ).loc Cert.ProjGradWRefIdeal.main_v8) = v0 c
          ∧ r.2.mem ((c.tc : Thread Cert.ProjGradWRefIdeal.nD Cert.ProjGradWRefIdeal.τ).loc Cert.ProjGradWRefIdeal.main_arg0) = m' ((c.tc : Thread Cert.ProjGradWRefIdeal.nD Cert.ProjGradWRefIdeal.τ).loc Cert.ProjGradWRefIdeal.main_arg0)
          ∧ r.2.mem ((c.tc : Thread Cert.ProjGradWRefIdeal.nD Cert.ProjGradWRefIdeal.τ).loc Cert.ProjGradWRefIdeal.main_arg1) = m' ((c.tc : Thread Cert.ProjGradWRefIdeal.nD Cert.ProjGradWRefIdeal.τ).loc Cert.ProjGradWRefIdeal.main_arg1))

def preserves_OutGradW_OutGradWIdeal : Prop :=
  True

def algebraic_OutGradWIdeal_OutGradWRefIdeal [hOutGradWIdeal : Cert.OutGradWIdeal.Facts] [hOutGradWRefIdeal : Cert.OutGradWRefIdeal.Facts] : Prop :=
  ∀ (m : (ℓ : Loc Cert.OutGradWIdeal.nD Cert.OutGradWIdeal.τ Cert.OutGradWIdeal.sig) → Buf (Elt Ideal) ℓ) (g : Dev Cert.OutGradWIdeal.nD → PrngReg)
    (m' : (ℓ : Loc Cert.OutGradWRefIdeal.nD Cert.OutGradWRefIdeal.τ Cert.OutGradWRefIdeal.sig) → Buf (Elt Ideal) ℓ) (g' : Dev Cert.OutGradWRefIdeal.nD → PrngReg), Pre_OutGradWIdeal m →
    (∀ c : Dev Cert.OutGradWIdeal.nD,
      m' ((c.tc : Thread Cert.OutGradWRefIdeal.nD Cert.OutGradWRefIdeal.τ).loc Cert.OutGradWRefIdeal.main_arg0) = m ((c.tc : Thread Cert.OutGradWIdeal.nD Cert.OutGradWIdeal.τ).loc Cert.OutGradWIdeal.main_arg0)
      ∧ m' ((c.tc : Thread Cert.OutGradWRefIdeal.nD Cert.OutGradWRefIdeal.τ).loc Cert.OutGradWRefIdeal.main_arg1) = m ((c.tc : Thread Cert.OutGradWIdeal.nD Cert.OutGradWIdeal.τ).loc Cert.OutGradWIdeal.main_arg1)) →
    ∃ (v0 : (c : Dev Cert.OutGradWIdeal.nD) → Buf (Elt Ideal) ((c.tc : Thread Cert.OutGradWIdeal.nD Cert.OutGradWIdeal.τ).loc Cert.OutGradWIdeal.main_v0)),
      θ_run (Cert.OutGradWIdeal.defs (F := Ideal)) (onTc (τ := Cert.OutGradWIdeal.τ) (Cert.OutGradWIdeal.main (F := Ideal))) ⟨m, fun _ => 0, g⟩ (fun r => ∀ c : Dev Cert.OutGradWIdeal.nD,
          r.2.mem ((c.tc : Thread Cert.OutGradWIdeal.nD Cert.OutGradWIdeal.τ).loc Cert.OutGradWIdeal.main_v0) = v0 c
          ∧ r.2.mem ((c.tc : Thread Cert.OutGradWIdeal.nD Cert.OutGradWIdeal.τ).loc Cert.OutGradWIdeal.main_arg0) = m ((c.tc : Thread Cert.OutGradWIdeal.nD Cert.OutGradWIdeal.τ).loc Cert.OutGradWIdeal.main_arg0)
          ∧ r.2.mem ((c.tc : Thread Cert.OutGradWIdeal.nD Cert.OutGradWIdeal.τ).loc Cert.OutGradWIdeal.main_arg1) = m ((c.tc : Thread Cert.OutGradWIdeal.nD Cert.OutGradWIdeal.τ).loc Cert.OutGradWIdeal.main_arg1))
      ∧ θ_run (Cert.OutGradWRefIdeal.defs (F := Ideal)) (onTc (τ := Cert.OutGradWRefIdeal.τ) (Cert.OutGradWRefIdeal.main (F := Ideal))) ⟨m', fun _ => 0, g'⟩ (fun r => ∀ c : Dev Cert.OutGradWRefIdeal.nD,
          r.2.mem ((c.tc : Thread Cert.OutGradWRefIdeal.nD Cert.OutGradWRefIdeal.τ).loc Cert.OutGradWRefIdeal.main_v6) = v0 c
          ∧ r.2.mem ((c.tc : Thread Cert.OutGradWRefIdeal.nD Cert.OutGradWRefIdeal.τ).loc Cert.OutGradWRefIdeal.main_arg0) = m' ((c.tc : Thread Cert.OutGradWRefIdeal.nD Cert.OutGradWRefIdeal.τ).loc Cert.OutGradWRefIdeal.main_arg0)
          ∧ r.2.mem ((c.tc : Thread Cert.OutGradWRefIdeal.nD Cert.OutGradWRefIdeal.τ).loc Cert.OutGradWRefIdeal.main_arg1) = m' ((c.tc : Thread Cert.OutGradWRefIdeal.nD Cert.OutGradWRefIdeal.τ).loc Cert.OutGradWRefIdeal.main_arg1))

def preserves_OutGradX_OutGradXIdeal : Prop :=
  True

def algebraic_OutGradXIdeal_OutGradXRefIdeal [hOutGradXIdeal : Cert.OutGradXIdeal.Facts] [hOutGradXRefIdeal : Cert.OutGradXRefIdeal.Facts] : Prop :=
  ∀ (m : (ℓ : Loc Cert.OutGradXIdeal.nD Cert.OutGradXIdeal.τ Cert.OutGradXIdeal.sig) → Buf (Elt Ideal) ℓ) (g : Dev Cert.OutGradXIdeal.nD → PrngReg)
    (m' : (ℓ : Loc Cert.OutGradXRefIdeal.nD Cert.OutGradXRefIdeal.τ Cert.OutGradXRefIdeal.sig) → Buf (Elt Ideal) ℓ) (g' : Dev Cert.OutGradXRefIdeal.nD → PrngReg), Pre_OutGradXIdeal m →
    (∀ c : Dev Cert.OutGradXIdeal.nD,
      m' ((c.tc : Thread Cert.OutGradXRefIdeal.nD Cert.OutGradXRefIdeal.τ).loc Cert.OutGradXRefIdeal.main_arg0) = m ((c.tc : Thread Cert.OutGradXIdeal.nD Cert.OutGradXIdeal.τ).loc Cert.OutGradXIdeal.main_arg0)
      ∧ m' ((c.tc : Thread Cert.OutGradXRefIdeal.nD Cert.OutGradXRefIdeal.τ).loc Cert.OutGradXRefIdeal.main_arg1) = m ((c.tc : Thread Cert.OutGradXIdeal.nD Cert.OutGradXIdeal.τ).loc Cert.OutGradXIdeal.main_arg1)) →
    ∃ (v0 : (c : Dev Cert.OutGradXIdeal.nD) → Buf (Elt Ideal) ((c.tc : Thread Cert.OutGradXIdeal.nD Cert.OutGradXIdeal.τ).loc Cert.OutGradXIdeal.main_v0)),
      θ_run (Cert.OutGradXIdeal.defs (F := Ideal)) (onTc (τ := Cert.OutGradXIdeal.τ) (Cert.OutGradXIdeal.main (F := Ideal))) ⟨m, fun _ => 0, g⟩ (fun r => ∀ c : Dev Cert.OutGradXIdeal.nD,
          r.2.mem ((c.tc : Thread Cert.OutGradXIdeal.nD Cert.OutGradXIdeal.τ).loc Cert.OutGradXIdeal.main_v0) = v0 c
          ∧ r.2.mem ((c.tc : Thread Cert.OutGradXIdeal.nD Cert.OutGradXIdeal.τ).loc Cert.OutGradXIdeal.main_arg0) = m ((c.tc : Thread Cert.OutGradXIdeal.nD Cert.OutGradXIdeal.τ).loc Cert.OutGradXIdeal.main_arg0)
          ∧ r.2.mem ((c.tc : Thread Cert.OutGradXIdeal.nD Cert.OutGradXIdeal.τ).loc Cert.OutGradXIdeal.main_arg1) = m ((c.tc : Thread Cert.OutGradXIdeal.nD Cert.OutGradXIdeal.τ).loc Cert.OutGradXIdeal.main_arg1))
      ∧ θ_run (Cert.OutGradXRefIdeal.defs (F := Ideal)) (onTc (τ := Cert.OutGradXRefIdeal.τ) (Cert.OutGradXRefIdeal.main (F := Ideal))) ⟨m', fun _ => 0, g'⟩ (fun r => ∀ c : Dev Cert.OutGradXRefIdeal.nD,
          r.2.mem ((c.tc : Thread Cert.OutGradXRefIdeal.nD Cert.OutGradXRefIdeal.τ).loc Cert.OutGradXRefIdeal.main_v4) = v0 c
          ∧ r.2.mem ((c.tc : Thread Cert.OutGradXRefIdeal.nD Cert.OutGradXRefIdeal.τ).loc Cert.OutGradXRefIdeal.main_arg0) = m' ((c.tc : Thread Cert.OutGradXRefIdeal.nD Cert.OutGradXRefIdeal.τ).loc Cert.OutGradXRefIdeal.main_arg0)
          ∧ r.2.mem ((c.tc : Thread Cert.OutGradXRefIdeal.nD Cert.OutGradXRefIdeal.τ).loc Cert.OutGradXRefIdeal.main_arg1) = m' ((c.tc : Thread Cert.OutGradXRefIdeal.nD Cert.OutGradXRefIdeal.τ).loc Cert.OutGradXRefIdeal.main_arg1))

def preserves_FfnInGradX_FfnInGradXIdeal : Prop :=
  True

def algebraic_FfnInGradXIdeal_FfnInGradXRefIdeal [hFfnInGradXIdeal : Cert.FfnInGradXIdeal.Facts] [hFfnInGradXRefIdeal : Cert.FfnInGradXRefIdeal.Facts] : Prop :=
  ∀ (m : (ℓ : Loc Cert.FfnInGradXIdeal.nD Cert.FfnInGradXIdeal.τ Cert.FfnInGradXIdeal.sig) → Buf (Elt Ideal) ℓ) (g : Dev Cert.FfnInGradXIdeal.nD → PrngReg)
    (m' : (ℓ : Loc Cert.FfnInGradXRefIdeal.nD Cert.FfnInGradXRefIdeal.τ Cert.FfnInGradXRefIdeal.sig) → Buf (Elt Ideal) ℓ) (g' : Dev Cert.FfnInGradXRefIdeal.nD → PrngReg), Pre_FfnInGradXIdeal m →
    (∀ c : Dev Cert.FfnInGradXIdeal.nD,
      m' ((c.tc : Thread Cert.FfnInGradXRefIdeal.nD Cert.FfnInGradXRefIdeal.τ).loc Cert.FfnInGradXRefIdeal.main_arg0) = m ((c.tc : Thread Cert.FfnInGradXIdeal.nD Cert.FfnInGradXIdeal.τ).loc Cert.FfnInGradXIdeal.main_arg0)
      ∧ m' ((c.tc : Thread Cert.FfnInGradXRefIdeal.nD Cert.FfnInGradXRefIdeal.τ).loc Cert.FfnInGradXRefIdeal.main_arg1) = m ((c.tc : Thread Cert.FfnInGradXIdeal.nD Cert.FfnInGradXIdeal.τ).loc Cert.FfnInGradXIdeal.main_arg1)
      ∧ m' ((c.tc : Thread Cert.FfnInGradXRefIdeal.nD Cert.FfnInGradXRefIdeal.τ).loc Cert.FfnInGradXRefIdeal.main_arg2) = m ((c.tc : Thread Cert.FfnInGradXIdeal.nD Cert.FfnInGradXIdeal.τ).loc Cert.FfnInGradXIdeal.main_arg2)) →
    ∃ (v0 : (c : Dev Cert.FfnInGradXIdeal.nD) → Buf (Elt Ideal) ((c.tc : Thread Cert.FfnInGradXIdeal.nD Cert.FfnInGradXIdeal.τ).loc Cert.FfnInGradXIdeal.main_v0)),
      θ_run (Cert.FfnInGradXIdeal.defs (F := Ideal)) (onTc (τ := Cert.FfnInGradXIdeal.τ) (Cert.FfnInGradXIdeal.main (F := Ideal))) ⟨m, fun _ => 0, g⟩ (fun r => ∀ c : Dev Cert.FfnInGradXIdeal.nD,
          r.2.mem ((c.tc : Thread Cert.FfnInGradXIdeal.nD Cert.FfnInGradXIdeal.τ).loc Cert.FfnInGradXIdeal.main_v0) = v0 c
          ∧ r.2.mem ((c.tc : Thread Cert.FfnInGradXIdeal.nD Cert.FfnInGradXIdeal.τ).loc Cert.FfnInGradXIdeal.main_arg0) = m ((c.tc : Thread Cert.FfnInGradXIdeal.nD Cert.FfnInGradXIdeal.τ).loc Cert.FfnInGradXIdeal.main_arg0)
          ∧ r.2.mem ((c.tc : Thread Cert.FfnInGradXIdeal.nD Cert.FfnInGradXIdeal.τ).loc Cert.FfnInGradXIdeal.main_arg1) = m ((c.tc : Thread Cert.FfnInGradXIdeal.nD Cert.FfnInGradXIdeal.τ).loc Cert.FfnInGradXIdeal.main_arg1)
          ∧ r.2.mem ((c.tc : Thread Cert.FfnInGradXIdeal.nD Cert.FfnInGradXIdeal.τ).loc Cert.FfnInGradXIdeal.main_arg2) = m ((c.tc : Thread Cert.FfnInGradXIdeal.nD Cert.FfnInGradXIdeal.τ).loc Cert.FfnInGradXIdeal.main_arg2))
      ∧ θ_run (Cert.FfnInGradXRefIdeal.defs (F := Ideal)) (onTc (τ := Cert.FfnInGradXRefIdeal.τ) (Cert.FfnInGradXRefIdeal.main (F := Ideal))) ⟨m', fun _ => 0, g'⟩ (fun r => ∀ c : Dev Cert.FfnInGradXRefIdeal.nD,
          r.2.mem ((c.tc : Thread Cert.FfnInGradXRefIdeal.nD Cert.FfnInGradXRefIdeal.τ).loc Cert.FfnInGradXRefIdeal.main_v12) = v0 c
          ∧ r.2.mem ((c.tc : Thread Cert.FfnInGradXRefIdeal.nD Cert.FfnInGradXRefIdeal.τ).loc Cert.FfnInGradXRefIdeal.main_arg0) = m' ((c.tc : Thread Cert.FfnInGradXRefIdeal.nD Cert.FfnInGradXRefIdeal.τ).loc Cert.FfnInGradXRefIdeal.main_arg0)
          ∧ r.2.mem ((c.tc : Thread Cert.FfnInGradXRefIdeal.nD Cert.FfnInGradXRefIdeal.τ).loc Cert.FfnInGradXRefIdeal.main_arg1) = m' ((c.tc : Thread Cert.FfnInGradXRefIdeal.nD Cert.FfnInGradXRefIdeal.τ).loc Cert.FfnInGradXRefIdeal.main_arg1)
          ∧ r.2.mem ((c.tc : Thread Cert.FfnInGradXRefIdeal.nD Cert.FfnInGradXRefIdeal.τ).loc Cert.FfnInGradXRefIdeal.main_arg2) = m' ((c.tc : Thread Cert.FfnInGradXRefIdeal.nD Cert.FfnInGradXRefIdeal.τ).loc Cert.FfnInGradXRefIdeal.main_arg2))

def preserves_ProjGradX_ProjGradXIdeal : Prop :=
  True

def algebraic_ProjGradXIdeal_ProjGradXRefIdeal [hProjGradXIdeal : Cert.ProjGradXIdeal.Facts] [hProjGradXRefIdeal : Cert.ProjGradXRefIdeal.Facts] : Prop :=
  ∀ (m : (ℓ : Loc Cert.ProjGradXIdeal.nD Cert.ProjGradXIdeal.τ Cert.ProjGradXIdeal.sig) → Buf (Elt Ideal) ℓ) (g : Dev Cert.ProjGradXIdeal.nD → PrngReg)
    (m' : (ℓ : Loc Cert.ProjGradXRefIdeal.nD Cert.ProjGradXRefIdeal.τ Cert.ProjGradXRefIdeal.sig) → Buf (Elt Ideal) ℓ) (g' : Dev Cert.ProjGradXRefIdeal.nD → PrngReg), Pre_ProjGradXIdeal m →
    (∀ c : Dev Cert.ProjGradXIdeal.nD,
      m' ((c.tc : Thread Cert.ProjGradXRefIdeal.nD Cert.ProjGradXRefIdeal.τ).loc Cert.ProjGradXRefIdeal.main_arg0) = m ((c.tc : Thread Cert.ProjGradXIdeal.nD Cert.ProjGradXIdeal.τ).loc Cert.ProjGradXIdeal.main_arg0)
      ∧ m' ((c.tc : Thread Cert.ProjGradXRefIdeal.nD Cert.ProjGradXRefIdeal.τ).loc Cert.ProjGradXRefIdeal.main_arg1) = m ((c.tc : Thread Cert.ProjGradXIdeal.nD Cert.ProjGradXIdeal.τ).loc Cert.ProjGradXIdeal.main_arg1)) →
    ∃ (v0 : (c : Dev Cert.ProjGradXIdeal.nD) → Buf (Elt Ideal) ((c.tc : Thread Cert.ProjGradXIdeal.nD Cert.ProjGradXIdeal.τ).loc Cert.ProjGradXIdeal.main_v0)),
      θ_run (Cert.ProjGradXIdeal.defs (F := Ideal)) (onTc (τ := Cert.ProjGradXIdeal.τ) (Cert.ProjGradXIdeal.main (F := Ideal))) ⟨m, fun _ => 0, g⟩ (fun r => ∀ c : Dev Cert.ProjGradXIdeal.nD,
          r.2.mem ((c.tc : Thread Cert.ProjGradXIdeal.nD Cert.ProjGradXIdeal.τ).loc Cert.ProjGradXIdeal.main_v0) = v0 c
          ∧ r.2.mem ((c.tc : Thread Cert.ProjGradXIdeal.nD Cert.ProjGradXIdeal.τ).loc Cert.ProjGradXIdeal.main_arg0) = m ((c.tc : Thread Cert.ProjGradXIdeal.nD Cert.ProjGradXIdeal.τ).loc Cert.ProjGradXIdeal.main_arg0)
          ∧ r.2.mem ((c.tc : Thread Cert.ProjGradXIdeal.nD Cert.ProjGradXIdeal.τ).loc Cert.ProjGradXIdeal.main_arg1) = m ((c.tc : Thread Cert.ProjGradXIdeal.nD Cert.ProjGradXIdeal.τ).loc Cert.ProjGradXIdeal.main_arg1))
      ∧ θ_run (Cert.ProjGradXRefIdeal.defs (F := Ideal)) (onTc (τ := Cert.ProjGradXRefIdeal.τ) (Cert.ProjGradXRefIdeal.main (F := Ideal))) ⟨m', fun _ => 0, g'⟩ (fun r => ∀ c : Dev Cert.ProjGradXRefIdeal.nD,
          r.2.mem ((c.tc : Thread Cert.ProjGradXRefIdeal.nD Cert.ProjGradXRefIdeal.τ).loc Cert.ProjGradXRefIdeal.main_v6) = v0 c
          ∧ r.2.mem ((c.tc : Thread Cert.ProjGradXRefIdeal.nD Cert.ProjGradXRefIdeal.τ).loc Cert.ProjGradXRefIdeal.main_arg0) = m' ((c.tc : Thread Cert.ProjGradXRefIdeal.nD Cert.ProjGradXRefIdeal.τ).loc Cert.ProjGradXRefIdeal.main_arg0)
          ∧ r.2.mem ((c.tc : Thread Cert.ProjGradXRefIdeal.nD Cert.ProjGradXRefIdeal.τ).loc Cert.ProjGradXRefIdeal.main_arg1) = m' ((c.tc : Thread Cert.ProjGradXRefIdeal.nD Cert.ProjGradXRefIdeal.τ).loc Cert.ProjGradXRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v5) = v0 c
          ∧ r.2.mem ((c.tc : Thread Cert.FfnInRefIdeal.nD Cert.FfnInRefIdeal.τ).loc Cert.FfnInRefIdeal.main_v6) = v1 c
          ∧ r.2.mem ((c.tc : Thread Cert.FfnInRefIdeal.nD Cert.FfnInRefIdeal.τ).loc Cert.FfnInRefIdeal.main_v9) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_NormStep_NormStepIdeal : Prop :=
  True

def algebraic_NormStepIdeal_NormStepRefIdeal [hNormStepIdeal : Cert.NormStepIdeal.Facts] [hNormStepRefIdeal : Cert.NormStepRefIdeal.Facts] : Prop :=
  ∀ (m : (ℓ : Loc Cert.NormStepIdeal.nD Cert.NormStepIdeal.τ Cert.NormStepIdeal.sig) → Buf (Elt Ideal) ℓ) (g : Dev Cert.NormStepIdeal.nD → PrngReg)
    (m' : (ℓ : Loc Cert.NormStepRefIdeal.nD Cert.NormStepRefIdeal.τ Cert.NormStepRefIdeal.sig) → Buf (Elt Ideal) ℓ) (g' : Dev Cert.NormStepRefIdeal.nD → PrngReg), Pre_NormStepIdeal m →
    (∀ c : Dev Cert.NormStepIdeal.nD,
      m' ((c.tc : Thread Cert.NormStepRefIdeal.nD Cert.NormStepRefIdeal.τ).loc Cert.NormStepRefIdeal.main_arg0) = m ((c.tc : Thread Cert.NormStepIdeal.nD Cert.NormStepIdeal.τ).loc Cert.NormStepIdeal.main_arg0)
      ∧ m' ((c.tc : Thread Cert.NormStepRefIdeal.nD Cert.NormStepRefIdeal.τ).loc Cert.NormStepRefIdeal.main_arg1) = m ((c.tc : Thread Cert.NormStepIdeal.nD Cert.NormStepIdeal.τ).loc Cert.NormStepIdeal.main_arg1)
      ∧ m' ((c.tc : Thread Cert.NormStepRefIdeal.nD Cert.NormStepRefIdeal.τ).loc Cert.NormStepRefIdeal.main_arg2) = m ((c.tc : Thread Cert.NormStepIdeal.nD Cert.NormStepIdeal.τ).loc Cert.NormStepIdeal.main_arg2)
      ∧ m' ((c.tc : Thread Cert.NormStepRefIdeal.nD Cert.NormStepRefIdeal.τ).loc Cert.NormStepRefIdeal.main_arg3) = m ((c.tc : Thread Cert.NormStepIdeal.nD Cert.NormStepIdeal.τ).loc Cert.NormStepIdeal.main_arg3)) →
    ∃ (v0 : (c : Dev Cert.NormStepIdeal.nD) → Buf (Elt Ideal) ((c.tc : Thread Cert.NormStepIdeal.nD Cert.NormStepIdeal.τ).loc Cert.NormStepIdeal.main_v11)) (v1 : (c : Dev Cert.NormStepIdeal.nD) → Buf (Elt Ideal) ((c.tc : Thread Cert.NormStepIdeal.nD Cert.NormStepIdeal.τ).loc Cert.NormStepIdeal.main_v12)) (v2 : (c : Dev Cert.NormStepIdeal.nD) → Buf (Elt Ideal) ((c.tc : Thread Cert.NormStepIdeal.nD Cert.NormStepIdeal.τ).loc Cert.NormStepIdeal.main_v13)) (v3 : (c : Dev Cert.NormStepIdeal.nD) → Buf (Elt Ideal) ((c.tc : Thread Cert.NormStepIdeal.nD Cert.NormStepIdeal.τ).loc Cert.NormStepIdeal.main_v14)),
      θ_run (Cert.NormStepIdeal.defs (F := Ideal)) (onTc (τ := Cert.NormStepIdeal.τ) (Cert.NormStepIdeal.main (F := Ideal))) ⟨m, fun _ => 0, g⟩ (fun r => ∀ c : Dev Cert.NormStepIdeal.nD,
          r.2.mem ((c.tc : Thread Cert.NormStepIdeal.nD Cert.NormStepIdeal.τ).loc Cert.NormStepIdeal.main_v11) = v0 c
          ∧ r.2.mem ((c.tc : Thread Cert.NormStepIdeal.nD Cert.NormStepIdeal.τ).loc Cert.NormStepIdeal.main_v12) = v1 c
          ∧ r.2.mem ((c.tc : Thread Cert.NormStepIdeal.nD Cert.NormStepIdeal.τ).loc Cert.NormStepIdeal.main_v13) = v2 c
          ∧ r.2.mem ((c.tc : Thread Cert.NormStepIdeal.nD Cert.NormStepIdeal.τ).loc Cert.NormStepIdeal.main_v14) = v3 c
          ∧ r.2.mem ((c.tc : Thread Cert.NormStepIdeal.nD Cert.NormStepIdeal.τ).loc Cert.NormStepIdeal.main_arg0) = m ((c.tc : Thread Cert.NormStepIdeal.nD Cert.NormStepIdeal.τ).loc Cert.NormStepIdeal.main_arg0)
          ∧ r.2.mem ((c.tc : Thread Cert.NormStepIdeal.nD Cert.NormStepIdeal.τ).loc Cert.NormStepIdeal.main_arg1) = m ((c.tc : Thread Cert.NormStepIdeal.nD Cert.NormStepIdeal.τ).loc Cert.NormStepIdeal.main_arg1)
          ∧ r.2.mem ((c.tc : Thread Cert.NormStepIdeal.nD Cert.NormStepIdeal.τ).loc Cert.NormStepIdeal.main_arg2) = m ((c.tc : Thread Cert.NormStepIdeal.nD Cert.NormStepIdeal.τ).loc Cert.NormStepIdeal.main_arg2)
          ∧ r.2.mem ((c.tc : Thread Cert.NormStepIdeal.nD Cert.NormStepIdeal.τ).loc Cert.NormStepIdeal.main_arg3) = m ((c.tc : Thread Cert.NormStepIdeal.nD Cert.NormStepIdeal.τ).loc Cert.NormStepIdeal.main_arg3))
      ∧ θ_run (Cert.NormStepRefIdeal.defs (F := Ideal)) (onTc (τ := Cert.NormStepRefIdeal.τ) (Cert.NormStepRefIdeal.main (F := Ideal))) ⟨m', fun _ => 0, g'⟩ (fun r => ∀ c : Dev Cert.NormStepRefIdeal.nD,
          r.2.mem ((c.tc : Thread Cert.NormStepRefIdeal.nD Cert.NormStepRefIdeal.τ).loc Cert.NormStepRefIdeal.main_v0) = v0 c
          ∧ r.2.mem ((c.tc : Thread Cert.NormStepRefIdeal.nD Cert.NormStepRefIdeal.τ).loc Cert.NormStepRefIdeal.main_v24) = v1 c
          ∧ r.2.mem ((c.tc : Thread Cert.NormStepRefIdeal.nD Cert.NormStepRefIdeal.τ).loc Cert.NormStepRefIdeal.main_v5) = v2 c
          ∧ r.2.mem ((c.tc : Thread Cert.NormStepRefIdeal.nD Cert.NormStepRefIdeal.τ).loc Cert.NormStepRefIdeal.main_v11) = v3 c
          ∧ r.2.mem ((c.tc : Thread Cert.NormStepRefIdeal.nD Cert.NormStepRefIdeal.τ).loc Cert.NormStepRefIdeal.main_arg0) = m' ((c.tc : Thread Cert.NormStepRefIdeal.nD Cert.NormStepRefIdeal.τ).loc Cert.NormStepRefIdeal.main_arg0)
          ∧ r.2.mem ((c.tc : Thread Cert.NormStepRefIdeal.nD Cert.NormStepRefIdeal.τ).loc Cert.NormStepRefIdeal.main_arg1) = m' ((c.tc : Thread Cert.NormStepRefIdeal.nD Cert.NormStepRefIdeal.τ).loc Cert.NormStepRefIdeal.main_arg1)
          ∧ r.2.mem ((c.tc : Thread Cert.NormStepRefIdeal.nD Cert.NormStepRefIdeal.τ).loc Cert.NormStepRefIdeal.main_arg2) = m' ((c.tc : Thread Cert.NormStepRefIdeal.nD Cert.NormStepRefIdeal.τ).loc Cert.NormStepRefIdeal.main_arg2)
          ∧ r.2.mem ((c.tc : Thread Cert.NormStepRefIdeal.nD Cert.NormStepRefIdeal.τ).loc Cert.NormStepRefIdeal.main_arg3) = m' ((c.tc : Thread Cert.NormStepRefIdeal.nD Cert.NormStepRefIdeal.τ).loc Cert.NormStepRefIdeal.main_arg3))

def preserves_FfnInStep_FfnInStepIdeal : Prop :=
  True

def algebraic_FfnInStepIdeal_FfnInStepRefIdeal [hFfnInStepIdeal : Cert.FfnInStepIdeal.Facts] [hFfnInStepRefIdeal : Cert.FfnInStepRefIdeal.Facts] : Prop :=
  ∀ (m : (ℓ : Loc Cert.FfnInStepIdeal.nD Cert.FfnInStepIdeal.τ Cert.FfnInStepIdeal.sig) → Buf (Elt Ideal) ℓ) (g : Dev Cert.FfnInStepIdeal.nD → PrngReg)
    (m' : (ℓ : Loc Cert.FfnInStepRefIdeal.nD Cert.FfnInStepRefIdeal.τ Cert.FfnInStepRefIdeal.sig) → Buf (Elt Ideal) ℓ) (g' : Dev Cert.FfnInStepRefIdeal.nD → PrngReg), Pre_FfnInStepIdeal m →
    (∀ c : Dev Cert.FfnInStepIdeal.nD,
      m' ((c.tc : Thread Cert.FfnInStepRefIdeal.nD Cert.FfnInStepRefIdeal.τ).loc Cert.FfnInStepRefIdeal.main_arg0) = m ((c.tc : Thread Cert.FfnInStepIdeal.nD Cert.FfnInStepIdeal.τ).loc Cert.FfnInStepIdeal.main_arg0)
      ∧ m' ((c.tc : Thread Cert.FfnInStepRefIdeal.nD Cert.FfnInStepRefIdeal.τ).loc Cert.FfnInStepRefIdeal.main_arg1) = m ((c.tc : Thread Cert.FfnInStepIdeal.nD Cert.FfnInStepIdeal.τ).loc Cert.FfnInStepIdeal.main_arg1)
      ∧ m' ((c.tc : Thread Cert.FfnInStepRefIdeal.nD Cert.FfnInStepRefIdeal.τ).loc Cert.FfnInStepRefIdeal.main_arg2) = m ((c.tc : Thread Cert.FfnInStepIdeal.nD Cert.FfnInStepIdeal.τ).loc Cert.FfnInStepIdeal.main_arg2)
      ∧ m' ((c.tc : Thread Cert.FfnInStepRefIdeal.nD Cert.FfnInStepRefIdeal.τ).loc Cert.FfnInStepRefIdeal.main_arg3) = m ((c.tc : Thread Cert.FfnInStepIdeal.nD Cert.FfnInStepIdeal.τ).loc Cert.FfnInStepIdeal.main_arg3)
      ∧ m' ((c.tc : Thread Cert.FfnInStepRefIdeal.nD Cert.FfnInStepRefIdeal.τ).loc Cert.FfnInStepRefIdeal.main_arg4) = m ((c.tc : Thread Cert.FfnInStepIdeal.nD Cert.FfnInStepIdeal.τ).loc Cert.FfnInStepIdeal.main_arg4)
      ∧ m' ((c.tc : Thread Cert.FfnInStepRefIdeal.nD Cert.FfnInStepRefIdeal.τ).loc Cert.FfnInStepRefIdeal.main_arg5) = m ((c.tc : Thread Cert.FfnInStepIdeal.nD Cert.FfnInStepIdeal.τ).loc Cert.FfnInStepIdeal.main_arg5)
      ∧ m' ((c.tc : Thread Cert.FfnInStepRefIdeal.nD Cert.FfnInStepRefIdeal.τ).loc Cert.FfnInStepRefIdeal.main_arg6) = m ((c.tc : Thread Cert.FfnInStepIdeal.nD Cert.FfnInStepIdeal.τ).loc Cert.FfnInStepIdeal.main_arg6)) →
    ∃ (v0 : (c : Dev Cert.FfnInStepIdeal.nD) → Buf (Elt Ideal) ((c.tc : Thread Cert.FfnInStepIdeal.nD Cert.FfnInStepIdeal.τ).loc Cert.FfnInStepIdeal.main_v0_0)) (v1 : (c : Dev Cert.FfnInStepIdeal.nD) → Buf (Elt Ideal) ((c.tc : Thread Cert.FfnInStepIdeal.nD Cert.FfnInStepIdeal.τ).loc Cert.FfnInStepIdeal.main_v0_1)) (v2 : (c : Dev Cert.FfnInStepIdeal.nD) → Buf (Elt Ideal) ((c.tc : Thread Cert.FfnInStepIdeal.nD Cert.FfnInStepIdeal.τ).loc Cert.FfnInStepIdeal.main_v0_2)) (v3 : (c : Dev Cert.FfnInStepIdeal.nD) → Buf (Elt Ideal) ((c.tc : Thread Cert.FfnInStepIdeal.nD Cert.FfnInStepIdeal.τ).loc Cert.FfnInStepIdeal.main_v0_3)),
      θ_run (Cert.FfnInStepIdeal.defs (F := Ideal)) (onTc (τ := Cert.FfnInStepIdeal.τ) (Cert.FfnInStepIdeal.main (F := Ideal))) ⟨m, fun _ => 0, g⟩ (fun r => ∀ c : Dev Cert.FfnInStepIdeal.nD,
          r.2.mem ((c.tc : Thread Cert.FfnInStepIdeal.nD Cert.FfnInStepIdeal.τ).loc Cert.FfnInStepIdeal.main_v0_0) = v0 c
          ∧ r.2.mem ((c.tc : Thread Cert.FfnInStepIdeal.nD Cert.FfnInStepIdeal.τ).loc Cert.FfnInStepIdeal.main_v0_1) = v1 c
          ∧ r.2.mem ((c.tc : Thread Cert.FfnInStepIdeal.nD Cert.FfnInStepIdeal.τ).loc Cert.FfnInStepIdeal.main_v0_2) = v2 c
          ∧ r.2.mem ((c.tc : Thread Cert.FfnInStepIdeal.nD Cert.FfnInStepIdeal.τ).loc Cert.FfnInStepIdeal.main_v0_3) = v3 c
          ∧ r.2.mem ((c.tc : Thread Cert.FfnInStepIdeal.nD Cert.FfnInStepIdeal.τ).loc Cert.FfnInStepIdeal.main_arg0) = m ((c.tc : Thread Cert.FfnInStepIdeal.nD Cert.FfnInStepIdeal.τ).loc Cert.FfnInStepIdeal.main_arg0)
          ∧ r.2.mem ((c.tc : Thread Cert.FfnInStepIdeal.nD Cert.FfnInStepIdeal.τ).loc Cert.FfnInStepIdeal.main_arg1) = m ((c.tc : Thread Cert.FfnInStepIdeal.nD Cert.FfnInStepIdeal.τ).loc Cert.FfnInStepIdeal.main_arg1)
          ∧ r.2.mem ((c.tc : Thread Cert.FfnInStepIdeal.nD Cert.FfnInStepIdeal.τ).loc Cert.FfnInStepIdeal.main_arg2) = m ((c.tc : Thread Cert.FfnInStepIdeal.nD Cert.FfnInStepIdeal.τ).loc Cert.FfnInStepIdeal.main_arg2)
          ∧ r.2.mem ((c.tc : Thread Cert.FfnInStepIdeal.nD Cert.FfnInStepIdeal.τ).loc Cert.FfnInStepIdeal.main_arg3) = m ((c.tc : Thread Cert.FfnInStepIdeal.nD Cert.FfnInStepIdeal.τ).loc Cert.FfnInStepIdeal.main_arg3)
          ∧ r.2.mem ((c.tc : Thread Cert.FfnInStepIdeal.nD Cert.FfnInStepIdeal.τ).loc Cert.FfnInStepIdeal.main_arg4) = m ((c.tc : Thread Cert.FfnInStepIdeal.nD Cert.FfnInStepIdeal.τ).loc Cert.FfnInStepIdeal.main_arg4)
          ∧ r.2.mem ((c.tc : Thread Cert.FfnInStepIdeal.nD Cert.FfnInStepIdeal.τ).loc Cert.FfnInStepIdeal.main_arg5) = m ((c.tc : Thread Cert.FfnInStepIdeal.nD Cert.FfnInStepIdeal.τ).loc Cert.FfnInStepIdeal.main_arg5)
          ∧ r.2.mem ((c.tc : Thread Cert.FfnInStepIdeal.nD Cert.FfnInStepIdeal.τ).loc Cert.FfnInStepIdeal.main_arg6) = m ((c.tc : Thread Cert.FfnInStepIdeal.nD Cert.FfnInStepIdeal.τ).loc Cert.FfnInStepIdeal.main_arg6))
      ∧ θ_run (Cert.FfnInStepRefIdeal.defs (F := Ideal)) (onTc (τ := Cert.FfnInStepRefIdeal.τ) (Cert.FfnInStepRefIdeal.main (F := Ideal))) ⟨m', fun _ => 0, g'⟩ (fun r => ∀ c : Dev Cert.FfnInStepRefIdeal.nD,
          r.2.mem ((c.tc : Thread Cert.FfnInStepRefIdeal.nD Cert.FfnInStepRefIdeal.τ).loc Cert.FfnInStepRefIdeal.main_v12) = v0 c
          ∧ r.2.mem ((c.tc : Thread Cert.FfnInStepRefIdeal.nD Cert.FfnInStepRefIdeal.τ).loc Cert.FfnInStepRefIdeal.main_v36) = v1 c
          ∧ r.2.mem ((c.tc : Thread Cert.FfnInStepRefIdeal.nD Cert.FfnInStepRefIdeal.τ).loc Cert.FfnInStepRefIdeal.main_v17) = v2 c
          ∧ r.2.mem ((c.tc : Thread Cert.FfnInStepRefIdeal.nD Cert.FfnInStepRefIdeal.τ).loc Cert.FfnInStepRefIdeal.main_v23) = v3 c
          ∧ r.2.mem ((c.tc : Thread Cert.FfnInStepRefIdeal.nD Cert.FfnInStepRefIdeal.τ).loc Cert.FfnInStepRefIdeal.main_arg0) = m' ((c.tc : Thread Cert.FfnInStepRefIdeal.nD Cert.FfnInStepRefIdeal.τ).loc Cert.FfnInStepRefIdeal.main_arg0)
          ∧ r.2.mem ((c.tc : Thread Cert.FfnInStepRefIdeal.nD Cert.FfnInStepRefIdeal.τ).loc Cert.FfnInStepRefIdeal.main_arg1) = m' ((c.tc : Thread Cert.FfnInStepRefIdeal.nD Cert.FfnInStepRefIdeal.τ).loc Cert.FfnInStepRefIdeal.main_arg1)
          ∧ r.2.mem ((c.tc : Thread Cert.FfnInStepRefIdeal.nD Cert.FfnInStepRefIdeal.τ).loc Cert.FfnInStepRefIdeal.main_arg2) = m' ((c.tc : Thread Cert.FfnInStepRefIdeal.nD Cert.FfnInStepRefIdeal.τ).loc Cert.FfnInStepRefIdeal.main_arg2)
          ∧ r.2.mem ((c.tc : Thread Cert.FfnInStepRefIdeal.nD Cert.FfnInStepRefIdeal.τ).loc Cert.FfnInStepRefIdeal.main_arg3) = m' ((c.tc : Thread Cert.FfnInStepRefIdeal.nD Cert.FfnInStepRefIdeal.τ).loc Cert.FfnInStepRefIdeal.main_arg3)
          ∧ r.2.mem ((c.tc : Thread Cert.FfnInStepRefIdeal.nD Cert.FfnInStepRefIdeal.τ).loc Cert.FfnInStepRefIdeal.main_arg4) = m' ((c.tc : Thread Cert.FfnInStepRefIdeal.nD Cert.FfnInStepRefIdeal.τ).loc Cert.FfnInStepRefIdeal.main_arg4)
          ∧ r.2.mem ((c.tc : Thread Cert.FfnInStepRefIdeal.nD Cert.FfnInStepRefIdeal.τ).loc Cert.FfnInStepRefIdeal.main_arg5) = m' ((c.tc : Thread Cert.FfnInStepRefIdeal.nD Cert.FfnInStepRefIdeal.τ).loc Cert.FfnInStepRefIdeal.main_arg5)
          ∧ r.2.mem ((c.tc : Thread Cert.FfnInStepRefIdeal.nD Cert.FfnInStepRefIdeal.τ).loc Cert.FfnInStepRefIdeal.main_arg6) = m' ((c.tc : Thread Cert.FfnInStepRefIdeal.nD Cert.FfnInStepRefIdeal.τ).loc Cert.FfnInStepRefIdeal.main_arg6))

def preserves_AdaStep_AdaStepIdeal : Prop :=
  True

def algebraic_AdaStepIdeal_AdaStepRefIdeal [hAdaStepIdeal : Cert.AdaStepIdeal.Facts] [hAdaStepRefIdeal : Cert.AdaStepRefIdeal.Facts] : Prop :=
  ∀ (m : (ℓ : Loc Cert.AdaStepIdeal.nD Cert.AdaStepIdeal.τ Cert.AdaStepIdeal.sig) → Buf (Elt Ideal) ℓ) (g : Dev Cert.AdaStepIdeal.nD → PrngReg)
    (m' : (ℓ : Loc Cert.AdaStepRefIdeal.nD Cert.AdaStepRefIdeal.τ Cert.AdaStepRefIdeal.sig) → Buf (Elt Ideal) ℓ) (g' : Dev Cert.AdaStepRefIdeal.nD → PrngReg), Pre_AdaStepIdeal m →
    (∀ c : Dev Cert.AdaStepIdeal.nD,
      m' ((c.tc : Thread Cert.AdaStepRefIdeal.nD Cert.AdaStepRefIdeal.τ).loc Cert.AdaStepRefIdeal.main_arg0) = m ((c.tc : Thread Cert.AdaStepIdeal.nD Cert.AdaStepIdeal.τ).loc Cert.AdaStepIdeal.main_arg0)
      ∧ m' ((c.tc : Thread Cert.AdaStepRefIdeal.nD Cert.AdaStepRefIdeal.τ).loc Cert.AdaStepRefIdeal.main_arg1) = m ((c.tc : Thread Cert.AdaStepIdeal.nD Cert.AdaStepIdeal.τ).loc Cert.AdaStepIdeal.main_arg1)
      ∧ m' ((c.tc : Thread Cert.AdaStepRefIdeal.nD Cert.AdaStepRefIdeal.τ).loc Cert.AdaStepRefIdeal.main_arg2) = m ((c.tc : Thread Cert.AdaStepIdeal.nD Cert.AdaStepIdeal.τ).loc Cert.AdaStepIdeal.main_arg2)
      ∧ m' ((c.tc : Thread Cert.AdaStepRefIdeal.nD Cert.AdaStepRefIdeal.τ).loc Cert.AdaStepRefIdeal.main_arg3) = m ((c.tc : Thread Cert.AdaStepIdeal.nD Cert.AdaStepIdeal.τ).loc Cert.AdaStepIdeal.main_arg3)
      ∧ m' ((c.tc : Thread Cert.AdaStepRefIdeal.nD Cert.AdaStepRefIdeal.τ).loc Cert.AdaStepRefIdeal.main_arg4) = m ((c.tc : Thread Cert.AdaStepIdeal.nD Cert.AdaStepIdeal.τ).loc Cert.AdaStepIdeal.main_arg4)) →
    ∃ (v0 : (c : Dev Cert.AdaStepIdeal.nD) → Buf (Elt Ideal) ((c.tc : Thread Cert.AdaStepIdeal.nD Cert.AdaStepIdeal.τ).loc Cert.AdaStepIdeal.main_v4_0)) (v1 : (c : Dev Cert.AdaStepIdeal.nD) → Buf (Elt Ideal) ((c.tc : Thread Cert.AdaStepIdeal.nD Cert.AdaStepIdeal.τ).loc Cert.AdaStepIdeal.main_v4_1)) (v2 : (c : Dev Cert.AdaStepIdeal.nD) → Buf (Elt Ideal) ((c.tc : Thread Cert.AdaStepIdeal.nD Cert.AdaStepIdeal.τ).loc Cert.AdaStepIdeal.main_v4_2)) (v3 : (c : Dev Cert.AdaStepIdeal.nD) → Buf (Elt Ideal) ((c.tc : Thread Cert.AdaStepIdeal.nD Cert.AdaStepIdeal.τ).loc Cert.AdaStepIdeal.main_v4_3)),
      θ_run (Cert.AdaStepIdeal.defs (F := Ideal)) (onTc (τ := Cert.AdaStepIdeal.τ) (Cert.AdaStepIdeal.main (F := Ideal))) ⟨m, fun _ => 0, g⟩ (fun r => ∀ c : Dev Cert.AdaStepIdeal.nD,
          r.2.mem ((c.tc : Thread Cert.AdaStepIdeal.nD Cert.AdaStepIdeal.τ).loc Cert.AdaStepIdeal.main_v4_0) = v0 c
          ∧ r.2.mem ((c.tc : Thread Cert.AdaStepIdeal.nD Cert.AdaStepIdeal.τ).loc Cert.AdaStepIdeal.main_v4_1) = v1 c
          ∧ r.2.mem ((c.tc : Thread Cert.AdaStepIdeal.nD Cert.AdaStepIdeal.τ).loc Cert.AdaStepIdeal.main_v4_2) = v2 c
          ∧ r.2.mem ((c.tc : Thread Cert.AdaStepIdeal.nD Cert.AdaStepIdeal.τ).loc Cert.AdaStepIdeal.main_v4_3) = v3 c
          ∧ r.2.mem ((c.tc : Thread Cert.AdaStepIdeal.nD Cert.AdaStepIdeal.τ).loc Cert.AdaStepIdeal.main_arg0) = m ((c.tc : Thread Cert.AdaStepIdeal.nD Cert.AdaStepIdeal.τ).loc Cert.AdaStepIdeal.main_arg0)
          ∧ r.2.mem ((c.tc : Thread Cert.AdaStepIdeal.nD Cert.AdaStepIdeal.τ).loc Cert.AdaStepIdeal.main_arg1) = m ((c.tc : Thread Cert.AdaStepIdeal.nD Cert.AdaStepIdeal.τ).loc Cert.AdaStepIdeal.main_arg1)
          ∧ r.2.mem ((c.tc : Thread Cert.AdaStepIdeal.nD Cert.AdaStepIdeal.τ).loc Cert.AdaStepIdeal.main_arg2) = m ((c.tc : Thread Cert.AdaStepIdeal.nD Cert.AdaStepIdeal.τ).loc Cert.AdaStepIdeal.main_arg2)
          ∧ r.2.mem ((c.tc : Thread Cert.AdaStepIdeal.nD Cert.AdaStepIdeal.τ).loc Cert.AdaStepIdeal.main_arg3) = m ((c.tc : Thread Cert.AdaStepIdeal.nD Cert.AdaStepIdeal.τ).loc Cert.AdaStepIdeal.main_arg3)
          ∧ r.2.mem ((c.tc : Thread Cert.AdaStepIdeal.nD Cert.AdaStepIdeal.τ).loc Cert.AdaStepIdeal.main_arg4) = m ((c.tc : Thread Cert.AdaStepIdeal.nD Cert.AdaStepIdeal.τ).loc Cert.AdaStepIdeal.main_arg4))
      ∧ θ_run (Cert.AdaStepRefIdeal.defs (F := Ideal)) (onTc (τ := Cert.AdaStepRefIdeal.τ) (Cert.AdaStepRefIdeal.main (F := Ideal))) ⟨m', fun _ => 0, g'⟩ (fun r => ∀ c : Dev Cert.AdaStepRefIdeal.nD,
          r.2.mem ((c.tc : Thread Cert.AdaStepRefIdeal.nD Cert.AdaStepRefIdeal.τ).loc Cert.AdaStepRefIdeal.main_v2) = v0 c
          ∧ r.2.mem ((c.tc : Thread Cert.AdaStepRefIdeal.nD Cert.AdaStepRefIdeal.τ).loc Cert.AdaStepRefIdeal.main_v26) = v1 c
          ∧ r.2.mem ((c.tc : Thread Cert.AdaStepRefIdeal.nD Cert.AdaStepRefIdeal.τ).loc Cert.AdaStepRefIdeal.main_v7) = v2 c
          ∧ r.2.mem ((c.tc : Thread Cert.AdaStepRefIdeal.nD Cert.AdaStepRefIdeal.τ).loc Cert.AdaStepRefIdeal.main_v13) = v3 c
          ∧ r.2.mem ((c.tc : Thread Cert.AdaStepRefIdeal.nD Cert.AdaStepRefIdeal.τ).loc Cert.AdaStepRefIdeal.main_arg0) = m' ((c.tc : Thread Cert.AdaStepRefIdeal.nD Cert.AdaStepRefIdeal.τ).loc Cert.AdaStepRefIdeal.main_arg0)
          ∧ r.2.mem ((c.tc : Thread Cert.AdaStepRefIdeal.nD Cert.AdaStepRefIdeal.τ).loc Cert.AdaStepRefIdeal.main_arg1) = m' ((c.tc : Thread Cert.AdaStepRefIdeal.nD Cert.AdaStepRefIdeal.τ).loc Cert.AdaStepRefIdeal.main_arg1)
          ∧ r.2.mem ((c.tc : Thread Cert.AdaStepRefIdeal.nD Cert.AdaStepRefIdeal.τ).loc Cert.AdaStepRefIdeal.main_arg2) = m' ((c.tc : Thread Cert.AdaStepRefIdeal.nD Cert.AdaStepRefIdeal.τ).loc Cert.AdaStepRefIdeal.main_arg2)
          ∧ r.2.mem ((c.tc : Thread Cert.AdaStepRefIdeal.nD Cert.AdaStepRefIdeal.τ).loc Cert.AdaStepRefIdeal.main_arg3) = m' ((c.tc : Thread Cert.AdaStepRefIdeal.nD Cert.AdaStepRefIdeal.τ).loc Cert.AdaStepRefIdeal.main_arg3)
          ∧ r.2.mem ((c.tc : Thread Cert.AdaStepRefIdeal.nD Cert.AdaStepRefIdeal.τ).loc Cert.AdaStepRefIdeal.main_arg4) = m' ((c.tc : Thread Cert.AdaStepRefIdeal.nD Cert.AdaStepRefIdeal.τ).loc Cert.AdaStepRefIdeal.main_arg4))

def preserves_HeadStep_HeadStepIdeal : Prop :=
  True

def algebraic_HeadStepIdeal_HeadStepRefIdeal [hHeadStepIdeal : Cert.HeadStepIdeal.Facts] [hHeadStepRefIdeal : Cert.HeadStepRefIdeal.Facts] : Prop :=
  ∀ (m : (ℓ : Loc Cert.HeadStepIdeal.nD Cert.HeadStepIdeal.τ Cert.HeadStepIdeal.sig) → Buf (Elt Ideal) ℓ) (g : Dev Cert.HeadStepIdeal.nD → PrngReg)
    (m' : (ℓ : Loc Cert.HeadStepRefIdeal.nD Cert.HeadStepRefIdeal.τ Cert.HeadStepRefIdeal.sig) → Buf (Elt Ideal) ℓ) (g' : Dev Cert.HeadStepRefIdeal.nD → PrngReg), Pre_HeadStepIdeal m →
    (∀ c : Dev Cert.HeadStepIdeal.nD,
      m' ((c.tc : Thread Cert.HeadStepRefIdeal.nD Cert.HeadStepRefIdeal.τ).loc Cert.HeadStepRefIdeal.main_arg0) = m ((c.tc : Thread Cert.HeadStepIdeal.nD Cert.HeadStepIdeal.τ).loc Cert.HeadStepIdeal.main_arg0)
      ∧ m' ((c.tc : Thread Cert.HeadStepRefIdeal.nD Cert.HeadStepRefIdeal.τ).loc Cert.HeadStepRefIdeal.main_arg1) = m ((c.tc : Thread Cert.HeadStepIdeal.nD Cert.HeadStepIdeal.τ).loc Cert.HeadStepIdeal.main_arg1)
      ∧ m' ((c.tc : Thread Cert.HeadStepRefIdeal.nD Cert.HeadStepRefIdeal.τ).loc Cert.HeadStepRefIdeal.main_arg2) = m ((c.tc : Thread Cert.HeadStepIdeal.nD Cert.HeadStepIdeal.τ).loc Cert.HeadStepIdeal.main_arg2)
      ∧ m' ((c.tc : Thread Cert.HeadStepRefIdeal.nD Cert.HeadStepRefIdeal.τ).loc Cert.HeadStepRefIdeal.main_arg3) = m ((c.tc : Thread Cert.HeadStepIdeal.nD Cert.HeadStepIdeal.τ).loc Cert.HeadStepIdeal.main_arg3)) →
    ∃ (v0 : (c : Dev Cert.HeadStepIdeal.nD) → Buf (Elt Ideal) ((c.tc : Thread Cert.HeadStepIdeal.nD Cert.HeadStepIdeal.τ).loc Cert.HeadStepIdeal.main_v11)) (v1 : (c : Dev Cert.HeadStepIdeal.nD) → Buf (Elt Ideal) ((c.tc : Thread Cert.HeadStepIdeal.nD Cert.HeadStepIdeal.τ).loc Cert.HeadStepIdeal.main_v12)) (v2 : (c : Dev Cert.HeadStepIdeal.nD) → Buf (Elt Ideal) ((c.tc : Thread Cert.HeadStepIdeal.nD Cert.HeadStepIdeal.τ).loc Cert.HeadStepIdeal.main_v13)) (v3 : (c : Dev Cert.HeadStepIdeal.nD) → Buf (Elt Ideal) ((c.tc : Thread Cert.HeadStepIdeal.nD Cert.HeadStepIdeal.τ).loc Cert.HeadStepIdeal.main_v14)),
      θ_run (Cert.HeadStepIdeal.defs (F := Ideal)) (onTc (τ := Cert.HeadStepIdeal.τ) (Cert.HeadStepIdeal.main (F := Ideal))) ⟨m, fun _ => 0, g⟩ (fun r => ∀ c : Dev Cert.HeadStepIdeal.nD,
          r.2.mem ((c.tc : Thread Cert.HeadStepIdeal.nD Cert.HeadStepIdeal.τ).loc Cert.HeadStepIdeal.main_v11) = v0 c
          ∧ r.2.mem ((c.tc : Thread Cert.HeadStepIdeal.nD Cert.HeadStepIdeal.τ).loc Cert.HeadStepIdeal.main_v12) = v1 c
          ∧ r.2.mem ((c.tc : Thread Cert.HeadStepIdeal.nD Cert.HeadStepIdeal.τ).loc Cert.HeadStepIdeal.main_v13) = v2 c
          ∧ r.2.mem ((c.tc : Thread Cert.HeadStepIdeal.nD Cert.HeadStepIdeal.τ).loc Cert.HeadStepIdeal.main_v14) = v3 c
          ∧ r.2.mem ((c.tc : Thread Cert.HeadStepIdeal.nD Cert.HeadStepIdeal.τ).loc Cert.HeadStepIdeal.main_arg0) = m ((c.tc : Thread Cert.HeadStepIdeal.nD Cert.HeadStepIdeal.τ).loc Cert.HeadStepIdeal.main_arg0)
          ∧ r.2.mem ((c.tc : Thread Cert.HeadStepIdeal.nD Cert.HeadStepIdeal.τ).loc Cert.HeadStepIdeal.main_arg1) = m ((c.tc : Thread Cert.HeadStepIdeal.nD Cert.HeadStepIdeal.τ).loc Cert.HeadStepIdeal.main_arg1)
          ∧ r.2.mem ((c.tc : Thread Cert.HeadStepIdeal.nD Cert.HeadStepIdeal.τ).loc Cert.HeadStepIdeal.main_arg2) = m ((c.tc : Thread Cert.HeadStepIdeal.nD Cert.HeadStepIdeal.τ).loc Cert.HeadStepIdeal.main_arg2)
          ∧ r.2.mem ((c.tc : Thread Cert.HeadStepIdeal.nD Cert.HeadStepIdeal.τ).loc Cert.HeadStepIdeal.main_arg3) = m ((c.tc : Thread Cert.HeadStepIdeal.nD Cert.HeadStepIdeal.τ).loc Cert.HeadStepIdeal.main_arg3))
      ∧ θ_run (Cert.HeadStepRefIdeal.defs (F := Ideal)) (onTc (τ := Cert.HeadStepRefIdeal.τ) (Cert.HeadStepRefIdeal.main (F := Ideal))) ⟨m', fun _ => 0, g'⟩ (fun r => ∀ c : Dev Cert.HeadStepRefIdeal.nD,
          r.2.mem ((c.tc : Thread Cert.HeadStepRefIdeal.nD Cert.HeadStepRefIdeal.τ).loc Cert.HeadStepRefIdeal.main_v0) = v0 c
          ∧ r.2.mem ((c.tc : Thread Cert.HeadStepRefIdeal.nD Cert.HeadStepRefIdeal.τ).loc Cert.HeadStepRefIdeal.main_v24) = v1 c
          ∧ r.2.mem ((c.tc : Thread Cert.HeadStepRefIdeal.nD Cert.HeadStepRefIdeal.τ).loc Cert.HeadStepRefIdeal.main_v5) = v2 c
          ∧ r.2.mem ((c.tc : Thread Cert.HeadStepRefIdeal.nD Cert.HeadStepRefIdeal.τ).loc Cert.HeadStepRefIdeal.main_v11) = v3 c
          ∧ r.2.mem ((c.tc : Thread Cert.HeadStepRefIdeal.nD Cert.HeadStepRefIdeal.τ).loc Cert.HeadStepRefIdeal.main_arg0) = m' ((c.tc : Thread Cert.HeadStepRefIdeal.nD Cert.HeadStepRefIdeal.τ).loc Cert.HeadStepRefIdeal.main_arg0)
          ∧ r.2.mem ((c.tc : Thread Cert.HeadStepRefIdeal.nD Cert.HeadStepRefIdeal.τ).loc Cert.HeadStepRefIdeal.main_arg1) = m' ((c.tc : Thread Cert.HeadStepRefIdeal.nD Cert.HeadStepRefIdeal.τ).loc Cert.HeadStepRefIdeal.main_arg1)
          ∧ r.2.mem ((c.tc : Thread Cert.HeadStepRefIdeal.nD Cert.HeadStepRefIdeal.τ).loc Cert.HeadStepRefIdeal.main_arg2) = m' ((c.tc : Thread Cert.HeadStepRefIdeal.nD Cert.HeadStepRefIdeal.τ).loc Cert.HeadStepRefIdeal.main_arg2)
          ∧ r.2.mem ((c.tc : Thread Cert.HeadStepRefIdeal.nD Cert.HeadStepRefIdeal.τ).loc Cert.HeadStepRefIdeal.main_arg3) = m' ((c.tc : Thread Cert.HeadStepRefIdeal.nD Cert.HeadStepRefIdeal.τ).loc Cert.HeadStepRefIdeal.main_arg3))

def preserves_QkStep_QkStepIdeal : Prop :=
  True

def algebraic_QkStepIdeal_QkStepRefIdeal [hQkStepIdeal : Cert.QkStepIdeal.Facts] [hQkStepRefIdeal : Cert.QkStepRefIdeal.Facts] : Prop :=
  ∀ (m : (ℓ : Loc Cert.QkStepIdeal.nD Cert.QkStepIdeal.τ Cert.QkStepIdeal.sig) → Buf (Elt Ideal) ℓ) (g : Dev Cert.QkStepIdeal.nD → PrngReg)
    (m' : (ℓ : Loc Cert.QkStepRefIdeal.nD Cert.QkStepRefIdeal.τ Cert.QkStepRefIdeal.sig) → Buf (Elt Ideal) ℓ) (g' : Dev Cert.QkStepRefIdeal.nD → PrngReg), Pre_QkStepIdeal m →
    (∀ c : Dev Cert.QkStepIdeal.nD,
      m' ((c.tc : Thread Cert.QkStepRefIdeal.nD Cert.QkStepRefIdeal.τ).loc Cert.QkStepRefIdeal.main_arg0) = m ((c.tc : Thread Cert.QkStepIdeal.nD Cert.QkStepIdeal.τ).loc Cert.QkStepIdeal.main_arg0)
      ∧ m' ((c.tc : Thread Cert.QkStepRefIdeal.nD Cert.QkStepRefIdeal.τ).loc Cert.QkStepRefIdeal.main_arg1) = m ((c.tc : Thread Cert.QkStepIdeal.nD Cert.QkStepIdeal.τ).loc Cert.QkStepIdeal.main_arg1)
      ∧ m' ((c.tc : Thread Cert.QkStepRefIdeal.nD Cert.QkStepRefIdeal.τ).loc Cert.QkStepRefIdeal.main_arg2) = m ((c.tc : Thread Cert.QkStepIdeal.nD Cert.QkStepIdeal.τ).loc Cert.QkStepIdeal.main_arg2)
      ∧ m' ((c.tc : Thread Cert.QkStepRefIdeal.nD Cert.QkStepRefIdeal.τ).loc Cert.QkStepRefIdeal.main_arg3) = m ((c.tc : Thread Cert.QkStepIdeal.nD Cert.QkStepIdeal.τ).loc Cert.QkStepIdeal.main_arg3)) →
    ∃ (v0 : (c : Dev Cert.QkStepIdeal.nD) → Buf (Elt Ideal) ((c.tc : Thread Cert.QkStepIdeal.nD Cert.QkStepIdeal.τ).loc Cert.QkStepIdeal.main_v11)) (v1 : (c : Dev Cert.QkStepIdeal.nD) → Buf (Elt Ideal) ((c.tc : Thread Cert.QkStepIdeal.nD Cert.QkStepIdeal.τ).loc Cert.QkStepIdeal.main_v12)) (v2 : (c : Dev Cert.QkStepIdeal.nD) → Buf (Elt Ideal) ((c.tc : Thread Cert.QkStepIdeal.nD Cert.QkStepIdeal.τ).loc Cert.QkStepIdeal.main_v13)) (v3 : (c : Dev Cert.QkStepIdeal.nD) → Buf (Elt Ideal) ((c.tc : Thread Cert.QkStepIdeal.nD Cert.QkStepIdeal.τ).loc Cert.QkStepIdeal.main_v14)),
      θ_run (Cert.QkStepIdeal.defs (F := Ideal)) (onTc (τ := Cert.QkStepIdeal.τ) (Cert.QkStepIdeal.main (F := Ideal))) ⟨m, fun _ => 0, g⟩ (fun r => ∀ c : Dev Cert.QkStepIdeal.nD,
          r.2.mem ((c.tc : Thread Cert.QkStepIdeal.nD Cert.QkStepIdeal.τ).loc Cert.QkStepIdeal.main_v11) = v0 c
          ∧ r.2.mem ((c.tc : Thread Cert.QkStepIdeal.nD Cert.QkStepIdeal.τ).loc Cert.QkStepIdeal.main_v12) = v1 c
          ∧ r.2.mem ((c.tc : Thread Cert.QkStepIdeal.nD Cert.QkStepIdeal.τ).loc Cert.QkStepIdeal.main_v13) = v2 c
          ∧ r.2.mem ((c.tc : Thread Cert.QkStepIdeal.nD Cert.QkStepIdeal.τ).loc Cert.QkStepIdeal.main_v14) = v3 c
          ∧ r.2.mem ((c.tc : Thread Cert.QkStepIdeal.nD Cert.QkStepIdeal.τ).loc Cert.QkStepIdeal.main_arg0) = m ((c.tc : Thread Cert.QkStepIdeal.nD Cert.QkStepIdeal.τ).loc Cert.QkStepIdeal.main_arg0)
          ∧ r.2.mem ((c.tc : Thread Cert.QkStepIdeal.nD Cert.QkStepIdeal.τ).loc Cert.QkStepIdeal.main_arg1) = m ((c.tc : Thread Cert.QkStepIdeal.nD Cert.QkStepIdeal.τ).loc Cert.QkStepIdeal.main_arg1)
          ∧ r.2.mem ((c.tc : Thread Cert.QkStepIdeal.nD Cert.QkStepIdeal.τ).loc Cert.QkStepIdeal.main_arg2) = m ((c.tc : Thread Cert.QkStepIdeal.nD Cert.QkStepIdeal.τ).loc Cert.QkStepIdeal.main_arg2)
          ∧ r.2.mem ((c.tc : Thread Cert.QkStepIdeal.nD Cert.QkStepIdeal.τ).loc Cert.QkStepIdeal.main_arg3) = m ((c.tc : Thread Cert.QkStepIdeal.nD Cert.QkStepIdeal.τ).loc Cert.QkStepIdeal.main_arg3))
      ∧ θ_run (Cert.QkStepRefIdeal.defs (F := Ideal)) (onTc (τ := Cert.QkStepRefIdeal.τ) (Cert.QkStepRefIdeal.main (F := Ideal))) ⟨m', fun _ => 0, g'⟩ (fun r => ∀ c : Dev Cert.QkStepRefIdeal.nD,
          r.2.mem ((c.tc : Thread Cert.QkStepRefIdeal.nD Cert.QkStepRefIdeal.τ).loc Cert.QkStepRefIdeal.main_v0) = v0 c
          ∧ r.2.mem ((c.tc : Thread Cert.QkStepRefIdeal.nD Cert.QkStepRefIdeal.τ).loc Cert.QkStepRefIdeal.main_v24) = v1 c
          ∧ r.2.mem ((c.tc : Thread Cert.QkStepRefIdeal.nD Cert.QkStepRefIdeal.τ).loc Cert.QkStepRefIdeal.main_v5) = v2 c
          ∧ r.2.mem ((c.tc : Thread Cert.QkStepRefIdeal.nD Cert.QkStepRefIdeal.τ).loc Cert.QkStepRefIdeal.main_v11) = v3 c
          ∧ r.2.mem ((c.tc : Thread Cert.QkStepRefIdeal.nD Cert.QkStepRefIdeal.τ).loc Cert.QkStepRefIdeal.main_arg0) = m' ((c.tc : Thread Cert.QkStepRefIdeal.nD Cert.QkStepRefIdeal.τ).loc Cert.QkStepRefIdeal.main_arg0)
          ∧ r.2.mem ((c.tc : Thread Cert.QkStepRefIdeal.nD Cert.QkStepRefIdeal.τ).loc Cert.QkStepRefIdeal.main_arg1) = m' ((c.tc : Thread Cert.QkStepRefIdeal.nD Cert.QkStepRefIdeal.τ).loc Cert.QkStepRefIdeal.main_arg1)
          ∧ r.2.mem ((c.tc : Thread Cert.QkStepRefIdeal.nD Cert.QkStepRefIdeal.τ).loc Cert.QkStepRefIdeal.main_arg2) = m' ((c.tc : Thread Cert.QkStepRefIdeal.nD Cert.QkStepRefIdeal.τ).loc Cert.QkStepRefIdeal.main_arg2)
          ∧ r.2.mem ((c.tc : Thread Cert.QkStepRefIdeal.nD Cert.QkStepRefIdeal.τ).loc Cert.QkStepRefIdeal.main_arg3) = m' ((c.tc : Thread Cert.QkStepRefIdeal.nD Cert.QkStepRefIdeal.τ).loc Cert.QkStepRefIdeal.main_arg3))

def preserves_BiasStep_BiasStepIdeal : Prop :=
  True

def algebraic_BiasStepIdeal_BiasStepRefIdeal [hBiasStepIdeal : Cert.BiasStepIdeal.Facts] [hBiasStepRefIdeal : Cert.BiasStepRefIdeal.Facts] : Prop :=
  ∀ (m : (ℓ : Loc Cert.BiasStepIdeal.nD Cert.BiasStepIdeal.τ Cert.BiasStepIdeal.sig) → Buf (Elt Ideal) ℓ) (g : Dev Cert.BiasStepIdeal.nD → PrngReg)
    (m' : (ℓ : Loc Cert.BiasStepRefIdeal.nD Cert.BiasStepRefIdeal.τ Cert.BiasStepRefIdeal.sig) → Buf (Elt Ideal) ℓ) (g' : Dev Cert.BiasStepRefIdeal.nD → PrngReg), Pre_BiasStepIdeal m →
    (∀ c : Dev Cert.BiasStepIdeal.nD,
      m' ((c.tc : Thread Cert.BiasStepRefIdeal.nD Cert.BiasStepRefIdeal.τ).loc Cert.BiasStepRefIdeal.main_arg0) = m ((c.tc : Thread Cert.BiasStepIdeal.nD Cert.BiasStepIdeal.τ).loc Cert.BiasStepIdeal.main_arg0)
      ∧ m' ((c.tc : Thread Cert.BiasStepRefIdeal.nD Cert.BiasStepRefIdeal.τ).loc Cert.BiasStepRefIdeal.main_arg1) = m ((c.tc : Thread Cert.BiasStepIdeal.nD Cert.BiasStepIdeal.τ).loc Cert.BiasStepIdeal.main_arg1)
      ∧ m' ((c.tc : Thread Cert.BiasStepRefIdeal.nD Cert.BiasStepRefIdeal.τ).loc Cert.BiasStepRefIdeal.main_arg2) = m ((c.tc : Thread Cert.BiasStepIdeal.nD Cert.BiasStepIdeal.τ).loc Cert.BiasStepIdeal.main_arg2)
      ∧ m' ((c.tc : Thread Cert.BiasStepRefIdeal.nD Cert.BiasStepRefIdeal.τ).loc Cert.BiasStepRefIdeal.main_arg3) = m ((c.tc : Thread Cert.BiasStepIdeal.nD Cert.BiasStepIdeal.τ).loc Cert.BiasStepIdeal.main_arg3)) →
    ∃ (v0 : (c : Dev Cert.BiasStepIdeal.nD) → Buf (Elt Ideal) ((c.tc : Thread Cert.BiasStepIdeal.nD Cert.BiasStepIdeal.τ).loc Cert.BiasStepIdeal.main_v11)) (v1 : (c : Dev Cert.BiasStepIdeal.nD) → Buf (Elt Ideal) ((c.tc : Thread Cert.BiasStepIdeal.nD Cert.BiasStepIdeal.τ).loc Cert.BiasStepIdeal.main_v12)) (v2 : (c : Dev Cert.BiasStepIdeal.nD) → Buf (Elt Ideal) ((c.tc : Thread Cert.BiasStepIdeal.nD Cert.BiasStepIdeal.τ).loc Cert.BiasStepIdeal.main_v13)) (v3 : (c : Dev Cert.BiasStepIdeal.nD) → Buf (Elt Ideal) ((c.tc : Thread Cert.BiasStepIdeal.nD Cert.BiasStepIdeal.τ).loc Cert.BiasStepIdeal.main_v14)),
      θ_run (Cert.BiasStepIdeal.defs (F := Ideal)) (onTc (τ := Cert.BiasStepIdeal.τ) (Cert.BiasStepIdeal.main (F := Ideal))) ⟨m, fun _ => 0, g⟩ (fun r => ∀ c : Dev Cert.BiasStepIdeal.nD,
          r.2.mem ((c.tc : Thread Cert.BiasStepIdeal.nD Cert.BiasStepIdeal.τ).loc Cert.BiasStepIdeal.main_v11) = v0 c
          ∧ r.2.mem ((c.tc : Thread Cert.BiasStepIdeal.nD Cert.BiasStepIdeal.τ).loc Cert.BiasStepIdeal.main_v12) = v1 c
          ∧ r.2.mem ((c.tc : Thread Cert.BiasStepIdeal.nD Cert.BiasStepIdeal.τ).loc Cert.BiasStepIdeal.main_v13) = v2 c
          ∧ r.2.mem ((c.tc : Thread Cert.BiasStepIdeal.nD Cert.BiasStepIdeal.τ).loc Cert.BiasStepIdeal.main_v14) = v3 c
          ∧ r.2.mem ((c.tc : Thread Cert.BiasStepIdeal.nD Cert.BiasStepIdeal.τ).loc Cert.BiasStepIdeal.main_arg0) = m ((c.tc : Thread Cert.BiasStepIdeal.nD Cert.BiasStepIdeal.τ).loc Cert.BiasStepIdeal.main_arg0)
          ∧ r.2.mem ((c.tc : Thread Cert.BiasStepIdeal.nD Cert.BiasStepIdeal.τ).loc Cert.BiasStepIdeal.main_arg1) = m ((c.tc : Thread Cert.BiasStepIdeal.nD Cert.BiasStepIdeal.τ).loc Cert.BiasStepIdeal.main_arg1)
          ∧ r.2.mem ((c.tc : Thread Cert.BiasStepIdeal.nD Cert.BiasStepIdeal.τ).loc Cert.BiasStepIdeal.main_arg2) = m ((c.tc : Thread Cert.BiasStepIdeal.nD Cert.BiasStepIdeal.τ).loc Cert.BiasStepIdeal.main_arg2)
          ∧ r.2.mem ((c.tc : Thread Cert.BiasStepIdeal.nD Cert.BiasStepIdeal.τ).loc Cert.BiasStepIdeal.main_arg3) = m ((c.tc : Thread Cert.BiasStepIdeal.nD Cert.BiasStepIdeal.τ).loc Cert.BiasStepIdeal.main_arg3))
      ∧ θ_run (Cert.BiasStepRefIdeal.defs (F := Ideal)) (onTc (τ := Cert.BiasStepRefIdeal.τ) (Cert.BiasStepRefIdeal.main (F := Ideal))) ⟨m', fun _ => 0, g'⟩ (fun r => ∀ c : Dev Cert.BiasStepRefIdeal.nD,
          r.2.mem ((c.tc : Thread Cert.BiasStepRefIdeal.nD Cert.BiasStepRefIdeal.τ).loc Cert.BiasStepRefIdeal.main_v0) = v0 c
          ∧ r.2.mem ((c.tc : Thread Cert.BiasStepRefIdeal.nD Cert.BiasStepRefIdeal.τ).loc Cert.BiasStepRefIdeal.main_v24) = v1 c
          ∧ r.2.mem ((c.tc : Thread Cert.BiasStepRefIdeal.nD Cert.BiasStepRefIdeal.τ).loc Cert.BiasStepRefIdeal.main_v5) = v2 c
          ∧ r.2.mem ((c.tc : Thread Cert.BiasStepRefIdeal.nD Cert.BiasStepRefIdeal.τ).loc Cert.BiasStepRefIdeal.main_v11) = v3 c
          ∧ r.2.mem ((c.tc : Thread Cert.BiasStepRefIdeal.nD Cert.BiasStepRefIdeal.τ).loc Cert.BiasStepRefIdeal.main_arg0) = m' ((c.tc : Thread Cert.BiasStepRefIdeal.nD Cert.BiasStepRefIdeal.τ).loc Cert.BiasStepRefIdeal.main_arg0)
          ∧ r.2.mem ((c.tc : Thread Cert.BiasStepRefIdeal.nD Cert.BiasStepRefIdeal.τ).loc Cert.BiasStepRefIdeal.main_arg1) = m' ((c.tc : Thread Cert.BiasStepRefIdeal.nD Cert.BiasStepRefIdeal.τ).loc Cert.BiasStepRefIdeal.main_arg1)
          ∧ r.2.mem ((c.tc : Thread Cert.BiasStepRefIdeal.nD Cert.BiasStepRefIdeal.τ).loc Cert.BiasStepRefIdeal.main_arg2) = m' ((c.tc : Thread Cert.BiasStepRefIdeal.nD Cert.BiasStepRefIdeal.τ).loc Cert.BiasStepRefIdeal.main_arg2)
          ∧ r.2.mem ((c.tc : Thread Cert.BiasStepRefIdeal.nD Cert.BiasStepRefIdeal.τ).loc Cert.BiasStepRefIdeal.main_arg3) = m' ((c.tc : Thread Cert.BiasStepRefIdeal.nD Cert.BiasStepRefIdeal.τ).loc Cert.BiasStepRefIdeal.main_arg3))

def Claim : Prop :=
  ∃ (hAttnGrad : Cert.AttnGrad.Facts) (hAttnGradIdeal : Cert.AttnGradIdeal.Facts) (hAttnGradRefIdeal : Cert.AttnGradRefIdeal.Facts) (hSwigluGrad : Cert.SwigluGrad.Facts) (hSwigluGradIdeal : Cert.SwigluGradIdeal.Facts) (hSwigluGradRefIdeal : Cert.SwigluGradRefIdeal.Facts) (hFfnOutGradW : Cert.FfnOutGradW.Facts) (hFfnOutGradWIdeal : Cert.FfnOutGradWIdeal.Facts) (hFfnOutGradWRefIdeal : Cert.FfnOutGradWRefIdeal.Facts) (hFfnInGradW : Cert.FfnInGradW.Facts) (hFfnInGradWIdeal : Cert.FfnInGradWIdeal.Facts) (hFfnInGradWRefIdeal : Cert.FfnInGradWRefIdeal.Facts) (hProjGradW : Cert.ProjGradW.Facts) (hProjGradWIdeal : Cert.ProjGradWIdeal.Facts) (hProjGradWRefIdeal : Cert.ProjGradWRefIdeal.Facts) (hOutGradW : Cert.OutGradW.Facts) (hOutGradWIdeal : Cert.OutGradWIdeal.Facts) (hOutGradWRefIdeal : Cert.OutGradWRefIdeal.Facts) (hOutGradX : Cert.OutGradX.Facts) (hOutGradXIdeal : Cert.OutGradXIdeal.Facts) (hOutGradXRefIdeal : Cert.OutGradXRefIdeal.Facts) (hFfnInGradX : Cert.FfnInGradX.Facts) (hFfnInGradXIdeal : Cert.FfnInGradXIdeal.Facts) (hFfnInGradXRefIdeal : Cert.FfnInGradXRefIdeal.Facts) (hProjGradX : Cert.ProjGradX.Facts) (hProjGradXIdeal : Cert.ProjGradXIdeal.Facts) (hProjGradXRefIdeal : Cert.ProjGradXRefIdeal.Facts) (hFfnIn : Cert.FfnIn.Facts) (hFfnInIdeal : Cert.FfnInIdeal.Facts) (hFfnInRefIdeal : Cert.FfnInRefIdeal.Facts) (hProj : Cert.Proj.Facts) (hProjIdeal : Cert.ProjIdeal.Facts) (hProjRefIdeal : Cert.ProjRefIdeal.Facts) (hNormStep : Cert.NormStep.Facts) (hNormStepIdeal : Cert.NormStepIdeal.Facts) (hNormStepRefIdeal : Cert.NormStepRefIdeal.Facts) (hFfnInStep : Cert.FfnInStep.Facts) (hFfnInStepIdeal : Cert.FfnInStepIdeal.Facts) (hFfnInStepRefIdeal : Cert.FfnInStepRefIdeal.Facts) (hAdaStep : Cert.AdaStep.Facts) (hAdaStepIdeal : Cert.AdaStepIdeal.Facts) (hAdaStepRefIdeal : Cert.AdaStepRefIdeal.Facts) (hHeadStep : Cert.HeadStep.Facts) (hHeadStepIdeal : Cert.HeadStepIdeal.Facts) (hHeadStepRefIdeal : Cert.HeadStepRefIdeal.Facts) (hQkStep : Cert.QkStep.Facts) (hQkStepIdeal : Cert.QkStepIdeal.Facts) (hQkStepRefIdeal : Cert.QkStepRefIdeal.Facts) (hBiasStep : Cert.BiasStep.Facts) (hBiasStepIdeal : Cert.BiasStepIdeal.Facts) (hBiasStepRefIdeal : Cert.BiasStepRefIdeal.Facts) (hPre_attn_finite : Cert.Pre_attn_finite.Facts) (hPre_swiglu_finite : Cert.Pre_swiglu_finite.Facts),
    quiescent_AttnGrad (hAttnGrad := hAttnGrad)
    ∧ quiescent_AttnGradIdeal (hAttnGradIdeal := hAttnGradIdeal)
    ∧ quiescent_AttnGradIdeal_pre_attn_finite (hAttnGradIdeal := hAttnGradIdeal) (hPre_attn_finite := hPre_attn_finite)
    ∧ quiescent_AttnGradRefIdeal (hAttnGradRefIdeal := hAttnGradRefIdeal)
    ∧ quiescent_AttnGradRefIdeal_pre_attn_finite (hAttnGradRefIdeal := hAttnGradRefIdeal) (hPre_attn_finite := hPre_attn_finite)
    ∧ quiescent_SwigluGrad (hSwigluGrad := hSwigluGrad)
    ∧ quiescent_SwigluGradIdeal (hSwigluGradIdeal := hSwigluGradIdeal)
    ∧ quiescent_SwigluGradIdeal_pre_swiglu_finite (hSwigluGradIdeal := hSwigluGradIdeal) (hPre_swiglu_finite := hPre_swiglu_finite)
    ∧ quiescent_SwigluGradRefIdeal (hSwigluGradRefIdeal := hSwigluGradRefIdeal)
    ∧ quiescent_SwigluGradRefIdeal_pre_swiglu_finite (hSwigluGradRefIdeal := hSwigluGradRefIdeal) (hPre_swiglu_finite := hPre_swiglu_finite)
    ∧ quiescent_FfnOutGradW (hFfnOutGradW := hFfnOutGradW)
    ∧ quiescent_FfnOutGradWIdeal (hFfnOutGradWIdeal := hFfnOutGradWIdeal)
    ∧ quiescent_FfnOutGradWRefIdeal (hFfnOutGradWRefIdeal := hFfnOutGradWRefIdeal)
    ∧ quiescent_FfnInGradW (hFfnInGradW := hFfnInGradW)
    ∧ quiescent_FfnInGradWIdeal (hFfnInGradWIdeal := hFfnInGradWIdeal)
    ∧ quiescent_FfnInGradWRefIdeal (hFfnInGradWRefIdeal := hFfnInGradWRefIdeal)
    ∧ quiescent_ProjGradW (hProjGradW := hProjGradW)
    ∧ quiescent_ProjGradWIdeal (hProjGradWIdeal := hProjGradWIdeal)
    ∧ quiescent_ProjGradWRefIdeal (hProjGradWRefIdeal := hProjGradWRefIdeal)
    ∧ quiescent_OutGradW (hOutGradW := hOutGradW)
    ∧ quiescent_OutGradWIdeal (hOutGradWIdeal := hOutGradWIdeal)
    ∧ quiescent_OutGradWRefIdeal (hOutGradWRefIdeal := hOutGradWRefIdeal)
    ∧ quiescent_OutGradX (hOutGradX := hOutGradX)
    ∧ quiescent_OutGradXIdeal (hOutGradXIdeal := hOutGradXIdeal)
    ∧ quiescent_OutGradXRefIdeal (hOutGradXRefIdeal := hOutGradXRefIdeal)
    ∧ quiescent_FfnInGradX (hFfnInGradX := hFfnInGradX)
    ∧ quiescent_FfnInGradXIdeal (hFfnInGradXIdeal := hFfnInGradXIdeal)
    ∧ quiescent_FfnInGradXRefIdeal (hFfnInGradXRefIdeal := hFfnInGradXRefIdeal)
    ∧ quiescent_ProjGradX (hProjGradX := hProjGradX)
    ∧ quiescent_ProjGradXIdeal (hProjGradXIdeal := hProjGradXIdeal)
    ∧ quiescent_ProjGradXRefIdeal (hProjGradXRefIdeal := hProjGradXRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_Proj (hProj := hProj)
    ∧ quiescent_ProjIdeal (hProjIdeal := hProjIdeal)
    ∧ quiescent_ProjRefIdeal (hProjRefIdeal := hProjRefIdeal)
    ∧ quiescent_NormStep (hNormStep := hNormStep)
    ∧ quiescent_NormStepIdeal (hNormStepIdeal := hNormStepIdeal)
    ∧ quiescent_NormStepRefIdeal (hNormStepRefIdeal := hNormStepRefIdeal)
    ∧ quiescent_FfnInStep (hFfnInStep := hFfnInStep)
    ∧ quiescent_FfnInStepIdeal (hFfnInStepIdeal := hFfnInStepIdeal)
    ∧ quiescent_FfnInStepRefIdeal (hFfnInStepRefIdeal := hFfnInStepRefIdeal)
    ∧ quiescent_AdaStep (hAdaStep := hAdaStep)
    ∧ quiescent_AdaStepIdeal (hAdaStepIdeal := hAdaStepIdeal)
    ∧ quiescent_AdaStepRefIdeal (hAdaStepRefIdeal := hAdaStepRefIdeal)
    ∧ quiescent_HeadStep (hHeadStep := hHeadStep)
    ∧ quiescent_HeadStepIdeal (hHeadStepIdeal := hHeadStepIdeal)
    ∧ quiescent_HeadStepRefIdeal (hHeadStepRefIdeal := hHeadStepRefIdeal)
    ∧ quiescent_QkStep (hQkStep := hQkStep)
    ∧ quiescent_QkStepIdeal (hQkStepIdeal := hQkStepIdeal)
    ∧ quiescent_QkStepRefIdeal (hQkStepRefIdeal := hQkStepRefIdeal)
    ∧ quiescent_BiasStep (hBiasStep := hBiasStep)
    ∧ quiescent_BiasStepIdeal (hBiasStepIdeal := hBiasStepIdeal)
    ∧ quiescent_BiasStepRefIdeal (hBiasStepRefIdeal := hBiasStepRefIdeal)
    ∧ preserves_AttnGrad_AttnGradIdeal
    ∧ algebraic_AttnGradIdeal_AttnGradRefIdeal_pre_attn_finite (hAttnGradIdeal := hAttnGradIdeal) (hAttnGradRefIdeal := hAttnGradRefIdeal) (hPre_attn_finite := hPre_attn_finite)
    ∧ preserves_SwigluGrad_SwigluGradIdeal
    ∧ algebraic_SwigluGradIdeal_SwigluGradRefIdeal_pre_swiglu_finite (hSwigluGradIdeal := hSwigluGradIdeal) (hSwigluGradRefIdeal := hSwigluGradRefIdeal) (hPre_swiglu_finite := hPre_swiglu_finite)
    ∧ preserves_FfnOutGradW_FfnOutGradWIdeal
    ∧ algebraic_FfnOutGradWIdeal_FfnOutGradWRefIdeal (hFfnOutGradWIdeal := hFfnOutGradWIdeal) (hFfnOutGradWRefIdeal := hFfnOutGradWRefIdeal)
    ∧ preserves_FfnInGradW_FfnInGradWIdeal
    ∧ algebraic_FfnInGradWIdeal_FfnInGradWRefIdeal (hFfnInGradWIdeal := hFfnInGradWIdeal) (hFfnInGradWRefIdeal := hFfnInGradWRefIdeal)
    ∧ preserves_ProjGradW_ProjGradWIdeal
    ∧ algebraic_ProjGradWIdeal_ProjGradWRefIdeal (hProjGradWIdeal := hProjGradWIdeal) (hProjGradWRefIdeal := hProjGradWRefIdeal)
    ∧ preserves_OutGradW_OutGradWIdeal
    ∧ algebraic_OutGradWIdeal_OutGradWRefIdeal (hOutGradWIdeal := hOutGradWIdeal) (hOutGradWRefIdeal := hOutGradWRefIdeal)
    ∧ preserves_OutGradX_OutGradXIdeal
    ∧ algebraic_OutGradXIdeal_OutGradXRefIdeal (hOutGradXIdeal := hOutGradXIdeal) (hOutGradXRefIdeal := hOutGradXRefIdeal)
    ∧ preserves_FfnInGradX_FfnInGradXIdeal
    ∧ algebraic_FfnInGradXIdeal_FfnInGradXRefIdeal (hFfnInGradXIdeal := hFfnInGradXIdeal) (hFfnInGradXRefIdeal := hFfnInGradXRefIdeal)
    ∧ preserves_ProjGradX_ProjGradXIdeal
    ∧ algebraic_ProjGradXIdeal_ProjGradXRefIdeal (hProjGradXIdeal := hProjGradXIdeal) (hProjGradXRefIdeal := hProjGradXRefIdeal)
    ∧ preserves_FfnIn_FfnInIdeal
    ∧ algebraic_FfnInIdeal_FfnInRefIdeal (hFfnInIdeal := hFfnInIdeal) (hFfnInRefIdeal := hFfnInRefIdeal)
    ∧ preserves_Proj_ProjIdeal
    ∧ algebraic_ProjIdeal_ProjRefIdeal (hProjIdeal := hProjIdeal) (hProjRefIdeal := hProjRefIdeal)
    ∧ preserves_NormStep_NormStepIdeal
    ∧ algebraic_NormStepIdeal_NormStepRefIdeal (hNormStepIdeal := hNormStepIdeal) (hNormStepRefIdeal := hNormStepRefIdeal)
    ∧ preserves_FfnInStep_FfnInStepIdeal
    ∧ algebraic_FfnInStepIdeal_FfnInStepRefIdeal (hFfnInStepIdeal := hFfnInStepIdeal) (hFfnInStepRefIdeal := hFfnInStepRefIdeal)
    ∧ preserves_AdaStep_AdaStepIdeal
    ∧ algebraic_AdaStepIdeal_AdaStepRefIdeal (hAdaStepIdeal := hAdaStepIdeal) (hAdaStepRefIdeal := hAdaStepRefIdeal)
    ∧ preserves_HeadStep_HeadStepIdeal
    ∧ algebraic_HeadStepIdeal_HeadStepRefIdeal (hHeadStepIdeal := hHeadStepIdeal) (hHeadStepRefIdeal := hHeadStepRefIdeal)
    ∧ preserves_QkStep_QkStepIdeal
    ∧ algebraic_QkStepIdeal_QkStepRefIdeal (hQkStepIdeal := hQkStepIdeal) (hQkStepRefIdeal := hQkStepRefIdeal)
    ∧ preserves_BiasStep_BiasStepIdeal
    ∧ algebraic_BiasStepIdeal_BiasStepRefIdeal (hBiasStepIdeal := hBiasStepIdeal) (hBiasStepRefIdeal := hBiasStepRefIdeal)
-- ==== Pre_attn_finite.lean ====
abbrev S8192x1024 : Shape := ⟨2, ![8192, 1024]⟩
abbrev S8192x2048 : Shape := ⟨2, ![8192, 2048]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x2048 : S_.BroadcastsInDim S8192x2048 (![] : Fin 0 → Fin S8192x2048.rank)
  bcast_S_S1x1024 : S_.BroadcastsInDim S1x1024 (![] : Fin 0 → Fin S1x1024.rank)

variable [Facts]

def fn {F : FTy → Type} [FloatOps F] (main_arg0 : FVec F S8192x1024 .bf16) (main_arg1 : FVec F S8192x1024 .bf16) (main_arg2 : FVec F S8192x1024 .bf16) (main_arg3 : FVec F S8192x2048 .f32) (main_arg4 : FVec F S1x1024 .f32) : IVec S8192x1024 1 × IVec S8192x1024 1 × IVec S8192x1024 1 × IVec S8192x2048 1 × IVec S1x1024 1 :=
  let main_v0 : FVec F S8192x1024 .f32 := (extf .f32 · bitsLt_bf16_f32) main_arg0
  let main_v1 : FVec F S8192x1024 .f32 := (extf .f32 · bitsLt_bf16_f32) main_arg1
  let main_v2 : FVec F S8192x1024 .f32 := (extf .f32 · bitsLt_bf16_f32) main_arg2
  let main_v3 : FVec F S8192x1024 .f32 := Host.absf main_v0
  let main_cst : FVec F S_ .f32 := constant S_ .f32 0x7F800000#32
  let main_v4 : FVec F S8192x1024 .f32 := broadcastInDim S8192x1024 ![] bcast_S_S8192x1024 main_cst
  let main_v5 : IVec S8192x1024 1 := cmpf .olt main_v3 main_v4
  let main_v6 : FVec F S8192x1024 .f32 := Host.absf main_v1
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_v9 : FVec F S8192x1024 .f32 := Host.absf main_v2
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : FVec F S8192x2048 .f32 := Host.absf main_arg3
  let main_cst_2 : FVec F S_ .f32 := constant S_ .f32 0x7F800000#32
  let main_v13 : FVec F S8192x2048 .f32 := broadcastInDim S8192x2048 ![] bcast_S_S8192x2048 main_cst_2
  let main_v14 : IVec S8192x2048 1 := cmpf .olt main_v12 main_v13
  let main_v15 : FVec F S1x1024 .f32 := Host.absf main_arg4
  let main_cst_3 : FVec F S_ .f32 := constant S_ .f32 0x7F800000#32
  let main_v16 : FVec F S1x1024 .f32 := broadcastInDim S1x1024 ![] bcast_S_S1x1024 main_cst_3
  let main_v17 : IVec S1x1024 1 := cmpf .olt main_v15 main_v16
  (main_v5, main_v8, main_v11, main_v14, main_v17)
-- ==== Pre_swiglu_finite.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S5632x2048 : S_.BroadcastsInDim S5632x2048 (![] : Fin 0 → Fin S5632x2048.rank)
  bcast_S_S8192x5632 : S_.BroadcastsInDim S8192x5632 (![] : Fin 0 → Fin S8192x5632.rank)

variable [Facts]

def fn {F : FTy → Type} [FloatOps F] (main_arg0 : FVec F S8192x2048 .bf16) (main_arg1 : FVec F S5632x2048 .bf16) (main_arg2 : FVec F S8192x5632 .f32) (main_arg3 : FVec F S8192x5632 .f32) : IVec S8192x2048 1 × IVec S5632x2048 1 × IVec S8192x5632 1 :=
  let main_v0 : FVec F S8192x2048 .f32 := (extf .f32 · bitsLt_bf16_f32) main_arg0
  let main_v1 : FVec F S5632x2048 .f32 := (extf .f32 · bitsLt_bf16_f32) main_arg1
  let main_v2 : FVec F S8192x2048 .f32 := Host.absf main_v0
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S5632x2048 .f32 := Host.absf main_v1
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S8192x5632 .f32 := Host.absf main_arg3
  let main_cst_1 : FVec F S_ .f32 := constant S_ .f32 0x7F800000#32
  let main_v9 : FVec F S8192x5632 .f32 := broadcastInDim S8192x5632 ![] bcast_S_S8192x5632 main_cst_1
  let main_v10 : IVec S8192x5632 1 := cmpf .olt main_v8 main_v9
  (main_v4, main_v7, main_v10)
-- ==== AttnGrad.lean ====
abbrev S8192x1024 : Shape := ⟨2, ![8192, 1024]⟩
abbrev S8192x2048 : Shape := ⟨2, ![8192, 2048]⟩
abbrev S1x1024 : Shape := ⟨2, ![1, 1024]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S256x256 : Shape := ⟨2, ![256, 256]⟩
abbrev S1024x8192 : Shape := ⟨2, ![1024, 8192]⟩
abbrev S8192x256 : Shape := ⟨2, ![8192, 256]⟩
abbrev S1x256 : Shape := ⟨2, ![1, 256]⟩
abbrev S256x8192 : Shape := ⟨2, ![256, 8192]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S128 : Shape := ⟨1, ![128]⟩
abbrev S128x256 : Shape := ⟨2, ![128, 256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 104
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x2048, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x8x128, .f32⟩
  | .hbm, ⟨9, _⟩ => ⟨S8x8192x128, .f32⟩
  | .hbm, ⟨10, _⟩ => ⟨S8192x8x128, .f32⟩
  | .hbm, ⟨11, _⟩ => ⟨S8x8192x128, .f32⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8x8192x8192, .f32⟩
  | .hbm, ⟨23, _⟩ => ⟨S8x8192x8192, .f32⟩
  | .hbm, ⟨24, _⟩ => ⟨S_, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .i1⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S_, .f32⟩
  | .hbm, ⟨41, _⟩ => ⟨S8x8192x8192, .i1⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S_, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S_, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .i1⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S_, .f32⟩
  | .hbm, ⟨68, _⟩ => ⟨S8x8192x8192, .i1⟩
  | .hbm, ⟨69, _⟩ => ⟨S8x8192x8192, .f32⟩
  | .hbm, ⟨70, _⟩ => ⟨S8x8192x8192, .f32⟩
  | .hbm, ⟨71, _⟩ => ⟨S8192x8x128, .f32⟩
  | .hbm, ⟨72, _⟩ => ⟨S8x8192x128, .f32⟩
  | .hbm, ⟨73, _⟩ => ⟨S8x8192x128, .f32⟩
  | .hbm, ⟨74, _⟩ => ⟨S8192x8x128, .f32⟩
  | .hbm, ⟨75, _⟩ => ⟨S8192x1024, .f32⟩
  | .hbm, ⟨76, _⟩ => ⟨S_, .f32⟩
  | .hbm, ⟨77, _⟩ => ⟨S256x256, .f32⟩
  | .hbm, ⟨78, _⟩ => ⟨S256x256, .i32⟩
  | .hbm, ⟨79, _⟩ => ⟨S_, .i32⟩
  | .hbm, ⟨80, _⟩ => ⟨S256x256, .i32⟩
  | .hbm, ⟨81, _⟩ => ⟨S256x256, .i32⟩
  | .hbm, ⟨82, _⟩ => ⟨S256x256, .i32⟩
  | .hbm, ⟨83, _⟩ => ⟨S256x256, .i1⟩
  | .hbm, ⟨84, _⟩ => ⟨S_, .f32⟩
  | .hbm, ⟨85, _⟩ => ⟨S256x256, .f32⟩
  | .hbm, ⟨86, _⟩ => ⟨S256x256, .f32⟩
  | .hbm, ⟨87, _⟩ => ⟨S256x256, .bf16⟩
  | .hbm, ⟨88, _⟩ => ⟨S_, .f32⟩
  | .hbm, ⟨89, _⟩ => ⟨S256x256, .f32⟩
  | .hbm, ⟨90, _⟩ => ⟨S256x256, .i32⟩
  | .hbm, ⟨91, _⟩ => ⟨S_, .i32⟩
  | .hbm, ⟨92, _⟩ => ⟨S256x256, .i32⟩
  | .hbm, ⟨93, _⟩ => ⟨S256x256, .i32⟩
  | .hbm, ⟨94, _⟩ => ⟨S256x256, .i32⟩
  | .hbm, ⟨95, _⟩ => ⟨S256x256, .i1⟩
  | .hbm, ⟨96, _⟩ => ⟨S_, .f32⟩
  | .hbm, ⟨97, _⟩ => ⟨S256x256, .f32⟩
  | .hbm, ⟨98, _⟩ => ⟨S256x256, .f32⟩
  | .hbm, ⟨99, _⟩ => ⟨S256x256, .bf16⟩
  | .hbm, ⟨100, _⟩ => ⟨S8192x1024, .f32⟩
  | .hbm, ⟨101, _⟩ => ⟨S1024x8192, .f32⟩
  | .hbm, ⟨102, _⟩ => ⟨S1024x8192, .f32⟩
  | .hbm, ⟨103, _⟩ => ⟨S1x1024, .f32⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x256, .f32⟩
  | .local _ .vmem, ⟨11, _⟩ => ⟨S1x256, .f32⟩
  | .local _ .vmem, ⟨12, _⟩ => ⟨S256x256, .bf16⟩
  | .local _ .vmem, ⟨13, _⟩ => ⟨S256x256, .bf16⟩
  | .local _ .vmem, ⟨14, _⟩ => ⟨S256x256, .f32⟩
  | .local _ .vmem, ⟨15, _⟩ => ⟨S256x256, .f32⟩
  | .local _ .vmem, ⟨16, _⟩ => ⟨S256x8192, .f32⟩
  | .local _ .vmem, ⟨17, _⟩ => ⟨S256x8192, .f32⟩
  | .local _ .vmem, ⟨18, _⟩ => ⟨S256x8192, .f32⟩
  | .local _ .vmem, ⟨19, _⟩ => ⟨S256x8192, .f32⟩
  | .local _ .vmem, ⟨20, _⟩ => ⟨S1x256, .f32⟩
  | .local _ .vmem, ⟨21, _⟩ => ⟨S1x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v17 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v18 : Ref sig .tc := ⟨.hbm, 43, rfl⟩
abbrev main_call2_cst : Ref sig .tc := ⟨.hbm, 44, rfl⟩
abbrev main_call2_v0 : Ref sig .tc := ⟨.hbm, 45, rfl⟩
abbrev main_v19 : Ref sig .tc := ⟨.hbm, 46, rfl⟩
abbrev main_v20 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_2 : Ref sig .tc := ⟨.hbm, 76, rfl⟩
abbrev main_v30 : Ref sig .tc := ⟨.hbm, 77, rfl⟩
abbrev main_call5_v0 : Ref sig .tc := ⟨.hbm, 78, rfl⟩
abbrev main_call5_c : Ref sig .tc := ⟨.hbm, 79, rfl⟩
abbrev main_call5_v1 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_call5_cst : Ref sig .tc := ⟨.hbm, 84, rfl⟩
abbrev main_call5_v5 : Ref sig .tc := ⟨.hbm, 85, rfl⟩
abbrev main_v31 : Ref sig .tc := ⟨.hbm, 86, rfl⟩
abbrev main_v32 : Ref sig .tc := ⟨.hbm, 87, rfl⟩
abbrev main_cst_3 : Ref sig .tc := ⟨.hbm, 88, rfl⟩
abbrev main_v33 : Ref sig .tc := ⟨.hbm, 89, rfl⟩
abbrev main_call6_v0 : Ref sig .tc := ⟨.hbm, 90, rfl⟩
abbrev main_call6_c : Ref sig .tc := ⟨.hbm, 91, rfl⟩
abbrev main_call6_v1 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_cst : Ref sig .tc := ⟨.hbm, 96, rfl⟩
abbrev main_call6_v5 : Ref sig .tc := ⟨.hbm, 97, rfl⟩
abbrev main_v34 : Ref sig .tc := ⟨.hbm, 98, rfl⟩
abbrev main_v35 : Ref sig .tc := ⟨.hbm, 99, rfl⟩
abbrev main_v36_0 : Ref sig .tc := ⟨.hbm, 100, rfl⟩
abbrev main_v36_1 : Ref sig .tc := ⟨.hbm, 101, rfl⟩
abbrev main_v36_2 : Ref sig .tc := ⟨.hbm, 102, rfl⟩
abbrev main_v36_3 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v90 : BitVec 32 := Scalar.muli arg1 c256_i32
  v90
def k0_off1 (i : grid0.Coords) : Fin 2 → Nat :=
  let arg1 : BitVec 32 := BitVec.ofNat 32 (i 1).val
  let c256_i32 : BitVec 32 := 256#32
  let v90 : BitVec 32 := Scalar.muli arg1 c256_i32
  let v91 : BitVec 32 := v90
  let v92 : Index := Scalar.indexCast v91
  let c0_41 : Index := 0#32
  ![v92.toNat, 0]
def k0_off2 (i : grid0.Coords) : Fin 2 → Nat :=
  let c0_62 : Index := 0#32
  let arg1 : BitVec 32 := BitVec.ofNat 32 (i 1).val
  let c256_i32 : BitVec 32 := 256#32
  let v90 : BitVec 32 := Scalar.muli arg1 c256_i32
  let v91 : BitVec 32 := v90
  let v162 : Index := Scalar.indexCast v91
  ![0, v162.toNat]
def k0_off3 (i : grid0.Coords) : Fin 2 → Nat :=
  let arg1 : BitVec 32 := BitVec.ofNat 32 (i 1).val
  let c256_i32 : BitVec 32 := 256#32
  let v90 : BitVec 32 := Scalar.muli arg1 c256_i32
  let v91 : BitVec 32 := v90
  let v182 : Index := Scalar.indexCast v91
  let c128_68 : Index := 128#32
  ![v182.toNat, 128]
def k0_off4 (i : grid0.Coords) : Fin 2 → Nat :=
  let c128_89 : Index := 128#32
  let arg1 : BitVec 32 := BitVec.ofNat 32 (i 1).val
  let c256_i32 : BitVec 32 := 256#32
  let v90 : BitVec 32 := Scalar.muli arg1 c256_i32
  let v91 : BitVec 32 := v90
  let v252 : Index := Scalar.indexCast v91
  ![128, v252.toNat]
def k0_mult2 (i : grid0.Coords) : BitVec 32 :=
  let arg1 : BitVec 32 := BitVec.ofNat 32 (i 1).val
  let c1_i32 : BitVec 32 := 1#32
  let v272 : BitVec 32 := Scalar.subi arg1 c1_i32
  let c0_i32_95 : BitVec 32 := 0#32
  let v273 : BitVec 32 := Scalar.maxsi v272 c0_i32_95
  let c256_i32_97 : BitVec 32 := 256#32
  let v275 : BitVec 32 := Scalar.muli v273 c256_i32_97
  v275
def k0_off5 (i : grid0.Coords) : Fin 2 → Nat :=
  let arg1 : BitVec 32 := BitVec.ofNat 32 (i 1).val
  let c1_i32 : BitVec 32 := 1#32
  let v272 : BitVec 32 := Scalar.subi arg1 c1_i32
  let c0_i32_95 : BitVec 32 := 0#32
  let v273 : BitVec 32 := Scalar.maxsi v272 c0_i32_95
  let c256_i32_97 : BitVec 32 := 256#32
  let v275 : BitVec 32 := Scalar.muli v273 c256_i32_97
  let v276 : BitVec 32 := v275
  let v277 : Index := Scalar.indexCast v276
  let c0_98 : Index := 0#32
  ![v277.toNat, 0]
def k0_off6 (i : grid0.Coords) : Fin 2 → Nat :=
  let c0_118 : Index := 0#32
  let arg1 : BitVec 32 := BitVec.ofNat 32 (i 1).val
  let c1_i32 : BitVec 32 := 1#32
  let v272 : BitVec 32 := Scalar.subi arg1 c1_i32
  let c0_i32_95 : BitVec 32 := 0#32
  let v273 : BitVec 32 := Scalar.maxsi v272 c0_i32_95
  let c256_i32_97 : BitVec 32 := 256#32
  let v275 : BitVec 32 := Scalar.muli v273 c256_i32_97
  let v276 : BitVec 32 := v275
  let v342 : Index := Scalar.indexCast v276
  ![0, v342.toNat]
def k0_off7 (i : grid0.Coords) : Fin 2 → Nat :=
  let arg1 : BitVec 32 := BitVec.ofNat 32 (i 1).val
  let c1_i32 : BitVec 32 := 1#32
  let v272 : BitVec 32 := Scalar.subi arg1 c1_i32
  let c0_i32_95 : BitVec 32 := 0#32
  let v273 : BitVec 32 := Scalar.maxsi v272 c0_i32_95
  let c256_i32_97 : BitVec 32 := 256#32
  let v275 : BitVec 32 := Scalar.muli v273 c256_i32_97
  let v276 : BitVec 32 := v275
  let v362 : Index := Scalar.indexCast v276
  let c128_124 : Index := 128#32
  ![v362.toNat, 128]
def k0_off8 (i : grid0.Coords) : Fin 2 → Nat :=
  let c128_144 : Index := 128#32
  let arg1 : BitVec 32 := BitVec.ofNat 32 (i 1).val
  let c1_i32 : BitVec 32 := 1#32
  let v272 : BitVec 32 := Scalar.subi arg1 c1_i32
  let c0_i32_95 : BitVec 32 := 0#32
  let v273 : BitVec 32 := Scalar.maxsi v272 c0_i32_95
  let c256_i32_97 : BitVec 32 := 256#32
  let v275 : BitVec 32 := Scalar.muli v273 c256_i32_97
  let v276 : BitVec 32 := v275
  let v427 : Index := Scalar.indexCast v276
  ![128, v427.toNat]
def k0_mult3 (arg14 : BitVec 32) : BitVec 32 :=
  let c256_i32_156 : BitVec 32 := 256#32
  let v462 : BitVec 32 := Scalar.muli arg14 c256_i32_156
  v462

def k0_off9 (arg14 : BitVec 32) : Fin 2 → Nat :=
  let c256_i32_156 : BitVec 32 := 256#32
  let v462 : BitVec 32 := Scalar.muli arg14 c256_i32_156
  let v463 : BitVec 32 := v462
  let v464 : Index := Scalar.indexCast v463
  let c0_157 : Index := 0#32
  ![v464.toNat, 0]
def k0_off10 (arg14 : BitVec 32) : Fin 2 → Nat :=
  let c0_175 : Index := 0#32
  let c256_i32_156 : BitVec 32 := 256#32
  let v462 : BitVec 32 := Scalar.muli arg14 c256_i32_156
  let v463 : BitVec 32 := v462
  let v529 : Index := Scalar.indexCast v463
  ![0, v529.toNat]
def k0_off11 (arg14 : BitVec 32) : Fin 2 → Nat :=
  let c256_i32_156 : BitVec 32 := 256#32
  let v462 : BitVec 32 := Scalar.muli arg14 c256_i32_156
  let v463 : BitVec 32 := v462
  let v549 : Index := Scalar.indexCast v463
  let c128_181 : Index := 128#32
  ![v549.toNat, 128]
def k0_off12 (arg14 : BitVec 32) : Fin 2 → Nat :=
  let c128_199 : Index := 128#32
  let c256_i32_156 : BitVec 32 := 256#32
  let v462 : BitVec 32 := Scalar.muli arg14 c256_i32_156
  let v463 : BitVec 32 := v462
  let v614 : Index := Scalar.indexCast v463
  ![128, v614.toNat]

def k0_chk1 (arg14 : BitVec 32) : Prop :=
  (256 ∣ (k0_mult3 arg14).toNat) ∧
  (∀ a, (k0_off9 arg14) a + S256x128.size a ≤ S8192x256.size a) ∧
  (∀ a, (k0_off10 arg14) a + S128x256.size a ≤ S256x8192.size a) ∧
  (∀ a, (k0_off11 arg14) a + S256x128.size a ≤ S8192x256.size a) ∧
  (∀ a, (k0_off12 arg14) a + S128x256.size a ≤ S256x8192.size a)
theorem k0_mult3_dvd : ∀ (arg14 : BitVec 32) (k0_hw1 : k0_chk1 arg14), 256 ∣ (k0_mult3 arg14).toNat := fun arg14 k0_hw1 => k0_hw1.1
theorem k0_off9_inb : ∀ (arg14 : BitVec 32) (k0_hw1 : k0_chk1 arg14), ∀ a, (k0_off9 arg14) a + S256x128.size a ≤ S8192x256.size a := fun arg14 k0_hw1 => k0_hw1.2.1
theorem k0_off10_inb : ∀ (arg14 : BitVec 32) (k0_hw1 : k0_chk1 arg14), ∀ a, (k0_off10 arg14) a + S128x256.size a ≤ S256x8192.size a := fun arg14 k0_hw1 => k0_hw1.2.2.1
theorem k0_off11_inb : ∀ (arg14 : BitVec 32) (k0_hw1 : k0_chk1 arg14), ∀ a, (k0_off11 arg14) a + S256x128.size a ≤ S8192x256.size a := fun arg14 k0_hw1 => k0_hw1.2.2.2.1
theorem k0_off12_inb : ∀ (arg14 : BitVec 32) (k0_hw1 : k0_chk1 arg14), ∀ a, (k0_off12 arg14) a + S128x256.size a ≤ S256x8192.size a := fun arg14 k0_hw1 => k0_hw1.2.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== AttnGradIdeal.lean ====
variable {F : FTy → Type} [FloatOps F] [Named F]
def κ : String → Option EReal := fun
  | "skip" => some ⊥
  | _ => none
-- ==== AttnGradRefIdeal.lean ====
abbrev S8192x1024 : Shape := ⟨2, ![8192, 1024]⟩
abbrev S8192x2048 : Shape := ⟨2, ![8192, 2048]⟩
abbrev S1x1024 : Shape := ⟨2, ![1, 1024]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128 : Shape := ⟨2, ![8, 128]⟩
abbrev S8192x8 : Shape := ⟨2, ![8192, 8]⟩
abbrev S8192x8x1 : Shape := ⟨3, ![8192, 8, 1]⟩
abbrev S1x8x128 : Shape := ⟨3, ![1, 8, 128]⟩
abbrev S8x128x8192 : Shape := ⟨3, ![8, 128, 8192]⟩
abbrev S1024x8192 : Shape := ⟨2, ![1024, 8192]⟩

abbrev nBuf : Space → Nat
  | .hbm => 230
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x1024, .bf16⟩
  | 3 => ⟨S8192x2048, .f32⟩
  | 4 => ⟨S1x1024, .f32⟩
  | 5 => ⟨S8192x1024, .f32⟩
  | 6 => ⟨S8192x1024, .f32⟩
  | 7 => ⟨S8192x1024, .f32⟩
  | 8 => ⟨S8192x8x128, .f32⟩
  | 9 => ⟨S8x8192x128, .f32⟩
  | 10 => ⟨S8192x8x128, .f32⟩
  | 11 => ⟨S8x8192x128, .f32⟩
  | 12 => ⟨S8x8192x8192, .f32⟩
  | 13 => ⟨S_, .f32⟩
  | 14 => ⟨S8x8192x8192, .f32⟩
  | 15 => ⟨S8x8192x8192, .f32⟩
  | 16 => ⟨S8192, .i32⟩
  | 17 => ⟨S1x8192, .i32⟩
  | 18 => ⟨S8192x1, .i32⟩
  | 19 => ⟨S8192x8192, .i32⟩
  | 20 => ⟨S8192x8192, .i32⟩
  | 21 => ⟨S8192x8192, .i1⟩
  | 22 => ⟨S8x8192x8192, .f32⟩
  | 23 => ⟨S8x8192x8192, .f32⟩
  | 24 => ⟨S_, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .i1⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S_, .f32⟩
  | 39 => ⟨S8x8192x8192, .f32⟩
  | 40 => ⟨S8x8192x8192, .i1⟩
  | 41 => ⟨S_, .f32⟩
  | 42 => ⟨S8x8192x8192, .f32⟩
  | 43 => ⟨S8x8192x8192, .f32⟩
  | 44 => ⟨S_, .f32⟩
  | 45 => ⟨S8x8192x8192, .f32⟩
  | 46 => ⟨S8x8192x8192, .i1⟩
  | 47 => ⟨S_, .f32⟩
  | 48 => ⟨S8x8192x8192, .f32⟩
  | 49 => ⟨S8x8192x8192, .f32⟩
  | 50 => ⟨S8x8192x8192, .f32⟩
  | 51 => ⟨S8x8192x8192, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x8192x8192, .f32⟩
  | 60 => ⟨S8x8192x8192, .i1⟩
  | 61 => ⟨S_, .f32⟩
  | 62 => ⟨S8x8192x8192, .f32⟩
  | 63 => ⟨S8x8192x8192, .f32⟩
  | 64 => ⟨S8x8192x8192, .f32⟩
  | 65 => ⟨S8x8192x8192, .f32⟩
  | 66 => ⟨S8x8192x8192, .f32⟩
  | 67 => ⟨S_, .f32⟩
  | 68 => ⟨S8x8192x8192, .f32⟩
  | 69 => ⟨S8x8192x8192, .f32⟩
  | 70 => ⟨S8x8192x8192, .f32⟩
  | 71 => ⟨S_, .f32⟩
  | 72 => ⟨S_, .f32⟩
  | 73 => ⟨S8x8192x8192, .i1⟩
  | 74 => ⟨S8x8192x8192, .f32⟩
  | 75 => ⟨S8x8192x8192, .f32⟩
  | 76 => ⟨S_, .f32⟩
  | 77 => ⟨S8x8192x8192, .f32⟩
  | 78 => ⟨S_, .f32⟩
  | 79 => ⟨S_, .f32⟩
  | 80 => ⟨S8x8192x8192, .f32⟩
  | 81 => ⟨S8x8192x8192, .f32⟩
  | 82 => ⟨S8x8192x8192, .f32⟩
  | 83 => ⟨S_, .f32⟩
  | 84 => ⟨S8x8192x8192, .f32⟩
  | 85 => ⟨S8x8192x8192, .f32⟩
  | 86 => ⟨S8x8192x8192, .f32⟩
  | 87 => ⟨S8x8192x8192, .f32⟩
  | 88 => ⟨S8x8192x8192, .i1⟩
  | 89 => ⟨S8x8192x8192, .f32⟩
  | 90 => ⟨S8x8192x8192, .f32⟩
  | 91 => ⟨S8x8192x8192, .f32⟩
  | 92 => ⟨S8x8192x8192, .f32⟩
  | 93 => ⟨S8x8192x8192, .f32⟩
  | 94 => ⟨S8x8192x8192, .f32⟩
  | 95 => ⟨S8x8192x8192, .f32⟩
  | 96 => ⟨S8x8192x8192, .f32⟩
  | 97 => ⟨S_, .f32⟩
  | 98 => ⟨S8x8192x8192, .f32⟩
  | 99 => ⟨S8x8192x8192, .i1⟩
  | 100 => ⟨S_, .f32⟩
  | 101 => ⟨S8x8192x8192, .f32⟩
  | 102 => ⟨S8x8192x8192, .f32⟩
  | 103 => ⟨S_, .f32⟩
  | 104 => ⟨S8x8192x8192, .f32⟩
  | 105 => ⟨S8x8192x8192, .i1⟩
  | 106 => ⟨S_, .f32⟩
  | 107 => ⟨S8x8192x8192, .f32⟩
  | 108 => ⟨S8x8192x8192, .f32⟩
  | 109 => ⟨S8x8192x8192, .f32⟩
  | 110 => ⟨S8x8192x8192, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S8x8192x8192, .f32⟩
  | 119 => ⟨S8x8192x8192, .i1⟩
  | 120 => ⟨S_, .f32⟩
  | 121 => ⟨S8x8192x8192, .f32⟩
  | 122 => ⟨S8x8192x8192, .f32⟩
  | 123 => ⟨S8x8192x8192, .f32⟩
  | 124 => ⟨S8x8192x8192, .f32⟩
  | 125 => ⟨S8x8192x8192, .f32⟩
  | 126 => ⟨S_, .f32⟩
  | 127 => ⟨S8x8192x8192, .f32⟩
  | _ => ⟨S8192x1024, .bf16⟩

abbrev hbmTy0_1 (i : Nat) : BufTy := match i % 128 with
  | 0 => ⟨S8x8192x8192, .f32⟩
  | 1 => ⟨S8x8192x8192, .f32⟩
  | 2 => ⟨S8x8192x8192, .f32⟩
  | 3 => ⟨S8x8192x8192, .f32⟩
  | 4 => ⟨S_, .f32⟩
  | 5 => ⟨S_, .f32⟩
  | 6 => ⟨S8x8192x8192, .i1⟩
  | 7 => ⟨S8x8192x8192, .f32⟩
  | 8 => ⟨S8x8192x8192, .f32⟩
  | 9 => ⟨S_, .f32⟩
  | 10 => ⟨S8x8192x8192, .f32⟩
  | 11 => ⟨S8192x8x128, .f32⟩
  | 12 => ⟨S8x8192x128, .f32⟩
  | 13 => ⟨S8x8192x128, .f32⟩
  | 14 => ⟨S8192x8x128, .f32⟩
  | 15 => ⟨S8x128, .f32⟩
  | 16 => ⟨S8192x8x128, .f32⟩
  | 17 => ⟨S_, .f32⟩
  | 18 => ⟨S8192x8, .f32⟩
  | 19 => ⟨S8192x8x1, .f32⟩
  | 20 => ⟨S_, .f32⟩
  | 21 => ⟨S8192x8x1, .f32⟩
  | 22 => ⟨S8192x8x1, .f32⟩
  | 23 => ⟨S_, .f32⟩
  | 24 => ⟨S8192x8x1, .f32⟩
  | 25 => ⟨S8192x8x1, .f32⟩
  | 26 => ⟨S8192x8x1, .f32⟩
  | 27 => ⟨S8192x8x1, .f32⟩
  | 28 => ⟨S_, .f32⟩
  | 29 => ⟨S8192x8x1, .f32⟩
  | 30 => ⟨S8192x8x1, .f32⟩
  | 31 => ⟨S8192x8x128, .f32⟩
  | 32 => ⟨S8192x8x128, .f32⟩
  | 33 => ⟨S1x8x128, .f32⟩
  | 34 => ⟨S8192x8x128, .f32⟩
  | 35 => ⟨S8192x8x128, .f32⟩
  | 36 => ⟨S8192x1024, .f32⟩
  | 37 => ⟨S8192x1024, .f32⟩
  | 38 => ⟨S8192x8x128, .f32⟩
  | 39 => ⟨S8192x8x128, .f32⟩
  | 40 => ⟨S_, .f32⟩
  | 41 => ⟨S8x128, .f32⟩
  | 42 => ⟨S1x8x128, .f32⟩
  | 43 => ⟨S8192x8x128, .f32⟩
  | 44 => ⟨S8192x8x128, .f32⟩
  | 45 => ⟨S_, .f32⟩
  | 46 => ⟨S8x128, .f32⟩
  | 47 => ⟨S8192x8x128, .f32⟩
  | 48 => ⟨S_, .f32⟩
  | 49 => ⟨S8192x8, .f32⟩
  | 50 => ⟨S8192x8x1, .f32⟩
  | 51 => ⟨S8192x8x128, .f32⟩
  | 52 => ⟨S8192x8x128, .f32⟩
  | 53 => ⟨S8192x8x1, .f32⟩
  | 54 => ⟨S_, .f32⟩
  | 55 => ⟨S8192x8x1, .f32⟩
  | 56 => ⟨S8192x8x1, .f32⟩
  | 57 => ⟨S_, .f32⟩
  | 58 => ⟨S8192x8, .f32⟩
  | 59 => ⟨S8192x8x128, .f32⟩
  | 60 => ⟨S8192x8x128, .f32⟩
  | 61 => ⟨S8192x8x128, .f32⟩
  | 62 => ⟨S8192x8x128, .f32⟩
  | 63 => ⟨S8192x8x128, .f32⟩
  | 64 => ⟨S1x1024, .f32⟩
  | 65 => ⟨S8x8192x128, .f32⟩
  | 66 => ⟨S8x128x8192, .f32⟩
  | 67 => ⟨S8x8192x128, .f32⟩
  | 68 => ⟨S8x8192x8192, .f32⟩
  | 69 => ⟨S8192x8x128, .f32⟩
  | 70 => ⟨S8192x1024, .f32⟩
  | 71 => ⟨S_, .f32⟩
  | 72 => ⟨S8x8192x8192, .f32⟩
  | 73 => ⟨S8x8192x8192, .f32⟩
  | 74 => ⟨S8x8192x8192, .f32⟩
  | 75 => ⟨S8x8192x8192, .f32⟩
  | 76 => ⟨S8x8192x8192, .f32⟩
  | 77 => ⟨S8x8192x8192, .f32⟩
  | 78 => ⟨S8x8192x8192, .f32⟩
  | 79 => ⟨S_, .f32⟩
  | 80 => ⟨S_, .f32⟩
  | 81 => ⟨S8x8192x8192, .f32⟩
  | 82 => ⟨S8x8192x8192, .f32⟩
  | 83 => ⟨S_, .f32⟩
  | 84 => ⟨S8x8192x8192, .f32⟩
  | 85 => ⟨S8x8192x8192, .f32⟩
  | 86 => ⟨S8x8192x8192, .f32⟩
  | 87 => ⟨S8x8192x8192, .f32⟩
  | 88 => ⟨S8x8192x8192, .f32⟩
  | 89 => ⟨S8x8192x8192, .f32⟩
  | 90 => ⟨S8x8192x8192, .f32⟩
  | 91 => ⟨S_, .f32⟩
  | 92 => ⟨S8x8192x8192, .f32⟩
  | 93 => ⟨S8x8192x8192, .f32⟩
  | 94 => ⟨S8x8192x128, .f32⟩
  | 95 => ⟨S8x8192x128, .f32⟩
  | 96 => ⟨S8192x8x128, .f32⟩
  | 97 => ⟨S8192x1024, .f32⟩
  | 98 => ⟨S8192x8x128, .f32⟩
  | 99 => ⟨S8192x1024, .f32⟩
  | 100 => ⟨S1024x8192, .f32⟩
  | 101 => ⟨S1024x8192, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v17_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v17_2 : Ref sig .tc := ⟨.hbm, 69, rfl⟩
abbrev main_v17_0 : Ref sig .tc := ⟨.hbm, 70, rfl⟩
abbrev main_cst_0 : Ref sig .tc := ⟨.hbm, 71, rfl⟩
abbrev main_call1_v0 : Ref sig .tc := ⟨.hbm, 72, rfl⟩
abbrev main_v18_1 : Ref sig .tc := ⟨.hbm, 73, rfl⟩
abbrev main_call1_v2 : Ref sig .tc := ⟨.hbm, 74, rfl⟩
abbrev main_v18_0 : Ref sig .tc := ⟨.hbm, 75, rfl⟩
abbrev main_call1_cst : Ref sig .tc := ⟨.hbm, 76, rfl⟩
abbrev main_v18_2 : Ref sig .tc := ⟨.hbm, 77, rfl⟩
abbrev main_call2_cst : Ref sig .tc := ⟨.hbm, 78, rfl⟩
abbrev main_call2_v0 : Ref sig .tc := ⟨.hbm, 79, rfl⟩
abbrev main_v19 : Ref sig .tc := ⟨.hbm, 80, rfl⟩
abbrev main_v20 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v21_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v21_2 : Ref sig .tc := ⟨.hbm, 128, rfl⟩
abbrev main_v21_0 : Ref sig .tc := ⟨.hbm, 129, rfl⟩
abbrev main_v22 : Ref sig .tc := ⟨.hbm, 130, rfl⟩
abbrev main_v23 : Ref sig .tc := ⟨.hbm, 131, rfl⟩
abbrev main_cst_1 : Ref sig .tc := ⟨.hbm, 132, rfl⟩
abbrev main_call4_v0 : Ref sig .tc := ⟨.hbm, 133, rfl⟩
abbrev main_v24_1 : Ref sig .tc := ⟨.hbm, 134, rfl⟩
abbrev main_call4_v2 : Ref sig .tc := ⟨.hbm, 135, rfl⟩
abbrev main_v24_0 : Ref sig .tc := ⟨.hbm, 136, rfl⟩
abbrev main_call4_cst : Ref sig .tc := ⟨.hbm, 137, rfl⟩
abbrev main_v24_2 : Ref sig .tc := ⟨.hbm, 138, rfl⟩
abbrev main_v25 : Ref sig .tc := ⟨.hbm, 139, rfl⟩
abbrev main_v26 : Ref sig .tc := ⟨.hbm, 140, rfl⟩
abbrev main_v27 : Ref sig .tc := ⟨.hbm, 141, rfl⟩
abbrev main_v28 : Ref sig .tc := ⟨.hbm, 142, rfl⟩
abbrev main_v29 : Ref sig .tc := ⟨.hbm, 143, rfl⟩
abbrev main_v30 : Ref sig .tc := ⟨.hbm, 144, rfl⟩
abbrev main_cst_2 : Ref sig .tc := ⟨.hbm, 145, rfl⟩
abbrev main_v31 : Ref sig .tc := ⟨.hbm, 146, rfl⟩
abbrev main_v32 : Ref sig .tc := ⟨.hbm, 147, rfl⟩
abbrev main_cst_3 : Ref sig .tc := ⟨.hbm, 148, rfl⟩
abbrev main_v33 : Ref sig .tc := ⟨.hbm, 149, rfl⟩
abbrev main_v34 : Ref sig .tc := ⟨.hbm, 150, rfl⟩
abbrev main_cst_4 : Ref sig .tc := ⟨.hbm, 151, rfl⟩
abbrev main_v35 : Ref sig .tc := ⟨.hbm, 152, rfl⟩
abbrev main_v36 : Ref sig .tc := ⟨.hbm, 153, rfl⟩
abbrev main_v37 : Ref sig .tc := ⟨.hbm, 154, rfl⟩
abbrev main_v38 : Ref sig .tc := ⟨.hbm, 155, rfl⟩
abbrev main_cst_5 : Ref sig .tc := ⟨.hbm, 156, rfl⟩
abbrev main_v39 : Ref sig .tc := ⟨.hbm, 157, rfl⟩
abbrev main_v40 : Ref sig .tc := ⟨.hbm, 158, rfl⟩
abbrev main_v41 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_cst_6 : Ref sig .tc := ⟨.hbm, 168, rfl⟩
abbrev main_v50 : Ref sig .tc := ⟨.hbm, 169, rfl⟩
abbrev main_v51 : Ref sig .tc := ⟨.hbm, 170, rfl⟩
abbrev main_v52 : Ref sig .tc := ⟨.hbm, 171, rfl⟩
abbrev main_v53 : Ref sig .tc := ⟨.hbm, 172, rfl⟩
abbrev main_cst_7 : Ref sig .tc := ⟨.hbm, 173, rfl⟩
abbrev main_v54 : Ref sig .tc := ⟨.hbm, 174, rfl⟩
abbrev main_v55 : Ref sig .tc := ⟨.hbm, 175, rfl⟩
abbrev main_cst_8 : Ref sig .tc := ⟨.hbm, 176, rfl⟩
abbrev main_v56 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_cst_9 : Ref sig .tc := ⟨.hbm, 182, rfl⟩
abbrev main_v61 : Ref sig .tc := ⟨.hbm, 183, rfl⟩
abbrev main_v62 : Ref sig .tc := ⟨.hbm, 184, rfl⟩
abbrev main_cst_10 : Ref sig .tc := ⟨.hbm, 185, rfl⟩
abbrev main_v63 : Ref sig .tc := ⟨.hbm, 186, rfl⟩
abbrev main_v64 : Ref sig .tc := ⟨.hbm, 187, rfl⟩
abbrev main_v65 : Ref sig .tc := ⟨.hbm, 188, rfl⟩
abbrev main_v66 : Ref sig .tc := ⟨.hbm, 189, rfl⟩
abbrev main_v67 : Ref sig .tc := ⟨.hbm, 190, rfl⟩
abbrev main_v68 : Ref sig .tc := ⟨.hbm, 191, rfl⟩
abbrev main_v69 : Ref sig .tc := ⟨.hbm, 192, rfl⟩
abbrev main_v70 : Ref sig .tc := ⟨.hbm, 193, rfl⟩
abbrev main_v71 : Ref sig .tc := ⟨.hbm, 194, rfl⟩
abbrev main_v72 : Ref sig .tc := ⟨.hbm, 195, rfl⟩
abbrev main_v73 : Ref sig .tc := ⟨.hbm, 196, rfl⟩
abbrev main_v74 : Ref sig .tc := ⟨.hbm, 197, rfl⟩
abbrev main_v75 : Ref sig .tc := ⟨.hbm, 198, rfl⟩
abbrev main_call5_cst : Ref sig .tc := ⟨.hbm, 199, rfl⟩
abbrev main_call5_v0 : Ref sig .tc := ⟨.hbm, 200, rfl⟩
abbrev main_v76 : Ref sig .tc := ⟨.hbm, 201, rfl⟩
abbrev main_v77 : Ref sig .tc := ⟨.hbm, 202, rfl⟩
abbrev main_call6_v0 : Ref sig .tc := ⟨.hbm, 203, rfl⟩
abbrev main_call6_v1 : Ref sig .tc := ⟨.hbm, 204, rfl⟩
abbrev main_v78 : Ref sig .tc := ⟨.hbm, 205, rfl⟩
abbrev main_v79 : Ref sig .tc := ⟨.hbm, 206, rfl⟩
abbrev main_call7_cst : Ref sig .tc := ⟨.hbm, 207, rfl⟩
abbrev main_call7_v0 : Ref sig .tc := ⟨.hbm, 208, rfl⟩
abbrev main_v80 : Ref sig .tc := ⟨.hbm, 209, rfl⟩
abbrev main_v81 : Ref sig .tc := ⟨.hbm, 210, rfl⟩
abbrev main_call8_cst : Ref sig .tc := ⟨.hbm, 211, rfl⟩
abbrev main_call8_v0 : Ref sig .tc := ⟨.hbm, 212, rfl⟩
abbrev main_v82 : Ref sig .tc := ⟨.hbm, 213, rfl⟩
abbrev main_call9_v0 : Ref sig .tc := ⟨.hbm, 214, rfl⟩
abbrev main_call9_v1 : Ref sig .tc := ⟨.hbm, 215, rfl⟩
abbrev main_v83 : Ref sig .tc := ⟨.hbm, 216, rfl⟩
abbrev main_v84 : Ref sig .tc := ⟨.hbm, 217, rfl⟩
abbrev main_v85 : Ref sig .tc := ⟨.hbm, 218, rfl⟩
abbrev main_cst_11 : Ref sig .tc := ⟨.hbm, 219, rfl⟩
abbrev main_v86 : Ref sig .tc := ⟨.hbm, 220, rfl⟩
abbrev main_v87 : Ref sig .tc := ⟨.hbm, 221, rfl⟩
abbrev main_v88 : Ref sig .tc := ⟨.hbm, 222, rfl⟩
abbrev main_v89 : Ref sig .tc := ⟨.hbm, 223, rfl⟩
abbrev main_v90 : Ref sig .tc := ⟨.hbm, 224, rfl⟩
abbrev main_v91 : Ref sig .tc := ⟨.hbm, 225, rfl⟩
abbrev main_v92 : Ref sig .tc := ⟨.hbm, 226, rfl⟩
abbrev main_v93 : Ref sig .tc := ⟨.hbm, 227, rfl⟩
abbrev main_v94 : Ref sig .tc := ⟨.hbm, 228, rfl⟩
abbrev main_v95 : Ref sig .tc := ⟨.hbm, 229, rfl⟩

abbrev nD : Nat := 1
abbrev τ : Topo := Topo.v7x

variable {F : FTy → Type} [FloatOps F]
-- ==== SwigluGrad.lean ====
abbrev S8192x2048 : Shape := ⟨2, ![8192, 2048]⟩
abbrev S5632x2048 : Shape := ⟨2, ![5632, 2048]⟩
abbrev S8192x5632 : Shape := ⟨2, ![8192, 5632]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .hbm, ⟨3, _⟩ => ⟨S8192x5632, .f32⟩
  | .hbm, ⟨4, _⟩ => ⟨S8192x5632, .bf16⟩
  | .hbm, ⟨5, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluGradRefIdeal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .hbm, ⟨3, _⟩ => ⟨S8192x5632, .f32⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x2048, .f32⟩
  | .hbm, ⟨20, _⟩ => ⟨S8192x2048, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .bf16⟩
  | .hbm, ⟨29, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== FfnOutGradW.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutGradWRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S5632x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnInGradW.lean ====
abbrev S8192x2048 : Shape := ⟨2, ![8192, 2048]⟩
abbrev S8192x5632 : Shape := ⟨2, ![8192, 5632]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond4 (i : grid0.Coords) : BitVec 1 :=
  let arg2 : BitVec 32 := BitVec.ofNat 32 (i 2).val
  let c3_i32_9 : BitVec 32 := 3#32
  let v17 : BitVec 1 := Scalar.cmpi .eq arg2 c3_i32_9
  let v18 : BitVec 32 := Scalar.extui v17
  let c0_i32_10 : BitVec 32 := 0#32
  let v19 : BitVec 1 := Scalar.cmpi .ne v18 c0_i32_10
  v19

def k0_cond5 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def k0_cond8 (i : grid0.Coords) : BitVec 1 :=
  let arg2 : BitVec 32 := BitVec.ofNat 32 (i 2).val
  let c3_i32_9 : BitVec 32 := 3#32
  let v17 : BitVec 1 := Scalar.cmpi .eq arg2 c3_i32_9
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg1 c4_i32
  let c3_i32 : BitVec 32 := 3#32
  let v1 : BitVec 32 := Scalar.select v0 arg2 c3_i32
  let c3_i32_0 : BitVec 32 := 3#32
  let v2 : BitVec 32 := Scalar.minsi arg1 c3_i32_0
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg1 c4_i32
  let c0_i32 : BitVec 32 := 0#32
  let v1 : BitVec 32 := Scalar.select v0 arg2 c0_i32
  let c4_i32_0 : BitVec 32 := 4#32
  let v2 : BitVec 32 := Scalar.subi arg1 c4_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnInGradWRefIdeal.lean ====
abbrev S8192x2048 : Shape := ⟨2, ![8192, 2048]⟩
abbrev S8192x5632 : Shape := ⟨2, ![8192, 5632]⟩
abbrev S_ : Shape := ⟨0, ![]⟩
abbrev S2048x11264 : Shape := ⟨2, ![2048, 11264]⟩
abbrev S8192x11264 : Shape := ⟨2, ![8192, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S8192x2048, .f32⟩
  | .hbm, ⟨4, _⟩ => ⟨S_, .f32⟩
  | .hbm, ⟨5, _⟩ => ⟨S2048x11264, .f32⟩
  | .hbm, ⟨6, _⟩ => ⟨S8192x11264, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x11264, .f32⟩
  | .hbm, ⟨13, _⟩ => ⟨S_, .f32⟩
  | .hbm, ⟨14, _⟩ => ⟨S8192x11264, .f32⟩
  | .hbm, ⟨15, _⟩ => ⟨S8192x11264, .f32⟩
  | .hbm, ⟨16, _⟩ => ⟨S11264x2048, .f32⟩
  | .hbm, ⟨17, _⟩ => ⟨S2048x11264, .f32⟩
  | .hbm, ⟨18, _⟩ => ⟨S2048x8x1408, .f32⟩
  | .hbm, ⟨19, _⟩ => ⟨S8x2048x1408, .f32⟩
  | .hbm, ⟨20, _⟩ => ⟨S8x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjGradW.lean ====
abbrev S8192x2048 : Shape := ⟨2, ![8192, 2048]⟩
abbrev S8192x7168 : Shape := ⟨2, ![8192, 7168]⟩
abbrev S8x2048x896 : Shape := ⟨3, ![8, 2048, 896]⟩
abbrev S2048x2048 : Shape := ⟨2, ![2048, 2048]⟩
abbrev S2048x896 : Shape := ⟨2, ![2048, 896]⟩
abbrev S1x2048x896 : Shape := ⟨3, ![1, 2048, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S8x2048x896, .bf16⟩
  | .local _ .vmem, ⟨0, _⟩ => ⟨S2048x2048, .bf16⟩
  | .local _ .vmem, ⟨1, _⟩ => ⟨S2048x2048, .bf16⟩
  | .local _ .vmem, ⟨2, _⟩ => ⟨S2048x896, .bf16⟩
  | .local _ .vmem, ⟨3, _⟩ => ⟨S2048x896, .bf16⟩
  | .local _ .vmem, ⟨4, _⟩ => ⟨S1x2048x896, .bf16⟩
  | .local _ .vmem, ⟨5, _⟩ => ⟨S1x2048x896, .bf16⟩
  | .local _ .vmem, ⟨6, _⟩ => ⟨S2048x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGradWRefIdeal.lean ====
abbrev S8192x2048 : Shape := ⟨2, ![8192, 2048]⟩
abbrev S8192x7168 : Shape := ⟨2, ![8192, 7168]⟩
abbrev S_ : Shape := ⟨0, ![]⟩
abbrev S2048x7168 : Shape := ⟨2, ![2048, 7168]⟩
abbrev S7168x2048 : Shape := ⟨2, ![7168, 2048]⟩
abbrev S2048x8x896 : Shape := ⟨3, ![2048, 8, 896]⟩
abbrev S8x2048x896 : Shape := ⟨3, ![8, 2048, 896]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S8192x2048, .f32⟩
  | .hbm, ⟨3, _⟩ => ⟨S8192x7168, .f32⟩
  | .hbm, ⟨4, _⟩ => ⟨S_, .f32⟩
  | .hbm, ⟨5, _⟩ => ⟨S2048x7168, .f32⟩
  | .hbm, ⟨6, _⟩ => ⟨S8192x7168, .f32⟩
  | .hbm, ⟨7, _⟩ => ⟨S7168x2048, .f32⟩
  | .hbm, ⟨8, _⟩ => ⟨S2048x7168, .f32⟩
  | .hbm, ⟨9, _⟩ => ⟨S2048x7168, .bf16⟩
  | .hbm, ⟨10, _⟩ => ⟨S2048x8x896, .bf16⟩
  | .hbm, ⟨11, _⟩ => ⟨S8x2048x896, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutGradW.lean ====
abbrev S8192x2048 : Shape := ⟨2, ![8192, 2048]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradWRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutGradX.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradXRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnInGradX.lean ====
abbrev S8192x5632 : Shape := ⟨2, ![8192, 5632]⟩
abbrev S8x2048x1408 : Shape := ⟨3, ![8, 2048, 1408]⟩
abbrev S8192x2048 : Shape := ⟨2, ![8192, 2048]⟩
abbrev S1024x1408 : Shape := ⟨2, ![1024, 1408]⟩
abbrev S1x2048x1408 : Shape := ⟨3, ![1, 2048, 1408]⟩
abbrev S1024x2048 : Shape := ⟨2, ![1024, 2048]⟩
abbrev S2048x1408 : Shape := ⟨2, ![2048, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8x2048x1408, .bf16⟩
  | .hbm, ⟨3, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

def k0_cond1 (i : grid0.Coords) : BitVec 1 :=
  let arg2 : BitVec 32 := BitVec.ofNat 32 (i 2).val
  let c4_i32 : BitVec 32 := 4#32
  let v0 : BitVec 1 := Scalar.cmpi .slt arg2 c4_i32
  let v1 : BitVec 32 := Scalar.extui v0
  let c0_i32 : BitVec 32 := 0#32
  let v2 : BitVec 1 := Scalar.cmpi .ne v1 c0_i32
  v2

def k0_cond4 (i : grid0.Coords) : BitVec 1 :=
  let arg2 : BitVec 32 := BitVec.ofNat 32 (i 2).val
  let c7_i32_10 : BitVec 32 := 7#32
  let v18 : BitVec 1 := Scalar.cmpi .eq arg2 c7_i32_10
  let v19 : BitVec 32 := Scalar.extui v18
  let c0_i32_11 : BitVec 32 := 0#32
  let v20 : BitVec 1 := Scalar.cmpi .ne v19 c0_i32_11
  v20

def k0_cond5 (i : grid0.Coords) : BitVec 1 :=
  let arg2 : BitVec 32 := BitVec.ofNat 32 (i 2).val
  let c4_i32_0 : BitVec 32 := 4#32
  let v3 : BitVec 1 := Scalar.cmpi .sge arg2 c4_i32_0
  let v4 : BitVec 32 := Scalar.extui v3
  let c0_i32_1 : BitVec 32 := 0#32
  let v5 : BitVec 1 := Scalar.cmpi .ne v4 c0_i32_1
  v5

def k0_cond8 (i : grid0.Coords) : BitVec 1 :=
  let arg2 : BitVec 32 := BitVec.ofNat 32 (i 2).val
  let c7_i32_10 : BitVec 32 := 7#32
  let v18 : BitVec 1 := Scalar.cmpi .eq arg2 c7_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnInGradXRefIdeal.lean ====
abbrev S8192x5632 : Shape := ⟨2, ![8192, 5632]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S_ : Shape := ⟨0, ![]⟩
abbrev S8192x2048 : Shape := ⟨2, ![8192, 2048]⟩
abbrev S8192x11264 : Shape := ⟨2, ![8192, 11264]⟩

abbrev nBuf : Space → Nat
  | .hbm => 19
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8x2048x1408, .bf16⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S_, .f32⟩
  | .hbm, ⟨7, _⟩ => ⟨S8192x2048, .f32⟩
  | .hbm, ⟨8, _⟩ => ⟨S8192x11264, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x11264, .f32⟩
  | .hbm, ⟨15, _⟩ => ⟨S_, .f32⟩
  | .hbm, ⟨16, _⟩ => ⟨S8192x11264, .f32⟩
  | .hbm, ⟨17, _⟩ => ⟨S8192x11264, .f32⟩
  | .hbm, ⟨18, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== ProjGradX.lean ====
abbrev S8192x7168 : Shape := ⟨2, ![8192, 7168]⟩
abbrev S8x2048x896 : Shape := ⟨3, ![8, 2048, 896]⟩
abbrev S8192x2048 : Shape := ⟨2, ![8192, 2048]⟩
abbrev S1024x896 : Shape := ⟨2, ![1024, 896]⟩
abbrev S1x2048x896 : Shape := ⟨3, ![1, 2048, 896]⟩
abbrev S1024x2048 : Shape := ⟨2, ![1024, 2048]⟩
abbrev S2048x896 : Shape := ⟨2, ![2048, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x7168, .bf16⟩
  | .hbm, ⟨1, _⟩ => ⟨S8x2048x896, .bf16⟩
  | .hbm, ⟨2, _⟩ => ⟨S8192x2048, .f32⟩
  | .local _ .vmem, ⟨0, _⟩ => ⟨S1024x896, .bf16⟩
  | .local _ .vmem, ⟨1, _⟩ => ⟨S1024x896, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32_7 : BitVec 32 := 7#32
  let v12 : BitVec 1 := Scalar.cmpi .eq arg2 c7_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGradXRefIdeal.lean ====
abbrev S8192x7168 : Shape := ⟨2, ![8192, 7168]⟩
abbrev S8x2048x896 : Shape := ⟨3, ![8, 2048, 896]⟩
abbrev S2048x8x896 : Shape := ⟨3, ![2048, 8, 896]⟩
abbrev S2048x7168 : Shape := ⟨2, ![2048, 7168]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8x2048x896, .bf16⟩
  | .hbm, ⟨2, _⟩ => ⟨S8x2048x896, .f32⟩
  | .hbm, ⟨3, _⟩ => ⟨S2048x8x896, .f32⟩
  | .hbm, ⟨4, _⟩ => ⟨S2048x7168, .f32⟩
  | .hbm, ⟨5, _⟩ => ⟨S_, .f32⟩
  | .hbm, ⟨6, _⟩ => ⟨S8192x2048, .f32⟩
  | .hbm, ⟨7, _⟩ => ⟨S8192x7168, .f32⟩
  | .hbm, ⟨8, _⟩ => ⟨S8192x7168, .f32⟩
  | .hbm, ⟨9, _⟩ => ⟨S8192x2048, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnIn.lean ====
abbrev S8192x2048 : Shape := ⟨2, ![8192, 2048]⟩
abbrev S8x2048x1408 : Shape := ⟨3, ![8, 2048, 1408]⟩
abbrev S8192x5632 : Shape := ⟨2, ![8192, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8x2048x1408, .bf16⟩
  | .hbm, ⟨2, _⟩ => ⟨S8192x5632, .f32⟩
  | .hbm, ⟨3, _⟩ => ⟨S8192x5632, .f32⟩
  | .hbm, ⟨4, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S8192x2048 : Shape := ⟨2, ![8192, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x1408, .bf16⟩
  | .hbm, ⟨2, _⟩ => ⟨S8192x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S8192x11264, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Proj.lean ====
abbrev S8192x2048 : Shape := ⟨2, ![8192, 2048]⟩
abbrev S8x2048x896 : Shape := ⟨3, ![8, 2048, 896]⟩
abbrev S8192x7168 : Shape := ⟨2, ![8192, 7168]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x2048x896, .bf16⟩
  | .hbm, ⟨2, _⟩ => ⟨S8192x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8192x2048 : Shape := ⟨2, ![8192, 2048]⟩
abbrev S8x2048x896 : Shape := ⟨3, ![8, 2048, 896]⟩
abbrev S2048x8x896 : Shape := ⟨3, ![2048, 8, 896]⟩
abbrev S2048x7168 : Shape := ⟨2, ![2048, 7168]⟩
abbrev S8192x7168 : Shape := ⟨2, ![8192, 7168]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x896, .bf16⟩
  | .hbm, ⟨2, _⟩ => ⟨S8192x2048, .f32⟩
  | .hbm, ⟨3, _⟩ => ⟨S8x2048x896, .f32⟩
  | .hbm, ⟨4, _⟩ => ⟨S2048x8x896, .f32⟩
  | .hbm, ⟨5, _⟩ => ⟨S2048x7168, .f32⟩
  | .hbm, ⟨6, _⟩ => ⟨S8192x7168, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NormStep.lean ====
abbrev S4x2048 : Shape := ⟨2, ![4, 2048]⟩
abbrev S8x4x2048 : Shape := ⟨3, ![8, 4, 2048]⟩
abbrev S1x4x2048 : Shape := ⟨3, ![1, 4, 2048]⟩
abbrev S_ : Shape := ⟨0, ![]⟩
abbrev S1x8x2048 : Shape := ⟨3, ![1, 8, 2048]⟩
abbrev S8x2048 : Shape := ⟨2, ![8, 2048]⟩
abbrev S8x8x2048 : Shape := ⟨3, ![8, 8, 2048]⟩

abbrev nBuf : Space → Nat
  | .hbm => 30
  | .vmem => 8
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S8x4x2048, .f32⟩
  | .hbm, ⟨4, _⟩ => ⟨S1x4x2048, .f32⟩
  | .hbm, ⟨5, _⟩ => ⟨S_, .i32⟩
  | .hbm, ⟨6, _⟩ => ⟨S_, .f32⟩
  | .hbm, ⟨7, _⟩ => ⟨S1x8x2048, .f32⟩
  | .hbm, ⟨8, _⟩ => ⟨S8x2048, .f32⟩
  | .hbm, ⟨9, _⟩ => ⟨S1x4x2048, .f32⟩
  | .hbm, ⟨10, _⟩ => ⟨S_, .i32⟩
  | .hbm, ⟨11, _⟩ => ⟨S_, .f32⟩
  | .hbm, ⟨12, _⟩ => ⟨S1x8x2048, .f32⟩
  | .hbm, ⟨13, _⟩ => ⟨S8x2048, .f32⟩
  | .hbm, ⟨14, _⟩ => ⟨S1x4x2048, .f32⟩
  | .hbm, ⟨15, _⟩ => ⟨S_, .i32⟩
  | .hbm, ⟨16, _⟩ => ⟨S_, .f32⟩
  | .hbm, ⟨17, _⟩ => ⟨S1x8x2048, .f32⟩
  | .hbm, ⟨18, _⟩ => ⟨S8x2048, .f32⟩
  | .hbm, ⟨19, _⟩ => ⟨S_, .i32⟩
  | .hbm, ⟨20, _⟩ => ⟨S_, .f32⟩
  | .hbm, ⟨21, _⟩ => ⟨S8x8x2048, .f32⟩
  | .hbm, ⟨22, _⟩ => ⟨S8x2048, .f32⟩
  | .hbm, ⟨23, _⟩ => ⟨S8x2048, .f32⟩
  | .hbm, ⟨24, _⟩ => ⟨S8x2048, .f32⟩
  | .hbm, ⟨25, _⟩ => ⟨S8x2048, .f32⟩
  | .hbm, ⟨26, _⟩ => ⟨S4x2048, .f32⟩
  | .hbm, ⟨27, _⟩ => ⟨S4x2048, .f32⟩
  | .hbm, ⟨28, _⟩ => ⟨S4x2048, .f32⟩
  | .hbm, ⟨29, _⟩ => ⟨S4x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== NormStepIdeal.lean ====
abbrev S4x2048 : Shape := ⟨2, ![4, 2048]⟩
abbrev S8x4x2048 : Shape := ⟨3, ![8, 4, 2048]⟩
abbrev S1x4x2048 : Shape := ⟨3, ![1, 4, 2048]⟩
abbrev S_ : Shape := ⟨0, ![]⟩
abbrev S1x8x2048 : Shape := ⟨3, ![1, 8, 2048]⟩
abbrev S8x2048 : Shape := ⟨2, ![8, 2048]⟩
abbrev S8x8x2048 : Shape := ⟨3, ![8, 8, 2048]⟩

abbrev nBuf : Space → Nat
  | .hbm => 30
  | .vmem => 8
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S8x4x2048, .f32⟩
  | .hbm, ⟨4, _⟩ => ⟨S1x4x2048, .f32⟩
  | .hbm, ⟨5, _⟩ => ⟨S_, .i32⟩
  | .hbm, ⟨6, _⟩ => ⟨S_, .f32⟩
  | .hbm, ⟨7, _⟩ => ⟨S1x8x2048, .f32⟩
  | .hbm, ⟨8, _⟩ => ⟨S8x2048, .f32⟩
  | .hbm, ⟨9, _⟩ => ⟨S1x4x2048, .f32⟩
  | .hbm, ⟨10, _⟩ => ⟨S_, .i32⟩
  | .hbm, ⟨11, _⟩ => ⟨S_, .f32⟩
  | .hbm, ⟨12, _⟩ => ⟨S1x8x2048, .f32⟩
  | .hbm, ⟨13, _⟩ => ⟨S8x2048, .f32⟩
  | .hbm, ⟨14, _⟩ => ⟨S1x4x2048, .f32⟩
  | .hbm, ⟨15, _⟩ => ⟨S_, .i32⟩
  | .hbm, ⟨16, _⟩ => ⟨S_, .f32⟩
  | .hbm, ⟨17, _⟩ => ⟨S1x8x2048, .f32⟩
  | .hbm, ⟨18, _⟩ => ⟨S8x2048, .f32⟩
  | .hbm, ⟨19, _⟩ => ⟨S_, .i32⟩
  | .hbm, ⟨20, _⟩ => ⟨S_, .f32⟩
  | .hbm, ⟨21, _⟩ => ⟨S8x8x2048, .f32⟩
  | .hbm, ⟨22, _⟩ => ⟨S8x2048, .f32⟩
  | .hbm, ⟨23, _⟩ => ⟨S8x2048, .f32⟩
  | .hbm, ⟨24, _⟩ => ⟨S8x2048, .f32⟩
  | .hbm, ⟨25, _⟩ => ⟨S8x2048, .f32⟩
  | .hbm, ⟨26, _⟩ => ⟨S4x2048, .f32⟩
  | .hbm, ⟨27, _⟩ => ⟨S4x2048, .f32⟩
  | .hbm, ⟨28, _⟩ => ⟨S4x2048, .f32⟩
  | .hbm, ⟨29, _⟩ => ⟨S4x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== NormStepRefIdeal.lean ====
abbrev S4x2048 : Shape := ⟨2, ![4, 2048]⟩
abbrev S8x4x2048 : Shape := ⟨3, ![8, 4, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S8x4x2048, .f32⟩
  | .hbm, ⟨4, _⟩ => ⟨S_, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048, .f32⟩
  | .hbm, ⟨17, _⟩ => ⟨S_, .f32⟩
  | .hbm, ⟨18, _⟩ => ⟨S4x2048, .f32⟩
  | .hbm, ⟨19, _⟩ => ⟨S4x2048, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S_, .f32⟩
  | .hbm, ⟨25, _⟩ => ⟨S4x2048, .f32⟩
  | .hbm, ⟨26, _⟩ => ⟨S4x2048, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== FfnInStep.lean ====
abbrev S4x2048x1408 : Shape := ⟨3, ![4, 2048, 1408]⟩
abbrev S8x2048x1408 : Shape := ⟨3, ![8, 2048, 1408]⟩
abbrev S1x128x1408 : Shape := ⟨3, ![1, 128, 1408]⟩
abbrev S8x128x1408 : Shape := ⟨3, ![8, 128, 1408]⟩
abbrev S128x1408 : Shape := ⟨2, ![128, 1408]⟩

abbrev nBuf : Space → Nat
  | .hbm => 11
  | .vmem => 22
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4x2048x1408, .f32⟩
  | .hbm, ⟨3, _⟩ => ⟨S8x2048x1408, .bf16⟩
  | .hbm, ⟨4, _⟩ => ⟨S8x2048x1408, .bf16⟩
  | .hbm, ⟨5, _⟩ => ⟨S8x2048x1408, .bf16⟩
  | .hbm, ⟨6, _⟩ => ⟨S8x2048x1408, .bf16⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S8x128x1408, .bf16⟩
  | .local _ .vmem, ⟨7, _⟩ => ⟨S8x128x1408, .bf16⟩
  | .local _ .vmem, ⟨8, _⟩ => ⟨S8x128x1408, .bf16⟩
  | .local _ .vmem, ⟨9, _⟩ => ⟨S8x128x1408, .bf16⟩
  | .local _ .vmem, ⟨10, _⟩ => ⟨S8x128x1408, .bf16⟩
  | .local _ .vmem, ⟨11, _⟩ => ⟨S8x128x1408, .bf16⟩
  | .local _ .vmem, ⟨12, _⟩ => ⟨S8x128x1408, .bf16⟩
  | .local _ .vmem, ⟨13, _⟩ => ⟨S8x128x1408, .bf16⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .vmem, ⟨18, _⟩ => ⟨S1x128x1408, .f32⟩
  | .local _ .vmem, ⟨19, _⟩ => ⟨S1x128x1408, .f32⟩
  | .local _ .vmem, ⟨20, _⟩ => ⟨S1x128x1408, .f32⟩
  | .local _ .vmem, ⟨21, _⟩ => ⟨S1x128x1408, .f32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnInStepRefIdeal.lean ====
abbrev S4x2048x1408 : Shape := ⟨3, ![4, 2048, 1408]⟩
abbrev S8x2048x1408 : Shape := ⟨3, ![8, 2048, 1408]⟩
abbrev S_ : Shape := ⟨0, ![]⟩
abbrev S2048x1408 : Shape := ⟨2, ![2048, 1408]⟩
abbrev S1x2048x1408 : Shape := ⟨3, ![1, 2048, 1408]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4x2048x1408, .f32⟩
  | .hbm, ⟨3, _⟩ => ⟨S8x2048x1408, .bf16⟩
  | .hbm, ⟨4, _⟩ => ⟨S8x2048x1408, .bf16⟩
  | .hbm, ⟨5, _⟩ => ⟨S8x2048x1408, .bf16⟩
  | .hbm, ⟨6, _⟩ => ⟨S8x2048x1408, .bf16⟩
  | .hbm, ⟨7, _⟩ => ⟨S8x2048x1408, .f32⟩
  | .hbm, ⟨8, _⟩ => ⟨S_, .f32⟩
  | .hbm, ⟨9, _⟩ => ⟨S2048x1408, .f32⟩
  | .hbm, ⟨10, _⟩ => ⟨S8x2048x1408, .f32⟩
  | .hbm, ⟨11, _⟩ => ⟨S_, .f32⟩
  | .hbm, ⟨12, _⟩ => ⟨S2048x1408, .f32⟩
  | .hbm, ⟨13, _⟩ => ⟨S8x2048x1408, .f32⟩
  | .hbm, ⟨14, _⟩ => ⟨S_, .f32⟩
  | .hbm, ⟨15, _⟩ => ⟨S2048x1408, .f32⟩
  | .hbm, ⟨16, _⟩ => ⟨S8x2048x1408, .f32⟩
  | .hbm, ⟨17, _⟩ => ⟨S_, .f32⟩
  | .hbm, ⟨18, _⟩ => ⟨S2048x1408, .f32⟩
  | .hbm, ⟨19, _⟩ => ⟨S1x2048x1408, .f32⟩
  | .hbm, ⟨20, _⟩ => ⟨S1x2048x1408, .f32⟩
  | .hbm, ⟨21, _⟩ => ⟨S1x2048x1408, .f32⟩
  | .hbm, ⟨22, _⟩ => ⟨S1x2048x1408, .f32⟩
  | .hbm, ⟨23, _⟩ => ⟨S4x2048x1408, .f32⟩
  | .hbm, ⟨24, _⟩ => ⟨S_, .f32⟩
  | .hbm, ⟨25, _⟩ => ⟨S4x2048x1408, .f32⟩
  | .hbm, ⟨26, _⟩ => ⟨S4x2048x1408, .f32⟩
  | .hbm, ⟨27, _⟩ => ⟨S_, .f32⟩
  | .hbm, ⟨28, _⟩ => ⟨S4x2048x1408, .f32⟩
  | .hbm, ⟨29, _⟩ => ⟨S4x2048x1408, .f32⟩
  | .hbm, ⟨30, _⟩ => ⟨S4x2048x1408, .f32⟩
  | .hbm, ⟨31, _⟩ => ⟨S_, .f32⟩
  | .hbm, ⟨32, _⟩ => ⟨S4x2048x1408, .f32⟩
  | .hbm, ⟨33, _⟩ => ⟨S4x2048x1408, .f32⟩
  | .hbm, ⟨34, _⟩ => ⟨S4x2048x1408, .f32⟩
  | .hbm, ⟨35, _⟩ => ⟨S_, .f32⟩
  | .hbm, ⟨36, _⟩ => ⟨S4x2048x1408, .f32⟩
  | .hbm, ⟨37, _⟩ => ⟨S4x2048x1408, .f32⟩
  | .hbm, ⟨38, _⟩ => ⟨S4x2048x1408, .f32⟩
  | .hbm, ⟨39, _⟩ => ⟨S_, .f32⟩
  | .hbm, ⟨40, _⟩ => ⟨S4x2048x1408, .f32⟩
  | .hbm, ⟨41, _⟩ => ⟨S4x2048x1408, .f32⟩
  | .hbm, ⟨42, _⟩ => ⟨S_, .f32⟩
  | .hbm, ⟨43, _⟩ => ⟨S4x2048x1408, .f32⟩
  | .hbm, ⟨44, _⟩ => ⟨S4x2048x1408, .f32⟩
  | .hbm, ⟨45, _⟩ => ⟨S4x2048x1408, .f32⟩
  | .hbm, ⟨46, _⟩ => ⟨S_, .f32⟩
  | .hbm, ⟨47, _⟩ => ⟨S4x2048x1408, .f32⟩
  | .hbm, ⟨48, _⟩ => ⟨S4x2048x1408, .f32⟩
  | .hbm, ⟨49, _⟩ => ⟨S4x2048x1408, .f32⟩
  | .hbm, ⟨50, _⟩ => ⟨S_, .f32⟩
  | .hbm, ⟨51, _⟩ => ⟨S4x2048x1408, .f32⟩
  | .hbm, ⟨52, _⟩ => ⟨S4x2048x1408, .f32⟩
  | .hbm, ⟨53, _⟩ => ⟨S4x2048x1408, .f32⟩
  | .hbm, ⟨54, _⟩ => ⟨S_, .f32⟩
  | .hbm, ⟨55, _⟩ => ⟨S4x2048x1408, .f32⟩
  | .hbm, ⟨56, _⟩ => ⟨S4x2048x1408, .f32⟩
  | _, _ => ⟨S4x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== AdaStep.lean ====
abbrev S4x2048x1536 : Shape := ⟨3, ![4, 2048, 1536]⟩
abbrev S8x2048 : Shape := ⟨2, ![8, 2048]⟩
abbrev S8x4x1536 : Shape := ⟨3, ![8, 4, 1536]⟩
abbrev S4x8x1536 : Shape := ⟨3, ![4, 8, 1536]⟩
abbrev S_ : Shape := ⟨0, ![]⟩
abbrev S4x128x1536 : Shape := ⟨3, ![4, 128, 1536]⟩
abbrev S2048x8 : Shape := ⟨2, ![2048, 8]⟩
abbrev S2048x128 : Shape := ⟨2, ![2048, 128]⟩
abbrev S1x256x1536 : Shape := ⟨3, ![1, 256, 1536]⟩
abbrev S256x128 : Shape := ⟨2, ![256, 128]⟩
abbrev S1x128x1536 : Shape := ⟨3, ![1, 128, 1536]⟩
abbrev S128x1536 : Shape := ⟨2, ![128, 1536]⟩
abbrev S256x1536 : Shape := ⟨2, ![256, 1536]⟩

abbrev nBuf : Space → Nat
  | .hbm => 17
  | .vmem => 18
  | .smem => 0
  | _ => 0

abbrev bufTy : (tb : Table) → Fin (tcTables nBuf tb) → BufTy
  | .hbm, ⟨0, _⟩ => ⟨S4x2048x1536, .f32⟩
  | .hbm, ⟨1, _⟩ => ⟨S4x2048x1536, .f32⟩
  | .hbm, ⟨2, _⟩ => ⟨S4x2048x1536, .f32⟩
  | .hbm, ⟨3, _⟩ => ⟨S8x2048, .f32⟩
  | .hbm, ⟨4, _⟩ => ⟨S8x4x1536, .f32⟩
  | .hbm, ⟨5, _⟩ => ⟨S4x8x1536, .f32⟩
  | .hbm, ⟨6, _⟩ => ⟨S_, .i32⟩
  | .hbm, ⟨7, _⟩ => ⟨S_, .f32⟩
  | .hbm, ⟨8, _⟩ => ⟨S4x128x1536, .f32⟩
  | .hbm, ⟨9, _⟩ => ⟨S2048x8, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S4x2048x1536, .f32⟩
  | .hbm, ⟨14, _⟩ => ⟨S4x2048x1536, .f32⟩
  | .hbm, ⟨15, _⟩ => ⟨S4x2048x1536, .f32⟩
  | .hbm, ⟨16, _⟩ => ⟨S4x2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S256x128, .f32⟩
  | .local _ .vmem, ⟨7, _⟩ => ⟨S256x128, .f32⟩
  | .local _ .vmem, ⟨8, _⟩ => ⟨S1x128x1536, .f32⟩
  | .local _ .vmem, ⟨9, _⟩ => ⟨S1x128x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaStepRefIdeal.lean ====
abbrev S4x2048x1536 : Shape := ⟨3, ![4, 2048, 1536]⟩
abbrev S8x2048 : Shape := ⟨2, ![8, 2048]⟩
abbrev S8x4x1536 : Shape := ⟨3, ![8, 4, 1536]⟩
abbrev S4x1536x2048 : Shape := ⟨3, ![4, 1536, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1536, .f32⟩
  | .hbm, ⟨1, _⟩ => ⟨S4x2048x1536, .f32⟩
  | .hbm, ⟨2, _⟩ => ⟨S4x2048x1536, .f32⟩
  | .hbm, ⟨3, _⟩ => ⟨S8x2048, .f32⟩
  | .hbm, ⟨4, _⟩ => ⟨S8x4x1536, .f32⟩
  | .hbm, ⟨5, _⟩ => ⟨S8x4x1536, .f32⟩
  | .hbm, ⟨6, _⟩ => ⟨S4x1536x2048, .f32⟩
  | .hbm, ⟨7, _⟩ => ⟨S4x2048x1536, .f32⟩
  | .hbm, ⟨8, _⟩ => ⟨S_, .f32⟩
  | .hbm, ⟨9, _⟩ => ⟨S4x2048x1536, .f32⟩
  | .hbm, ⟨10, _⟩ => ⟨S4x2048x1536, .f32⟩
  | .hbm, ⟨11, _⟩ => ⟨S_, .f32⟩
  | .hbm, ⟨12, _⟩ => ⟨S4x2048x1536, .f32⟩
  | .hbm, ⟨13, _⟩ => ⟨S4x2048x1536, .f32⟩
  | .hbm, ⟨14, _⟩ => ⟨S4x2048x1536, .f32⟩
  | .hbm, ⟨15, _⟩ => ⟨S_, .f32⟩
  | .hbm, ⟨16, _⟩ => ⟨S4x2048x1536, .f32⟩
  | .hbm, ⟨17, _⟩ => ⟨S4x2048x1536, .f32⟩
  | .hbm, ⟨18, _⟩ => ⟨S4x2048x1536, .f32⟩
  | .hbm, ⟨19, _⟩ => ⟨S_, .f32⟩
  | .hbm, ⟨20, _⟩ => ⟨S4x2048x1536, .f32⟩
  | .hbm, ⟨21, _⟩ => ⟨S4x2048x1536, .f32⟩
  | .hbm, ⟨22, _⟩ => ⟨S4x2048x1536, .f32⟩
  | .hbm, ⟨23, _⟩ => ⟨S_, .f32⟩
  | .hbm, ⟨24, _⟩ => ⟨S4x2048x1536, .f32⟩
  | .hbm, ⟨25, _⟩ => ⟨S4x2048x1536, .f32⟩
  | .hbm, ⟨26, _⟩ => ⟨S_, .f32⟩
  | .hbm, ⟨27, _⟩ => ⟨S4x2048x1536, .f32⟩
  | .hbm, ⟨28, _⟩ => ⟨S4x2048x1536, .f32⟩
  | .hbm, ⟨29, _⟩ => ⟨S4x2048x1536, .f32⟩
  | .hbm, ⟨30, _⟩ => ⟨S_, .f32⟩
  | .hbm, ⟨31, _⟩ => ⟨S4x2048x1536, .f32⟩
  | .hbm, ⟨32, _⟩ => ⟨S4x2048x1536, .f32⟩
  | .hbm, ⟨33, _⟩ => ⟨S4x2048x1536, .f32⟩
  | .hbm, ⟨34, _⟩ => ⟨S_, .f32⟩
  | .hbm, ⟨35, _⟩ => ⟨S4x2048x1536, .f32⟩
  | .hbm, ⟨36, _⟩ => ⟨S4x2048x1536, .f32⟩
  | .hbm, ⟨37, _⟩ => ⟨S4x2048x1536, .f32⟩
  | .hbm, ⟨38, _⟩ => ⟨S_, .f32⟩
  | .hbm, ⟨39, _⟩ => ⟨S4x2048x1536, .f32⟩
  | .hbm, ⟨40, _⟩ => ⟨S4x2048x1536, .f32⟩
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== HeadStep.lean ====
abbrev S4x1024 : Shape := ⟨2, ![4, 1024]⟩
abbrev S8x4x1024 : Shape := ⟨3, ![8, 4, 1024]⟩
abbrev S1x4x1024 : Shape := ⟨3, ![1, 4, 1024]⟩
abbrev S_ : Shape := ⟨0, ![]⟩
abbrev S1x8x1024 : Shape := ⟨3, ![1, 8, 1024]⟩
abbrev S8x1024 : Shape := ⟨2, ![8, 1024]⟩
abbrev S8x8x1024 : Shape := ⟨3, ![8, 8, 1024]⟩

abbrev nBuf : Space → Nat
  | .hbm => 30
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S8x4x1024, .f32⟩
  | .hbm, ⟨4, _⟩ => ⟨S1x4x1024, .f32⟩
  | .hbm, ⟨5, _⟩ => ⟨S_, .i32⟩
  | .hbm, ⟨6, _⟩ => ⟨S_, .f32⟩
  | .hbm, ⟨7, _⟩ => ⟨S1x8x1024, .f32⟩
  | .hbm, ⟨8, _⟩ => ⟨S8x1024, .f32⟩
  | .hbm, ⟨9, _⟩ => ⟨S1x4x1024, .f32⟩
  | .hbm, ⟨10, _⟩ => ⟨S_, .i32⟩
  | .hbm, ⟨11, _⟩ => ⟨S_, .f32⟩
  | .hbm, ⟨12, _⟩ => ⟨S1x8x1024, .f32⟩
  | .hbm, ⟨13, _⟩ => ⟨S8x1024, .f32⟩
  | .hbm, ⟨14, _⟩ => ⟨S1x4x1024, .f32⟩
  | .hbm, ⟨15, _⟩ => ⟨S_, .i32⟩
  | .hbm, ⟨16, _⟩ => ⟨S_, .f32⟩
  | .hbm, ⟨17, _⟩ => ⟨S1x8x1024, .f32⟩
  | .hbm, ⟨18, _⟩ => ⟨S8x1024, .f32⟩
  | .hbm, ⟨19, _⟩ => ⟨S_, .i32⟩
  | .hbm, ⟨20, _⟩ => ⟨S_, .f32⟩
  | .hbm, ⟨21, _⟩ => ⟨S8x8x1024, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S4x1024, .f32⟩
  | .hbm, ⟨27, _⟩ => ⟨S4x1024, .f32⟩
  | .hbm, ⟨28, _⟩ => ⟨S4x1024, .f32⟩
  | .hbm, ⟨29, _⟩ => ⟨S4x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== HeadStepIdeal.lean ====
abbrev S4x1024 : Shape := ⟨2, ![4, 1024]⟩
abbrev S8x4x1024 : Shape := ⟨3, ![8, 4, 1024]⟩
abbrev S1x4x1024 : Shape := ⟨3, ![1, 4, 1024]⟩
abbrev S_ : Shape := ⟨0, ![]⟩
abbrev S1x8x1024 : Shape := ⟨3, ![1, 8, 1024]⟩
abbrev S8x1024 : Shape := ⟨2, ![8, 1024]⟩
abbrev S8x8x1024 : Shape := ⟨3, ![8, 8, 1024]⟩

abbrev nBuf : Space → Nat
  | .hbm => 30
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S8x4x1024, .f32⟩
  | .hbm, ⟨4, _⟩ => ⟨S1x4x1024, .f32⟩
  | .hbm, ⟨5, _⟩ => ⟨S_, .i32⟩
  | .hbm, ⟨6, _⟩ => ⟨S_, .f32⟩
  | .hbm, ⟨7, _⟩ => ⟨S1x8x1024, .f32⟩
  | .hbm, ⟨8, _⟩ => ⟨S8x1024, .f32⟩
  | .hbm, ⟨9, _⟩ => ⟨S1x4x1024, .f32⟩
  | .hbm, ⟨10, _⟩ => ⟨S_, .i32⟩
  | .hbm, ⟨11, _⟩ => ⟨S_, .f32⟩
  | .hbm, ⟨12, _⟩ => ⟨S1x8x1024, .f32⟩
  | .hbm, ⟨13, _⟩ => ⟨S8x1024, .f32⟩
  | .hbm, ⟨14, _⟩ => ⟨S1x4x1024, .f32⟩
  | .hbm, ⟨15, _⟩ => ⟨S_, .i32⟩
  | .hbm, ⟨16, _⟩ => ⟨S_, .f32⟩
  | .hbm, ⟨17, _⟩ => ⟨S1x8x1024, .f32⟩
  | .hbm, ⟨18, _⟩ => ⟨S8x1024, .f32⟩
  | .hbm, ⟨19, _⟩ => ⟨S_, .i32⟩
  | .hbm, ⟨20, _⟩ => ⟨S_, .f32⟩
  | .hbm, ⟨21, _⟩ => ⟨S8x8x1024, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S4x1024, .f32⟩
  | .hbm, ⟨27, _⟩ => ⟨S4x1024, .f32⟩
  | .hbm, ⟨28, _⟩ => ⟨S4x1024, .f32⟩
  | .hbm, ⟨29, _⟩ => ⟨S4x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== HeadStepRefIdeal.lean ====
abbrev S4x1024 : Shape := ⟨2, ![4, 1024]⟩
abbrev S8x4x1024 : Shape := ⟨3, ![8, 4, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S8x4x1024, .f32⟩
  | .hbm, ⟨4, _⟩ => ⟨S_, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S_, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S_, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S_, .f32⟩
  | .hbm, ⟨22, _⟩ => ⟨S4x1024, .f32⟩
  | .hbm, ⟨23, _⟩ => ⟨S4x1024, .f32⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S_, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S_, .f32⟩
  | .hbm, ⟨33, _⟩ => ⟨S4x1024, .f32⟩
  | .hbm, ⟨34, _⟩ => ⟨S4x1024, .f32⟩
  | .hbm, ⟨35, _⟩ => ⟨S4x1024, .f32⟩
  | .hbm, ⟨36, _⟩ => ⟨S_, .f32⟩
  | .hbm, ⟨37, _⟩ => ⟨S4x1024, .f32⟩
  | .hbm, ⟨38, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== QkStep.lean ====
abbrev S4x128 : Shape := ⟨2, ![4, 128]⟩
abbrev S8x4x128 : Shape := ⟨3, ![8, 4, 128]⟩
abbrev S1x4x128 : Shape := ⟨3, ![1, 4, 128]⟩
abbrev S_ : Shape := ⟨0, ![]⟩
abbrev S1x8x128 : Shape := ⟨3, ![1, 8, 128]⟩
abbrev S8x128 : Shape := ⟨2, ![8, 128]⟩
abbrev S8x8x128 : Shape := ⟨3, ![8, 8, 128]⟩

abbrev nBuf : Space → Nat
  | .hbm => 30
  | .vmem => 8
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S8x4x128, .f32⟩
  | .hbm, ⟨4, _⟩ => ⟨S1x4x128, .f32⟩
  | .hbm, ⟨5, _⟩ => ⟨S_, .i32⟩
  | .hbm, ⟨6, _⟩ => ⟨S_, .f32⟩
  | .hbm, ⟨7, _⟩ => ⟨S1x8x128, .f32⟩
  | .hbm, ⟨8, _⟩ => ⟨S8x128, .f32⟩
  | .hbm, ⟨9, _⟩ => ⟨S1x4x128, .f32⟩
  | .hbm, ⟨10, _⟩ => ⟨S_, .i32⟩
  | .hbm, ⟨11, _⟩ => ⟨S_, .f32⟩
  | .hbm, ⟨12, _⟩ => ⟨S1x8x128, .f32⟩
  | .hbm, ⟨13, _⟩ => ⟨S8x128, .f32⟩
  | .hbm, ⟨14, _⟩ => ⟨S1x4x128, .f32⟩
  | .hbm, ⟨15, _⟩ => ⟨S_, .i32⟩
  | .hbm, ⟨16, _⟩ => ⟨S_, .f32⟩
  | .hbm, ⟨17, _⟩ => ⟨S1x8x128, .f32⟩
  | .hbm, ⟨18, _⟩ => ⟨S8x128, .f32⟩
  | .hbm, ⟨19, _⟩ => ⟨S_, .i32⟩
  | .hbm, ⟨20, _⟩ => ⟨S_, .f32⟩
  | .hbm, ⟨21, _⟩ => ⟨S8x8x128, .f32⟩
  | .hbm, ⟨22, _⟩ => ⟨S8x128, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S4x128, .f32⟩
  | .hbm, ⟨27, _⟩ => ⟨S4x128, .f32⟩
  | .hbm, ⟨28, _⟩ => ⟨S4x128, .f32⟩
  | .hbm, ⟨29, _⟩ => ⟨S4x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== QkStepIdeal.lean ====
abbrev S4x128 : Shape := ⟨2, ![4, 128]⟩
abbrev S8x4x128 : Shape := ⟨3, ![8, 4, 128]⟩
abbrev S1x4x128 : Shape := ⟨3, ![1, 4, 128]⟩
abbrev S_ : Shape := ⟨0, ![]⟩
abbrev S1x8x128 : Shape := ⟨3, ![1, 8, 128]⟩
abbrev S8x128 : Shape := ⟨2, ![8, 128]⟩
abbrev S8x8x128 : Shape := ⟨3, ![8, 8, 128]⟩

abbrev nBuf : Space → Nat
  | .hbm => 30
  | .vmem => 8
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S8x4x128, .f32⟩
  | .hbm, ⟨4, _⟩ => ⟨S1x4x128, .f32⟩
  | .hbm, ⟨5, _⟩ => ⟨S_, .i32⟩
  | .hbm, ⟨6, _⟩ => ⟨S_, .f32⟩
  | .hbm, ⟨7, _⟩ => ⟨S1x8x128, .f32⟩
  | .hbm, ⟨8, _⟩ => ⟨S8x128, .f32⟩
  | .hbm, ⟨9, _⟩ => ⟨S1x4x128, .f32⟩
  | .hbm, ⟨10, _⟩ => ⟨S_, .i32⟩
  | .hbm, ⟨11, _⟩ => ⟨S_, .f32⟩
  | .hbm, ⟨12, _⟩ => ⟨S1x8x128, .f32⟩
  | .hbm, ⟨13, _⟩ => ⟨S8x128, .f32⟩
  | .hbm, ⟨14, _⟩ => ⟨S1x4x128, .f32⟩
  | .hbm, ⟨15, _⟩ => ⟨S_, .i32⟩
  | .hbm, ⟨16, _⟩ => ⟨S_, .f32⟩
  | .hbm, ⟨17, _⟩ => ⟨S1x8x128, .f32⟩
  | .hbm, ⟨18, _⟩ => ⟨S8x128, .f32⟩
  | .hbm, ⟨19, _⟩ => ⟨S_, .i32⟩
  | .hbm, ⟨20, _⟩ => ⟨S_, .f32⟩
  | .hbm, ⟨21, _⟩ => ⟨S8x8x128, .f32⟩
  | .hbm, ⟨22, _⟩ => ⟨S8x128, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S4x128, .f32⟩
  | .hbm, ⟨27, _⟩ => ⟨S4x128, .f32⟩
  | .hbm, ⟨28, _⟩ => ⟨S4x128, .f32⟩
  | .hbm, ⟨29, _⟩ => ⟨S4x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== QkStepRefIdeal.lean ====
abbrev S4x128 : Shape := ⟨2, ![4, 128]⟩
abbrev S8x4x128 : Shape := ⟨3, ![8, 4, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S8x4x128, .f32⟩
  | .hbm, ⟨4, _⟩ => ⟨S_, .f32⟩
  | .hbm, ⟨5, _⟩ => ⟨S4x128, .f32⟩
  | .hbm, ⟨6, _⟩ => ⟨S_, .f32⟩
  | .hbm, ⟨7, _⟩ => ⟨S4x128, .f32⟩
  | .hbm, ⟨8, _⟩ => ⟨S4x128, .f32⟩
  | .hbm, ⟨9, _⟩ => ⟨S_, .f32⟩
  | .hbm, ⟨10, _⟩ => ⟨S4x128, .f32⟩
  | .hbm, ⟨11, _⟩ => ⟨S4x128, .f32⟩
  | .hbm, ⟨12, _⟩ => ⟨S4x128, .f32⟩
  | .hbm, ⟨13, _⟩ => ⟨S_, .f32⟩
  | .hbm, ⟨14, _⟩ => ⟨S4x128, .f32⟩
  | .hbm, ⟨15, _⟩ => ⟨S4x128, .f32⟩
  | .hbm, ⟨16, _⟩ => ⟨S4x128, .f32⟩
  | .hbm, ⟨17, _⟩ => ⟨S_, .f32⟩
  | .hbm, ⟨18, _⟩ => ⟨S4x128, .f32⟩
  | .hbm, ⟨19, _⟩ => ⟨S4x128, .f32⟩
  | .hbm, ⟨20, _⟩ => ⟨S4x128, .f32⟩
  | .hbm, ⟨21, _⟩ => ⟨S_, .f32⟩
  | .hbm, ⟨22, _⟩ => ⟨S4x128, .f32⟩
  | .hbm, ⟨23, _⟩ => ⟨S4x128, .f32⟩
  | .hbm, ⟨24, _⟩ => ⟨S_, .f32⟩
  | .hbm, ⟨25, _⟩ => ⟨S4x128, .f32⟩
  | .hbm, ⟨26, _⟩ => ⟨S4x128, .f32⟩
  | .hbm, ⟨27, _⟩ => ⟨S4x128, .f32⟩
  | .hbm, ⟨28, _⟩ => ⟨S_, .f32⟩
  | .hbm, ⟨29, _⟩ => ⟨S4x128, .f32⟩
  | .hbm, ⟨30, _⟩ => ⟨S4x128, .f32⟩
  | .hbm, ⟨31, _⟩ => ⟨S4x128, .f32⟩
  | .hbm, ⟨32, _⟩ => ⟨S_, .f32⟩
  | .hbm, ⟨33, _⟩ => ⟨S4x128, .f32⟩
  | .hbm, ⟨34, _⟩ => ⟨S4x128, .f32⟩
  | .hbm, ⟨35, _⟩ => ⟨S4x128, .f32⟩
  | .hbm, ⟨36, _⟩ => ⟨S_, .f32⟩
  | .hbm, ⟨37, _⟩ => ⟨S4x128, .f32⟩
  | .hbm, ⟨38, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== BiasStep.lean ====
abbrev S4x12288 : Shape := ⟨2, ![4, 12288]⟩
abbrev S8x4x12288 : Shape := ⟨3, ![8, 4, 12288]⟩
abbrev S1x4x12288 : Shape := ⟨3, ![1, 4, 12288]⟩
abbrev S_ : Shape := ⟨0, ![]⟩
abbrev S1x8x12288 : Shape := ⟨3, ![1, 8, 12288]⟩
abbrev S8x12288 : Shape := ⟨2, ![8, 12288]⟩
abbrev S8x8x12288 : Shape := ⟨3, ![8, 8, 12288]⟩

abbrev nBuf : Space → Nat
  | .hbm => 30
  | .vmem => 8
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S8x4x12288, .f32⟩
  | .hbm, ⟨4, _⟩ => ⟨S1x4x12288, .f32⟩
  | .hbm, ⟨5, _⟩ => ⟨S_, .i32⟩
  | .hbm, ⟨6, _⟩ => ⟨S_, .f32⟩
  | .hbm, ⟨7, _⟩ => ⟨S1x8x12288, .f32⟩
  | .hbm, ⟨8, _⟩ => ⟨S8x12288, .f32⟩
  | .hbm, ⟨9, _⟩ => ⟨S1x4x12288, .f32⟩
  | .hbm, ⟨10, _⟩ => ⟨S_, .i32⟩
  | .hbm, ⟨11, _⟩ => ⟨S_, .f32⟩
  | .hbm, ⟨12, _⟩ => ⟨S1x8x12288, .f32⟩
  | .hbm, ⟨13, _⟩ => ⟨S8x12288, .f32⟩
  | .hbm, ⟨14, _⟩ => ⟨S1x4x12288, .f32⟩
  | .hbm, ⟨15, _⟩ => ⟨S_, .i32⟩
  | .hbm, ⟨16, _⟩ => ⟨S_, .f32⟩
  | .hbm, ⟨17, _⟩ => ⟨S1x8x12288, .f32⟩
  | .hbm, ⟨18, _⟩ => ⟨S8x12288, .f32⟩
  | .hbm, ⟨19, _⟩ => ⟨S_, .i32⟩
  | .hbm, ⟨20, _⟩ => ⟨S_, .f32⟩
  | .hbm, ⟨21, _⟩ => ⟨S8x8x12288, .f32⟩
  | .hbm, ⟨22, _⟩ => ⟨S8x12288, .f32⟩
  | .hbm, ⟨23, _⟩ => ⟨S8x12288, .f32⟩
  | .hbm, ⟨24, _⟩ => ⟨S8x12288, .f32⟩
  | .hbm, ⟨25, _⟩ => ⟨S8x12288, .f32⟩
  | .hbm, ⟨26, _⟩ => ⟨S4x12288, .f32⟩
  | .hbm, ⟨27, _⟩ => ⟨S4x12288, .f32⟩
  | .hbm, ⟨28, _⟩ => ⟨S4x12288, .f32⟩
  | .hbm, ⟨29, _⟩ => ⟨S4x12288, .f32⟩
  | .local _ .vmem, ⟨0, _⟩ => ⟨S8x12288, .f32⟩
  | .local _ .vmem, ⟨1, _⟩ => ⟨S8x12288, .f32⟩
  | .local _ .vmem, ⟨2, _⟩ => ⟨S8x12288, .f32⟩
  | .local _ .vmem, ⟨3, _⟩ => ⟨S8x8x12288, .f32⟩
  | .local _ .vmem, ⟨4, _⟩ => ⟨S8x12288, .f32⟩
  | .local _ .vmem, ⟨5, _⟩ => ⟨S8x12288, .f32⟩
  | .local _ .vmem, ⟨6, _⟩ => ⟨S8x12288, .f32⟩
  | .local _ .vmem, ⟨7, _⟩ => ⟨S8x12288, .f32⟩
  | _, _ => ⟨S4x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== BiasStepRefIdeal.lean ====
abbrev S4x12288 : Shape := ⟨2, ![4, 12288]⟩
abbrev S8x4x12288 : Shape := ⟨3, ![8, 4, 12288]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S8x4x12288, .f32⟩
  | .hbm, ⟨4, _⟩ => ⟨S_, .f32⟩
  | .hbm, ⟨5, _⟩ => ⟨S4x12288, .f32⟩
  | .hbm, ⟨6, _⟩ => ⟨S_, .f32⟩
  | .hbm, ⟨7, _⟩ => ⟨S4x12288, .f32⟩
  | .hbm, ⟨8, _⟩ => ⟨S4x12288, .f32⟩
  | .hbm, ⟨9, _⟩ => ⟨S_, .f32⟩
  | .hbm, ⟨10, _⟩ => ⟨S4x12288, .f32⟩
  | .hbm, ⟨11, _⟩ => ⟨S4x12288, .f32⟩
  | .hbm, ⟨12, _⟩ => ⟨S4x12288, .f32⟩
  | .hbm, ⟨13, _⟩ => ⟨S_, .f32⟩
  | .hbm, ⟨14, _⟩ => ⟨S4x12288, .f32⟩
  | .hbm, ⟨15, _⟩ => ⟨S4x12288, .f32⟩
  | .hbm, ⟨16, _⟩ => ⟨S4x12288, .f32⟩
  | .hbm, ⟨17, _⟩ => ⟨S_, .f32⟩
  | .hbm, ⟨18, _⟩ => ⟨S4x12288, .f32⟩
  | .hbm, ⟨19, _⟩ => ⟨S4x12288, .f32⟩
  | .hbm, ⟨20, _⟩ => ⟨S4x12288, .f32⟩
  | .hbm, ⟨21, _⟩ => ⟨S_, .f32⟩
  | .hbm, ⟨22, _⟩ => ⟨S4x12288, .f32⟩
  | .hbm, ⟨23, _⟩ => ⟨S4x12288, .f32⟩
  | .hbm, ⟨24, _⟩ => ⟨S_, .f32⟩
  | .hbm, ⟨25, _⟩ => ⟨S4x12288, .f32⟩
  | .hbm, ⟨26, _⟩ => ⟨S4x12288, .f32⟩
  | .hbm, ⟨27, _⟩ => ⟨S4x12288, .f32⟩
  | .hbm, ⟨28, _⟩ => ⟨S_, .f32⟩
  | .hbm, ⟨29, _⟩ => ⟨S4x12288, .f32⟩
  | .hbm, ⟨30, _⟩ => ⟨S4x12288, .f32⟩
  | .hbm, ⟨31, _⟩ => ⟨S4x12288, .f32⟩
  | .hbm, ⟨32, _⟩ => ⟨S_, .f32⟩
  | .hbm, ⟨33, _⟩ => ⟨S4x12288, .f32⟩
  | .hbm, ⟨34, _⟩ => ⟨S4x12288, .f32⟩
  | .hbm, ⟨35, _⟩ => ⟨S4x12288, .f32⟩
  | .hbm, ⟨36, _⟩ => ⟨S_, .f32⟩
  | .hbm, ⟨37, _⟩ => ⟨S4x12288, .f32⟩
  | .hbm, ⟨38, _⟩ => ⟨S4x12288, .f32⟩
  | _, _ => ⟨S4x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Attn.Rules.lean ====
/-
  Loads and stores of a whole rectangle, said of the values a buffer's view reads: a load returns the part of the values
  under the rectangle (`ld`), a store replaces that part (`st`).
-/
module

public import proofs.«01_k».proof.Proof.Gen.AttnGradIdeal.Launch
public import proofs.«01_k».proof.Proof.Gen.AttnGradIdeal.Points
public import proofs.«01_k».proof.Proof.Gen.AttnGradIdeal.Skeleton
public import Idealize.ShloMosaic.Lib.Pipeline.FrameBody
public import Idealize.ShloMosaic.Lib.Claim
public import Idealize.ShloMosaic.Lib.Ring
public import Idealize.ShloMosaic.Lib.Tactic

@[expose] public section

noncomputable section

namespace Cert.Proof.Attn

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The values under the rectangle. -/
def ld {s : Shape} {α : Type} (r : Rect s) (X : s.Idx → α) : r.shape.Idx → α := fun x => X (r.emb x)

open Classical in
/-- The values with those under the rectangle replaced by `w`. -/
def st {s : Shape} {α : Type} (r : Rect s) (X : s.Idx → α) (w : r.shape.Idx → α) : s.Idx → α :=
  fun y => if h : ∃ x, r.emb x = y then w h.choose else X y

theorem st_emb {s : Shape} {α : Type} (r : Rect s) (X : s.Idx → α) (w : r.shape.Idx → α) (x : r.shape.Idx) :
    st r X w (r.emb x) = w x := by
  have h : ∃ x', r.emb x' = r.emb x := ⟨x, rfl⟩
  unfold st
  rw [dif_pos h]
  exact congrArg w (r.emb.injective h.choose_spec)

theorem st_of_not {s : Shape} {α : Type} (r : Rect s) (X : s.Idx → α) (w : r.shape.Idx → α) (y : s.Idx)
    (h : ¬∃ x, r.emb x = y) : st r X w y = X y := by
  unfold st; rw [dif_neg h]

section Rules

variable {nD : Nat} {τ : Topo} {sig : RefSig} {Ix : Type} [DecidableEq Ix]
variable {Val : EltTy → Type} {Name : Type} [DecidableEq Name] {U : Type} [URA U] {Lvl : Type} {Λ : Labels}

local notation "𝕄" => MT nD τ sig Ix Val Name U Lvl

variable [Preorder Lvl] {defs : Defs nD τ sig Val Λ} (𝒱 : Variants) (c : Thread nD τ)
variable {s : Shape} {e : EltTy} {α : Type} {Q : α → sProp (MT nD τ sig Ix Val Name U Lvl)}
variable (bd : Option 𝒱.V) (E : Set Name)

/-- A load of a rectangle, holding the buffer at the values `X`. -/
theorem wp_ld {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (ld r X)) Q)
        -∗ wp frame (wpE defs 𝒱 c bd) E (.op (.load m r hl) k) Q) := by
  unfold owns
  iintro ⟨%f, %hf, H⟩ Hk
  subst hf
  iapply (wp_load 𝒱 c bd E (m := m) (m.view.setOn_subset_set _)) $$ H
  iintro H
  iapply Hk
  iexists f
  isplitr
  · ipureintro; rfl
  iexact H

/-- A store into a rectangle, holding the buffer whole at the values `X`. -/
theorem wp_st {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (st r X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store 𝒱 c bd E (m := m) (r := r) (Mk := Finset.univ) (S := m.view.set) (m.view.set_slice_subset r)) $$ H
  iintro H
  iapply Hk
  iexists _
  isplitr
  swap
  · iexact H
  · ipureintro
    funext y
    by_cases h : ∃ x, r.emb x = y
    · obtain ⟨x, rfl⟩ := h
      rw [st_emb]
      exact View.read_slice_write_emb r f w (Finset.mem_univ x)
    · rw [st_of_not r _ w y h]
      exact View.read_slice_write_of_not_mem r f w Finset.univ (fun hm => h (by
        obtain ⟨x, -, hx⟩ := Finset.mem_map.mp hm
        exact ⟨x, hx⟩))

end Rules

end Cert.Proof.Attn

end
-- ==== Proof.Sigmoid.lean ====
/-
  The logistic function on the extended reals, as the kernels compute it (from `exp (-|x|)`, which never overflows) and as the
  reference does (`1 / (1 + exp (-x))`), and the derivative of `x ↦ x * sigmoid x` in its two spellings.
-/
module

public import Idealize.ShloMosaic.Lib.Pointwise

@[expose] public section

noncomputable section

open Idealize.ShloMosaic

namespace Cert.Proof

/-- The logistic function, spelt as the reference spells it. -/
def sg (x : EReal) : EReal := Ideal.div 1 (1 + Ideal.exp (-x))

theorem div_one_coe {r : ℝ} (h : r ≠ 0) : Ideal.div 1 (r : EReal) = ((r⁻¹ : ℝ) : EReal) := by
  rw [Ideal.div_coe h, one_mul, one_div]

theorem sg_coe (r : ℝ) : sg (r : EReal) = ((1 / (1 + Real.exp (-r)) : ℝ) : EReal) := by
  have h : (1 + Real.exp (-r)) ≠ 0 := by positivity
  have e : (1 : EReal) + Ideal.exp (-(r : EReal)) = ((1 + Real.exp (-r) : ℝ) : EReal) := by
    rw [← EReal.coe_neg, Ideal.exp_coe]; push_cast; rfl
  rw [sg, e, div_one_coe h, one_div]

theorem sg_top : sg ⊤ = 1 := by
  have h : (1 : EReal) = ((1 : ℝ) : EReal) := rfl
  simp only [sg, EReal.neg_top, Ideal.exp_bot, add_zero]
  rw [h]
  rw [Ideal.div_coe one_ne_zero]; simp

theorem sg_bot : sg ⊥ = 0 := by
  simp only [sg, EReal.neg_bot, Ideal.exp_top]
  rw [EReal.add_top_of_ne_bot (by decide)]
  simp [Ideal.div]

/-- The logistic function is a real number everywhere. -/
theorem sg_real (x : EReal) : ∃ r : ℝ, sg x = (r : EReal) := by
  induction x using EReal.rec with
  | bot => exact ⟨0, by rw [sg_bot]; rfl⟩
  | top => exact ⟨1, by rw [sg_top]; rfl⟩
  | coe r => exact ⟨_, sg_coe r⟩

/-- The kernel's `exp (-|x|)`. -/
def ea (x : EReal) : EReal := Ideal.exp (0 - max x (-x))

theorem ea_coe (r : ℝ) : ea (r : EReal) = ((Real.exp (-|r|) : ℝ) : EReal) := by
  have : (0 : EReal) - max (r : EReal) (-(r : EReal)) = ((-|r| : ℝ) : EReal) := by
    rw [← EReal.coe_neg, ← EReal.coe_strictMono.monotone.map_max, zero_sub, ← EReal.coe_neg]; rfl
  rw [ea, this, Ideal.exp_coe]

theorem ea_top : ea ⊤ = 0 := by simp [ea]
theorem ea_bot : ea ⊥ = 0 := by simp [ea]

theorem div_ea_coe (r : ℝ) : Ideal.div 1 (1 + ea (r : EReal)) = ((1 / (1 + Real.exp (-|r|)) : ℝ) : EReal) := by
  have h : (1 + Real.exp (-|r|)) ≠ 0 := by positivity
  have e : (1 : EReal) + ea (r : EReal) = ((1 + Real.exp (-|r|) : ℝ) : EReal) := by rw [ea_coe]; push_cast; rfl
  rw [e, div_one_coe h, one_div]

theorem div_one_one : Ideal.div 1 (1 + 0) = 1 := by
  rw [add_zero, show (1 : EReal) = ((1 : ℝ) : EReal) from rfl, Ideal.div_coe one_ne_zero]; simp

/-- The kernel's first sigmoid, of `x`, is the reference's. -/
theorem sg_pos (x : EReal) :
    (if 0 ≤ x then Ideal.div 1 (1 + ea x) else ea x * Ideal.div 1 (1 + ea x)) = sg x := by
  induction x using EReal.rec with
  | bot => simp [ea_bot, sg_bot]
  | top => simp only [ea_top, sg_top, div_one_one]; simp
  | coe r =>
    rw [div_ea_coe, ea_coe, sg_coe]
    by_cases h : 0 ≤ r
    · rw [if_pos (by exact_mod_cast h), abs_of_nonneg h]
    · have h' : r < 0 := not_le.1 h
      rw [if_neg (by exact_mod_cast h), abs_of_neg h', ← EReal.coe_mul]
      congr 1
      rw [neg_neg, Real.exp_neg]
      have := Real.exp_pos r
      field_simp
      ring

/-- The kernel's second sigmoid, of `-x`, is one minus the reference's. -/
theorem sg_neg (x : EReal) :
    (if 0 ≤ x then ea x * Ideal.div 1 (1 + ea x) else Ideal.div 1 (1 + ea x)) = 1 - sg x := by
  induction x using EReal.rec with
  | bot => simp only [ea_bot, sg_bot, div_one_one]; simp
  | top =>
    simp only [ea_top, sg_top, zero_mul, le_top, if_true]
    rw [show (1 : EReal) = ((1 : ℝ) : EReal) from rfl, ← EReal.coe_sub]; simp
  | coe r =>
    rw [div_ea_coe, ea_coe, sg_coe, show (1 : EReal) = ((1 : ℝ) : EReal) from rfl, ← EReal.coe_sub]
    have := Real.exp_pos r
    by_cases h : 0 ≤ r
    · rw [if_pos (by exact_mod_cast h), abs_of_nonneg h, ← EReal.coe_mul]
      congr 1
      rw [Real.exp_neg]
      field_simp
      ring
    · have h' : r < 0 := not_le.1 h
      rw [if_neg (by exact_mod_cast h), abs_of_neg h']
      congr 1
      rw [neg_neg, Real.exp_neg]
      field_simp
      ring

/-- The derivative of `x ↦ x * sigmoid x` times a real number `w`, factored as the kernel has it and expanded as the
    reference has it: the same at every extended real `x`. -/
theorem silu_grad (w : ℝ) (x : EReal) :
    (w : EReal) * (sg x * (1 + x * (1 - sg x))) = (w : EReal) * sg x + x * (w : EReal) * (sg x * (1 - sg x)) := by
  induction x using EReal.rec with
  | bot => simp [sg_bot]
  | top =>
    have h : (1 : EReal) - 1 = 0 := by rw [show (1 : EReal) = ((1 : ℝ) : EReal) from rfl, ← EReal.coe_sub]; simp
    simp [sg_top, h]
  | coe r =>
    obtain ⟨s, hs⟩ := sg_real (r : EReal)
    rw [hs, show (1 : EReal) = ((1 : ℝ) : EReal) from rfl]
    norm_cast
    ring

/-- The reals sit in the extended reals additively. -/
theorem coe_sum {ι : Type*} (s : Finset ι) (f : ι → ℝ) : ((∑ k ∈ s, f k : ℝ) : EReal) = ∑ k ∈ s, (f k : EReal) := by
  classical
  induction s using Finset.induction_on with
  | empty => rfl
  | insert a t ha ih => rw [Finset.sum_insert ha, Finset.sum_insert ha, EReal.coe_add, ih]

/-- A finite sum of products of real numbers is a real number. -/
theorem sum_mul_real {n : ℕ} (f g : Fin n → EReal) (hf : ∀ k, ∃ r : ℝ, f k = r) (hg : ∀ k, ∃ r : ℝ, g k = r) :
    ∃ r : ℝ, ∑ k, f k * g k = (r : EReal) := by
  choose a ha using hf
  choose b hb using hg
  refine ⟨∑ k, a k * b k, ?_⟩
  rw [coe_sum]
  exact Finset.sum_congr rfl fun k _ => by rw [ha, hb, EReal.coe_mul]

/-- An extended real whose absolute value is below `⊤` is a real number. -/
theorem real_of_abs_lt (x : EReal) (h : max x (-x) < ⊤) : ∃ r : ℝ, x = r := by
  induction x using EReal.rec with
  | bot => simp at h
  | top => simp at h
  | coe r => exact ⟨r, rfl⟩

end Cert.Proof
-- ==== Proof.Attn.Real.lean ====
/-
  One head of stick-breaking attention over the real numbers: its scores, weights, and the gradients with respect to the
  queries, keys and values, for a given gradient of the head's output. Rows and columns are natural numbers below `N`.
-/
module

public import proofs.«01_k».proof.Proof.Sigmoid

@[expose] public section

noncomputable section

open Idealize.ShloMosaic

namespace Cert.Proof.Attn

/-- The sequence length. -/
abbrev N : ℕ := 8192

/-- The scale of the scores, the number the program's word stands for. -/
def scale : ℝ := (Ideal.ofBits .f32 0x3DB504F3#32).toReal

/-- The logarithm of `1 + exp u`. -/
def softplus (u : ℝ) : ℝ := max u 0 + Real.log (1 + Real.exp (-|u|))

/-- The logistic function. -/
def logi (u : ℝ) : ℝ := 1 / (1 + Real.exp (-u))

theorem exp_softplus (u : ℝ) : Real.exp (softplus u) = 1 + Real.exp u := by
  have h1 : (0 : ℝ) < 1 + Real.exp (-|u|) := by positivity
  rw [softplus, Real.exp_add, Real.exp_log h1]
  rcases le_total 0 u with h | h
  · rw [max_eq_left h, abs_of_nonneg h, mul_add, ← Real.exp_add]; simp; ring
  · rw [max_eq_right h, abs_of_nonpos h]; simp

/-- The softplus of the negated argument. -/
theorem softplus_neg (u : ℝ) : softplus (-u) = softplus u - u := by
  unfold softplus
  rw [abs_neg]
  rcases le_total 0 u with h | h
  · rw [max_eq_left h, max_eq_right (by linarith)]; ring
  · rw [max_eq_right h, max_eq_left (by linarith)]; ring

theorem exp_sub_softplus (u : ℝ) : Real.exp (u - softplus u) = logi u := by
  have := Real.exp_pos u
  rw [Real.exp_sub, exp_softplus, logi, Real.exp_neg]
  field_simp
  ring

theorem exp_neg_softplus (u : ℝ) : Real.exp (-u - softplus (-u)) = 1 - logi u := by
  have := Real.exp_pos u
  rw [exp_sub_softplus, logi, logi, neg_neg, Real.exp_neg]
  field_simp
  ring

/-- A head: queries, keys, values, and the gradient of the head's output. -/
structure HR where
  q : ℕ → ℕ → ℝ
  k : ℕ → ℕ → ℝ
  v : ℕ → ℕ → ℝ
  dO : ℕ → ℕ → ℝ

namespace HR

variable (x : HR)

/-- The scores. -/
def z (t s : ℕ) : ℝ := (∑ d : Fin 128, x.q t d * x.k s d) * scale
/-- The logarithm of what key `s` leaves of row `t`'s stick. -/
def L (t s : ℕ) : ℝ := if s < t then -softplus (x.z t s) else 0
/-- The logarithm of what the keys after `s` leave. -/
def R (t s : ℕ) : ℝ := ∑ u ∈ Finset.Ico (s + 1) N, x.L t u
/-- The weights. -/
def A (t s : ℕ) : ℝ := if s < t then Real.exp (x.z t s - softplus (x.z t s) + x.R t s) else 0
/-- The head's output. -/
def o (t d : ℕ) : ℝ := ∑ s ∈ Finset.range N, x.A t s * x.v s d
/-- Weight times its gradient. -/
def G (t s : ℕ) : ℝ := x.A t s * ∑ d : Fin 128, x.dO t d * x.v s d
/-- The sum of `G` over the keys before `s`. -/
def P (t s : ℕ) : ℝ := ∑ u ∈ Finset.range s, x.G t u
/-- The scores' gradient, scaled. -/
def dz (t s : ℕ) : ℝ := if s < t then (x.G t s - (x.G t s + x.P t s) * logi (x.z t s)) * scale else 0
/-- The row sum of the output's gradient times the output. -/
def delta (t : ℕ) : ℝ := ∑ d : Fin 128, x.dO t d * x.o t d

theorem delta_eq (t : ℕ) : x.delta t = ∑ s ∈ Finset.range N, x.G t s := by
  unfold delta o G
  simp only [Finset.mul_sum]
  rw [Finset.sum_comm]
  exact Finset.sum_congr rfl fun s _ => Finset.sum_congr rfl fun d _ => by ring

theorem A_zero {t s : ℕ} (h : t ≤ s) : x.A t s = 0 := by unfold A; rw [if_neg (by omega)]
theorem G_zero {t s : ℕ} (h : t ≤ s) : x.G t s = 0 := by unfold G; rw [x.A_zero h, zero_mul]
theorem L_zero {t s : ℕ} (h : t ≤ s) : x.L t s = 0 := by unfold L; rw [if_neg (by omega)]
theorem dz_zero {t s : ℕ} (h : t ≤ s) : x.dz t s = 0 := by unfold dz; rw [if_neg (by omega)]

/-- The whole sum less the keys from `s` on is the sum before `s`. -/
theorem delta_sub (t s : ℕ) (h : s ≤ N) : x.delta t - ∑ u ∈ Finset.Ico s N, x.G t u = x.P t s := by
  rw [delta_eq, P, ← Finset.sum_range_add_sum_Ico _ h]; ring

/-- Nothing is left of a sum over keys that all come after row `t`. -/
theorem sum_zero {f : ℕ → ℝ} {t a : ℕ} (hf : ∀ s, t ≤ s → f s = 0) (h : t ≤ a) : ∑ u ∈ Finset.Ico a N, f u = 0 :=
  Finset.sum_eq_zero fun u hu => hf u (by have := (Finset.mem_Ico.1 hu).1; omega)

end HR

/-- A sum over the later part of a block. -/
theorem sum_block (f : ℕ → ℝ) (a b n : ℕ) (hb : b ≤ n) (ha : a ≤ b) :
    ∑ u ∈ Finset.Ico a n, f u = ∑ u ∈ Finset.Ico a b, f u + ∑ u ∈ Finset.Ico b n, f u :=
  (Finset.sum_Ico_consecutive f ha hb).symm

/-- A block's sum, its rows counted from zero. -/
theorem sum_fin_block (f : ℕ → ℝ) (a : ℕ) (n : ℕ) : ∑ i : Fin n, f (a + i) = ∑ u ∈ Finset.Ico a (a + n), f u := by
  rw [Finset.sum_Ico_eq_sum_range, Nat.add_sub_cancel_left, Finset.sum_range]

/-- The part of a block's sum that comes from row `j` on. -/
theorem sum_fin_ge (f : ℕ → ℝ) (a n j : ℕ) (hj : j ≤ n) :
    (∑ i : Fin n, f (a + i) * (if j ≤ i.val then 1 else 0)) = ∑ u ∈ Finset.Ico (a + j) (a + n), f u := by
  have h : ∀ i : Fin n, f (a + i) * (if j ≤ i.val then (1 : ℝ) else 0) = if j ≤ i.val then f (a + i) else 0 := fun i => by
    split <;> simp
  rw [Finset.sum_congr rfl fun i _ => h i, Finset.sum_range (fun i => if j ≤ i then f (a + i) else 0) |>.symm,
    Finset.sum_ite, Finset.sum_const_zero, add_zero, Finset.sum_Ico_eq_sum_range]
  have e : a + n - (a + j) = n - j := by omega
  rw [e]
  have : (Finset.range n).filter (fun i => j ≤ i) = Finset.Ico j n := by
    ext i; simp only [Finset.mem_filter, Finset.mem_range, Finset.mem_Ico]; omega
  rw [this, Finset.sum_Ico_eq_sum_range]
  exact Finset.sum_congr rfl fun i _ => by rw [add_assoc]

/-- The scale's word stands for a real number. -/
theorem scale_coe : Ideal.ofBits .f32 0x3DB504F3#32 = (scale : EReal) := by
  have h : ∃ r : ℝ, Ideal.ofBits .f32 0x3DB504F3#32 = (r : EReal) := by
    simp only [Ideal.ofBits, Ideal.ieee]
    rw [if_neg (by decide), if_neg (by decide)]
    exact ⟨_, rfl⟩
  obtain ⟨r, hr⟩ := h
  rw [scale, hr, EReal.toReal_coe]

/-- The addend of the mean of squares, the number the program's word stands for. -/
def eps : ℝ := (Ideal.ofBits .f32 0x358637BD#32).toReal

theorem eps_spec : Ideal.ofBits .f32 0x358637BD#32 = (eps : EReal) ∧ 0 < eps := by
  have h : ∃ r : ℝ, Ideal.ofBits .f32 0x358637BD#32 = (r : EReal) ∧ 0 < r := by
    simp only [Ideal.ofBits, Ideal.ieee]
    rw [if_neg (by decide), if_neg (by decide)]
    refine ⟨_, rfl, ?_⟩
    rw [if_neg (by decide)]
    positivity
  obtain ⟨r, hr, h0⟩ := h
  rw [eps, hr, EReal.toReal_coe]
  exact ⟨rfl, h0⟩

theorem ofBits_one : Ideal.ofBits .f32 0x3F800000#32 = ((1 : ℝ) : EReal) := by
  simp only [Ideal.ofBits, Ideal.ieee]
  rw [if_neg (by decide), if_neg (by decide), if_neg (by decide)]
  congr 1
  simp; norm_num
theorem ofBits_128 : Ideal.ofBits .f32 0x43000000#32 = ((128 : ℝ) : EReal) := by
  simp only [Ideal.ofBits, Ideal.ieee]
  rw [if_neg (by decide), if_neg (by decide), if_neg (by decide)]
  congr 1
  simp; norm_num
theorem ofBits_neg_half : Ideal.ofBits .f32 0xBF000000#32 = ((-(1 / 2) : ℝ) : EReal) := by
  simp only [Ideal.ofBits, Ideal.ieee]
  rw [if_neg (by decide), if_neg (by decide), if_pos (by decide)]
  congr 1
  simp; norm_num

end Cert.Proof.Attn

end
-- ==== Proof.Attn.Parts.lean ====
/-
  What each printed stretch of the backward attention body does: the values it returns, as equations over the values it
  was given and the rectangles it loads, and what its stores leave in the buffers.
-/
module

public import proofs.«01_k».proof.Proof.Attn.Rules

@[expose] public section

noncomputable section

namespace Cert.Proof.Attn

open Cert.AttnGradIdeal Cert.AttnGradIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The bound on the loop's calls counts the trips still allowed. -/
abbrev 𝒱₀ : Variants := Variants.nat

variable (c : Dev nD) (bd : Option 𝒱₀.V) (E : Set ℕ) (i : grid0.Coords)
variable (arg2 : Memref sig .tc .vmem S256x256 .bf16) (harg2 : arg2.IsWhole)
variable (arg3 : Memref sig .tc .vmem S8192x256 .bf16) (harg3 : arg3.IsWhole)
variable (arg4 : Memref sig .tc .vmem S8192x256 .bf16) (harg4 : arg4.IsWhole)
variable (arg5 : Memref sig .tc .vmem S256x256 .f32) (harg5 : arg5.IsWhole)
variable (arg6 : Memref sig .tc .vmem S256x256 .f32) (harg6 : arg6.IsWhole)
variable (arg7 : Memref sig .tc .vmem S1x256 .f32) (harg7 : arg7.IsWhole)
variable (arg8 : Memref sig .tc .vmem S256x256 .bf16) (harg8 : arg8.IsWhole)
variable (arg9 : Memref sig .tc .vmem S256x256 .bf16) (harg9 : arg9.IsWhole)
variable (arg10 : Memref sig .tc .vmem S256x256 .f32) (harg10 : arg10.IsWhole)
variable (arg11 : Memref sig .tc .vmem S256x8192 .f32) (harg11 : arg11.IsWhole)
variable (arg12 : Memref sig .tc .vmem S256x8192 .f32) (harg12 : arg12.IsWhole)
variable (arg13 : Memref sig .tc .vmem S1x256 .f32) (harg13 : arg13.IsWhole)

/-- A buffer held whole at the values `X`. -/
abbrev own (c : Dev nD) {s : Shape} {e : EltTy} (m : Memref sig .tc .vmem s e) (X : s.Idx → Elt F e) : sProp 𝕄 :=
  owns (c : Thread nD τ) m fullShare X

/-- The first query block of a head pair: the point at which the gradients of keys, values and gain start from zero. -/
abbrev isFirst (i : grid0.Coords) : Prop :=
  Scalar.cmpi .ne (Scalar.extui (Scalar.cmpi .eq (BitVec.ofNat 32 (i 1).val) 0#32) : BitVec 32) 0#32 = 1#1

open Classical in
/-- A gradient buffer as the body starts from it. -/
def start {s : Shape} (i : grid0.Coords) (r : Rect s) (X : s.Idx → Elt F .f32) (z : r.shape.Idx → Elt F .f32) : s.Idx → Elt F .f32 :=
  if isFirst i then st r X z else X

/-- Stretch 1: reads the masks and head 0 of the block, adds head 0 to the gain's gradient. -/
theorem part1_wp (X8 : Vec F S256x256 .bf16) (X9 : Vec F S256x256 .bf16) (X2 : Vec F S256x256 .bf16) (X5 : Vec F S256x256 .f32) (X6 : Vec F S256x256 .f32) (X13 : Vec F S1x256 .f32) (X7 : Vec F S1x256 .f32) (X11 X12 : Vec F S256x8192 .f32)
    {Q} :
    (own c arg8 X8 : sProp 𝕄) ⊢ iprop(
      own c arg9 X9 -∗
      own c arg2 X2 -∗
      own c arg5 X5 -∗
      own c arg6 X6 -∗
      own c arg13 X13 -∗
      own c arg7 X7 -∗
      own c arg11 X11 -∗
      own c arg12 X12 -∗
      (∀ (arg1 : BitVec 32) (v3 : Vec F S256x256 .bf16) (v5 : Vec F S256x256 .bf16) (v7 : Vec F S256x128 .bf16) (v8 : Vec F S256x128 .f32) (v10 : Vec F S256x128 .f32) (v21 : Vec F S1x128 .f32) (v27 : Vec F S1x128 .f32) (v28 : Vec F S1x128 .f32) (v4 : FVec F S256x256 .bf16) (v6 : FVec F S256x256 .bf16) (v9 : FVec F S256x128 .f32) (v18 : FVec F S256x1 .f32) (v20 : FVec F S256x128 .f32) (v30 : FVec F S256x128 .f32) (w : FVec F S256 .f32),
        ⌜arg1 = BitVec.ofNat 32 (i 1).val ∧
          v3 = ld (Rect.unit (s := S256x256) ![0, 0] S256x256.size inb_S256x256_S256x256_0_0) X8 ∧
          v5 = ld (Rect.unit (s := S256x256) ![0, 0] S256x256.size inb_S256x256_S256x256_0_0) X9 ∧
          v7 = ld (Rect.unit (s := S256x256) ![0, 0] S256x128.size inb_S256x256_S256x128_0_0) X2 ∧
          v8 = ld (Rect.unit (s := S256x256) ![0, 0] S256x128.size inb_S256x256_S256x128_0_0) X5 ∧
          v10 = ld (Rect.unit (s := S256x256) ![0, 0] S256x128.size inb_S256x256_S256x128_0_0) X6 ∧
          v21 = ld (Rect.unit (s := S1x256) ![0, 0] S1x128.size inb_S1x256_S1x128_0_0) (start i (Rect.unit (s := S1x256) ![0, 0] S1x256.size inb_S1x256_S1x256_0_0) X13 (k0_pay10 (F := F))) ∧
          v27 = ld (Rect.unit (s := S1x256) ![0, 0] S1x128.size inb_S1x256_S1x128_0_0) (start i (Rect.unit (s := S1x256) ![0, 0] S1x256.size inb_S1x256_S1x256_0_0) X13 (k0_pay10 (F := F))) ∧
          v28 = ld (Rect.unit (s := S1x256) ![0, 0] S1x128.size inb_S1x256_S1x128_0_0) X7 ∧
          v4 = k0_pay11 v3 ∧
          v6 = k0_pay12 v5 ∧
          v9 = k0_pay13 v8 ∧
          v18 = k0_pay14 v8 ∧
          v20 = k0_pay15 v8 ∧
          v30 = k0_pay17 v10 v28 ∧
          w = k0_pay18 v8 v10 v28⌝ -∗
        own c arg8 X8 -∗
        own c arg9 X9 -∗
        own c arg2 X2 -∗
        own c arg5 X5 -∗
        own c arg6 X6 -∗
        own c arg13 (st (Rect.unit (s := S1x256) ![0, 0] S1x128.size inb_S1x256_S1x128_0_0) (start i (Rect.unit (s := S1x256) ![0, 0] S1x256.size inb_S1x256_S1x256_0_0) X13 (k0_pay10 (F := F))) (k0_pay16 v8 v10 v21)) -∗
        own c arg7 X7 -∗
        own c arg11 (start i (Rect.unit (s := S256x8192) ![0, 0] S256x8192.size inb_S256x8192_S256x8192_0_0) X11 (k0_pay8 (F := F))) -∗
        own c arg12 (start i (Rect.unit (s := S256x8192) ![0, 0] S256x8192.size inb_S256x8192_S256x8192_0_0) X12 (k0_pay9 (F := F))) -∗
        Q ⟨arg1, v4, v6, v7, v9, v18, v20, v30, w⟩)
      -∗ wp frame (wpE (defs₀ (F := F)) 𝒱₀ (c : Thread nD τ) bd) E (k0_part1 i arg2 harg2 arg3 harg3 arg4 harg4 arg5 harg5 arg6 harg6 arg7 harg7 arg8 harg8 arg9 harg9 arg10 harg10 arg11 harg11 arg12 harg12 arg13 harg13) Q) := by
  simp only [k0_part1_eq_skeleton]; unfold k0_part1_skel
  simp only [Prog.lift, Prog.bind_op, Prog.bind_ret, Prog.pure_eq_ret]
  iintro H8 H9 H2 H5 H6 H13 H7 H11 H12 Hk
  unfold start
  by_cases h : isFirst i
  · rw [dif_pos h]
    simp only [if_pos h]
    iapply (wp_ld 𝒱₀ (c : Thread nD τ) bd E (m := arg11)) $$ H11; iintro H11
    iapply (wp_st 𝒱₀ (c : Thread nD τ) bd E (m := arg11)) $$ H11; iintro H11
    iapply (wp_ld 𝒱₀ (c : Thread nD τ) bd E (m := arg12)) $$ H12; iintro H12
    iapply (wp_st 𝒱₀ (c : Thread nD τ) bd E (m := arg12)) $$ H12; iintro H12
    iapply (wp_ld 𝒱₀ (c : Thread nD τ) bd E (m := arg13)) $$ H13; iintro H13
    iapply (wp_st 𝒱₀ (c : Thread nD τ) bd E (m := arg13)) $$ H13; iintro H13
    iapply (wp_ld 𝒱₀ (c : Thread nD τ) bd E (m := arg8)) $$ H8; iintro H8
    iapply (wp_ld 𝒱₀ (c : Thread nD τ) bd E (m := arg9)) $$ H9; iintro H9
    iapply (wp_ld 𝒱₀ (c : Thread nD τ) bd E (m := arg2)) $$ H2; iintro H2
    iapply (wp_ld 𝒱₀ (c : Thread nD τ) bd E (m := arg5)) $$ H5; iintro H5
    iapply (wp_ld 𝒱₀ (c : Thread nD τ) bd E (m := arg6)) $$ H6; iintro H6
    iapply (wp_ld 𝒱₀ (c : Thread nD τ) bd E (m := arg13)) $$ H13; iintro H13
    iapply (wp_ld 𝒱₀ (c : Thread nD τ) bd E (m := arg13)) $$ H13; iintro H13
    iapply (wp_st 𝒱₀ (c : Thread nD τ) bd E (m := arg13)) $$ H13; iintro H13
    iapply (wp_ld 𝒱₀ (c : Thread nD τ) bd E (m := arg7)) $$ H7; iintro H7
    rw [wp_ret]; imodintro
    iapply Hk $$ %_ %_ %_ %_ %_ %_ %_ %_ %_ %_ %_ %_ %_ %_ %_ %_ [] H8 H9 H2 H5 H6 H13 H7 H11 H12
    · ipureintro; exact ⟨rfl, rfl, rfl, rfl, rfl, rfl, rfl, rfl, rfl, rfl, rfl, rfl, rfl, rfl, rfl, rfl⟩
  · rw [dif_neg h]
    simp only [if_neg h]
    iapply (wp_ld 𝒱₀ (c : Thread nD τ) bd E (m := arg8)) $$ H8; iintro H8
    iapply (wp_ld 𝒱₀ (c : Thread nD τ) bd E (m := arg9)) $$ H9; iintro H9
    iapply (wp_ld 𝒱₀ (c : Thread nD τ) bd E (m := arg2)) $$ H2; iintro H2
    iapply (wp_ld 𝒱₀ (c : Thread nD τ) bd E (m := arg5)) $$ H5; iintro H5
    iapply (wp_ld 𝒱₀ (c : Thread nD τ) bd E (m := arg6)) $$ H6; iintro H6
    iapply (wp_ld 𝒱₀ (c : Thread nD τ) bd E (m := arg13)) $$ H13; iintro H13
    iapply (wp_ld 𝒱₀ (c : Thread nD τ) bd E (m := arg13)) $$ H13; iintro H13
    iapply (wp_st 𝒱₀ (c : Thread nD τ) bd E (m := arg13)) $$ H13; iintro H13
    iapply (wp_ld 𝒱₀ (c : Thread nD τ) bd E (m := arg7)) $$ H7; iintro H7
    rw [wp_ret]; imodintro
    iapply Hk $$ %_ %_ %_ %_ %_ %_ %_ %_ %_ %_ %_ %_ %_ %_ %_ %_ [] H8 H9 H2 H5 H6 H13 H7 H11 H12
    · ipureintro; exact ⟨rfl, rfl, rfl, rfl, rfl, rfl, rfl, rfl, rfl, rfl, rfl, rfl, rfl, rfl, rfl, rfl⟩

/-- Stretch 2: reads head 1 of the block, adds head 1 to the gain's gradient. -/
theorem part2_wp (v9 : FVec F S256x128 .f32) (v18 : FVec F S256x1 .f32) (v20 : FVec F S256x128 .f32) (v30 : FVec F S256x128 .f32) (v32 : FVec F S256 .f32) (X2 : Vec F S256x256 .bf16) (X5 : Vec F S256x256 .f32) (X6 : Vec F S256x256 .f32) (X13 : Vec F S1x256 .f32) (X7 : Vec F S1x256 .f32)
    {Q} :
    (own c arg2 X2 : sProp 𝕄) ⊢ iprop(
      own c arg5 X5 -∗
      own c arg6 X6 -∗
      own c arg13 X13 -∗
      own c arg7 X7 -∗
      (∀ (v46 : Vec F S256x128 .bf16) (v47 : Vec F S256x128 .f32) (v49 : Vec F S256x128 .f32) (v60 : Vec F S1x128 .f32) (v66 : Vec F S1x128 .f32) (v67 : Vec F S1x128 .f32) (v41 : FVec F S256x128 .bf16) (v45 : FVec F S256x1 .f32) (v48 : FVec F S256x128 .f32) (v57 : FVec F S256x1 .f32) (v59 : FVec F S256x128 .f32) (v69 : FVec F S256x128 .f32) (w : FVec F S256x1 .f32),
        ⌜v46 = ld (Rect.unit (s := S256x256) ![0, 128] S256x128.size inb_S256x256_S256x128_0_128) X2 ∧
          v47 = ld (Rect.unit (s := S256x256) ![0, 128] S256x128.size inb_S256x256_S256x128_0_128) X5 ∧
          v49 = ld (Rect.unit (s := S256x256) ![0, 128] S256x128.size inb_S256x256_S256x128_0_128) X6 ∧
          v60 = ld (Rect.unit (s := S1x256) ![0, 128] S1x128.size inb_S1x256_S1x128_0_128) X13 ∧
          v66 = ld (Rect.unit (s := S1x256) ![0, 128] S1x128.size inb_S1x256_S1x128_0_128) X13 ∧
          v67 = ld (Rect.unit (s := S1x256) ![0, 128] S1x128.size inb_S1x256_S1x128_0_128) X7 ∧
          v41 = k0_pay19 v18 v20 v30 v32 ∧
          v45 = k0_pay20 v9 v18 v20 v30 v32 ∧
          v48 = k0_pay21 v47 ∧
          v57 = k0_pay22 v47 ∧
          v59 = k0_pay23 v47 ∧
          v69 = k0_pay25 v49 v67 ∧
          w = k0_pay26 v47 v49 v67⌝ -∗
        own c arg2 X2 -∗
        own c arg5 X5 -∗
        own c arg6 X6 -∗
        own c arg13 (st (Rect.unit (s := S1x256) ![0, 128] S1x128.size inb_S1x256_S1x128_0_128) X13 (k0_pay24 v47 v49 v60)) -∗
        own c arg7 X7 -∗
        Q ⟨v41, v45, v46, v48, v57, v59, v69, w⟩)
      -∗ wp frame (wpE (defs₀ (F := F)) 𝒱₀ (c : Thread nD τ) bd) E (k0_part2 i arg2 harg2 arg3 harg3 arg4 harg4 arg5 harg5 arg6 harg6 arg7 harg7 arg8 harg8 arg9 harg9 arg10 harg10 arg11 harg11 arg12 harg12 arg13 harg13 v9 v18 v20 v30 v32) Q) := by
  simp only [k0_part2_eq_skeleton]; unfold k0_part2_skel
  simp only [Prog.lift, Prog.bind_op, Prog.bind_ret, Prog.pure_eq_ret]
  iintro H2 H5 H6 H13 H7 Hk
  iapply (wp_ld 𝒱₀ (c : Thread nD τ) bd E (m := arg2)) $$ H2; iintro H2
  iapply (wp_ld 𝒱₀ (c : Thread nD τ) bd E (m := arg5)) $$ H5; iintro H5
  iapply (wp_ld 𝒱₀ (c : Thread nD τ) bd E (m := arg6)) $$ H6; iintro H6
  iapply (wp_ld 𝒱₀ (c : Thread nD τ) bd E (m := arg13)) $$ H13; iintro H13
  iapply (wp_ld 𝒱₀ (c : Thread nD τ) bd E (m := arg13)) $$ H13; iintro H13
  iapply (wp_st 𝒱₀ (c : Thread nD τ) bd E (m := arg13)) $$ H13; iintro H13
  iapply (wp_ld 𝒱₀ (c : Thread nD τ) bd E (m := arg7)) $$ H7; iintro H7
  rw [wp_ret]; imodintro
  iapply Hk $$ %_ %_ %_ %_ %_ %_ %_ %_ %_ %_ %_ %_ %_ [] H2 H5 H6 H13 H7
  · ipureintro; exact ⟨rfl, rfl, rfl, rfl, rfl, rfl, rfl, rfl, rfl, rfl, rfl, rfl, rfl⟩

/-- Stretch 3: the gradients of both heads' outputs, the transposed blocks, and head 0's scores on the diagonal block. -/
theorem part3_wp (arg1 : BitVec 32) (v7 : Vec F S256x128 .bf16) (v41 : FVec F S256x128 .bf16) (v46 : Vec F S256x128 .bf16) (v48 : FVec F S256x128 .f32) (v57 : FVec F S256x1 .f32) (v59 : FVec F S256x128 .f32) (v69 : FVec F S256x128 .f32) (v72 : FVec F S256x1 .f32) (X3 : Vec F S8192x256 .bf16) (X4 : Vec F S8192x256 .bf16)
    {Q} :
    (own c arg3 X3 : sProp 𝕄) ⊢ iprop(
      own c arg4 X4 -∗
      (∀ (v90 : BitVec 32) (v91 : BitVec 32) (v93 : Vec F S256x128 .bf16) (v95 : Vec F S256x128 .bf16) (cst_50 : FVec F S256x256 .f32) (v80 : FVec F S256x128 .bf16) (v84 : FVec F S256x1 .f32) (v85 : FVec F S128x256 .bf16) (v86 : FVec F S128x256 .bf16) (v87 : FVec F S128x256 .bf16) (v88 : FVec F S128x256 .bf16) (v89 : FVec F S256x1 .f32) (v98 : FVec F S256x256 .f32) (v102 : FVec F S256x256 .f32) (v108 : FVec F S256x256 .f32) (v111 : IVec S256x256 1) (v115 : FVec F S256x256 .f32) (v116 : FVec F S256x256 .bf16) (v118 : FVec F S256x256 .f32),
        ⌜v90 = Scalar.muli arg1 256#32 ∧
          v91 = v90 ∧
          v93 = ld (Rect.unit (s := S8192x256) (k0_off1 i) S256x128.size (k0_off1_inb i)) X3 ∧
          v95 = ld (Rect.unit (s := S8192x256) (k0_off1 i) S256x128.size (k0_off1_inb i)) X4 ∧
          cst_50 = constant S256x256 .f32 0x00000000#32 ∧
          v80 = k0_pay27 v57 v59 v69 v72 ∧
          v84 = k0_pay28 v48 v57 v59 v69 v72 ∧
          v85 = k0_pay29 v7 ∧
          v86 = k0_pay30 v46 ∧
          v87 = k0_pay31 v41 ∧
          v88 = k0_pay32 v57 v59 v69 v72 ∧
          v89 = k0_pay33 (F := F) ∧
          v98 = k0_pay34 v7 v93 ∧
          v102 = k0_pay35 v7 v93 ∧
          v108 = k0_pay36 v7 v93 ∧
          v111 = k0_pay37 ∧
          v115 = k0_pay38 v7 v93 ∧
          v116 = k0_pay39 v7 v93 ∧
          v118 = k0_pay40 v7 v93⌝ -∗
        own c arg3 X3 -∗
        own c arg4 X4 -∗
        Q ⟨v80, v84, v85, v86, v87, v88, v89, v91, v93, v95, v98, v102, v108, v111, v115, v116, v118, cst_50⟩)
      -∗ wp frame (wpE (defs₀ (F := F)) 𝒱₀ (c : Thread nD τ) bd) E (k0_part3 i arg2 harg2 arg3 harg3 arg4 harg4 arg5 harg5 arg6 harg6 arg7 harg7 arg8 harg8 arg9 harg9 arg10 harg10 arg11 harg11 arg12 harg12 arg13 harg13 arg1 v7 v41 v46 v48 v57 v59 v69 v72) Q) := by
  simp only [k0_part3_eq_skeleton]; unfold k0_part3_skel
  simp only [Prog.lift, Prog.bind_op, Prog.bind_ret, Prog.pure_eq_ret]
  iintro H3 H4 Hk
  iapply (wp_ld 𝒱₀ (c : Thread nD τ) bd E (m := arg3)) $$ H3; iintro H3
  iapply (wp_ld 𝒱₀ (c : Thread nD τ) bd E (m := arg4)) $$ H4; iintro H4
  rw [wp_ret]; imodintro
  iapply Hk $$ %_ %_ %_ %_ %_ %_ %_ %_ %_ %_ %_ %_ %_ %_ %_ %_ %_ %_ %_ [] H3 H4
  · ipureintro; exact ⟨rfl, rfl, rfl, rfl, rfl, rfl, rfl, rfl, rfl, rfl, rfl, rfl, rfl, rfl, rfl, rfl, rfl, rfl, rfl⟩

/-- Stretch 4: head 0 on the diagonal block. -/
theorem part4_wp (v4 : FVec F S256x256 .bf16) (v6 : FVec F S256x256 .bf16) (v41 : FVec F S256x128 .bf16) (v45 : FVec F S256x1 .f32) (v85 : FVec F S128x256 .bf16) (v89 : FVec F S256x1 .f32) (v91 : BitVec 32) (v93 : Vec F S256x128 .bf16) (v95 : Vec F S256x128 .bf16) (v98 : FVec F S256x256 .f32) (v102 : FVec F S256x256 .f32) (v108 : FVec F S256x256 .f32) (v111 : IVec S256x256 1) (v116 : FVec F S256x256 .bf16) (v118 : FVec F S256x256 .f32) (cst_50 : FVec F S256x256 .f32) (X11 : Vec F S256x8192 .f32)
    {Q} :
    (own c arg11 X11 : sProp 𝕄) ⊢ iprop(
      (∀ (v163 : Vec F S128x256 .f32) (v122 : FVec F S256x256 .f32) (v130 : FVec F S256x256 .bf16) (v140 : FVec F S256x256 .f32) (v161 : FVec F S256x128 .f32) (v164 : FVec F S128x256 .f32) (w : FVec F S128x256 .f32),
        ⌜v163 = ld (Rect.unit (s := S256x8192) (k0_off2 i) S128x256.size (k0_off2_inb i)) X11 ∧
          v122 = k0_pay41 v4 v116 v118 cst_50 ∧
          v130 = k0_pay42 v4 v89 v98 v108 v111 v116 v118 cst_50 ∧
          v140 = k0_pay44 v4 v6 v41 v89 v95 v98 v108 v111 v116 v118 cst_50 ∧
          v161 = k0_pay46 v4 v6 v41 v45 v89 v93 v95 v98 v102 v108 v111 v116 v118 cst_50 ∧
          v164 = k0_pay47 v163 ∧
          w = k0_pay48 v4 v6 v41 v45 v85 v89 v95 v98 v102 v108 v111 v116 v118 cst_50⌝ -∗
        own c arg11 X11 -∗
        Q ⟨v122, v130, v140, v161, v164, w⟩)
      -∗ wp frame (wpE (defs₀ (F := F)) 𝒱₀ (c : Thread nD τ) bd) E (k0_part4 i arg2 harg2 arg3 harg3 arg4 harg4 arg5 harg5 arg6 harg6 arg7 harg7 arg8 harg8 arg9 harg9 arg10 harg10 arg11 harg11 arg12 harg12 arg13 harg13 v4 v6 v41 v45 v85 v89 v91 v93 v95 v98 v102 v108 v111 v116 v118 cst_50) Q) := by
  simp only [k0_part4_eq_skeleton]; unfold k0_part4_skel
  simp only [Prog.lift, Prog.bind_op, Prog.bind_ret, Prog.pure_eq_ret]
  iintro H11 Hk
  iapply (wp_ld 𝒱₀ (c : Thread nD τ) bd E (m := arg11)) $$ H11; iintro H11
  rw [wp_ret]; imodintro
  iapply Hk $$ %_ %_ %_ %_ %_ %_ %_ [] H11
  · ipureintro; exact ⟨rfl, rfl, rfl, rfl, rfl, rfl, rfl⟩

/-- Stretch 5: head 0's key and value gradients on the diagonal block; head 1's scores there. -/
theorem part5_wp (v4 : FVec F S256x256 .bf16) (v46 : Vec F S256x128 .bf16) (v87 : FVec F S128x256 .bf16) (v89 : FVec F S256x1 .f32) (v91 : BitVec 32) (v115 : FVec F S256x256 .f32) (v122 : FVec F S256x256 .f32) (v130 : FVec F S256x256 .bf16) (v140 : FVec F S256x256 .f32) (v164 : FVec F S128x256 .f32) (v165 : FVec F S128x256 .f32) (X11 : Vec F S256x8192 .f32) (X12 : Vec F S256x8192 .f32) (X3 : Vec F S8192x256 .bf16) (X4 : Vec F S8192x256 .bf16)
    {Q} :
    (own c arg11 X11 : sProp 𝕄) ⊢ iprop(
      own c arg12 X12 -∗
      own c arg3 X3 -∗
      own c arg4 X4 -∗
      (∀ (v168 : Vec F S128x256 .f32) (v170 : Vec F S128x256 .f32) (v175 : Vec F S128x256 .f32) (v183 : Vec F S256x128 .bf16) (v185 : Vec F S256x128 .bf16) (v179 : FVec F S256x1 .f32) (v181 : FVec F S256x1 .f32) (v188 : FVec F S256x256 .f32) (v192 : FVec F S256x256 .f32) (v198 : FVec F S256x256 .f32) (v201 : IVec S256x256 1) (v205 : FVec F S256x256 .f32) (v208 : FVec F S256x256 .f32) (w : FVec F S256x256 .f32),
        ⌜v168 = ld (Rect.unit (s := S256x8192) (k0_off2 i) S128x256.size (k0_off2_inb i)) X11 ∧
          v170 = ld (Rect.unit (s := S256x8192) (k0_off2 i) S128x256.size (k0_off2_inb i)) X12 ∧
          v175 = ld (Rect.unit (s := S256x8192) (k0_off2 i) S128x256.size (k0_off2_inb i)) X12 ∧
          v183 = ld (Rect.unit (s := S8192x256) (k0_off3 i) S256x128.size (k0_off3_inb i)) X3 ∧
          v185 = ld (Rect.unit (s := S8192x256) (k0_off3 i) S256x128.size (k0_off3_inb i)) X4 ∧
          v179 = k0_pay51 v89 v115 v122 ∧
          v181 = k0_pay52 v89 v140 ∧
          v188 = k0_pay53 v46 v183 ∧
          v192 = k0_pay54 v46 v183 ∧
          v198 = k0_pay55 v46 v183 ∧
          v201 = k0_pay56 ∧
          v205 = k0_pay57 v46 v183 ∧
          v208 = k0_pay59 v46 v183 ∧
          w = k0_pay60 v4 v46 v183⌝ -∗
        own c arg11 (st (Rect.unit (s := S256x8192) (k0_off2 i) S128x256.size (k0_off2_inb i)) X11 (k0_pay49 v164 v165)) -∗
        own c arg12 (st (Rect.unit (s := S256x8192) (k0_off2 i) S128x256.size (k0_off2_inb i)) X12 (k0_pay50 v87 v130 v170)) -∗
        own c arg3 X3 -∗
        own c arg4 X4 -∗
        Q ⟨v179, v181, v183, v185, v188, v192, v198, v201, v205, v208, w⟩)
      -∗ wp frame (wpE (defs₀ (F := F)) 𝒱₀ (c : Thread nD τ) bd) E (k0_part5 i arg2 harg2 arg3 harg3 arg4 harg4 arg5 harg5 arg6 harg6 arg7 harg7 arg8 harg8 arg9 harg9 arg10 harg10 arg11 harg11 arg12 harg12 arg13 harg13 v4 v46 v87 v89 v91 v115 v122 v130 v140 v164 v165) Q) := by
  simp only [k0_part5_eq_skeleton]; unfold k0_part5_skel
  simp only [Prog.lift, Prog.bind_op, Prog.bind_ret, Prog.pure_eq_ret]
  iintro H11 H12 H3 H4 Hk
  iapply (wp_ld 𝒱₀ (c : Thread nD τ) bd E (m := arg11)) $$ H11; iintro H11
  iapply (wp_st 𝒱₀ (c : Thread nD τ) bd E (m := arg11)) $$ H11; iintro H11
  iapply (wp_ld 𝒱₀ (c : Thread nD τ) bd E (m := arg12)) $$ H12; iintro H12
  iapply (wp_ld 𝒱₀ (c : Thread nD τ) bd E (m := arg12)) $$ H12; iintro H12
  iapply (wp_st 𝒱₀ (c : Thread nD τ) bd E (m := arg12)) $$ H12; iintro H12
  iapply (wp_ld 𝒱₀ (c : Thread nD τ) bd E (m := arg3)) $$ H3; iintro H3
  iapply (wp_ld 𝒱₀ (c : Thread nD τ) bd E (m := arg4)) $$ H4; iintro H4
  rw [wp_ret]; imodintro
  iapply Hk $$ %_ %_ %_ %_ %_ %_ %_ %_ %_ %_ %_ %_ %_ %_ [] H11 H12 H3 H4
  · ipureintro; exact ⟨rfl, rfl, rfl, rfl, rfl, rfl, rfl, rfl, rfl, rfl, rfl, rfl, rfl, rfl⟩

/-- Stretch 6: head 1 on the diagonal block. -/
theorem part6_wp (v4 : FVec F S256x256 .bf16) (v6 : FVec F S256x256 .bf16) (v80 : FVec F S256x128 .bf16) (v84 : FVec F S256x1 .f32) (v86 : FVec F S128x256 .bf16) (v89 : FVec F S256x1 .f32) (v91 : BitVec 32) (v183 : Vec F S256x128 .bf16) (v185 : Vec F S256x128 .bf16) (v188 : FVec F S256x256 .f32) (v192 : FVec F S256x256 .f32) (v198 : FVec F S256x256 .f32) (v201 : IVec S256x256 1) (v208 : FVec F S256x256 .f32) (v209 : FVec F S256x256 .f32) (X11 : Vec F S256x8192 .f32)
    {Q} :
    (own c arg11 X11 : sProp 𝕄) ⊢ iprop(
      (∀ (v253 : Vec F S128x256 .f32) (v212 : FVec F S256x256 .f32) (v220 : FVec F S256x256 .bf16) (v230 : FVec F S256x256 .f32) (v251 : FVec F S256x128 .f32) (w : FVec F S128x256 .f32),
        ⌜v253 = ld (Rect.unit (s := S256x8192) (k0_off4 i) S128x256.size (k0_off4_inb i)) X11 ∧
          v212 = k0_pay61 v4 v208 v209 ∧
          v220 = k0_pay62 v4 v89 v188 v198 v201 v208 v209 ∧
          v230 = k0_pay64 v4 v6 v80 v89 v185 v188 v198 v201 v208 v209 ∧
          v251 = k0_pay66 v4 v6 v80 v84 v89 v183 v185 v188 v192 v198 v201 v208 v209 ∧
          w = k0_pay67 v4 v6 v80 v84 v86 v89 v185 v188 v192 v198 v201 v208 v209 v253⌝ -∗
        own c arg11 X11 -∗
        Q ⟨v212, v220, v230, v251, w⟩)
      -∗ wp frame (wpE (defs₀ (F := F)) 𝒱₀ (c : Thread nD τ) bd) E (k0_part6 i arg2 harg2 arg3 harg3 arg4 harg4 arg5 harg5 arg6 harg6 arg7 harg7 arg8 harg8 arg9 harg9 arg10 harg10 arg11 harg11 arg12 harg12 arg13 harg13 v4 v6 v80 v84 v86 v89 v91 v183 v185 v188 v192 v198 v201 v208 v209) Q) := by
  simp only [k0_part6_eq_skeleton]; unfold k0_part6_skel
  simp only [Prog.lift, Prog.bind_op, Prog.bind_ret, Prog.pure_eq_ret]
  iintro H11 Hk
  iapply (wp_ld 𝒱₀ (c : Thread nD τ) bd E (m := arg11)) $$ H11; iintro H11
  rw [wp_ret]; imodintro
  iapply Hk $$ %_ %_ %_ %_ %_ %_ [] H11
  · ipureintro; exact ⟨rfl, rfl, rfl, rfl, rfl, rfl⟩

/-- Stretch 7: head 1's key and value gradients on the diagonal block; head 0's scores on the block before it. -/
theorem part7_wp (arg1 : BitVec 32) (v7 : Vec F S256x128 .bf16) (v88 : FVec F S128x256 .bf16) (v89 : FVec F S256x1 .f32) (v91 : BitVec 32) (v205 : FVec F S256x256 .f32) (v212 : FVec F S256x256 .f32) (v220 : FVec F S256x256 .bf16) (v230 : FVec F S256x256 .f32) (v256 : FVec F S128x256 .f32) (X11 : Vec F S256x8192 .f32) (X12 : Vec F S256x8192 .f32) (X3 : Vec F S8192x256 .bf16) (X4 : Vec F S8192x256 .bf16)
    {Q} :
    (own c arg11 X11 : sProp 𝕄) ⊢ iprop(
      own c arg12 X12 -∗
      own c arg3 X3 -∗
      own c arg4 X4 -∗
      (∀ (v258 : Vec F S128x256 .f32) (v260 : Vec F S128x256 .f32) (v265 : Vec F S128x256 .f32) (v272 : BitVec 32) (v273 : BitVec 32) (v274 : BitVec 1) (v275 : BitVec 32) (v276 : BitVec 32) (v278 : Vec F S256x128 .bf16) (v280 : Vec F S256x128 .bf16) (v269 : FVec F S256x1 .f32) (v271 : FVec F S256x1 .f32) (v283 : FVec F S256x256 .f32) (v287 : FVec F S256x256 .f32) (v293 : FVec F S256x256 .f32) (v295 : FVec F S256x256 .f32) (v296 : FVec F S256x256 .bf16) (w : FVec F S256x256 .f32),
        ⌜v258 = ld (Rect.unit (s := S256x8192) (k0_off4 i) S128x256.size (k0_off4_inb i)) X11 ∧
          v260 = ld (Rect.unit (s := S256x8192) (k0_off4 i) S128x256.size (k0_off4_inb i)) X12 ∧
          v265 = ld (Rect.unit (s := S256x8192) (k0_off4 i) S128x256.size (k0_off4_inb i)) X12 ∧
          v272 = Scalar.subi arg1 1#32 ∧
          v273 = Scalar.maxsi v272 0#32 ∧
          v274 = Scalar.cmpi .sgt arg1 0#32 ∧
          v275 = Scalar.muli v273 256#32 ∧
          v276 = v275 ∧
          v278 = ld (Rect.unit (s := S8192x256) (k0_off5 i) S256x128.size (k0_off5_inb i)) X3 ∧
          v280 = ld (Rect.unit (s := S8192x256) (k0_off5 i) S256x128.size (k0_off5_inb i)) X4 ∧
          v269 = k0_pay69 v89 v205 v212 ∧
          v271 = k0_pay70 v89 v230 ∧
          v283 = k0_pay71 v7 v278 ∧
          v287 = k0_pay72 v7 v278 ∧
          v293 = k0_pay73 v7 v278 ∧
          v295 = k0_pay74 v7 v278 ∧
          v296 = k0_pay75 v7 v278 ∧
          w = k0_pay76 v7 v278⌝ -∗
        own c arg11 (st (Rect.unit (s := S256x8192) (k0_off4 i) S128x256.size (k0_off4_inb i)) X11 v256) -∗
        own c arg12 (st (Rect.unit (s := S256x8192) (k0_off4 i) S128x256.size (k0_off4_inb i)) X12 (k0_pay68 v88 v220 v260)) -∗
        own c arg3 X3 -∗
        own c arg4 X4 -∗
        Q ⟨v269, v271, v274, v276, v278, v280, v283, v287, v293, v295, v296, w⟩)
      -∗ wp frame (wpE (defs₀ (F := F)) 𝒱₀ (c : Thread nD τ) bd) E (k0_part7 i arg2 harg2 arg3 harg3 arg4 harg4 arg5 harg5 arg6 harg6 arg7 harg7 arg8 harg8 arg9 harg9 arg10 harg10 arg11 harg11 arg12 harg12 arg13 harg13 arg1 v7 v88 v89 v91 v205 v212 v220 v230 v256) Q) := by
  simp only [k0_part7_eq_skeleton]; unfold k0_part7_skel
  simp only [Prog.lift, Prog.bind_op, Prog.bind_ret, Prog.pure_eq_ret]
  iintro H11 H12 H3 H4 Hk
  iapply (wp_ld 𝒱₀ (c : Thread nD τ) bd E (m := arg11)) $$ H11; iintro H11
  iapply (wp_st 𝒱₀ (c : Thread nD τ) bd E (m := arg11)) $$ H11; iintro H11
  iapply (wp_ld 𝒱₀ (c : Thread nD τ) bd E (m := arg12)) $$ H12; iintro H12
  iapply (wp_ld 𝒱₀ (c : Thread nD τ) bd E (m := arg12)) $$ H12; iintro H12
  iapply (wp_st 𝒱₀ (c : Thread nD τ) bd E (m := arg12)) $$ H12; iintro H12
  iapply (wp_ld 𝒱₀ (c : Thread nD τ) bd E (m := arg3)) $$ H3; iintro H3
  iapply (wp_ld 𝒱₀ (c : Thread nD τ) bd E (m := arg4)) $$ H4; iintro H4
  rw [wp_ret]; imodintro
  iapply Hk $$ %_ %_ %_ %_ %_ %_ %_ %_ %_ %_ %_ %_ %_ %_ %_ %_ %_ %_ [] H11 H12 H3 H4
  · ipureintro; exact ⟨rfl, rfl, rfl, rfl, rfl, rfl, rfl, rfl, rfl, rfl, rfl, rfl, rfl, rfl, rfl, rfl, rfl, rfl⟩

/-- Stretch 8: head 0 on the block before the diagonal. -/
theorem part8_wp (v4 : FVec F S256x256 .bf16) (v6 : FVec F S256x256 .bf16) (v41 : FVec F S256x128 .bf16) (v45 : FVec F S256x1 .f32) (v179 : FVec F S256x1 .f32) (v181 : FVec F S256x1 .f32) (v274 : BitVec 1) (v276 : BitVec 32) (v278 : Vec F S256x128 .bf16) (v280 : Vec F S256x128 .bf16) (v283 : FVec F S256x256 .f32) (v287 : FVec F S256x256 .f32) (v293 : FVec F S256x256 .f32) (v296 : FVec F S256x256 .bf16) (v298 : FVec F S256x256 .f32) (X11 : Vec F S256x8192 .f32)
    {Q} :
    (own c arg11 X11 : sProp 𝕄) ⊢ iprop(
      (∀ (v343 : Vec F S128x256 .f32) (cst_119 : FVec F S128x256 .f32) (v302 : FVec F S256x256 .f32) (v310 : FVec F S256x256 .bf16) (v320 : FVec F S256x256 .f32) (v340 : FVec F S256x256 .bf16) (v341 : FVec F S256x128 .f32) (v344 : FVec F S128x256 .f32),
        ⌜v343 = ld (Rect.unit (s := S256x8192) (k0_off6 i) S128x256.size (k0_off6_inb i)) X11 ∧
          cst_119 = constant S128x256 .f32 0x00000000#32 ∧
          v302 = k0_pay77 v4 v296 v298 ∧
          v310 = k0_pay78 v4 v179 v274 v283 v293 v296 v298 ∧
          v320 = k0_pay80 v4 v6 v41 v179 v274 v280 v283 v293 v296 v298 ∧
          v340 = k0_pay81 v4 v6 v41 v45 v179 v181 v274 v280 v283 v287 v293 v296 v298 ∧
          v341 = k0_pay82 v4 v6 v41 v45 v179 v181 v274 v278 v280 v283 v287 v293 v296 v298 ∧
          v344 = k0_pay83 v343⌝ -∗
        own c arg11 X11 -∗
        Q ⟨v302, v310, v320, v340, v341, v344, cst_119⟩)
      -∗ wp frame (wpE (defs₀ (F := F)) 𝒱₀ (c : Thread nD τ) bd) E (k0_part8 i arg2 harg2 arg3 harg3 arg4 harg4 arg5 harg5 arg6 harg6 arg7 harg7 arg8 harg8 arg9 harg9 arg10 harg10 arg11 harg11 arg12 harg12 arg13 harg13 v4 v6 v41 v45 v179 v181 v274 v276 v278 v280 v283 v287 v293 v296 v298) Q) := by
  simp only [k0_part8_eq_skeleton]; unfold k0_part8_skel
  simp only [Prog.lift, Prog.bind_op, Prog.bind_ret, Prog.pure_eq_ret]
  iintro H11 Hk
  iapply (wp_ld 𝒱₀ (c : Thread nD τ) bd E (m := arg11)) $$ H11; iintro H11
  rw [wp_ret]; imodintro
  iapply Hk $$ %_ %_ %_ %_ %_ %_ %_ %_ [] H11
  · ipureintro; exact ⟨rfl, rfl, rfl, rfl, rfl, rfl, rfl, rfl⟩

/-- Stretch 9: head 0's key and value gradients there; head 1's scores there. -/
theorem part9_wp (v4 : FVec F S256x256 .bf16) (v46 : Vec F S256x128 .bf16) (v85 : FVec F S128x256 .bf16) (v87 : FVec F S128x256 .bf16) (v179 : FVec F S256x1 .f32) (v181 : FVec F S256x1 .f32) (v276 : BitVec 32) (v295 : FVec F S256x256 .f32) (v302 : FVec F S256x256 .f32) (v310 : FVec F S256x256 .bf16) (v320 : FVec F S256x256 .f32) (v340 : FVec F S256x256 .bf16) (v344 : FVec F S128x256 .f32) (cst_119 : FVec F S128x256 .f32) (X11 : Vec F S256x8192 .f32) (X12 : Vec F S256x8192 .f32) (X3 : Vec F S8192x256 .bf16) (X4 : Vec F S8192x256 .bf16)
    {Q} :
    (own c arg11 X11 : sProp 𝕄) ⊢ iprop(
      own c arg12 X12 -∗
      own c arg3 X3 -∗
      own c arg4 X4 -∗
      (∀ (v348 : Vec F S128x256 .f32) (v350 : Vec F S128x256 .f32) (v355 : Vec F S128x256 .f32) (v363 : Vec F S256x128 .bf16) (v365 : Vec F S256x128 .bf16) (v359 : FVec F S256x1 .f32) (v361 : FVec F S256x1 .f32) (v368 : FVec F S256x256 .f32) (v372 : FVec F S256x256 .f32) (v380 : FVec F S256x256 .f32) (v387 : FVec F S256x256 .f32) (w : FVec F S256x256 .f32),
        ⌜v348 = ld (Rect.unit (s := S256x8192) (k0_off6 i) S128x256.size (k0_off6_inb i)) X11 ∧
          v350 = ld (Rect.unit (s := S256x8192) (k0_off6 i) S128x256.size (k0_off6_inb i)) X12 ∧
          v355 = ld (Rect.unit (s := S256x8192) (k0_off6 i) S128x256.size (k0_off6_inb i)) X12 ∧
          v363 = ld (Rect.unit (s := S8192x256) (k0_off7 i) S256x128.size (k0_off7_inb i)) X3 ∧
          v365 = ld (Rect.unit (s := S8192x256) (k0_off7 i) S256x128.size (k0_off7_inb i)) X4 ∧
          v359 = k0_pay86 v179 v295 v302 ∧
          v361 = k0_pay87 v181 v320 ∧
          v368 = k0_pay88 v46 v363 ∧
          v372 = k0_pay89 v46 v363 ∧
          v380 = k0_pay91 v46 v363 ∧
          v387 = k0_pay92 v4 v46 v363 ∧
          w = k0_pay93 v46 v363⌝ -∗
        own c arg11 (st (Rect.unit (s := S256x8192) (k0_off6 i) S128x256.size (k0_off6_inb i)) X11 (k0_pay84 v85 v340 v344 cst_119)) -∗
        own c arg12 (st (Rect.unit (s := S256x8192) (k0_off6 i) S128x256.size (k0_off6_inb i)) X12 (k0_pay85 v87 v310 v350)) -∗
        own c arg3 X3 -∗
        own c arg4 X4 -∗
        Q ⟨v359, v361, v363, v365, v368, v372, v380, v387, w⟩)
      -∗ wp frame (wpE (defs₀ (F := F)) 𝒱₀ (c : Thread nD τ) bd) E (k0_part9 i arg2 harg2 arg3 harg3 arg4 harg4 arg5 harg5 arg6 harg6 arg7 harg7 arg8 harg8 arg9 harg9 arg10 harg10 arg11 harg11 arg12 harg12 arg13 harg13 v4 v46 v85 v87 v179 v181 v276 v295 v302 v310 v320 v340 v344 cst_119) Q) := by
  simp only [k0_part9_eq_skeleton]; unfold k0_part9_skel
  simp only [Prog.lift, Prog.bind_op, Prog.bind_ret, Prog.pure_eq_ret]
  iintro H11 H12 H3 H4 Hk
  iapply (wp_ld 𝒱₀ (c : Thread nD τ) bd E (m := arg11)) $$ H11; iintro H11
  iapply (wp_st 𝒱₀ (c : Thread nD τ) bd E (m := arg11)) $$ H11; iintro H11
  iapply (wp_ld 𝒱₀ (c : Thread nD τ) bd E (m := arg12)) $$ H12; iintro H12
  iapply (wp_ld 𝒱₀ (c : Thread nD τ) bd E (m := arg12)) $$ H12; iintro H12
  iapply (wp_st 𝒱₀ (c : Thread nD τ) bd E (m := arg12)) $$ H12; iintro H12
  iapply (wp_ld 𝒱₀ (c : Thread nD τ) bd E (m := arg3)) $$ H3; iintro H3
  iapply (wp_ld 𝒱₀ (c : Thread nD τ) bd E (m := arg4)) $$ H4; iintro H4
  rw [wp_ret]; imodintro
  iapply Hk $$ %_ %_ %_ %_ %_ %_ %_ %_ %_ %_ %_ %_ [] H11 H12 H3 H4
  · ipureintro; exact ⟨rfl, rfl, rfl, rfl, rfl, rfl, rfl, rfl, rfl, rfl, rfl, rfl⟩

/-- Stretch 10: head 1 on the block before the diagonal. -/
theorem part10_wp (v6 : FVec F S256x256 .bf16) (v80 : FVec F S256x128 .bf16) (v84 : FVec F S256x1 .f32) (v86 : FVec F S128x256 .bf16) (v269 : FVec F S256x1 .f32) (v271 : FVec F S256x1 .f32) (v274 : BitVec 1) (v276 : BitVec 32) (v363 : Vec F S256x128 .bf16) (v365 : Vec F S256x128 .bf16) (v368 : FVec F S256x256 .f32) (v372 : FVec F S256x256 .f32) (v387 : FVec F S256x256 .f32) (v388 : FVec F S256x256 .f32) (X11 : Vec F S256x8192 .f32)
    {Q} :
    (own c arg11 X11 : sProp 𝕄) ⊢ iprop(
      (∀ (v428 : Vec F S128x256 .f32) (v433 : Vec F S128x256 .f32) (v395 : FVec F S256x256 .bf16) (v405 : FVec F S256x256 .f32) (w : FVec F S256x128 .f32),
        ⌜v428 = ld (Rect.unit (s := S256x8192) (k0_off8 i) S128x256.size (k0_off8_inb i)) X11 ∧
          v433 = ld (Rect.unit (s := S256x8192) (k0_off8 i) S128x256.size (k0_off8_inb i)) X11 ∧
          v395 = k0_pay94 v269 v274 v387 v388 ∧
          v405 = k0_pay96 v6 v80 v269 v274 v365 v387 v388 ∧
          w = k0_pay98 v6 v80 v84 v269 v271 v274 v363 v365 v368 v372 v387 v388⌝ -∗
        own c arg11 (st (Rect.unit (s := S256x8192) (k0_off8 i) S128x256.size (k0_off8_inb i)) X11 (k0_pay99 v6 v80 v84 v86 v269 v271 v274 v365 v368 v372 v387 v388 v428)) -∗
        Q ⟨v395, v405, w⟩)
      -∗ wp frame (wpE (defs₀ (F := F)) 𝒱₀ (c : Thread nD τ) bd) E (k0_part10 i arg2 harg2 arg3 harg3 arg4 harg4 arg5 harg5 arg6 harg6 arg7 harg7 arg8 harg8 arg9 harg9 arg10 harg10 arg11 harg11 arg12 harg12 arg13 harg13 v6 v80 v84 v86 v269 v271 v274 v276 v363 v365 v368 v372 v387 v388) Q) := by
  simp only [k0_part10_eq_skeleton]; unfold k0_part10_skel
  simp only [Prog.lift, Prog.bind_op, Prog.bind_ret, Prog.pure_eq_ret]
  iintro H11 Hk
  iapply (wp_ld 𝒱₀ (c : Thread nD τ) bd E (m := arg11)) $$ H11; iintro H11
  iapply (wp_ld 𝒱₀ (c : Thread nD τ) bd E (m := arg11)) $$ H11; iintro H11
  iapply (wp_st 𝒱₀ (c : Thread nD τ) bd E (m := arg11)) $$ H11; iintro H11
  rw [wp_ret]; imodintro
  iapply Hk $$ %_ %_ %_ %_ %_ [] H11
  · ipureintro; exact ⟨rfl, rfl, rfl, rfl, rfl⟩

/-- Stretch 11: one trip of the loop: head 0's scores. -/
theorem part11_wp (v7 : Vec F S256x128 .bf16) (v4 : FVec F S256x256 .bf16) (v41 : FVec F S256x128 .bf16) (v6 : FVec F S256x256 .bf16) (v45 : FVec F S256x1 .f32) (v85 : FVec F S128x256 .bf16) (v87 : FVec F S128x256 .bf16) (v46 : Vec F S256x128 .bf16) (v80 : FVec F S256x128 .bf16) (v84 : FVec F S256x1 .f32) (v86 : FVec F S128x256 .bf16) (v88 : FVec F S128x256 .bf16) (arg14 : BitVec 32) (arg15 : FVec F S256x128 .f32) (arg16 : FVec F S256x128 .f32) (arg17 : FVec F S256x1 .f32) (arg18 : FVec F S256x1 .f32) (arg19 : FVec F S256x1 .f32) (arg20 : FVec F S256x1 .f32) (arg21 : F .f32) (hw : k0_chk1 arg14) (X3 : Vec F S8192x256 .bf16) (X4 : Vec F S8192x256 .bf16)
    {Q} :
    (own c arg3 X3 : sProp 𝕄) ⊢ iprop(
      own c arg4 X4 -∗
      (∀ (v462 : BitVec 32) (v463 : BitVec 32) (v465 : Vec F S256x128 .bf16) (v467 : Vec F S256x128 .bf16) (v470 : FVec F S256x256 .f32) (v474 : FVec F S256x256 .f32) (v482 : FVec F S256x256 .f32) (v491 : FVec F S256x256 .f32) (v497 : FVec F S256x256 .bf16) (v500 : FVec F S256x256 .f32) (v504 : FVec F S256x256 .f32) (w : FVec F S256x256 .bf16),
        ⌜v462 = Scalar.muli arg14 256#32 ∧
          v463 = v462 ∧
          v465 = ld (Rect.unit (s := S8192x256) (k0_off9 arg14) S256x128.size (k0_off9_inb arg14 hw)) X3 ∧
          v467 = ld (Rect.unit (s := S8192x256) (k0_off9 arg14) S256x128.size (k0_off9_inb arg14 hw)) X4 ∧
          v470 = k0_pay100 v7 v465 ∧
          v474 = k0_pay101 v7 v465 ∧
          v482 = k0_pay103 v7 v465 ∧
          v491 = k0_pay104 v7 v4 v465 ∧
          v497 = k0_pay105 v7 v4 arg17 v465 ∧
          v500 = k0_pay106 v7 v4 v41 arg17 v465 v467 ∧
          v504 = k0_pay108 v7 v4 v41 v6 arg17 v465 v467 ∧
          w = k0_pay109 v7 v4 v41 arg17 v465 v467⌝ -∗
        own c arg3 X3 -∗
        own c arg4 X4 -∗
        Q ⟨hw, v463, v465, v470, v474, v482, v491, v497, v500, v504, w⟩)
      -∗ wp frame (wpE (defs₀ (F := F)) 𝒱₀ (c : Thread nD τ) bd) E (k0_part11 i arg3 harg3 arg4 harg4 v7 v4 v41 v6 v45 arg11 harg11 v85 arg12 harg12 v87 v46 v80 v84 v86 v88 arg14 arg15 arg16 arg17 arg18 arg19 arg20 arg21) Q) := by
  simp only [k0_part11_eq_skeleton]; unfold k0_part11_skel
  simp only [Prog.lift, Prog.bind_op, Prog.bind_ret, Prog.pure_eq_ret]
  iintro H3 H4 Hk
  iapply (wp_assume 𝒱₀ (c : Thread nD τ) bd E hw)
  iapply (wp_ld 𝒱₀ (c : Thread nD τ) bd E (m := arg3)) $$ H3; iintro H3
  iapply (wp_ld 𝒱₀ (c : Thread nD τ) bd E (m := arg4)) $$ H4; iintro H4
  rw [wp_ret]; imodintro
  iapply Hk $$ %_ %_ %_ %_ %_ %_ %_ %_ %_ %_ %_ %_ [] H3 H4
  · ipureintro; exact ⟨rfl, rfl, rfl, rfl, rfl, rfl, rfl, rfl, rfl, rfl, rfl, rfl⟩

/-- Stretch 12: one trip of the loop: head 0's gradients. -/
theorem part12_wp (v7 : Vec F S256x128 .bf16) (v4 : FVec F S256x256 .bf16) (v41 : FVec F S256x128 .bf16) (v6 : FVec F S256x256 .bf16) (v45 : FVec F S256x1 .f32) (v85 : FVec F S128x256 .bf16) (v87 : FVec F S128x256 .bf16) (v46 : Vec F S256x128 .bf16) (v80 : FVec F S256x128 .bf16) (v84 : FVec F S256x1 .f32) (v86 : FVec F S128x256 .bf16) (v88 : FVec F S128x256 .bf16) (arg14 : BitVec 32) (arg15 : FVec F S256x128 .f32) (arg16 : FVec F S256x128 .f32) (arg17 : FVec F S256x1 .f32) (arg18 : FVec F S256x1 .f32) (arg19 : FVec F S256x1 .f32) (arg20 : FVec F S256x1 .f32) (arg21 : F .f32) (k0_hw1 : k0_chk1 arg14) (v463 : BitVec 32) (v465 : Vec F S256x128 .bf16) (v470 : FVec F S256x256 .f32) (v474 : FVec F S256x256 .f32) (v482 : FVec F S256x256 .f32) (v491 : FVec F S256x256 .f32) (v497 : FVec F S256x256 .bf16) (v500 : FVec F S256x256 .f32) (v504 : FVec F S256x256 .f32) (v505 : FVec F S256x256 .bf16) (X11 : Vec F S256x8192 .f32) (X12 : Vec F S256x8192 .f32) (X3 : Vec F S8192x256 .bf16)
    {Q} :
    (own c arg11 X11 : sProp 𝕄) ⊢ iprop(
      own c arg12 X12 -∗
      own c arg3 X3 -∗
      (∀ (v530 : Vec F S128x256 .f32) (v535 : Vec F S128x256 .f32) (v537 : Vec F S128x256 .f32) (v542 : Vec F S128x256 .f32) (v550 : Vec F S256x128 .bf16) (v528 : FVec F S256x128 .f32) (v546 : FVec F S256x1 .f32) (v548 : FVec F S256x1 .f32),
        ⌜v530 = ld (Rect.unit (s := S256x8192) (k0_off10 arg14) S128x256.size (k0_off10_inb arg14 k0_hw1)) X11 ∧
          v535 = ld (Rect.unit (s := S256x8192) (k0_off10 arg14) S128x256.size (k0_off10_inb arg14 k0_hw1)) X11 ∧
          v537 = ld (Rect.unit (s := S256x8192) (k0_off10 arg14) S128x256.size (k0_off10_inb arg14 k0_hw1)) X12 ∧
          v542 = ld (Rect.unit (s := S256x8192) (k0_off10 arg14) S128x256.size (k0_off10_inb arg14 k0_hw1)) X12 ∧
          v550 = ld (Rect.unit (s := S8192x256) (k0_off11 arg14) S256x128.size (k0_off11_inb arg14 k0_hw1)) X3 ∧
          v528 = k0_pay112 v6 v45 arg19 v465 v470 v474 v500 v504 v505 ∧
          v546 = k0_pay115 arg17 v482 v491 ∧
          v548 = k0_pay116 v6 arg19 v504 v505⌝ -∗
        own c arg11 (st (Rect.unit (s := S256x8192) (k0_off10 arg14) S128x256.size (k0_off10_inb arg14 k0_hw1)) X11 (k0_pay113 v6 v45 v85 arg19 v470 v474 v500 v504 v505 v530)) -∗
        own c arg12 (st (Rect.unit (s := S256x8192) (k0_off10 arg14) S128x256.size (k0_off10_inb arg14 k0_hw1)) X12 (k0_pay114 v87 v497 v537)) -∗
        own c arg3 X3 -∗
        Q ⟨v528, v546, v548, v550⟩)
      -∗ wp frame (wpE (defs₀ (F := F)) 𝒱₀ (c : Thread nD τ) bd) E (k0_part12 i arg3 harg3 arg4 harg4 v7 v4 v41 v6 v45 arg11 harg11 v85 arg12 harg12 v87 v46 v80 v84 v86 v88 arg14 arg15 arg16 arg17 arg18 arg19 arg20 arg21 k0_hw1 v463 v465 v470 v474 v482 v491 v497 v500 v504 v505) Q) := by
  simp only [k0_part12_eq_skeleton]; unfold k0_part12_skel
  simp only [Prog.lift, Prog.bind_op, Prog.bind_ret, Prog.pure_eq_ret]
  iintro H11 H12 H3 Hk
  iapply (wp_ld 𝒱₀ (c : Thread nD τ) bd E (m := arg11)) $$ H11; iintro H11
  iapply (wp_ld 𝒱₀ (c : Thread nD τ) bd E (m := arg11)) $$ H11; iintro H11
  iapply (wp_st 𝒱₀ (c : Thread nD τ) bd E (m := arg11)) $$ H11; iintro H11
  iapply (wp_ld 𝒱₀ (c : Thread nD τ) bd E (m := arg12)) $$ H12; iintro H12
  iapply (wp_ld 𝒱₀ (c : Thread nD τ) bd E (m := arg12)) $$ H12; iintro H12
  iapply (wp_st 𝒱₀ (c : Thread nD τ) bd E (m := arg12)) $$ H12; iintro H12
  iapply (wp_ld 𝒱₀ (c : Thread nD τ) bd E (m := arg3)) $$ H3; iintro H3
  rw [wp_ret]; imodintro
  iapply Hk $$ %_ %_ %_ %_ %_ %_ %_ %_ [] H11 H12 H3
  · ipureintro; exact ⟨rfl, rfl, rfl, rfl, rfl, rfl, rfl, rfl⟩

/-- Stretch 13: one trip of the loop: head 1's scores. -/
theorem part13_wp (v7 : Vec F S256x128 .bf16) (v4 : FVec F S256x256 .bf16) (v41 : FVec F S256x128 .bf16) (v6 : FVec F S256x256 .bf16) (v45 : FVec F S256x1 .f32) (v85 : FVec F S128x256 .bf16) (v87 : FVec F S128x256 .bf16) (v46 : Vec F S256x128 .bf16) (v80 : FVec F S256x128 .bf16) (v84 : FVec F S256x1 .f32) (v86 : FVec F S128x256 .bf16) (v88 : FVec F S128x256 .bf16) (arg14 : BitVec 32) (arg15 : FVec F S256x128 .f32) (arg16 : FVec F S256x128 .f32) (arg17 : FVec F S256x1 .f32) (arg18 : FVec F S256x1 .f32) (arg19 : FVec F S256x1 .f32) (arg20 : FVec F S256x1 .f32) (arg21 : F .f32) (k0_hw1 : k0_chk1 arg14) (v550 : Vec F S256x128 .bf16) (X4 : Vec F S8192x256 .bf16)
    {Q} :
    (own c arg4 X4 : sProp 𝕄) ⊢ iprop(
      (∀ (v552 : Vec F S256x128 .bf16) (v555 : FVec F S256x256 .f32) (v559 : FVec F S256x256 .f32) (v567 : FVec F S256x256 .f32) (v576 : FVec F S256x256 .f32) (v582 : FVec F S256x256 .bf16) (v585 : FVec F S256x256 .f32) (v594 : FVec F S256x256 .f32) (v598 : FVec F S256x256 .f32) (w : FVec F S256x256 .f32),
        ⌜v552 = ld (Rect.unit (s := S8192x256) (k0_off11 arg14) S256x128.size (k0_off11_inb arg14 k0_hw1)) X4 ∧
          v555 = k0_pay117 v46 v550 ∧
          v559 = k0_pay118 v46 v550 ∧
          v567 = k0_pay120 v46 v550 ∧
          v576 = k0_pay121 v4 v46 v550 ∧
          v582 = k0_pay122 v4 v46 arg18 v550 ∧
          v585 = k0_pay123 v4 v46 v80 arg18 v550 v552 ∧
          v594 = k0_pay124 v4 v6 v46 v80 arg18 v550 v552 ∧
          v598 = k0_pay125 v4 v6 v46 v80 v84 arg18 arg20 v550 v552 ∧
          w = k0_pay126 (F := F)⌝ -∗
        own c arg4 X4 -∗
        Q ⟨v555, v559, v567, v576, v582, v585, v594, v598, w⟩)
      -∗ wp frame (wpE (defs₀ (F := F)) 𝒱₀ (c : Thread nD τ) bd) E (k0_part13 i arg3 harg3 arg4 harg4 v7 v4 v41 v6 v45 arg11 harg11 v85 arg12 harg12 v87 v46 v80 v84 v86 v88 arg14 arg15 arg16 arg17 arg18 arg19 arg20 arg21 k0_hw1 v550) Q) := by
  simp only [k0_part13_eq_skeleton]; unfold k0_part13_skel
  simp only [Prog.lift, Prog.bind_op, Prog.bind_ret, Prog.pure_eq_ret]
  iintro H4 Hk
  iapply (wp_ld 𝒱₀ (c : Thread nD τ) bd E (m := arg4)) $$ H4; iintro H4
  rw [wp_ret]; imodintro
  iapply Hk $$ %_ %_ %_ %_ %_ %_ %_ %_ %_ %_ [] H4
  · ipureintro; exact ⟨rfl, rfl, rfl, rfl, rfl, rfl, rfl, rfl, rfl, rfl⟩

/-- Stretch 14: one trip of the loop: head 1's gradients. -/
theorem part14_wp (v7 : Vec F S256x128 .bf16) (v4 : FVec F S256x256 .bf16) (v41 : FVec F S256x128 .bf16) (v6 : FVec F S256x256 .bf16) (v45 : FVec F S256x1 .f32) (v85 : FVec F S128x256 .bf16) (v87 : FVec F S128x256 .bf16) (v46 : Vec F S256x128 .bf16) (v80 : FVec F S256x128 .bf16) (v84 : FVec F S256x1 .f32) (v86 : FVec F S128x256 .bf16) (v88 : FVec F S128x256 .bf16) (arg14 : BitVec 32) (arg15 : FVec F S256x128 .f32) (arg16 : FVec F S256x128 .f32) (arg17 : FVec F S256x1 .f32) (arg18 : FVec F S256x1 .f32) (arg19 : FVec F S256x1 .f32) (arg20 : FVec F S256x1 .f32) (arg21 : F .f32) (k0_hw1 : k0_chk1 arg14) (v463 : BitVec 32) (v528 : FVec F S256x128 .f32) (v546 : FVec F S256x1 .f32) (v550 : Vec F S256x128 .bf16) (v555 : FVec F S256x256 .f32) (v559 : FVec F S256x256 .f32) (v567 : FVec F S256x256 .f32) (v576 : FVec F S256x256 .f32) (v582 : FVec F S256x256 .bf16) (v585 : FVec F S256x256 .f32) (v594 : FVec F S256x256 .f32) (v598 : FVec F S256x256 .f32) (v599 : FVec F S256x256 .f32) (X11 : Vec F S256x8192 .f32) (X12 : Vec F S256x8192 .f32)
    {Q} :
    (own c arg11 X11 : sProp 𝕄) ⊢ iprop(
      own c arg12 X12 -∗
      (∀ (v615 : Vec F S128x256 .f32) (v620 : Vec F S128x256 .f32) (v622 : Vec F S128x256 .f32) (v627 : Vec F S128x256 .f32) (v634 : BitVec 32) (v631 : FVec F S256x1 .f32) (v633 : FVec F S256x1 .f32) (v635 : FVec F S256x128 .f32) (v636 : FVec F S256x128 .f32) (v640 : F .f32) (w : F .f32),
        ⌜v615 = ld (Rect.unit (s := S256x8192) (k0_off12 arg14) S128x256.size (k0_off12_inb arg14 k0_hw1)) X11 ∧
          v620 = ld (Rect.unit (s := S256x8192) (k0_off12 arg14) S128x256.size (k0_off12_inb arg14 k0_hw1)) X11 ∧
          v622 = ld (Rect.unit (s := S256x8192) (k0_off12 arg14) S128x256.size (k0_off12_inb arg14 k0_hw1)) X12 ∧
          v627 = ld (Rect.unit (s := S256x8192) (k0_off12 arg14) S128x256.size (k0_off12_inb arg14 k0_hw1)) X12 ∧
          v634 = Scalar.subi arg14 1#32 ∧
          v631 = k0_pay130 arg18 v567 v576 ∧
          v633 = k0_pay131 arg20 v594 ∧
          v635 = k0_pay132 arg15 v528 ∧
          v636 = k0_pay133 arg16 v550 v555 v559 v585 v598 v599 ∧
          v640 = k0_pay134 v546 ∧
          w = k0_pay135 arg18 v567 v576⌝ -∗
        own c arg11 (st (Rect.unit (s := S256x8192) (k0_off12 arg14) S128x256.size (k0_off12_inb arg14 k0_hw1)) X11 (k0_pay128 v86 v555 v559 v585 v598 v599 v615)) -∗
        own c arg12 (st (Rect.unit (s := S256x8192) (k0_off12 arg14) S128x256.size (k0_off12_inb arg14 k0_hw1)) X12 (k0_pay129 v88 v582 v622)) -∗
        Q ⟨v631, v633, v634, v635, v636, v640, w⟩)
      -∗ wp frame (wpE (defs₀ (F := F)) 𝒱₀ (c : Thread nD τ) bd) E (k0_part14 i arg3 harg3 arg4 harg4 v7 v4 v41 v6 v45 arg11 harg11 v85 arg12 harg12 v87 v46 v80 v84 v86 v88 arg14 arg15 arg16 arg17 arg18 arg19 arg20 arg21 k0_hw1 v463 v528 v546 v550 v555 v559 v567 v576 v582 v585 v594 v598 v599) Q) := by
  simp only [k0_part14_eq_skeleton]; unfold k0_part14_skel
  simp only [Prog.lift, Prog.bind_op, Prog.bind_ret, Prog.pure_eq_ret]
  iintro H11 H12 Hk
  iapply (wp_ld 𝒱₀ (c : Thread nD τ) bd E (m := arg11)) $$ H11; iintro H11
  iapply (wp_ld 𝒱₀ (c : Thread nD τ) bd E (m := arg11)) $$ H11; iintro H11
  iapply (wp_st 𝒱₀ (c : Thread nD τ) bd E (m := arg11)) $$ H11; iintro H11
  iapply (wp_ld 𝒱₀ (c : Thread nD τ) bd E (m := arg12)) $$ H12; iintro H12
  iapply (wp_ld 𝒱₀ (c : Thread nD τ) bd E (m := arg12)) $$ H12; iintro H12
  iapply (wp_st 𝒱₀ (c : Thread nD τ) bd E (m := arg12)) $$ H12; iintro H12
  rw [wp_ret]; imodintro
  iapply Hk $$ %_ %_ %_ %_ %_ %_ %_ %_ %_ %_ %_ [] H11 H12
  · ipureintro; exact ⟨rfl, rfl, rfl, rfl, rfl, rfl, rfl, rfl, rfl, rfl, rfl⟩

end Cert.Proof.Attn

end
-- ==== Proof.Attn.Model.lean ====
/-
  What the backward attention body computes, as a function of the values it reads: one key block against one query block
  (`Blk`), the pair of heads of a grid point (`pair`), the walk over the earlier key blocks (`walk`) and the whole body
  (`body`). Everything is over any number type, with the operations in the order the program performs them.
-/
module

public import proofs.«01_k».proof.Proof.Attn.Parts

@[expose] public section

noncomputable section

namespace Cert.Proof.Attn

open Cert.AttnGradIdeal Cert.AttnGradIdeal.Gen
open Idealize.ShloMosaic
open Idealize.ShloMosaic.TcCoe Idealize.ShloMosaic.Tactic

variable {F : FTy → Type} [FloatOps F]

/-- One head of a query block: the queries, the gradient of the head's output, both transposed, and the row sums of
    gradient times output. -/
structure Head (F : FTy → Type) where
  q : FVec F S256x128 .bf16
  dO : FVec F S256x128 .bf16
  qT : FVec F S128x256 .bf16
  dOT : FVec F S128x256 .bf16
  delta : FVec F S256x1 .f32

/-- A head from the block's queries, forward output, incoming gradient and gain. -/
def Head.mk' (q : FVec F S256x128 .bf16) (o dy : FVec F S256x128 .f32) (g : FVec F S1x128 .f32) : Head F where
  q := q
  dO := k0_pay19 (k0_pay14 o) (k0_pay15 o) (k0_pay17 dy g) (k0_pay18 o dy g)
  qT := k0_pay29 q
  dOT := k0_pay31 (k0_pay19 (k0_pay14 o) (k0_pay15 o) (k0_pay17 dy g) (k0_pay18 o dy g))
  delta := k0_pay20 (k0_pay13 o) (k0_pay14 o) (k0_pay15 o) (k0_pay17 dy g) (k0_pay18 o dy g)

/-- A block of zeros. -/
abbrev zeroB : FVec F S256x256 .f32 := broadcast S256x256 (Scalar.ofBits .f32 0x00000000#32)

/-- A block of ones. -/
abbrev oneB : FVec F S256x256 .f32 := broadcast S256x256 (Scalar.ofBits .f32 0x3F800000#32)

/-- Sums along the rows of a block, as a product with a matrix of ones, in two addends. -/
def tri (M : FVec F S256x256 .bf16) (x : FVec F S256x256 .f32) : FVec F S256x256 .f32 :=
  addf
    (matmul dot_S256x256_S256x256_S256x256_1_0_0_1_n_n none (truncf .bf16 x bitsLt_bf16_f32) M
      (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) M
      (constant S256x256 .f32 0x00000000#32))

/-- The first column of a block. -/
abbrev col0 (x : FVec F S256x256 .f32) : FVec F S256x1 .f32 :=
  extractStridedSlice S256x1 ![0, 0] x slices_S256x256_o0_0_S256x1

/-- What one key block is met with: the two triangular matrices, the two masks, the head, the keys and values of the
    block, and what the later keys have left: the logarithms kept (`r`) and the weighted gradients (`g`). -/
structure Blk (F : FTy → Type) where
  m4 : FVec F S256x256 .bf16
  m6 : FVec F S256x256 .bf16
  mL : FVec F S256x256 .f32 → FVec F S256x256 .f32
  mA : FVec F S256x256 .f32 → FVec F S256x256 .f32
  h : Head F
  k : FVec F S256x128 .bf16
  v : FVec F S256x128 .bf16
  r : FVec F S256x1 .f32
  g : FVec F S256x1 .f32

namespace Blk

variable (b : Blk F)

/-- The scores. -/
def z : FVec F S256x256 .f32 := k0_pay34 b.h.q b.k
/-- exp(−|z|). -/
def e : FVec F S256x256 .f32 := exp (subf zeroB (absf b.z))
/-- log(1 + exp z). -/
def sp : FVec F S256x256 .f32 := addf (maximumf b.z zeroB) (log (addf oneB b.e))
/-- The logarithm of what a key leaves of the stick. -/
def L : FVec F S256x256 .f32 := b.mL (subf zeroB b.sp)
/-- Sums of `L` over the block's later keys. -/
def S : FVec F S256x256 .f32 := tri b.m4 b.L
/-- The weights. -/
def A : FVec F S256x256 .bf16 :=
  truncf .bf16
    (b.mA (exp (addf (addf (subf b.z b.sp) b.S) (broadcastTo S256x256 b.r broadcasts_S256x1_S256x256))))
    bitsLt_bf16_f32
/-- Weight times its gradient. -/
def G : FVec F S256x256 .f32 :=
  mulf (extf .f32 b.A bitsLt_bf16_f32)
    (matmul dot_S256x128_S256x128_S256x256_1_1_0_0_n_n none b.h.dO b.v (constant S256x256 .f32 0x00000000#32))
/-- Sums of `G` over the block's keys from this one on. -/
def T : FVec F S256x256 .f32 := tri b.m6 b.G
/-- The sigmoid of the scores. -/
def sig : FVec F S256x256 .f32 :=
  select (cmpf .oge b.z zeroB) (divf oneB (addf oneB b.e)) (mulf b.e (divf oneB (addf oneB b.e)))
/-- The gradient of the scores, scaled. -/
def dz : FVec F S256x256 .bf16 :=
  truncf .bf16
    (mulf
      (b.mA (subf b.G
        (mulf
          (addf b.G
            (subf (broadcastTo S256x256 b.h.delta broadcasts_S256x1_S256x256)
              (addf (broadcastTo S256x256 b.g broadcasts_S256x1_S256x256) b.T)))
          b.sig)))
      (broadcast S256x256 (Scalar.ofBits .f32 0x3DB504F3#32)))
    bitsLt_bf16_f32
/-- The block's share of the queries' gradient. -/
def dq : FVec F S256x128 .f32 :=
  matmul dot_S256x256_S256x128_S256x128_1_0_0_1_n_n none b.dz b.k (constant S256x128 .f32 0x00000000#32)
/-- The keys' gradient with the block's share. -/
def dk (X : FVec F S128x256 .f32) : FVec F S128x256 .f32 :=
  addf (shapeCast S128x256 X shapeCasts_S128x256_S128x256)
    (matmul dot_S128x256_S256x256_S128x256_1_0_0_1_n_n none b.h.qT b.dz (constant S128x256 .f32 0x00000000#32))
/-- The values' gradient with the block's share. -/
def dv (X : FVec F S128x256 .f32) : FVec F S128x256 .f32 :=
  addf (shapeCast S128x256 X shapeCasts_S128x256_S128x256)
    (matmul dot_S128x256_S256x256_S128x256_1_0_0_1_n_n none b.h.dOT b.A (constant S128x256 .f32 0x00000000#32))
/-- The logarithms kept, with the block's. -/
def r' : FVec F S256x1 .f32 := addf b.r (addf (col0 b.S) (col0 b.L))
/-- The weighted gradients, with the block's. -/
def g' : FVec F S256x1 .f32 := addf b.g (col0 b.T)

end Blk

/-- What the walk over the key blocks carries. -/
structure Car (F : FTy → Type) [FloatOps F] where
  dq0 : FVec F S256x128 .f32
  dq1 : FVec F S256x128 .f32
  r0 : FVec F S256x1 .f32
  r1 : FVec F S256x1 .f32
  g0 : FVec F S256x1 .f32
  g1 : FVec F S256x1 .f32
  K : Vec F S256x8192 .f32
  V : Vec F S256x8192 .f32

/-- What stays the same during the walk: the triangular matrices, the two heads, all keys and values of the heads. -/
structure Env (F : FTy → Type) [FloatOps F] where
  m4 : FVec F S256x256 .bf16
  m6 : FVec F S256x256 .bf16
  h0 : Head F
  h1 : Head F
  X3 : Vec F S8192x256 .bf16
  X4 : Vec F S8192x256 .bf16

/-- A stretch of 256 rows of one head in the keys and values. -/
abbrev rows (o : Fin 2 → ℕ) (h : ∀ a, o a + S256x128.size a ≤ S8192x256.size a) : Rect S8192x256 :=
  Rect.unit (s := S8192x256) o S256x128.size h

/-- A stretch of 256 columns of one head in the gradients of keys and values. -/
abbrev cols (o : Fin 2 → ℕ) (h : ∀ a, o a + S128x256.size a ≤ S256x8192.size a) : Rect S256x8192 :=
  Rect.unit (s := S256x8192) o S128x256.size h

/-- One key block, for both heads. -/
def pair (mL mA : FVec F S256x256 .f32 → FVec F S256x256 .f32) (n : Env F)
    {o0 o1 : Fin 2 → ℕ} {p0 p1 : Fin 2 → ℕ}
    (ho0 : ∀ a, o0 a + S256x128.size a ≤ S8192x256.size a) (ho1 : ∀ a, o1 a + S256x128.size a ≤ S8192x256.size a)
    (hp0 : ∀ a, p0 a + S128x256.size a ≤ S256x8192.size a) (hp1 : ∀ a, p1 a + S128x256.size a ≤ S256x8192.size a)
    (acc : FVec F S256x128 .f32 → FVec F S256x128 .f32 → FVec F S256x128 .f32) (s : Car F) : Car F :=
  let b0 : Blk F := ⟨n.m4, n.m6, mL, mA, n.h0, ld (rows o0 ho0) n.X3, ld (rows o0 ho0) n.X4, s.r0, s.g0⟩
  let b1 : Blk F := ⟨n.m4, n.m6, mL, mA, n.h1, ld (rows o1 ho1) n.X3, ld (rows o1 ho1) n.X4, s.r1, s.g1⟩
  let K0 := st (cols p0 hp0) s.K (b0.dk (ld (cols p0 hp0) s.K))
  let V0 := st (cols p0 hp0) s.V (b0.dv (ld (cols p0 hp0) s.V))
  { dq0 := acc s.dq0 b0.dq, dq1 := acc s.dq1 b1.dq, r0 := b0.r', r1 := b1.r', g0 := b0.g', g1 := b1.g'
    K := st (cols p1 hp1) K0 (b1.dk (ld (cols p1 hp1) K0))
    V := st (cols p1 hp1) V0 (b1.dv (ld (cols p1 hp1) V0)) }

/-- The largest logarithm kept of either head. -/
def rmax (r0 r1 : FVec F S256x1 .f32) : F .f32 :=
  k0_pay7 (k0_pay134 r0) (k0_pay134 r1)

/-- Whether the walk goes on to block `kb`. -/
abbrev goes [Named F] (kb : BitVec 32) (x : F .f32) : Prop :=
  Scalar.andi (Scalar.cmpi .sge kb 0#32) (Scalar.cmpf .ogt x (Named.named κ "skip" 0xC2D00000#32)) = 1#1

/-- One earlier key block. -/
def trip (n : Env F) (kb : BitVec 32) (h : k0_chk1 kb) (s : Car F) : Car F :=
  pair id id n (k0_off9_inb kb h) (k0_off11_inb kb h) (k0_off10_inb kb h) (k0_off12_inb kb h) addf s

open Classical in
/-- The walk over the earlier key blocks, the nearest first, from block `kb`; `n` bounds the blocks left. -/
def walk [Named F] (n : Env F) : ℕ → BitVec 32 → Car F → BitVec 32 × Car F
  | 0, kb, s => (kb, s)
  | k + 1, kb, s =>
    if goes kb (rmax s.r0 s.r1) then
      if h : k0_chk1 kb then walk n k (Scalar.subi kb 1#32) (trip n kb h s) else (kb, s)
    else (kb, s)

end Cert.Proof.Attn

end
-- ==== Proof.Attn.Whole.lean ====
/-
  The whole body of one grid point, as a function of what its twelve windows read: the block on the diagonal, the block
  before it, then the walk over the earlier blocks.
-/
module

public import proofs.«01_k».proof.Proof.Attn.Model

@[expose] public section

noncomputable section

namespace Cert.Proof.Attn

open Cert.AttnGradIdeal Cert.AttnGradIdeal.Gen
open Idealize.ShloMosaic
open Idealize.ShloMosaic.TcCoe Idealize.ShloMosaic.Tactic

variable {F : FTy → Type} [FloatOps F]

/-- The first and the second head's columns of a query block. -/
abbrev lo : Rect S256x256 := Rect.unit (s := S256x256) ![0, 0] S256x128.size inb_S256x256_S256x128_0_0
abbrev hi : Rect S256x256 := Rect.unit (s := S256x256) ![0, 128] S256x128.size inb_S256x256_S256x128_0_128
/-- A whole mask. -/
abbrev all : Rect S256x256 := Rect.unit (s := S256x256) ![0, 0] S256x256.size inb_S256x256_S256x256_0_0
/-- The first and the second head's columns of a row, and the whole row. -/
abbrev rlo : Rect S1x256 := Rect.unit (s := S1x256) ![0, 0] S1x128.size inb_S1x256_S1x128_0_0
abbrev rhi : Rect S1x256 := Rect.unit (s := S1x256) ![0, 128] S1x128.size inb_S1x256_S1x128_0_128
abbrev rall : Rect S1x256 := Rect.unit (s := S1x256) ![0, 0] S1x256.size inb_S1x256_S1x256_0_0
/-- All of a pair's gradients of keys or values. -/
abbrev call : Rect S256x8192 := Rect.unit (s := S256x8192) ![0, 0] S256x8192.size inb_S256x8192_S256x8192_0_0

/-- What the body reads: queries, keys, values, forward output, incoming gradient, gain, the two masks. -/
structure In (F : FTy → Type) [FloatOps F] where
  X2 : Vec F S256x256 .bf16
  X3 : Vec F S8192x256 .bf16
  X4 : Vec F S8192x256 .bf16
  X5 : Vec F S256x256 .f32
  X6 : Vec F S256x256 .f32
  X7 : Vec F S1x256 .f32
  X8 : Vec F S256x256 .bf16
  X9 : Vec F S256x256 .bf16

/-- What does not change during the walk. -/
def In.env (x : In F) : Env F where
  m4 := k0_pay11 (ld all x.X8)
  m6 := k0_pay12 (ld all x.X9)
  h0 := Head.mk' (ld lo x.X2) (ld lo x.X5) (ld lo x.X6) (ld rlo x.X7)
  h1 := Head.mk' (ld hi x.X2) (ld hi x.X5) (ld hi x.X6) (ld rhi x.X7)
  X3 := x.X3
  X4 := x.X4

/-- The mask of the block on the diagonal: only the strictly earlier keys. -/
def mDiag (x : FVec F S256x256 .f32) : FVec F S256x256 .f32 := select k0_pay37 x zeroB

/-- The mask of the block before: nothing at the first query block. -/
def mPrev (i : grid0.Coords) (x : FVec F S256x256 .f32) : FVec F S256x256 .f32 :=
  Scalar.select (Scalar.cmpi .sgt (BitVec.ofNat 32 (i 1).val) 0#32) x zeroB

/-- What the walk starts from. -/
def car0 (i : grid0.Coords) (K V : Vec F S256x8192 .f32) : Car F where
  dq0 := constant S256x128 .f32 0x00000000#32
  dq1 := constant S256x128 .f32 0x00000000#32
  r0 := k0_pay33
  r1 := k0_pay33
  g0 := k0_pay33
  g1 := k0_pay33
  K := start i call K (k0_pay8 (F := F))
  V := start i call V (k0_pay9 (F := F))

/-- After the block on the diagonal. -/
def car1 (i : grid0.Coords) (x : In F) (K V : Vec F S256x8192 .f32) : Car F :=
  pair mDiag mDiag x.env (k0_off1_inb i) (k0_off3_inb i) (k0_off2_inb i) (k0_off4_inb i) (fun _ b => b) (car0 i K V)

/-- After the block before. -/
def car2 (i : grid0.Coords) (x : In F) (K V : Vec F S256x8192 .f32) : Car F :=
  pair id (mPrev i) x.env (k0_off5_inb i) (k0_off7_inb i) (k0_off6_inb i) (k0_off8_inb i) addf (car1 i x K V)

/-- After the walk. -/
def car3 [Named F] (i : grid0.Coords) (x : In F) (K V : Vec F S256x8192 .f32) : Car F :=
  (walk x.env 32 (Scalar.subi (BitVec.ofNat 32 (i 1).val) 2#32) (car2 i x K V)).2

/-- The block of the queries' gradient. -/
def outQ [Named F] (i : grid0.Coords) (x : In F) (Q : Vec F S256x256 .f32) (K V : Vec F S256x8192 .f32) : Vec F S256x256 .f32 :=
  st hi (st lo Q (car3 i x K V).dq0) (car3 i x K V).dq1

/-- The gain's gradient with the point's first head added. -/
def gain0 (i : grid0.Coords) (x : In F) (D : Vec F S1x256 .f32) : Vec F S1x256 .f32 :=
  st rlo (start i rall D (k0_pay10 (F := F)))
    (k0_pay16 (ld lo x.X5) (ld lo x.X6) (ld rlo (start i rall D (k0_pay10 (F := F)))))

/-- The gain's gradient with both heads added. -/
def outD (i : grid0.Coords) (x : In F) (D : Vec F S1x256 .f32) : Vec F S1x256 .f32 :=
  st rhi (gain0 i x D) (k0_pay16 (ld hi x.X5) (ld hi x.X6) (ld rhi (gain0 i x D)))

end Cert.Proof.Attn

end
-- ==== Proof.Attn.Block.lean ====
/-
  One key block against one query block, over the extended reals and from real operands: every value it computes is the
  corresponding real number of the head (`HR`).
-/
module

public import proofs.«01_k».proof.Proof.Attn.Real
public import proofs.«01_k».proof.Proof.Attn.Whole
public import Idealize.ShloMosaic.Lib.Pointwise

@[expose] public section

noncomputable section

open Idealize.ShloMosaic
open Idealize.ShloMosaic.TcCoe

namespace Cert.Proof.Attn

open Cert.AttnGradIdeal Cert.AttnGradIdeal.Gen

theorem sp_coe (u : ℝ) :
    max (u : EReal) 0 + Ideal.log (1 + Ideal.exp (0 - FloatOps.absf (F := Ideal) (φ := .f32) (u : EReal))) = (softplus u : EReal) := by
  have e : Ideal.exp (0 - FloatOps.absf (F := Ideal) (φ := .f32) (u : EReal)) = ((Real.exp (-|u|) : ℝ) : EReal) := ea_coe u
  have h : ¬ (1 + Real.exp (-|u|) ≤ 0) := by have := Real.exp_pos (-|u|); linarith
  rw [e, show (1 : EReal) = ((1 : ℝ) : EReal) from rfl, ← EReal.coe_add, Ideal.log_coe, if_neg h,
    show (0 : EReal) = ((0 : ℝ) : EReal) from rfl, ← EReal.coe_strictMono.monotone.map_max, ← EReal.coe_add]
  rfl

theorem logi_coe (u : ℝ) :
    (if (0 : EReal) ≤ (u : EReal) then Ideal.div 1 (1 + Ideal.exp (0 - FloatOps.absf (F := Ideal) (φ := .f32) (u : EReal)))
      else Ideal.exp (0 - FloatOps.absf (F := Ideal) (φ := .f32) (u : EReal)) *
        Ideal.div 1 (1 + Ideal.exp (0 - FloatOps.absf (F := Ideal) (φ := .f32) (u : EReal)))) = (logi u : EReal) := by
  rw [logi, ← sg_coe, ← sg_pos]; rfl

/-- A block's operands are the head's rows from `t0` and keys from `s0`; the masks keep the strictly earlier keys; what
    the block is handed of the later keys is their sums. -/
structure BlkOf (b : Blk Ideal) (x : HR) (t0 s0 : ℕ) : Prop where
  hN : s0 + 256 ≤ N
  hL : ∀ X (i j : Fin 256), b.mL X (ix2 i j) = if s0 + j.val < t0 + i.val then X (ix2 i j) else 0
  hA : ∀ X (i j : Fin 256), b.mA X (ix2 i j) = if s0 + j.val < t0 + i.val then X (ix2 i j) else 0
  m4 : ∀ a j : Fin 256, b.m4 (ix2 a j) = ((if j.val + 1 ≤ a.val then 1 else 0 : ℝ) : EReal)
  m6 : ∀ a j : Fin 256, b.m6 (ix2 a j) = ((if j.val ≤ a.val then 1 else 0 : ℝ) : EReal)
  q : ∀ (i : Fin 256) (d : Fin 128), b.h.q (ix2 i d) = (x.q (t0 + i) d : EReal)
  dO : ∀ (i : Fin 256) (d : Fin 128), b.h.dO (ix2 i d) = (x.dO (t0 + i) d : EReal)
  qT : ∀ (d : Fin 128) (i : Fin 256), b.h.qT (ix2 d i) = (x.q (t0 + i) d : EReal)
  dOT : ∀ (d : Fin 128) (i : Fin 256), b.h.dOT (ix2 d i) = (x.dO (t0 + i) d : EReal)
  delta : ∀ i : Fin 256, b.h.delta (ix2 i 0) = (x.delta (t0 + i) : EReal)
  k : ∀ (j : Fin 256) (d : Fin 128), b.k (ix2 j d) = (x.k (s0 + j) d : EReal)
  v : ∀ (j : Fin 256) (d : Fin 128), b.v (ix2 j d) = (x.v (s0 + j) d : EReal)
  r : ∀ i : Fin 256, b.r (ix2 i 0) = ((∑ u ∈ Finset.Ico (s0 + 256) N, x.L (t0 + i) u : ℝ) : EReal)
  g : ∀ i : Fin 256, b.g (ix2 i 0) = ((∑ u ∈ Finset.Ico (s0 + 256) N, x.G (t0 + i) u : ℝ) : EReal)

namespace BlkOf

variable {b : Blk Ideal} {x : HR} {t0 s0 : ℕ} (h : BlkOf b x t0 s0)
include h

theorem z (i j : Fin 256) : b.z (ix2 i j) = (x.z (t0 + i) (s0 + j) : EReal) := by
  pointwise [Blk.z, k0_pay34]
  simp only [h.q, h.k]
  rw [show Ideal.ofBits FTy.f32 1035273459#32 = (scale : EReal) from scale_coe]
  simp only [← EReal.coe_mul, ← coe_sum]
  rfl

theorem sp (i j : Fin 256) : b.sp (ix2 i j) = (softplus (x.z (t0 + i) (s0 + j)) : EReal) := by
  rw [← sp_coe, ← h.z]
  unfold Blk.sp Blk.e
  generalize b.z = z
  pointwise []

theorem L (i j : Fin 256) : b.L (ix2 i j) = (x.L (t0 + i) (s0 + j) : EReal) := by
  unfold Blk.L
  rw [h.hL, HR.L]
  split
  · pointwise []
    rw [h.sp, show (0 : EReal) = ((0 : ℝ) : EReal) from rfl, ← EReal.coe_sub, zero_sub]
  · rfl

theorem S (i j : Fin 256) : b.S (ix2 i j) = ((∑ u ∈ Finset.Ico (s0 + (j + 1)) (s0 + 256), x.L (t0 + i) u : ℝ) : EReal) := by
  unfold Blk.S tri
  pointwise []
  simp only [h.L, h.m4, ← EReal.coe_sub, ← EReal.coe_mul, ← coe_sum, ← EReal.coe_add, sub_self, zero_mul, Finset.sum_const_zero, add_zero]
  rw [sum_fin_ge (fun u => x.L (t0 + i) u) s0 256 (j.val + 1) (by omega)]

theorem A (i j : Fin 256) : b.A (ix2 i j) = (x.A (t0 + i) (s0 + j) : EReal) := by
  have hA : b.A (ix2 i j) = b.mA (exp (addf (addf (subf b.z b.sp) b.S) (broadcastTo S256x256 b.r broadcasts_S256x1_S256x256))) (ix2 i j) := by
    unfold Blk.A
    pointwise []
  rw [hA, h.hA, HR.A]
  split
  · pointwise []
    rw [h.z, h.sp, h.S, h.r]
    simp only [← EReal.coe_sub, ← EReal.coe_add, Ideal.exp_coe]
    rw [HR.R, sum_block _ (s0 + ↑j + 1) (s0 + 256) N h.hN (by omega)]
    congr 2
    ring_nf
  · rfl

theorem G (i j : Fin 256) : b.G (ix2 i j) = (x.G (t0 + i) (s0 + j) : EReal) := by
  unfold Blk.G
  pointwise []
  simp only [h.A, h.dO, h.v, ← EReal.coe_mul, ← coe_sum]
  rfl

theorem T (i j : Fin 256) : b.T (ix2 i j) = ((∑ u ∈ Finset.Ico (s0 + j) (s0 + 256), x.G (t0 + i) u : ℝ) : EReal) := by
  unfold Blk.T tri
  pointwise []
  simp only [h.G, h.m6, ← EReal.coe_sub, ← EReal.coe_mul, ← coe_sum, ← EReal.coe_add, sub_self, zero_mul, Finset.sum_const_zero, add_zero]
  rw [sum_fin_ge (fun u => x.G (t0 + i) u) s0 256 j.val (by omega)]

theorem sig (i j : Fin 256) : b.sig (ix2 i j) = (logi (x.z (t0 + i) (s0 + j)) : EReal) := by
  rw [← logi_coe, ← h.z]
  unfold Blk.sig Blk.e
  generalize b.z = z
  pointwise []

theorem dz (i j : Fin 256) : b.dz (ix2 i j) = (x.dz (t0 + i) (s0 + j) : EReal) := by
  unfold Blk.dz
  pointwise []
  rw [h.hA, HR.dz, show Ideal.ofBits FTy.f32 1035273459#32 = (scale : EReal) from scale_coe]
  split
  · pointwise []
    rw [h.G, h.T, h.sig, h.delta, h.g]
    simp only [← EReal.coe_sub, ← EReal.coe_add, ← EReal.coe_mul]
    rw [← x.delta_sub (t0 + i) (s0 + j) (by have := h.hN; omega), sum_block _ (s0 + ↑j) (s0 + 256) N h.hN (by omega)]
    congr 2
    ring
  · rw [zero_mul]; rfl

theorem dq (i : Fin 256) (d : Fin 128) :
    b.dq (ix2 i d) = ((∑ u ∈ Finset.Ico s0 (s0 + 256), x.dz (t0 + i) u * x.k u d : ℝ) : EReal) := by
  unfold Blk.dq
  pointwise []
  simp only [h.dz, h.k, ← EReal.coe_mul, ← coe_sum]
  rw [sum_fin_block (fun u => x.dz (t0 + i) u * x.k u d) s0 256]

theorem dk (X : FVec Ideal S128x256 .f32) (d : Fin 128) (j : Fin 256) :
    b.dk X (ix2 d j) = X (ix2 d j) + ((∑ u ∈ Finset.Ico t0 (t0 + 256), x.q u d * x.dz u (s0 + j) : ℝ) : EReal) := by
  unfold Blk.dk
  pointwise []
  simp only [h.dz, h.qT, ← EReal.coe_mul, ← coe_sum]
  rw [sum_fin_block (fun u => x.q u d * x.dz u (s0 + j)) t0 256]

theorem dv (X : FVec Ideal S128x256 .f32) (d : Fin 128) (j : Fin 256) :
    b.dv X (ix2 d j) = X (ix2 d j) + ((∑ u ∈ Finset.Ico t0 (t0 + 256), x.dO u d * x.A u (s0 + j) : ℝ) : EReal) := by
  unfold Blk.dv
  pointwise []
  simp only [h.A, h.dOT, ← EReal.coe_mul, ← coe_sum]
  rw [sum_fin_block (fun u => x.dO u d * x.A u (s0 + j)) t0 256]

theorem r' (i : Fin 256) : b.r' (ix2 i 0) = ((∑ u ∈ Finset.Ico s0 N, x.L (t0 + i) u : ℝ) : EReal) := by
  unfold Blk.r'
  pointwise []
  rw [h.r, h.S, h.L]
  simp only [← EReal.coe_add]
  congr 1
  rw [sum_block _ s0 (s0 + 256) N h.hN (by omega), Finset.sum_eq_sum_Ico_succ_bot (show s0 < s0 + 256 by omega)]
  simp only [Fin.val_zero, zero_add, add_zero]
  ring

theorem g' (i : Fin 256) : b.g' (ix2 i 0) = ((∑ u ∈ Finset.Ico s0 N, x.G (t0 + i) u : ℝ) : EReal) := by
  unfold Blk.g'
  pointwise []
  rw [h.g, h.T]
  simp only [← EReal.coe_add]
  congr 1
  rw [sum_block _ s0 (s0 + 256) N h.hN (by omega)]
  simp only [Fin.val_zero, add_zero]
  ring

end BlkOf

end Cert.Proof.Attn

end
-- ==== Proof.Attn.Loop.lean ====
/-
  The walk over the earlier key blocks: the loop's label, entered at block `kb`, returns what `walk` says and leaves the
  gradients of keys and values as `walk` leaves them.
-/
module

public import proofs.«01_k».proof.Proof.Attn.Model

@[expose] public section

noncomputable section

namespace Cert.Proof.Attn

open Cert.AttnGradIdeal Cert.AttnGradIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem chk_fin : ∀ j : Fin 32, k0_chk1 (BitVec.ofNat 32 j.val) := by decide +kernel

/-- A block number at or above zero and below the number of blocks is a word of a natural number. -/
theorem word_of {kb : BitVec 32} (h0 : 0 ≤ kb.toInt) (h1 : kb.toInt < 32) : ∃ j : Fin 32, kb = BitVec.ofNat 32 j.val := by
  have h : kb.toInt = (kb.toNat : ℤ) := by
    have := kb.isLt
    rw [BitVec.toInt_eq_toNat_cond] at h0 h1 ⊢
    split_ifs at h0 h1 ⊢ <;> omega
  have hlt : kb.toNat < 32 := by omega
  refine ⟨⟨kb.toNat, hlt⟩, ?_⟩
  apply BitVec.eq_of_toNat_eq
  simp

/-- The blocks of the walk lie inside the arrays. -/
theorem chk_of {kb : BitVec 32} (h0 : 0 ≤ kb.toInt) (h1 : kb.toInt < 32) : k0_chk1 kb := by
  obtain ⟨j, rfl⟩ := word_of h0 h1
  exact chk_fin j

/-- The walk goes on only from a block number at or above zero. -/
theorem goes_nonneg {kb : BitVec 32} {x : F .f32} (h : goes kb x) : 0 ≤ kb.toInt := by
  unfold goes at h
  have h1 : Scalar.cmpi .sge kb 0#32 = 1#1 := by
    revert h
    generalize Scalar.cmpi .sge kb 0#32 = a
    generalize Scalar.cmpf .ogt x (Named.named κ "skip" 0xC2D00000#32) = b
    revert a b
    decide
  by_contra hn
  have hs : (0#32).sle kb = false := by
    rw [BitVec.sle_eq_decide]
    simpa using hn
  have h2 : Scalar.cmpi .sge kb 0#32 = 0#1 := by
    show BitVec.ofBool ((0#32).sle kb) = 0#1
    rw [hs]; rfl
  rw [h2] at h1
  exact absurd h1 (by decide)

/-- The block before. -/
theorem toInt_prev {kb : BitVec 32} (h0 : 0 ≤ kb.toInt) (h1 : kb.toInt < 32) :
    (Scalar.subi kb 1#32).toInt = kb.toInt - 1 := by
  obtain ⟨j, rfl⟩ := word_of h0 h1
  revert j
  decide

variable (c : Dev nD)
variable (arg3 : Memref sig .tc .vmem S8192x256 .bf16) (harg3 : arg3.IsWhole)
variable (arg4 : Memref sig .tc .vmem S8192x256 .bf16) (harg4 : arg4.IsWhole)
variable (arg11 : Memref sig .tc .vmem S256x8192 .f32) (harg11 : arg11.IsWhole)
variable (arg12 : Memref sig .tc .vmem S256x8192 .f32) (harg12 : arg12.IsWhole)

/-- What the walk returns, as the loop's values. -/
def ret (r : BitVec 32 × Car F) : BitVec 32 × FVec F S256x128 .f32 × FVec F S256x128 .f32 × FVec F S256x1 .f32 × FVec F S256x1 .f32 × FVec F S256x1 .f32 × FVec F S256x1 .f32 × F .f32 :=
  (r.1, r.2.dq0, r.2.dq1, r.2.r0, r.2.r1, r.2.g0, r.2.g1, rmax r.2.r0 r.2.r1)

/-- The four buffers of the walk. -/
def held (X3 X4 : Vec F S8192x256 .bf16) (K V : Vec F S256x8192 .f32) : sProp 𝕄 :=
  iprop(own c arg3 X3 ∗ own c arg4 X4 ∗ own c arg11 K ∗ own c arg12 V)

/-- The label's specification at `k` trips allowed. -/
def spec (n : Env F) (k : ℕ) (kb : BitVec 32) (s : Car F) :
    sWPT 𝕄 (BitVec 32 × FVec F S256x128 .f32 × FVec F S256x128 .f32 × FVec F S256x1 .f32 × FVec F S256x1 .f32 × FVec F S256x1 .f32 × FVec F S256x1 .f32 × F .f32) := do
  sWPT.consume (held c arg3 arg4 arg11 arg12 n.X3 n.X4 s.K s.V)
  sWPT.produce (held c arg3 arg4 arg11 arg12 n.X3 n.X4 (walk n k kb s).2.K (walk n k kb s).2.V)
  pure (ret (walk n k kb s))

theorem spec_apply (n : Env F) (k : ℕ) (kb : BitVec 32) (s : Car F) (Q) :
    spec c arg3 arg4 arg11 arg12 n k kb s Q
      = iprop(held c arg3 arg4 arg11 arg12 n.X3 n.X4 s.K s.V ∗
          (held c arg3 arg4 arg11 arg12 n.X3 n.X4 (walk n k kb s).2.K (walk n k kb s).2.V -∗ Q (ret (walk n k kb s)))) := rfl

set_option maxHeartbeats 4000000 in
/-- The loop's body meets the specification, by induction on the trips allowed. -/
theorem spec_le (i : grid0.Coords) (E : Set ℕ) (n : Env F) :
    ∀ (k : ℕ) (kb : BitVec 32), kb.toInt < k → kb.toInt < 32 → ∀ (s : Car F) Q,
      spec c arg3 arg4 arg11 arg12 n k kb s Q
        ⊢ wp frame (wpE (defs₀ (F := F)) 𝒱₀ (c : Thread nD τ) (some k)) E
            (defs₀ (F := F) .tc 1 ⟨i, arg3, harg3, arg4, harg4, n.h0.q, n.m4, n.h0.dO, n.m6, n.h0.delta, arg11, harg11, n.h0.qT,
              arg12, harg12, n.h0.dOT, n.h1.q, n.h1.dO, n.h1.delta, n.h1.qT, n.h1.dOT,
              kb, s.dq0, s.dq1, s.r0, s.r1, s.g0, s.g1, rmax s.r0 s.r1⟩) Q := by
  intro k
  induction k with
  | zero =>
    intro kb hk hb s Q
    rw [spec_apply]
    show _ ⊢ wp frame (wpE (defs₀ (F := F)) 𝒱₀ (c : Thread nD τ) (some 0)) E
      (cc0_while1 i arg3 harg3 arg4 harg4 n.h0.q n.m4 n.h0.dO n.m6 n.h0.delta arg11 harg11 n.h0.qT
              arg12 harg12 n.h0.dOT n.h1.q n.h1.dO n.h1.delta n.h1.qT n.h1.dOT
              kb s.dq0 s.dq1 s.r0 s.r1 s.g0 s.g1 (rmax s.r0 s.r1)) Q
    simp only [cc0_while1_eq_skeleton]; unfold cc0_while1_skel
    have htest : ¬ goes (F := F) kb (rmax s.r0 s.r1) := fun h => by
      have := goes_nonneg h
      simp at hk
      omega
    dsimp only
    rw [if_neg htest, Prog.pure_eq_ret, show walk n 0 kb s = (kb, s) by rw [walk]]
    dsimp only [ret]
    iintro ⟨H, Hk⟩
    rw [wp_ret]; imodintro
    iapply Hk
    iexact H
  | succ k ih =>
    intro kb hk hb s Q
    rw [spec_apply]
    show _ ⊢ wp frame (wpE (defs₀ (F := F)) 𝒱₀ (c : Thread nD τ) (some (k + 1))) E
      (cc0_while1 i arg3 harg3 arg4 harg4 n.h0.q n.m4 n.h0.dO n.m6 n.h0.delta arg11 harg11 n.h0.qT
              arg12 harg12 n.h0.dOT n.h1.q n.h1.dO n.h1.delta n.h1.qT n.h1.dOT
              kb s.dq0 s.dq1 s.r0 s.r1 s.g0 s.g1 (rmax s.r0 s.r1)) Q
    simp only [cc0_while1_eq_skeleton]; unfold cc0_while1_skel
    dsimp only
    by_cases htest : goes kb (rmax s.r0 s.r1)
    · have h0 := goes_nonneg htest
      have hw := chk_of h0 hb
      have hwalk : walk n (k + 1) kb s = walk n k (Scalar.subi kb 1#32) (trip n kb hw s) := by
        rw [walk, if_pos htest, dif_pos hw]
      rw [hwalk, if_pos htest]
      unfold held
      iintro ⟨⟨H3, H4, H11, H12⟩, Hk⟩
      rw [wp_bind]
      iapply (part11_wp c (some (k + 1)) E i arg3 harg3 arg4 harg4 arg11 harg11 arg12 harg12 n.h0.q n.m4 n.h0.dO n.m6 n.h0.delta n.h0.qT n.h0.dOT n.h1.q n.h1.dO n.h1.delta n.h1.qT n.h1.dOT kb s.dq0 s.dq1 s.r0 s.r1 s.g0 s.g1 (rmax s.r0 s.r1) hw n.X3 n.X4) $$ H3 H4
      iintro %v462 %v463 %v465 %v467 %v470 %v474 %v482 %v491 %v497 %v500 %v504 %v505 %h11 H3 H4
      dsimp only
      rw [wp_bind]
      iapply (part12_wp c (some (k + 1)) E i arg3 harg3 arg4 harg4 arg11 harg11 arg12 harg12 n.h0.q n.m4 n.h0.dO n.m6 n.h0.delta n.h0.qT n.h0.dOT n.h1.q n.h1.dO n.h1.delta n.h1.qT n.h1.dOT kb s.dq0 s.dq1 s.r0 s.r1 s.g0 s.g1 (rmax s.r0 s.r1) hw v463 v465 v470 v474 v482 v491 v497 v500 v504 v505 s.K s.V n.X3) $$ H11 H12 H3
      iintro %v530 %v535 %v537 %v542 %v550 %v528 %v546 %v548 %h12 H11 H12 H3
      dsimp only
      rw [wp_bind]
      iapply (part13_wp c (some (k + 1)) E i arg3 harg3 arg4 harg4 arg11 harg11 arg12 harg12 n.h0.q n.m4 n.h0.dO n.m6 n.h0.delta n.h0.qT n.h0.dOT n.h1.q n.h1.dO n.h1.delta n.h1.qT n.h1.dOT kb s.dq0 s.dq1 s.r0 s.r1 s.g0 s.g1 (rmax s.r0 s.r1) hw v550 n.X4) $$ H4
      iintro %v552 %v555 %v559 %v567 %v576 %v582 %v585 %v594 %v598 %v599 %h13 H4
      dsimp only
      rw [wp_bind]
      iapply (part14_wp c (some (k + 1)) E i arg3 harg3 arg4 harg4 arg11 harg11 arg12 harg12 n.h0.q n.m4 n.h0.dO n.m6 n.h0.delta n.h0.qT n.h0.dOT n.h1.q n.h1.dO n.h1.delta n.h1.qT n.h1.dOT kb s.dq0 s.dq1 s.r0 s.r1 s.g0 s.g1 (rmax s.r0 s.r1) hw v463 v528 v546 v550 v555 v559 v567 v576 v582 v585 v594 v598 v599 _ _) $$ H11 H12
      iintro %v615 %v620 %v622 %v627 %v634 %v631 %v633 %v635 %v636 %v640 %v644 %h14 H11 H12
      dsimp only
      obtain ⟨h462, h463, h465, h467, h470, h474, h482, h491, h497, h500, h504, h505⟩ := h11
      obtain ⟨h530, h535, h537, h542, h550, h528, h546, h548⟩ := h12
      obtain ⟨h552, h555, h559, h567, h576, h582, h585, h594, h598, h599⟩ := h13
      obtain ⟨h615, h620, h622, h627, h634, h631, h633, h635, h636, h640, h644⟩ := h14
      subst h462 h463 h465 h467 h470 h474 h482 h491 h497 h500 h504 h505 h530 h535 h537 h542 h550 h528 h552 h555 h559 h567 h576 h582 h585 h594 h598 h599 h615 h620 h622 h627
      have e546 : v546 = (trip n kb hw s).r0 := h546.trans rfl
      have e548 : v548 = (trip n kb hw s).g0 := h548.trans rfl
      have e631 : v631 = (trip n kb hw s).r1 := h631.trans rfl
      have e633 : v633 = (trip n kb hw s).g1 := h633.trans rfl
      have e635 : v635 = (trip n kb hw s).dq0 := h635.trans rfl
      have e636 : v636 = (trip n kb hw s).dq1 := h636.trans rfl
      have e7 : k0_pay7 v640 v644 = rmax (trip n kb hw s).r0 (trip n kb hw s).r1 := by
        rw [h640, h644, e546]; rfl
      rw [e7]
      clear h546 h548 h631 h633 h635 h636 h640 h644
      subst e546 e548 e631 e633 e635 e636 h634
      have hp := toInt_prev h0 hb
      iapply (wp_call_spec 𝒱₀ (c : Thread nD τ) (some (k + 1)) E (spec c arg3 arg4 arg11 arg12 n k (Scalar.subi kb 1#32) (trip n kb hw s)) k
        (fun u hu => by cases hu; exact Nat.lt_succ_self k)
        (ih (Scalar.subi kb 1#32) (by push_cast at hk; omega) (by omega) (trip n kb hw s)))
      rw [spec_apply]; unfold held
      isplitl [H3 H4 H11 H12]
      · isplitl [H3]; · iexact H3
        isplitl [H4]; · iexact H4
        isplitl [H11]; · iexact H11
        iexact H12
      iintro H
      rw [wp_ret]; imodintro
      iapply Hk
      iexact H
    · have hwalk : walk n (k + 1) kb s = (kb, s) := by
        rw [walk, if_neg htest]
      rw [hwalk, if_neg htest, Prog.pure_eq_ret]
      dsimp only [ret]
      iintro ⟨H, Hk⟩
      rw [wp_ret]; imodintro
      iapply Hk
      iexact H

end Cert.Proof.Attn

end
-- ==== Proof.Attn.Body.lean ====
/-
  The body of one grid point meets its function: holding the twelve windows' buffers it returns them with the four
  gradients as `Whole` gives them.
-/
module

public import proofs.«01_k».proof.Proof.Attn.Whole
public import proofs.«01_k».proof.Proof.Attn.Loop

@[expose] public section

noncomputable section

namespace Cert.Proof.Attn

open Cert.AttnGradIdeal Cert.AttnGradIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The walk starts below the number of blocks. -/
theorem first_lt : ∀ j : Fin 32, (Scalar.subi (BitVec.ofNat 32 j.val) 2#32).toInt < 32 := by decide

variable (c : Dev nD) (E : Set ℕ) (i : grid0.Coords)
variable (arg2 : Memref sig .tc .vmem S256x256 .bf16) (harg2 : arg2.IsWhole)
variable (arg3 : Memref sig .tc .vmem S8192x256 .bf16) (harg3 : arg3.IsWhole)
variable (arg4 : Memref sig .tc .vmem S8192x256 .bf16) (harg4 : arg4.IsWhole)
variable (arg5 : Memref sig .tc .vmem S256x256 .f32) (harg5 : arg5.IsWhole)
variable (arg6 : Memref sig .tc .vmem S256x256 .f32) (harg6 : arg6.IsWhole)
variable (arg7 : Memref sig .tc .vmem S1x256 .f32) (harg7 : arg7.IsWhole)
variable (arg8 : Memref sig .tc .vmem S256x256 .bf16) (harg8 : arg8.IsWhole)
variable (arg9 : Memref sig .tc .vmem S256x256 .bf16) (harg9 : arg9.IsWhole)
variable (arg10 : Memref sig .tc .vmem S256x256 .f32) (harg10 : arg10.IsWhole)
variable (arg11 : Memref sig .tc .vmem S256x8192 .f32) (harg11 : arg11.IsWhole)
variable (arg12 : Memref sig .tc .vmem S256x8192 .f32) (harg12 : arg12.IsWhole)
variable (arg13 : Memref sig .tc .vmem S1x256 .f32) (harg13 : arg13.IsWhole)

set_option maxHeartbeats 8000000 in
/-- The body of a grid point. -/
theorem body_wp (x : In F) (Q0 : Vec F S256x256 .f32) (K0 V0 : Vec F S256x8192 .f32) (D0 : Vec F S1x256 .f32) {Q} :
    (own c arg2 x.X2 : sProp 𝕄) ⊢ iprop(
      own c arg3 x.X3 -∗ own c arg4 x.X4 -∗ own c arg5 x.X5 -∗ own c arg6 x.X6 -∗ own c arg7 x.X7 -∗
      own c arg8 x.X8 -∗ own c arg9 x.X9 -∗ own c arg10 Q0 -∗ own c arg11 K0 -∗ own c arg12 V0 -∗ own c arg13 D0 -∗
      (own c arg2 x.X2 -∗ own c arg3 x.X3 -∗ own c arg4 x.X4 -∗ own c arg5 x.X5 -∗ own c arg6 x.X6 -∗ own c arg7 x.X7 -∗
        own c arg8 x.X8 -∗ own c arg9 x.X9 -∗ own c arg10 (outQ i x Q0 K0 V0) -∗ own c arg11 (car3 i x K0 V0).K -∗
        own c arg12 (car3 i x K0 V0).V -∗ own c arg13 (outD i x D0) -∗ Q ⟨⟩)
      -∗ wp frame (wpE (defs₀ (F := F)) 𝒱₀ (c : Thread nD τ) none) E (cc0_sb_bwd i arg2 harg2 arg3 harg3 arg4 harg4 arg5 harg5 arg6 harg6 arg7 harg7 arg8 harg8 arg9 harg9 arg10 harg10 arg11 harg11 arg12 harg12 arg13 harg13) Q) := by
  simp only [cc0_sb_bwd_eq_skeleton]; unfold cc0_sb_bwd_skel
  iintro H2 H3 H4 H5 H6 H7 H8 H9 H10 H11 H12 H13 Hk
  rw [wp_bind]
  iapply (part1_wp c none E i arg2 harg2 arg3 harg3 arg4 harg4 arg5 harg5 arg6 harg6 arg7 harg7 arg8 harg8 arg9 harg9 arg10 harg10 arg11 harg11 arg12 harg12 arg13 harg13 _ _ _ _ _ _ _ _ _) $$ H8 H9 H2 H5 H6 H13 H7 H11 H12
  iintro %arg1 %v3 %v5 %v7 %v8 %v10 %v21 %v27 %v28 %v4 %v6 %v9 %v18 %v20 %v30 %v32 %h1 H8 H9 H2 H5 H6 H13 H7 H11 H12
  dsimp only
  rw [wp_bind]
  iapply (part2_wp c none E i arg2 harg2 arg3 harg3 arg4 harg4 arg5 harg5 arg6 harg6 arg7 harg7 arg8 harg8 arg9 harg9 arg10 harg10 arg11 harg11 arg12 harg12 arg13 harg13 v9 v18 v20 v30 v32 _ _ _ _ _) $$ H2 H5 H6 H13 H7
  iintro %v46 %v47 %v49 %v60 %v66 %v67 %v41 %v45 %v48 %v57 %v59 %v69 %v72 %h2 H2 H5 H6 H13 H7
  dsimp only
  rw [wp_bind]
  iapply (part3_wp c none E i arg2 harg2 arg3 harg3 arg4 harg4 arg5 harg5 arg6 harg6 arg7 harg7 arg8 harg8 arg9 harg9 arg10 harg10 arg11 harg11 arg12 harg12 arg13 harg13 arg1 v7 v41 v46 v48 v57 v59 v69 v72 _ _) $$ H3 H4
  iintro %v90 %v91 %v93 %v95 %cst_50 %v80 %v84 %v85 %v86 %v87 %v88 %v89 %v98 %v102 %v108 %v111 %v115 %v116 %v118 %h3 H3 H4
  dsimp only
  rw [wp_bind]
  iapply (part4_wp c none E i arg2 harg2 arg3 harg3 arg4 harg4 arg5 harg5 arg6 harg6 arg7 harg7 arg8 harg8 arg9 harg9 arg10 harg10 arg11 harg11 arg12 harg12 arg13 harg13 v4 v6 v41 v45 v85 v89 v91 v93 v95 v98 v102 v108 v111 v116 v118 cst_50 _) $$ H11
  iintro %v163 %v122 %v130 %v140 %v161 %v164 %v165 %h4 H11
  dsimp only
  rw [wp_bind]
  iapply (part5_wp c none E i arg2 harg2 arg3 harg3 arg4 harg4 arg5 harg5 arg6 harg6 arg7 harg7 arg8 harg8 arg9 harg9 arg10 harg10 arg11 harg11 arg12 harg12 arg13 harg13 v4 v46 v87 v89 v91 v115 v122 v130 v140 v164 v165 _ _ _ _) $$ H11 H12 H3 H4
  iintro %v168 %v170 %v175 %v183 %v185 %v179 %v181 %v188 %v192 %v198 %v201 %v205 %v208 %v209 %h5 H11 H12 H3 H4
  dsimp only
  rw [wp_bind]
  iapply (part6_wp c none E i arg2 harg2 arg3 harg3 arg4 harg4 arg5 harg5 arg6 harg6 arg7 harg7 arg8 harg8 arg9 harg9 arg10 harg10 arg11 harg11 arg12 harg12 arg13 harg13 v4 v6 v80 v84 v86 v89 v91 v183 v185 v188 v192 v198 v201 v208 v209 _) $$ H11
  iintro %v253 %v212 %v220 %v230 %v251 %v256 %h6 H11
  dsimp only
  rw [wp_bind]
  iapply (part7_wp c none E i arg2 harg2 arg3 harg3 arg4 harg4 arg5 harg5 arg6 harg6 arg7 harg7 arg8 harg8 arg9 harg9 arg10 harg10 arg11 harg11 arg12 harg12 arg13 harg13 arg1 v7 v88 v89 v91 v205 v212 v220 v230 v256 _ _ _ _) $$ H11 H12 H3 H4
  iintro %v258 %v260 %v265 %v272 %v273 %v274 %v275 %v276 %v278 %v280 %v269 %v271 %v283 %v287 %v293 %v295 %v296 %v298 %h7 H11 H12 H3 H4
  dsimp only
  rw [wp_bind]
  iapply (part8_wp c none E i arg2 harg2 arg3 harg3 arg4 harg4 arg5 harg5 arg6 harg6 arg7 harg7 arg8 harg8 arg9 harg9 arg10 harg10 arg11 harg11 arg12 harg12 arg13 harg13 v4 v6 v41 v45 v179 v181 v274 v276 v278 v280 v283 v287 v293 v296 v298 _) $$ H11
  iintro %v343 %cst_119 %v302 %v310 %v320 %v340 %v341 %v344 %h8 H11
  dsimp only
  rw [wp_bind]
  iapply (part9_wp c none E i arg2 harg2 arg3 harg3 arg4 harg4 arg5 harg5 arg6 harg6 arg7 harg7 arg8 harg8 arg9 harg9 arg10 harg10 arg11 harg11 arg12 harg12 arg13 harg13 v4 v46 v85 v87 v179 v181 v276 v295 v302 v310 v320 v340 v344 cst_119 _ _ _ _) $$ H11 H12 H3 H4
  iintro %v348 %v350 %v355 %v363 %v365 %v359 %v361 %v368 %v372 %v380 %v387 %v388 %h9 H11 H12 H3 H4
  dsimp only
  rw [wp_bind]
  iapply (part10_wp c none E i arg2 harg2 arg3 harg3 arg4 harg4 arg5 harg5 arg6 harg6 arg7 harg7 arg8 harg8 arg9 harg9 arg10 harg10 arg11 harg11 arg12 harg12 arg13 harg13 v6 v80 v84 v86 v269 v271 v274 v276 v363 v365 v368 v372 v387 v388 _) $$ H11
  iintro %v428 %v433 %v395 %v405 %v426 %h10 H11
  dsimp only
  obtain ⟨qarg1, qv3, qv5, qv7, qv8, qv10, qv21, qv27, qv28, qv4, qv6, qv9, qv18, qv20, qv30, qv32⟩ := h1
  obtain ⟨qv46, qv47, qv49, qv60, qv66, qv67, qv41, qv45, qv48, qv57, qv59, qv69, qv72⟩ := h2
  obtain ⟨qv90, qv91, qv93, qv95, qcst_50, qv80, qv84, qv85, qv86, qv87, qv88, qv89, qv98, qv102, qv108, qv111, qv115, qv116, qv118⟩ := h3
  obtain ⟨qv163, qv122, qv130, qv140, qv161, qv164, qv165⟩ := h4
  obtain ⟨qv168, qv170, qv175, qv183, qv185, qv179, qv181, qv188, qv192, qv198, qv201, qv205, qv208, qv209⟩ := h5
  obtain ⟨qv253, qv212, qv220, qv230, qv251, qv256⟩ := h6
  obtain ⟨qv258, qv260, qv265, qv272, qv273, qv274, qv275, qv276, qv278, qv280, qv269, qv271, qv283, qv287, qv293, qv295, qv296, qv298⟩ := h7
  obtain ⟨qv343, qcst_119, qv302, qv310, qv320, qv340, qv341, qv344⟩ := h8
  obtain ⟨qv348, qv350, qv355, qv363, qv365, qv359, qv361, qv368, qv372, qv380, qv387, qv388⟩ := h9
  obtain ⟨qv428, qv433, qv395, qv405, qv426⟩ := h10
  simp only [Prog.lift, Prog.bind_op, Prog.bind_ret, Prog.pure_eq_ret]
  iapply (wp_ld 𝒱₀ (c : Thread nD τ) none E (m := arg12)) $$ H12; iintro H12
  iapply (wp_ld 𝒱₀ (c : Thread nD τ) none E (m := arg12)) $$ H12; iintro H12
  iapply (wp_st 𝒱₀ (c : Thread nD τ) none E (m := arg12)) $$ H12; iintro H12
  have eq0 : k0_pay4 v161 v341 = (car2 i x K0 V0).dq0 := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have eq1 : k0_pay5 v251 v426 = (car2 i x K0 V0).dq1 := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have er0 : v359 = (car2 i x K0 V0).r0 := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have er1 : k0_pay2 v269 v380 v387 = (car2 i x K0 V0).r1 := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have eg0 : v361 = (car2 i x K0 V0).g0 := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have eg1 : k0_pay3 v271 v405 = (car2 i x K0 V0).g1 := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have em : k0_pay6 v269 v359 v380 v387 = rmax (car2 i x K0 V0).r0 (car2 i x K0 V0).r1 := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have eK : (st (Rect.unit (s := S256x8192) (k0_off8 i) S128x256.size (k0_off8_inb i)) (st (Rect.unit (s := S256x8192) (k0_off6 i) S128x256.size (k0_off6_inb i)) (st (Rect.unit (s := S256x8192) (k0_off4 i) S128x256.size (k0_off4_inb i)) (st (Rect.unit (s := S256x8192) (k0_off2 i) S128x256.size (k0_off2_inb i)) (start i (Rect.unit (s := S256x8192) ![0, 0] S256x8192.size inb_S256x8192_S256x8192_0_0) K0 (k0_pay8 (F := F))) (k0_pay49 v164 v165)) v256) (k0_pay84 v85 v340 v344 cst_119)) (k0_pay99 v6 v80 v84 v86 v269 v271 v274 v365 v368 v372 v387 v388 v428)) = (car2 i x K0 V0).K := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have eV : (st (Rect.unit (s := S256x8192) (k0_off8 i) S128x256.size (k0_off8_inb i)) (st (Rect.unit (s := S256x8192) (k0_off6 i) S128x256.size (k0_off6_inb i)) (st (Rect.unit (s := S256x8192) (k0_off4 i) S128x256.size (k0_off4_inb i)) (st (Rect.unit (s := S256x8192) (k0_off2 i) S128x256.size (k0_off2_inb i)) (start i (Rect.unit (s := S256x8192) ![0, 0] S256x8192.size inb_S256x8192_S256x8192_0_0) V0 (k0_pay9 (F := F))) (k0_pay50 v87 v130 v170)) (k0_pay68 v88 v220 v260)) (k0_pay85 v87 v310 v350)) (k0_pay1 v88 v395 (ld (Rect.unit (s := S256x8192) (k0_off8 i) S128x256.size (k0_off8_inb i)) (st (Rect.unit (s := S256x8192) (k0_off6 i) S128x256.size (k0_off6_inb i)) (st (Rect.unit (s := S256x8192) (k0_off4 i) S128x256.size (k0_off4_inb i)) (st (Rect.unit (s := S256x8192) (k0_off2 i) S128x256.size (k0_off2_inb i)) (start i (Rect.unit (s := S256x8192) ![0, 0] S256x8192.size inb_S256x8192_S256x8192_0_0) V0 (k0_pay9 (F := F))) (k0_pay50 v87 v130 v170)) (k0_pay68 v88 v220 v260)) (k0_pay85 v87 v310 v350))))) = (car2 i x K0 V0).V := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have eD : (st (Rect.unit (s := S1x256) ![0, 128] S1x128.size inb_S1x256_S1x128_0_128) (st (Rect.unit (s := S1x256) ![0, 0] S1x128.size inb_S1x256_S1x128_0_0) (start i (Rect.unit (s := S1x256) ![0, 0] S1x256.size inb_S1x256_S1x256_0_0) D0 (k0_pay10 (F := F))) (k0_pay16 v8 v10 v21)) (k0_pay24 v47 v49 v60)) = outD i x D0 := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have ev7 : v7 = x.env.h0.q := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have ev4 : v4 = x.env.m4 := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have ev41 : v41 = x.env.h0.dO := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have ev6 : v6 = x.env.m6 := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have ev45 : v45 = x.env.h0.delta := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have ev85 : v85 = x.env.h0.qT := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have ev87 : v87 = x.env.h0.dOT := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have ev46 : v46 = x.env.h1.q := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have ev80 : v80 = x.env.h1.dO := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have ev84 : v84 = x.env.h1.delta := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have ev86 : v86 = x.env.h1.qT := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have ev88 : v88 = x.env.h1.dOT := by
    subst qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
    rfl
  have ea : arg1 = BitVec.ofNat 32 (i 1).val := qarg1
  dsimp only at eK eV eD
  first | rw [eq0] | fail "eq0"
  first | rw [eq1] | fail "eq1"
  first | rw [er1] | fail "er1"
  first | rw [eg1] | fail "eg1"
  first | rw [em] | fail "em"
  first | rw [er0] | fail "er0"
  first | rw [eg0] | fail "eg0"
  first | rw [ea] | fail "ea"
  first | rw [eK] | fail "eK"
  first | rw [eV] | fail "eV"
  first | rw [eD] | fail "eD"
  clear eq0 eq1 er1 eg1 em eK eV eD
  clear qarg1 qv3 qv5 qv7 qv8 qv10 qv21 qv27 qv28 qv4 qv6 qv9 qv18 qv20 qv30 qv32 qv46 qv47 qv49 qv60 qv66 qv67 qv41 qv45 qv48 qv57 qv59 qv69 qv72 qv90 qv91 qv93 qv95 qcst_50 qv80 qv84 qv85 qv86 qv87 qv88 qv89 qv98 qv102 qv108 qv111 qv115 qv116 qv118 qv163 qv122 qv130 qv140 qv161 qv164 qv165 qv168 qv170 qv175 qv183 qv185 qv179 qv181 qv188 qv192 qv198 qv201 qv205 qv208 qv209 qv253 qv212 qv220 qv230 qv251 qv256 qv258 qv260 qv265 qv272 qv273 qv274 qv275 qv276 qv278 qv280 qv269 qv271 qv283 qv287 qv293 qv295 qv296 qv298 qv343 qcst_119 qv302 qv310 qv320 qv340 qv341 qv344 qv348 qv350 qv355 qv363 qv365 qv359 qv361 qv368 qv372 qv380 qv387 qv388 qv428 qv433 qv395 qv405 qv426
  subst ev7 ev4 ev41 ev6 ev45 ev85 ev87 ev46 ev80 ev84 ev86 ev88
  iapply (wp_call_spec 𝒱₀ (c : Thread nD τ) none E (spec c arg3 arg4 arg11 arg12 x.env 32 (Scalar.subi (BitVec.ofNat 32 (i 1).val) 2#32) (car2 i x K0 V0)) 32
    (fun u hu => nomatch hu)
    (spec_le c arg3 harg3 arg4 harg4 arg11 harg11 arg12 harg12 i E x.env 32 _ (by exact_mod_cast first_lt (i 1)) (first_lt (i 1)) (car2 i x K0 V0)))
  rw [spec_apply]; unfold held ret
  have w : (walk x.env 32 (Scalar.subi (BitVec.ofNat 32 (i 1).val) 2#32) (car2 i x K0 V0)).2 = car3 i x K0 V0 := rfl
  simp only [w, show x.env.X3 = x.X3 from rfl, show x.env.X4 = x.X4 from rfl, outQ]
  isplitl [H3 H4 H11 H12]
  · isplitl [H3]; · iexact H3
    isplitl [H4]; · iexact H4
    isplitl [H11]; · iexact H11
    iexact H12
  iintro ⟨H3, H4, H11, H12⟩
  iapply (wp_ld 𝒱₀ (c : Thread nD τ) none E (m := arg10)) $$ H10; iintro H10
  iapply (wp_st 𝒱₀ (c : Thread nD τ) none E (m := arg10)) $$ H10; iintro H10
  iapply (wp_ld 𝒱₀ (c : Thread nD τ) none E (m := arg10)) $$ H10; iintro H10
  iapply (wp_st 𝒱₀ (c : Thread nD τ) none E (m := arg10)) $$ H10; iintro H10
  rw [wp_ret]; imodintro
  iapply Hk $$ H2 H3 H4 H5 H6 H7 H8 H9 H10 H11 H12 H13

end Cert.Proof.Attn

end
-- ==== Proof.Attn.Frame.lean ====
/-
  The run of the backward attention: the host lines before the call, what each window's staging buffer holds before and
  after each grid point, and the launch. Written over any values, so that one run serves both readings.
-/
module

public import proofs.«01_k».proof.Proof.Attn.Body
public import proofs.«01_k».proof.Proof.Gen.AttnGradIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Attn

open Cert.AttnGradIdeal Cert.AttnGradIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines before the call -/

/-- The stretches of host lines, in order. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13]

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩

theorem opss_fresh : (opss (F := F)).Forall fun ops => ops.Forall fun op => op.fresh = ∅ :=
  ⟨StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl⟩

/-- What the stretches write, in order. -/
abbrev written : List (Ref sig .tc) :=
  [main_v0, main_v1, main_v2, main_v3, main_v4, main_v5, main_v6, main_v7, main_cst, main_v8, main_v9, main_v10, main_v11, main_v12, main_v13, main_v14, main_v15, main_v16,
   main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v17,
   main_cst_0,
   main_call1_v0, main_call1_v1, main_call1_v2, main_v18,
   main_call2_cst, main_call2_v0, main_v19,
   main_v20,
   main_call3_v0, main_call3_call0_cst, main_call3_call0_v0, main_call3_call0_v1, main_call3_call0_v2, main_call3_call0_v3, main_call3_call0_v4, main_call3_call0_v5, main_call3_call0_v6, main_call3_call0_v7, main_call3_call0_v8, main_call3_call0_v9, main_call3_call0_v10, main_call3_call0_v11, main_call3_v1, main_v21,
   main_v22, main_v23, main_cst_1,
   main_call4_v0, main_call4_v1, main_call4_v2, main_v24,
   main_v25, main_v26, main_v27, main_v28, main_v29, main_cst_2, main_v30,
   main_call5_v0, main_call5_c, main_call5_v1, main_call5_v2, main_call5_v3, main_call5_v4, main_call5_cst, main_call5_v5, main_v31,
   main_v32, main_cst_3, main_v33,
   main_call6_v0, main_call6_c, main_call6_v1, main_call6_v2, main_call6_v3, main_call6_v4, main_call6_cst, main_call6_v5, main_v34,
   main_v35]

theorem opss_writes : (opss (F := F)).flatten.Forall fun op => op.writes ⊆ (written.map (Proc.devRef (τ := τ) .tc)).toFinset :=
  StableHlo.forall_writes_sub_of_map rfl

/-- Core `c`'s buffers when the call begins. -/
def V (c : Dev nD) (b : Ref sig .tc) : Buf (Elt F) ((c : Thread nD τ).loc b) :=
  StableHlo.after (opss (F := F)).flatten (fun b => m (c, b)) b

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main opss opss_sub opss_fresh fun c => (main_chain c).trans rfl

theorem V_of_not_written (c : Dev nD) (r : Ref sig .tc) (h : r ∉ written) : V m c r = m ((c : Thread nD τ).loc r) :=
  StableHlo.after_of_writes_sub _ _ opss_writes h

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)

/-! ## What the windows hold -/

/-- Window `w`'s block at point `t`, read off its array as the call finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- What the body reads at point `t`. -/
def inp (c : Dev nD) (t : Fin (cfg0 (F := F)).N) : In F :=
  ⟨iblk m c 0 t, iblk m c 1 t, iblk m c 2 t, iblk m c 3 t, iblk m c 4 t, iblk m c 5 t, iblk m c 6 t, iblk m c 7 t⟩

/-- The gradients carried from point to point: of the keys, of the values, of the gain. -/
structure Kept (F : FTy → Type) [FloatOps F] where
  K : Vec F S256x8192 .f32
  V : Vec F S256x8192 .f32
  D : Vec F S1x256 .f32

/-- One point's step. -/
def step (i : grid0.Coords) (x : In F) (s : Kept F) : Kept F := ⟨(car3 i x s.K s.V).K, (car3 i x s.K s.V).V, outD i x s.D⟩

/-- Before point `n`. -/
def kept (c : Dev nD) : ℕ → Kept F
  | 0 => ⟨constant S256x8192 .f32 0#32, constant S256x8192 .f32 0#32, constant S1x256 .f32 0#32⟩
  | n + 1 => if h : n < (cfg0 (F := F)).N then step (grid0.coords ⟨n, h⟩) (inp m c ⟨n, h⟩) (kept c n) else kept c n

theorem kept_succ (c : Dev nD) (t : Fin (cfg0 (F := F)).N) :
    kept m c (t.val + 1) = step (grid0.coords t) (inp m c t) (kept m c t.val) := by
  rw [kept, dif_pos t.isLt]

/-! ## Stores that replace everything -/

theorem st_cover {s : Shape} {α : Type} (r : Rect s) (X X' : s.Idx → α) (w : r.shape.Idx → α) (h : ∀ y, ∃ x, r.emb x = y) :
    st r X w = st r X' w := by
  funext y; obtain ⟨x, rfl⟩ := h y; rw [st_emb, st_emb]

theorem exists_emb {s : Shape} {off size : Fin s.rank → ℕ} {inb} {y : s.Idx}
    (h : ∀ a, off a ≤ (y a).val ∧ (y a).val < off a + size a) : ∃ x, (Rect.unit (s := s) off size inb).emb x = y := by
  have hy : y ∈ (Rect.unit (s := s) off size inb).set := Rect.mem_set_unit.mpr h
  rw [← Rect.map_emb_univ] at hy
  obtain ⟨x, -, hx⟩ := Finset.mem_map.mp hy
  exact ⟨x, hx⟩

theorem call_cover (y : S256x8192.Idx) : ∃ x, call.emb x = y :=
  exists_emb (Fin.forall_fin_two.mpr ⟨⟨Nat.zero_le _, by have := (y 0).isLt; simpa using this⟩, ⟨Nat.zero_le _, by have := (y 1).isLt; simpa using this⟩⟩)

theorem rall_cover (y : S1x256.Idx) : ∃ x, rall.emb x = y :=
  exists_emb (Fin.forall_fin_two.mpr ⟨⟨Nat.zero_le _, by have := (y 0).isLt; simpa using this⟩, ⟨Nat.zero_le _, by have := (y 1).isLt; simpa using this⟩⟩)

theorem lo_hi_cover (y : S256x256.Idx) (h : ¬∃ x, hi.emb x = y) : ∃ x, lo.emb x = y := by
  have h0 := (y 0).isLt; have h1 := (y 1).isLt
  by_cases hc : (y 1).val < 128
  · exact exists_emb (Fin.forall_fin_two.mpr ⟨⟨Nat.zero_le _, by simpa using h0⟩, ⟨Nat.zero_le _, by simpa using hc⟩⟩)
  · exact absurd (exists_emb (Fin.forall_fin_two.mpr ⟨⟨Nat.zero_le _, by simpa using h0⟩,
      ⟨by simpa using hc, by simpa using h1⟩⟩)) h

theorem start_first {s : Shape} {i : grid0.Coords} (hi : isFirst i) (r : Rect s) (X X' : s.Idx → Elt F .f32) (z : r.shape.Idx → Elt F .f32)
    (h : ∀ y, ∃ x, r.emb x = y) : start i r X z = start i r X' z := by
  unfold start; rw [if_pos hi, if_pos hi]; exact st_cover r X X' z h

theorem car3_first {i : grid0.Coords} (hi : isFirst i) (x : In F) (K K' V V' : Vec F S256x8192 .f32) : car3 i x K V = car3 i x K' V' := by
  have h : car0 i K V = car0 i K' V' := by
    unfold car0
    rw [start_first hi call K K' _ call_cover, start_first hi call V V' _ call_cover]
  unfold car3 car2 car1
  rw [h]

theorem outD_first {i : grid0.Coords} (hi : isFirst i) (x : In F) (D D' : Vec F S1x256 .f32) : outD i x D = outD i x D' := by
  unfold outD gain0
  rw [start_first hi rall D D' _ rall_cover]

theorem outQ_any (i : grid0.Coords) (x : In F) (Q Q' : Vec F S256x256 .f32) (K V : Vec F S256x8192 .f32) : outQ i x Q K V = outQ i x Q' K V := by
  funext y
  unfold outQ
  by_cases h : ∃ x, hi.emb x = y
  · obtain ⟨x, rfl⟩ := h; rw [st_emb, st_emb]
  · rw [st_of_not _ _ _ _ h, st_of_not _ _ _ _ h]
    obtain ⟨x, rfl⟩ := lo_hi_cover y h
    rw [st_emb, st_emb]

theorem isFirst_coords : ∀ t : Fin grid0.N, t.val % 32 = 0 → isFirst (grid0.coords t) := by decide +kernel
theorem not_isFirst_coords : ∀ t : Fin grid0.N, t.val % 32 ≠ 0 → ¬isFirst (grid0.coords t) := by decide +kernel

/-! ## The launch's data -/

/-- What each window's buffer holds after each point. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outQ (grid0.coords t) (inp m c t) (constant S256x256 .f32 0#32) (kept m c t.val).K (kept m c t.val).V
    | ⟨9, _⟩ => (kept m c (t.val + 1)).K
    | ⟨10, _⟩ => (kept m c (t.val + 1)).V
    | ⟨11, _⟩ => (kept m c (t.val + 1)).D
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = iblk m c 3 t := by dsimp only [dats]; rfl
theorem after_4 (c : Dev nD) (t : Fin (cfg0 (F := F)).N) : (dats m 0 c).after 4 t = iblk m c 4 t := by dsimp only [dats]; rfl
theorem after_5 (c : Dev nD) (t : Fin (cfg0 (F := F)).N) : (dats m 0 c).after 5 t = iblk m c 5 t := by dsimp only [dats]; rfl
theorem after_6 (c : Dev nD) (t : Fin (cfg0 (F := F)).N) : (dats m 0 c).after 6 t = iblk m c 6 t := by dsimp only [dats]; rfl
theorem after_7 (c : Dev nD) (t : Fin (cfg0 (F := F)).N) : (dats m 0 c).after 7 t = iblk m c 7 t := by dsimp only [dats]; rfl
theorem after_8 (c : Dev nD) (t : Fin (cfg0 (F := F)).N) : (dats m 0 c).after 8 t = outQ (grid0.coords t) (inp m c t) (constant S256x256 .f32 0#32) (kept m c t.val).K (kept m c t.val).V := by dsimp only [dats]; rfl
theorem after_9 (c : Dev nD) (t : Fin (cfg0 (F := F)).N) : (dats m 0 c).after 9 t = (kept m c (t.val + 1)).K := by dsimp only [dats]; rfl
theorem after_10 (c : Dev nD) (t : Fin (cfg0 (F := F)).N) : (dats m 0 c).after 10 t = (kept m c (t.val + 1)).V := by dsimp only [dats]; rfl
theorem after_11 (c : Dev nD) (t : Fin (cfg0 (F := F)).N) : (dats m 0 c).after 11 t = (kept m c (t.val + 1)).D := by dsimp only [dats]; rfl

theorem before_0 (c : Dev nD) (t : Fin (cfg0 (F := F)).N) (d) : (dats m 0 c).before 0 t d = iblk m c 0 t :=
  before_0_of m (dats m 0 c) (A_eq m c 0) (after_0 m c) t d
theorem before_1 (c : Dev nD) (t : Fin (cfg0 (F := F)).N) (d) : (dats m 0 c).before 1 t d = iblk m c 1 t :=
  before_1_of m (dats m 0 c) (A_eq m c 1) (after_1 m c) t d
theorem before_2 (c : Dev nD) (t : Fin (cfg0 (F := F)).N) (d) : (dats m 0 c).before 2 t d = iblk m c 2 t :=
  before_2_of m (dats m 0 c) (A_eq m c 2) (after_2 m c) t d
theorem before_3 (c : Dev nD) (t : Fin (cfg0 (F := F)).N) (d) : (dats m 0 c).before 3 t d = iblk m c 3 t :=
  before_3_of m (dats m 0 c) (A_eq m c 3) (after_3 m c) t d
theorem before_4 (c : Dev nD) (t : Fin (cfg0 (F := F)).N) (d) : (dats m 0 c).before 4 t d = iblk m c 4 t :=
  before_4_of m (dats m 0 c) (A_eq m c 4) (after_4 m c) t d
theorem before_5 (c : Dev nD) (t : Fin (cfg0 (F := F)).N) (d) : (dats m 0 c).before 5 t d = iblk m c 5 t :=
  before_5_of m (dats m 0 c) (A_eq m c 5) (after_5 m c) t d
theorem before_6 (c : Dev nD) (t : Fin (cfg0 (F := F)).N) (d) : (dats m 0 c).before 6 t d = iblk m c 6 t :=
  before_6_of m (dats m 0 c) (A_eq m c 6) (after_6 m c) t d
theorem before_7 (c : Dev nD) (t : Fin (cfg0 (F := F)).N) (d) : (dats m 0 c).before 7 t d = iblk m c 7 t :=
  before_7_of m (dats m 0 c) (A_eq m c 7) (after_7 m c) t d

/-- Within a head pair, window 9's buffer holds what the point before left. -/
theorem before_9 (c : Dev nD) (t : Fin (cfg0 (F := F)).N) (h : t.val % 32 ≠ 0) (d) : (dats m 0 c).before 9 t d = (kept m c t.val).K := by
  have ht : t.val ≠ 0 := fun h' => h (by rw [h'])
  have hlt : t.val - 1 < (cfg0 (F := F)).N := lt_of_le_of_lt (Nat.sub_le _ _) t.isLt
  have hfl : ((cfg0 (F := F)).win 9).flush ⟨t.val - 1, hlt⟩ = false := by
    rw [Bool.eq_false_iff]; intro hf
    have := (flush0_9 ⟨t.val - 1, hlt⟩).mp hf
    dsimp only at this; omega
  rw [(dats m 0 c).before_out_kept 9 rfl t ht hfl (fun _ => rfl) (fun _ _ => rfl) d, after_9]
  exact congrArg (fun n => (kept m c n).K) (by dsimp only; omega)

/-- Within a head pair, window 10's buffer holds what the point before left. -/
theorem before_10 (c : Dev nD) (t : Fin (cfg0 (F := F)).N) (h : t.val % 32 ≠ 0) (d) : (dats m 0 c).before 10 t d = (kept m c t.val).V := by
  have ht : t.val ≠ 0 := fun h' => h (by rw [h'])
  have hlt : t.val - 1 < (cfg0 (F := F)).N := lt_of_le_of_lt (Nat.sub_le _ _) t.isLt
  have hfl : ((cfg0 (F := F)).win 10).flush ⟨t.val - 1, hlt⟩ = false := by
    rw [Bool.eq_false_iff]; intro hf
    have := (flush0_10 ⟨t.val - 1, hlt⟩).mp hf
    dsimp only at this; omega
  rw [(dats m 0 c).before_out_kept 10 rfl t ht hfl (fun _ => rfl) (fun _ _ => rfl) d, after_10]
  exact congrArg (fun n => (kept m c n).V) (by dsimp only; omega)

/-- Within a head pair, window 11's buffer holds what the point before left. -/
theorem before_11 (c : Dev nD) (t : Fin (cfg0 (F := F)).N) (h : t.val % 32 ≠ 0) (d) : (dats m 0 c).before 11 t d = (kept m c t.val).D := by
  have ht : t.val ≠ 0 := fun h' => h (by rw [h'])
  have hlt : t.val - 1 < (cfg0 (F := F)).N := lt_of_le_of_lt (Nat.sub_le _ _) t.isLt
  have hfl : ((cfg0 (F := F)).win 11).flush ⟨t.val - 1, hlt⟩ = false := by
    rw [Bool.eq_false_iff]; intro hf
    have := (flush0_11 ⟨t.val - 1, hlt⟩).mp hf
    dsimp only at this; omega
  rw [(dats m 0 c).before_out_kept 11 rfl t ht hfl (fun _ => rfl) (fun _ _ => rfl) d, after_11]
  exact congrArg (fun n => (kept m c n).D) (by dsimp only; omega)

/-! ## The body at any point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

end Cert.Proof.Attn

end
-- ==== Proof.Attn.Walk.lean ====
/-
  The walk of one query block over its key blocks, over the extended reals and from real operands: after it the queries'
  gradient is the whole sum over the keys, and the keys' and values' gradients have the query block's share added.
-/
module

public import proofs.«01_k».proof.Proof.Attn.Block
public import proofs.«01_k».proof.Proof.Attn.Frame

@[expose] public section

noncomputable section

open Idealize.ShloMosaic
open Idealize.ShloMosaic.TcCoe

namespace Cert.Proof.Attn

open Cert.AttnGradIdeal Cert.AttnGradIdeal.Gen

/-! ## Reading and replacing a block of one head -/

theorem emb_two {a b n k : ℕ} {o0 o1 : ℕ} {inb} (i : Fin n) (j : Fin k) (h0 : o0 + i.val < a) (h1 : o1 + j.val < b) :
    (Rect.unit (s := (⟨2, ![a, b]⟩ : Shape)) ![o0, o1] ![n, k] inb).emb (ix2 i j) = ix2 ⟨o0 + i.val, h0⟩ ⟨o1 + j.val, h1⟩ := by
  funext x
  apply Fin.ext
  rw [Rect.emb_apply]
  match x with
  | 0 => exact congrArg _ (Nat.one_mul _)
  | 1 => exact congrArg _ (Nat.one_mul _)

theorem ld_rows {o : Fin 2 → ℕ} {s0 c0 : ℕ} (e : o = ![s0, c0]) (h) (X : Vec Ideal S8192x256 .bf16) (j : Fin 256) (d : Fin 128)
    (h0 : s0 + j.val < 8192) (h1 : c0 + d.val < 256) :
    ld (rows o h) X (ix2 j d) = X (ix2 ⟨s0 + j.val, h0⟩ ⟨c0 + d.val, h1⟩) := by
  subst e
  exact congrArg X (emb_two j d h0 h1)

theorem ld_cols {p : Fin 2 → ℕ} {c0 s0 : ℕ} (e : p = ![c0, s0]) (h) (X : Vec Ideal S256x8192 .f32) (d : Fin 128) (j : Fin 256)
    (h0 : c0 + d.val < 256) (h1 : s0 + j.val < 8192) :
    ld (cols p h) X (ix2 d j) = X (ix2 ⟨c0 + d.val, h0⟩ ⟨s0 + j.val, h1⟩) := by
  subst e
  exact congrArg X (emb_two d j h0 h1)

theorem st_cols_in {p : Fin 2 → ℕ} {c0 s0 : ℕ} (e : p = ![c0, s0]) (h) (X : Vec Ideal S256x8192 .f32) (w : FVec Ideal S128x256 .f32)
    (d : Fin 128) (j : Fin 256) (h0 : c0 + d.val < 256) (h1 : s0 + j.val < 8192) :
    st (cols p h) X w (ix2 ⟨c0 + d.val, h0⟩ ⟨s0 + j.val, h1⟩) = w (ix2 d j) := by
  subst e
  rw [← emb_two (inb := h) d j h0 h1]
  exact st_emb _ _ _ _

theorem st_cols_out {p : Fin 2 → ℕ} {c0 s0 : ℕ} (e : p = ![c0, s0]) (h) (X : Vec Ideal S256x8192 .f32) (w : FVec Ideal S128x256 .f32)
    (c : Fin 256) (l : Fin 8192) (hn : ¬((c0 ≤ c.val ∧ c.val < c0 + 128) ∧ s0 ≤ l.val ∧ l.val < s0 + 256)) :
    st (cols p h) X w (ix2 c l) = X (ix2 c l) := by
  subst e
  refine st_of_not _ _ _ _ fun ⟨x, hx⟩ => hn ?_
  have m : ix2 c l ∈ (cols ![c0, s0] h).set := by
    rw [← Rect.map_emb_univ]; exact Finset.mem_map.mpr ⟨x, Finset.mem_univ _, hx⟩
  have := Rect.mem_set_unit.mp m
  exact ⟨this 0, this 1⟩

/-- Adding to both heads' columns of one key block. -/
theorem st_two {p0 p1 : Fin 2 → ℕ} {s0 : ℕ} (e0 : p0 = ![0, s0]) (e1 : p1 = ![128, s0]) (h0 h1) (hN : s0 + 256 ≤ N)
    (X : Vec Ideal S256x8192 .f32) (w0 w1 : FVec Ideal S128x256 .f32 → FVec Ideal S128x256 .f32) (f : ℕ → ℕ → EReal)
    (g : ℕ → ℕ → EReal)
    (hX : ∀ (c : Fin 256) (l : Fin 8192), ¬(s0 ≤ l.val ∧ l.val < s0 + 256) → X (ix2 c l) = g c l)
    (hw0 : ∀ (Y : FVec Ideal S128x256 .f32) (d : Fin 128) (j : Fin 256), w0 Y (ix2 d j) = Y (ix2 d j) + f d.val (s0 + j))
    (hw1 : ∀ (Y : FVec Ideal S128x256 .f32) (d : Fin 128) (j : Fin 256), w1 Y (ix2 d j) = Y (ix2 d j) + f (128 + d.val) (s0 + j))
    (hg : ∀ (c : Fin 256) (l : Fin 8192), s0 ≤ l.val → l.val < s0 + 256 → X (ix2 c l) + f c l = g c l)
    (c : Fin 256) (l : Fin 8192) :
    st (cols p1 h1) (st (cols p0 h0) X (w0 (ld (cols p0 h0) X)))
      (w1 (ld (cols p1 h1) (st (cols p0 h0) X (w0 (ld (cols p0 h0) X))))) (ix2 c l) = g c l := by
  have hN' : s0 + 256 ≤ 8192 := hN
  by_cases hl : s0 ≤ l.val ∧ l.val < s0 + 256
  swap
  · rw [st_cols_out e1 h1 _ _ _ _ (fun h => hl h.2), st_cols_out e0 h0 _ _ _ _ (fun h => hl h.2), hX c l hl]
  · obtain ⟨j, hj, rfl⟩ : ∃ (j : Fin 256) (hj : s0 + j.val < 8192), l = ⟨s0 + j.val, hj⟩ :=
      ⟨⟨l.val - s0, by omega⟩, by simp only; omega, Fin.ext (by simp only; omega)⟩
    by_cases hc : c.val < 128
    · obtain ⟨d, hd, rfl⟩ : ∃ (d : Fin 128) (hd : 0 + d.val < 256), c = ⟨0 + d.val, hd⟩ :=
        ⟨⟨c.val, hc⟩, by simp only; omega, Fin.ext (by simp only; omega)⟩
      rw [st_cols_out e1 h1 _ _ _ _ (fun h => by have := h.1.1; simp only at this; omega),
        st_cols_in e0 h0 _ _ d j hd hj, hw0, ld_cols e0 h0 _ d j hd hj, ← hg _ _ hl.1 hl.2]
      simp only [zero_add]
    · obtain ⟨d, hd, rfl⟩ : ∃ (d : Fin 128) (hd : 128 + d.val < 256), c = ⟨128 + d.val, hd⟩ :=
        ⟨⟨c.val - 128, by omega⟩, by simp only; omega, Fin.ext (by simp only; omega)⟩
      rw [st_cols_in e1 h1 _ _ d j hd hj, hw1, ld_cols e1 h1 _ d j hd hj,
        st_cols_out e0 h0 _ _ _ _ (fun h => by have := h.1.2; simp only at this; omega), ← hg _ _ hl.1 hl.2]

/-! ## What the walk carries -/

/-- A head's operands of the query block from row `t0`. -/
structure HeadOf (h : Head Ideal) (x : HR) (t0 : ℕ) : Prop where
  q : ∀ (i : Fin 256) (d : Fin 128), h.q (ix2 i d) = (x.q (t0 + i) d : EReal)
  dO : ∀ (i : Fin 256) (d : Fin 128), h.dO (ix2 i d) = (x.dO (t0 + i) d : EReal)
  qT : ∀ (d : Fin 128) (i : Fin 256), h.qT (ix2 d i) = (x.q (t0 + i) d : EReal)
  dOT : ∀ (d : Fin 128) (i : Fin 256), h.dOT (ix2 d i) = (x.dO (t0 + i) d : EReal)
  delta : ∀ i : Fin 256, h.delta (ix2 i 0) = (x.delta (t0 + i) : EReal)

/-- What stays the same during the walk, for heads `x0` and `x1` and the query block from row `t0`. -/
structure EnvOf (n : Env Ideal) (x0 x1 : HR) (t0 : ℕ) : Prop where
  m4 : ∀ a j : Fin 256, n.m4 (ix2 a j) = ((if j.val + 1 ≤ a.val then 1 else 0 : ℝ) : EReal)
  m6 : ∀ a j : Fin 256, n.m6 (ix2 a j) = ((if j.val ≤ a.val then 1 else 0 : ℝ) : EReal)
  h0 : HeadOf n.h0 x0 t0
  h1 : HeadOf n.h1 x1 t0
  k0 : ∀ (s : Fin 8192) (d : Fin 128) (h : 0 + d.val < 256), n.X3 (ix2 s ⟨0 + d.val, h⟩) = (x0.k s d : EReal)
  k1 : ∀ (s : Fin 8192) (d : Fin 128) (h : 128 + d.val < 256), n.X3 (ix2 s ⟨128 + d.val, h⟩) = (x1.k s d : EReal)
  v0 : ∀ (s : Fin 8192) (d : Fin 128) (h : 0 + d.val < 256), n.X4 (ix2 s ⟨0 + d.val, h⟩) = (x0.v s d : EReal)
  v1 : ∀ (s : Fin 8192) (d : Fin 128) (h : 128 + d.val < 256), n.X4 (ix2 s ⟨128 + d.val, h⟩) = (x1.v s d : EReal)

/-- The query block's share of the keys' gradients, at column `c` of the pair. -/
def incK (x0 x1 : HR) (a b c l : ℕ) : ℝ :=
  if c < 128 then ∑ u ∈ Finset.Ico a b, x0.q u c * x0.dz u l else ∑ u ∈ Finset.Ico a b, x1.q u (c - 128) * x1.dz u l

/-- The query block's share of the values' gradients, at column `c` of the pair. -/
def incV (x0 x1 : HR) (a b c l : ℕ) : ℝ :=
  if c < 128 then ∑ u ∈ Finset.Ico a b, x0.dO u c * x0.A u l else ∑ u ∈ Finset.Ico a b, x1.dO u (c - 128) * x1.A u l

/-- The gradients, with the keys from `m` on done; `K0` and `V0` is what they were before the query block. -/
structure Out (s : Car Ideal) (x0 x1 : HR) (t0 m : ℕ) (K0 V0 : ℕ → ℕ → ℝ) : Prop where
  q0 : ∀ (i : Fin 256) (d : Fin 128), s.dq0 (ix2 i d) = ((∑ u ∈ Finset.Ico m N, x0.dz (t0 + i) u * x0.k u d : ℝ) : EReal)
  q1 : ∀ (i : Fin 256) (d : Fin 128), s.dq1 (ix2 i d) = ((∑ u ∈ Finset.Ico m N, x1.dz (t0 + i) u * x1.k u d : ℝ) : EReal)
  K : ∀ (c : Fin 256) (l : Fin 8192), s.K (ix2 c l) = ((K0 c l + if m ≤ l.val then incK x0 x1 t0 (t0 + 256) c l else 0 : ℝ) : EReal)
  V : ∀ (c : Fin 256) (l : Fin 8192), s.V (ix2 c l) = ((V0 c l + if m ≤ l.val then incV x0 x1 t0 (t0 + 256) c l else 0 : ℝ) : EReal)

/-- The same, with what the later keys leave to the earlier. -/
structure CarOf (s : Car Ideal) (x0 x1 : HR) (t0 m : ℕ) (K0 V0 : ℕ → ℕ → ℝ) : Prop extends Out s x0 x1 t0 m K0 V0 where
  r0 : ∀ i : Fin 256, s.r0 (ix2 i 0) = ((∑ u ∈ Finset.Ico m N, x0.L (t0 + i) u : ℝ) : EReal)
  r1 : ∀ i : Fin 256, s.r1 (ix2 i 0) = ((∑ u ∈ Finset.Ico m N, x1.L (t0 + i) u : ℝ) : EReal)
  g0 : ∀ i : Fin 256, s.g0 (ix2 i 0) = ((∑ u ∈ Finset.Ico m N, x0.G (t0 + i) u : ℝ) : EReal)
  g1 : ∀ i : Fin 256, s.g1 (ix2 i 0) = ((∑ u ∈ Finset.Ico m N, x1.G (t0 + i) u : ℝ) : EReal)

/-- One key block. -/
theorem pair_of {mL mA : FVec Ideal S256x256 .f32 → FVec Ideal S256x256 .f32} {n : Env Ideal} {x0 x1 : HR} {t0 s0 : ℕ}
    {o0 o1 p0 p1 : Fin 2 → ℕ} (eo0 : o0 = ![s0, 0]) (eo1 : o1 = ![s0, 128]) (ep0 : p0 = ![0, s0]) (ep1 : p1 = ![128, s0])
    (ho0 ho1 hp0 hp1) {acc : FVec Ideal S256x128 .f32 → FVec Ideal S256x128 .f32 → FVec Ideal S256x128 .f32}
    {s : Car Ideal} {K0 V0 : ℕ → ℕ → ℝ} (hN : s0 + 256 ≤ N)
    (hL : ∀ X (i j : Fin 256), mL X (ix2 i j) = if s0 + j.val < t0 + i.val then X (ix2 i j) else 0)
    (hA : ∀ X (i j : Fin 256), mA X (ix2 i j) = if s0 + j.val < t0 + i.val then X (ix2 i j) else 0)
    (hE : EnvOf n x0 x1 t0) (hs : CarOf s x0 x1 t0 (s0 + 256) K0 V0)
    (a0 : ∀ b (i : Fin 256) (d : Fin 128), acc s.dq0 b (ix2 i d) = s.dq0 (ix2 i d) + b (ix2 i d))
    (a1 : ∀ b (i : Fin 256) (d : Fin 128), acc s.dq1 b (ix2 i d) = s.dq1 (ix2 i d) + b (ix2 i d)) :
    CarOf (pair mL mA n (o0 := o0) (o1 := o1) (p0 := p0) (p1 := p1) ho0 ho1 hp0 hp1 acc s) x0 x1 t0 s0 K0 V0 := by
  have hN' : s0 + 256 ≤ 8192 := hN
  have B0 : BlkOf (⟨n.m4, n.m6, mL, mA, n.h0, ld (rows o0 ho0) n.X3, ld (rows o0 ho0) n.X4, s.r0, s.g0⟩ : Blk Ideal) x0 t0 s0 :=
    ⟨hN, hL, hA, hE.m4, hE.m6, hE.h0.q, hE.h0.dO, hE.h0.qT, hE.h0.dOT, hE.h0.delta,
      fun j d => (ld_rows eo0 ho0 n.X3 j d (by omega) (by omega)).trans (hE.k0 ⟨s0 + j.val, by omega⟩ d _),
      fun j d => (ld_rows eo0 ho0 n.X4 j d (by omega) (by omega)).trans (hE.v0 ⟨s0 + j.val, by omega⟩ d _), hs.r0, hs.g0⟩
  have B1 : BlkOf (⟨n.m4, n.m6, mL, mA, n.h1, ld (rows o1 ho1) n.X3, ld (rows o1 ho1) n.X4, s.r1, s.g1⟩ : Blk Ideal) x1 t0 s0 :=
    ⟨hN, hL, hA, hE.m4, hE.m6, hE.h1.q, hE.h1.dO, hE.h1.qT, hE.h1.dOT, hE.h1.delta,
      fun j d => (ld_rows eo1 ho1 n.X3 j d (by omega) (by omega)).trans (hE.k1 ⟨s0 + j.val, by omega⟩ d _),
      fun j d => (ld_rows eo1 ho1 n.X4 j d (by omega) (by omega)).trans (hE.v1 ⟨s0 + j.val, by omega⟩ d _), hs.r1, hs.g1⟩
  refine ⟨⟨fun i d => ?_, fun i d => ?_, fun c l => ?_, fun c l => ?_⟩, B0.r', B1.r', B0.g', B1.g'⟩
  · rw [pair]; simp only []
    rw [a0, B0.dq, hs.q0, ← EReal.coe_add, sum_block _ s0 (s0 + 256) N hN (by omega), add_comm]
  · rw [pair]; simp only []
    rw [a1, B1.dq, hs.q1, ← EReal.coe_add, sum_block _ s0 (s0 + 256) N hN (by omega), add_comm]
  · rw [pair]; simp only []
    refine st_two ep0 ep1 hp0 hp1 hN s.K _ _ (fun c l => (incK x0 x1 t0 (t0 + 256) c l : EReal))
      (fun c l => ((K0 c l + if s0 ≤ l then incK x0 x1 t0 (t0 + 256) c l else 0 : ℝ) : EReal)) (fun c l h => ?_)
      (fun Y d j => ?_) (fun Y d j => ?_) (fun c l h h' => ?_) c l
    · rw [hs.K]
      have : s0 + 256 ≤ l.val ↔ s0 ≤ l.val := by omega
      simp only [this]
    · rw [B0.dk, incK, if_pos d.isLt]
    · rw [B1.dk, incK, if_neg (by omega), Nat.add_sub_cancel_left]
    · rw [hs.K, if_neg (by omega), if_pos h, ← EReal.coe_add, add_zero]
  · rw [pair]; simp only []
    refine st_two ep0 ep1 hp0 hp1 hN s.V _ _ (fun c l => (incV x0 x1 t0 (t0 + 256) c l : EReal))
      (fun c l => ((V0 c l + if s0 ≤ l then incV x0 x1 t0 (t0 + 256) c l else 0 : ℝ) : EReal)) (fun c l h => ?_)
      (fun Y d j => ?_) (fun Y d j => ?_) (fun c l h h' => ?_) c l
    · rw [hs.V]
      have : s0 + 256 ≤ l.val ↔ s0 ≤ l.val := by omega
      simp only [this]
    · rw [B0.dv, incV, if_pos d.isLt]
    · rw [B1.dv, incV, if_neg (by omega), Nat.add_sub_cancel_left]
    · rw [hs.V, if_neg (by omega), if_pos h, ← EReal.coe_add, add_zero]

/-! ## A block that is masked out -/

namespace Blk

variable {b : Blk Ideal} (h : ∀ X (i j : Fin 256), b.mA X (ix2 i j) = 0)
include h

theorem A_void (i j : Fin 256) : b.A (ix2 i j) = 0 := by
  have hA : b.A (ix2 i j) = b.mA (exp (addf (addf (subf b.z b.sp) b.S) (broadcastTo S256x256 b.r broadcasts_S256x1_S256x256))) (ix2 i j) := by
    unfold Blk.A
    pointwise []
  rw [hA, h]

theorem dz_void (i j : Fin 256) : b.dz (ix2 i j) = 0 := by
  unfold Blk.dz
  pointwise []
  rw [h, zero_mul]

theorem dq_void (i : Fin 256) (d : Fin 128) : b.dq (ix2 i d) = 0 := by
  unfold Blk.dq
  pointwise []
  simp only [dz_void h, zero_mul, Finset.sum_const_zero]

theorem dk_void (X : FVec Ideal S128x256 .f32) (d : Fin 128) (j : Fin 256) : b.dk X (ix2 d j) = X (ix2 d j) + 0 := by
  unfold Blk.dk
  pointwise []
  simp only [dz_void h, mul_zero, Finset.sum_const_zero, add_zero]

theorem dv_void (X : FVec Ideal S128x256 .f32) (d : Fin 128) (j : Fin 256) : b.dv X (ix2 d j) = X (ix2 d j) + 0 := by
  unfold Blk.dv
  pointwise []
  simp only [A_void h, mul_zero, Finset.sum_const_zero, add_zero]

end Blk

/-- A key block that is masked out changes no gradient. -/
theorem pair_void {mL mA : FVec Ideal S256x256 .f32 → FVec Ideal S256x256 .f32} {n : Env Ideal} {x0 x1 : HR} {t0 s0 m : ℕ}
    {o0 o1 p0 p1 : Fin 2 → ℕ} (ep0 : p0 = ![0, s0]) (ep1 : p1 = ![128, s0])
    (ho0 ho1 hp0 hp1) {s : Car Ideal} {K0 V0 : ℕ → ℕ → ℝ} (hN : s0 + 256 ≤ N)
    (hA : ∀ X (i j : Fin 256), mA X (ix2 i j) = 0) (hs : Out s x0 x1 t0 m K0 V0) :
    Out (pair mL mA n (o0 := o0) (o1 := o1) (p0 := p0) (p1 := p1) ho0 ho1 hp0 hp1 addf s) x0 x1 t0 m K0 V0 := by
  refine ⟨fun i d => ?_, fun i d => ?_, fun c l => ?_, fun c l => ?_⟩
  · rw [pair]; simp only []
    rw [addf_apply, Blk.dq_void hA, hs.q0]
    exact add_zero _
  · rw [pair]; simp only []
    rw [addf_apply, Blk.dq_void hA, hs.q1]
    exact add_zero _
  · rw [pair]; simp only []
    exact st_two ep0 ep1 hp0 hp1 hN s.K _ _ (fun c l => 0)
      (fun c l => ((K0 c l + if m ≤ l then incK x0 x1 t0 (t0 + 256) c l else 0 : ℝ) : EReal)) (fun c l _ => hs.K c l)
      (fun Y d j => Blk.dk_void hA Y d j) (fun Y d j => Blk.dk_void hA Y d j)
      (fun c l _ _ => (add_zero _).trans (hs.K c l)) c l
  · rw [pair]; simp only []
    exact st_two ep0 ep1 hp0 hp1 hN s.V _ _ (fun c l => 0)
      (fun c l => ((V0 c l + if m ≤ l then incV x0 x1 t0 (t0 + 256) c l else 0 : ℝ) : EReal)) (fun c l _ => hs.V c l)
      (fun Y d j => Blk.dv_void hA Y d j) (fun Y d j => Blk.dv_void hA Y d j)
      (fun c l _ _ => (add_zero _).trans (hs.V c l)) c l

/-! ## The walk -/

theorem rmax_gt (r0 r1 : FVec Ideal S256x1 .f32) (x : ℝ) (h : r0 (ix2 0 0) = (x : EReal)) : (⊥ : EReal) < rmax r0 r1 := by
  have h0 : (⊥ : EReal) < k0_pay134 r0 := by
    pointwise [k0_pay134]
    refine (Finset.lt_fold_max _).mpr (.inr ⟨0, Finset.mem_univ _, ?_⟩)
    rw [show r0 (ix2 (0 : Fin 256 × Fin 1).1 0) = (x : EReal) from h]
    exact EReal.bot_lt_coe x
  exact lt_of_lt_of_le h0 (le_max_left _ _)

theorem goes_neg (x : Ideal .f32) : ¬goes (F := Ideal) (Scalar.subi (BitVec.ofNat 32 0) 1#32) x := by
  unfold goes
  generalize Scalar.cmpf (F := Ideal) _ _ _ = y
  revert y
  decide

theorem goes_first (x : Ideal .f32) : ¬goes (F := Ideal) (Scalar.subi (BitVec.ofNat 32 0) 2#32) x := by
  unfold goes
  generalize Scalar.cmpf (F := Ideal) _ _ _ = y
  revert y
  decide

theorem skip_bot : (Named.named κ "skip" 0xC2D00000#32 : Ideal .f32) = (⊥ : EReal) := by
  rfl

theorem goes_pos (k : ℕ) (hk : k < 32) (x : Ideal .f32) (hx : (⊥ : EReal) < x) : goes (F := Ideal) (BitVec.ofNat 32 k) x := by
  have h1 : Scalar.cmpf (F := Ideal) .ogt x (Named.named κ "skip" 0xC2D00000#32) = 1#1 := by
    rw [skip_bot]
    show BitVec.ofBool (decide ((⊥ : EReal) < x)) = 1#1
    rw [decide_eq_true hx]; rfl
  have h2 : ∀ k : Fin 32, Scalar.andi (Scalar.cmpi .sge (BitVec.ofNat 32 k.val) 0#32) 1#1 = 1#1 := by decide
  unfold goes
  rw [h1]
  exact h2 ⟨k, hk⟩

theorem sub_one (k : ℕ) (hk : k < 32) : Scalar.subi (BitVec.ofNat 32 (k + 1)) 1#32 = BitVec.ofNat 32 k := by
  have h : ∀ k : Fin 32, Scalar.subi (BitVec.ofNat 32 (k.val + 1)) 1#32 = BitVec.ofNat 32 k.val := by decide
  exact h ⟨k, hk⟩

theorem sub_two (k : ℕ) (hk : k < 32) : Scalar.subi (BitVec.ofNat 32 (k + 1)) 2#32 = Scalar.subi (BitVec.ofNat 32 k) 1#32 := by
  have h : ∀ k : Fin 32, Scalar.subi (BitVec.ofNat 32 (k.val + 1)) 2#32 = Scalar.subi (BitVec.ofNat 32 k.val) 1#32 := by decide
  exact h ⟨k, hk⟩

theorem chk (k : ℕ) (hk : k < 32) : k0_chk1 (BitVec.ofNat 32 k) := by
  have h : ∀ k : Fin 32, k0_chk1 (BitVec.ofNat 32 k.val) := by decide +kernel
  exact h ⟨k, hk⟩

theorem off9 (k : ℕ) (hk : k < 32) : k0_off9 (BitVec.ofNat 32 k) = ![k * 256, 0] := by
  have h : ∀ k : Fin 32, k0_off9 (BitVec.ofNat 32 k.val) = ![k.val * 256, 0] := by decide +kernel
  exact h ⟨k, hk⟩
theorem off10 (k : ℕ) (hk : k < 32) : k0_off10 (BitVec.ofNat 32 k) = ![0, k * 256] := by
  have h : ∀ k : Fin 32, k0_off10 (BitVec.ofNat 32 k.val) = ![0, k.val * 256] := by decide +kernel
  exact h ⟨k, hk⟩
theorem off11 (k : ℕ) (hk : k < 32) : k0_off11 (BitVec.ofNat 32 k) = ![k * 256, 128] := by
  have h : ∀ k : Fin 32, k0_off11 (BitVec.ofNat 32 k.val) = ![k.val * 256, 128] := by decide +kernel
  exact h ⟨k, hk⟩
theorem off12 (k : ℕ) (hk : k < 32) : k0_off12 (BitVec.ofNat 32 k) = ![128, k * 256] := by
  have h : ∀ k : Fin 32, k0_off12 (BitVec.ofNat 32 k.val) = ![128, k.val * 256] := by decide +kernel
  exact h ⟨k, hk⟩

/-- The walk ends with every key done. -/
theorem walk_of {n : Env Ideal} {x0 x1 : HR} {t0 : ℕ} {K0 V0 : ℕ → ℕ → ℝ} (hE : EnvOf n x0 x1 t0) (b : ℕ) :
    ∀ (k : ℕ) (s : Car Ideal), k ≤ b → k ≤ 32 → k * 256 ≤ t0 → CarOf s x0 x1 t0 (k * 256) K0 V0 →
      Out (walk n b (Scalar.subi (BitVec.ofNat 32 k) 1#32) s).2 x0 x1 t0 0 K0 V0 := by
  induction b with
  | zero =>
    intro k s hk _ _ hs
    obtain rfl : k = 0 := by omega
    rw [walk]
    simpa using hs.toOut
  | succ b ih =>
    intro k s hk h32 ht hs
    cases k with
    | zero =>
      rw [walk, if_neg (goes_neg _)]
      simpa using hs.toOut
    | succ k =>
      have hk' : k < 32 := by omega
      rw [sub_one k hk', walk, if_pos (goes_pos k hk' _ (rmax_gt _ _ _ (hs.r0 0))), dif_pos (chk k hk')]
      refine ih k _ (by omega) (by omega) (by omega) ?_
      have e : (k + 1) * 256 = k * 256 + 256 := by ring
      rw [e] at hs ht
      exact pair_of (off9 k hk') (off11 k hk') (off10 k hk') (off12 k hk') _ _ _ _
        (by have : k * 256 + 256 ≤ 8192 := by omega
            exact this)
        (fun X i j => by rw [if_pos (by omega)]; rfl) (fun X i j => by rw [if_pos (by omega)]; rfl) hE hs
        (fun b i d => rfl) (fun b i d => rfl)

end Cert.Proof.Attn

end
-- ==== Proof.Attn.Norm.lean ====
/-
  The gradient of the root-mean-square norm over the real numbers, and what the kernel computes of it for one head of a
  query block.
-/
module

public import proofs.«01_k».proof.Proof.Attn.Walk

@[expose] public section

noncomputable section

open Idealize.ShloMosaic
open Idealize.ShloMosaic.TcCoe

namespace Cert.Proof.Attn

open Cert.AttnGradIdeal Cert.AttnGradIdeal.Gen

/-- The mean of squares of a row, with its addend. -/
def ms (o : ℕ → ℕ → ℝ) (t : ℕ) : ℝ := (∑ d : Fin 128, o t d * o t d) * (1 / 128) + eps

/-- One over the root of the mean of squares. -/
def rn (o : ℕ → ℕ → ℝ) (t : ℕ) : ℝ := (Real.sqrt (ms o t))⁻¹

theorem ms_pos (o : ℕ → ℕ → ℝ) (t : ℕ) : 0 < ms o t := by
  have := eps_spec.2
  have h : 0 ≤ ∑ d : Fin 128, o t d * o t d := Finset.sum_nonneg fun d _ => mul_self_nonneg _
  unfold ms
  positivity

/-- The gradient that the norm hands on. -/
def nd (o dy : ℕ → ℕ → ℝ) (g : ℕ → ℝ) (t d : ℕ) : ℝ :=
  rn o t * (dy t d * g d - o t d * rn o t * ((∑ e : Fin 128, dy t e * g e * (o t e * rn o t)) * (1 / 128)))

/-- A head with the gradient of its normed output. -/
def headOf (q k v dy : ℕ → ℕ → ℝ) (g : ℕ → ℝ) : HR := ⟨q, k, v, nd (HR.o ⟨q, k, v, fun _ _ => 0⟩) dy g⟩

theorem headOf_dO (q k v dy : ℕ → ℕ → ℝ) (g : ℕ → ℝ) : (headOf q k v dy g).dO = nd (headOf q k v dy g).o dy g := rfl

theorem rn_coe (o : ℕ → ℕ → ℝ) (t : ℕ) :
    Ideal.rsqrt (Ideal.div ((∑ d : Fin 128, o t d * o t d : ℝ) : EReal) (Ideal.ofBits .f32 0x43000000#32) + Ideal.ofBits .f32 0x358637BD#32)
      = (rn o t : EReal) := by
  have h := ms_pos o t
  rw [ofBits_128, eps_spec.1, Ideal.div_coe (show (128:ℝ) ≠ 0 by norm_num), ← EReal.coe_mul, ← EReal.coe_add, Ideal.rsqrt_coe]
  rw [if_neg (by rw [ms] at h; exact not_lt.mpr h.le), if_neg (by rw [ms] at h; exact h.ne')]
  rfl

section

variable {O D : FVec Ideal S256x128 .f32} {Gn : FVec Ideal S1x128 .f32} {o dy : ℕ → ℕ → ℝ} {g : ℕ → ℝ} {t0 : ℕ}
variable (hO : ∀ (i : Fin 256) (d : Fin 128), O (ix2 i d) = (o (t0 + i) d : EReal))
variable (hD : ∀ (i : Fin 256) (d : Fin 128), D (ix2 i d) = (dy (t0 + i) d : EReal))
variable (hG : ∀ d : Fin 128, Gn (ix2 0 d) = (g d : EReal))

include hO in
theorem pay13_of (i : Fin 256) (d : Fin 128) : k0_pay13 (F := Ideal) O (ix2 i d) = (o (t0 + i) d : EReal) := by
  pointwise [k0_pay13]
  exact hO i d

include hO in
theorem pay14_of (i : Fin 256) : k0_pay14 (F := Ideal) O (ix2 i 0) = (rn o (t0 + i) : EReal) := by
  rw [← rn_coe]
  pointwise [k0_pay14]
  simp only [pay13_of hO, ← EReal.coe_mul, ← coe_sum]

include hO in
theorem pay15_of (i : Fin 256) (d : Fin 128) : k0_pay15 (F := Ideal) O (ix2 i d) = ((o (t0 + i) d * rn o (t0 + i) : ℝ) : EReal) := by
  rw [EReal.coe_mul, ← pay14_of hO, ← pay13_of hO]
  unfold k0_pay15
  generalize k0_pay14 (F := Ideal) O = z
  generalize k0_pay13 (F := Ideal) O = y
  pointwise []

include hD hG in
theorem pay17_of (i : Fin 256) (d : Fin 128) : k0_pay17 (F := Ideal) D Gn (ix2 i d) = ((dy (t0 + i) d * g d : ℝ) : EReal) := by
  pointwise [k0_pay17]
  rw [hD, hG, EReal.coe_mul]

include hO hD hG in
theorem pay18_of (i : Fin 256) :
    k0_pay18 (F := Ideal) O D Gn (ix1 i) = ((∑ e : Fin 128, dy (t0 + i) e * g e * (o (t0 + i) e * rn o (t0 + i)) : ℝ) : EReal) := by
  rw [coe_sum]
  simp only [fun e : Fin 128 => EReal.coe_mul (dy (t0 + i) e * g e), ← pay15_of hO, ← pay17_of hD hG]
  unfold k0_pay18
  generalize k0_pay15 (F := Ideal) O = z
  generalize k0_pay17 (F := Ideal) D Gn = y
  pointwise []

include hO hD hG in
theorem pay19_of (i : Fin 256) (d : Fin 128) :
    k0_pay19 (F := Ideal) (k0_pay14 O) (k0_pay15 O) (k0_pay17 D Gn) (k0_pay18 O D Gn) (ix2 i d) = (nd o dy g (t0 + i) d : EReal) := by
  have h14 := pay14_of hO i
  have h15 := pay15_of hO i d
  have h17 := pay17_of hD hG i d
  have h18 := pay18_of hO hD hG i
  generalize k0_pay14 (F := Ideal) O = a at *
  generalize k0_pay15 (F := Ideal) O = b at *
  generalize k0_pay17 (F := Ideal) D Gn = c at *
  generalize k0_pay18 (F := Ideal) O D Gn = e at *
  pointwise [k0_pay19]
  rw [h14, h15, h17, h18, ofBits_128, Ideal.div_coe (show (128 : ℝ) ≠ 0 by norm_num)]
  simp only [← EReal.coe_mul, ← EReal.coe_sub]
  rfl

include hO hD hG in
theorem pay20_of (i : Fin 256) :
    k0_pay20 (F := Ideal) (k0_pay13 O) (k0_pay14 O) (k0_pay15 O) (k0_pay17 D Gn) (k0_pay18 O D Gn) (ix2 i 0)
      = ((∑ d : Fin 128, nd o dy g (t0 + i) d * o (t0 + i) d : ℝ) : EReal) := by
  have h13 := pay13_of hO i
  have h19 := pay19_of hO hD hG i
  unfold k0_pay20
  generalize k0_pay19 (F := Ideal) _ _ _ _ = a at *
  generalize k0_pay13 (F := Ideal) O = b at *
  pointwise []
  simp only [h13, h19, ← EReal.coe_mul, ← coe_sum]

include hO hD in
/-- The gain's gradient with the block's rows added. -/
theorem pay16_of (X : FVec Ideal S1x128 .f32) (d : Fin 128) :
    k0_pay16 (F := Ideal) O D X (ix2 0 d)
      = X (ix2 0 d) + ((∑ i : Fin 256, dy (t0 + i) d * (o (t0 + i) d * rn o (t0 + i)) : ℝ) : EReal) := by
  have h15 := pay15_of hO
  unfold k0_pay16
  generalize k0_pay15 (F := Ideal) O = b at *
  pointwise []
  simp only [h15, hD, ← EReal.coe_mul, ← coe_sum]

end

/-- The head's operands, from the queries, the forward output, the incoming gradient and the gain. -/
theorem headOf_of {Q : FVec Ideal S256x128 .bf16} {O D : FVec Ideal S256x128 .f32} {Gn : FVec Ideal S1x128 .f32}
    {q k v dy : ℕ → ℕ → ℝ} {g : ℕ → ℝ} {t0 : ℕ}
    (hQ : ∀ (i : Fin 256) (d : Fin 128), Q (ix2 i d) = (q (t0 + i) d : EReal))
    (hO : ∀ (i : Fin 256) (d : Fin 128), O (ix2 i d) = ((headOf q k v dy g).o (t0 + i) d : EReal))
    (hD : ∀ (i : Fin 256) (d : Fin 128), D (ix2 i d) = (dy (t0 + i) d : EReal))
    (hG : ∀ d : Fin 128, Gn (ix2 0 d) = (g d : EReal)) : HeadOf (Head.mk' Q O D Gn) (headOf q k v dy g) t0 where
  q := hQ
  dO i d := pay19_of hO hD hG i d
  qT d i := by
    show k0_pay29 (F := Ideal) Q (ix2 d i) = _
    pointwise [k0_pay29]
    exact hQ i d
  dOT d i := by
    show k0_pay31 (F := Ideal) (k0_pay19 (k0_pay14 O) (k0_pay15 O) (k0_pay17 D Gn) (k0_pay18 O D Gn)) (ix2 d i) = _
    have h19 := pay19_of hO hD hG i d
    generalize k0_pay19 (F := Ideal) _ _ _ _ = a at *
    pointwise [k0_pay31]
    exact h19
  delta i := pay20_of hO hD hG i

end Cert.Proof.Attn

end
-- ==== Proof.Attn.Point.lean ====
/-
  One grid point over the extended reals, from real operands: the three results it leaves.
-/
module

public import proofs.«01_k».proof.Proof.Attn.Norm

@[expose] public section

noncomputable section

open Idealize.ShloMosaic
open Idealize.ShloMosaic.TcCoe

namespace Cert.Proof.Attn

open Cert.AttnGradIdeal Cert.AttnGradIdeal.Gen

/-! ## Where a point's blocks lie -/

/-- The point's query block. -/
abbrev nb (i : grid0.Coords) : Fin 32 := i 1

theorem off1 (i : grid0.Coords) : k0_off1 i = ![(nb i).val * 256, 0] := by
  have h : ∀ k : Fin 32, ![(Scalar.indexCast (Scalar.muli (BitVec.ofNat 32 k.val) 256#32)).toNat, 0] = ![k.val * 256, 0] := by decide +kernel
  exact h (nb i)
theorem off3 (i : grid0.Coords) : k0_off3 i = ![(nb i).val * 256, 128] := by
  have h : ∀ k : Fin 32, ![(Scalar.indexCast (Scalar.muli (BitVec.ofNat 32 k.val) 256#32)).toNat, 128] = ![k.val * 256, 128] := by decide +kernel
  exact h (nb i)
theorem off2 (i : grid0.Coords) : k0_off2 i = ![0, (nb i).val * 256] := by
  have h : ∀ k : Fin 32, ![0, (Scalar.indexCast (Scalar.muli (BitVec.ofNat 32 k.val) 256#32)).toNat] = ![0, k.val * 256] := by decide +kernel
  exact h (nb i)
theorem off4 (i : grid0.Coords) : k0_off4 i = ![128, (nb i).val * 256] := by
  have h : ∀ k : Fin 32, ![128, (Scalar.indexCast (Scalar.muli (BitVec.ofNat 32 k.val) 256#32)).toNat] = ![128, k.val * 256] := by decide +kernel
  exact h (nb i)
/-- The word of the block before, the first block's being itself. -/
abbrev prevWord (k : Fin 32) : ℕ :=
  (Scalar.indexCast (Scalar.muli (Scalar.maxsi (Scalar.subi (BitVec.ofNat 32 k.val) 1#32) 0#32) 256#32)).toNat
theorem prevWord_eq : ∀ k : Fin 32, prevWord k = (k.val - 1) * 256 := by decide +kernel
theorem off5 (i : grid0.Coords) : k0_off5 i = ![((nb i).val - 1) * 256, 0] := by rw [← prevWord_eq]; rfl
theorem off7 (i : grid0.Coords) : k0_off7 i = ![((nb i).val - 1) * 256, 128] := by rw [← prevWord_eq]; rfl
theorem off6 (i : grid0.Coords) : k0_off6 i = ![0, ((nb i).val - 1) * 256] := by rw [← prevWord_eq]; rfl
theorem off8 (i : grid0.Coords) : k0_off8 i = ![128, ((nb i).val - 1) * 256] := by rw [← prevWord_eq]; rfl

/-! ## The masks -/

theorem mDiag_of (X : FVec Ideal S256x256 .f32) (t0 : ℕ) (i j : Fin 256) :
    mDiag X (ix2 i j) = if t0 + j.val < t0 + i.val then X (ix2 i j) else 0 := by
  have e : mDiag X (ix2 i j) = Scalar.select (IntOp.cmpi .slt (BitVec.ofNat 32 j.val) (BitVec.ofNat 32 i.val)) (X (ix2 i j)) 0 := by
    unfold mDiag
    pointwise [k0_pay37]
  rw [e, WordCmp.cmpi_slt_ofNat (by have := j.isLt; omega) (by have := i.isLt; omega)]
  by_cases h : j.val < i.val
  · rw [if_pos (by omega), decide_eq_true h]; rfl
  · rw [if_neg (by omega), decide_eq_false h]; rfl

theorem mPrev_first {i : grid0.Coords} (h : (nb i).val = 0) (X : FVec Ideal S256x256 .f32) (a b : Fin 256) :
    mPrev i X (ix2 a b) = 0 := by
  have e : (i 1).val = 0 := h
  unfold mPrev
  rw [e]
  pointwise []
  rfl

theorem mPrev_later {i : grid0.Coords} (h : (nb i).val ≠ 0) (X : FVec Ideal S256x256 .f32) : mPrev i X = X := by
  have e : ∀ k : Fin 32, k.val ≠ 0 → Scalar.cmpi .sgt (BitVec.ofNat 32 k.val) 0#32 = 1#1 := by decide
  have e' : Scalar.cmpi .sgt (BitVec.ofNat 32 (i 1).val) 0#32 = 1#1 := e (nb i) h
  unfold mPrev
  rw [e']
  rfl

/-! ## The point -/

/-- The walk's results at one point. -/
theorem car3_of {i : grid0.Coords} {x : In Ideal} {x0 x1 : HR} {K V : Vec Ideal S256x8192 .f32} {K0 V0 : ℕ → ℕ → ℝ}
    (hE : EnvOf x.env x0 x1 ((nb i).val * 256))
    (hK : ∀ (c : Fin 256) (l : Fin 8192), start (F := Ideal) i call K (k0_pay8 (F := Ideal)) (ix2 c l) = (K0 c l : EReal))
    (hV : ∀ (c : Fin 256) (l : Fin 8192), start (F := Ideal) i call V (k0_pay9 (F := Ideal)) (ix2 c l) = (V0 c l : EReal)) :
    Out (car3 i x K V) x0 x1 ((nb i).val * 256) 0 K0 V0 := by
  have hb := (nb i).isLt
  have hcar0 : CarOf (car0 i K V) x0 x1 ((nb i).val * 256) ((nb i).val * 256 + 256) K0 V0 := by
    refine ⟨⟨fun j d => ?_, fun j d => ?_, fun c l => ?_, fun c l => ?_⟩, fun j => ?_, fun j => ?_, fun j => ?_, fun j => ?_⟩
    · rw [HR.sum_zero (t := (nb i).val * 256 + j.val) (fun s hs => by rw [x0.dz_zero hs, zero_mul]) (by omega)]
      show (constant S256x128 .f32 0#32 : FVec Ideal S256x128 .f32) (ix2 j d) = _
      pointwise []
      rfl
    · rw [HR.sum_zero (t := (nb i).val * 256 + j.val) (fun s hs => by rw [x1.dz_zero hs, zero_mul]) (by omega)]
      show (constant S256x128 .f32 0#32 : FVec Ideal S256x128 .f32) (ix2 j d) = _
      pointwise []
      rfl
    · refine (hK c l).trans ?_
      congr 1
      split
      · rename_i hl
        unfold incK
        split <;> rw [Finset.sum_eq_zero, add_zero] <;> intro u hu <;> rw [HR.dz_zero _ (by have := Finset.mem_Ico.1 hu; omega), mul_zero]
      · rw [add_zero]
    · refine (hV c l).trans ?_
      congr 1
      split
      · rename_i hl
        unfold incV
        split <;> rw [Finset.sum_eq_zero, add_zero] <;> intro u hu <;> rw [HR.A_zero _ (by have := Finset.mem_Ico.1 hu; omega), mul_zero]
      · rw [add_zero]
    · rw [HR.sum_zero (t := (nb i).val * 256 + j.val) (fun s hs => x0.L_zero hs) (by omega)]
      show k0_pay33 (F := Ideal) (ix2 j 0) = _
      pointwise [k0_pay33]
      rfl
    · rw [HR.sum_zero (t := (nb i).val * 256 + j.val) (fun s hs => x1.L_zero hs) (by omega)]
      show k0_pay33 (F := Ideal) (ix2 j 0) = _
      pointwise [k0_pay33]
      rfl
    · rw [HR.sum_zero (t := (nb i).val * 256 + j.val) (fun s hs => x0.G_zero hs) (by omega)]
      show k0_pay33 (F := Ideal) (ix2 j 0) = _
      pointwise [k0_pay33]
      rfl
    · rw [HR.sum_zero (t := (nb i).val * 256 + j.val) (fun s hs => x1.G_zero hs) (by omega)]
      show k0_pay33 (F := Ideal) (ix2 j 0) = _
      pointwise [k0_pay33]
      rfl
  have hcar1 : CarOf (car1 i x K V) x0 x1 ((nb i).val * 256) ((nb i).val * 256) K0 V0 :=
    pair_of (off1 i) (off3 i) (off2 i) (off4 i) _ _ _ _ (show (nb i).val * 256 + 256 ≤ 8192 by omega)
      (fun X a b => mDiag_of X _ a b) (fun X a b => mDiag_of X _ a b) hE hcar0
      (fun b j d => by
        show b (ix2 j d) = (constant S256x128 .f32 0#32 : FVec Ideal S256x128 .f32) (ix2 j d) + b (ix2 j d)
        pointwise [zero_add])
      (fun b j d => by
        show b (ix2 j d) = (constant S256x128 .f32 0#32 : FVec Ideal S256x128 .f32) (ix2 j d) + b (ix2 j d)
        pointwise [zero_add])
  by_cases h0 : (nb i).val = 0
  · have e : BitVec.ofNat 32 (i 1).val = BitVec.ofNat 32 0 := congrArg (BitVec.ofNat 32) h0
    have h1 : Out (car1 i x K V) x0 x1 ((nb i).val * 256) 0 K0 V0 := by
      have := hcar1.toOut
      rw [h0] at this ⊢
      exact this
    unfold car3
    rw [e, walk, if_neg (goes_first _)]
    exact pair_void (off6 i) (off8 i) _ _ _ _ (show ((nb i).val - 1) * 256 + 256 ≤ 8192 by omega) (mPrev_first h0) h1
  · have hk : (nb i).val = ((nb i).val - 1) + 1 := by omega
    have e : Scalar.subi (BitVec.ofNat 32 (i 1).val) 2#32 = Scalar.subi (BitVec.ofNat 32 ((nb i).val - 1)) 1#32 := by
      rw [← sub_two ((nb i).val - 1) (by omega), ← hk]
    unfold car3
    rw [e]
    refine walk_of hE 32 _ _ (by omega) (by omega) (by omega) ?_
    have e1 : (nb i).val * 256 = ((nb i).val - 1) * 256 + 256 := by omega
    refine pair_of (off5 i) (off7 i) (off6 i) (off8 i) _ _ _ _ (show ((nb i).val - 1) * 256 + 256 ≤ 8192 by omega)
      (fun X a b => ?_) (fun X a b => ?_) hE ?_ (fun b j d => rfl) (fun b j d => rfl)
    · rw [if_pos (by omega)]; rfl
    · rw [if_pos (by omega), mPrev_later h0]
    · rw [← e1]; exact hcar1

end Cert.Proof.Attn

end
-- ==== Proof.Attn.Arrays.lean ====
/-
  What the backward attention reads of its arrays at each grid point, when they hold real numbers.
-/
module

public import proofs.«01_k».proof.Proof.Attn.Point
public import Idealize.ShloMosaic.Lib.Pipeline.ValueKit

@[expose] public section

noncomputable section

open Idealize.ShloMosaic
open Idealize.ShloMosaic.TcCoe
open Idealize.ShloMosaic.Pipeline (Dat)

namespace Cert.Proof.Attn

open Cert.AttnGradIdeal Cert.AttnGradIdeal.Gen

/-- The real numbers the arguments hold: queries, keys, values, the incoming gradient of the normed output, the gain. -/
structure Data where
  q : ℕ → ℕ → ℝ
  k : ℕ → ℕ → ℝ
  v : ℕ → ℕ → ℝ
  dy : ℕ → ℕ → ℝ
  g : ℕ → ℝ

/-- Head `h` of the data: its 128 columns. -/
def Data.head (D : Data) (h : ℕ) : HR :=
  headOf (fun t d => D.q t (h * 128 + d)) (fun t d => D.k t (h * 128 + d)) (fun t d => D.v t (h * 128 + d))
    (fun t d => D.dy t (h * 128 + d)) (fun d => D.g (h * 128 + d))

variable (m : (ℓ : Loc nD τ sig) → Buf (Elt Ideal) ℓ)

/-- The call's arrays hold the data. -/
structure Holds (c : Dev nD) (D : Data) : Prop where
  q : ∀ (t : Fin 8192) (e : Fin 1024), V m c main_arg0 (ix2 t e) = (D.q t e : EReal)
  k : ∀ (t : Fin 8192) (e : Fin 1024), V m c main_arg1 (ix2 t e) = (D.k t e : EReal)
  v : ∀ (t : Fin 8192) (e : Fin 1024), V m c main_arg2 (ix2 t e) = (D.v t e : EReal)
  o : ∀ (t : Fin 8192) (h d : ℕ) (hh : h * 128 + d < 1024), d < 128 → V m c main_v29 (ix2 t ⟨h * 128 + d, hh⟩) = ((D.head h).o t d : EReal)
  dy : ∀ (t : Fin 8192) (e : ℕ) (h : 1024 + e < 2048), V m c main_arg3 (ix2 t ⟨1024 + e, h⟩) = (D.dy t e : EReal)
  g : ∀ e : Fin 1024, V m c main_arg4 (ix2 0 e) = (D.g e : EReal)
  m4 : ∀ a j : Fin 256, V m c main_v32 (ix2 a j) = ((if j.val + 1 ≤ a.val then 1 else 0 : ℝ) : EReal)
  m6 : ∀ a j : Fin 256, V m c main_v35 (ix2 a j) = ((if j.val ≤ a.val then 1 else 0 : ℝ) : EReal)

/-! ## The blocks -/

/-- The point's pair of heads. -/
abbrev hp (i : grid0.Coords) : Fin 4 := i 0

theorem ix_0 : ∀ t : Fin (cfg0 (F := Ideal)).N, win0_0.index t = ![(grid0.coords t 1).val, (grid0.coords t 0).val] :=
  (by decide +kernel : ∀ t : Fin grid0.N, win0_0.index t = ![(grid0.coords t 1).val, (grid0.coords t 0).val])
theorem ix_1 : ∀ t : Fin (cfg0 (F := Ideal)).N, win0_1.index t = ![0, (grid0.coords t 0).val] :=
  (by decide +kernel : ∀ t : Fin grid0.N, win0_1.index t = ![0, (grid0.coords t 0).val])
theorem ix_2 : ∀ t : Fin (cfg0 (F := Ideal)).N, win0_2.index t = ![0, (grid0.coords t 0).val] :=
  (by decide +kernel : ∀ t : Fin grid0.N, win0_2.index t = ![0, (grid0.coords t 0).val])
theorem ix_3 : ∀ t : Fin (cfg0 (F := Ideal)).N, win0_3.index t = ![(grid0.coords t 1).val, (grid0.coords t 0).val] :=
  (by decide +kernel : ∀ t : Fin grid0.N, win0_3.index t = ![(grid0.coords t 1).val, (grid0.coords t 0).val])
theorem ix_4 : ∀ t : Fin (cfg0 (F := Ideal)).N, win0_4.index t = ![(grid0.coords t 1).val, 4 + (grid0.coords t 0).val] :=
  (by decide +kernel : ∀ t : Fin grid0.N, win0_4.index t = ![(grid0.coords t 1).val, 4 + (grid0.coords t 0).val])
theorem ix_5 : ∀ t : Fin (cfg0 (F := Ideal)).N, win0_5.index t = ![0, (grid0.coords t 0).val] :=
  (by decide +kernel : ∀ t : Fin grid0.N, win0_5.index t = ![0, (grid0.coords t 0).val])
theorem ix_6 : ∀ t : Fin (cfg0 (F := Ideal)).N, win0_6.index t = ![0, 0] :=
  (by decide +kernel : ∀ t : Fin grid0.N, win0_6.index t = ![0, 0])
theorem ix_7 : ∀ t : Fin (cfg0 (F := Ideal)).N, win0_7.index t = ![0, 0] :=
  (by decide +kernel : ∀ t : Fin grid0.N, win0_7.index t = ![0, 0])
theorem ix_8 : ∀ t : Fin (cfg0 (F := Ideal)).N, win0_8.index t = ![(grid0.coords t 1).val, (grid0.coords t 0).val] :=
  (by decide +kernel : ∀ t : Fin grid0.N, win0_8.index t = ![(grid0.coords t 1).val, (grid0.coords t 0).val])
theorem ix_9 : ∀ t : Fin (cfg0 (F := Ideal)).N, win0_9.index t = ![(grid0.coords t 0).val, 0] :=
  (by decide +kernel : ∀ t : Fin grid0.N, win0_9.index t = ![(grid0.coords t 0).val, 0])
theorem ix_10 : ∀ t : Fin (cfg0 (F := Ideal)).N, win0_10.index t = ![(grid0.coords t 0).val, 0] :=
  (by decide +kernel : ∀ t : Fin grid0.N, win0_10.index t = ![(grid0.coords t 0).val, 0])
theorem ix_11 : ∀ t : Fin (cfg0 (F := Ideal)).N, win0_11.index t = ![0, (grid0.coords t 0).val] :=
  (by decide +kernel : ∀ t : Fin grid0.N, win0_11.index t = ![0, (grid0.coords t 0).val])

variable (c : Dev nD) (t : Fin (cfg0 (F := Ideal)).N)

theorem blk0 (i : Fin 256) (j : Fin 256) (h0 : (grid0.coords t 1).val * 256 + i.val < 8192) (h1 : (grid0.coords t 0).val * 256 + j.val < 1024) :
    iblk m c 0 t (ix2 i j) = V m c main_arg0 (ix2 ⟨(grid0.coords t 1).val * 256 + i.val, h0⟩ ⟨(grid0.coords t 0).val * 256 + j.val, h1⟩) := by
  show _ = V m c (Pipeline.arrRef spec0 0) (ix2 ⟨(grid0.coords t 1).val * 256 + i.val, h0⟩ ⟨(grid0.coords t 0).val * 256 + j.val, h1⟩)
  unfold iblk
  generalize V m c (Pipeline.arrRef spec0 0) = A
  blk_simp
  congr 1
  blk_ext [ix_0]
theorem blk1 (i : Fin 8192) (j : Fin 256) (h1 : (grid0.coords t 0).val * 256 + j.val < 1024) :
    iblk m c 1 t (ix2 i j) = V m c main_arg1 (ix2 i ⟨(grid0.coords t 0).val * 256 + j.val, h1⟩) := by
  show _ = V m c (Pipeline.arrRef spec0 1) (ix2 i ⟨(grid0.coords t 0).val * 256 + j.val, h1⟩)
  unfold iblk
  generalize V m c (Pipeline.arrRef spec0 1) = A
  blk_simp
  congr 1
  blk_ext [ix_1]
theorem blk2 (i : Fin 8192) (j : Fin 256) (h1 : (grid0.coords t 0).val * 256 + j.val < 1024) :
    iblk m c 2 t (ix2 i j) = V m c main_arg2 (ix2 i ⟨(grid0.coords t 0).val * 256 + j.val, h1⟩) := by
  show _ = V m c (Pipeline.arrRef spec0 2) (ix2 i ⟨(grid0.coords t 0).val * 256 + j.val, h1⟩)
  unfold iblk
  generalize V m c (Pipeline.arrRef spec0 2) = A
  blk_simp
  congr 1
  blk_ext [ix_2]
theorem blk3 (i : Fin 256) (j : Fin 256) (h0 : (grid0.coords t 1).val * 256 + i.val < 8192) (h1 : (grid0.coords t 0).val * 256 + j.val < 1024) :
    iblk m c 3 t (ix2 i j) = V m c main_v29 (ix2 ⟨(grid0.coords t 1).val * 256 + i.val, h0⟩ ⟨(grid0.coords t 0).val * 256 + j.val, h1⟩) := by
  show _ = V m c (Pipeline.arrRef spec0 3) (ix2 ⟨(grid0.coords t 1).val * 256 + i.val, h0⟩ ⟨(grid0.coords t 0).val * 256 + j.val, h1⟩)
  unfold iblk
  generalize V m c (Pipeline.arrRef spec0 3) = A
  blk_simp
  congr 1
  blk_ext [ix_3]
theorem blk4 (i : Fin 256) (j : Fin 256) (h0 : (grid0.coords t 1).val * 256 + i.val < 8192) (h1 : (4 + (grid0.coords t 0).val) * 256 + j.val < 2048) :
    iblk m c 4 t (ix2 i j) = V m c main_arg3 (ix2 ⟨(grid0.coords t 1).val * 256 + i.val, h0⟩ ⟨(4 + (grid0.coords t 0).val) * 256 + j.val, h1⟩) := by
  show _ = V m c (Pipeline.arrRef spec0 4) (ix2 ⟨(grid0.coords t 1).val * 256 + i.val, h0⟩ ⟨(4 + (grid0.coords t 0).val) * 256 + j.val, h1⟩)
  unfold iblk
  generalize V m c (Pipeline.arrRef spec0 4) = A
  blk_simp
  congr 1
  blk_ext [ix_4]
theorem blk5 (i : Fin 1) (j : Fin 256) (h1 : (grid0.coords t 0).val * 256 + j.val < 1024) :
    iblk m c 5 t (ix2 i j) = V m c main_arg4 (ix2 i ⟨(grid0.coords t 0).val * 256 + j.val, h1⟩) := by
  show _ = V m c (Pipeline.arrRef spec0 5) (ix2 i ⟨(grid0.coords t 0).val * 256 + j.val, h1⟩)
  unfold iblk
  generalize V m c (Pipeline.arrRef spec0 5) = A
  blk_simp
  congr 1
  blk_ext [ix_5]
/-- The mask's block is the whole mask. -/
theorem rect_6 (x : S256x256.Idx) : (win0_6.rect t).emb x = x := by
  funext a; apply Fin.ext
  rw [Rect.emb_apply]
  match a with
  | 0 =>
    show win0_6.index t 0 * 256 + 1 * (x 0).val = _
    rw [congrFun (ix_6 t) 0]
    simp
  | 1 =>
    show win0_6.index t 1 * 256 + 1 * (x 1).val = _
    rw [congrFun (ix_6 t) 1]
    simp
theorem read_6 (A : main_v32.ty.Contents (Elt Ideal)) (x : S256x256.Idx) :
    ((View.whole main_v32).slice (win0_6.rect t)).read (Elt Ideal) A x = A ((win0_6.rect t).emb x) := rfl
theorem blk6 (x : S256x256.Idx) : iblk m c 6 t x = V m c main_v32 x :=
  (show iblk m c 6 t x = ((View.whole main_v32).slice (win0_6.rect t)).read (Elt Ideal) (V m c main_v32) x from rfl).trans
    ((read_6 t _ x).trans (congrArg (V m c main_v32) (rect_6 t x)))
/-- The mask's block is the whole mask. -/
theorem rect_7 (x : S256x256.Idx) : (win0_7.rect t).emb x = x := by
  funext a; apply Fin.ext
  rw [Rect.emb_apply]
  match a with
  | 0 =>
    show win0_7.index t 0 * 256 + 1 * (x 0).val = _
    rw [congrFun (ix_7 t) 0]
    simp
  | 1 =>
    show win0_7.index t 1 * 256 + 1 * (x 1).val = _
    rw [congrFun (ix_7 t) 1]
    simp
theorem read_7 (A : main_v35.ty.Contents (Elt Ideal)) (x : S256x256.Idx) :
    ((View.whole main_v35).slice (win0_7.rect t)).read (Elt Ideal) A x = A ((win0_7.rect t).emb x) := rfl
theorem blk7 (x : S256x256.Idx) : iblk m c 7 t x = V m c main_v35 x :=
  (show iblk m c 7 t x = ((View.whole main_v35).slice (win0_7.rect t)).read (Elt Ideal) (V m c main_v35) x from rfl).trans
    ((read_7 t _ x).trans (congrArg (V m c main_v35) (rect_7 t x)))

/-- What a point reads, of the data: the pair `p` of heads and the query block from row `t0`. -/
structure InOf (x : In Ideal) (D : Data) (p t0 : ℕ) : Prop where
  q : ∀ i j : Fin 256, x.X2 (ix2 i j) = (D.q (t0 + i) (p * 256 + j) : EReal)
  k : ∀ (s : Fin 8192) (j : Fin 256), x.X3 (ix2 s j) = (D.k s (p * 256 + j) : EReal)
  v : ∀ (s : Fin 8192) (j : Fin 256), x.X4 (ix2 s j) = (D.v s (p * 256 + j) : EReal)
  o0 : ∀ (i : Fin 256) (d : Fin 128) (h : 0 + d.val < 256), x.X5 (ix2 i ⟨0 + d.val, h⟩) = ((D.head (2 * p)).o (t0 + i) d : EReal)
  o1 : ∀ (i : Fin 256) (d : Fin 128) (h : 128 + d.val < 256), x.X5 (ix2 i ⟨128 + d.val, h⟩) = ((D.head (2 * p + 1)).o (t0 + i) d : EReal)
  dy : ∀ i j : Fin 256, x.X6 (ix2 i j) = (D.dy (t0 + i) (p * 256 + j) : EReal)
  g : ∀ j : Fin 256, x.X7 (ix2 0 j) = (D.g (p * 256 + j) : EReal)
  m4 : ∀ a j : Fin 256, x.X8 (ix2 a j) = ((if j.val + 1 ≤ a.val then 1 else 0 : ℝ) : EReal)
  m6 : ∀ a j : Fin 256, x.X9 (ix2 a j) = ((if j.val ≤ a.val then 1 else 0 : ℝ) : EReal)

theorem inp_X2 : (inp m c t).X2 = iblk m c 0 t := rfl
theorem inp_X3 : (inp m c t).X3 = iblk m c 1 t := rfl
theorem inp_X4 : (inp m c t).X4 = iblk m c 2 t := rfl
theorem inp_X5 : (inp m c t).X5 = iblk m c 3 t := rfl
theorem inp_X6 : (inp m c t).X6 = iblk m c 4 t := rfl
theorem inp_X7 : (inp m c t).X7 = iblk m c 5 t := rfl
theorem inp_X8 (x : S256x256.Idx) : (inp m c t).X8 x = V m c main_v32 x := by
  have h := blk6 m c t x
  generalize V m c main_v32 = A at h ⊢
  unfold inp
  generalize iblk m c 6 t = B at h ⊢
  exact h
theorem inp_X9 (x : S256x256.Idx) : (inp m c t).X9 x = V m c main_v35 x := by
  unfold inp
  exact blk7 m c t x

theorem inp_of {D : Data} (hD : Holds m c D) : InOf (inp m c t) D (grid0.coords t 0).val ((grid0.coords t 1).val * 256) := by
  have b0 : (grid0.coords t 0).val < 4 := (grid0.coords t 0).isLt
  have b1 : (grid0.coords t 1).val < 32 := (grid0.coords t 1).isLt
  have B0 := blk0 m c t
  have B1 := blk1 m c t
  have B2 := blk2 m c t
  have B3 := blk3 m c t
  have B4 := blk4 m c t
  have B5 := blk5 m c t
  have B6 := inp_X8 m c t
  have B7 := inp_X9 m c t
  rw [← inp_X2] at B0
  rw [← inp_X3] at B1
  rw [← inp_X4] at B2
  rw [← inp_X5] at B3
  rw [← inp_X6] at B4
  rw [← inp_X7] at B5
  obtain ⟨hq, hk, hv, hO, hY, hg, h4, h6⟩ := hD
  generalize (grid0.coords t 0).val = p at *
  generalize (grid0.coords t 1).val = n at *
  generalize inp m c t = x at *
  generalize V m c main_arg0 = A0 at *
  generalize V m c main_arg1 = A1 at *
  generalize V m c main_arg2 = A2 at *
  generalize V m c main_arg3 = A3 at *
  generalize V m c main_arg4 = A4 at *
  generalize V m c main_v29 = A5 at *
  generalize V m c main_v32 = A6 at *
  generalize V m c main_v35 = A7 at *
  constructor
  · exact fun i j => (B0 i j (by omega) (by omega)).trans (hq _ _)
  · exact fun s j => (B1 s j (by omega)).trans (hk _ _)
  · exact fun s j => (B2 s j (by omega)).trans (hv _ _)
  · intro i d h
    refine (B3 i ⟨0 + d.val, h⟩ (by omega) (by simp only; omega)).trans (Eq.trans ?_ (hO ⟨n * 256 + i.val, by omega⟩ (2 * p) d (by omega) (by omega)))
    have e : p * 256 + (0 + d.val) = 2 * p * 128 + d.val := by ring
    simp only [e]
  · intro i d h
    refine (B3 i ⟨128 + d.val, h⟩ (by omega) (by simp only; omega)).trans (Eq.trans ?_ (hO ⟨n * 256 + i.val, by omega⟩ (2 * p + 1) d (by omega) (by omega)))
    have e : p * 256 + (128 + d.val) = (2 * p + 1) * 128 + d.val := by ring
    simp only [e]
  · intro i j
    refine (B4 i j (by omega) (by omega)).trans (Eq.trans ?_ (hY ⟨n * 256 + i.val, by omega⟩ (p * 256 + j.val) (by omega)))
    have e : (4 + p) * 256 + j.val = 1024 + (p * 256 + j.val) := by ring
    simp only [e]
  · exact fun j => (B5 0 j (by omega)).trans (hg _)
  · exact fun a j => (B6 (ix2 a j)).trans (h4 a j)
  · exact fun a j => (B7 (ix2 a j)).trans (h6 a j)

/-- Part of a block. -/
theorem ld_sub {α : Type} {a b n k : ℕ} {o0 o1 : ℕ} {inb} (X : (⟨2, ![a, b]⟩ : Shape).Idx → α) (i : Fin n) (j : Fin k)
    (h0 : o0 + i.val < a) (h1 : o1 + j.val < b) :
    ld (Rect.unit (s := (⟨2, ![a, b]⟩ : Shape)) ![o0, o1] ![n, k] inb) X (ix2 i j) = X (ix2 ⟨o0 + i.val, h0⟩ ⟨o1 + j.val, h1⟩) :=
  congrArg X (emb_two i j h0 h1)

theorem ld_lo {α : Type} (X : S256x256.Idx → α) (i : Fin 256) (d : Fin 128) (h : 0 + d.val < 256) :
    ld lo X (ix2 i d) = X (ix2 i ⟨0 + d.val, h⟩) := by
  refine (ld_sub X i d (by omega) h).trans ?_
  simp only [zero_add]
theorem ld_hi {α : Type} (X : S256x256.Idx → α) (i : Fin 256) (d : Fin 128) (h : 128 + d.val < 256) :
    ld hi X (ix2 i d) = X (ix2 i ⟨128 + d.val, h⟩) := by
  refine (ld_sub X i d (by omega) h).trans ?_
  simp only [zero_add]
theorem ld_all {α : Type} (X : S256x256.Idx → α) (i j : Fin 256) : ld all X (ix2 i j) = X (ix2 i j) := by
  refine (ld_sub X i j (by omega) (by omega)).trans ?_
  simp only [zero_add]
theorem ld_rlo {α : Type} (X : S1x256.Idx → α) (d : Fin 128) (h : 0 + d.val < 256) :
    ld rlo X (ix2 0 d) = X (ix2 0 ⟨0 + d.val, h⟩) := ld_sub X 0 d (by omega) h
theorem ld_rhi {α : Type} (X : S1x256.Idx → α) (d : Fin 128) (h : 128 + d.val < 256) :
    ld rhi X (ix2 0 d) = X (ix2 0 ⟨128 + d.val, h⟩) := ld_sub X 0 d (by omega) h

theorem pay11_of (X : Vec Ideal S256x256 .bf16) (i : S256x256.Idx) : k0_pay11 (F := Ideal) X i = X i := by pointwise [k0_pay11]
theorem pay12_of (X : Vec Ideal S256x256 .bf16) (i : S256x256.Idx) : k0_pay12 (F := Ideal) X i = X i := by pointwise [k0_pay12]

section

variable {x : In Ideal} {D : Data} {p t0 : ℕ} (hx : InOf x D p t0)
include hx

theorem q_lo (i : Fin 256) (d : Fin 128) : ld lo x.X2 (ix2 i d) = (D.q (t0 + i) (2 * p * 128 + d) : EReal) := by
  refine (ld_lo x.X2 i d (by omega)).trans ((hx.q i _).trans ?_)
  have e : p * 256 + (0 + d.val) = 2 * p * 128 + d := by ring
  simp only [e]
theorem q_hi (i : Fin 256) (d : Fin 128) : ld hi x.X2 (ix2 i d) = (D.q (t0 + i) ((2 * p + 1) * 128 + d) : EReal) := by
  refine (ld_hi x.X2 i d (by omega)).trans ((hx.q i _).trans ?_)
  have e : p * 256 + (128 + d.val) = (2 * p + 1) * 128 + d := by ring
  simp only [e]
theorem dy_lo (i : Fin 256) (d : Fin 128) : ld lo x.X6 (ix2 i d) = (D.dy (t0 + i) (2 * p * 128 + d) : EReal) := by
  refine (ld_lo x.X6 i d (by omega)).trans ((hx.dy i _).trans ?_)
  have e : p * 256 + (0 + d.val) = 2 * p * 128 + d := by ring
  simp only [e]
theorem dy_hi (i : Fin 256) (d : Fin 128) : ld hi x.X6 (ix2 i d) = (D.dy (t0 + i) ((2 * p + 1) * 128 + d) : EReal) := by
  refine (ld_hi x.X6 i d (by omega)).trans ((hx.dy i _).trans ?_)
  have e : p * 256 + (128 + d.val) = (2 * p + 1) * 128 + d := by ring
  simp only [e]
theorem g_lo (d : Fin 128) : ld rlo x.X7 (ix2 0 d) = (D.g (2 * p * 128 + d) : EReal) := by
  refine (ld_rlo x.X7 d (by omega)).trans ((hx.g _).trans ?_)
  have e : p * 256 + (0 + d.val) = 2 * p * 128 + d := by ring
  simp only [e]
theorem g_hi (d : Fin 128) : ld rhi x.X7 (ix2 0 d) = (D.g ((2 * p + 1) * 128 + d) : EReal) := by
  refine (ld_rhi x.X7 d (by omega)).trans ((hx.g _).trans ?_)
  have e : p * 256 + (128 + d.val) = (2 * p + 1) * 128 + d := by ring
  simp only [e]
theorem o_lo (i : Fin 256) (d : Fin 128) : ld lo x.X5 (ix2 i d) = ((D.head (2 * p)).o (t0 + i) d : EReal) :=
  (ld_lo x.X5 i d (by omega)).trans (hx.o0 i d _)
theorem o_hi (i : Fin 256) (d : Fin 128) : ld hi x.X5 (ix2 i d) = ((D.head (2 * p + 1)).o (t0 + i) d : EReal) :=
  (ld_hi x.X5 i d (by omega)).trans (hx.o1 i d _)

theorem head_lo : HeadOf (Head.mk' (ld lo x.X2) (ld lo x.X5) (ld lo x.X6) (ld rlo x.X7)) (D.head (2 * p)) t0 :=
  headOf_of (q := fun t d => D.q t (2 * p * 128 + d)) (k := fun t d => D.k t (2 * p * 128 + d)) (v := fun t d => D.v t (2 * p * 128 + d))
    (dy := fun t d => D.dy t (2 * p * 128 + d)) (g := fun d => D.g (2 * p * 128 + d)) (q_lo hx) (o_lo hx) (dy_lo hx) (g_lo hx)
theorem head_hi : HeadOf (Head.mk' (ld hi x.X2) (ld hi x.X5) (ld hi x.X6) (ld rhi x.X7)) (D.head (2 * p + 1)) t0 :=
  headOf_of (q := fun t d => D.q t ((2 * p + 1) * 128 + d)) (k := fun t d => D.k t ((2 * p + 1) * 128 + d)) (v := fun t d => D.v t ((2 * p + 1) * 128 + d))
    (dy := fun t d => D.dy t ((2 * p + 1) * 128 + d)) (g := fun d => D.g ((2 * p + 1) * 128 + d)) (q_hi hx) (o_hi hx) (dy_hi hx) (g_hi hx)

theorem k_lo (s : Fin 8192) (d : Fin 128) (h : 0 + d.val < 256) : x.X3 (ix2 s ⟨0 + d.val, h⟩) = ((D.head (2 * p)).k s d : EReal) := by
  refine (hx.k s _).trans ?_
  have e : p * 256 + (0 + d.val) = 2 * p * 128 + d := by ring
  simp only [e]; rfl
theorem k_hi (s : Fin 8192) (d : Fin 128) (h : 128 + d.val < 256) : x.X3 (ix2 s ⟨128 + d.val, h⟩) = ((D.head (2 * p + 1)).k s d : EReal) := by
  refine (hx.k s _).trans ?_
  have e : p * 256 + (128 + d.val) = (2 * p + 1) * 128 + d := by ring
  simp only [e]; rfl
theorem v_lo (s : Fin 8192) (d : Fin 128) (h : 0 + d.val < 256) : x.X4 (ix2 s ⟨0 + d.val, h⟩) = ((D.head (2 * p)).v s d : EReal) := by
  refine (hx.v s _).trans ?_
  have e : p * 256 + (0 + d.val) = 2 * p * 128 + d := by ring
  simp only [e]; rfl
theorem v_hi (s : Fin 8192) (d : Fin 128) (h : 128 + d.val < 256) : x.X4 (ix2 s ⟨128 + d.val, h⟩) = ((D.head (2 * p + 1)).v s d : EReal) := by
  refine (hx.v s _).trans ?_
  have e : p * 256 + (128 + d.val) = (2 * p + 1) * 128 + d := by ring
  simp only [e]; rfl

/-- What stays the same during the walk. -/
theorem env_of : EnvOf x.env (D.head (2 * p)) (D.head (2 * p + 1)) t0 where
  m4 a j := (pay11_of _ _).trans ((ld_all _ a j).trans (hx.m4 a j))
  m6 a j := (pay12_of _ _).trans ((ld_all _ a j).trans (hx.m6 a j))
  h0 := head_lo hx
  h1 := head_hi hx
  k0 := k_lo hx
  k1 := k_hi hx
  v0 := v_lo hx
  v1 := v_hi hx

end

end Cert.Proof.Attn

end
-- ==== Proof.Attn.Step.lean ====
/-
  What the backward attention keeps from one grid point to the next, over the real numbers: the gradients of the keys, the values
  and the gain, summed over the rows already met.
-/
module

public import proofs.«01_k».proof.Proof.Attn.Arrays

@[expose] public section

noncomputable section

open Idealize.ShloMosaic
open Idealize.ShloMosaic.TcCoe

namespace Cert.Proof.Attn

open Cert.AttnGradIdeal Cert.AttnGradIdeal.Gen

/-- Row `u`'s share of the gain's gradient, at column `d` of head `h`. -/
def Data.gain (D : Data) (h d u : ℕ) : ℝ := D.dy u (h * 128 + d) * ((D.head h).o u d * rn (D.head h).o u)

/-- The gradients, over all rows: of the queries, the keys and the values, column `e` of all heads, and of the gain. -/
def Data.dq (D : Data) (t e : ℕ) : ℝ := ∑ u ∈ Finset.range N, (D.head (e / 128)).dz t u * (D.head (e / 128)).k u (e % 128)
def Data.dk (D : Data) (e l : ℕ) : ℝ := ∑ u ∈ Finset.range N, (D.head (e / 128)).q u (e % 128) * (D.head (e / 128)).dz u l
def Data.dv (D : Data) (e l : ℕ) : ℝ := ∑ u ∈ Finset.range N, (D.head (e / 128)).dO u (e % 128) * (D.head (e / 128)).A u l
def Data.dg (D : Data) (e : ℕ) : ℝ := ∑ u ∈ Finset.range N, D.gain (e / 128) (e % 128) u

/-- The share of the rows from `a` to `b`, at column `e` of the pair. -/
def incG (D : Data) (p a b e : ℕ) : ℝ :=
  if e < 128 then ∑ u ∈ Finset.Ico a b, D.gain (2 * p) e u else ∑ u ∈ Finset.Ico a b, D.gain (2 * p + 1) (e - 128) u

theorem incK_self (x0 x1 : HR) (a c l : ℕ) : incK x0 x1 a a c l = 0 := by
  unfold incK; simp
theorem incV_self (x0 x1 : HR) (a c l : ℕ) : incV x0 x1 a a c l = 0 := by
  unfold incV; simp
theorem incG_self (D : Data) (p a e : ℕ) : incG D p a a e = 0 := by
  unfold incG; simp
theorem incK_add (x0 x1 : HR) (n c l : ℕ) : incK x0 x1 0 n c l + incK x0 x1 n (n + 256) c l = incK x0 x1 0 (n + 256) c l := by
  unfold incK; split <;> exact Finset.sum_Ico_consecutive _ (by omega) (by omega)
theorem incV_add (x0 x1 : HR) (n c l : ℕ) : incV x0 x1 0 n c l + incV x0 x1 n (n + 256) c l = incV x0 x1 0 (n + 256) c l := by
  unfold incV; split <;> exact Finset.sum_Ico_consecutive _ (by omega) (by omega)

/-- What is kept once the rows before `n` are met. -/
structure KeptOf (s : Kept Ideal) (D : Data) (p n : ℕ) : Prop where
  K : ∀ (c : Fin 256) (l : Fin 8192), s.K (ix2 c l) = (incK (D.head (2 * p)) (D.head (2 * p + 1)) 0 n c l : EReal)
  V : ∀ (c : Fin 256) (l : Fin 8192), s.V (ix2 c l) = (incV (D.head (2 * p)) (D.head (2 * p + 1)) 0 n c l : EReal)
  D : ∀ e : Fin 256, s.D (ix2 0 e) = (incG D p 0 n e : EReal)

/-- Where a point starts from: at the first query block from zero, whatever was there. -/
theorem start_of {s : Shape} {i : grid0.Coords} (r : Rect s) (X : s.Idx → Elt Ideal .f32) (z : r.shape.Idx → Elt Ideal .f32)
    (h : ∀ y, ∃ x, r.emb x = y) (hz : ∀ x, z x = (0 : EReal)) (y : s.Idx) (f : EReal)
    (hs : isFirst i → f = 0) (hx : ¬isFirst i → X y = f) : start (F := Ideal) i r X z y = f := by
  unfold start
  by_cases hi : isFirst i
  · rw [if_pos hi, hs hi]
    obtain ⟨x, rfl⟩ := h y
    rw [st_emb, hz]
  · rw [if_neg hi]; exact hx hi

theorem pay8_zero (x : S256x8192.Idx) : k0_pay8 (F := Ideal) x = (0 : EReal) := by
  pointwise [k0_pay8]
theorem pay9_zero (x : S256x8192.Idx) : k0_pay9 (F := Ideal) x = (0 : EReal) := by
  pointwise [k0_pay9]
theorem pay10_zero (x : S1x256.Idx) : k0_pay10 (F := Ideal) x = (0 : EReal) := by
  pointwise [k0_pay10]

section

variable {x : In Ideal} {D : Data} {p : ℕ} {i : grid0.Coords} (hx : InOf x D p ((nb i).val * 256))
variable {s : Kept Ideal} (hs : isFirst i → (nb i).val = 0) (hk : ¬isFirst i → KeptOf s D p ((nb i).val * 256))
include hx hs hk

/-- The point's gradients. -/
theorem car3_kept : Out (car3 i x s.K s.V) (D.head (2 * p)) (D.head (2 * p + 1)) ((nb i).val * 256) 0
    (fun c l => incK (D.head (2 * p)) (D.head (2 * p + 1)) 0 ((nb i).val * 256) c l)
    (fun c l => incV (D.head (2 * p)) (D.head (2 * p + 1)) 0 ((nb i).val * 256) c l) := by
  refine car3_of (env_of hx) (fun c l => ?_) (fun c l => ?_)
  · refine start_of call _ _ call_cover pay8_zero _ _ (fun h => ?_) (fun h => (hk h).K c l)
    rw [hs h, Nat.zero_mul, incK_self]; rfl
  · refine start_of call _ _ call_cover pay9_zero _ _ (fun h => ?_) (fun h => (hk h).V c l)
    rw [hs h, Nat.zero_mul, incV_self]; rfl

theorem gain_start (e : Fin 256) : start (F := Ideal) i rall s.D (k0_pay10 (F := Ideal)) (ix2 0 e) = (incG D p 0 ((nb i).val * 256) e : EReal) := by
  refine start_of rall _ _ rall_cover pay10_zero _ _ (fun h => ?_) (fun h => (hk h).D e)
  rw [hs h, Nat.zero_mul, incG_self]; rfl

end

section

variable {x : In Ideal} {D : Data} {p t0 : ℕ} (hx : InOf x D p t0)
include hx

theorem pay16_lo (X : FVec Ideal S1x128 .f32) (d : Fin 128) :
    k0_pay16 (F := Ideal) (ld lo x.X5) (ld lo x.X6) X (ix2 0 d)
      = X (ix2 0 d) + ((∑ u ∈ Finset.Ico t0 (t0 + 256), D.gain (2 * p) d u : ℝ) : EReal) := by
  rw [pay16_of (o := (D.head (2 * p)).o) (dy := fun t d => D.dy t (2 * p * 128 + d)) (o_lo hx) (dy_lo hx) X d, ← sum_fin_block]
  rfl
theorem pay16_hi (X : FVec Ideal S1x128 .f32) (d : Fin 128) :
    k0_pay16 (F := Ideal) (ld hi x.X5) (ld hi x.X6) X (ix2 0 d)
      = X (ix2 0 d) + ((∑ u ∈ Finset.Ico t0 (t0 + 256), D.gain (2 * p + 1) d u : ℝ) : EReal) := by
  rw [pay16_of (o := (D.head (2 * p + 1)).o) (dy := fun t d => D.dy t ((2 * p + 1) * 128 + d)) (o_hi hx) (dy_hi hx) X d, ← sum_fin_block]
  rfl

end

theorem rlo_emb (d : Fin 128) (h : d.val < 256) : rlo.emb (ix2 0 d) = (ix2 0 ⟨d.val, h⟩ : S1x256.Idx) := by
  refine (emb_two 0 d (by omega) (by omega)).trans ?_
  simp only [zero_add]
theorem rhi_emb (d : Fin 128) (h : 128 + d.val < 256) : rhi.emb (ix2 0 d) = (ix2 0 ⟨128 + d.val, h⟩ : S1x256.Idx) :=
  emb_two 0 d (by omega) (by omega)
theorem rlo_not (e : Fin 256) (h : 128 ≤ e.val) : ¬∃ x, rlo.emb x = (ix2 0 e : S1x256.Idx) := by
  rintro ⟨x, hx⟩
  have h1 : (x 1).val < 128 := (x 1).isLt
  have := congrArg (fun f : S1x256.Idx => (f 1).val) hx
  simp [Rect.emb_apply] at this
  omega
theorem rhi_not (e : Fin 256) (h : e.val < 128) : ¬∃ x, rhi.emb x = (ix2 0 e : S1x256.Idx) := by
  rintro ⟨x, hx⟩
  have := congrArg (fun f : S1x256.Idx => (f 1).val) hx
  simp [Rect.emb_apply] at this
  omega

/-- The gain's gradient after a point, from where the point starts. -/
theorem outD_of {x : In Ideal} {D : Data} {p t0 : ℕ} (hx : InOf x D p t0) {i : grid0.Coords} {X : Vec Ideal S1x256 .f32} {f : ℕ → ℝ}
    (hX : ∀ e : Fin 256, start (F := Ideal) i rall X (k0_pay10 (F := Ideal)) (ix2 0 e) = (f e : EReal)) (e : Fin 256) :
    outD i x X (ix2 0 e) = ((f e + incG D p t0 (t0 + 256) e : ℝ) : EReal) := by
  unfold outD gain0
  generalize start (F := Ideal) i rall X (k0_pay10 (F := Ideal)) = S at *
  by_cases h : e.val < 128
  · obtain ⟨d, hd, rfl⟩ : ∃ (d : Fin 128) (hd : d.val < 256), e = ⟨d.val, hd⟩ := ⟨⟨e.val, h⟩, e.isLt, rfl⟩
    rw [st_of_not _ _ _ _ (rhi_not _ h), ← rlo_emb d (by omega), st_emb, pay16_lo hx, incG, if_pos h, EReal.coe_add]
    congr 1
    rw [← hX]
    exact congrArg S (rlo_emb d _)
  · obtain ⟨d, hd, rfl⟩ : ∃ (d : Fin 128) (hd : 128 + d.val < 256), e = ⟨128 + d.val, hd⟩ :=
      ⟨⟨e.val - 128, by omega⟩, by simp only; omega, Fin.ext (by simp only; omega)⟩
    rw [← rhi_emb d (by omega), st_emb, pay16_hi hx, incG, if_neg h, EReal.coe_add]
    congr 1
    · rw [← hX]
      refine (congrArg _ (rhi_emb d (by omega))).trans ?_
      exact st_of_not _ _ _ _ (rlo_not _ (by simp only; omega))
    · simp only [Nat.add_sub_cancel_left]

section

variable {x : In Ideal} {D : Data} {p : ℕ} {i : grid0.Coords} (hx : InOf x D p ((nb i).val * 256))
variable {s : Kept Ideal} (hs : isFirst i → (nb i).val = 0) (hk : ¬isFirst i → KeptOf s D p ((nb i).val * 256))
include hx hs hk

/-- One point more. -/
theorem step_of : KeptOf (step i x s) D p ((nb i).val * 256 + 256) where
  K c l := by
    refine ((car3_kept hx hs hk).K c l).trans ?_
    rw [if_pos (Nat.zero_le _), incK_add]
  V c l := by
    refine ((car3_kept hx hs hk).V c l).trans ?_
    rw [if_pos (Nat.zero_le _), incV_add]
  D e := by
    refine (outD_of hx (gain_start hx hs hk) e).trans ?_
    congr 1
    unfold incG
    split <;> exact Finset.sum_Ico_consecutive _ (by omega) (by omega)

theorem outQ_lo (Q : Vec Ideal S256x256 .f32) (a : Fin 256) (d : Fin 128) (h : d.val < 256) :
    outQ i x Q s.K s.V (ix2 a ⟨d.val, h⟩) = ((∑ u ∈ Finset.range N, (D.head (2 * p)).dz ((nb i).val * 256 + a) u * (D.head (2 * p)).k u d : ℝ) : EReal) := by
  unfold outQ
  have e : lo.emb (ix2 a d) = (ix2 a ⟨d.val, h⟩ : S256x256.Idx) := by
    refine (emb_two a d (by omega) (by omega)).trans ?_
    simp only [zero_add]
  have ne : ¬∃ x, hi.emb x = (ix2 a ⟨d.val, h⟩ : S256x256.Idx) := by
    rintro ⟨x, hx⟩
    have := congrArg (fun f : S256x256.Idx => (f 1).val) hx
    simp [Rect.emb_apply] at this
    omega
  rw [st_of_not _ _ _ _ ne, ← e, st_emb]
  refine ((car3_kept hx hs hk).q0 a d).trans ?_
  rw [Finset.range_eq_Ico]
theorem outQ_hi (Q : Vec Ideal S256x256 .f32) (a : Fin 256) (d : Fin 128) (h : 128 + d.val < 256) :
    outQ i x Q s.K s.V (ix2 a ⟨128 + d.val, h⟩) = ((∑ u ∈ Finset.range N, (D.head (2 * p + 1)).dz ((nb i).val * 256 + a) u * (D.head (2 * p + 1)).k u d : ℝ) : EReal) := by
  unfold outQ
  have e : hi.emb (ix2 a d) = (ix2 a ⟨128 + d.val, h⟩ : S256x256.Idx) := by
    refine (emb_two a d (by omega) (by omega)).trans ?_
    simp only [zero_add]
  rw [← e, st_emb]
  refine ((car3_kept hx hs hk).q1 a d).trans ?_
  rw [Finset.range_eq_Ico]

/-- The block of the queries' gradient. -/
theorem outQ_of (Q : Vec Ideal S256x256 .f32) (a j : Fin 256) :
    outQ i x Q s.K s.V (ix2 a j) = (D.dq ((nb i).val * 256 + a) (p * 256 + j) : EReal) := by
  by_cases h : j.val < 128
  · obtain ⟨d, hd, rfl⟩ : ∃ (d : Fin 128) (hd : d.val < 256), j = ⟨d.val, hd⟩ := ⟨⟨j.val, h⟩, j.isLt, rfl⟩
    rw [outQ_lo hx hs hk, Data.dq]
    have e1 : (p * 256 + d.val) / 128 = 2 * p := by omega
    have e2 : (p * 256 + d.val) % 128 = d.val := by omega
    simp only [e1, e2]
  · obtain ⟨d, hd, rfl⟩ : ∃ (d : Fin 128) (hd : 128 + d.val < 256), j = ⟨128 + d.val, hd⟩ :=
      ⟨⟨j.val - 128, by omega⟩, by simp only; omega, Fin.ext (by simp only; omega)⟩
    rw [outQ_hi hx hs hk, Data.dq]
    have e1 : (p * 256 + (128 + d.val)) / 128 = 2 * p + 1 := by omega
    have e2 : (p * 256 + (128 + d.val)) % 128 = d.val := by omega
    simp only [e1, e2]

end

section

variable {D : Data} {p : ℕ} {s : Kept Ideal} (h : KeptOf s D p N)
include h

/-- The keys' gradients once all rows are met. -/
theorem K_of (c : Fin 256) (l : Fin 8192) : s.K (ix2 c l) = (D.dk (p * 256 + c) l : EReal) := by
  rw [h.K, incK, Data.dk, Finset.range_eq_Ico]
  split
  · rw [show (p * 256 + c.val) / 128 = 2 * p by omega, show (p * 256 + c.val) % 128 = c.val by omega]
  · rw [show (p * 256 + c.val) / 128 = 2 * p + 1 by omega, show (p * 256 + c.val) % 128 = c.val - 128 by omega]
theorem V_of (c : Fin 256) (l : Fin 8192) : s.V (ix2 c l) = (D.dv (p * 256 + c) l : EReal) := by
  rw [h.V, incV, Data.dv, Finset.range_eq_Ico]
  split
  · rw [show (p * 256 + c.val) / 128 = 2 * p by omega, show (p * 256 + c.val) % 128 = c.val by omega]
  · rw [show (p * 256 + c.val) / 128 = 2 * p + 1 by omega, show (p * 256 + c.val) % 128 = c.val - 128 by omega]
theorem D_of (e : Fin 256) : s.D (ix2 0 e) = (D.dg (p * 256 + e) : EReal) := by
  rw [h.D, incG, Data.dg, Finset.range_eq_Ico]
  split
  · rw [show (p * 256 + e.val) / 128 = 2 * p by omega, show (p * 256 + e.val) % 128 = e.val by omega]
  · rw [show (p * 256 + e.val) / 128 = 2 * p + 1 by omega, show (p * 256 + e.val) % 128 = e.val - 128 by omega]

end

end Cert.Proof.Attn

end
-- ==== Proof.Attn.Sound.lean ====
/-
  The run of the backward attention: the body at any point, and the launch. Written over any values, so that one run
  serves both readings.
-/
module

public import proofs.«01_k».proof.Proof.Attn.Frame
public import proofs.«01_k».proof.Proof.Gen.AttnGradIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Attn

open Cert.AttnGradIdeal Cert.AttnGradIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem in_after_0 (c : Dev nD) (t : Fin (cfg0 (F := F)).N) : (dats m 0 c).after 0 t = (inp m c t).X2 := after_0 m c t
theorem in_before_0 (c : Dev nD) (t : Fin (cfg0 (F := F)).N) (d) : (dats m 0 c).before 0 t d = (inp m c t).X2 := before_0 m c t d
theorem in_after_1 (c : Dev nD) (t : Fin (cfg0 (F := F)).N) : (dats m 0 c).after 1 t = (inp m c t).X3 := after_1 m c t
theorem in_before_1 (c : Dev nD) (t : Fin (cfg0 (F := F)).N) (d) : (dats m 0 c).before 1 t d = (inp m c t).X3 := before_1 m c t d
theorem in_after_2 (c : Dev nD) (t : Fin (cfg0 (F := F)).N) : (dats m 0 c).after 2 t = (inp m c t).X4 := after_2 m c t
theorem in_before_2 (c : Dev nD) (t : Fin (cfg0 (F := F)).N) (d) : (dats m 0 c).before 2 t d = (inp m c t).X4 := before_2 m c t d
theorem in_after_3 (c : Dev nD) (t : Fin (cfg0 (F := F)).N) : (dats m 0 c).after 3 t = (inp m c t).X5 := after_3 m c t
theorem in_before_3 (c : Dev nD) (t : Fin (cfg0 (F := F)).N) (d) : (dats m 0 c).before 3 t d = (inp m c t).X5 := before_3 m c t d
theorem in_after_4 (c : Dev nD) (t : Fin (cfg0 (F := F)).N) : (dats m 0 c).after 4 t = (inp m c t).X6 := after_4 m c t
theorem in_before_4 (c : Dev nD) (t : Fin (cfg0 (F := F)).N) (d) : (dats m 0 c).before 4 t d = (inp m c t).X6 := before_4 m c t d
theorem in_after_5 (c : Dev nD) (t : Fin (cfg0 (F := F)).N) : (dats m 0 c).after 5 t = (inp m c t).X7 := after_5 m c t
theorem in_before_5 (c : Dev nD) (t : Fin (cfg0 (F := F)).N) (d) : (dats m 0 c).before 5 t d = (inp m c t).X7 := before_5 m c t d
theorem in_after_6 (c : Dev nD) (t : Fin (cfg0 (F := F)).N) : (dats m 0 c).after 6 t = (inp m c t).X8 := after_6 m c t
theorem in_before_6 (c : Dev nD) (t : Fin (cfg0 (F := F)).N) (d) : (dats m 0 c).before 6 t d = (inp m c t).X8 := before_6 m c t d
theorem in_after_7 (c : Dev nD) (t : Fin (cfg0 (F := F)).N) : (dats m 0 c).after 7 t = (inp m c t).X9 := after_7 m c t
theorem in_before_7 (c : Dev nD) (t : Fin (cfg0 (F := F)).N) (d) : (dats m 0 c).before 7 t d = (inp m c t).X9 := before_7 m c t d

set_option maxHeartbeats 1000000 in
/-- `body_wp` at point `t`'s staging buffers. -/
theorem body_at (c : Dev nD) (t : Fin (cfg0 (F := F)).N) (Q0 : Vec F S256x256 .f32) (K0 V0 : Vec F S256x8192 .f32) (D0 : Vec F S1x256 .f32) {Q} :
    (owns (c : Thread nD τ) (st0_0 t) fullShare ((inp m c t).X2) : sProp 𝕄) ⊢ iprop(
      owns (c : Thread nD τ) (st0_1 t) fullShare ((inp m c t).X3) -∗
      owns (c : Thread nD τ) (st0_2 t) fullShare ((inp m c t).X4) -∗
      owns (c : Thread nD τ) (st0_3 t) fullShare ((inp m c t).X5) -∗
      owns (c : Thread nD τ) (st0_4 t) fullShare ((inp m c t).X6) -∗
      owns (c : Thread nD τ) (st0_5 t) fullShare ((inp m c t).X7) -∗
      owns (c : Thread nD τ) (st0_6 t) fullShare ((inp m c t).X8) -∗
      owns (c : Thread nD τ) (st0_7 t) fullShare ((inp m c t).X9) -∗
      owns (c : Thread nD τ) (st0_8 t) fullShare (Q0) -∗
      owns (c : Thread nD τ) (st0_9 t) fullShare (K0) -∗
      owns (c : Thread nD τ) (st0_10 t) fullShare (V0) -∗
      owns (c : Thread nD τ) (st0_11 t) fullShare (D0) -∗
      (owns (c : Thread nD τ) (st0_0 t) fullShare ((inp m c t).X2) -∗
        owns (c : Thread nD τ) (st0_1 t) fullShare ((inp m c t).X3) -∗
        owns (c : Thread nD τ) (st0_2 t) fullShare ((inp m c t).X4) -∗
        owns (c : Thread nD τ) (st0_3 t) fullShare ((inp m c t).X5) -∗
        owns (c : Thread nD τ) (st0_4 t) fullShare ((inp m c t).X6) -∗
        owns (c : Thread nD τ) (st0_5 t) fullShare ((inp m c t).X7) -∗
        owns (c : Thread nD τ) (st0_6 t) fullShare ((inp m c t).X8) -∗
        owns (c : Thread nD τ) (st0_7 t) fullShare ((inp m c t).X9) -∗
        owns (c : Thread nD τ) (st0_8 t) fullShare (outQ (grid0.coords t) (inp m c t) Q0 K0 V0) -∗
        owns (c : Thread nD τ) (st0_9 t) fullShare ((car3 (grid0.coords t) (inp m c t) K0 V0).K) -∗
        owns (c : Thread nD τ) (st0_10 t) fullShare ((car3 (grid0.coords t) (inp m c t) K0 V0).V) -∗
        owns (c : Thread nD τ) (st0_11 t) fullShare (outD (grid0.coords t) (inp m c t) D0) -∗ Q ⟨⟩)
      -∗ wp frame (wpE (defs₀ (F := F)) 𝒱₀ c none) Set.univ (cc0_sb_bwd (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4)) (st0_5 t) (hstage0_5 (((cfg0 (F := F)).slots t 5).cast nbuf0_5)) (st0_6 t) (hstage0_6 (((cfg0 (F := F)).slots t 6).cast nbuf0_6)) (st0_7 t) (hstage0_7 (((cfg0 (F := F)).slots t 7).cast nbuf0_7)) (st0_8 t) (hstage0_8 (((cfg0 (F := F)).slots t 8).cast nbuf0_8)) (st0_9 t) (hstage0_9 (((cfg0 (F := F)).slots t 9).cast nbuf0_9)) (st0_10 t) (hstage0_10 (((cfg0 (F := F)).slots t 10).cast nbuf0_10)) (st0_11 t) (hstage0_11 (((cfg0 (F := F)).slots t 11).cast nbuf0_11))) Q) :=
  body_wp c Set.univ (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4)) (st0_5 t) (hstage0_5 (((cfg0 (F := F)).slots t 5).cast nbuf0_5)) (st0_6 t) (hstage0_6 (((cfg0 (F := F)).slots t 6).cast nbuf0_6)) (st0_7 t) (hstage0_7 (((cfg0 (F := F)).slots t 7).cast nbuf0_7)) (st0_8 t) (hstage0_8 (((cfg0 (F := F)).slots t 8).cast nbuf0_8)) (st0_9 t) (hstage0_9 (((cfg0 (F := F)).slots t 9).cast nbuf0_9)) (st0_10 t) (hstage0_10 (((cfg0 (F := F)).slots t 10).cast nbuf0_10)) (st0_11 t) (hstage0_11 (((cfg0 (F := F)).slots t 11).cast nbuf0_11)) (inp m c t) Q0 K0 V0 D0

set_option maxHeartbeats 1000000 in
theorem sound_body (c : Dev nD) (t : Fin (cfg0 (F := F)).N) :
    bodyPre m c t ⊢ wp frame (wpE (defs₀ (F := F)) 𝒱₀ c none) Set.univ (bodyAt0 t) (fun _ => bodyPost m c t) := by
  rw [show bodyAt0 t = cc0_sb_bwd (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4)) (st0_5 t) (hstage0_5 (((cfg0 (F := F)).slots t 5).cast nbuf0_5)) (st0_6 t) (hstage0_6 (((cfg0 (F := F)).slots t 6).cast nbuf0_6)) (st0_7 t) (hstage0_7 (((cfg0 (F := F)).slots t 7).cast nbuf0_7)) (st0_8 t) (hstage0_8 (((cfg0 (F := F)).slots t 8).cast nbuf0_8)) (st0_9 t) (hstage0_9 (((cfg0 (F := F)).slots t 9).cast nbuf0_9)) (st0_10 t) (hstage0_10 (((cfg0 (F := F)).slots t 10).cast nbuf0_10)) (st0_11 t) (hstage0_11 (((cfg0 (F := F)).slots t 11).cast nbuf0_11)) from rfl]
  unfold bodyPre bodyPost
  simp only [in_before_0, in_before_1, in_before_2, in_before_3, in_before_4, in_before_5, in_before_6, in_before_7]
  rw [show (dats m 0 c).Φ t.succ = (dats m 0 c).Φ t.castSucc from rfl,
    show (dats m 0 c).owesAt () t.succ = (dats m 0 c).owesAt () t.castSucc from rfl,
    in_after_0, in_after_1, in_after_2, in_after_3, in_after_4, in_after_5, in_after_6, in_after_7, after_8, after_9, after_10, after_11, kept_succ]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have e3 : car3 (grid0.coords t) (inp m c t) ((dats m 0 c).before 9 t d9) ((dats m 0 c).before 10 t d10)
      = car3 (grid0.coords t) (inp m c t) (kept m c t.val).K (kept m c t.val).V := by
    by_cases h : t.val % 32 = 0
    · exact car3_first (isFirst_coords t h) _ _ _ _ _
    · rw [before_9 m c t h, before_10 m c t h]
  have eD : outD (grid0.coords t) (inp m c t) ((dats m 0 c).before 11 t d11) = outD (grid0.coords t) (inp m c t) (kept m c t.val).D := by
    by_cases h : t.val % 32 = 0
    · exact outD_first (isFirst_coords t h) _ _ _
    · rw [before_11 m c t h]
  have eQ : outQ (grid0.coords t) (inp m c t) ((dats m 0 c).before 8 t d8) ((dats m 0 c).before 9 t d9) ((dats m 0 c).before 10 t d10)
      = outQ (grid0.coords t) (inp m c t) (constant S256x256 .f32 0#32) (kept m c t.val).K (kept m c t.val).V := by
    refine (outQ_any _ _ _ (constant S256x256 .f32 0#32) _ _).trans ?_
    unfold outQ
    rw [e3]
  have hb := body_at m c t ((dats m 0 c).before 8 t d8)
    ((dats m 0 c).before 9 t d9) ((dats m 0 c).before 10 t d10) ((dats m 0 c).before 11 t d11) (Q := fun _ => bodyPost m c t)
  unfold bodyPost at hb
  rw [show (dats m 0 c).Φ t.succ = (dats m 0 c).Φ t.castSucc from rfl,
    show (dats m 0 c).owesAt () t.succ = (dats m 0 c).owesAt () t.castSucc from rfl,
    in_after_0, in_after_1, in_after_2, in_after_3, in_after_4, in_after_5, in_after_6, in_after_7, after_8, after_9, after_10, after_11, kept_succ,
    eQ, e3, eD] at hb
  iapply hb $$ H0 H1 H2 H3 H4 H5 H6 H7 H8 H9 H10 H11
  iintro H0 H1 H2 H3 H4 H5 H6 H7 H8 H9 H10 H11
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every run ends, with every array of the call at what the data say, every other buffer as the call found it, and every
    counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- Every run ends, leaves the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 4).trans (((dats m 0 c).arrAt_in 4 rfl _).trans ((A_eq m c 4).trans (V_main_arg3 m c))),
      ((h.1 c).1 5).trans (((dats m 0 c).arrAt_in 5 rfl _).trans ((A_eq m c 5).trans (V_main_arg4 m c)))⟩, h.2⟩) (run_main_quiescent m ρ)

end Cert.Proof.Attn

end
-- ==== Proof.Attn.Final.lean ====
/-
  What the backward attention leaves in its four result arrays, when its arguments hold real numbers.
-/
module

public import proofs.«01_k».proof.Proof.Attn.Step
public import proofs.«01_k».proof.Proof.Attn.Sound

@[expose] public section

noncomputable section

open Idealize.ShloMosaic
open Idealize.ShloMosaic.TcCoe
open Idealize.ShloMosaic.Pipeline (Dat)

namespace Cert.Proof.Attn

open Cert.AttnGradIdeal Cert.AttnGradIdeal.Gen

theorem coords_0 : ∀ t : Fin grid0.N, (grid0.coords t 0).val = t.val / 32 := by decide +kernel
theorem coords_1 : ∀ t : Fin grid0.N, (grid0.coords t 1).val = t.val % 32 := by decide +kernel

theorem first_block (t : Fin grid0.N) : isFirst (grid0.coords t) → (nb (grid0.coords t)).val = 0 := fun h => by
  rw [coords_1]
  by_contra hn
  exact not_isFirst_coords t hn h

variable (m : (ℓ : Loc nD τ sig) → Buf (Elt Ideal) ℓ) (c : Dev nD) {D : Data} (hD : Holds m c D)

theorem inp_at (t : Fin grid0.N) {p n : ℕ} (h0 : (grid0.coords t 0).val = p) (hD : Holds m c D) :
    InOf (inp m c t) D p ((nb (grid0.coords t)).val * 256) := by
  subst h0
  exact inp_of m c t hD

theorem kept_point (t : Fin grid0.N) {p n : ℕ} (h0 : (grid0.coords t 0).val = p) (h1 : (grid0.coords t 1).val = n) (hD : Holds m c D)
    (hk : n ≠ 0 → KeptOf (kept m c t.val) D p (n * 256)) : KeptOf (kept m c (t.val + 1)) D p ((n + 1) * 256) := by
  have e : (n + 1) * 256 = (nb (grid0.coords t)).val * 256 + 256 := by
    show _ = (grid0.coords t 1).val * 256 + 256
    rw [h1]; ring
  have h2 : (nb (grid0.coords t)).val = n := h1
  rw [kept_succ m c t, e]
  refine step_of (inp_at m c t (n := n) h0 hD) (first_block t) fun hf => ?_
  rw [h2]
  refine hk fun hn => hf (isFirst_coords t ?_)
  rw [← coords_1 t, h1, hn]

/-- After `n` query blocks of pair `p`. -/
theorem kept_of (hD : Holds m c D) (p : ℕ) (hp : p < 4) (n : ℕ) : n < 32 → KeptOf (kept m c (32 * p + n + 1)) D p ((n + 1) * 256) := by
  have hN : grid0.N = 128 := by decide
  induction n with
  | zero =>
    intro hn
    refine kept_point m c ⟨32 * p + 0, by omega⟩ ?_ ?_ hD (fun h => absurd rfl h)
    · rw [coords_0]; simp only; omega
    · rw [coords_1]; simp only; omega
  | succ n ih =>
    intro hn
    refine kept_point m c ⟨32 * p + (n + 1), by omega⟩ ?_ ?_ hD (fun _ => ?_)
    · rw [coords_0]; simp only; omega
    · rw [coords_1]; simp only; omega
    · exact ih (by omega)

/-- At a point's start, after the first of a pair. -/
theorem kept_before (hD : Holds m c D) (t : Fin grid0.N) {p n : ℕ} (h0 : (grid0.coords t 0).val = p) (h1 : (grid0.coords t 1).val = n)
    (h : n ≠ 0) : KeptOf (kept m c t.val) D p (n * 256) := by
  have hp : p < 4 := h0 ▸ (grid0.coords t 0).isLt
  have hn : n < 32 := h1 ▸ (grid0.coords t 1).isLt
  have e : t.val = 32 * p + (n - 1) + 1 := by
    rw [coords_0] at h0; rw [coords_1] at h1; omega
  rw [e]
  have := kept_of m c hD p hp (n - 1) (by omega)
  rwa [show n - 1 + 1 = n by omega] at this

/-- At the end of a pair. -/
theorem kept_end (hD : Holds m c D) (t : Fin grid0.N) {p : ℕ} (h0 : (grid0.coords t 0).val = p) (h1 : t.val % 32 = 31) :
    KeptOf (kept m c (t.val + 1)) D p N := by
  have hp : p < 4 := h0 ▸ (grid0.coords t 0).isLt
  have e : t.val = 32 * p + 31 := by
    rw [coords_0] at h0; omega
  rw [e]
  exact kept_of m c hD p hp 31 (by omega)

theorem outQ_at (hD : Holds m c D) (t : Fin grid0.N) {p n : ℕ} (h0 : (grid0.coords t 0).val = p) (h1 : (grid0.coords t 1).val = n)
    (Q : Vec Ideal S256x256 .f32) (a j : Fin 256) :
    outQ (grid0.coords t) (inp m c t) Q (kept m c t.val).K (kept m c t.val).V (ix2 a j) = (D.dq (n * 256 + a) (p * 256 + j) : EReal) := by
  have h2 : (nb (grid0.coords t)).val = n := h1
  have := outQ_of (s := kept m c t.val) (inp_at m c t (n := n) h0 hD) (first_block t) (fun hf => ?_) Q a j
  · rw [h2] at this; exact this
  · rw [h2]
    refine kept_before m c hD t h0 h1 fun hn => hf (isFirst_coords t ?_)
    rw [← coords_1 t, h1, hn]

theorem ix2_eta {a b : ℕ} (y : (⟨2, ![a, b]⟩ : Shape).Idx) : (ix2 (y 0) (y 1) : (⟨2, ![a, b]⟩ : Shape).Idx) = y := by
  funext k
  match k with
  | 0 => rfl
  | 1 => rfl

theorem outQ_idx (hD : Holds m c D) (t : Fin grid0.N) (Q : Vec Ideal S256x256 .f32) (y : S256x256.Idx) :
    outQ (grid0.coords t) (inp m c t) Q (kept m c t.val).K (kept m c t.val).V y
      = (D.dq ((grid0.coords t 1).val * 256 + (y 0).val) ((grid0.coords t 0).val * 256 + (y 1).val) : EReal) := by
  rw [← ix2_eta y]
  exact outQ_at m c hD t rfl rfl Q (y 0) (y 1)
theorem K_idx (hD : Holds m c D) (t : Fin grid0.N) (h : t.val % 32 = 31) (y : S256x8192.Idx) :
    (kept m c (t.val + 1)).K y = (D.dk ((grid0.coords t 0).val * 256 + (y 0).val) (0 * 8192 + (y 1).val) : EReal) := by
  rw [← ix2_eta y, Nat.zero_mul, Nat.zero_add]
  exact K_of (kept_end m c hD t rfl h) (y 0) (y 1)
theorem V_idx (hD : Holds m c D) (t : Fin grid0.N) (h : t.val % 32 = 31) (y : S256x8192.Idx) :
    (kept m c (t.val + 1)).V y = (D.dv ((grid0.coords t 0).val * 256 + (y 0).val) (0 * 8192 + (y 1).val) : EReal) := by
  rw [← ix2_eta y, Nat.zero_mul, Nat.zero_add]
  exact V_of (kept_end m c hD t rfl h) (y 0) (y 1)
theorem D_idx (hD : Holds m c D) (t : Fin grid0.N) (h : t.val % 32 = 31) (y : S1x256.Idx) :
    (kept m c (t.val + 1)).D y = (D.dg ((grid0.coords t 0).val * 256 + (y 1).val) : EReal) := by
  have e : (ix2 0 (y 1) : S1x256.Idx) = y := by
    funext k
    match k with
    | 0 => exact Subsingleton.elim (α := Fin 1) _ _
    | 1 => rfl
  rw [← e]
  exact D_of (kept_end m c hD t rfl h) (y 1)

/-! ## The arrays -/

theorem final8 (hD : Holds m c D) : (dats m 0 c).arrAt 8 (cfg0 (F := Ideal)).N = fun y : S8192x1024.Idx => (D.dq (y 0).val (y 1).val : EReal) := by
  refine (dats m 0 c).arrAt_eq_of_covers 8 _ (by decide +kernel) fun t hf y => ?_
  blk_simp
  rw [after_8, ix_8 t]
  exact outQ_idx m c hD t (constant (F := Ideal) S256x256 .f32 0#32) y

theorem final9 (hD : Holds m c D) : (dats m 0 c).arrAt 9 (cfg0 (F := Ideal)).N = fun y : S1024x8192.Idx => (D.dk (y 0).val (y 1).val : EReal) := by
  refine (dats m 0 c).arrAt_eq_of_covers 9 _ (by decide +kernel) fun t hf y => ?_
  blk_simp
  rw [after_9, ix_9 t]
  exact K_idx m c hD t ((flush0_9 t).mp hf) y

theorem final10 (hD : Holds m c D) : (dats m 0 c).arrAt 10 (cfg0 (F := Ideal)).N = fun y : S1024x8192.Idx => (D.dv (y 0).val (y 1).val : EReal) := by
  refine (dats m 0 c).arrAt_eq_of_covers 10 _ (by decide +kernel) fun t hf y => ?_
  blk_simp
  rw [after_10, ix_10 t]
  exact V_idx m c hD t ((flush0_10 t).mp hf) y

theorem final11 (hD : Holds m c D) : (dats m 0 c).arrAt 11 (cfg0 (F := Ideal)).N = fun y : S1x1024.Idx => (D.dg (y 1).val : EReal) := by
  refine (dats m 0 c).arrAt_eq_of_covers 11 _ (by decide +kernel) fun t hf y => ?_
  blk_simp
  rw [after_11, ix_11 t]
  exact D_idx m c hD t ((flush0_11 t).mp hf) y

end Cert.Proof.Attn

end
-- ==== Proof.Attn.Sums.lean ====
/-
  Running sums along the last axis, as the host computes them, and the softplus of one number, in the host's operations.
-/
module

public import proofs.«01_k».proof.Proof.Attn.Real
public import proofs.«01_k».proof.Proof.Gen.AttnGradRefIdeal.Read

@[expose] public section

noncomputable section

open Idealize.ShloMosaic

namespace Cert.Proof.Attn

/-! ## Over the reals -/

theorem sum_suffix (f : ℕ → ℝ) (s M : ℕ) (h : s ≤ M) :
    (∑ n : Fin M, if s + n.val < M then f (s + n.val) else 0) = ∑ u ∈ Finset.Ico s M, f u := by
  rw [Finset.sum_range (fun n => if s + n < M then f (s + n) else 0) |>.symm, ← Finset.sum_filter, Finset.sum_Ico_eq_sum_range]
  congr 1
  ext n; simp only [Finset.mem_filter, Finset.mem_range]; omega

theorem sum_prefix (f : ℕ → ℝ) (s M : ℕ) (h : s < M) :
    (∑ n : Fin M, if M - 1 ≤ s + n.val then f (s + n.val - (M - 1)) else 0) = ∑ u ∈ Finset.range (s + 1), f u := by
  rw [Finset.sum_range (fun n => if M - 1 ≤ s + n then f (s + n - (M - 1)) else 0) |>.symm, ← Finset.sum_filter]
  have e : (Finset.range M).filter (fun n => M - 1 ≤ s + n) = Finset.Ico (M - 1 - s) M := by
    ext n; simp only [Finset.mem_filter, Finset.mem_range, Finset.mem_Ico]; omega
  rw [e, Finset.sum_Ico_eq_sum_range, show M - (M - 1 - s) = s + 1 by omega]
  exact Finset.sum_congr rfl fun i _ => congrArg f (by omega)

theorem foldl_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-! ## As the host has them -/

abbrev W3 (M : ℕ) : Shape := ⟨3, ![1, 1, M]⟩

theorem W3_numel (M : ℕ) : (W3 M).numel = M := by
  simp [Shape.numel, Fin.prod_univ_three]

/-- A position in the window is a column. -/
theorem W3_symm (M : ℕ) (n : Fin (W3 M).numel) : ((W3 M).rowMajor.symm n 0).val = 0 ∧ ((W3 M).rowMajor.symm n 1).val = 0 ∧ ((W3 M).rowMajor.symm n 2).val = n.val := by
  have h := Shape.rowMajor_val_three ((W3 M).rowMajor.symm n)
  rw [Equiv.apply_symm_apply] at h
  have h0 : ((W3 M).rowMajor.symm n 0).val < 1 := ((W3 M).rowMajor.symm n 0).isLt
  have h1 : ((W3 M).rowMajor.symm n 1).val < 1 := ((W3 M).rowMajor.symm n 1).isLt
  generalize ((W3 M).rowMajor.symm n 0).val = a at *
  generalize ((W3 M).rowMajor.symm n 1).val = b at *
  generalize ((W3 M).rowMajor.symm n 2).val = d at *
  have e : n.val = (a * 1 + b) * M + d := h
  have a0 : a = 0 := by omega
  have b0 : b = 0 := by omega
  subst a0 b0
  exact ⟨rfl, rfl, by rw [e]; omega⟩

/-- The terms of a window that sum to a real number. -/
theorem window_sum (M : ℕ) (g : Fin (W3 M).numel → EReal) (r : ℕ → ℝ) (v : EReal) (hv : v = ((0 : ℝ) : EReal)) (hg : ∀ n, g n = (r n.val : EReal)) :
    (List.finRange (W3 M).numel).foldl (fun a n => a + g n) v = ((∑ n : Fin M, r n.val : ℝ) : EReal) := by
  rw [foldl_sum, ← Fin.sum_univ_def, hv, Finset.sum_congr rfl fun n _ => hg n]
  have e : (∑ n : Fin (W3 M).numel, (r n.val : EReal)) = ∑ n ∈ Finset.range M, (r n : EReal) := by
    conv_rhs => rw [← W3_numel M]
    exact (Finset.sum_range fun n => (r n : EReal)).symm
  rw [e, Finset.sum_range, ← coe_sum, ← EReal.coe_add, zero_add]

abbrev S3 (T M : ℕ) : Shape := ⟨3, ![8, T, M]⟩

section

variable {S0 : Shape} {T M M1 : ℕ} (hM : M1 + 1 = M) (x : FVec Ideal (S3 T M) .f32) (init : FVec Ideal S0 .f32) (hu : 0 < S0.numel) (hinit : ∀ i, init i = ((0 : ℝ) : EReal))
variable (h : Fin 8) (t : Fin T) (s : Fin M) (f : ℕ → ℝ) (hx : ∀ u : Fin M, x (ix3 h t u) = (f u : EReal))
include hM hinit hx

theorem suffix_of (hw : (S3 T M).ReduceWindows ![1, 1, M] ![1, 1, 1] ![0, 0, 0] ![0, 0, M1] (S3 T M)) :
    Host.reduceWindowAdd ![1, 1, M] ![1, 1, 1] ![0, 0, 0] ![0, 0, M1] x init hw hu (ix3 h t s) = ((∑ u ∈ Finset.Ico s.val M, f u : ℝ) : EReal) := by
  have hs := s.isLt
  rw [← sum_suffix f s.val M hs.le]
  unfold Host.reduceWindowAdd
  rw [Ideal.hostReduceWindowAdd_def]
  unfold Ideal.hostReduceWindowAdd
  refine window_sum M _ (fun n => if s.val + n < M then f (s.val + n) else 0) _ (hinit _) fun n => ?_
  obtain ⟨w0, w1, w2⟩ := W3_symm M n
  have hn : n.val < M := lt_of_lt_of_eq n.isLt (W3_numel M)
  have h0 := h.isLt
  have h1 := t.isLt
  dsimp only
  split
  · next hin =>
    have h2 := hin 2
    change 0 ≤ s.val * 1 + ((W3 M).rowMajor.symm n 2).val ∧ s.val * 1 + ((W3 M).rowMajor.symm n 2).val - 0 < M at h2
    rw [w2] at h2
    rw [if_pos (by omega)]
    refine (congrArg x (funext fun a => Fin.ext ?_)).trans (hx ⟨s.val + n.val, by omega⟩)
    match a with
    | ⟨0, _⟩ =>
      show h.val * 1 + ((W3 M).rowMajor.symm n 0).val - 0 = h.val
      rw [w0]; omega
    | ⟨1, _⟩ =>
      show t.val * 1 + ((W3 M).rowMajor.symm n 1).val - 0 = t.val
      rw [w1]; omega
    | ⟨2, _⟩ =>
      show s.val * 1 + ((W3 M).rowMajor.symm n 2).val - 0 = s.val + n.val
      rw [w2]; omega
  · next hin =>
    rw [if_neg fun hle => hin fun a => by
      match a with
      | ⟨0, _⟩ =>
        show 0 ≤ h.val * 1 + ((W3 M).rowMajor.symm n 0).val ∧ h.val * 1 + ((W3 M).rowMajor.symm n 0).val - 0 < 8
        rw [w0]; omega
      | ⟨1, _⟩ =>
        show 0 ≤ t.val * 1 + ((W3 M).rowMajor.symm n 1).val ∧ t.val * 1 + ((W3 M).rowMajor.symm n 1).val - 0 < T
        rw [w1]; omega
      | ⟨2, _⟩ =>
        show 0 ≤ s.val * 1 + ((W3 M).rowMajor.symm n 2).val ∧ s.val * 1 + ((W3 M).rowMajor.symm n 2).val - 0 < M
        rw [w2]; omega]
    exact hinit _

theorem prefix_of (hw : (S3 T M).ReduceWindows ![1, 1, M] ![1, 1, 1] ![0, 0, M1] ![0, 0, 0] (S3 T M)) :
    Host.reduceWindowAdd ![1, 1, M] ![1, 1, 1] ![0, 0, M1] ![0, 0, 0] x init hw hu (ix3 h t s) = ((∑ u ∈ Finset.range (s.val + 1), f u : ℝ) : EReal) := by
  have hs := s.isLt
  rw [← sum_prefix f s.val M hs, show M - 1 = M1 by omega]
  unfold Host.reduceWindowAdd
  rw [Ideal.hostReduceWindowAdd_def]
  unfold Ideal.hostReduceWindowAdd
  refine window_sum M _ (fun n => if M1 ≤ s.val + n then f (s.val + n - M1) else 0) _ (hinit _) fun n => ?_
  obtain ⟨w0, w1, w2⟩ := W3_symm M n
  have hn : n.val < M := lt_of_lt_of_eq n.isLt (W3_numel M)
  have h0 := h.isLt
  have h1 := t.isLt
  dsimp only
  split
  · next hin =>
    have h2 := hin 2
    change M1 ≤ s.val * 1 + ((W3 M).rowMajor.symm n 2).val ∧ s.val * 1 + ((W3 M).rowMajor.symm n 2).val - M1 < M at h2
    rw [w2] at h2
    rw [if_pos (by omega)]
    refine (congrArg x (funext fun a => Fin.ext ?_)).trans (hx ⟨s.val + n.val - M1, by omega⟩)
    match a with
    | ⟨0, _⟩ =>
      show h.val * 1 + ((W3 M).rowMajor.symm n 0).val - 0 = h.val
      rw [w0]; omega
    | ⟨1, _⟩ =>
      show t.val * 1 + ((W3 M).rowMajor.symm n 1).val - 0 = t.val
      rw [w1]; omega
    | ⟨2, _⟩ =>
      show s.val * 1 + ((W3 M).rowMajor.symm n 2).val - M1 = s.val + n.val - M1
      rw [w2]; omega
  · next hin =>
    rw [if_neg fun hle => hin fun a => by
      match a with
      | ⟨0, _⟩ =>
        show 0 ≤ h.val * 1 + ((W3 M).rowMajor.symm n 0).val ∧ h.val * 1 + ((W3 M).rowMajor.symm n 0).val - 0 < 8
        rw [w0]; omega
      | ⟨1, _⟩ =>
        show 0 ≤ t.val * 1 + ((W3 M).rowMajor.symm n 1).val ∧ t.val * 1 + ((W3 M).rowMajor.symm n 1).val - 0 < T
        rw [w1]; omega
      | ⟨2, _⟩ =>
        show M1 ≤ s.val * 1 + ((W3 M).rowMajor.symm n 2).val ∧ s.val * 1 + ((W3 M).rowMajor.symm n 2).val - M1 < M
        rw [w2]; omega]
    exact hinit _

end

/-! ## Softplus of one number -/

theorem zero_word : Ideal.ofBits .f32 0x00000000#32 = ((0 : ℝ) : EReal) := by
  simp only [Ideal.ofBits, Ideal.ieee]
  rw [if_neg (by decide)]
  simp
theorem top_word : Ideal.ofBits .f32 0x7F800000#32 = (⊤ : EReal) := by
  simp only [Ideal.ofBits, Ideal.ieee]
  rw [if_pos (by decide)]
  simp

theorem cmp_une_self (a : EReal) : Ideal.cmp .une a a = 0#1 := by simp [Ideal.cmp]
theorem cmp_oeq_top (u : ℝ) : Ideal.cmp .oeq (u : EReal) ⊤ = 0#1 := by simp [Ideal.cmp, EReal.coe_ne_top]

theorem softplus_coe (u : ℝ) :
    max (u : EReal) ((0 : ℝ) : EReal) + Ideal.log1p (Ideal.exp (-(max ((u : EReal) - ((0 : ℝ) : EReal)) (-((u : EReal) - ((0 : ℝ) : EReal)))))) = (softplus u : EReal) := by
  have e1 : max ((u : EReal) - ((0 : ℝ) : EReal)) (-((u : EReal) - ((0 : ℝ) : EReal))) = ((|u| : ℝ) : EReal) := by
    rw [← EReal.coe_sub, sub_zero, ← EReal.coe_neg, abs]
    exact (EReal.coe_strictMono.monotone.map_max).symm
  have e2 : max (u : EReal) ((0 : ℝ) : EReal) = ((max u 0 : ℝ) : EReal) := (EReal.coe_strictMono.monotone.map_max).symm
  have h1 : (0 : ℝ) < 1 + Real.exp (-|u|) := by positivity
  rw [e1, e2, ← EReal.coe_neg, Ideal.exp_coe, Ideal.log1p, ← EReal.coe_one, ← EReal.coe_add, Ideal.log_coe, if_neg (not_le.mpr h1), ← EReal.coe_add, softplus]

end Cert.Proof.Attn

end
-- ==== Proof.Attn.Before.lean ====
/-
  What the host lines before the call leave for it: the attention's output, as the reference's own lines compute it, and the two
  triangular matrices.
-/
module

public import proofs.«01_k».proof.Proof.Attn.Final
public import proofs.«01_k».proof.Proof.Attn.Sums
public import Idealize.ShloMosaic.Lib.StableHlo.RunRead

@[expose] public section

noncomputable section

open Idealize.ShloMosaic
open Idealize.ShloMosaic.TcCoe
open Idealize.ShloMosaic.StableHlo

namespace Cert.Proof.Attn

open Cert.AttnGradIdeal Cert.AttnGradIdeal.Gen

variable (m : (ℓ : Loc nD τ sig) → Buf (Elt Ideal) ℓ) (c : Dev nD)

/-- The lower triangular matrix of ones, the diagonal shifted by `k`. -/
abbrev tril (k : BitVec 32) : FVec Ideal S256x256 .bf16 :=
  truncf (F := Ideal) .bf16 (select (cmpi .sge (addi (iotaInDim S256x256 32 0) (broadcastInDim S256x256 ![] bcast_S_S256x256 (constantI S_ 32 k)))
    (iotaInDim S256x256 32 1)) (broadcastInDim S256x256 ![] bcast_S_S256x256 (constant (F := Ideal) S_ .f32 0x3F800000#32))
    (broadcastInDim S256x256 ![] bcast_S_S256x256 (constant (F := Ideal) S_ .f32 0x00000000#32))) bitsLt_bf16_f32

set_option maxRecDepth 8192 in
set_option maxHeartbeats 2000000 in
theorem V_v32 : V m c main_v32 = tril 4294967295#32 := by
  unfold V
  simp only [opss, List.flatten_cons, List.flatten_nil, hostOps0, hostOps0_1, hostOps0_2, hostOps0_3, hostOps0_4, hostOps0_5, hostOps0_6, hostOps0_7,
    hostOps0_8, hostOps0_9, hostOps0_10, hostOps0_11, hostOps0_12, hostOps0_13, List.cons_append, List.nil_append, TRef.binary, TRef.nullary, TRef.ternary, TRef.unary, TRef.toBuf, TRef.ofBuf, cast_eq]
  after_reads_simp

set_option maxRecDepth 8192 in
set_option maxHeartbeats 2000000 in
theorem V_v35 : V m c main_v35 = tril 0#32 := by
  unfold V
  simp only [opss, List.flatten_cons, List.flatten_nil, hostOps0, hostOps0_1, hostOps0_2, hostOps0_3, hostOps0_4, hostOps0_5, hostOps0_6, hostOps0_7,
    hostOps0_8, hostOps0_9, hostOps0_10, hostOps0_11, hostOps0_12, hostOps0_13, List.cons_append, List.nil_append, TRef.binary, TRef.nullary, TRef.ternary, TRef.unary, TRef.toBuf, TRef.ofBuf, cast_eq]
  after_reads_simp

theorem tril_apply (k : BitVec 32) (a j : Fin 256) :
    tril k (ix2 a j) = Scalar.select (Scalar.cmpi .sge (BitVec.ofNat 32 a.val + k) (BitVec.ofNat 32 j.val)) ((1 : ℝ) : EReal) ((0 : ℝ) : EReal) := by
  rw [← ofBits_one, ← zero_word]
  rfl

theorem below : ∀ a j : Fin 256, Scalar.cmpi .sge (BitVec.ofNat 32 a.val + 4294967295#32) (BitVec.ofNat 32 j.val) = if j.val + 1 ≤ a.val then 1#1 else 0#1 := by
  decide +kernel
theorem upto : ∀ a j : Fin 256, Scalar.cmpi .sge (BitVec.ofNat 32 a.val + 0#32) (BitVec.ofNat 32 j.val) = if j.val ≤ a.val then 1#1 else 0#1 := by
  decide +kernel

theorem m4_of (a j : Fin 256) : V m c main_v32 (ix2 a j) = ((if j.val + 1 ≤ a.val then 1 else 0 : ℝ) : EReal) := by
  rw [V_v32]
  refine (tril_apply _ a j).trans ?_
  rw [below]
  split <;> rfl
theorem m6_of (a j : Fin 256) : V m c main_v35 (ix2 a j) = ((if j.val ≤ a.val then 1 else 0 : ℝ) : EReal) := by
  rw [V_v35]
  refine (tril_apply _ a j).trans ?_
  rw [upto]
  split <;> rfl

set_option maxRecDepth 8192 in
set_option maxHeartbeats 4000000 in
theorem V_v29 : V m c main_v29 = shapeCast S8192x1024 (Cert.AttnGradRefIdeal.Read.val_main_v28 (F := Ideal) (m ((c : Thread nD τ).loc main_arg0))
    (m ((c : Thread nD τ).loc main_arg1)) (m ((c : Thread nD τ).loc main_arg2))) shapeCasts_S8192x8x128_S8192x1024 := by
  unfold V
  simp only [opss, List.flatten_cons, List.flatten_nil, hostOps0, hostOps0_1, hostOps0_2, hostOps0_3, hostOps0_4, hostOps0_5, hostOps0_6, hostOps0_7,
    hostOps0_8, hostOps0_9, hostOps0_10, hostOps0_11, hostOps0_12, hostOps0_13, List.cons_append, List.nil_append, TRef.binary, TRef.nullary, TRef.ternary, TRef.unary, TRef.toBuf, TRef.ofBuf, cast_eq]
  after_reads_simp
  rfl

end Cert.Proof.Attn

end
-- ==== Proof.Attn.RefA.lean ====
/-
  What the reference computes on its way forward: scores, weights and the heads' outputs.
-/
module

public import proofs.«01_k».proof.Proof.Attn.Sums
public import proofs.«01_k».proof.Proof.Attn.Step

@[expose] public section

noncomputable section

open Idealize.ShloMosaic
open Idealize.ShloMosaic.TcCoe

namespace Cert.Proof.Attn

open Cert.AttnGradRefIdeal Cert.AttnGradRefIdeal.Gen Cert.AttnGradRefIdeal.Read

theorem at2 {n0 n1 : ℕ} {j : (⟨2, ![n0, n1]⟩ : Shape).Idx} {a : Fin n0} {b : Fin n1} (h0 : (j 0).val = a.val) (h1 : (j 1).val = b.val) :
    j = ix2 a b := by
  funext d; match d with | ⟨0, _⟩ => exact Fin.ext h0 | ⟨1, _⟩ => exact Fin.ext h1
theorem at3 {n0 n1 n2 : ℕ} {j : (⟨3, ![n0, n1, n2]⟩ : Shape).Idx} {a : Fin n0} {b : Fin n1} {c : Fin n2} (h0 : (j 0).val = a.val)
    (h1 : (j 1).val = b.val) (h2 : (j 2).val = c.val) : j = ix3 a b c := by
  funext d; match d with | ⟨0, _⟩ => exact Fin.ext h0 | ⟨1, _⟩ => exact Fin.ext h1 | ⟨2, _⟩ => exact Fin.ext h2

/-- The reference's arguments hold the data. -/
structure Args (x0 x1 x2 : (⟨S8192x1024, .bf16⟩ : BufTy).Contents (Elt Ideal)) (x3 : (⟨S8192x2048, .f32⟩ : BufTy).Contents (Elt Ideal))
    (x4 : (⟨S1x1024, .f32⟩ : BufTy).Contents (Elt Ideal)) (D : Data) : Prop where
  q : ∀ (t : Fin 8192) (e : Fin 1024), x0 (ix2 t e) = (D.q t e : EReal)
  k : ∀ (t : Fin 8192) (e : Fin 1024), x1 (ix2 t e) = (D.k t e : EReal)
  v : ∀ (t : Fin 8192) (e : Fin 1024), x2 (ix2 t e) = (D.v t e : EReal)
  dy : ∀ (t : Fin 8192) (e : ℕ) (h : 1024 + e < 2048), x3 (ix2 t ⟨1024 + e, h⟩) = (D.dy t e : EReal)
  g : ∀ e : Fin 1024, x4 (ix2 0 e) = (D.g e : EReal)

/-! ## Numbers -/

abbrev w0 : Ideal .f32 := FloatOps.ofBits .f32 0x00000000#32
abbrev wTop : Ideal .f32 := FloatOps.ofBits .f32 0x7F800000#32

theorem w0_eq : w0 = ((0 : ℝ) : EReal) := zero_word
theorem wTop_eq : wTop = (⊤ : EReal) := top_word

theorem softplus_of (a : Ideal .f32) (u : ℝ) (ha : a = (u : EReal)) :
    Scalar.select (FloatOps.cmpf .une (FloatOps.subf a w0) (FloatOps.subf a w0)) (FloatOps.addf a w0)
      (FloatOps.addf (FloatOps.maximumf a w0) (FloatOps.hostUnary .log1p (FloatOps.hostUnary .exp (FloatOps.hostNegf (FloatOps.hostAbsf (FloatOps.subf a w0))))))
      = (softplus u : EReal) := by
  rw [Ideal.cmpf_def, cmp_une_self]
  refine Eq.trans ?_ (softplus_coe u)
  rw [← w0_eq, ← ha]
  rfl

theorem logi_of (a b : Ideal .f32) (u v : ℝ) (ha : a = (u : EReal)) (hb : b = (v : EReal)) :
    FloatOps.hostUnary .exp (FloatOps.subf (Scalar.select (FloatOps.cmpf .oeq a wTop) w0 a) (Scalar.select (FloatOps.cmpf .oeq b wTop) w0 b))
      = ((Real.exp (u - v) : ℝ) : EReal) := by
  rw [Ideal.cmpf_def, Ideal.cmpf_def, ha, hb, wTop_eq, cmp_oeq_top, cmp_oeq_top]
  refine Eq.trans (b := Ideal.exp ((u : EReal) - (v : EReal))) rfl ?_
  rw [← EReal.coe_sub, Ideal.exp_coe]

theorem neg_of (a : Ideal .f32) (u : ℝ) (ha : a = (u : EReal)) : FloatOps.hostNegf a = ((-u : ℝ) : EReal) := by
  rw [ha, EReal.coe_neg]; rfl

theorem select_of {c : BitVec 1} {p : Prop} [Decidable p] (hc : c = BitVec.ofBool (decide p)) (a b : Ideal .f32) (u v : ℝ)
    (ha : a = (u : EReal)) (hb : b = (v : EReal)) : Scalar.select c a b = ((if p then u else v : ℝ) : EReal) := by
  rw [hc, ha, hb]
  by_cases hp : p
  · rw [if_pos hp, decide_eq_true hp]; rfl
  · rw [if_neg hp, decide_eq_false hp]; rfl

theorem mul_of (a b : Ideal .f32) (u v : ℝ) (ha : a = (u : EReal)) (hb : b = (v : EReal)) : FloatOps.mulf a b = ((u * v : ℝ) : EReal) := by
  rw [ha, hb, EReal.coe_mul]; rfl
theorem add_of (a b : Ideal .f32) (u v : ℝ) (ha : a = (u : EReal)) (hb : b = (v : EReal)) : FloatOps.addf a b = ((u + v : ℝ) : EReal) := by
  rw [ha, hb, EReal.coe_add]; rfl
theorem sub_of (a b : Ideal .f32) (u v : ℝ) (ha : a = (u : EReal)) (hb : b = (v : EReal)) : FloatOps.subf a b = ((u - v : ℝ) : EReal) := by
  rw [ha, hb, EReal.coe_sub]; rfl
theorem div_of (a b : Ideal .f32) (u v : ℝ) (ha : a = (u : EReal)) (hb : b = (v : EReal)) (h : v ≠ 0) :
    FloatOps.hostDivf a b = ((u * (1 / v) : ℝ) : EReal) := by
  rw [ha, hb, EReal.coe_mul, ← Ideal.div_coe h]; rfl
theorem exp_of (a : Ideal .f32) (u : ℝ) (ha : a = (u : EReal)) : FloatOps.hostUnary .exp a = ((Real.exp u : ℝ) : EReal) := by
  rw [ha, ← Ideal.exp_coe]; rfl

/-- A product of two rows. -/
theorem dot_of {n : ℕ} (a b : Fin n → EReal) (u v : ℕ → ℝ) (ha : ∀ k, a k = (u k.val : EReal)) (hb : ∀ k, b k = (v k.val : EReal)) :
    (∑ k, a k * b k) = ((∑ k ∈ Finset.range n, u k * v k : ℝ) : EReal) := by
  rw [Finset.sum_range, coe_sum]
  exact Finset.sum_congr rfl fun k _ => by rw [ha, hb, EReal.coe_mul]
/-- A sum from zero. -/
theorem sum_of {n : ℕ} (a : Fin n → EReal) (u : ℕ → ℝ) (ha : ∀ k, a k = (u k.val : EReal)) :
    w0 + (∑ k, a k) = ((∑ k ∈ Finset.range n, u k : ℝ) : EReal) := by
  rw [w0_eq, EReal.coe_zero, zero_add, Finset.sum_range, coe_sum]
  exact Finset.sum_congr rfl fun k _ => ha k

/-- Column `d` of head `h` of row `t`, in a row-major count. -/
theorem row_of (t h d : ℕ) (hh : h < 8) (hd : d < 128) : ((t * 8 + h) * 128 + d) / 1024 = t := by omega
theorem col_of (t h d : ℕ) (hh : h < 8) (hd : d < 128) : ((t * 8 + h) * 128 + d) % 1024 = h * 128 + d := by omega

section

variable {x0 x1 x2 : (⟨S8192x1024, .bf16⟩ : BufTy).Contents (Elt Ideal)} {x3 : (⟨S8192x2048, .f32⟩ : BufTy).Contents (Elt Ideal)}
variable {x4 : (⟨S1x1024, .f32⟩ : BufTy).Contents (Elt Ideal)} {D : Data}
variable (hx : Args x0 x1 x2 x3 x4 D)
include hx

theorem v4_of (h : Fin 8) (t : Fin 8192) (d : Fin 128) : val_main_v4 (F := Ideal) x0 (ix3 h t d) = ((D.head h).q t d : EReal) := by
  rw [val_main_v4_apply, val_main_v3_apply, val_main_v0_apply]
  have hh := h.isLt
  have hd := d.isLt
  exact (congrArg x0 (at2 (row_of t h d hh hd) (col_of t h d hh hd))).trans (hx.q t ⟨h.val * 128 + d.val, by omega⟩)
theorem v6_of (h : Fin 8) (t : Fin 8192) (d : Fin 128) : val_main_v6 (F := Ideal) x1 (ix3 h t d) = ((D.head h).k t d : EReal) := by
  rw [val_main_v6_apply, val_main_v5_apply, val_main_v1_apply]
  have hh := h.isLt
  have hd := d.isLt
  exact (congrArg x1 (at2 (row_of t h d hh hd) (col_of t h d hh hd))).trans (hx.k t ⟨h.val * 128 + d.val, by omega⟩)
theorem v26_of (h : Fin 8) (t : Fin 8192) (d : Fin 128) : val_main_v26 (F := Ideal) x2 (ix3 h t d) = ((D.head h).v t d : EReal) := by
  rw [val_main_v26_apply, val_main_v25_apply, val_main_v2_apply]
  have hh := h.isLt
  have hd := d.isLt
  exact (congrArg x2 (at2 (row_of t h d hh hd) (col_of t h d hh hd))).trans (hx.v t ⟨h.val * 128 + d.val, by omega⟩)

variable (h : Fin 8) (t s : Fin 8192)

/-- The scores. -/
theorem v9_of : val_main_v9 (F := Ideal) x0 x1 (ix3 h t s) = ((D.head h).z t s : EReal) := by
  rw [val_main_v9_apply, val_main_v8_apply, val_main_cst_apply, val_main_v7_apply]
  refine mul_of _ _ _ _ ?_ scale_coe
  rw [← Finset.sum_range (fun d => (D.head h).q t d * (D.head h).k s d)]
  exact dot_of _ _ ((D.head h).q t) ((D.head h).k s) (fun d => (congrArg _ (at3 rfl rfl rfl)).trans (v4_of hx h t d))
    (fun d => (congrArg _ (at3 rfl rfl rfl)).trans (v6_of hx h s d))

theorem z_of : val_main_call0_v0 (F := Ideal) x0 x1 (ix3 h t s) = ((D.head h).z t s : EReal) := by
  rw [val_main_call0_v0_apply, val_main_v16_apply]
  exact (neg_of _ _ (neg_of _ _ (v9_of hx h t s))).trans (by rw [neg_neg])
theorem nz_of : val_main_call3_v0 (F := Ideal) x0 x1 (ix3 h t s) = ((-(D.head h).z t s : ℝ) : EReal) := by
  rw [val_main_call3_v0_apply]
  exact neg_of _ _ (v9_of hx h t s)

theorem sp_of : val_main_call0_v1_0 (F := Ideal) x0 x1 (ix3 h t s) = (softplus ((D.head h).z t s) : EReal) := by
  simp only [val_main_call0_v1_0_apply, val_main_call0_call0_v4_apply, val_main_call0_call0_v6_apply, val_main_call0_call0_v11_apply,
    val_main_call0_call0_v10_apply, val_main_call0_call0_v9_apply, val_main_call0_call0_v8_apply, val_main_call0_call0_v7_apply,
    val_main_call0_call0_v5_apply, val_main_call0_call0_v3_apply, val_main_call0_call0_v2_apply, val_main_call0_call0_v1_apply,
    val_main_call0_call0_v0_apply, val_main_call0_call0_cst_apply]
  exact softplus_of _ _ (z_of hx h t s)
theorem nsp_of : val_main_call3_v1_0 (F := Ideal) x0 x1 (ix3 h t s) = (softplus (-(D.head h).z t s) : EReal) := by
  simp only [val_main_call3_v1_0_apply, val_main_call3_call0_v4_apply, val_main_call3_call0_v6_apply, val_main_call3_call0_v11_apply,
    val_main_call3_call0_v10_apply, val_main_call3_call0_v9_apply, val_main_call3_call0_v8_apply, val_main_call3_call0_v7_apply,
    val_main_call3_call0_v5_apply, val_main_call3_call0_v3_apply, val_main_call3_call0_v2_apply, val_main_call3_call0_v1_apply,
    val_main_call3_call0_v0_apply, val_main_call3_call0_cst_apply]
  exact softplus_of _ _ (nz_of hx h t s)

/-- The logistic function of the scores, and of their negatives. -/
theorem v17_1_of : val_main_v17_1 (F := Ideal) x0 x1 (ix3 h t s) = (logi ((D.head h).z t s) : EReal) := by
  simp only [val_main_v17_1_apply, val_main_call0_call0_v21_apply, val_main_call0_call0_v20_apply, val_main_call0_call0_v19_apply,
    val_main_call0_call0_v18_apply, val_main_call0_call0_v17_apply, val_main_call0_call0_v16_apply, val_main_call0_call0_v15_apply,
    val_main_call0_call0_v14_apply, val_main_call0_call0_v13_apply, val_main_call0_call0_cst_0_apply, val_main_call0_call0_cst_1_apply,
    val_main_call0_call0_cst_2_apply, val_main_call0_call0_cst_3_apply]
  exact (logi_of _ _ _ _ (z_of hx h t s) (sp_of hx h t s)).trans (by rw [exp_sub_softplus])
theorem v21_1_of : val_main_v21_1 (F := Ideal) x0 x1 (ix3 h t s) = ((1 - logi ((D.head h).z t s) : ℝ) : EReal) := by
  simp only [val_main_v21_1_apply, val_main_call3_call0_v21_apply, val_main_call3_call0_v20_apply, val_main_call3_call0_v19_apply,
    val_main_call3_call0_v18_apply, val_main_call3_call0_v17_apply, val_main_call3_call0_v16_apply, val_main_call3_call0_v15_apply,
    val_main_call3_call0_v14_apply, val_main_call3_call0_v13_apply, val_main_call3_call0_cst_0_apply, val_main_call3_call0_cst_1_apply,
    val_main_call3_call0_cst_2_apply, val_main_call3_call0_cst_3_apply]
  exact (logi_of _ _ _ _ (nz_of hx h t s) (nsp_of hx h t s)).trans (by rw [exp_neg_softplus])

omit hx in
theorem v15_of : val_main_v15 (F := Ideal) (ix2 t s) = BitVec.ofBool (decide (s.val < t.val)) := by
  rw [val_main_v15_apply, val_main_v13_apply, val_main_v11_apply, val_main_v10_apply, val_main_v14_apply, val_main_v12_apply, val_main_v10_apply]
  have ht := t.isLt
  have hs := s.isLt
  exact WordCmp.cmpi_slt_ofNat (lt_of_lt_of_le hs (by norm_num)) (lt_of_lt_of_le ht (by norm_num))
omit hx in
theorem v18_1_of : val_main_v18_1 (F := Ideal) (ix3 h t s) = BitVec.ofBool (decide (s.val < t.val)) := by
  rw [val_main_v18_1_apply]
  exact (congrArg _ (at2 rfl rfl)).trans (v15_of t s)
omit hx in
theorem v24_1_of : val_main_v24_1 (F := Ideal) (ix3 h t s) = BitVec.ofBool (decide (s.val < t.val)) := by
  rw [val_main_v24_1_apply]
  exact (congrArg _ (at2 rfl rfl)).trans (v15_of t s)

theorem v18_0_of : val_main_v18_0 (F := Ideal) x0 x1 (ix3 h t s) = ((D.head h).L t s : EReal) := by
  rw [val_main_v18_0_apply, val_main_call1_v2_apply, val_main_call1_v0_apply, val_main_cst_0_apply, val_main_v17_0_apply]
  exact select_of (v18_1_of h t s) _ _ _ _ (neg_of _ _ (sp_of hx h t s)) w0_eq

theorem v19_of : val_main_v19 (F := Ideal) x0 x1 (ix3 h t s) = ((∑ u ∈ Finset.Ico s.val N, (D.head h).L t u : ℝ) : EReal) :=
  suffix_of (M1 := 8191) rfl (val_main_v18_0 (F := Ideal) x0 x1) (val_main_call2_v0 (F := Ideal)) h_S_
    (fun i => by rw [val_main_call2_v0_apply, val_main_call2_cst_apply]; exact w0_eq) h t s ((D.head h).L t) (fun u => v18_0_of hx h t u) _

theorem v20_of : val_main_v20 (F := Ideal) x0 x1 (ix3 h t s) = ((D.head h).R t s : EReal) := by
  rw [val_main_v20_apply]
  refine (sub_of _ _ _ _ (v19_of hx h t s) (v18_0_of hx h t s)).trans ?_
  rw [Finset.sum_eq_sum_Ico_succ_bot s.isLt, HR.R]
  congr 1
  ring

theorem v23_of : val_main_v23 (F := Ideal) x0 x1 (ix3 h t s)
    = ((Real.exp ((D.head h).z t s - softplus ((D.head h).z t s) + (D.head h).R t s) : ℝ) : EReal) := by
  rw [val_main_v23_apply, val_main_v22_apply, val_main_v21_0_apply]
  refine (exp_of _ _ (add_of _ _ _ _ (neg_of _ _ (nsp_of hx h t s)) (v20_of hx h t s))).trans ?_
  rw [softplus_neg]
  congr 3
  ring

/-- The weights. -/
theorem v24_0_of : val_main_v24_0 (F := Ideal) x0 x1 (ix3 h t s) = ((D.head h).A t s : EReal) := by
  rw [val_main_v24_0_apply, val_main_call4_v2_apply, val_main_call4_v0_apply, val_main_cst_1_apply]
  exact select_of (v24_1_of h t s) _ _ _ _ (v23_of hx h t s) w0_eq

/-- The heads' outputs. -/
theorem v28_of (d : Fin 128) : val_main_v28 (F := Ideal) x0 x1 x2 (ix3 t h d) = ((D.head h).o t d : EReal) := by
  rw [val_main_v28_apply, val_main_v27_apply]
  exact dot_of _ _ ((D.head h).A t) (fun u => (D.head h).v u d) (fun u => (congrArg _ (at3 rfl rfl rfl)).trans (v24_0_of hx h t u))
    (fun u => (congrArg _ (at3 rfl rfl rfl)).trans (v26_of hx h u d))

end

end Cert.Proof.Attn

end
-- ==== Proof.Attn.RefB.lean ====
/-
  What the reference computes on its way back: the norm's gradient, the weights' gradients, and the four results.
-/
module

public import proofs.«01_k».proof.Proof.Attn.RefA

@[expose] public section

noncomputable section

open Idealize.ShloMosaic
open Idealize.ShloMosaic.TcCoe

namespace Cert.Proof.Attn

open Cert.AttnGradRefIdeal Cert.AttnGradRefIdeal.Gen Cert.AttnGradRefIdeal.Read

/-- The square of the norm's factor. -/
theorem rn_sq (o : ℕ → ℕ → ℝ) (t : ℕ) : rn o t * rn o t = 1 / ms o t := by
  have h := ms_pos o t
  rw [rn, ← mul_inv, Real.mul_self_sqrt h.le, one_div]

/-- The norm's gradient, as the reference adds it up. -/
theorem nd_eq (o dy : ℕ → ℕ → ℝ) (g : ℕ → ℝ) (t d : ℕ) (S : ℝ) (hS : S = ∑ e ∈ Finset.range 128, o t e * (dy t e * g e)) :
    dy t d * g d * rn o t + o t d * (S * (-(1 / 2) * (rn o t * (1 / ms o t))) * (1 / 128))
      + S * (-(1 / 2) * (rn o t * (1 / ms o t))) * (1 / 128) * o t d = nd o dy g t d := by
  have e : (∑ e : Fin 128, dy t e * g e * (o t e * rn o t)) = S * rn o t := by
    rw [hS, Finset.sum_range, Finset.sum_mul]
    exact Finset.sum_congr rfl fun _ _ => by ring
  rw [nd, e, ← rn_sq]
  ring

section

variable {x0 x1 x2 : (⟨S8192x1024, .bf16⟩ : BufTy).Contents (Elt Ideal)} {x3 : (⟨S8192x2048, .f32⟩ : BufTy).Contents (Elt Ideal)}
variable {x4 : (⟨S1x1024, .f32⟩ : BufTy).Contents (Elt Ideal)} {D : Data}
variable (hx : Args x0 x1 x2 x3 x4 D)
include hx

/-! ## The norm -/

section

variable (h : Fin 8) (t : Fin 8192)

theorem v31_of : val_main_v31 (F := Ideal) x0 x1 x2 (ix2 t h)
    = ((∑ d ∈ Finset.range 128, (D.head h).o t d * (D.head h).o t d : ℝ) : EReal) := by
  rw [val_main_v31_apply, val_main_cst_2_apply]
  exact sum_of _ (fun d => (D.head h).o t d * (D.head h).o t d) fun d =>
    (congrArg _ (at3 rfl rfl rfl)).trans (mul_of _ _ _ _ (v28_of hx h t d) (v28_of hx h t d))

theorem v36_of : val_main_v36 (F := Ideal) x0 x1 x2 (ix3 t h 0) = (ms (D.head h).o t : EReal) := by
  rw [val_main_v36_apply, val_main_v34_apply, val_main_v32_apply, val_main_v33_apply, val_main_cst_3_apply, val_main_v35_apply, val_main_cst_4_apply]
  refine (add_of _ _ _ _ (div_of _ _ _ _ ((congrArg _ (at2 rfl rfl)).trans (v31_of hx h t)) ofBits_128 (by norm_num)) eps_spec.1).trans ?_
  rw [Finset.sum_range]
  rfl

theorem v37_of : val_main_v37 (F := Ideal) x0 x1 x2 (ix3 t h 0) = (rn (D.head h).o t : EReal) := by
  have hp := ms_pos (D.head h).o t
  rw [val_main_v37_apply, v36_of hx h t]
  refine Eq.trans (b := Ideal.rsqrt (ms (D.head h).o t : EReal)) rfl ?_
  rw [Ideal.rsqrt_coe, if_neg (not_lt.mpr hp.le), if_neg hp.ne']
  rfl

theorem v40_of : val_main_v40 (F := Ideal) x0 x1 x2 (ix3 t h 0)
    = ((-(1 / 2) * (rn (D.head h).o t * (1 / ms (D.head h).o t)) : ℝ) : EReal) := by
  rw [val_main_v40_apply, val_main_v39_apply, val_main_cst_5_apply, val_main_v38_apply]
  exact mul_of _ _ _ _ ofBits_neg_half (div_of _ _ _ _ (v37_of hx h t) (v36_of hx h t) (ms_pos _ _).ne')

theorem v42_of (d : Fin 128) : val_main_v42 (F := Ideal) x0 x1 x2 (ix3 t h d) = (((D.head h).o t d * rn (D.head h).o t : ℝ) : EReal) := by
  rw [val_main_v42_apply, val_main_v41_apply]
  exact mul_of _ _ _ _ (v28_of hx h t d) ((congrArg _ (at3 rfl rfl rfl)).trans (v37_of hx h t))

theorem v48_of (d : Fin 128) : val_main_v48 (F := Ideal) x3 (ix3 t h d) = (D.dy t (h * 128 + d) : EReal) := by
  rw [val_main_v48_apply, val_main_v47_apply]
  have hh := h.isLt
  have hd := d.isLt
  exact (congrArg x3 (at2 (row_of t h d hh hd) (congrArg (1024 + ·) (col_of t h d hh hd)))).trans (hx.dy t (h.val * 128 + d.val) (by omega))

theorem v52_of (d : Fin 128) : val_main_v52 (F := Ideal) x4 (ix3 t h d) = (D.g (h * 128 + d) : EReal) := by
  rw [val_main_v52_apply, val_main_v43_apply, val_main_v29_apply]
  have hh := h.isLt
  have hd := d.isLt
  have hl : h.val * 128 + d.val < 1024 := by omega
  exact (congrArg x4 (at2 (a := 0) (b := ⟨h.val * 128 + d.val, hl⟩) rfl (Nat.mod_eq_of_lt hl))).trans (hx.g ⟨h.val * 128 + d.val, hl⟩)

theorem v53_of (d : Fin 128) : val_main_v53 (F := Ideal) x3 x4 (ix3 t h d) = ((D.dy t (h * 128 + d) * D.g (h * 128 + d) : ℝ) : EReal) := by
  rw [val_main_v53_apply]
  exact mul_of _ _ _ _ (v48_of hx h t d) (v52_of hx h t d)

/-- The row sum that the norm's gradient takes. -/
def rowS (D : Data) (h t : ℕ) : ℝ := ∑ d ∈ Finset.range 128, (D.head h).o t d * (D.dy t (h * 128 + d) * D.g (h * 128 + d))

theorem v57_of : val_main_v57 (F := Ideal) x0 x1 x2 x3 x4 (ix3 t h 0) = (rowS D h t : EReal) := by
  rw [val_main_v57_apply]
  have hh := h.isLt
  refine (congrArg _ (at2 (a := t) (b := h) ?_ ?_)).trans (?_ : val_main_v56 (F := Ideal) x0 x1 x2 x3 x4 (ix2 t h) = _)
  · show ((t.val * 8 + h.val) * 1 + 0) / 8 = t.val
    omega
  · show ((t.val * 8 + h.val) * 1 + 0) % 8 = h.val
    omega
  rw [val_main_v56_apply, val_main_cst_8_apply]
  exact sum_of _ _ fun d => (congrArg _ (at3 rfl rfl rfl)).trans (mul_of _ _ _ _ (v28_of hx h t d) (v53_of hx h t d))

theorem v64_of (d : Fin 128) : val_main_v64 (F := Ideal) x0 x1 x2 x3 x4 (ix3 t h d)
    = ((rowS D h t * (-(1 / 2) * (rn (D.head h).o t * (1 / ms (D.head h).o t))) * (1 / 128) : ℝ) : EReal) := by
  rw [val_main_v64_apply]
  refine (congrArg _ (at2 (a := t) (b := h) rfl rfl)).trans ?_
  rw [val_main_v63_apply, val_main_cst_10_apply]
  refine (sum_of _ (fun _ => rowS D h t * (-(1 / 2) * (rn (D.head h).o t * (1 / ms (D.head h).o t))) * (1 / 128)) fun k => ?_).trans ?_
  · refine (congrArg _ (at3 (a := t) (b := h) (c := 0) rfl rfl (by show k.val = 0; omega))).trans ?_
    rw [val_main_v62_apply, val_main_v60_apply, val_main_v61_apply, val_main_cst_9_apply]
    exact div_of _ _ _ _ (mul_of _ _ _ _ (v57_of hx h t) (v40_of hx h t)) ofBits_128 (by norm_num)
  · rw [Finset.sum_range_one]

/-- The gradient of the heads' outputs. -/
theorem v68_of (d : Fin 128) : val_main_v68 (F := Ideal) x0 x1 x2 x3 x4 (ix3 t h d) = ((D.head h).dO t d : EReal) := by
  rw [val_main_v68_apply, val_main_v66_apply, val_main_v59_apply, val_main_v58_apply, val_main_v65_apply, val_main_v67_apply]
  refine (add_of _ _ _ _ (add_of _ _ _ _ (mul_of _ _ _ _ (v53_of hx h t d) ((congrArg _ (at3 rfl rfl rfl)).trans (v37_of hx h t)))
    (mul_of _ _ _ _ (v28_of hx h t d) (v64_of hx h t d))) (mul_of _ _ _ _ (v64_of hx h t d) (v28_of hx h t d))).trans ?_
  exact congrArg _ (nd_eq (D.head h).o (fun t d => D.dy t (h * 128 + d)) (fun d => D.g (h * 128 + d)) t d (rowS D h t) rfl)

theorem v70_of (d : Fin 128) : val_main_v70 (F := Ideal) x0 x1 x2 x3 x4 (ix3 h t d) = ((D.head h).dO t d : EReal) := by
  rw [val_main_v70_apply]
  exact (congrArg _ (at3 rfl rfl rfl)).trans (v68_of hx h t d)

end

/-- The gradient of the gain. -/
theorem v69_of (e : Fin 1024) : val_main_v69 (F := Ideal) x0 x1 x2 x3 (ix2 0 e) = (D.dg e : EReal) := by
  have he := e.isLt
  have hh : e.val / 128 < 8 := by omega
  have hd : e.val % 128 < 128 := by omega
  rw [val_main_v69_apply]
  refine (congrArg _ (at2 (a := ⟨e.val / 128, hh⟩) (b := ⟨e.val % 128, hd⟩) ?_ ?_)).trans ?_
  · show (0 * 1024 + e.val) / 128 = e.val / 128
    omega
  · show (0 * 1024 + e.val) % 128 = e.val % 128
    omega
  rw [val_main_v54_apply, val_main_cst_7_apply]
  refine (sum_of _ (fun _ => D.dg e) fun k => ?_).trans (by rw [Finset.sum_range_one])
  rw [val_main_v51_apply]
  refine (congrArg _ (at2 (a := ⟨e.val / 128, hh⟩) (b := ⟨e.val % 128, hd⟩) ?_ ?_)).trans ?_
  · show ((k.val * 8 + e.val / 128) * 128 + e.val % 128) / 128 = e.val / 128
    omega
  · show ((k.val * 8 + e.val / 128) * 128 + e.val % 128) % 128 = e.val % 128
    omega
  rw [val_main_v50_apply, val_main_cst_6_apply]
  refine sum_of _ (fun u => D.gain (e.val / 128) (e.val % 128) u) fun u => ?_
  refine (congrArg _ (at3 (a := u) (b := ⟨e.val / 128, hh⟩) (c := ⟨e.val % 128, hd⟩) rfl rfl rfl)).trans ?_
  rw [val_main_v49_apply]
  refine (mul_of _ _ _ _ (v42_of hx ⟨e.val / 128, hh⟩ u ⟨e.val % 128, hd⟩) (v48_of hx ⟨e.val / 128, hh⟩ u ⟨e.val % 128, hd⟩)).trans ?_
  rw [mul_comm]
  rfl

/-! ## The weights and the scores -/

section

variable (h : Fin 8) (t s : Fin 8192)

theorem v77_of : val_main_v77 (F := Ideal) x0 x1 x2 x3 x4 (ix3 h t s) = ((D.head h).G t s : EReal) := by
  rw [val_main_v77_apply, val_main_v76_apply, val_main_v73_apply, val_main_call5_v0_apply, val_main_call5_cst_apply]
  refine (mul_of _ _ _ _ (select_of (v24_1_of h t s) _ _ _ _ (dot_of _ _ ((D.head h).dO t) ((D.head h).v s)
    (fun d => (congrArg _ (at3 rfl rfl rfl)).trans (v70_of hx h t d)) (fun d => (congrArg _ (at3 rfl rfl rfl)).trans (v26_of hx h s d))) w0_eq)
    (v23_of hx h t s)).trans (congrArg _ ?_)
  rw [HR.G, HR.A, Finset.sum_range]
  split
  · rw [mul_comm]
  · rw [zero_mul, zero_mul]

theorem v80_of : val_main_v80 (F := Ideal) x0 x1 x2 x3 x4 (ix3 h t s) = ((∑ u ∈ Finset.range (s.val + 1), (D.head h).G t u : ℝ) : EReal) :=
  prefix_of (M1 := 8191) rfl (val_main_v77 (F := Ideal) x0 x1 x2 x3 x4) (val_main_call7_v0 (F := Ideal)) h_S_
    (fun i => by rw [val_main_call7_v0_apply, val_main_call7_cst_apply]; exact w0_eq) h t s ((D.head h).G t) (fun u => v77_of hx h t u) _

theorem v81_of : val_main_v81 (F := Ideal) x0 x1 x2 x3 x4 (ix3 h t s) = ((D.head h).P t s : EReal) := by
  rw [val_main_v81_apply, val_main_v79_apply]
  refine (add_of _ _ _ _ (neg_of _ _ (v77_of hx h t s)) (v80_of hx h t s)).trans (congrArg _ ?_)
  rw [Finset.sum_range_succ, HR.P]
  ring

/-- The scores' gradient, scaled. -/
theorem v87_of : val_main_v87 (F := Ideal) x0 x1 x2 x3 x4 (ix3 h t s) = ((D.head h).dz t s : EReal) := by
  rw [val_main_v87_apply, val_main_v86_apply, val_main_cst_11_apply, val_main_v85_apply, val_main_v78_apply, val_main_call6_v1_apply,
    val_main_call6_v0_apply, val_main_v84_apply, val_main_v83_apply, val_main_call9_v1_apply, val_main_call9_v0_apply, val_main_v82_apply,
    val_main_call8_v0_apply, val_main_call8_cst_apply]
  refine (mul_of _ _ _ _ (add_of _ _ _ _ (neg_of _ _ (mul_of _ _ _ _ (neg_of _ _ (v77_of hx h t s)) (v21_1_of hx h t s)))
    (neg_of _ _ (neg_of _ _ (mul_of _ _ _ _ (neg_of _ _ (select_of (v18_1_of h t s) _ _ _ _ (v81_of hx h t s) w0_eq)) (v17_1_of hx h t s)))))
    scale_coe).trans (congrArg _ ?_)
  rw [HR.dz]
  split
  · ring
  · next hn => rw [(D.head h).G_zero (not_lt.mp hn)]; ring

end

/-! ## The results -/

theorem v93_of (t : Fin 8192) (e : Fin 1024) : val_main_v93 (F := Ideal) x0 x1 x2 x3 x4 (ix2 t e) = (D.dq t e : EReal) := by
  have he := e.isLt
  have ht := t.isLt
  have hh : e.val / 128 < 8 := by omega
  have hd : e.val % 128 < 128 := by omega
  rw [val_main_v93_apply, val_main_v92_apply]
  refine (congrArg _ (at3 (a := ⟨e.val / 128, hh⟩) (b := t) (c := ⟨e.val % 128, hd⟩) ?_ ?_ ?_)).trans ?_
  · show (t.val * 1024 + e.val) / 128 % 8 = e.val / 128
    omega
  · show (t.val * 1024 + e.val) / 1024 = t.val
    omega
  · show (t.val * 1024 + e.val) % 128 = e.val % 128
    omega
  rw [val_main_v89_apply]
  exact dot_of _ _ ((D.head (e.val / 128)).dz t) (fun u => (D.head (e.val / 128)).k u (e.val % 128))
    (fun u => (congrArg _ (at3 rfl rfl rfl)).trans (v87_of hx ⟨e.val / 128, hh⟩ t u))
    (fun u => (congrArg _ (at3 rfl rfl rfl)).trans (v6_of hx ⟨e.val / 128, hh⟩ u ⟨e.val % 128, hd⟩))

theorem v94_of (e : Fin 1024) (l : Fin 8192) : val_main_v94 (F := Ideal) x0 x1 x2 x3 x4 (ix2 e l) = (D.dk e l : EReal) := by
  have he := e.isLt
  have ht := l.isLt
  have hh : e.val / 128 < 8 := by omega
  have hd : e.val % 128 < 128 := by omega
  rw [val_main_v94_apply, val_main_v91_apply, val_main_v90_apply]
  refine (congrArg _ (at3 (a := ⟨e.val / 128, hh⟩) (b := l) (c := ⟨e.val % 128, hd⟩) ?_ ?_ ?_)).trans ?_
  · show (l.val * 1024 + e.val) / 128 % 8 = e.val / 128
    omega
  · show (l.val * 1024 + e.val) / 1024 = l.val
    omega
  · show (l.val * 1024 + e.val) % 128 = e.val % 128
    omega
  rw [val_main_v88_apply]
  refine (dot_of _ _ (fun u => (D.head (e.val / 128)).dz u l) (fun u => (D.head (e.val / 128)).q u (e.val % 128))
    (fun u => (congrArg _ (at3 rfl rfl rfl)).trans (v87_of hx ⟨e.val / 128, hh⟩ u l))
    (fun u => (congrArg _ (at3 rfl rfl rfl)).trans (v4_of hx ⟨e.val / 128, hh⟩ u ⟨e.val % 128, hd⟩))).trans (congrArg _ ?_)
  exact Finset.sum_congr rfl fun _ _ => mul_comm _ _

theorem v95_of (e : Fin 1024) (l : Fin 8192) : val_main_v95 (F := Ideal) x0 x1 x2 x3 x4 (ix2 e l) = (D.dv e l : EReal) := by
  have he := e.isLt
  have ht := l.isLt
  have hh : e.val / 128 < 8 := by omega
  have hd : e.val % 128 < 128 := by omega
  rw [val_main_v95_apply, val_main_v75_apply, val_main_v74_apply, val_main_v72_apply]
  refine (congrArg _ (at3 (a := ⟨e.val / 128, hh⟩) (b := ⟨e.val % 128, hd⟩) (c := l) ?_ ?_ ?_)).trans ?_
  · show (l.val * 1024 + e.val) / 128 % 8 = e.val / 128
    omega
  · show (l.val * 1024 + e.val) % 128 = e.val % 128
    omega
  · show (l.val * 1024 + e.val) / 1024 = l.val
    omega
  rw [val_main_v71_apply]
  exact dot_of _ _ (fun u => (D.head (e.val / 128)).dO u (e.val % 128)) (fun u => (D.head (e.val / 128)).A u l)
    (fun u => (congrArg _ (at3 rfl rfl rfl)).trans (v70_of hx ⟨e.val / 128, hh⟩ u ⟨e.val % 128, hd⟩))
    (fun u => (congrArg _ (at3 rfl rfl rfl)).trans (v24_0_of hx ⟨e.val / 128, hh⟩ u l))

end

end Cert.Proof.Attn

end
-- ==== Proof.Attn.Claim.lean ====
/-
  The claims about the attention's gradient: both programs end cleanly, and over the extended reals they compute the same four
  arrays where the inputs are real numbers.
-/
module

public import proofs.«01_k».proof.Defs
public import proofs.«01_k».proof.Proof.Gen.Pre_attn_finite
public import proofs.«01_k».proof.Proof.AttnBits.Sound
public import proofs.«01_k».proof.Proof.Attn.Before
public import proofs.«01_k».proof.Proof.Attn.RefB

@[expose] public section

noncomputable section

open Idealize.ShloMosaic
open Idealize.ShloMosaic.TcCoe
open Idealize.SL.Sem

namespace Cert.Proof.Attn

/-! ## The data -/

/-- An entry of an array of two axes, as a real number. -/
def entry {n0 n1 : ℕ} (x : (⟨2, ![n0, n1]⟩ : Shape).Idx → EReal) (a b : ℕ) : ℝ := if h : a < n0 ∧ b < n1 then (x (ix2 ⟨a, h.1⟩ ⟨b, h.2⟩)).toReal else 0

theorem entry_of {n0 n1 : ℕ} (x : (⟨2, ![n0, n1]⟩ : Shape).Idx → EReal) (hx : ∀ i, ∃ r : ℝ, x i = r) (a b : ℕ) (ha : a < n0) (hb : b < n1) :
    x (ix2 ⟨a, ha⟩ ⟨b, hb⟩) = (entry x a b : EReal) := by
  rw [entry, dif_pos ⟨ha, hb⟩]
  obtain ⟨r, hr⟩ := hx (ix2 ⟨a, ha⟩ ⟨b, hb⟩)
  rw [hr, EReal.toReal_coe]

section

variable (x0 x1 x2 : (⟨2, ![8192, 1024]⟩ : Shape).Idx → EReal) (x3 : (⟨2, ![8192, 2048]⟩ : Shape).Idx → EReal)
variable (x4 : (⟨2, ![1, 1024]⟩ : Shape).Idx → EReal)

/-- The arguments' entries. -/
def dataOf : Data := ⟨entry x0, entry x1, entry x2, fun t e => entry x3 t (1024 + e), fun e => entry x4 0 e⟩

theorem args_of (h0 : ∀ i, ∃ r : ℝ, x0 i = r) (h1 : ∀ i, ∃ r : ℝ, x1 i = r) (h2 : ∀ i, ∃ r : ℝ, x2 i = r)
    (h3 : ∀ i, ∃ r : ℝ, x3 i = r) (h4 : ∀ i, ∃ r : ℝ, x4 i = r) : Args x0 x1 x2 x3 x4 (dataOf x0 x1 x2 x3 x4) where
  q t e := entry_of x0 h0 t e t.isLt e.isLt
  k t e := entry_of x1 h1 t e t.isLt e.isLt
  v t e := entry_of x2 h2 t e t.isLt e.isLt
  dy t e h := entry_of x3 h3 t (1024 + e) t.isLt h
  g e := entry_of x4 h4 0 e Nat.one_pos e.isLt

end

section

open Cert.AttnGradIdeal Cert.AttnGradIdeal.Gen

variable (m : (ℓ : Loc nD τ sig) → Buf (Elt Ideal) ℓ) (c : Dev nD)

/-- The head's rows in the array the call is given. -/
theorem cast_rows (y : Cert.AttnGradRefIdeal.S8192x8x128.Idx → EReal) (t : Fin 8192) (h : Fin 8) (d : Fin 128) (hh : h.val * 128 + d.val < 1024) :
    shapeCast S8192x1024 y shapeCasts_S8192x8x128_S8192x1024 (ix2 t ⟨h.val * 128 + d.val, hh⟩) = y (ix3 t h d) :=
  shapeCast_apply y shapeCasts_S8192x8x128_S8192x1024 (ix2 t ⟨h.val * 128 + d.val, hh⟩) (ix3 t h d) (by
    rw [Shape.rowMajor_val_two, Shape.rowMajor_val_three]
    show (t.val * 8 + h.val) * 128 + d.val = t.val * 1024 + (h.val * 128 + d.val)
    omega)

/-- The arrays of the call hold the data the arguments hold. -/
theorem holds_of {D : Data} (hx : Args (m ((c : Thread nD τ).loc main_arg0)) (m ((c : Thread nD τ).loc main_arg1)) (m ((c : Thread nD τ).loc main_arg2))
    (m ((c : Thread nD τ).loc main_arg3)) (m ((c : Thread nD τ).loc main_arg4)) D) : Holds m c D where
  q t e := by rw [V_main_arg0]; exact hx.q t e
  k t e := by rw [V_main_arg1]; exact hx.k t e
  v t e := by rw [V_main_arg2]; exact hx.v t e
  o t h d hh hd := by
    rw [V_v29]
    have h8 : h < 8 := by omega
    exact (cast_rows _ t ⟨h, h8⟩ ⟨d, hd⟩ hh).trans (v28_of hx ⟨h, h8⟩ t ⟨d, hd⟩)
  dy t e h := by rw [V_main_arg3]; exact hx.dy t e h
  g e := by rw [V_main_arg4]; exact hx.g e
  m4 := m4_of m c
  m6 := m6_of m c

end

/-- What the precondition says of an array, read at an index. -/
theorem real_of_pre {s : Shape} (x : s.Idx → EReal)
    (h : (fun i => Ideal.cmp .olt (max (x i) (-(x i))) ⊤ : s.Idx → BitVec 1) = fun _ => 1#1) (i : s.Idx) : ∃ r : ℝ, x i = r := by
  refine real_of_abs_lt _ ?_
  have := congrFun h i
  by_contra hc
  simp [hc, Ideal.cmp] at this

section

open Cert.AttnGradIdeal Cert.AttnGradIdeal.Gen

variable (m : (ℓ : Loc nD τ sig) → Buf (Elt Ideal) ℓ) (ρ : Dev nD → PrngReg)

set_option maxHeartbeats 2000000 in
/-- The kernel's results. -/
theorem values_run {D : Dev nD → Data} (hD : ∀ c, Holds m c (D c)) :
    θ_run (defs (F := Ideal)) (onTc (τ := τ) (main (F := Ideal))) ⟨m, fun _ => 0, ρ⟩ (fun r => ∀ c : Dev nD,
      r.2.mem ((c.tc : Thread nD τ).loc main_v36_0) = (fun y : S8192x1024.Idx => ((D c).dq (y 0).val (y 1).val : EReal))
      ∧ r.2.mem ((c.tc : Thread nD τ).loc main_v36_1) = (fun y : S1024x8192.Idx => ((D c).dk (y 0).val (y 1).val : EReal))
      ∧ r.2.mem ((c.tc : Thread nD τ).loc main_v36_2) = (fun y : S1024x8192.Idx => ((D c).dv (y 0).val (y 1).val : EReal))
      ∧ r.2.mem ((c.tc : Thread nD τ).loc main_v36_3) = (fun y : S1x1024.Idx => ((D c).dg (y 1).val : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 8).trans (final8 m c (hD c)), ((h.1 c).1 9).trans (final9 m c (hD c)),
      ((h.1 c).1 10).trans (final10 m c (hD c)), ((h.1 c).1 11).trans (final11 m c (hD c)),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 4).trans (((dats m 0 c).arrAt_in 4 rfl _).trans ((A_eq m c 4).trans (V_main_arg3 m c))),
      ((h.1 c).1 5).trans (((dats m 0 c).arrAt_in 5 rfl _).trans ((A_eq m c 5).trans (V_main_arg4 m c)))⟩) (run_main_quiescent m ρ)

end

/-! ## The claims -/

theorem frame_kernel : Cert.quiescent_AttnGrad := fun m ρ _ => AttnBits.frame_run m ρ
theorem frame_ideal : Cert.quiescent_AttnGradIdeal := fun m ρ _ => frame_run m ρ
theorem frame_ideal_pre : Cert.quiescent_AttnGradIdeal_pre_attn_finite := fun m ρ _ => frame_run m ρ
theorem frame_ref : Cert.quiescent_AttnGradRefIdeal := fun m ρ _ =>
  (θ_run Cert.AttnGradRefIdeal.defs _ _).mono (fun r h => ⟨fun c => (h c).2.2.2.2,
      Idealize.ShloMosaic.sem_eq_zero_of_no_sems (by decide) r.2⟩)
    (Cert.AttnGradRefIdeal.Value.run (F := Ideal) m ρ)
theorem frame_ref_pre : Cert.quiescent_AttnGradRefIdeal_pre_attn_finite := fun m ρ _ => frame_ref m ρ trivial

theorem preserves : Cert.preserves_AttnGrad_AttnGradIdeal := IdealRules.named_const.statement _ _ _ _ _ rfl

/-- What the precondition says of the arguments. -/
theorem args_of_pre (m : (ℓ : Loc Cert.AttnGradIdeal.nD Cert.AttnGradIdeal.τ Cert.AttnGradIdeal.sig) → Buf (Elt Ideal) ℓ)
    (hpre : Cert.Pre_AttnGradIdeal_attn_finite m) (c : Dev Cert.AttnGradIdeal.nD) :
    Args (m ((c : Thread Cert.AttnGradIdeal.nD Cert.AttnGradIdeal.τ).loc Cert.AttnGradIdeal.main_arg0))
      (m ((c : Thread Cert.AttnGradIdeal.nD Cert.AttnGradIdeal.τ).loc Cert.AttnGradIdeal.main_arg1))
      (m ((c : Thread Cert.AttnGradIdeal.nD Cert.AttnGradIdeal.τ).loc Cert.AttnGradIdeal.main_arg2))
      (m ((c : Thread Cert.AttnGradIdeal.nD Cert.AttnGradIdeal.τ).loc Cert.AttnGradIdeal.main_arg3))
      (m ((c : Thread Cert.AttnGradIdeal.nD Cert.AttnGradIdeal.τ).loc Cert.AttnGradIdeal.main_arg4))
      (dataOf (m ((c : Thread Cert.AttnGradIdeal.nD Cert.AttnGradIdeal.τ).loc Cert.AttnGradIdeal.main_arg0))
        (m ((c : Thread Cert.AttnGradIdeal.nD Cert.AttnGradIdeal.τ).loc Cert.AttnGradIdeal.main_arg1))
        (m ((c : Thread Cert.AttnGradIdeal.nD Cert.AttnGradIdeal.τ).loc Cert.AttnGradIdeal.main_arg2))
        (m ((c : Thread Cert.AttnGradIdeal.nD Cert.AttnGradIdeal.τ).loc Cert.AttnGradIdeal.main_arg3))
        (m ((c : Thread Cert.AttnGradIdeal.nD Cert.AttnGradIdeal.τ).loc Cert.AttnGradIdeal.main_arg4))) := by
  obtain ⟨p0, p1, p2, p3, p4⟩ := hpre c
  have hinf : Ideal.ofBits .f32 0x7F800000#32 = ⊤ := top_word
  refine args_of _ _ _ _ _ (real_of_pre _ ?_) (real_of_pre _ ?_) (real_of_pre _ ?_) (real_of_pre _ ?_) (real_of_pre _ ?_)
  · rw [← p0, ← hinf]; rfl
  · rw [← p1, ← hinf]; rfl
  · rw [← p2, ← hinf]; rfl
  · rw [← p3, ← hinf]; rfl
  · rw [← p4, ← hinf]; rfl

theorem algebraic : Cert.algebraic_AttnGradIdeal_AttnGradRefIdeal_pre_attn_finite := by
  intro m ρ m' ρ' hpre hagree
  have hx := args_of_pre m hpre
  generalize hD : (fun c : Dev Cert.AttnGradIdeal.nD =>
    dataOf (m ((c : Thread Cert.AttnGradIdeal.nD Cert.AttnGradIdeal.τ).loc Cert.AttnGradIdeal.main_arg0))
        (m ((c : Thread Cert.AttnGradIdeal.nD Cert.AttnGradIdeal.τ).loc Cert.AttnGradIdeal.main_arg1))
        (m ((c : Thread Cert.AttnGradIdeal.nD Cert.AttnGradIdeal.τ).loc Cert.AttnGradIdeal.main_arg2))
        (m ((c : Thread Cert.AttnGradIdeal.nD Cert.AttnGradIdeal.τ).loc Cert.AttnGradIdeal.main_arg3))
        (m ((c : Thread Cert.AttnGradIdeal.nD Cert.AttnGradIdeal.τ).loc Cert.AttnGradIdeal.main_arg4))) = D
  have hx : ∀ c : Dev Cert.AttnGradIdeal.nD, Args (m ((c : Thread Cert.AttnGradIdeal.nD Cert.AttnGradIdeal.τ).loc Cert.AttnGradIdeal.main_arg0))
      (m ((c : Thread Cert.AttnGradIdeal.nD Cert.AttnGradIdeal.τ).loc Cert.AttnGradIdeal.main_arg1))
      (m ((c : Thread Cert.AttnGradIdeal.nD Cert.AttnGradIdeal.τ).loc Cert.AttnGradIdeal.main_arg2))
      (m ((c : Thread Cert.AttnGradIdeal.nD Cert.AttnGradIdeal.τ).loc Cert.AttnGradIdeal.main_arg3))
      (m ((c : Thread Cert.AttnGradIdeal.nD Cert.AttnGradIdeal.τ).loc Cert.AttnGradIdeal.main_arg4)) (D c) := fun c => hD ▸ hx c
  clear hpre
  refine ⟨fun c => fun y : Cert.AttnGradIdeal.S8192x1024.Idx => ((D c).dq (y 0).val (y 1).val : EReal),
    fun c => fun y : Cert.AttnGradIdeal.S1024x8192.Idx => ((D c).dk (y 0).val (y 1).val : EReal),
    fun c => fun y : Cert.AttnGradIdeal.S1024x8192.Idx => ((D c).dv (y 0).val (y 1).val : EReal),
    fun c => fun y : Cert.AttnGradIdeal.S1x1024.Idx => ((D c).dg (y 1).val : EReal), ?_, ?_⟩
  · exact values_run m ρ fun c => holds_of m c (hx c)
  · refine (θ_run Cert.AttnGradRefIdeal.defs _ _).mono (fun _ h c => ⟨(h c).1.trans ?_, (h c).2.1.trans ?_, (h c).2.2.1.trans ?_,
      (h c).2.2.2.1.trans ?_, (h c).2.2.2.2⟩) (Cert.AttnGradRefIdeal.Value.run (F := Ideal) m' ρ')
    all_goals obtain ⟨e0, e1, e2, e3, e4⟩ := hagree c
    all_goals have hx := hx c
    all_goals rw [← e0, ← e1, ← e2, ← e3, ← e4] at hx
    · refine (Cert.AttnGradRefIdeal.Read.val_main_v93_eq _).trans (funext fun y => ?_)
      exact (congrArg _ (at2 rfl rfl)).trans (v93_of hx (y 0) (y 1))
    · refine (Cert.AttnGradRefIdeal.Read.val_main_v94_eq _).trans (funext fun y => ?_)
      exact (congrArg _ (at2 rfl rfl)).trans (v94_of hx (y 0) (y 1))
    · refine (Cert.AttnGradRefIdeal.Read.val_main_v95_eq _).trans (funext fun y => ?_)
      exact (congrArg _ (at2 rfl rfl)).trans (v95_of hx (y 0) (y 1))
    · refine (Cert.AttnGradRefIdeal.Read.val_main_v69_eq _).trans (funext fun y => ?_)
      exact (congrArg _ (at2 (by show (y 0).val = 0; have : (y 0).val < 1 := (y 0).isLt; omega) rfl)).trans (v69_of hx (y 1))

end Cert.Proof.Attn

end
-- ==== Proof.Ffn.Final.lean ====
/-
  What the SwiGLU gradient kernel leaves in its two result arrays: each point of the 16 by 4 grid writes one block of 512 rows by
  1408 columns, and together the blocks are one function of the argument arrays, index by index.
-/
module

public import proofs.«01_k».proof.Proof.Gen.SwigluGradIdeal.Value
public import proofs.«01_k».proof.Proof.Sigmoid
public import Idealize.ShloMosaic.Lib.Pointwise
public import Idealize.ShloMosaic.Lib.Pipeline.ValueKit

@[expose] public section

noncomputable section

open Idealize.ShloMosaic Idealize.ShloMosaic.TcCoe Idealize.SL.Sem
open Idealize.ShloMosaic.Pipeline (Dat)

namespace Cert.Proof.Ffn

open Cert.SwigluGradIdeal Cert.SwigluGradIdeal.Gen

/-- The gradient of the product's left factor: the cotangent's row `r` times the weight's row `l`. -/
def dact (dy : FVec Ideal S8192x2048 .bf16) (w : FVec Ideal S5632x2048 .bf16) (r : Fin 8192) (l : Fin 5632) : EReal :=
  ∑ k : Fin 2048, dy (ix2 r k) * w (ix2 l k)

/-- The gradient of the gate, factored as the kernel has it. -/
def dgate (dy : FVec Ideal S8192x2048 .bf16) (w : FVec Ideal S5632x2048 .bf16) (gate up : FVec Ideal S8192x5632 .f32) :
    FVec Ideal S8192x5632 .bf16 := fun i =>
  dact dy w (i 0) (i 1) * up i * (sg (gate i) * (1 + gate i * (1 - sg (gate i))))

/-- The gradient of the up projection. -/
def dup (dy : FVec Ideal S8192x2048 .bf16) (w : FVec Ideal S5632x2048 .bf16) (gate : FVec Ideal S8192x5632 .f32) :
    FVec Ideal S8192x5632 .bf16 := fun i =>
  dact dy w (i 0) (i 1) * (gate i * sg (gate i))

theorem pay7 (v0 : Vec Ideal S512x2048 .bf16) (v1 : Vec Ideal S1408x2048 .bf16) (v3 v17 : Vec Ideal S512x1408 .f32) (y : S512x1408.Idx) :
    k0_pay7 v0 v1 v3 v17 y = (∑ k : Fin 2048, v0 (ix2 (y 0) k) * v1 (ix2 (y 1) k)) * v17 y * (sg (v3 y) * (1 + v3 y * (1 - sg (v3 y)))) := by
  rw [← sg_neg (v3 y), ← sg_pos (v3 y)]
  pointwise [k0_pay7, k0_pay1, k0_pay6, k0_pay5, k0_pay4, k0_pay3, k0_pay2]
  rfl

theorem pay8 (v0 : Vec Ideal S512x2048 .bf16) (v1 : Vec Ideal S1408x2048 .bf16) (v3 : Vec Ideal S512x1408 .f32) (y : S512x1408.Idx) :
    k0_pay8 v0 v1 v3 y = (∑ k : Fin 2048, v0 (ix2 (y 0) k) * v1 (ix2 (y 1) k)) * (v3 y * sg (v3 y)) := by
  rw [← sg_pos (v3 y)]
  pointwise [k0_pay8, k0_pay1, k0_pay6, k0_pay5, k0_pay4, k0_pay3, k0_pay2]
  rfl

variable (m : (ℓ : Loc nD τ sig) → Buf (Elt Ideal) ℓ) (ρ : Dev nD → PrngReg)

theorem ix_0 : ∀ t : Fin cfg0.N, win0_0.index t = ![(grid0.coords t 0).val, 0] :=
  (by decide +kernel : ∀ t : Fin grid0.N, win0_0.index t = ![(grid0.coords t 0).val, 0])
theorem ix_1 : ∀ t : Fin cfg0.N, win0_1.index t = ![(grid0.coords t 1).val, 0] :=
  (by decide +kernel : ∀ t : Fin grid0.N, win0_1.index t = ![(grid0.coords t 1).val, 0])
theorem ix_2 : ∀ t : Fin cfg0.N, win0_2.index t = ![(grid0.coords t 0).val, (grid0.coords t 1).val] :=
  (by decide +kernel : ∀ t : Fin grid0.N, win0_2.index t = ![(grid0.coords t 0).val, (grid0.coords t 1).val])
theorem ix_3 : ∀ t : Fin cfg0.N, win0_3.index t = ![(grid0.coords t 0).val, (grid0.coords t 1).val] :=
  (by decide +kernel : ∀ t : Fin grid0.N, win0_3.index t = ![(grid0.coords t 0).val, (grid0.coords t 1).val])
theorem ix_4 : ∀ t : Fin cfg0.N, win0_4.index t = ![(grid0.coords t 0).val, (grid0.coords t 1).val] :=
  (by decide +kernel : ∀ t : Fin grid0.N, win0_4.index t = ![(grid0.coords t 0).val, (grid0.coords t 1).val])
theorem ix_5 : ∀ t : Fin cfg0.N, win0_5.index t = ![(grid0.coords t 0).val, (grid0.coords t 1).val] :=
  (by decide +kernel : ∀ t : Fin grid0.N, win0_5.index t = ![(grid0.coords t 0).val, (grid0.coords t 1).val])

/-- The gate's gradient, the whole array after the run. -/
theorem final4 (c : Dev nD) : (dats m 0 c).arrAt 4 cfg0.N
    = dgate (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  unfold out0_4
  frame_out
  rw [pay7]
  unfold dgate dact
  have h2 : iblk m c 2 t y = m ((c : Thread nD τ).loc main_arg2) (((View.whole main_v0_0).slice (win0_4.rect t)).emb y) := by
    blk_simp [iblk]
    congr 1
    blk_ext [ix_2, ix_4]
  have h3 : iblk m c 3 t y = m ((c : Thread nD τ).loc main_arg3) (((View.whole main_v0_0).slice (win0_4.rect t)).emb y) := by
    blk_simp [iblk]
    congr 1
    blk_ext [ix_3, ix_4]
  rw [h2, h3]
  congr 2
  refine Finset.sum_congr rfl fun k _ => ?_
  blk_simp [iblk]
  congr 2
  · blk_ext [ix_0, ix_4]
  · blk_ext [ix_1, ix_4]

/-- The up projection's gradient, the whole array after the run. -/
theorem final5 (c : Dev nD) : (dats m 0 c).arrAt 5 cfg0.N
    = dup (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  frame_out
  rw [pay8]
  unfold dup dact
  have h2 : iblk m c 2 t y = m ((c : Thread nD τ).loc main_arg2) (((View.whole main_v0_1).slice (win0_5.rect t)).emb y) := by
    blk_simp [iblk]
    congr 1
    blk_ext [ix_2, ix_5]
  rw [h2]
  congr 1
  refine Finset.sum_congr rfl fun k _ => ?_
  blk_simp [iblk]
  congr 2
  · blk_ext [ix_0, ix_5]
  · blk_ext [ix_1, ix_5]

end Cert.Proof.Ffn
-- ==== Proof.Ffn.Claim.lean ====
/-
  The claims about the SwiGLU gradient: the frames, and that the kernel's two result arrays are the gradients the reference takes
  of `(silu gate * up) @ w` with respect to `gate` and `up`.
-/
module

public import proofs.«01_k».proof.Defs
public import proofs.«01_k».proof.Proof.Ffn.Final
public import proofs.«01_k».proof.Proof.Gen.SwigluGrad.Frame
public import proofs.«01_k».proof.Proof.Gen.SwigluGradRefIdeal.Run
public import proofs.«01_k».proof.Proof.Gen.SwigluGradRefIdeal.Read
public import proofs.«01_k».proof.Proof.Gen.Pre_swiglu_finite
public import Idealize.ShloMosaic.Lib.Quiescent

@[expose] public section

noncomputable section

open Idealize.ShloMosaic Idealize.ShloMosaic.TcCoe Idealize.SL.Sem
open Idealize.ShloMosaic.Pipeline (Dat)

namespace Cert.Proof.Ffn

open Cert.SwigluGradRefIdeal Cert.SwigluGradRefIdeal.Read

section Reference

variable (x0 : FVec Ideal S8192x2048 .bf16) (x1 : FVec Ideal S5632x2048 .bf16) (x2 x3 : FVec Ideal S8192x5632 .f32)

/-- The reference's sigmoid. -/
theorem ref_sg (i : S8192x5632.Idx) : val_main_v1_2 (F := Ideal) x2 i = sg (x2 i) := by
  pointwise [val_main_v1_2, val_main_call0_v4, val_main_call0_v3, val_main_call0_v2, val_main_call0_v1, val_main_call0_v0,
    val_main_call0_cst, val_main_call0_cst_0]
  rfl

/-- One minus the reference's sigmoid. -/
theorem ref_one_sub (i : S8192x5632.Idx) : val_main_call0_v7 (F := Ideal) x2 i = 1 - sg (x2 i) := by
  rw [val_main_call0_v7_apply, ref_sg]
  pointwise [val_main_call0_v6, val_main_call0_cst_1]

/-- The reference's product of the cotangent with the weight. -/
theorem ref_dact (i : S8192x5632.Idx) : val_main_v5 (F := Ideal) x0 x1 i = dact x0 x1 (i 0) (i 1) := by
  rw [val_main_v5_apply]
  refine Finset.sum_congr rfl fun k _ => ?_
  rw [val_main_v4_apply, val_main_v0_apply]
  show x0 _ * x1 _ = _
  congr 2
  · funext a; fin_cases a <;> rfl
  · funext a; fin_cases a <;> rfl

theorem ref_dup : val_main_v10 (F := Ideal) x0 x1 x2 = dup x0 x1 x2 := by
  funext i
  rw [val_main_v10_apply, val_main_v6_apply, val_main_v1_0_apply, ref_sg, ref_dact]
  exact mul_comm _ _

theorem ref_dgate (h0 : ∀ i, ∃ r : ℝ, x0 i = r) (h1 : ∀ i, ∃ r : ℝ, x1 i = r) (h3 : ∀ i, ∃ r : ℝ, x3 i = r) :
    val_main_v9 (F := Ideal) x0 x1 x2 x3 = dgate x0 x1 x2 x3 := by
  funext i
  rw [val_main_v9_apply, val_main_v8_apply, val_main_call1_v1_apply, val_main_call1_v2_apply, val_main_call1_v0_apply,
    val_main_v7_apply, val_main_v1_1_apply, ref_one_sub, ref_sg, ref_dact]
  obtain ⟨a, ha⟩ : ∃ r : ℝ, dact x0 x1 (i 0) (i 1) = r := sum_mul_real _ _ (fun k => h0 _) (fun k => h1 _)
  obtain ⟨u, hu⟩ := h3 i
  have hw : dact x0 x1 (i 0) (i 1) * x3 i = ((a * u : ℝ) : EReal) := by rw [ha, hu, EReal.coe_mul]
  unfold dgate
  show dact x0 x1 (i 0) (i 1) * x3 i * sg (x2 i) + x2 i * (dact x0 x1 (i 0) (i 1) * x3 i) * (sg (x2 i) * (1 - sg (x2 i))) = _
  rw [hw]
  exact (silu_grad _ _).symm

end Reference

/-- What the precondition says of an array, read at an index. -/
theorem real_of_pre {s : Shape} (x : s.Idx → EReal)
    (h : (fun i => Ideal.cmp .olt (max (x i) (-(x i))) ⊤ : s.Idx → BitVec 1) = fun _ => 1#1) (i : s.Idx) : ∃ r : ℝ, x i = r := by
  refine real_of_abs_lt _ ?_
  have := congrFun h i
  by_contra hc
  simp [hc, Ideal.cmp] at this

theorem frame_kernel : Cert.quiescent_SwigluGrad := fun m ρ _ => Cert.SwigluGrad.Gen.frame m ρ
theorem frame_ideal : Cert.quiescent_SwigluGradIdeal := fun m ρ _ => Cert.SwigluGradIdeal.Gen.frame m ρ
theorem frame_ideal_pre : Cert.quiescent_SwigluGradIdeal_pre_swiglu_finite := fun m ρ _ => Cert.SwigluGradIdeal.Gen.frame m ρ
theorem frame_ref : Cert.quiescent_SwigluGradRefIdeal := fun m ρ _ =>
  (θ_run Cert.SwigluGradRefIdeal.defs _ _).mono (fun r h => ⟨fun c => (h c).2.2,
      Idealize.ShloMosaic.sem_eq_zero_of_no_sems (by decide) r.2⟩)
    (Cert.SwigluGradRefIdeal.Value.run (F := Ideal) m ρ)
theorem frame_ref_pre : Cert.quiescent_SwigluGradRefIdeal_pre_swiglu_finite := fun m ρ _ => frame_ref m ρ trivial

theorem algebraic : Cert.algebraic_SwigluGradIdeal_SwigluGradRefIdeal_pre_swiglu_finite := by
  intro m ρ m' ρ' hpre hagree
  refine ⟨fun c => dgate (m ((c : Thread Cert.SwigluGradIdeal.nD Cert.SwigluGradIdeal.τ).loc Cert.SwigluGradIdeal.main_arg0))
      (m ((c : Thread Cert.SwigluGradIdeal.nD Cert.SwigluGradIdeal.τ).loc Cert.SwigluGradIdeal.main_arg1))
      (m ((c : Thread Cert.SwigluGradIdeal.nD Cert.SwigluGradIdeal.τ).loc Cert.SwigluGradIdeal.main_arg2))
      (m ((c : Thread Cert.SwigluGradIdeal.nD Cert.SwigluGradIdeal.τ).loc Cert.SwigluGradIdeal.main_arg3)),
    fun c => dup (m ((c : Thread Cert.SwigluGradIdeal.nD Cert.SwigluGradIdeal.τ).loc Cert.SwigluGradIdeal.main_arg0))
      (m ((c : Thread Cert.SwigluGradIdeal.nD Cert.SwigluGradIdeal.τ).loc Cert.SwigluGradIdeal.main_arg1))
      (m ((c : Thread Cert.SwigluGradIdeal.nD Cert.SwigluGradIdeal.τ).loc Cert.SwigluGradIdeal.main_arg2)), ?_, ?_⟩
  · exact (θ_run Cert.SwigluGradIdeal.defs _ _).mono
      (fun _ h c => ⟨(h c).1.trans (final4 m c), (h c).2.1.trans (final5 m c), (h c).2.2⟩)
      (Cert.SwigluGradIdeal.Value.run_blocks (F := Ideal) m ρ)
  · refine (θ_run Cert.SwigluGradRefIdeal.defs _ _).mono (fun _ h c => ⟨(h c).1.trans ?_, (h c).2.1.trans ?_, (h c).2.2⟩)
      (Cert.SwigluGradRefIdeal.Value.run (F := Ideal) m' ρ')
    · rw [(hagree c).1, (hagree c).2.1, (hagree c).2.2.1, (hagree c).2.2.2]
      obtain ⟨p0, p1, p3⟩ := hpre c
      have hinf : Ideal.ofBits .f32 0x7F800000#32 = ⊤ := by simp [Ideal.ofBits, Ideal.ieee]
      refine (val_main_v9_eq _ _ _ _).trans (ref_dgate _ _ _ _ (real_of_pre _ ?_) (real_of_pre _ ?_) (real_of_pre _ ?_))
      · rw [← p0, ← hinf]; rfl
      · rw [← p1, ← hinf]; rfl
      · rw [← p3, ← hinf]; rfl
    · rw [(hagree c).1, (hagree c).2.1, (hagree c).2.2.1]
      exact (val_main_v10_eq _ _ _).trans (ref_dup _ _ _)

end Cert.Proof.Ffn
-- ==== Proof.Prod.Sums.lean ====
/-
  A product taken in blocks of its summed axis: what a scratch holds that is set at the first block and added to at the others, and
  that the blocks' sums make the whole sum.
-/
module

public import Idealize.ShloMosaic.PureOps.Ideal

@[expose] public section

noncomputable section

namespace Cert.Proof.Prod

theorem pred_lt {n N : ℕ} (h : n < N) : n - 1 < N := Nat.lt_of_le_of_lt (Nat.sub_le _ _) h

theorem block_lt {n B K : ℕ} (h : n * B = K) (s : Fin B) (k : Fin n) : n * s.val + k.val < K := by
  calc n * s.val + k.val < n * s.val + n := by have := k.isLt; omega
    _ = n * (s.val + 1) := by ring
    _ ≤ n * B := Nat.mul_le_mul_left _ s.isLt
    _ = K := h

theorem run_lt {n N P : ℕ} (h : n < N) (hn : n % P = P - 1) (s : Fin P) : P * (n / P) + s.val < N := by
  have := s.isLt; have := Nat.div_add_mod n P; omega

/-- A sum over `n * B` terms, in `B` blocks of `n`. -/
theorem sum_blocks (n B K : ℕ) (h : n * B = K) (f : Fin K → EReal) :
    ∑ s : Fin B, ∑ k : Fin n, f ⟨n * s.val + k.val, block_lt h s k⟩ = ∑ k : Fin K, f k := by
  subst h
  rw [← Finset.sum_product', ← Equiv.sum_comp (finProdFinEquiv.trans (finCongr (Nat.mul_comm B n)))]
  refine Finset.sum_congr rfl fun x _ => congrArg f (Fin.ext ?_)
  simp [finProdFinEquiv, Nat.add_comm]

section Sweep

variable {N P : ℕ} (acc p out : (n : ℕ) → n < N → EReal)
variable (hA : ∀ n h, n % P = 0 → acc n h = p n h)
variable (hB : ∀ n h, n % P ≠ 0 → n % P ≠ P - 1 → acc n h = acc (n - 1) (pred_lt h) + p n h)
variable (hC : ∀ n h, n % P = P - 1 → out n h = acc (n - 1) (pred_lt h) + p n h)

include hA hB in
/-- Before the last point of a run the scratch holds the sum of the parts so far. -/
theorem acc_eq (q : ℕ) : ∀ (j : ℕ) (hj : j + 1 < P) (h : P * q + j < N),
    acc (P * q + j) h = ∑ s : Fin (j + 1), p (P * q + s.val) (by have := s.isLt; omega)
  | 0, hj, h => by
    rw [hA _ _ (by simp), Fin.sum_univ_one]; rfl
  | j + 1, hj, h => by
    have e : (P * q + (j + 1)) % P = j + 1 := by rw [Nat.mul_add_mod, Nat.mod_eq_of_lt (by omega)]
    rw [hB _ _ (by omega) (by omega), Fin.sum_univ_castSucc]
    congr 1
    exact acc_eq q j (by omega) (by omega)

include hA hB hC in
/-- What the last point of a run leaves: the sum of the run's parts. -/
theorem sweep (hP : 2 ≤ P) (n : ℕ) (h : n < N) (hn : n % P = P - 1) :
    out n h = ∑ s : Fin P, p (P * (n / P) + s.val) (run_lt h hn s) := by
  obtain ⟨R, rfl⟩ : ∃ R, P = R + 2 := ⟨P - 2, by omega⟩
  have e : n = (R + 2) * (n / (R + 2)) + (R + 1) := by have := Nat.div_add_mod n (R + 2); omega
  have hp : ∀ a b (ha : a < N) (hb : b < N), a = b → p a ha = p b hb := by rintro a _ ha hb rfl; rfl
  have hq : ∀ a b (ha : a < N) (hb : b < N), a = b → acc a ha = acc b hb := by rintro a _ ha hb rfl; rfl
  rw [hC _ _ hn, Fin.sum_univ_castSucc]
  refine congrArg₂ (· + ·) ?_ (hp _ _ _ _ e)
  rw [hq (n - 1) ((R + 2) * (n / (R + 2)) + R) (by omega) (by omega) (by omega)]
  exact acc_eq acc p hA hB (n / (R + 2)) R (by omega) (by omega)

end Sweep

end Cert.Proof.Prod

end
-- ==== Proof.Prod.FfnOutW.lean ====
/-
  The gradient of the SwiGLU layer's output weight. Of the 4 by 2 by 4 grid the last axis runs over the rows of the two factors, 2048 at
  a time; a scratch holds the sum so far of one block of the result, which the fourth point writes.
-/
module

public import proofs.«01_k».proof.Defs
public import proofs.«01_k».proof.Proof.Gen.FfnOutGradW.Frame
public import proofs.«01_k».proof.Proof.Gen.FfnOutGradWIdeal.Value
public import proofs.«01_k».proof.Proof.Gen.FfnOutGradWRefIdeal.Run
public import proofs.«01_k».proof.Proof.Gen.FfnOutGradWRefIdeal.Read
public import proofs.«01_k».proof.Proof.Prod.Sums
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.FfnOutW

section Kernel

open Cert.FfnOutGradWIdeal Cert.FfnOutGradWIdeal.Gen

theorem hz : (![0, 0] : Fin 2 → Nat) = fun _ => 0 := funext fun a => by fin_cases a <;> rfl

section Cases

variable (c : Dev nD) (i : grid0.Coords) (a3 : Memref sig .tc .vmem S2048x1408 .bf16) (h3 : a3.IsWhole)
variable (a4 : Memref sig .tc .vmem S2048x1024 .bf16) (h4 : a4.IsWhole) (a5 : Memref sig .tc .vmem S1408x1024 .bf16) (h5 : a5.IsWhole)
variable (a6 : Memref sig .tc .vmem S1408x1024 .f32) (h6 : a6.IsWhole)
variable (x0 : Vec Ideal S2048x1408 .bf16) (x1 : Vec Ideal S2048x1024 .bf16) (xs : Vec Ideal S1408x1024 .f32)

/-- The first point of a run leaves the block's product in the scratch. -/
theorem first (hc0 hc1 hc2) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S2048x1408) hz,
    View.ld_unit_zero (S := S2048x1024) hz, shapeCast_self]

/-- A point in the middle adds its product to the scratch. -/
theorem middle (hc0 hc1 hc2) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S2048x1408) hz,
    View.ld_unit_zero (S := S2048x1024) hz, View.ld_unit_zero (S := S1408x1024) hz, shapeCast_self]

/-- The last point writes the scratch plus its product. -/
theorem last (hc0 hc1 hc2) : out0_C_2 c i a3 h3 a4 h4 a5 h5 a6 h6 hc0 hc1 hc2 x0 x1 xs = k0_pay4 x0 x1 xs := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero hz]
  simp only [View.readAt_eq_ld, h3.read_unread, h4.read_unread, h6.read_unread, View.ld_unit_zero (S := S2048x1408) hz,
    View.ld_unit_zero (S := S2048x1024) hz, View.ld_unit_zero (S := S1408x1024) hz]

end Cases

theorem pay1 (x0 : Vec Ideal S2048x1408 .bf16) (x1 : Vec Ideal S2048x1024 .bf16) (y : S1408x1024.Idx) :
    k0_pay1 x0 x1 y = ∑ k : Fin 2048, x0 (ix2 k (y 0)) * x1 (ix2 k (y 1)) := by
  pointwise [k0_pay1]

/-- The product of the transposed left factor with the right one. -/
def grad (x : FVec Ideal S8192x5632 .bf16) (dy : FVec Ideal S8192x2048 .bf16) : FVec Ideal S5632x2048 .bf16 := fun i =>
  ∑ k : Fin 8192, x (ix2 k (i 0)) * dy (ix2 k (i 1))

variable (m : (ℓ : Loc nD τ sig) → Buf (Elt Ideal) ℓ)

theorem ix_0 : ∀ t : Fin cfg0.N, win0_0.index t = ![t.val % 4, t.val / 8] :=
  (by decide +kernel : ∀ t : Fin grid0.N, win0_0.index t = ![t.val % 4, t.val / 8])
theorem ix_1 : ∀ t : Fin cfg0.N, win0_1.index t = ![t.val % 4, t.val / 4 % 2] :=
  (by decide +kernel : ∀ t : Fin grid0.N, win0_1.index t = ![t.val % 4, t.val / 4 % 2])
theorem ix_2 : ∀ t : Fin cfg0.N, win0_2.index t = ![t.val / 8, t.val / 4 % 2] :=
  (by decide +kernel : ∀ t : Fin grid0.N, win0_2.index t = ![t.val / 8, t.val / 4 % 2])

/-- The block the last point of a run writes: the sum of the run's products. -/
theorem block (c : Dev nD) (t : Fin cfg0.N) (ht : t.val % 4 = 3) (y : S1408x1024.Idx) :
    (outsAt0 m c t.val t.isLt).1 y = ∑ s : Fin 4, k0_pay1 (F := Ideal)
      (iblk m c 0 ⟨4 * (t.val / 4) + s.val, by have := t.isLt; omega⟩) (iblk m c 1 ⟨4 * (t.val / 4) + s.val, by have := t.isLt; omega⟩) y := by
  refine Prod.sweep (N := cfg0.N) (P := 4) (fun n h => (outsAt0 m c n h).2 y)
    (fun n h => k0_pay1 (F := Ideal) (iblk m c 0 ⟨n, h⟩) (iblk m c 1 ⟨n, h⟩) y) (fun n h => (outsAt0 m c n h).1 y)
    (fun n h h0 => ?_) (fun n h h0 h1 => ?_) (fun n h h0 => ?_) (by omega) t.val t.isLt ht
  · rw [outsAt0_A m c ⟨n, h⟩ h0 (by dsimp only; omega) (by dsimp only; omega), first]
  · rw [outsAt0_B m c ⟨n, h⟩ h0 (by dsimp only; omega) (by dsimp only; omega), middle]
    rfl
  · rw [outsAt0_C m c ⟨n, h⟩ (by dsimp only; omega) (by dsimp only; omega) h0, last]
    rfl

/-- The gradient, the whole array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 4 = 3 := (flush0_2 t).mp hf
  refine (block m c t ht y).trans ?_
  unfold grad
  rw [← Prod.sum_blocks 2048 4 8192 rfl]
  refine Finset.sum_congr rfl fun s _ => ?_
  rw [pay1]
  refine Finset.sum_congr rfl fun k _ => ?_
  have hs := s.isLt
  blk_simp [iblk]
  congr 2
  · blk_ext [ix_0, ix_2]
  · blk_ext [ix_1, ix_2]

end Kernel

section Reference

open Cert.FfnOutGradWRefIdeal Cert.FfnOutGradWRefIdeal.Read

theorem ref (x0 : FVec Ideal S8192x5632 .bf16) (x1 : FVec Ideal S8192x2048 .bf16) : val_main_v6 (F := Ideal) x0 x1 = grad x0 x1 := by
  funext i
  rw [val_main_v6_apply, val_main_v5_apply]
  refine (val_main_v4_apply _ _ _).trans (Finset.sum_congr rfl fun k _ => ?_)
  rw [val_main_v0_apply, val_main_v1_apply]
  refine (mul_comm _ _).trans ?_
  show x0 _ * x1 _ = _
  congr 2
  · funext a; fin_cases a <;> rfl
  · funext a; fin_cases a <;> rfl

end Reference

theorem frame_kernel : Cert.quiescent_FfnOutGradW := fun m ρ _ => Cert.FfnOutGradW.Gen.frame m ρ
theorem frame_ideal : Cert.quiescent_FfnOutGradWIdeal := fun m ρ _ => Cert.FfnOutGradWIdeal.Gen.frame m ρ
theorem frame_ref : Cert.quiescent_FfnOutGradWRefIdeal := fun m ρ _ =>
  (θ_run Cert.FfnOutGradWRefIdeal.defs _ _).mono (fun r h => ⟨fun c => (h c).2, Idealize.ShloMosaic.sem_eq_zero_of_no_sems (by decide) r.2⟩)
    (Cert.FfnOutGradWRefIdeal.Value.run (F := Ideal) m ρ)

open Cert.FfnOutGradWRefIdeal.Read in
theorem algebraic : Cert.algebraic_FfnOutGradWIdeal_FfnOutGradWRefIdeal := by
  intro m ρ m' ρ' _ hagree
  refine ⟨fun c => grad (m ((c : Thread Cert.FfnOutGradWIdeal.nD Cert.FfnOutGradWIdeal.τ).loc Cert.FfnOutGradWIdeal.main_arg0))
      (m ((c : Thread Cert.FfnOutGradWIdeal.nD Cert.FfnOutGradWIdeal.τ).loc Cert.FfnOutGradWIdeal.main_arg1)), ?_, ?_⟩
  · exact (θ_run Cert.FfnOutGradWIdeal.defs _ _).mono (fun _ h c => ⟨(h c).1.trans (final m c), (h c).2⟩)
      (Cert.FfnOutGradWIdeal.Value.run_blocks (F := Ideal) m ρ)
  · refine (θ_run Cert.FfnOutGradWRefIdeal.defs _ _).mono (fun _ h c => ⟨(h c).1.trans ?_, (h c).2⟩)
      (Cert.FfnOutGradWRefIdeal.Value.run (F := Ideal) m' ρ')
    rw [(hagree c).1, (hagree c).2]
    exact (val_main_v6_eq _ _).trans (ref _ _)

end Cert.Proof.FfnOutW
-- ==== Proof.Prod.Pads.lean ====
/-
  Two arrays of 5632 columns side by side, written as the sum of the two padded with zeros.
-/
module

public import Idealize.ShloMosaic.Lib.KernelVsHost
public import Idealize.ShloMosaic.Lib.Pointwise

@[expose] public section

noncomputable section

open Idealize.ShloMosaic

namespace Cert.Proof.Prod

/-- The shape of one half. -/
abbrev Half : Shape := ⟨2, ![8192, 5632]⟩
/-- The shape of the two halves. -/
abbrev Both : Shape := ⟨2, ![8192, 11264]⟩

/-- The place of column `j` of the two halves in its half. -/
abbrev inHalf (j : Both.Idx) : Half.Idx := ix2 (j 0) (⟨(j 1).val % 5632, Nat.mod_lt _ (by decide)⟩ : Fin 5632)

/-- The right half padded on the left plus the left half padded on the right is the one on its columns, the other on the rest. -/
theorem pads (g u : Half.Idx → EReal) {z : Shape} (v w : z.Idx → EReal) (hz : 0 < z.numel)
    (hv : v (Shape.Idx.first hz) = 0) (hw : w (Shape.Idx.first hz) = 0)
    (hr : Half.Pads ![0, 5632] ![0, 0] ![0, 0] Both) (hl : Half.Pads ![0, 0] ![0, 5632] ![0, 0] Both) (j : Both.Idx) :
    pad Both ![0, 5632] ![0, 0] ![0, 0] u v hr hz j + pad Both ![0, 0] ![0, 5632] ![0, 0] g w hl hz j
      = if (j 1).val < 5632 then g (inHalf j) else u (inHalf j) := by
  have hj : (j 1).val < 11264 := (j 1).isLt
  by_cases h : (j 1).val < 5632
  · rw [if_pos h, pad_apply_of_not_inside _ _ _ u v hr hz j 1 (fun hh => absurd hh.1 (Nat.not_le.2 h)), hv, zero_add,
      pad_apply_of_inside _ _ _ g w hl hz j (inHalf j) fun a => ?_]
    match a with
    | ⟨0, _⟩ => exact (show (j 0).val = 0 + (j 0).val * (0 + 1) by omega)
    | ⟨1, _⟩ => exact (show (j 1).val = 0 + (j 1).val % 5632 * (0 + 1) by omega)
  · have hn : ¬(0 ≤ (j 1).val ∧ ((j 1).val - 0) % (0 + 1) = 0 ∧ ((j 1).val - 0) / (0 + 1) < 5632) := by omega
    rw [if_neg h, pad_apply_of_not_inside _ _ _ g w hl hz j 1 hn, hw, add_zero,
      pad_apply_of_inside _ _ _ u v hr hz j (inHalf j) fun a => ?_]
    match a with
    | ⟨0, _⟩ => exact (show (j 0).val = 0 + (j 0).val * (0 + 1) by omega)
    | ⟨1, _⟩ => exact (show (j 1).val = 5632 + (j 1).val % 5632 * (0 + 1) by omega)

end Cert.Proof.Prod
-- ==== Proof.Prod.FfnInW.lean ====
/-
  The gradient of the SwiGLU layer's input weight, laid out as eight blocks of 1408 columns: four of the gate's, four of the other
  factor's. Of the 2 by 8 by 4 grid the second axis picks the block, and with it which of the two gradients is read; the last runs over
  the rows, 2048 at a time; a scratch holds the sum so far.
-/
module

public import proofs.«01_k».proof.Defs
public import proofs.«01_k».proof.Proof.Gen.FfnInGradW.Frame
public import proofs.«01_k».proof.Proof.Gen.FfnInGradWIdeal.Frame
public import proofs.«01_k».proof.Proof.Gen.FfnInGradWRefIdeal.Run
public import proofs.«01_k».proof.Proof.Gen.FfnInGradWRefIdeal.Read
public import proofs.«01_k».proof.Proof.Prod.Sums
public import proofs.«01_k».proof.Proof.Prod.Pads
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.FfnInW

section Kernel

open Cert.FfnInGradWIdeal Cert.FfnInGradWIdeal.Gen

theorem hz : (![0, 0] : Fin 2 → Nat) = fun _ => 0 := funext fun a => by fin_cases a <;> rfl
theorem hz3 : (![0, 0, 0] : Fin 3 → Nat) = fun _ => 0 := funext fun a => by fin_cases a <;> rfl

section Cases

variable (c : Dev nD) (i : grid0.Coords) (a3 : Memref sig .tc .vmem S2048x1024 .bf16) (h3 : a3.IsWhole)
variable (a4 : Memref sig .tc .vmem S2048x1408 .bf16) (h4 : a4.IsWhole) (a5 : Memref sig .tc .vmem S2048x1408 .bf16) (h5 : a5.IsWhole)
variable (a6 : Memref sig .tc .vmem S1x1024x1408 .bf16) (h6 : a6.IsWhole) (a7 : Memref sig .tc .vmem S1024x1408 .f32) (h7 : a7.IsWhole)
variable (x0 : Vec Ideal S2048x1024 .bf16) (x1 x2 : Vec Ideal S2048x1408 .bf16) (xs : Vec Ideal S1024x1408 .f32)

/-- The first point of a run in the left half leaves the block's product in the scratch. -/
theorem firstL (hc0 hc1 hc2 hc3 hc4) :
    sout0_A_0 c i a3 h3 a4 h4 a5 h5 a6 h6 a7 h7 hc0 hc1 hc2 hc3 hc4 x0 x1 x2 = k0_pay1 x0 x1 := by
  unfold sout0_A_0
  rw [View.read_writes_eq_canon _ _ _ (scover0_A_0 c i a3 h3 a4 h4 a5 h5 a6 h6 a7 h7 hc0 hc1 hc2 hc3 hc4 x0 x1 x2)]
  unfold kernelRun0_A
  dsimp only
  rw [View.canon_unit_zero hz]
  unfold k0_pay2
  simp only [View.readAt_eq_ld, h3.read_unread, h4.read_unread, View.ld_unit_zero (S := S2048x1024) hz,
    View.ld_unit_zero (S := S2048x1408) hz, shapeCast_self]

/-- The first point of a run in the right half. -/
theorem firstR (hc0 hc4 hc5 hc6 hc7) :
    sout0_D_0 c i a3 h3 a4 h4 a5 h5 a6 h6 a7 h7 hc0 hc4 hc5 hc6 hc7 x0 x1 x2 = k0_pay1 x0 x2 := by
  unfold sout0_D_0
  rw [View.read_writes_eq_canon _ _ _ (scover0_D_0 c i a3 h3 a4 h4 a5 h5 a6 h6 a7 h7 hc0 hc4 hc5 hc6 hc7 x0 x1 x2)]
  unfold kernelRun0_D
  dsimp only
  rw [View.canon_unit_zero hz]
  unfold k0_pay6
  simp only [View.readAt_eq_ld, h3.read_unread, h5.read_unread, View.ld_unit_zero (S := S2048x1024) hz,
    View.ld_unit_zero (S := S2048x1408) hz, shapeCast_self]
  rfl

/-- A point in the middle adds its product to the scratch; in the left half -/
theorem middleL (hc0 hc1 hc2 hc3 hc4) :
    sout0_B_0 c i a3 h3 a4 h4 a5 h5 a6 h6 a7 h7 hc0 hc1 hc2 hc3 hc4 x0 x1 x2 xs = addf xs (k0_pay1 x0 x1) := by
  unfold sout0_B_0
  rw [View.read_writes_eq_canon _ _ _ (scover0_B_0 c i a3 h3 a4 h4 a5 h5 a6 h6 a7 h7 hc0 hc1 hc2 hc3 hc4 x0 x1 x2 xs)]
  unfold kernelRun0_B
  dsimp only
  rw [View.canon_unit_zero hz]
  unfold k0_pay3
  simp only [View.readAt_eq_ld, h3.read_unread, h4.read_unread, h7.read_unread, View.ld_unit_zero (S := S2048x1024) hz,
    View.ld_unit_zero (S := S2048x1408) hz, View.ld_unit_zero (S := S1024x1408) hz, shapeCast_self]

/-- and in the right half. -/
theorem middleR (hc0 hc4 hc5 hc6 hc7) :
    sout0_E_0 c i a3 h3 a4 h4 a5 h5 a6 h6 a7 h7 hc0 hc4 hc5 hc6 hc7 x0 x1 x2 xs = addf xs (k0_pay1 x0 x2) := by
  unfold sout0_E_0
  rw [View.read_writes_eq_canon _ _ _ (scover0_E_0 c i a3 h3 a4 h4 a5 h5 a6 h6 a7 h7 hc0 hc4 hc5 hc6 hc7 x0 x1 x2 xs)]
  unfold kernelRun0_E
  dsimp only
  rw [View.canon_unit_zero hz]
  unfold k0_pay7
  simp only [View.readAt_eq_ld, h3.read_unread, h5.read_unread, h7.read_unread, View.ld_unit_zero (S := S2048x1024) hz,
    View.ld_unit_zero (S := S2048x1408) hz, View.ld_unit_zero (S := S1024x1408) hz, shapeCast_self]
  rfl

/-- The last point writes the scratch plus its product; in the left half -/
theorem lastL (hc0 hc1 hc2 hc3 hc4) :
    out0_C_3 c i a3 h3 a4 h4 a5 h5 a6 h6 a7 h7 hc0 hc1 hc2 hc3 hc4 x0 x1 x2 xs = k0_pay4 x0 x1 xs := by
  unfold out0_C_3
  rw [View.read_writes_eq_canon _ _ _ (cover0_C_3 c i a3 h3 a4 h4 a5 h5 a6 h6 a7 h7 hc0 hc1 hc2 hc3 hc4 x0 x1 x2 xs)]
  unfold kernelRun0_C
  dsimp only
  rw [View.canon_unit_zero hz3]
  simp only [View.readAt_eq_ld, h3.read_unread, h4.read_unread, h7.read_unread, View.ld_unit_zero (S := S2048x1024) hz,
    View.ld_unit_zero (S := S2048x1408) hz, View.ld_unit_zero (S := S1024x1408) hz]

/-- and in the right half. -/
theorem lastR (hc0 hc4 hc5 hc6 hc7) :
    out0_F_3 c i a3 h3 a4 h4 a5 h5 a6 h6 a7 h7 hc0 hc4 hc5 hc6 hc7 x0 x1 x2 xs = k0_pay4 x0 x2 xs := by
  unfold out0_F_3
  rw [View.read_writes_eq_canon _ _ _ (cover0_F_3 c i a3 h3 a4 h4 a5 h5 a6 h6 a7 h7 hc0 hc4 hc5 hc6 hc7 x0 x1 x2 xs)]
  unfold kernelRun0_F
  dsimp only
  rw [View.canon_unit_zero hz3]
  simp only [View.readAt_eq_ld, h3.read_unread, h5.read_unread, h7.read_unread, View.ld_unit_zero (S := S2048x1024) hz,
    View.ld_unit_zero (S := S2048x1408) hz, View.ld_unit_zero (S := S1024x1408) hz]
  rfl

end Cases

theorem pay1 (x0 : Vec Ideal S2048x1024 .bf16) (x1 : Vec Ideal S2048x1408 .bf16) (y : S1024x1408.Idx) :
    k0_pay1 x0 x1 y = ∑ k : Fin 2048, x0 (ix2 k (y 0)) * x1 (ix2 k (y 1)) := by
  pointwise [k0_pay1]

theorem pay4 (x0 : Vec Ideal S2048x1024 .bf16) (x1 : Vec Ideal S2048x1408 .bf16) (xs : Vec Ideal S1024x1408 .f32) (y : S1x1024x1408.Idx) :
    k0_pay4 x0 x1 xs y = xs (ix2 (y 1) (y 2)) + k0_pay1 x0 x1 (ix2 (y 1) (y 2)) := by
  pointwise [k0_pay4]

/-- Column `j` of block `b` among the columns of its half. -/
abbrev col (b : Fin 8) (j : Fin 1408) : Fin 5632 := ⟨1408 * (b.val % 4) + j.val, by have := j.isLt; omega⟩

/-- The product of the transposed left factor with the two right ones side by side, its columns in eight blocks. -/
def grad (x : FVec Ideal S8192x2048 .bf16) (dg du : FVec Ideal S8192x5632 .bf16) : FVec Ideal S8x2048x1408 .bf16 := fun i =>
  ∑ k : Fin 8192, x (ix2 k (i 1)) * (if (i 0).val < 4 then dg else du) (ix2 k (col (i 0) (i 2)))

variable (m : (ℓ : Loc nD τ sig) → Buf (Elt Ideal) ℓ)

theorem ix_0 : ∀ t : Fin cfg0.N, win0_0.index t = ![t.val % 4, t.val / 32] :=
  (by decide +kernel : ∀ t : Fin grid0.N, win0_0.index t = ![t.val % 4, t.val / 32])
theorem ix_1 : ∀ t : Fin cfg0.N, t.val / 4 % 8 < 4 → win0_1.index t = ![t.val % 4, t.val / 4 % 4] :=
  (by decide +kernel : ∀ t : Fin grid0.N, t.val / 4 % 8 < 4 → win0_1.index t = ![t.val % 4, t.val / 4 % 4])
theorem ix_2 : ∀ t : Fin cfg0.N, ¬t.val / 4 % 8 < 4 → win0_2.index t = ![t.val % 4, t.val / 4 % 4] :=
  (by decide +kernel : ∀ t : Fin grid0.N, ¬t.val / 4 % 8 < 4 → win0_2.index t = ![t.val % 4, t.val / 4 % 4])
theorem ix_3 : ∀ t : Fin cfg0.N, win0_3.index t = ![t.val / 4 % 8, t.val / 32, 0] :=
  (by decide +kernel : ∀ t : Fin grid0.N, win0_3.index t = ![t.val / 4 % 8, t.val / 32, 0])

/-- The product of one point: of the half its block lies in. -/
def part (c : Dev nD) (t : Fin cfg0.N) : FVec Ideal S1024x1408 .f32 :=
  if t.val / 4 % 8 < 4 then k0_pay1 (F := Ideal) (iblk m c 0 t) (iblk m c 1 t) else k0_pay1 (F := Ideal) (iblk m c 0 t) (iblk m c 2 t)

/-- The block the last point of a run writes: the sum of the run's products. -/
theorem block (c : Dev nD) (t : Fin cfg0.N) (ht : t.val % 4 = 3) (y : S1x1024x1408.Idx) :
    (outsAt0 m c t.val t.isLt).1 y = ∑ s : Fin 4, part m c ⟨4 * (t.val / 4) + s.val, by have := t.isLt; omega⟩ (ix2 (y 1) (y 2)) := by
  refine Prod.sweep (N := cfg0.N) (P := 4) (fun n h => (outsAt0 m c n h).2 (ix2 (y 1) (y 2)))
    (fun n h => part m c ⟨n, h⟩ (ix2 (y 1) (y 2))) (fun n h => (outsAt0 m c n h).1 y)
    (fun n h h0 => ?_) (fun n h h0 h1 => ?_) (fun n h h0 => ?_) (by omega) t.val t.isLt ht
  · by_cases hb : n / 4 % 8 < 4
    · rw [outsAt0_A m c ⟨n, h⟩ (by dsimp only; omega) h0 (by dsimp only; omega) (by dsimp only; omega) (by dsimp only; omega), firstL,
        part, if_pos hb]
    · rw [outsAt0_D m c ⟨n, h⟩ (by dsimp only; omega) (by dsimp only; omega) h0 (by dsimp only; omega) (by dsimp only; omega), firstR,
        part, if_neg hb]
  · by_cases hb : n / 4 % 8 < 4
    · rw [outsAt0_B m c ⟨n, h⟩ (by dsimp only; omega) h0 (by dsimp only; omega) (by dsimp only; omega) (by dsimp only; omega), middleL,
        part, if_pos hb]
      rfl
    · rw [outsAt0_E m c ⟨n, h⟩ (by dsimp only; omega) (by dsimp only; omega) h0 (by dsimp only; omega) (by dsimp only; omega), middleR,
        part, if_neg hb]
      rfl
  · by_cases hb : n / 4 % 8 < 4
    · rw [outsAt0_C m c ⟨n, h⟩ (by dsimp only; omega) (by dsimp only; omega) (by dsimp only; omega) h0 (by dsimp only; omega), lastL,
        part, if_pos hb]
      exact pay4 _ _ _ y
    · rw [outsAt0_F m c ⟨n, h⟩ (by dsimp only; omega) (by dsimp only; omega) (by dsimp only; omega) (by dsimp only; omega) h0, lastR,
        part, if_neg hb]
      exact pay4 _ _ _ y

/-- The run leaves the result's array as its points wrote it and the arguments as they were. -/
theorem run (ρ : Dev nD → PrngReg) : θ_run defs (onTc (τ := τ) (main (F := Ideal))) ⟨m, fun _ => 0, ρ⟩ fun r => ∀ c : Dev nD,
    r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

/-- The gradient, the whole array after the run. -/
theorem final (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have ht : t.val % 4 = 3 := (flush0_3 t).mp hf
  refine (block m c t ht y).trans ?_
  have hlt : t.val < 64 := t.isLt
  have e0 : ((((cfg0.win 3).blk t).view.emb y 0 : Fin _) : Nat) = t.val / 4 % 8 := by
    blk_simp [ix_3]
  unfold grad
  rw [← Prod.sum_blocks 2048 4 8192 rfl]
  refine Finset.sum_congr rfl fun s _ => ?_
  have hs := s.isLt
  by_cases hb : t.val / 4 % 8 < 4
  · rw [part, if_pos (by dsimp only; omega), pay1, if_pos (by rw [e0]; exact hb)]
    refine Finset.sum_congr rfl fun k _ => ?_
    have hi := ix_1 ⟨4 * (t.val / 4) + s.val, by have : cfg0.N = 64 := N_0; omega⟩ (by dsimp only; omega)
    blk_simp [iblk]
    congr 2
    · blk_ext [ix_0, ix_3]
    · blk_ext [hi, ix_3]
      all_goals blk_simp [ix_3]
      all_goals omega
  · rw [part, if_neg (by dsimp only; omega), pay1, if_neg (by rw [e0]; exact hb)]
    refine Finset.sum_congr rfl fun k _ => ?_
    have hi := ix_2 ⟨4 * (t.val / 4) + s.val, by have : cfg0.N = 64 := N_0; omega⟩ (by dsimp only; omega)
    blk_simp [iblk]
    congr 2
    · blk_ext [ix_0, ix_3]
    · blk_ext [hi, ix_3]
      all_goals blk_simp [ix_3]
      all_goals omega

end Kernel

section Reference

open Cert.FfnInGradWRefIdeal Cert.FfnInGradWRefIdeal.Read

theorem ref (x0 : FVec Ideal S8192x2048 .bf16) (x1 x2 : FVec Ideal S8192x5632 .bf16) :
    val_main_v14 (F := Ideal) x0 x1 x2 = grad x0 x1 x2 := by
  funext i
  rw [val_main_v14_apply, val_main_v13_apply, val_main_v12_apply, val_main_v11_apply]
  refine (val_main_v10_apply _ _ _ _).trans (Finset.sum_congr rfl fun k _ => ?_)
  rw [val_main_v0_apply, val_main_v9_apply]
  refine (mul_comm _ _).trans ?_
  have h0 : (i 0).val < 8 := (i 0).isLt
  have h1 : (i 1).val < 2048 := (i 1).isLt
  have h2 : (i 2).val < 1408 := (i 2).isLt
  refine congrArg₂ (· * ·) (congrArg x0 ?_) ?_
  · funext a; fin_cases a
    · rfl
    · exact Fin.ext (show (((i 1).val * 8 + (i 0).val) * 1408 + (i 2).val) / 11264 = (i 1).val by omega)
  · refine (Prod.pads x1 x2 _ _ _ Ideal.ofBits_zero_f32 Ideal.ofBits_zero_f32 _ _ _).trans ?_
    have hc : (((i 1).val * 8 + (i 0).val) * 1408 + (i 2).val) % 11264 = 1408 * (i 0).val + (i 2).val := by omega
    by_cases hb : (i 0).val < 4
    · rw [if_pos hb, if_pos (show (((i 1).val * 8 + (i 0).val) * 1408 + (i 2).val) % 11264 < 5632 by omega)]
      refine congrArg x1 ?_
      funext a; fin_cases a
      · rfl
      · exact Fin.ext (show (((i 1).val * 8 + (i 0).val) * 1408 + (i 2).val) % 11264 % 5632 = 1408 * ((i 0).val % 4) + (i 2).val by omega)
    · rw [if_neg hb, if_neg (show ¬(((i 1).val * 8 + (i 0).val) * 1408 + (i 2).val) % 11264 < 5632 by omega)]
      refine congrArg x2 ?_
      funext a; fin_cases a
      · rfl
      · exact Fin.ext (show (((i 1).val * 8 + (i 0).val) * 1408 + (i 2).val) % 11264 % 5632 = 1408 * ((i 0).val % 4) + (i 2).val by omega)

end Reference

theorem frame_kernel : Cert.quiescent_FfnInGradW := fun m ρ _ => Cert.FfnInGradW.Gen.frame m ρ
theorem frame_ideal : Cert.quiescent_FfnInGradWIdeal := fun m ρ _ => Cert.FfnInGradWIdeal.Gen.frame m ρ
theorem frame_ref : Cert.quiescent_FfnInGradWRefIdeal := fun m ρ _ =>
  (θ_run Cert.FfnInGradWRefIdeal.defs _ _).mono (fun r h => ⟨fun c => (h c).2, Idealize.ShloMosaic.sem_eq_zero_of_no_sems (by decide) r.2⟩)
    (Cert.FfnInGradWRefIdeal.Value.run (F := Ideal) m ρ)

open Cert.FfnInGradWRefIdeal.Read in
theorem algebraic : Cert.algebraic_FfnInGradWIdeal_FfnInGradWRefIdeal := by
  intro m ρ m' ρ' _ hagree
  refine ⟨fun c => grad (m ((c : Thread Cert.FfnInGradWIdeal.nD Cert.FfnInGradWIdeal.τ).loc Cert.FfnInGradWIdeal.main_arg0))
      (m ((c : Thread Cert.FfnInGradWIdeal.nD Cert.FfnInGradWIdeal.τ).loc Cert.FfnInGradWIdeal.main_arg1))
      (m ((c : Thread Cert.FfnInGradWIdeal.nD Cert.FfnInGradWIdeal.τ).loc Cert.FfnInGradWIdeal.main_arg2)), ?_, ?_⟩
  · exact (θ_run Cert.FfnInGradWIdeal.defs _ _).mono (fun _ h c => ⟨(h c).1.trans (final m c), (h c).2⟩)
      (run m ρ)
  · refine (θ_run Cert.FfnInGradWRefIdeal.defs _ _).mono (fun _ h c => ⟨(h c).1.trans ?_, (h c).2⟩)
      (Cert.FfnInGradWRefIdeal.Value.run (F := Ideal) m' ρ')
    rw [(hagree c).1, (hagree c).2.1, (hagree c).2.2]
    exact (val_main_v14_eq _ _ _).trans (ref _ _ _)

end Cert.Proof.FfnInW
-- ==== Proof.Prod.ProjW.lean ====
/-
  The gradient of the mixing layer's projection weight, laid out as eight blocks of 896 columns. Of the 1 by 8 by 4 grid the second axis
  picks the block and the last runs over the rows of the two factors, 2048 at a time; a scratch holds the sum so far.
-/
module

public import proofs.«01_k».proof.Defs
public import proofs.«01_k».proof.Proof.Gen.ProjGradW.Frame
public import proofs.«01_k».proof.Proof.Gen.ProjGradWIdeal.Value
public import proofs.«01_k».proof.Proof.Gen.ProjGradWRefIdeal.Run
public import proofs.«01_k».proof.Proof.Gen.ProjGradWRefIdeal.Read
public import proofs.«01_k».proof.Proof.Prod.Sums
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.ProjW

section Kernel

open Cert.ProjGradWIdeal Cert.ProjGradWIdeal.Gen

theorem hz : (![0, 0] : Fin 2 → Nat) = fun _ => 0 := funext fun a => by fin_cases a <;> rfl

theorem hz3 : (![0, 0, 0] : Fin 3 → Nat) = fun _ => 0 := funext fun a => by fin_cases a <;> rfl

section Cases

variable (c : Dev nD) (i : grid0.Coords) (a3 : Memref sig .tc .vmem S2048x2048 .bf16) (h3 : a3.IsWhole)
variable (a4 : Memref sig .tc .vmem S2048x896 .bf16) (h4 : a4.IsWhole) (a5 : Memref sig .tc .vmem S1x2048x896 .bf16) (h5 : a5.IsWhole)
variable (a6 : Memref sig .tc .vmem S2048x896 .f32) (h6 : a6.IsWhole)
variable (x0 : Vec Ideal S2048x2048 .bf16) (x1 : Vec Ideal S2048x896 .bf16) (xs : Vec Ideal S2048x896 .f32)

/-- The first point of a run leaves the block's product in the scratch. -/
theorem first (hc0 hc1 hc2) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S2048x2048) hz,
    View.ld_unit_zero (S := S2048x896) hz, shapeCast_self]

/-- A point in the middle adds its product to the scratch. -/
theorem middle (hc0 hc1 hc2) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S2048x2048) hz,
    View.ld_unit_zero (S := S2048x896) hz, shapeCast_self]

/-- The last point writes the scratch plus its product. -/
theorem last (hc0 hc1 hc2) : out0_C_2 c i a3 h3 a4 h4 a5 h5 a6 h6 hc0 hc1 hc2 x0 x1 xs = k0_pay4 x0 x1 xs := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero hz3]
  simp only [View.readAt_eq_ld, h3.read_unread, h4.read_unread, h6.read_unread, View.ld_unit_zero (S := S2048x2048) hz,
    View.ld_unit_zero (S := S2048x896) hz]

end Cases

theorem pay1 (x0 : Vec Ideal S2048x2048 .bf16) (x1 : Vec Ideal S2048x896 .bf16) (y : S2048x896.Idx) :
    k0_pay1 x0 x1 y = ∑ k : Fin 2048, x0 (ix2 k (y 0)) * x1 (ix2 k (y 1)) := by
  pointwise [k0_pay1]

theorem pay4 (x0 : Vec Ideal S2048x2048 .bf16) (x1 : Vec Ideal S2048x896 .bf16) (xs : Vec Ideal S2048x896 .f32) (y : S1x2048x896.Idx) :
    k0_pay4 x0 x1 xs y = xs (ix2 (y 1) (y 2)) + k0_pay1 x0 x1 (ix2 (y 1) (y 2)) := by
  pointwise [k0_pay4]

/-- Column `j` of block `b` among all columns. -/
abbrev col (b : Fin 8) (j : Fin 896) : Fin 7168 := ⟨896 * b.val + j.val, by have := b.isLt; have := j.isLt; omega⟩

/-- The product of the transposed left factor with the right one, its columns in eight blocks. -/
def grad (x : FVec Ideal S8192x2048 .bf16) (dy : FVec Ideal S8192x7168 .bf16) : FVec Ideal S8x2048x896 .bf16 := fun i =>
  ∑ k : Fin 8192, x (ix2 k (i 1)) * dy (ix2 k (col (i 0) (i 2)))

variable (m : (ℓ : Loc nD τ sig) → Buf (Elt Ideal) ℓ)

theorem ix_0 : ∀ t : Fin cfg0.N, win0_0.index t = ![t.val % 4, 0] :=
  (by decide +kernel : ∀ t : Fin grid0.N, win0_0.index t = ![t.val % 4, 0])
theorem ix_1 : ∀ t : Fin cfg0.N, win0_1.index t = ![t.val % 4, t.val / 4] :=
  (by decide +kernel : ∀ t : Fin grid0.N, win0_1.index t = ![t.val % 4, t.val / 4])
theorem ix_2 : ∀ t : Fin cfg0.N, win0_2.index t = ![t.val / 4, 0, 0] :=
  (by decide +kernel : ∀ t : Fin grid0.N, win0_2.index t = ![t.val / 4, 0, 0])

/-- The block the last point of a run writes: the sum of the run's products. -/
theorem block (c : Dev nD) (t : Fin cfg0.N) (ht : t.val % 4 = 3) (y : S1x2048x896.Idx) :
    (outsAt0 m c t.val t.isLt).1 y = ∑ s : Fin 4, k0_pay1 (F := Ideal)
      (iblk m c 0 ⟨4 * (t.val / 4) + s.val, by have := t.isLt; omega⟩) (iblk m c 1 ⟨4 * (t.val / 4) + s.val, by have := t.isLt; omega⟩) (ix2 (y 1) (y 2)) := by
  refine Prod.sweep (N := cfg0.N) (P := 4) (fun n h => (outsAt0 m c n h).2 (ix2 (y 1) (y 2)))
    (fun n h => k0_pay1 (F := Ideal) (iblk m c 0 ⟨n, h⟩) (iblk m c 1 ⟨n, h⟩) (ix2 (y 1) (y 2))) (fun n h => (outsAt0 m c n h).1 y)
    (fun n h h0 => ?_) (fun n h h0 h1 => ?_) (fun n h h0 => ?_) (by omega) t.val t.isLt ht
  · rw [outsAt0_A m c ⟨n, h⟩ h0 (by dsimp only; omega) (by dsimp only; omega), first]
  · rw [outsAt0_B m c ⟨n, h⟩ h0 (by dsimp only; omega) (by dsimp only; omega), middle]
    rfl
  · rw [outsAt0_C m c ⟨n, h⟩ (by dsimp only; omega) (by dsimp only; omega) h0, last]
    exact pay4 _ _ _ y

/-- The gradient, the whole array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 4 = 3 := (flush0_2 t).mp hf
  refine (block m c t ht y).trans ?_
  unfold grad
  rw [← Prod.sum_blocks 2048 4 8192 rfl]
  refine Finset.sum_congr rfl fun s _ => ?_
  rw [pay1]
  refine Finset.sum_congr rfl fun k _ => ?_
  have hs := s.isLt
  blk_simp [iblk]
  congr 2
  · blk_ext [ix_0, ix_2]
  · blk_ext [ix_1, ix_2]
    blk_simp [ix_2]
    omega

end Kernel

section Reference

open Cert.ProjGradWRefIdeal Cert.ProjGradWRefIdeal.Read

theorem ref (x0 : FVec Ideal S8192x2048 .bf16) (x1 : FVec Ideal S8192x7168 .bf16) : val_main_v8 (F := Ideal) x0 x1 = grad x0 x1 := by
  funext i
  rw [val_main_v8_apply, val_main_v7_apply, val_main_v6_apply, val_main_v5_apply]
  refine (val_main_v4_apply _ _ _).trans (Finset.sum_congr rfl fun k _ => ?_)
  rw [val_main_v0_apply, val_main_v1_apply]
  refine (mul_comm _ _).trans ?_
  show x0 _ * x1 _ = _
  have h0 : (i 0).val < 8 := (i 0).isLt
  have h1 : (i 1).val < 2048 := (i 1).isLt
  have h2 : (i 2).val < 896 := (i 2).isLt
  congr 2
  · funext a; fin_cases a
    · rfl
    · exact Fin.ext (show (((i 1).val * 8 + (i 0).val) * 896 + (i 2).val) / 7168 = (i 1).val by omega)
  · funext a; fin_cases a
    · rfl
    · exact Fin.ext (show (((i 1).val * 8 + (i 0).val) * 896 + (i 2).val) % 7168 = 896 * (i 0).val + (i 2).val by omega)

end Reference

theorem frame_kernel : Cert.quiescent_ProjGradW := fun m ρ _ => Cert.ProjGradW.Gen.frame m ρ
theorem frame_ideal : Cert.quiescent_ProjGradWIdeal := fun m ρ _ => Cert.ProjGradWIdeal.Gen.frame m ρ
theorem frame_ref : Cert.quiescent_ProjGradWRefIdeal := fun m ρ _ =>
  (θ_run Cert.ProjGradWRefIdeal.defs _ _).mono (fun r h => ⟨fun c => (h c).2, Idealize.ShloMosaic.sem_eq_zero_of_no_sems (by decide) r.2⟩)
    (Cert.ProjGradWRefIdeal.Value.run (F := Ideal) m ρ)

open Cert.ProjGradWRefIdeal.Read in
theorem algebraic : Cert.algebraic_ProjGradWIdeal_ProjGradWRefIdeal := by
  intro m ρ m' ρ' _ hagree
  refine ⟨fun c => grad (m ((c : Thread Cert.ProjGradWIdeal.nD Cert.ProjGradWIdeal.τ).loc Cert.ProjGradWIdeal.main_arg0))
      (m ((c : Thread Cert.ProjGradWIdeal.nD Cert.ProjGradWIdeal.τ).loc Cert.ProjGradWIdeal.main_arg1)), ?_, ?_⟩
  · exact (θ_run Cert.ProjGradWIdeal.defs _ _).mono (fun _ h c => ⟨(h c).1.trans (final m c), (h c).2⟩)
      (Cert.ProjGradWIdeal.Value.run_blocks (F := Ideal) m ρ)
  · refine (θ_run Cert.ProjGradWRefIdeal.defs _ _).mono (fun _ h c => ⟨(h c).1.trans ?_, (h c).2⟩)
      (Cert.ProjGradWRefIdeal.Value.run (F := Ideal) m' ρ')
    rw [(hagree c).1, (hagree c).2]
    exact (val_main_v8_eq _ _).trans (ref _ _)

end Cert.Proof.ProjW
-- ==== Proof.Prod.OutW.lean ====
/-
  The gradient of the mixing layer's output weight. Of the 1 by 2 by 4 grid the last axis runs over the rows of the two factors, 2048 at
  a time; a scratch holds the sum so far of half the columns of the result, which the fourth point writes.
-/
module

public import proofs.«01_k».proof.Defs
public import proofs.«01_k».proof.Proof.Gen.OutGradW.Frame
public import proofs.«01_k».proof.Proof.Gen.OutGradWIdeal.Value
public import proofs.«01_k».proof.Proof.Gen.OutGradWRefIdeal.Run
public import proofs.«01_k».proof.Proof.Gen.OutGradWRefIdeal.Read
public import proofs.«01_k».proof.Proof.Prod.Sums
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.OutW

section Kernel

open Cert.OutGradWIdeal Cert.OutGradWIdeal.Gen

theorem hz : (![0, 0] : Fin 2 → Nat) = fun _ => 0 := funext fun a => by fin_cases a <;> rfl

section Cases

variable (c : Dev nD) (i : grid0.Coords) (a3 : Memref sig .tc .vmem S2048x2048 .bf16) (h3 : a3.IsWhole)
variable (a4 : Memref sig .tc .vmem S2048x1024 .bf16) (h4 : a4.IsWhole) (a5 : Memref sig .tc .vmem S2048x1024 .bf16) (h5 : a5.IsWhole)
variable (a6 : Memref sig .tc .vmem S2048x1024 .f32) (h6 : a6.IsWhole)
variable (x0 : Vec Ideal S2048x2048 .bf16) (x1 : Vec Ideal S2048x1024 .bf16) (xs : Vec Ideal S2048x1024 .f32)

/-- The first point of a run leaves the block's product in the scratch. -/
theorem first (hc0 hc1 hc2) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S2048x2048) hz,
    View.ld_unit_zero (S := S2048x1024) hz, shapeCast_self]

/-- A point in the middle adds its product to the scratch. -/
theorem middle (hc0 hc1 hc2) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S2048x2048) hz,
    View.ld_unit_zero (S := S2048x1024) hz, shapeCast_self]

/-- The last point writes the scratch plus its product. -/
theorem last (hc0 hc1 hc2) : out0_C_2 c i a3 h3 a4 h4 a5 h5 a6 h6 hc0 hc1 hc2 x0 x1 xs = k0_pay4 x0 x1 xs := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero hz]
  simp only [View.readAt_eq_ld, h3.read_unread, h4.read_unread, h6.read_unread, View.ld_unit_zero (S := S2048x2048) hz,
    View.ld_unit_zero (S := S2048x1024) hz]

end Cases

theorem pay1 (x0 : Vec Ideal S2048x2048 .bf16) (x1 : Vec Ideal S2048x1024 .bf16) (y : S2048x1024.Idx) :
    k0_pay1 x0 x1 y = ∑ k : Fin 2048, x0 (ix2 k (y 0)) * x1 (ix2 k (y 1)) := by
  pointwise [k0_pay1]

/-- The product of the transposed left factor with the right one. -/
def grad (x : FVec Ideal S8192x2048 .bf16) (dy : FVec Ideal S8192x2048 .bf16) : FVec Ideal S2048x2048 .bf16 := fun i =>
  ∑ k : Fin 8192, x (ix2 k (i 0)) * dy (ix2 k (i 1))

variable (m : (ℓ : Loc nD τ sig) → Buf (Elt Ideal) ℓ)

theorem ix_0 : ∀ t : Fin cfg0.N, win0_0.index t = ![t.val % 4, 0] :=
  (by decide +kernel : ∀ t : Fin grid0.N, win0_0.index t = ![t.val % 4, 0])
theorem ix_1 : ∀ t : Fin cfg0.N, win0_1.index t = ![t.val % 4, t.val / 4] :=
  (by decide +kernel : ∀ t : Fin grid0.N, win0_1.index t = ![t.val % 4, t.val / 4])
theorem ix_2 : ∀ t : Fin cfg0.N, win0_2.index t = ![0, t.val / 4] :=
  (by decide +kernel : ∀ t : Fin grid0.N, win0_2.index t = ![0, t.val / 4])

/-- The block the last point of a run writes: the sum of the run's products. -/
theorem block (c : Dev nD) (t : Fin cfg0.N) (ht : t.val % 4 = 3) (y : S2048x1024.Idx) :
    (outsAt0 m c t.val t.isLt).1 y = ∑ s : Fin 4, k0_pay1 (F := Ideal)
      (iblk m c 0 ⟨4 * (t.val / 4) + s.val, by have := t.isLt; omega⟩) (iblk m c 1 ⟨4 * (t.val / 4) + s.val, by have := t.isLt; omega⟩) y := by
  refine Prod.sweep (N := cfg0.N) (P := 4) (fun n h => (outsAt0 m c n h).2 y)
    (fun n h => k0_pay1 (F := Ideal) (iblk m c 0 ⟨n, h⟩) (iblk m c 1 ⟨n, h⟩) y) (fun n h => (outsAt0 m c n h).1 y)
    (fun n h h0 => ?_) (fun n h h0 h1 => ?_) (fun n h h0 => ?_) (by omega) t.val t.isLt ht
  · rw [outsAt0_A m c ⟨n, h⟩ h0 (by dsimp only; omega) (by dsimp only; omega), first]
  · rw [outsAt0_B m c ⟨n, h⟩ h0 (by dsimp only; omega) (by dsimp only; omega), middle]
    rfl
  · rw [outsAt0_C m c ⟨n, h⟩ (by dsimp only; omega) (by dsimp only; omega) h0, last]
    rfl

/-- The gradient, the whole array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 4 = 3 := (flush0_2 t).mp hf
  refine (block m c t ht y).trans ?_
  unfold grad
  rw [← Prod.sum_blocks 2048 4 8192 rfl]
  refine Finset.sum_congr rfl fun s _ => ?_
  rw [pay1]
  refine Finset.sum_congr rfl fun k _ => ?_
  have hs := s.isLt
  blk_simp [iblk]
  congr 2
  · blk_ext [ix_0, ix_2]
  · blk_ext [ix_1, ix_2]

end Kernel

section Reference

open Cert.OutGradWRefIdeal Cert.OutGradWRefIdeal.Read

theorem ref (x0 : FVec Ideal S8192x2048 .bf16) (x1 : FVec Ideal S8192x2048 .bf16) : val_main_v6 (F := Ideal) x0 x1 = grad x0 x1 := by
  funext i
  rw [val_main_v6_apply, val_main_v5_apply]
  refine (val_main_v4_apply _ _ _).trans (Finset.sum_congr rfl fun k _ => ?_)
  rw [val_main_v0_apply, val_main_v1_apply]
  refine (mul_comm _ _).trans ?_
  show x0 _ * x1 _ = _
  congr 2
  · funext a; fin_cases a <;> rfl
  · funext a; fin_cases a <;> rfl

end Reference

theorem frame_kernel : Cert.quiescent_OutGradW := fun m ρ _ => Cert.OutGradW.Gen.frame m ρ
theorem frame_ideal : Cert.quiescent_OutGradWIdeal := fun m ρ _ => Cert.OutGradWIdeal.Gen.frame m ρ
theorem frame_ref : Cert.quiescent_OutGradWRefIdeal := fun m ρ _ =>
  (θ_run Cert.OutGradWRefIdeal.defs _ _).mono (fun r h => ⟨fun c => (h c).2, Idealize.ShloMosaic.sem_eq_zero_of_no_sems (by decide) r.2⟩)
    (Cert.OutGradWRefIdeal.Value.run (F := Ideal) m ρ)

open Cert.OutGradWRefIdeal.Read in
theorem algebraic : Cert.algebraic_OutGradWIdeal_OutGradWRefIdeal := by
  intro m ρ m' ρ' _ hagree
  refine ⟨fun c => grad (m ((c : Thread Cert.OutGradWIdeal.nD Cert.OutGradWIdeal.τ).loc Cert.OutGradWIdeal.main_arg0))
      (m ((c : Thread Cert.OutGradWIdeal.nD Cert.OutGradWIdeal.τ).loc Cert.OutGradWIdeal.main_arg1)), ?_, ?_⟩
  · exact (θ_run Cert.OutGradWIdeal.defs _ _).mono (fun _ h c => ⟨(h c).1.trans (final m c), (h c).2⟩)
      (Cert.OutGradWIdeal.Value.run_blocks (F := Ideal) m ρ)
  · refine (θ_run Cert.OutGradWRefIdeal.defs _ _).mono (fun _ h c => ⟨(h c).1.trans ?_, (h c).2⟩)
      (Cert.OutGradWRefIdeal.Value.run (F := Ideal) m' ρ')
    rw [(hagree c).1, (hagree c).2]
    exact (val_main_v6_eq _ _).trans (ref _ _)

end Cert.Proof.OutW
-- ==== Proof.Prod.OutX.lean ====
/-
  The gradient of the mixed activations through the mixing layer's output product. Each point of the 8 by 2 grid writes one block, whole.
-/
module

public import proofs.«01_k».proof.Defs
public import proofs.«01_k».proof.Proof.Gen.OutGradX.Frame
public import proofs.«01_k».proof.Proof.Gen.OutGradXIdeal.Value
public import proofs.«01_k».proof.Proof.Gen.OutGradXRefIdeal.Run
public import proofs.«01_k».proof.Proof.Gen.OutGradXRefIdeal.Read
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.OutX

section Kernel

open Cert.OutGradXIdeal Cert.OutGradXIdeal.Gen

theorem pay1 (x0 x1 : Vec Ideal S1024x2048 .bf16) (y : S1024x1024.Idx) :
    k0_pay1 x0 x1 y = ∑ k : Fin 2048, x0 (ix2 (y 0) k) * x1 (ix2 (y 1) k) := by
  pointwise [k0_pay1]

/-- The product of the left factor with the transposed right one. -/
def grad (dy : FVec Ideal S8192x2048 .bf16) (w : FVec Ideal S2048x2048 .bf16) : FVec Ideal S8192x2048 .f32 := fun i =>
  ∑ k : Fin 2048, dy (ix2 (i 0) k) * w (ix2 (i 1) k)

variable (m : (ℓ : Loc nD τ sig) → Buf (Elt Ideal) ℓ)

theorem ix_0 : ∀ t : Fin cfg0.N, win0_0.index t = ![t.val / 2, 0] :=
  (by decide +kernel : ∀ t : Fin grid0.N, win0_0.index t = ![t.val / 2, 0])
theorem ix_1 : ∀ t : Fin cfg0.N, win0_1.index t = ![t.val % 2, 0] :=
  (by decide +kernel : ∀ t : Fin grid0.N, win0_1.index t = ![t.val % 2, 0])
theorem ix_2 : ∀ t : Fin cfg0.N, win0_2.index t = ![t.val / 2, t.val % 2] :=
  (by decide +kernel : ∀ t : Fin grid0.N, win0_2.index t = ![t.val / 2, t.val % 2])

/-- The gradient, the whole array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  rw [pay1]
  unfold grad
  show (∑ k : Fin 2048, (_ : EReal)) = ∑ k : Fin 2048, (_ : EReal)
  refine Finset.sum_congr rfl fun k _ => ?_
  blk_simp [iblk]
  congr 2
  · blk_ext [ix_0, ix_2]
  · blk_ext [ix_1, ix_2]

end Kernel

section Reference

open Cert.OutGradXRefIdeal Cert.OutGradXRefIdeal.Read

theorem ref (x0 : FVec Ideal S8192x2048 .bf16) (x1 : FVec Ideal S2048x2048 .bf16) : val_main_v4 (F := Ideal) x0 x1 = grad x0 x1 := by
  funext i
  refine (val_main_v4_apply _ _ _).trans (Finset.sum_congr rfl fun k _ => ?_)
  rw [val_main_v0_apply, val_main_v3_apply]
  show x0 _ * x1 _ = _
  congr 2
  · funext a; fin_cases a <;> rfl
  · funext a; fin_cases a <;> rfl

end Reference

theorem frame_kernel : Cert.quiescent_OutGradX := fun m ρ _ => Cert.OutGradX.Gen.frame m ρ
theorem frame_ideal : Cert.quiescent_OutGradXIdeal := fun m ρ _ => Cert.OutGradXIdeal.Gen.frame m ρ
theorem frame_ref : Cert.quiescent_OutGradXRefIdeal := fun m ρ _ =>
  (θ_run Cert.OutGradXRefIdeal.defs _ _).mono (fun r h => ⟨fun c => (h c).2, Idealize.ShloMosaic.sem_eq_zero_of_no_sems (by decide) r.2⟩)
    (Cert.OutGradXRefIdeal.Value.run (F := Ideal) m ρ)

open Cert.OutGradXRefIdeal.Read in
theorem algebraic : Cert.algebraic_OutGradXIdeal_OutGradXRefIdeal := by
  intro m ρ m' ρ' _ hagree
  refine ⟨fun c => grad (m ((c : Thread Cert.OutGradXIdeal.nD Cert.OutGradXIdeal.τ).loc Cert.OutGradXIdeal.main_arg0))
      (m ((c : Thread Cert.OutGradXIdeal.nD Cert.OutGradXIdeal.τ).loc Cert.OutGradXIdeal.main_arg1)), ?_, ?_⟩
  · exact (θ_run Cert.OutGradXIdeal.defs _ _).mono (fun _ h c => ⟨(h c).1.trans (final m c), (h c).2⟩)
      (Cert.OutGradXIdeal.Value.run_blocks (F := Ideal) m ρ)
  · refine (θ_run Cert.OutGradXRefIdeal.defs _ _).mono (fun _ h c => ⟨(h c).1.trans ?_, (h c).2⟩)
      (Cert.OutGradXRefIdeal.Value.run (F := Ideal) m' ρ')
    rw [(hagree c).1, (hagree c).2]
    exact (val_main_v4_eq _ _).trans (ref _ _)

end Cert.Proof.OutX
-- ==== Proof.Prod.FfnInX.lean ====
/-
  The gradient of the SwiGLU layer's input: the product of the two gradients side by side with the transposed weight, which lies in
  eight blocks of 1408 columns, four of the gate's and four of the other factor's. Of the 8 by 1 by 8 grid the first axis picks 1024
  rows and the last runs over the blocks, and with them over the left gradient and then the right one; a scratch holds the sum so far.
-/
module

public import proofs.«01_k».proof.Defs
public import proofs.«01_k».proof.Proof.Gen.FfnInGradX.Frame
public import proofs.«01_k».proof.Proof.Gen.FfnInGradXIdeal.Value
public import proofs.«01_k».proof.Proof.Gen.FfnInGradXRefIdeal.Run
public import proofs.«01_k».proof.Proof.Gen.FfnInGradXRefIdeal.Read
public import proofs.«01_k».proof.Proof.Prod.Sums
public import proofs.«01_k».proof.Proof.Prod.Pads
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.FfnInX

section Kernel

open Cert.FfnInGradXIdeal Cert.FfnInGradXIdeal.Gen

theorem hz : (![0, 0] : Fin 2 → Nat) = fun _ => 0 := funext fun a => by fin_cases a <;> rfl
theorem hz3 : (![0, 0, 0] : Fin 3 → Nat) = fun _ => 0 := funext fun a => by fin_cases a <;> rfl

section Cases

variable (c : Dev nD) (i : grid0.Coords) (a3 : Memref sig .tc .vmem S1024x1408 .bf16) (h3 : a3.IsWhole)
variable (a4 : Memref sig .tc .vmem S1024x1408 .bf16) (h4 : a4.IsWhole) (a5 : Memref sig .tc .vmem S1x2048x1408 .bf16) (h5 : a5.IsWhole)
variable (a6 : Memref sig .tc .vmem S1024x2048 .f32) (h6 : a6.IsWhole) (a7 : Memref sig .tc .vmem S1024x2048 .f32) (h7 : a7.IsWhole)
variable (x0 x1 : Vec Ideal S1024x1408 .bf16) (x2 : Vec Ideal S1x2048x1408 .bf16) (xs : Vec Ideal S1024x2048 .f32)

/-- The first point of a run leaves the block's product in the scratch. -/
theorem first (hc0 hc1 hc2 hc3 hc4) :
    sout0_A_0 c i a3 h3 a4 h4 a5 h5 a6 h6 a7 h7 hc0 hc1 hc2 hc3 hc4 x0 x1 x2 = k0_pay1 x0 x2 := by
  unfold sout0_A_0
  rw [View.read_writes_eq_canon _ _ _ (scover0_A_0 c i a3 h3 a4 h4 a5 h5 a6 h6 a7 h7 hc0 hc1 hc2 hc3 hc4 x0 x1 x2)]
  unfold kernelRun0_A
  dsimp only
  rw [View.canon_unit_zero hz]
  unfold k0_pay2
  simp only [View.readAt_eq_ld, h3.read_unread, h5.read_unread, View.ld_unit_zero (S := S1024x1408) hz,
    View.ld_unit_zero (S := S1x2048x1408) hz3, shapeCast_self]

/-- A point in the middle adds its product to the scratch; in the left half -/
theorem middleL (hc0 hc1 hc2 hc3 hc4) :
    sout0_B_0 c i a3 h3 a4 h4 a5 h5 a6 h6 a7 h7 hc0 hc1 hc2 hc3 hc4 x0 x1 x2 xs = addf xs (k0_pay1 x0 x2) := by
  unfold sout0_B_0
  rw [View.read_writes_eq_canon _ _ _ (scover0_B_0 c i a3 h3 a4 h4 a5 h5 a6 h6 a7 h7 hc0 hc1 hc2 hc3 hc4 x0 x1 x2 xs)]
  unfold kernelRun0_B
  dsimp only
  rw [View.canon_unit_zero hz]
  unfold k0_pay3
  simp only [View.readAt_eq_ld, h3.read_unread, h5.read_unread, h7.read_unread, View.ld_unit_zero (S := S1024x1408) hz,
    View.ld_unit_zero (S := S1x2048x1408) hz3, View.ld_unit_zero (S := S1024x2048) hz, shapeCast_self]

/-- and in the right half. -/
theorem middleR (hc0 hc4 hc5 hc6 hc7) :
    sout0_C_0 c i a3 h3 a4 h4 a5 h5 a6 h6 a7 h7 hc0 hc4 hc5 hc6 hc7 x0 x1 x2 xs = addf xs (k0_pay1 x1 x2) := by
  unfold sout0_C_0
  rw [View.read_writes_eq_canon _ _ _ (scover0_C_0 c i a3 h3 a4 h4 a5 h5 a6 h6 a7 h7 hc0 hc4 hc5 hc6 hc7 x0 x1 x2 xs)]
  unfold kernelRun0_C
  dsimp only
  rw [View.canon_unit_zero hz]
  unfold k0_pay7
  simp only [View.readAt_eq_ld, h4.read_unread, h5.read_unread, h7.read_unread, View.ld_unit_zero (S := S1024x1408) hz,
    View.ld_unit_zero (S := S1x2048x1408) hz3, View.ld_unit_zero (S := S1024x2048) hz, shapeCast_self]
  rfl

/-- The last point writes the scratch plus its product. -/
theorem last (hc0 hc4 hc5 hc6 hc7) :
    out0_D_3 c i a3 h3 a4 h4 a5 h5 a6 h6 a7 h7 hc0 hc4 hc5 hc6 hc7 x0 x1 x2 xs = addf xs (k0_pay1 x1 x2) := by
  unfold out0_D_3
  rw [View.read_writes_eq_canon _ _ _ (cover0_D_3 c i a3 h3 a4 h4 a5 h5 a6 h6 a7 h7 hc0 hc4 hc5 hc6 hc7 x0 x1 x2 xs)]
  unfold kernelRun0_D
  dsimp only
  rw [View.canon_unit_zero hz]
  unfold k0_pay8
  simp only [View.readAt_eq_ld, h4.read_unread, h5.read_unread, h7.read_unread, View.ld_unit_zero (S := S1024x1408) hz,
    View.ld_unit_zero (S := S1x2048x1408) hz3, View.ld_unit_zero (S := S1024x2048) hz]
  rfl

end Cases

theorem pay1 (x0 : Vec Ideal S1024x1408 .bf16) (x1 : Vec Ideal S1x2048x1408 .bf16) (y : S1024x2048.Idx) :
    k0_pay1 x0 x1 y = ∑ k : Fin 1408, x0 (ix2 (y 0) k) * x1 (ix3 0 (y 1) k) := by
  pointwise [k0_pay1]

/-- The product of the two gradients side by side with the transposed weight, whose columns lie in eight blocks. -/
def grad (dg du : FVec Ideal S8192x5632 .bf16) (w : FVec Ideal S8x2048x1408 .bf16) : FVec Ideal S8192x2048 .f32 := fun i =>
  ∑ k : Fin 11264, (if k.val < 5632 then dg else du) (ix2 (i 0) (⟨k.val % 5632, Nat.mod_lt _ (by decide)⟩ : Fin 5632))
    * w (ix3 (⟨k.val / 1408, Nat.div_lt_of_lt_mul k.isLt⟩ : Fin 8) (i 1) (⟨k.val % 1408, Nat.mod_lt _ (by decide)⟩ : Fin 1408))

variable (m : (ℓ : Loc nD τ sig) → Buf (Elt Ideal) ℓ)

theorem ix_0 : ∀ t : Fin cfg0.N, t.val % 8 < 4 → win0_0.index t = ![t.val / 8, t.val % 4] :=
  (by decide +kernel : ∀ t : Fin grid0.N, t.val % 8 < 4 → win0_0.index t = ![t.val / 8, t.val % 4])
theorem ix_1 : ∀ t : Fin cfg0.N, ¬t.val % 8 < 4 → win0_1.index t = ![t.val / 8, t.val % 4] :=
  (by decide +kernel : ∀ t : Fin grid0.N, ¬t.val % 8 < 4 → win0_1.index t = ![t.val / 8, t.val % 4])
theorem ix_2 : ∀ t : Fin cfg0.N, win0_2.index t = ![t.val % 8, 0, 0] :=
  (by decide +kernel : ∀ t : Fin grid0.N, win0_2.index t = ![t.val % 8, 0, 0])
theorem ix_3 : ∀ t : Fin cfg0.N, win0_3.index t = ![t.val / 8, 0] :=
  (by decide +kernel : ∀ t : Fin grid0.N, win0_3.index t = ![t.val / 8, 0])

/-- The product of one point: of the half its block lies in. -/
def part (c : Dev nD) (t : Fin cfg0.N) : FVec Ideal S1024x2048 .f32 :=
  if t.val % 8 < 4 then k0_pay1 (F := Ideal) (iblk m c 0 t) (iblk m c 2 t) else k0_pay1 (F := Ideal) (iblk m c 1 t) (iblk m c 2 t)

/-- The block the last point of a run writes: the sum of the run's products. -/
theorem block (c : Dev nD) (t : Fin cfg0.N) (ht : t.val % 8 = 7) (y : S1024x2048.Idx) :
    (outsAt0 m c t.val t.isLt).1 y = ∑ s : Fin 8, part m c ⟨8 * (t.val / 8) + s.val, by have := t.isLt; omega⟩ y := by
  refine Prod.sweep (N := cfg0.N) (P := 8) (fun n h => (outsAt0 m c n h).2 y)
    (fun n h => part m c ⟨n, h⟩ y) (fun n h => (outsAt0 m c n h).1 y)
    (fun n h h0 => ?_) (fun n h h0 h1 => ?_) (fun n h h0 => ?_) (by omega) t.val t.isLt ht
  · rw [outsAt0_A m c ⟨n, h⟩ (by dsimp only; omega) h0 (by dsimp only; omega) (by dsimp only; omega) (by dsimp only; omega), first,
      part, if_pos (by dsimp only; omega)]
  · by_cases hb : n % 8 < 4
    · rw [outsAt0_B m c ⟨n, h⟩ (by dsimp only; omega) h0 (by dsimp only; omega) (by dsimp only; omega) (by dsimp only; omega), middleL,
        part, if_pos hb]
      rfl
    · rw [outsAt0_C m c ⟨n, h⟩ (by dsimp only; omega) (by dsimp only; omega) h0 (by dsimp only; omega) (by dsimp only; omega), middleR,
        part, if_neg hb]
      rfl
  · rw [outsAt0_D m c ⟨n, h⟩ (by dsimp only; omega) (by dsimp only; omega) (by dsimp only; omega) (by dsimp only; omega) h0, last,
      part, if_neg (by dsimp only; omega)]
    rfl

/-- The gradient, the whole array after the run. -/
theorem final (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have ht : t.val % 8 = 7 := (flush0_3 t).mp hf
  refine (block m c t ht y).trans ?_
  have hlt : t.val < 64 := t.isLt
  unfold grad
  rw [← Prod.sum_blocks 1408 8 11264 rfl]
  refine Finset.sum_congr rfl fun s _ => ?_
  have hs := s.isLt
  by_cases hb : s.val < 4
  · rw [part, if_pos (by dsimp only; omega), pay1]
    refine Finset.sum_congr rfl fun k _ => ?_
    have hk := k.isLt
    rw [if_pos (by dsimp only; omega)]
    have hi := ix_0 ⟨8 * (t.val / 8) + s.val, by have : cfg0.N = 64 := N_0; omega⟩ (by dsimp only; omega)
    blk_simp [iblk]
    congr 2
    · blk_ext [hi, ix_3]
      all_goals blk_simp [ix_3]
      all_goals omega
    · blk_ext [ix_2, ix_3]
      all_goals blk_simp [ix_3]
      all_goals omega
  · rw [part, if_neg (by dsimp only; omega), pay1]
    refine Finset.sum_congr rfl fun k _ => ?_
    have hk := k.isLt
    rw [if_neg (by dsimp only; omega)]
    have hi := ix_1 ⟨8 * (t.val / 8) + s.val, by have : cfg0.N = 64 := N_0; omega⟩ (by dsimp only; omega)
    blk_simp [iblk]
    congr 2
    · blk_ext [hi, ix_3]
      all_goals blk_simp [ix_3]
      all_goals omega
    · blk_ext [ix_2, ix_3]
      all_goals blk_simp [ix_3]
      all_goals omega

end Kernel

section Reference

open Cert.FfnInGradXRefIdeal Cert.FfnInGradXRefIdeal.Read

theorem ref (x0 x1 : FVec Ideal S8192x5632 .bf16) (x2 : FVec Ideal S8x2048x1408 .bf16) :
    val_main_v12 (F := Ideal) x0 x1 x2 = grad x0 x1 x2 := by
  funext i
  refine (val_main_v12_apply _ _ _ _).trans (Finset.sum_congr rfl fun k _ => ?_)
  rw [val_main_v11_apply, val_main_v2_apply, val_main_v1_apply, val_main_v0_apply]
  have hk := k.isLt
  have h1 : (i 1).val < 2048 := (i 1).isLt
  refine congrArg₂ (· * ·) ?_ (congrArg x2 ?_)
  · refine (Prod.pads x0 x1 _ _ _ Ideal.ofBits_zero_f32 Ideal.ofBits_zero_f32 _ _ _).trans ?_
    by_cases hb : k.val < 5632
    · rw [if_pos hb, if_pos (show k.val < 5632 from hb)]
      refine congrArg x0 ?_
      funext a; fin_cases a <;> rfl
    · rw [if_neg hb, if_neg (show ¬k.val < 5632 from hb)]
      refine congrArg x1 ?_
      funext a; fin_cases a <;> rfl
  · funext a; fin_cases a
    · exact Fin.ext (show ((i 1).val * 11264 + k.val) / 1408 % 8 = k.val / 1408 by omega)
    · exact Fin.ext (show ((i 1).val * 11264 + k.val) / 11264 = (i 1).val by omega)
    · exact Fin.ext (show ((i 1).val * 11264 + k.val) % 1408 = k.val % 1408 by omega)

end Reference

theorem frame_kernel : Cert.quiescent_FfnInGradX := fun m ρ _ => Cert.FfnInGradX.Gen.frame m ρ
theorem frame_ideal : Cert.quiescent_FfnInGradXIdeal := fun m ρ _ => Cert.FfnInGradXIdeal.Gen.frame m ρ
theorem frame_ref : Cert.quiescent_FfnInGradXRefIdeal := fun m ρ _ =>
  (θ_run Cert.FfnInGradXRefIdeal.defs _ _).mono (fun r h => ⟨fun c => (h c).2, Idealize.ShloMosaic.sem_eq_zero_of_no_sems (by decide) r.2⟩)
    (Cert.FfnInGradXRefIdeal.Value.run (F := Ideal) m ρ)

open Cert.FfnInGradXRefIdeal.Read in
theorem algebraic : Cert.algebraic_FfnInGradXIdeal_FfnInGradXRefIdeal := by
  intro m ρ m' ρ' _ hagree
  refine ⟨fun c => grad (m ((c : Thread Cert.FfnInGradXIdeal.nD Cert.FfnInGradXIdeal.τ).loc Cert.FfnInGradXIdeal.main_arg0))
      (m ((c : Thread Cert.FfnInGradXIdeal.nD Cert.FfnInGradXIdeal.τ).loc Cert.FfnInGradXIdeal.main_arg1))
      (m ((c : Thread Cert.FfnInGradXIdeal.nD Cert.FfnInGradXIdeal.τ).loc Cert.FfnInGradXIdeal.main_arg2)), ?_, ?_⟩
  · exact (θ_run Cert.FfnInGradXIdeal.defs _ _).mono (fun _ h c => ⟨(h c).1.trans (final m c), (h c).2⟩)
      (Cert.FfnInGradXIdeal.Value.run_blocks (F := Ideal) m ρ)
  · refine (θ_run Cert.FfnInGradXRefIdeal.defs _ _).mono (fun _ h c => ⟨(h c).1.trans ?_, (h c).2⟩)
      (Cert.FfnInGradXRefIdeal.Value.run (F := Ideal) m' ρ')
    rw [(hagree c).1, (hagree c).2.1, (hagree c).2.2]
    exact (val_main_v12_eq _ _ _).trans (ref _ _ _)

end Cert.Proof.FfnInX
-- ==== Proof.Prod.ProjX.lean ====
/-
  The gradient of the mixing layer's input by way of its projection: the product of the result's gradient with the transposed weight,
  which lies in eight blocks of 896 columns. Of the 8 by 1 by 8 grid the first axis picks 1024 rows and the last runs over the blocks;
  a scratch holds the sum so far.
-/
module

public import proofs.«01_k».proof.Defs
public import proofs.«01_k».proof.Proof.Gen.ProjGradX.Frame
public import proofs.«01_k».proof.Proof.Gen.ProjGradXIdeal.Value
public import proofs.«01_k».proof.Proof.Gen.ProjGradXRefIdeal.Run
public import proofs.«01_k».proof.Proof.Gen.ProjGradXRefIdeal.Read
public import proofs.«01_k».proof.Proof.Prod.Sums
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.ProjX

section Kernel

open Cert.ProjGradXIdeal Cert.ProjGradXIdeal.Gen

theorem hz : (![0, 0] : Fin 2 → Nat) = fun _ => 0 := funext fun a => by fin_cases a <;> rfl

theorem hz3 : (![0, 0, 0] : Fin 3 → Nat) = fun _ => 0 := funext fun a => by fin_cases a <;> rfl

section Cases

variable (c : Dev nD) (i : grid0.Coords) (a3 : Memref sig .tc .vmem S1024x896 .bf16) (h3 : a3.IsWhole)
variable (a4 : Memref sig .tc .vmem S1x2048x896 .bf16) (h4 : a4.IsWhole) (a5 : Memref sig .tc .vmem S1024x2048 .f32) (h5 : a5.IsWhole)
variable (a6 : Memref sig .tc .vmem S1024x2048 .f32) (h6 : a6.IsWhole)
variable (x0 : Vec Ideal S1024x896 .bf16) (x1 : Vec Ideal S1x2048x896 .bf16) (xs : Vec Ideal S1024x2048 .f32)

/-- The first point of a run leaves the block's product in the scratch. -/
theorem first (hc0 hc1 hc2) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1024x896) hz,
    View.ld_unit_zero (S := S1x2048x896) hz3, shapeCast_self]

/-- A point in the middle adds its product to the scratch. -/
theorem middle (hc0 hc1 hc2) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S1024x896) hz,
    View.ld_unit_zero (S := S1x2048x896) hz3, View.ld_unit_zero (S := S1024x2048) hz, shapeCast_self]

/-- The last point writes the scratch plus its product. -/
theorem last (hc0 hc1 hc2) : out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero hz]
  unfold k0_pay4
  simp only [View.readAt_eq_ld, h3.read_unread, h4.read_unread, h6.read_unread, View.ld_unit_zero (S := S1024x896) hz,
    View.ld_unit_zero (S := S1x2048x896) hz3, View.ld_unit_zero (S := S1024x2048) hz]

end Cases

theorem pay1 (x0 : Vec Ideal S1024x896 .bf16) (x1 : Vec Ideal S1x2048x896 .bf16) (y : S1024x2048.Idx) :
    k0_pay1 x0 x1 y = ∑ k : Fin 896, x0 (ix2 (y 0) k) * x1 (ix3 0 (y 1) k) := by
  pointwise [k0_pay1]

/-- The product of the result's gradient with the transposed weight, whose columns lie in eight blocks. -/
def grad (dy : FVec Ideal S8192x7168 .bf16) (w : FVec Ideal S8x2048x896 .bf16) : FVec Ideal S8192x2048 .f32 := fun i =>
  ∑ k : Fin 7168, dy (ix2 (i 0) k) * w (ix3 (⟨k.val / 896, Nat.div_lt_of_lt_mul k.isLt⟩ : Fin 8) (i 1)
    (⟨k.val % 896, Nat.mod_lt _ (by decide)⟩ : Fin 896))

variable (m : (ℓ : Loc nD τ sig) → Buf (Elt Ideal) ℓ)

theorem ix_0 : ∀ t : Fin cfg0.N, win0_0.index t = ![t.val / 8, t.val % 8] :=
  (by decide +kernel : ∀ t : Fin grid0.N, win0_0.index t = ![t.val / 8, t.val % 8])
theorem ix_1 : ∀ t : Fin cfg0.N, win0_1.index t = ![t.val % 8, 0, 0] :=
  (by decide +kernel : ∀ t : Fin grid0.N, win0_1.index t = ![t.val % 8, 0, 0])
theorem ix_2 : ∀ t : Fin cfg0.N, win0_2.index t = ![t.val / 8, 0] :=
  (by decide +kernel : ∀ t : Fin grid0.N, win0_2.index t = ![t.val / 8, 0])

/-- The block the last point of a run writes: the sum of the run's products. -/
theorem block (c : Dev nD) (t : Fin cfg0.N) (ht : t.val % 8 = 7) (y : S1024x2048.Idx) :
    (outsAt0 m c t.val t.isLt).1 y = ∑ s : Fin 8, k0_pay1 (F := Ideal)
      (iblk m c 0 ⟨8 * (t.val / 8) + s.val, by have := t.isLt; omega⟩) (iblk m c 1 ⟨8 * (t.val / 8) + s.val, by have := t.isLt; omega⟩) y := by
  refine Prod.sweep (N := cfg0.N) (P := 8) (fun n h => (outsAt0 m c n h).2 y)
    (fun n h => k0_pay1 (F := Ideal) (iblk m c 0 ⟨n, h⟩) (iblk m c 1 ⟨n, h⟩) y) (fun n h => (outsAt0 m c n h).1 y)
    (fun n h h0 => ?_) (fun n h h0 h1 => ?_) (fun n h h0 => ?_) (by omega) t.val t.isLt ht
  · rw [outsAt0_A m c ⟨n, h⟩ h0 (by dsimp only; omega) (by dsimp only; omega), first]
  · rw [outsAt0_B m c ⟨n, h⟩ h0 (by dsimp only; omega) (by dsimp only; omega), middle]
    rfl
  · rw [outsAt0_C m c ⟨n, h⟩ (by dsimp only; omega) (by dsimp only; omega) h0, last]
    rfl

/-- The gradient, the whole array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 8 = 7 := (flush0_2 t).mp hf
  refine (block m c t ht y).trans ?_
  unfold grad
  rw [← Prod.sum_blocks 896 8 7168 rfl]
  refine Finset.sum_congr rfl fun s _ => ?_
  rw [pay1]
  refine Finset.sum_congr rfl fun k _ => ?_
  have hs := s.isLt
  have hk := k.isLt
  blk_simp [iblk]
  congr 2
  · blk_ext [ix_0, ix_2]
    all_goals blk_simp [ix_2]
    all_goals omega
  · blk_ext [ix_1, ix_2]
    all_goals blk_simp [ix_2]
    all_goals omega

end Kernel

section Reference

open Cert.ProjGradXRefIdeal Cert.ProjGradXRefIdeal.Read

theorem ref (x0 : FVec Ideal S8192x7168 .bf16) (x1 : FVec Ideal S8x2048x896 .bf16) : val_main_v6 (F := Ideal) x0 x1 = grad x0 x1 := by
  funext i
  refine (val_main_v6_apply _ _ _).trans (Finset.sum_congr rfl fun k _ => ?_)
  rw [val_main_v5_apply, val_main_v2_apply, val_main_v1_apply, val_main_v0_apply]
  show x0 _ * x1 _ = _
  have hk := k.isLt
  have h1 : (i 1).val < 2048 := (i 1).isLt
  congr 2
  · funext a; fin_cases a <;> rfl
  · funext a; fin_cases a
    · exact Fin.ext (show ((i 1).val * 7168 + k.val) / 896 % 8 = k.val / 896 by omega)
    · exact Fin.ext (show ((i 1).val * 7168 + k.val) / 7168 = (i 1).val by omega)
    · exact Fin.ext (show ((i 1).val * 7168 + k.val) % 896 = k.val % 896 by omega)

end Reference

theorem frame_kernel : Cert.quiescent_ProjGradX := fun m ρ _ => Cert.ProjGradX.Gen.frame m ρ
theorem frame_ideal : Cert.quiescent_ProjGradXIdeal := fun m ρ _ => Cert.ProjGradXIdeal.Gen.frame m ρ
theorem frame_ref : Cert.quiescent_ProjGradXRefIdeal := fun m ρ _ =>
  (θ_run Cert.ProjGradXRefIdeal.defs _ _).mono (fun r h => ⟨fun c => (h c).2, Idealize.ShloMosaic.sem_eq_zero_of_no_sems (by decide) r.2⟩)
    (Cert.ProjGradXRefIdeal.Value.run (F := Ideal) m ρ)

open Cert.ProjGradXRefIdeal.Read in
theorem algebraic : Cert.algebraic_ProjGradXIdeal_ProjGradXRefIdeal := by
  intro m ρ m' ρ' _ hagree
  refine ⟨fun c => grad (m ((c : Thread Cert.ProjGradXIdeal.nD Cert.ProjGradXIdeal.τ).loc Cert.ProjGradXIdeal.main_arg0))
      (m ((c : Thread Cert.ProjGradXIdeal.nD Cert.ProjGradXIdeal.τ).loc Cert.ProjGradXIdeal.main_arg1)), ?_, ?_⟩
  · exact (θ_run Cert.ProjGradXIdeal.defs _ _).mono (fun _ h c => ⟨(h c).1.trans (final m c), (h c).2⟩)
      (Cert.ProjGradXIdeal.Value.run_blocks (F := Ideal) m ρ)
  · refine (θ_run Cert.ProjGradXRefIdeal.defs _ _).mono (fun _ h c => ⟨(h c).1.trans ?_, (h c).2⟩)
      (Cert.ProjGradXRefIdeal.Value.run (F := Ideal) m' ρ')
    rw [(hagree c).1, (hagree c).2]
    exact (val_main_v6_eq _ _).trans (ref _ _)

end Cert.Proof.ProjX
-- ==== Proof.Prod.FfnInFwd.lean ====
/-
  The SwiGLU layer's input product and its activation. The weight lies in eight blocks of 1408 columns, four of the gate's and four of
  the other factor's; each point of the 4 by 16 grid takes one of each and writes one block of the gate, of the other factor and of
  `silu gate * up`.
-/
module

public import proofs.«01_k».proof.Defs
public import proofs.«01_k».proof.Proof.Gen.FfnIn.Frame
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Sigmoid
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.FfnInFwd

section Kernel

open Cert.FfnInIdeal Cert.FfnInIdeal.Gen

theorem pay1 (x0 : Vec Ideal S512x2048 .bf16) (x1 : Vec Ideal S1x2048x1408 .bf16) (y : S512x1408.Idx) :
    k0_pay1 x0 x1 y = ∑ k : Fin 2048, x0 (ix2 (y 0) k) * x1 (ix3 0 k (y 1)) := by
  pointwise [k0_pay1]

theorem pay2 (x0 : Vec Ideal S512x2048 .bf16) (x1 : Vec Ideal S1x2048x1408 .bf16) (y : S512x1408.Idx) :
    k0_pay2 x0 x1 y = ∑ k : Fin 2048, x0 (ix2 (y 0) k) * x1 (ix3 0 k (y 1)) := by
  pointwise [k0_pay2]

theorem pay3 (x0 : Vec Ideal S512x2048 .bf16) (x1 x2 : Vec Ideal S1x2048x1408 .bf16) (y : S512x1408.Idx) :
    k0_pay3 x0 x1 x2 y = k0_pay1 x0 x1 y * sg (k0_pay1 x0 x1 y) * k0_pay2 x0 x2 y := by
  rw [← sg_pos (k0_pay1 x0 x1 y)]
  unfold k0_pay3
  generalize k0_pay1 x0 x1 = g
  generalize k0_pay2 x0 x2 = u
  pointwise
  rfl

/-- Row `r`, column `j` of the product with the weight, whose columns lie in eight blocks. -/
def entry (x : FVec Ideal S8192x2048 .bf16) (w : FVec Ideal S8x2048x1408 .bf16) (r : Fin 8192) (j : Fin 11264) : EReal :=
  ∑ k : Fin 2048, x (ix2 r k) * w (ix3 (⟨j.val / 1408, Nat.div_lt_of_lt_mul j.isLt⟩ : Fin 8) k
    (⟨j.val % 1408, Nat.mod_lt _ (by decide)⟩ : Fin 1408))

/-- The left half of the product, -/
def gate (x : FVec Ideal S8192x2048 .bf16) (w : FVec Ideal S8x2048x1408 .bf16) : FVec Ideal S8192x5632 .f32 := fun i =>
  entry x w (i 0) ⟨(i 1).val, Nat.lt_of_lt_of_le (i 1).isLt (show 5632 ≤ 11264 by decide)⟩

/-- the right half, -/
def up (x : FVec Ideal S8192x2048 .bf16) (w : FVec Ideal S8x2048x1408 .bf16) : FVec Ideal S8192x5632 .f32 := fun i =>
  entry x w (i 0) ⟨5632 + (i 1).val, Nat.add_lt_add_left (i 1).isLt 5632⟩

/-- and the activation. -/
def act (x : FVec Ideal S8192x2048 .bf16) (w : FVec Ideal S8x2048x1408 .bf16) : FVec Ideal S8192x5632 .bf16 := fun i =>
  gate x w i * sg (gate x w i) * up x w i

variable (m : (ℓ : Loc nD τ sig) → Buf (Elt Ideal) ℓ)

theorem ix_0 : ∀ t : Fin cfg0.N, win0_0.index t = ![t.val % 16, 0] :=
  (by decide +kernel : ∀ t : Fin grid0.N, win0_0.index t = ![t.val % 16, 0])
theorem ix_1 : ∀ t : Fin cfg0.N, win0_1.index t = ![t.val / 16, 0, 0] :=
  (by decide +kernel : ∀ t : Fin grid0.N, win0_1.index t = ![t.val / 16, 0, 0])
theorem ix_2 : ∀ t : Fin cfg0.N, win0_2.index t = ![t.val / 16 + 4, 0, 0] :=
  (by decide +kernel : ∀ t : Fin grid0.N, win0_2.index t = ![t.val / 16 + 4, 0, 0])
theorem ix_3 : ∀ t : Fin cfg0.N, win0_3.index t = ![t.val % 16, t.val / 16] :=
  (by decide +kernel : ∀ t : Fin grid0.N, win0_3.index t = ![t.val % 16, t.val / 16])
theorem ix_4 : ∀ t : Fin cfg0.N, win0_4.index t = ![t.val % 16, t.val / 16] :=
  (by decide +kernel : ∀ t : Fin grid0.N, win0_4.index t = ![t.val % 16, t.val / 16])
theorem ix_5 : ∀ t : Fin cfg0.N, win0_5.index t = ![t.val % 16, t.val / 16] :=
  (by decide +kernel : ∀ t : Fin grid0.N, win0_5.index t = ![t.val % 16, t.val / 16])

/-- What point `t` computes of the gate, at an index of the whole array. -/
theorem gate_block (c : Dev nD) (t : Fin cfg0.N) (y : S512x1408.Idx) (i : S8192x5632.Idx)
    (h0 : (i 0).val = t.val % 16 * 512 + (y 0).val) (h1 : (i 1).val = t.val / 16 * 1408 + (y 1).val) :
    k0_pay1 (F := Ideal) (iblk m c 0 t) (iblk m c 1 t) y
      = gate (m ((c : Thread nD τ).loc main_arg0)) (m ((c : Thread nD τ).loc main_arg1)) i := by
  have hy : (y 1).val < 1408 := (y 1).isLt
  rw [pay1]
  unfold gate entry
  refine Finset.sum_congr rfl fun k _ => ?_
  blk_simp [iblk]
  congr 2
  · blk_ext [ix_0, h0]
  · blk_ext [ix_1, h1]
    all_goals omega

/-- What it computes of the other factor. -/
theorem up_block (c : Dev nD) (t : Fin cfg0.N) (y : S512x1408.Idx) (i : S8192x5632.Idx)
    (h0 : (i 0).val = t.val % 16 * 512 + (y 0).val) (h1 : (i 1).val = t.val / 16 * 1408 + (y 1).val) :
    k0_pay2 (F := Ideal) (iblk m c 0 t) (iblk m c 2 t) y
      = up (m ((c : Thread nD τ).loc main_arg0)) (m ((c : Thread nD τ).loc main_arg1)) i := by
  have hy : (y 1).val < 1408 := (y 1).isLt
  rw [pay2]
  unfold up entry
  refine Finset.sum_congr rfl fun k _ => ?_
  blk_simp [iblk]
  congr 2
  · blk_ext [ix_0, h0]
  · blk_ext [ix_2, h1]
    all_goals omega

/-- The gate, the whole array after the run. -/
theorem final3 (c : Dev nD) : (dats m 0 c).arrAt 3 cfg0.N
    = gate (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  frame_out
  exact gate_block m c t y _ (by blk_simp [ix_3]) (by blk_simp [ix_3])

/-- The other factor. -/
theorem final4 (c : Dev nD) : (dats m 0 c).arrAt 4 cfg0.N
    = up (m ((c : Thread nD τ).loc main_arg0)) (m ((c : Thread nD τ).loc main_arg1)) := by
  refine (dats m 0 c).arrAt_eq_of_covers 4 _ (by decide +kernel) fun t hf y => ?_
  blk_simp
  rw [after0_4]
  unfold out0_4
  frame_out
  exact up_block m c t y _ (by blk_simp [ix_4]) (by blk_simp [ix_4])

/-- The activation. -/
theorem final5 (c : Dev nD) : (dats m 0 c).arrAt 5 cfg0.N
    = act (m ((c : Thread nD τ).loc main_arg0)) (m ((c : Thread nD τ).loc main_arg1)) := by
  refine (dats m 0 c).arrAt_eq_of_covers 5 _ (by decide +kernel) fun t hf y => ?_
  blk_simp
  rw [after0_5]
  unfold out0_5
  frame_out
  rw [pay3]
  unfold act
  refine congrArg₂ (· * ·) (congrArg (fun g : EReal => g * sg g) ?_) ?_
  · exact gate_block m c t y _ (by blk_simp [ix_5]) (by blk_simp [ix_5])
  · exact up_block m c t y _ (by blk_simp [ix_5]) (by blk_simp [ix_5])

end Kernel

section Reference

open Cert.FfnInRefIdeal Cert.FfnInRefIdeal.Read

variable (x0 : FVec Ideal S8192x2048 .bf16) (x1 : FVec Ideal S8x2048x1408 .bf16)

theorem ref_entry (i : S8192x11264.Idx) : val_main_v4 (F := Ideal) x0 x1 i = entry x0 x1 (i 0) (i 1) := by
  refine (val_main_v4_apply _ _ _).trans (Finset.sum_congr rfl fun k _ => ?_)
  rw [val_main_v0_apply, val_main_v3_apply, val_main_v2_apply, val_main_v1_apply]
  show x0 _ * x1 _ = _
  have hk := k.isLt
  have hi : (i 1).val < 11264 := (i 1).isLt
  congr 2
  · funext a; fin_cases a <;> rfl
  · funext a; fin_cases a
    · exact Fin.ext (show (k.val * 11264 + (i 1).val) / 1408 % 8 = (i 1).val / 1408 by omega)
    · exact Fin.ext (show (k.val * 11264 + (i 1).val) / 11264 = k.val by omega)
    · exact Fin.ext (show (k.val * 11264 + (i 1).val) % 1408 = (i 1).val % 1408 by omega)

theorem ref_gate : val_main_v5 (F := Ideal) x0 x1 = gate x0 x1 := by
  funext i
  rw [val_main_v5_apply, ref_entry]
  rfl

theorem ref_up : val_main_v6 (F := Ideal) x0 x1 = up x0 x1 := by
  funext i
  rw [val_main_v6_apply, ref_entry]
  rfl

theorem ref_sg (i : S8192x5632.Idx) : val_main_call0_v5 (F := Ideal) x0 x1 i = sg (gate x0 x1 i) := by
  rw [← ref_gate]
  pointwise [val_main_call0_v5, val_main_call0_v4, val_main_call0_v3, val_main_call0_v2, val_main_call0_v1, val_main_call0_v0,
    val_main_call0_cst, val_main_call0_cst_0]
  rfl

theorem ref_act : val_main_v9 (F := Ideal) x0 x1 = act x0 x1 := by
  funext i
  rw [val_main_v9_apply, val_main_v8_apply, val_main_v7_apply, ref_sg, ref_gate, ref_up]
  rfl

end Reference

theorem frame_kernel : Cert.quiescent_FfnIn := fun m ρ _ => Cert.FfnIn.Gen.frame m ρ
theorem frame_ideal : Cert.quiescent_FfnInIdeal := fun m ρ _ => Cert.FfnInIdeal.Gen.frame m ρ
theorem frame_ref : Cert.quiescent_FfnInRefIdeal := fun m ρ _ =>
  (θ_run Cert.FfnInRefIdeal.defs _ _).mono (fun r h => ⟨fun c => (h c).2.2.2, Idealize.ShloMosaic.sem_eq_zero_of_no_sems (by decide) r.2⟩)
    (Cert.FfnInRefIdeal.Value.run (F := Ideal) m ρ)

open Cert.FfnInRefIdeal.Read in
theorem algebraic : Cert.algebraic_FfnInIdeal_FfnInRefIdeal := by
  intro m ρ m' ρ' _ hagree
  refine ⟨fun c => gate (m ((c : Thread Cert.FfnInIdeal.nD Cert.FfnInIdeal.τ).loc Cert.FfnInIdeal.main_arg0))
      (m ((c : Thread Cert.FfnInIdeal.nD Cert.FfnInIdeal.τ).loc Cert.FfnInIdeal.main_arg1)),
    fun c => up (m ((c : Thread Cert.FfnInIdeal.nD Cert.FfnInIdeal.τ).loc Cert.FfnInIdeal.main_arg0))
      (m ((c : Thread Cert.FfnInIdeal.nD Cert.FfnInIdeal.τ).loc Cert.FfnInIdeal.main_arg1)),
    fun c => act (m ((c : Thread Cert.FfnInIdeal.nD Cert.FfnInIdeal.τ).loc Cert.FfnInIdeal.main_arg0))
      (m ((c : Thread Cert.FfnInIdeal.nD Cert.FfnInIdeal.τ).loc Cert.FfnInIdeal.main_arg1)), ?_, ?_⟩
  · exact (θ_run Cert.FfnInIdeal.defs _ _).mono
      (fun _ h c => ⟨(h c).1.trans (final3 m c), (h c).2.1.trans (final4 m c), (h c).2.2.1.trans (final5 m c), (h c).2.2.2⟩)
      (Cert.FfnInIdeal.Value.run_blocks (F := Ideal) m ρ)
  · refine (θ_run Cert.FfnInRefIdeal.defs _ _).mono
      (fun _ h c => ⟨(h c).1.trans ?_, (h c).2.1.trans ?_, (h c).2.2.1.trans ?_, (h c).2.2.2⟩)
      (Cert.FfnInRefIdeal.Value.run (F := Ideal) m' ρ')
    · rw [(hagree c).1, (hagree c).2]
      exact (val_main_v5_eq _ _).trans (ref_gate _ _)
    · rw [(hagree c).1, (hagree c).2]
      exact (val_main_v6_eq _ _).trans (ref_up _ _)
    · rw [(hagree c).1, (hagree c).2]
      exact (val_main_v9_eq _ _).trans (ref_act _ _)

end Cert.Proof.FfnInFwd
-- ==== Proof.Prod.ProjFwd.lean ====
/-
  The mixing layer's projection, of a weight laid out as eight blocks of 896 columns. Each point of the 8 by 8 grid writes one block of
  the result, whole.
-/
module

public import proofs.«01_k».proof.Defs
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.ProjFwd

section Kernel

open Cert.ProjIdeal Cert.ProjIdeal.Gen

theorem pay1 (x0 : Vec Ideal S1024x2048 .bf16) (x1 : Vec Ideal S1x2048x896 .bf16) (y : S1024x896.Idx) :
    k0_pay1 x0 x1 y = ∑ k : Fin 2048, x0 (ix2 (y 0) k) * x1 (ix3 0 k (y 1)) := by
  pointwise [k0_pay1]

/-- The product of the left factor with the right one, whose columns lie in eight blocks. -/
def prod (x : FVec Ideal S8192x2048 .bf16) (w : FVec Ideal S8x2048x896 .bf16) : FVec Ideal S8192x7168 .f32 := fun i =>
  ∑ k : Fin 2048, x (ix2 (i 0) k) * w (ix3 (⟨(i 1).val / 896, Nat.div_lt_of_lt_mul (i 1).isLt⟩ : Fin 8) k
    (⟨(i 1).val % 896, Nat.mod_lt _ (by decide)⟩ : Fin 896))

variable (m : (ℓ : Loc nD τ sig) → Buf (Elt Ideal) ℓ)

theorem ix_0 : ∀ t : Fin cfg0.N, win0_0.index t = ![t.val % 8, 0] :=
  (by decide +kernel : ∀ t : Fin grid0.N, win0_0.index t = ![t.val % 8, 0])
theorem ix_1 : ∀ t : Fin cfg0.N, win0_1.index t = ![t.val / 8, 0, 0] :=
  (by decide +kernel : ∀ t : Fin grid0.N, win0_1.index t = ![t.val / 8, 0, 0])
theorem ix_2 : ∀ t : Fin cfg0.N, win0_2.index t = ![t.val % 8, t.val / 8] :=
  (by decide +kernel : ∀ t : Fin grid0.N, win0_2.index t = ![t.val % 8, t.val / 8])

/-- The product, the whole array after the run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  rw [pay1]
  unfold prod
  show (∑ k : Fin 2048, (_ : EReal)) = ∑ k : Fin 2048, (_ : EReal)
  refine Finset.sum_congr rfl fun k _ => ?_
  blk_simp [iblk]
  congr 2
  · blk_ext [ix_0, ix_2]
  · blk_ext [ix_1, ix_2]
    all_goals blk_simp [ix_2]
    all_goals omega

end Kernel

section Reference

open Cert.ProjRefIdeal Cert.ProjRefIdeal.Read

theorem ref (x0 : FVec Ideal S8192x2048 .bf16) (x1 : FVec Ideal S8x2048x896 .bf16) : val_main_v4 (F := Ideal) x0 x1 = prod x0 x1 := by
  funext i
  refine (val_main_v4_apply _ _ _).trans (Finset.sum_congr rfl fun k _ => ?_)
  rw [val_main_v0_apply, val_main_v3_apply, val_main_v2_apply, val_main_v1_apply]
  show x0 _ * x1 _ = _
  congr 2
  · funext a; fin_cases a <;> rfl
  · have hk := k.isLt
    have hi : (i 1).val < 7168 := (i 1).isLt
    funext a; fin_cases a
    · exact Fin.ext (show (k.val * 7168 + (i 1).val) / 896 % 8 = (i 1).val / 896 by omega)
    · exact Fin.ext (show (k.val * 7168 + (i 1).val) / 7168 = k.val by omega)
    · exact Fin.ext (show (k.val * 7168 + (i 1).val) % 896 = (i 1).val % 896 by omega)

end Reference

theorem frame_kernel : Cert.quiescent_Proj := fun m ρ _ => Cert.Proj.Gen.frame m ρ
theorem frame_ideal : Cert.quiescent_ProjIdeal := fun m ρ _ => Cert.ProjIdeal.Gen.frame m ρ
theorem frame_ref : Cert.quiescent_ProjRefIdeal := fun m ρ _ =>
  (θ_run Cert.ProjRefIdeal.defs _ _).mono (fun r h => ⟨fun c => (h c).2, Idealize.ShloMosaic.sem_eq_zero_of_no_sems (by decide) r.2⟩)
    (Cert.ProjRefIdeal.Value.run (F := Ideal) m ρ)

open Cert.ProjRefIdeal.Read in
theorem algebraic : Cert.algebraic_ProjIdeal_ProjRefIdeal := by
  intro m ρ m' ρ' _ hagree
  refine ⟨fun c => prod (m ((c : Thread Cert.ProjIdeal.nD Cert.ProjIdeal.τ).loc Cert.ProjIdeal.main_arg0))
      (m ((c : Thread Cert.ProjIdeal.nD Cert.ProjIdeal.τ).loc Cert.ProjIdeal.main_arg1)), ?_, ?_⟩
  · exact (θ_run Cert.ProjIdeal.defs _ _).mono (fun _ h c => ⟨(h c).1.trans (final m c), (h c).2⟩)
      (Cert.ProjIdeal.Value.run_blocks (F := Ideal) m ρ)
  · refine (θ_run Cert.ProjRefIdeal.defs _ _).mono (fun _ h c => ⟨(h c).1.trans ?_, (h c).2⟩)
      (Cert.ProjRefIdeal.Value.run (F := Ideal) m' ρ')
    rw [(hagree c).1, (hagree c).2]
    exact (val_main_v4_eq _ _).trans (ref _ _)

end Cert.Proof.ProjFwd
-- ==== Proof.Step.Adam.lean ====
/-
  The optimiser's step of one number: what it makes of the two moments, and the change of the weight. The sum of eight devices' parts,
  taken one after the other, is their sum.
-/
module

public import Idealize.ShloMosaic.Lib.KernelVsHost
public import Idealize.ShloMosaic.Lib.Pointwise

@[expose] public section

noncomputable section

open Idealize.ShloMosaic

namespace Cert.Proof.Step

/-- The value of a 32-bit float word. -/
abbrev word (b : BitVec 32) : Ideal .f32 := FloatOps.ofBits .f32 b

/-- The first moment after a step with gradient `g`. -/
def first (m g : Ideal .f32) : Ideal .f32 :=
  FloatOps.addf (FloatOps.mulf (word 0x3F666666#32) m) (FloatOps.mulf (word 0x3DCCCCCD#32) g)

/-- The second moment. -/
def second (v g : Ideal .f32) : Ideal .f32 :=
  FloatOps.addf (FloatOps.mulf (word 0x3F7FBE77#32) v) (FloatOps.mulf (word 0x3A83126F#32) (FloatOps.mulf g g))

/-- The change of the weight `w`, from the moments after the step. -/
def change (w m v : Ideal .f32) : Ideal .f32 :=
  FloatOps.mulf (word 0xBA83126F#32) (FloatOps.addf
    (FloatOps.divf (FloatOps.divf m (word 0x3F26BD02#32))
      (FloatOps.addf (FloatOps.sqrt (FloatOps.divf v (word 0x3C231ACC#32))) (word 0x322BCC77#32)))
    (FloatOps.mulf (word 0x3C23D70A#32) w))

theorem word_zero : word 0x00000000#32 = (0 : EReal) := Ideal.ofBits_zero _

/-- The host's sum of eight parts, from zero on. -/
theorem sum_eight (f : Fin 8 → EReal) :
    f 0 + f 1 + f 2 + f 3 + f 4 + f 5 + f 6 + f 7 = word 0x00000000#32 + ∑ k : Fin 8, f k := by
  rw [word_zero, zero_add, Fin.sum_univ_eight]

/-- A sum over 128 terms of which all but the first eight are zero. -/
theorem sum_padded (f : Fin 128 → EReal) (hf : ∀ k : Fin 128, 8 ≤ k.val → f k = 0) :
    ∑ k : Fin 128, f k = ∑ k : Fin 8, f ⟨k.val, Nat.lt_of_lt_of_le k.isLt (by decide)⟩ := by
  rw [show (∑ k : Fin 128, f k) = ∑ k : Fin (8 + 120), f k from rfl, Fin.sum_univ_add,
    Finset.sum_eq_zero (s := Finset.univ) (f := fun k : Fin 120 => f (Fin.natAdd 8 k)) fun k _ => hf _ (by simp [Fin.natAdd]), add_zero]
  rfl

section Host

variable {s : Shape} (hb : (⟨0, ![]⟩ : Shape).BroadcastsInDim s ![])

/-- A constant spread over an array. -/
abbrev spread (b : BitVec 32) : FVec Ideal s .f32 := broadcastInDim s ![] hb (constant (F := Ideal) ⟨0, ![]⟩ .f32 b)

theorem spread_apply (b : BitVec 32) (i : s.Idx) : spread hb b i = word b :=
  broadcastInDim_apply _ hb (constant (F := Ideal) ⟨0, ![]⟩ .f32 b) i (fun a => a.elim0) (fun a => a.elim0)

/-- The reference's first moment, for any gradient. -/
theorem host_first {x m g g' : FVec Ideal s .f32} (hx : x = m) (hg : g' = g) :
    addf (mulf (spread hb 0x3F666666#32) x) (mulf (spread hb 0x3DCCCCCD#32) g') = fun i => first (m i) (g i) := by
  subst hx hg
  funext i
  show FloatOps.addf (FloatOps.mulf (spread hb _ i) (x i)) (FloatOps.mulf (spread hb _ i) (g' i)) = _
  rw [spread_apply, spread_apply, first]

/-- Its second moment. -/
theorem host_second {x v g g' : FVec Ideal s .f32} (hx : x = v) (hg : g' = g) :
    addf (mulf (spread hb 0x3F7FBE77#32) x) (mulf (spread hb 0x3A83126F#32) (mulf g' g')) = fun i => second (v i) (g i) := by
  subst hx hg
  funext i
  show FloatOps.addf (FloatOps.mulf (spread hb _ i) (x i)) (FloatOps.mulf (spread hb _ i) (FloatOps.mulf (g' i) (g' i))) = _
  rw [spread_apply, spread_apply, second]

/-- Its change of the weight. -/
theorem host_change {x w m v m' v' : FVec Ideal s .f32} (hx : x = w) (hm : m' = m) (hv : v' = v) :
    mulf (spread hb 0xBA83126F#32) (addf (Host.divf (Host.divf m' (spread hb 0x3F26BD02#32))
      (addf (Host.sqrt (Host.divf v' (spread hb 0x3C231ACC#32))) (spread hb 0x322BCC77#32))) (mulf (spread hb 0x3C23D70A#32) x))
      = fun i => change (w i) (m i) (v i) := by
  subst hx hm hv
  funext i
  show FloatOps.mulf (spread hb _ i) (FloatOps.addf (FloatOps.hostDivf (FloatOps.hostDivf (m' i) (spread hb _ i))
    (FloatOps.addf (FloatOps.hostUnary .sqrt (FloatOps.hostDivf (v' i) (spread hb _ i))) (spread hb _ i)))
    (FloatOps.mulf (spread hb _ i) (x i))) = _
  simp only [spread_apply]
  rfl

end Host

end Cert.Proof.Step

end
-- ==== Proof.Step.Rows.lean ====
/-
  The optimiser's step of an array of four rows, as the call makes it: the rows padded to eight, read at one of the four, what is stored
  there, and the cut back to four.
-/
module

public import proofs.«01_k».proof.Proof.Step.Adam
public import Idealize.ShloMosaic.Lib.KernelVsHost
public import Idealize.ShloMosaic.Lib.Pointwise

@[expose] public section

noncomputable section

open Idealize.ShloMosaic

namespace Cert.Proof.Step

variable {C : ℕ} {z : Shape} (v : z.Idx → EReal) (hz : 0 < z.numel)

/-- Row `r` of the eight is row `r` of the four. -/
theorem rows_apply (x : (⟨2, ![4, C]⟩ : Shape).Idx → EReal) (hb : (⟨2, ![4, C]⟩ : Shape).BroadcastsInDim ⟨3, ![1, 4, C]⟩ ![1, 2])
    (hp : (⟨3, ![1, 4, C]⟩ : Shape).Pads ![0, 0, 0] ![0, 4, 0] ![0, 0, 0] ⟨3, ![1, 8, C]⟩)
    (hs : (⟨3, ![1, 8, C]⟩ : Shape).ShapeCasts ⟨2, ![8, C]⟩) (r : Fin 4) (j : Fin C) :
    shapeCast ⟨2, ![8, C]⟩ (pad ⟨3, ![1, 8, C]⟩ ![0, 0, 0] ![0, 4, 0] ![0, 0, 0] (broadcastInDim ⟨3, ![1, 4, C]⟩ ![1, 2] hb x) v hp hz) hs
      (ix2 (⟨r.val, Nat.lt_of_lt_of_le r.isLt (by decide)⟩ : Fin 8) j) = x (ix2 r j) := by
  refine (shapeCast_apply _ _ _ (ix3 (0 : Fin 1) (⟨r.val, Nat.lt_of_lt_of_le r.isLt (by decide)⟩ : Fin 8) j) ?_).trans ?_
  · rw [Shape.rowMajor_val_two, Shape.rowMajor_val_three]
    show (0 * 8 + r.val) * C + j.val = r.val * C + j.val
    rw [Nat.zero_mul, Nat.zero_add]
  rw [pad_apply_of_inside _ _ _ _ v hp hz _ (ix3 (0 : Fin 1) r j) fun a => ?_]
  · refine broadcastInDim_apply _ hb x _ (ix2 r j) fun a => ?_
    match a with
    | ⟨0, _⟩ => rfl
    | ⟨1, _⟩ =>
      show j.val = if C = 1 then 0 else j.val
      have := j.isLt
      split <;> omega
  · match a with
    | ⟨0, _⟩ => rfl
    | ⟨1, _⟩ => exact (show r.val = 0 + r.val * (0 + 1) by omega)
    | ⟨2, _⟩ => exact (show j.val = 0 + j.val * (0 + 1) by omega)

/-- The same of eight arrays of four rows. -/
theorem parts_apply (x : (⟨3, ![8, 4, C]⟩ : Shape).Idx → EReal)
    (hp : (⟨3, ![8, 4, C]⟩ : Shape).Pads ![0, 0, 0] ![0, 4, 0] ![0, 0, 0] ⟨3, ![8, 8, C]⟩) (k : Fin 8) (r : Fin 4) (j : Fin C) :
    pad ⟨3, ![8, 8, C]⟩ ![0, 0, 0] ![0, 4, 0] ![0, 0, 0] x v hp hz
      (ix3 k (⟨r.val, Nat.lt_of_lt_of_le r.isLt (by decide)⟩ : Fin 8) j) = x (ix3 k r j) := by
  refine pad_apply_of_inside _ _ _ _ v hp hz _ (ix3 k r j) fun a => ?_
  match a with
  | ⟨0, _⟩ => exact (show k.val = 0 + k.val * (0 + 1) by omega)
  | ⟨1, _⟩ => exact (show r.val = 0 + r.val * (0 + 1) by omega)
  | ⟨2, _⟩ => exact (show j.val = 0 + j.val * (0 + 1) by omega)

variable (C) in
/-- Four rows, eight, and eight arrays of each. -/
abbrev Four : Shape := ⟨2, ![4, C]⟩
variable (C) in
abbrev Eight : Shape := ⟨2, ![8, C]⟩
variable (C) in
abbrev Parts4 : Shape := ⟨3, ![8, 4, C]⟩
variable (C) in
abbrev Parts8 : Shape := ⟨3, ![8, 8, C]⟩

/-- A row of the four as a row of the eight. -/
abbrev at8 (i : (Four C).Idx) : (Eight C).Idx := ix2 (⟨(i 0).val, Nat.lt_of_lt_of_le (i 0).isLt (by show 4 ≤ 8; decide)⟩ : Fin 8) (i 1)

theorem padded (x : FVec Ideal (Four C) .f32) (hb) (hp) (hs) (i : (Four C).Idx) :
    shapeCast (Eight C) (pad ⟨3, ![1, 8, C]⟩ ![0, 0, 0] ![0, 4, 0] ![0, 0, 0] (broadcastInDim ⟨3, ![1, 4, C]⟩ ![1, 2] hb x) v hp hz) hs (at8 i)
      = x i :=
  (rows_apply v hz x hb hp hs (i 0) (i 1)).trans (congrArg x (ix2_eta i))

/-! The step: the gradient is the sum of the devices' parts. -/

def grad (p : FVec Ideal (Parts4 C) .f32) : FVec Ideal (Four C) .f32 := fun i => word 0x00000000#32 + ∑ k : Fin 8, p (ix3 k (i 0) (i 1))
abbrev moment (m : FVec Ideal (Four C) .f32) (p : FVec Ideal (Parts4 C) .f32) : FVec Ideal (Four C) .f32 := fun i => first (m i) (grad p i)
abbrev square (v : FVec Ideal (Four C) .f32) (p : FVec Ideal (Parts4 C) .f32) : FVec Ideal (Four C) .f32 := fun i => second (v i) (grad p i)
abbrev delta (w m v : FVec Ideal (Four C) .f32) (p : FVec Ideal (Parts4 C) .f32) : FVec Ideal (Four C) .f32 :=
  fun i => change (w i) (moment m p i) (square v p i)

/-- What the call stores, of the padded rows, is at the four rows the step. -/
theorem step_rows {w m v : FVec Ideal (Four C) .f32} {p : FVec Ideal (Parts4 C) .f32} {x0 x1 x2 : FVec Ideal (Eight C) .f32}
    {x3 : FVec Ideal (Parts8 C) .f32} {o4 o5 o6 o7 : FVec Ideal (Eight C) .f32} (h0 : ∀ i, x0 (at8 i) = w i) (h1 : ∀ i, x1 (at8 i) = m i)
    (h2 : ∀ i, x2 (at8 i) = v i) (h3 : ∀ k (i : (Four C).Idx), x3 (ix3 k (at8 i 0) (at8 i 1)) = p (ix3 k (i 0) (i 1)))
    (e4 : ∀ y, o4 y = word 0x00000000#32 + ∑ k : Fin 8, x3 (ix3 k (y 0) (y 1))) (e5 : ∀ y, o5 y = change (x0 y) (o6 y) (o7 y))
    (e6 : ∀ y, o6 y = first (x1 y) (o4 y)) (e7 : ∀ y, o7 y = second (x2 y) (o4 y)) :
    (∀ i, o4 (at8 i) = grad p i) ∧ (∀ i, o5 (at8 i) = delta w m v p i) ∧ (∀ i, o6 (at8 i) = moment m p i)
      ∧ ∀ i, o7 (at8 i) = square v p i := by
  have g : ∀ i, o4 (at8 i) = grad p i := fun i => (e4 _).trans (congrArg (_ + ·) (Finset.sum_congr rfl fun k _ => h3 k i))
  have a : ∀ i, o6 (at8 i) = moment m p i := fun i => by rw [e6, g, h1]
  have b : ∀ i, o7 (at8 i) = square v p i := fun i => by rw [e7, g, h2]
  exact ⟨g, fun i => by rw [e5, a, b, h0], a, b⟩

/-- A result after the cut, from the array before it. -/
theorem sliced {A B : FVec Ideal (Eight C) .f32} (hs) (h : B = A) {G : FVec Ideal (Four C) .f32} (hG : ∀ i, A (at8 i) = G i) :
    extractStridedSlice (Four C) ![0, 0] B hs = G := by
  subst h
  exact funext fun i => (extractStridedSlice_apply _ B hs i (at8 i) fun a => match a with
    | ⟨0, _⟩ => (show (i 0).val = 0 + (i 0).val by omega)
    | ⟨1, _⟩ => (show (i 1).val = 0 + (i 1).val by omega)).trans (hG i)

end Cert.Proof.Step

end
-- ==== Proof.Step.Norm.lean ====
/-
  The optimiser's step of the layers' norm weights. The call takes the four layers' rows padded with zeros to eight; its grid has one
  point; the padding's rows are cut off afterwards.
-/
module

public import proofs.«01_k».proof.Defs
public import proofs.«01_k».proof.Proof.Gen.NormStep.Frame
public import proofs.«01_k».proof.Proof.Gen.NormStepIdeal.Frame
public import proofs.«01_k».proof.Proof.Gen.NormStepRefIdeal.Run
public import proofs.«01_k».proof.Proof.Gen.NormStepRefIdeal.Read
public import proofs.«01_k».proof.Proof.Step.Rows
public import Idealize.ShloMosaic.Lib.Pointwise
public import Idealize.ShloMosaic.Lib.Claim
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.NormStep

open Cert.Proof.Step

section Kernel

open Cert.NormStepIdeal Cert.NormStepIdeal.Gen

/-- Reading a whole block is the block. -/
theorem whole (x : Vec Ideal S8x2048 .f32) : shapeCast S8x2048 (View.ld x r0_8) shapeCasts_S8x2048_S8x2048 = x := by
  rw [View.ld_unit_zero (S := S8x2048) (funext fun a => by fin_cases a <;> rfl)]
  exact shapeCast_self _ _

section Payload

variable (x0 x1 x2 : Vec Ideal S8x2048 .f32) (x3 : Vec Ideal S8x8x2048 .f32)

/-- The parts added up, -/
theorem out4 (y : S8x2048.Idx) : out0_4 x0 x1 x2 x3 y = word 0x00000000#32 + ∑ k : Fin 8, x3 (ix3 k (y 0) (y 1)) := by
  rw [← sum_eight]
  unfold_out out0_4
  frame_out
  pointwise [k0_pay4]

/-- the first moment, -/
theorem out6 (y : S8x2048.Idx) : out0_6 x0 x1 x2 x3 y = first (x1 y) (out0_4 x0 x1 x2 x3 y) := by
  unfold out0_6 out0_4
  frame_out
  rw [show k0_pay9 x0 x1 x2 x3 = x1 from whole x1]
  rfl

/-- the second moment, -/
theorem out7 (y : S8x2048.Idx) : out0_7 x0 x1 x2 x3 y = second (x2 y) (out0_4 x0 x1 x2 x3 y) := by
  unfold out0_7 out0_4
  frame_out
  rw [show k0_pay10 x0 x1 x2 x3 = x2 from whole x2]
  rfl

/-- and the change of the weight. -/
theorem out5 (y : S8x2048.Idx) : out0_5 x0 x1 x2 x3 y = change (x0 y) (out0_6 x0 x1 x2 x3 y) (out0_7 x0 x1 x2 x3 y) := by
  unfold out0_5 out0_6 out0_7
  frame_out
  rw [show k0_pay5 x0 = x0 from shapeCast_self _ _]
  rfl

end Payload

variable (m : (ℓ : Loc nD τ sig) → Buf (Elt Ideal) ℓ)

/-- Every window is at its one block. -/
theorem ix : ∀ t : Fin cfg0.N, win0_0.index t = ![0, 0] ∧ win0_1.index t = ![0, 0] ∧ win0_2.index t = ![0, 0] ∧ win0_3.index t = ![0, 0, 0]
      ∧ win0_4.index t = ![0, 0] ∧ win0_5.index t = ![0, 0] ∧ win0_6.index t = ![0, 0] ∧ win0_7.index t = ![0, 0] :=
  (by decide +kernel : ∀ t : Fin grid0.N, win0_0.index t = ![0, 0] ∧ win0_1.index t = ![0, 0] ∧ win0_2.index t = ![0, 0] ∧ win0_3.index t = ![0, 0, 0]
      ∧ win0_4.index t = ![0, 0] ∧ win0_5.index t = ![0, 0] ∧ win0_6.index t = ![0, 0] ∧ win0_7.index t = ![0, 0])

variable (c : Dev nD)

theorem blocks (t : Fin cfg0.N) : iblk m c 0 t = V m c main_v2 ∧ iblk m c 1 t = V m c main_v5 ∧ iblk m c 2 t = V m c main_v8
    ∧ iblk m c 3 t = V m c main_v9 := by
  obtain ⟨i0, i1, i2, i3, -⟩ := ix t
  refine ⟨?_, ?_, ?_, ?_⟩
  all_goals
    funext y
    blk_simp [iblk]
    congr 1
    blk_ext [i0, i1, i2, i3]

/-- The grid's one point leaves the results whole. -/
theorem finals : (dats m 0 c).arrAt 4 cfg0.N = out0_4 (V m c main_v2) (V m c main_v5) (V m c main_v8) (V m c main_v9)
    ∧ (dats m 0 c).arrAt 5 cfg0.N = out0_5 (V m c main_v2) (V m c main_v5) (V m c main_v8) (V m c main_v9)
    ∧ (dats m 0 c).arrAt 6 cfg0.N = out0_6 (V m c main_v2) (V m c main_v5) (V m c main_v8) (V m c main_v9)
    ∧ (dats m 0 c).arrAt 7 cfg0.N = out0_7 (V m c main_v2) (V m c main_v5) (V m c main_v8) (V m c main_v9) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    first | rw [after0_4] | rw [after0_5] | rw [after0_6] | rw [after0_7]
    obtain ⟨b0, b1, b2, b3⟩ := blocks m c t
    obtain ⟨-, -, -, -, i4, i5, i6, i7⟩ := ix t
    rw [b0, b1, b2, b3]
    congr 1
    blk_ext [i4, i5, i6, i7]

/-- The arrays the call takes, at the four rows. -/
theorem entries : (∀ i, V m c main_v2 (at8 i) = m ((c : Thread nD τ).loc main_arg0) i)
    ∧ (∀ i, V m c main_v5 (at8 i) = m ((c : Thread nD τ).loc main_arg1) i)
    ∧ (∀ i, V m c main_v8 (at8 i) = m ((c : Thread nD τ).loc main_arg2) i)
    ∧ ∀ k (i : S4x2048.Idx), V m c main_v9 (ix3 k (at8 i 0) (at8 i 1)) = m ((c : Thread nD τ).loc main_arg3) (ix3 k (i 0) (i 1)) := by
  unfold V V0
  simp only [hostOps0, hostOps0_1, hostOps0_2, hostOps0_3, hostOps0_4, hostOps0_5, hostOps0_6, hostOps0_7, List.flatten_cons,
    List.flatten_nil, List.append_nil, List.cons_append, List.nil_append]
  after_results_simp
  have e := fun x v => padded (C := 2048) v h_S_ x bcast_S4x2048_S1x4x2048_1_2 pads_S1x4x2048_S1x8x2048_000_040_000 shapeCasts_S1x8x2048_S8x2048
  exact ⟨e _ _, e _ _, e _ _, fun k i => parts_apply (C := 2048) _ h_S_ _ pads_S8x4x2048_S8x8x2048_000_040_000 k (i 0) (i 1)⟩

theorem arrays_inj : Function.Injective (Pipeline.arrRef spec0) := by decide

/-! The results: the rows cut out of the four arrays. -/

abbrev G : FVec Ideal S4x2048 .f32 := grad (m ((c : Thread nD τ).loc main_arg3))
abbrev M : FVec Ideal S4x2048 .f32 := moment (m ((c : Thread nD τ).loc main_arg1)) (m ((c : Thread nD τ).loc main_arg3))
abbrev S : FVec Ideal S4x2048 .f32 := square (m ((c : Thread nD τ).loc main_arg2)) (m ((c : Thread nD τ).loc main_arg3))
abbrev D : FVec Ideal S4x2048 .f32 := delta (m ((c : Thread nD τ).loc main_arg0)) (m ((c : Thread nD τ).loc main_arg1))
  (m ((c : Thread nD τ).loc main_arg2)) (m ((c : Thread nD τ).loc main_arg3))

theorem results : Pipeline.afterTail₀ cfgs (dats m) 0 (V0 m) [hostOps1] c main_v11 = G m c
    ∧ Pipeline.afterTail₀ cfgs (dats m) 0 (V0 m) [hostOps1] c main_v12 = D m c
    ∧ Pipeline.afterTail₀ cfgs (dats m) 0 (V0 m) [hostOps1] c main_v13 = M m c
    ∧ Pipeline.afterTail₀ cfgs (dats m) 0 (V0 m) [hostOps1] c main_v14 = S m c := by
  obtain ⟨h0, h1, h2, h3⟩ := entries m c
  obtain ⟨f4, f5, f6, f7⟩ := finals m c
  obtain ⟨r4, r5, r6, r7⟩ := step_rows h0 h1 h2 h3 (out4 _ _ _ _) (out5 _ _ _ _) (out6 _ _ _ _) (out7 _ _ _ _)
  unfold Pipeline.afterTail₀
  simp only [hostOps1, List.flatten_cons, List.flatten_nil, List.append_nil, List.cons_append, List.nil_append]
  after_results_simp
  exact ⟨sliced _ ((Pipeline.withArrays_arr spec0 arrays_inj c (V0 m c) _ 4).trans f4) r4,
    sliced _ ((Pipeline.withArrays_arr spec0 arrays_inj c (V0 m c) _ 5).trans f5) r5,
    sliced _ ((Pipeline.withArrays_arr spec0 arrays_inj c (V0 m c) _ 6).trans f6) r6,
    sliced _ ((Pipeline.withArrays_arr spec0 arrays_inj c (V0 m c) _ 7).trans f7) r7⟩

end Kernel

/-- The reference's gradient. -/
theorem ref_grad (p : FVec Ideal Cert.NormStepRefIdeal.S8x4x2048 .f32) : Cert.NormStepRefIdeal.Read.val_main_v0 (F := Ideal) p = grad p := by
  funext i
  rw [Cert.NormStepRefIdeal.Read.val_main_v0_apply]
  refine congrArg (_ + ·) (Finset.sum_congr rfl fun k _ => congrArg p ?_)
  funext a; fin_cases a <;> rfl

theorem frame_kernel : Cert.quiescent_NormStep := fun m ρ _ => Cert.NormStep.Gen.frame m ρ
theorem frame_ideal : Cert.quiescent_NormStepIdeal := fun m ρ _ => Cert.NormStepIdeal.Gen.frame m ρ
theorem frame_ref : Cert.quiescent_NormStepRefIdeal := fun m ρ _ =>
  (θ_run Cert.NormStepRefIdeal.defs _ _).mono (fun r h => ⟨fun c => (h c).2.2.2.2, Idealize.ShloMosaic.sem_eq_zero_of_no_sems (by decide) r.2⟩)
    (Cert.NormStepRefIdeal.Value.run (F := Ideal) m ρ)

open Cert.NormStepIdeal Cert.NormStepIdeal.Gen in
theorem algebraic : Cert.algebraic_NormStepIdeal_NormStepRefIdeal := by
  intro m ρ m' ρ' _ hagree
  refine ⟨fun c => G m c, fun c => D m c, fun c => M m c, fun c => S m c, ?_, ?_⟩
  · refine (θ_run defs _ _).mono (fun r h c => ?_) (θ_run_and (run_main (F := Ideal) m ρ) (unchanged (F := Ideal) m ρ))
    exact ⟨((h.1 c).2 main_v11 (Pipeline.mem_restRefs_of main_v11 (by decide) (by decide))).trans (results m c).1,
      ((h.1 c).2 main_v12 (Pipeline.mem_restRefs_of main_v12 (by decide) (by decide))).trans (results m c).2.1,
      ((h.1 c).2 main_v13 (Pipeline.mem_restRefs_of main_v13 (by decide) (by decide))).trans (results m c).2.2.1,
      ((h.1 c).2 main_v14 (Pipeline.mem_restRefs_of main_v14 (by decide) (by decide))).trans (results m c).2.2.2, h.2 c⟩
  · refine (θ_run Cert.NormStepRefIdeal.defs _ _).mono
      (fun _ h c => ⟨(h c).1.trans ?_, (h c).2.1.trans ?_, (h c).2.2.1.trans ?_, (h c).2.2.2.1.trans ?_, (h c).2.2.2.2⟩)
      (Cert.NormStepRefIdeal.Value.run (F := Ideal) m' ρ')
    all_goals
      have hg := (ref_grad _).trans (congrArg grad (hagree c).2.2.2)
    · exact hg
    · exact host_change _ (hagree c).1 (host_first _ (hagree c).2.1 hg) (host_second _ (hagree c).2.2.1 hg)
    · exact host_first _ (hagree c).2.1 hg
    · exact host_second _ (hagree c).2.2.1 hg

end Cert.Proof.NormStep
-- ==== Proof.Step.FfnIn.lean ====
/-
  The optimiser's step of the first matrix of the gated layer. The gradient of a layer is the sum of the devices' parts of that layer, one
  array of parts for each layer; the grid walks the layers, and in a layer blocks of 128 rows.
-/
module

public import proofs.«01_k».proof.Defs
public import proofs.«01_k».proof.Proof.Gen.FfnInStep.Frame
public import proofs.«01_k».proof.Proof.Gen.FfnInStepIdeal.Value
public import proofs.«01_k».proof.Proof.Gen.FfnInStepRefIdeal.Run
public import proofs.«01_k».proof.Proof.Gen.FfnInStepRefIdeal.Read
public import proofs.«01_k».proof.Proof.Step.Adam
public import Idealize.ShloMosaic.Lib.Pointwise
public import Idealize.ShloMosaic.Lib.Claim
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.FfnInStep

open Cert.Proof.Step

/-- The parts of layer `l`. -/
def part (p0 p1 p2 p3 : FVec Ideal ⟨3, ![8, 2048, 1408]⟩ .bf16) (l : Fin 4) : FVec Ideal ⟨3, ![8, 2048, 1408]⟩ .bf16 :=
  match l with | 0 => p0 | 1 => p1 | 2 => p2 | 3 => p3

/-- The gradient: each layer's, the sum of the devices' parts. -/
def grad (p0 p1 p2 p3 : FVec Ideal ⟨3, ![8, 2048, 1408]⟩ .bf16) : FVec Ideal ⟨3, ![4, 2048, 1408]⟩ .f32 := fun i =>
  word 0x00000000#32 + ∑ k : Fin 8, (part p0 p1 p2 p3 (i 0) (ix3 k (i 1) (i 2)) : EReal)

section Kernel

open Cert.FfnInStepIdeal Cert.FfnInStepIdeal.Gen

theorem hz3 : (![0, 0, 0] : Fin 3 → Nat) = fun _ => 0 := funext fun a => by fin_cases a <;> rfl

/-! ## A tile's payload at an index -/

section Payload

variable (y : S1x128x1408.Idx)

/-- The sum over the devices' parts at an index of a tile. -/
def total (x : Vec Ideal S8x128x1408 .bf16) : EReal := word 0x00000000#32 + ∑ k : Fin 8, (x (ix3 k (y 1) (y 2)) : EReal)

/-- Eight tiles added up, at an index; -/
theorem sum_at (a b c d e f g h : Vec Ideal S1x128x1408 .bf16) :
    k0_pay9 a b c d e f g h (ix2 (y 1) (y 2)) = (a y : EReal) + b y + c y + d y + e y + f y + g y + h y := by
  pointwise [k0_pay9]

/-- what a store of a tile leaves there; -/
theorem stored (x : FVec Ideal S128x1408 .f32) :
    shapeCast S1x128x1408 x shapeCasts_S128x1408_S1x128x1408 y = x (ix2 (y 1) (y 2)) := by
  pointwise []

/-- what a load of a tile takes there; -/
theorem taken (x : FVec Ideal S1x128x1408 .f32) :
    shapeCast S128x1408 x shapeCasts_S1x128x1408_S128x1408 (ix2 (y 1) (y 2)) = x y := by
  pointwise []

/-- the first moment, -/
theorem first_at (g : FVec Ideal S128x1408 .f32) (x : Vec Ideal S1x128x1408 .f32) :
    k0_pay11 g x (ix2 (y 1) (y 2)) = first (x y) (g (ix2 (y 1) (y 2))) := by
  rw [← taken y x]
  rfl

/-- the second, -/
theorem second_at (g : FVec Ideal S128x1408 .f32) (x : Vec Ideal S1x128x1408 .f32) :
    k0_pay12 g x (ix2 (y 1) (y 2)) = second (x y) (g (ix2 (y 1) (y 2))) := by
  rw [← taken y x]
  rfl

/-- and the change of the weight. -/
theorem change_at (g : FVec Ideal S128x1408 .f32) (w m v : Vec Ideal S1x128x1408 .f32) :
    k0_pay14 g (k0_pay10 w) m v y = change (w y) (first (m y) (g (ix2 (y 1) (y 2)))) (second (v y) (g (ix2 (y 1) (y 2)))) := by
  rw [← first_at, ← second_at, ← taken y w]
  exact stored y (mulf (broadcast S128x1408 (word 0xBA83126F#32)) (addf
    (divf (divf (k0_pay11 g m) (broadcast S128x1408 (word 0x3F26BD02#32)))
      (addf (sqrt (divf (k0_pay12 g v) (broadcast S128x1408 (word 0x3C231ACC#32)))) (broadcast S128x1408 (word 0x322BCC77#32))))
    (mulf (broadcast S128x1408 (word 0x3C23D70A#32)) (k0_pay10 w))))

/-- Reading one device's part of a block, at an index, -/
theorem read_part (a : Memref sig .tc .vmem S8x128x1408 .bf16) (h : a.IsWhole) (x : Vec Ideal S8x128x1408 .bf16) (k : ℕ) (hk : k < 8) (hb) :
    View.readAt (Elt Ideal) a.view (Rect.unit (s := S8x128x1408) ![k, 0, 0] S1x128x1408.size hb).toLoadRect (h.unread x) y
      = x (ix3 (⟨k, hk⟩ : Fin 8) (y 1) (y 2)) := by
  rw [View.readAt_eq_ld, h.read_unread]
  refine congrArg x (funext fun b => Fin.ext ?_)
  have h0 : (y 0).val < 1 := (y 0).isLt
  match b with
  | ⟨0, _⟩ => exact (show k + 1 * (y 0).val = k by omega)
  | ⟨1, _⟩ => exact (show 0 + 1 * (y 1).val = (y 1).val by omega)
  | ⟨2, _⟩ => exact (show 0 + 1 * (y 2).val = (y 2).val by omega)

/-- the eight added up, -/
theorem read_parts (a : Memref sig .tc .vmem S8x128x1408 .bf16) (h : a.IsWhole) (x : Vec Ideal S8x128x1408 .bf16) (b0 b1 b2 b3 b4 b5 b6 b7) :
    k0_pay9
      (View.readAt (Elt Ideal) a.view (Rect.unit (s := S8x128x1408) ![0, 0, 0] S1x128x1408.size b0).toLoadRect (h.unread x))
      (View.readAt (Elt Ideal) a.view (Rect.unit (s := S8x128x1408) ![1, 0, 0] S1x128x1408.size b1).toLoadRect (h.unread x))
      (View.readAt (Elt Ideal) a.view (Rect.unit (s := S8x128x1408) ![2, 0, 0] S1x128x1408.size b2).toLoadRect (h.unread x))
      (View.readAt (Elt Ideal) a.view (Rect.unit (s := S8x128x1408) ![3, 0, 0] S1x128x1408.size b3).toLoadRect (h.unread x))
      (View.readAt (Elt Ideal) a.view (Rect.unit (s := S8x128x1408) ![4, 0, 0] S1x128x1408.size b4).toLoadRect (h.unread x))
      (View.readAt (Elt Ideal) a.view (Rect.unit (s := S8x128x1408) ![5, 0, 0] S1x128x1408.size b5).toLoadRect (h.unread x))
      (View.readAt (Elt Ideal) a.view (Rect.unit (s := S8x128x1408) ![6, 0, 0] S1x128x1408.size b6).toLoadRect (h.unread x))
      (View.readAt (Elt Ideal) a.view (Rect.unit (s := S8x128x1408) ![7, 0, 0] S1x128x1408.size b7).toLoadRect (h.unread x))
      (ix2 (y 1) (y 2)) = total y x := by
  refine (sum_at y _ _ _ _ _ _ _ _).trans ?_
  rw [read_part y a h x 0 (by decide), read_part y a h x 1 (by decide), read_part y a h x 2 (by decide), read_part y a h x 3 (by decide),
    read_part y a h x 4 (by decide), read_part y a h x 5 (by decide), read_part y a h x 6 (by decide), read_part y a h x 7 (by decide)]
  unfold total
  rw [← sum_eight]
  rfl

/-- and reading a whole tile. -/
theorem read_tile (a : Memref sig .tc .vmem S1x128x1408 .f32) (h : a.IsWhole) (x : Vec Ideal S1x128x1408 .f32) (hb) :
    View.readAt (Elt Ideal) a.view (Rect.unit (s := S1x128x1408) ![0, 0, 0] S1x128x1408.size hb).toLoadRect (h.unread x) = x := by
  rw [View.readAt_eq_ld, h.read_unread, View.ld_unit_zero (S := S1x128x1408) hz3]

/-! What is stored in the tiles of the moments and of the change, of a sum `r` over the devices. -/

section Stored

variable {y}
variable {g : FVec Ideal S128x1408 .f32} {r : EReal} (hg : g (ix2 (y 1) (y 2)) = r)
include hg

theorem first_of (a : Memref sig .tc .vmem S1x128x1408 .f32) (h : a.IsWhole) (x : Vec Ideal S1x128x1408 .f32) (hb) :
    shapeCast S1x128x1408 (k0_pay11 g (View.readAt (Elt Ideal) a.view
      (Rect.unit (s := S1x128x1408) ![0, 0, 0] S1x128x1408.size hb).toLoadRect (h.unread x))) shapeCasts_S128x1408_S1x128x1408 y
      = first (x y) r := by
  rw [stored, first_at, read_tile, hg]

theorem second_of (a : Memref sig .tc .vmem S1x128x1408 .f32) (h : a.IsWhole) (x : Vec Ideal S1x128x1408 .f32) (hb) :
    shapeCast S1x128x1408 (k0_pay12 g (View.readAt (Elt Ideal) a.view
      (Rect.unit (s := S1x128x1408) ![0, 0, 0] S1x128x1408.size hb).toLoadRect (h.unread x))) shapeCasts_S128x1408_S1x128x1408 y
      = second (x y) r := by
  rw [stored, second_at, read_tile, hg]

theorem change_of {w m v w' m' v' : Vec Ideal S1x128x1408 .f32} (hw : w = w') (hm : m = m') (hv : v = v') :
    k0_pay14 g (k0_pay10 w) m v y = change (w' y) (first (m' y) r) (second (v' y) r) := by
  rw [change_at, hg, hw, hm, hv]

end Stored

end Payload

/-! ## What a point leaves, in each of the four layers -/

section Cases

variable (c : Dev nD) (i : grid0.Coords) (a0 : Memref sig .tc .vmem S1x128x1408 .f32) (h0 : a0.IsWhole)
variable (a1 : Memref sig .tc .vmem S1x128x1408 .f32) (h1 : a1.IsWhole) (a2 : Memref sig .tc .vmem S1x128x1408 .f32) (h2 : a2.IsWhole)
variable (a3 : Memref sig .tc .vmem S8x128x1408 .bf16) (h3 : a3.IsWhole) (a4 : Memref sig .tc .vmem S8x128x1408 .bf16) (h4 : a4.IsWhole)
variable (a5 : Memref sig .tc .vmem S8x128x1408 .bf16) (h5 : a5.IsWhole) (a6 : Memref sig .tc .vmem S8x128x1408 .bf16) (h6 : a6.IsWhole)
variable (a7 : Memref sig .tc .vmem S1x128x1408 .f32) (h7 : a7.IsWhole) (a8 : Memref sig .tc .vmem S1x128x1408 .f32) (h8 : a8.IsWhole)
variable (a9 : Memref sig .tc .vmem S1x128x1408 .f32) (h9 : a9.IsWhole) (a10 : Memref sig .tc .vmem S1x128x1408 .f32) (h10 : a10.IsWhole)
variable (x0 x1 x2 : Vec Ideal S1x128x1408 .f32) (x3 x4 x5 x6 : Vec Ideal S8x128x1408 .bf16) (y : S1x128x1408.Idx)

theorem case_A (k0 k1 k2 k3) :
    out0_A_7 c i a0 h0 a1 h1 a2 h2 a3 h3 a4 h4 a5 h5 a6 h6 a7 h7 a8 h8 a9 h9 a10 h10 k0 k1 k2 k3 x0 x1 x2 x3 x4 x5 x6 y = total y x3
      ∧ out0_A_8 c i a0 h0 a1 h1 a2 h2 a3 h3 a4 h4 a5 h5 a6 h6 a7 h7 a8 h8 a9 h9 a10 h10 k0 k1 k2 k3 x0 x1 x2 x3 x4 x5 x6 y
        = change (x0 y) (first (x1 y) (total y x3)) (second (x2 y) (total y x3))
      ∧ out0_A_9 c i a0 h0 a1 h1 a2 h2 a3 h3 a4 h4 a5 h5 a6 h6 a7 h7 a8 h8 a9 h9 a10 h10 k0 k1 k2 k3 x0 x1 x2 x3 x4 x5 x6 y = first (x1 y) (total y x3)
      ∧ out0_A_10 c i a0 h0 a1 h1 a2 h2 a3 h3 a4 h4 a5 h5 a6 h6 a7 h7 a8 h8 a9 h9 a10 h10 k0 k1 k2 k3 x0 x1 x2 x3 x4 x5 x6 y = second (x2 y) (total y x3) := by
  have g := read_parts y a3 h3 x3
  refine ⟨?_, ?_, ?_, ?_⟩
  · unfold out0_A_7
    rw [View.read_writes_eq_canon _ _ _ (fun _ => cover0_A_7 ..)]
    unfold kernelRun0_A
    dsimp only
    rw [View.canon_unit_zero hz3]
    exact (stored y _).trans (g ..)
  · unfold out0_A_8
    rw [View.read_writes_eq_canon _ _ _ (fun _ => cover0_A_8 ..)]
    unfold kernelRun0_A
    dsimp only
    rw [View.canon_unit_zero hz3]
    exact change_of (g ..) (read_tile a0 h0 x0 _) (read_tile a1 h1 x1 _) (read_tile a2 h2 x2 _)
  · unfold out0_A_9
    rw [View.read_writes_eq_canon _ _ _ (fun _ => cover0_A_9 ..)]
    unfold kernelRun0_A
    dsimp only
    rw [View.canon_unit_zero hz3]
    exact first_of (g ..) a1 h1 x1 _
  · unfold out0_A_10
    rw [View.read_writes_eq_canon _ _ _ (fun _ => cover0_A_10 ..)]
    unfold kernelRun0_A
    dsimp only
    rw [View.canon_unit_zero hz3]
    exact second_of (g ..) a2 h2 x2 _

theorem case_B (k0 k1 k2 k3) :
    out0_B_7 c i a0 h0 a1 h1 a2 h2 a3 h3 a4 h4 a5 h5 a6 h6 a7 h7 a8 h8 a9 h9 a10 h10 k0 k1 k2 k3 x0 x1 x2 x3 x4 x5 x6 y = total y x4
      ∧ out0_B_8 c i a0 h0 a1 h1 a2 h2 a3 h3 a4 h4 a5 h5 a6 h6 a7 h7 a8 h8 a9 h9 a10 h10 k0 k1 k2 k3 x0 x1 x2 x3 x4 x5 x6 y
        = change (x0 y) (first (x1 y) (total y x4)) (second (x2 y) (total y x4))
      ∧ out0_B_9 c i a0 h0 a1 h1 a2 h2 a3 h3 a4 h4 a5 h5 a6 h6 a7 h7 a8 h8 a9 h9 a10 h10 k0 k1 k2 k3 x0 x1 x2 x3 x4 x5 x6 y = first (x1 y) (total y x4)
      ∧ out0_B_10 c i a0 h0 a1 h1 a2 h2 a3 h3 a4 h4 a5 h5 a6 h6 a7 h7 a8 h8 a9 h9 a10 h10 k0 k1 k2 k3 x0 x1 x2 x3 x4 x5 x6 y = second (x2 y) (total y x4) := by
  have g := read_parts y a4 h4 x4
  refine ⟨?_, ?_, ?_, ?_⟩
  · unfold out0_B_7
    rw [View.read_writes_eq_canon _ _ _ (fun _ => cover0_B_7 ..)]
    unfold kernelRun0_B
    dsimp only
    rw [View.canon_unit_zero hz3]
    exact (stored y _).trans (g ..)
  · unfold out0_B_8
    rw [View.read_writes_eq_canon _ _ _ (fun _ => cover0_B_8 ..)]
    unfold kernelRun0_B
    dsimp only
    rw [View.canon_unit_zero hz3]
    exact change_of (g ..) (read_tile a0 h0 x0 _) (read_tile a1 h1 x1 _) (read_tile a2 h2 x2 _)
  · unfold out0_B_9
    rw [View.read_writes_eq_canon _ _ _ (fun _ => cover0_B_9 ..)]
    unfold kernelRun0_B
    dsimp only
    rw [View.canon_unit_zero hz3]
    exact first_of (g ..) a1 h1 x1 _
  · unfold out0_B_10
    rw [View.read_writes_eq_canon _ _ _ (fun _ => cover0_B_10 ..)]
    unfold kernelRun0_B
    dsimp only
    rw [View.canon_unit_zero hz3]
    exact second_of (g ..) a2 h2 x2 _

theorem case_C (k0 k1 k2 k3) :
    out0_C_7 c i a0 h0 a1 h1 a2 h2 a3 h3 a4 h4 a5 h5 a6 h6 a7 h7 a8 h8 a9 h9 a10 h10 k0 k1 k2 k3 x0 x1 x2 x3 x4 x5 x6 y = total y x5
      ∧ out0_C_8 c i a0 h0 a1 h1 a2 h2 a3 h3 a4 h4 a5 h5 a6 h6 a7 h7 a8 h8 a9 h9 a10 h10 k0 k1 k2 k3 x0 x1 x2 x3 x4 x5 x6 y
        = change (x0 y) (first (x1 y) (total y x5)) (second (x2 y) (total y x5))
      ∧ out0_C_9 c i a0 h0 a1 h1 a2 h2 a3 h3 a4 h4 a5 h5 a6 h6 a7 h7 a8 h8 a9 h9 a10 h10 k0 k1 k2 k3 x0 x1 x2 x3 x4 x5 x6 y = first (x1 y) (total y x5)
      ∧ out0_C_10 c i a0 h0 a1 h1 a2 h2 a3 h3 a4 h4 a5 h5 a6 h6 a7 h7 a8 h8 a9 h9 a10 h10 k0 k1 k2 k3 x0 x1 x2 x3 x4 x5 x6 y = second (x2 y) (total y x5) := by
  have g := read_parts y a5 h5 x5
  refine ⟨?_, ?_, ?_, ?_⟩
  · unfold out0_C_7
    rw [View.read_writes_eq_canon _ _ _ (fun _ => cover0_C_7 ..)]
    unfold kernelRun0_C
    dsimp only
    rw [View.canon_unit_zero hz3]
    exact (stored y _).trans (g ..)
  · unfold out0_C_8
    rw [View.read_writes_eq_canon _ _ _ (fun _ => cover0_C_8 ..)]
    unfold kernelRun0_C
    dsimp only
    rw [View.canon_unit_zero hz3]
    exact change_of (g ..) (read_tile a0 h0 x0 _) (read_tile a1 h1 x1 _) (read_tile a2 h2 x2 _)
  · unfold out0_C_9
    rw [View.read_writes_eq_canon _ _ _ (fun _ => cover0_C_9 ..)]
    unfold kernelRun0_C
    dsimp only
    rw [View.canon_unit_zero hz3]
    exact first_of (g ..) a1 h1 x1 _
  · unfold out0_C_10
    rw [View.read_writes_eq_canon _ _ _ (fun _ => cover0_C_10 ..)]
    unfold kernelRun0_C
    dsimp only
    rw [View.canon_unit_zero hz3]
    exact second_of (g ..) a2 h2 x2 _

theorem case_D (k0 k1 k2 k3) :
    out0_D_7 c i a0 h0 a1 h1 a2 h2 a3 h3 a4 h4 a5 h5 a6 h6 a7 h7 a8 h8 a9 h9 a10 h10 k0 k1 k2 k3 x0 x1 x2 x3 x4 x5 x6 y = total y x6
      ∧ out0_D_8 c i a0 h0 a1 h1 a2 h2 a3 h3 a4 h4 a5 h5 a6 h6 a7 h7 a8 h8 a9 h9 a10 h10 k0 k1 k2 k3 x0 x1 x2 x3 x4 x5 x6 y
        = change (x0 y) (first (x1 y) (total y x6)) (second (x2 y) (total y x6))
      ∧ out0_D_9 c i a0 h0 a1 h1 a2 h2 a3 h3 a4 h4 a5 h5 a6 h6 a7 h7 a8 h8 a9 h9 a10 h10 k0 k1 k2 k3 x0 x1 x2 x3 x4 x5 x6 y = first (x1 y) (total y x6)
      ∧ out0_D_10 c i a0 h0 a1 h1 a2 h2 a3 h3 a4 h4 a5 h5 a6 h6 a7 h7 a8 h8 a9 h9 a10 h10 k0 k1 k2 k3 x0 x1 x2 x3 x4 x5 x6 y = second (x2 y) (total y x6) := by
  have g := read_parts y a6 h6 x6
  refine ⟨?_, ?_, ?_, ?_⟩
  · unfold out0_D_7
    rw [View.read_writes_eq_canon _ _ _ (fun _ => cover0_D_7 ..)]
    unfold kernelRun0_D
    dsimp only
    rw [View.canon_unit_zero hz3]
    exact (stored y _).trans (g ..)
  · unfold out0_D_8
    rw [View.read_writes_eq_canon _ _ _ (fun _ => cover0_D_8 ..)]
    unfold kernelRun0_D
    dsimp only
    rw [View.canon_unit_zero hz3]
    exact change_of (g ..) (read_tile a0 h0 x0 _) (read_tile a1 h1 x1 _) (read_tile a2 h2 x2 _)
  · unfold out0_D_9
    rw [View.read_writes_eq_canon _ _ _ (fun _ => cover0_D_9 ..)]
    unfold kernelRun0_D
    dsimp only
    rw [View.canon_unit_zero hz3]
    exact first_of (g ..) a1 h1 x1 _
  · unfold out0_D_10
    rw [View.read_writes_eq_canon _ _ _ (fun _ => cover0_D_10 ..)]
    unfold kernelRun0_D
    dsimp only
    rw [View.canon_unit_zero hz3]
    exact second_of (g ..) a2 h2 x2 _

end Cases

variable (m : (ℓ : Loc nD τ sig) → Buf (Elt Ideal) ℓ)

/-! The block of a window at a point. -/

theorem ix_0 : ∀ t : Fin cfg0.N, win0_0.index t = ![t.val / 16, t.val % 16, 0] :=
  (by decide +kernel : ∀ t : Fin grid0.N, win0_0.index t = ![t.val / 16, t.val % 16, 0])
theorem ix_1 : ∀ t : Fin cfg0.N, win0_1.index t = ![t.val / 16, t.val % 16, 0] :=
  (by decide +kernel : ∀ t : Fin grid0.N, win0_1.index t = ![t.val / 16, t.val % 16, 0])
theorem ix_2 : ∀ t : Fin cfg0.N, win0_2.index t = ![t.val / 16, t.val % 16, 0] :=
  (by decide +kernel : ∀ t : Fin grid0.N, win0_2.index t = ![t.val / 16, t.val % 16, 0])
theorem ix_7 : ∀ t : Fin cfg0.N, win0_7.index t = ![t.val / 16, t.val % 16, 0] :=
  (by decide +kernel : ∀ t : Fin grid0.N, win0_7.index t = ![t.val / 16, t.val % 16, 0])
theorem ix_8 : ∀ t : Fin cfg0.N, win0_8.index t = ![t.val / 16, t.val % 16, 0] :=
  (by decide +kernel : ∀ t : Fin grid0.N, win0_8.index t = ![t.val / 16, t.val % 16, 0])
theorem ix_9 : ∀ t : Fin cfg0.N, win0_9.index t = ![t.val / 16, t.val % 16, 0] :=
  (by decide +kernel : ∀ t : Fin grid0.N, win0_9.index t = ![t.val / 16, t.val % 16, 0])
theorem ix_10 : ∀ t : Fin cfg0.N, win0_10.index t = ![t.val / 16, t.val % 16, 0] :=
  (by decide +kernel : ∀ t : Fin grid0.N, win0_10.index t = ![t.val / 16, t.val % 16, 0])

/-! A layer's parts are at the block of rows of the point while the grid is at that layer. -/

theorem ix_3 : ∀ t : Fin cfg0.N, t.val / 16 = 0 → win0_3.index t = ![0, t.val % 16, 0] :=
  (by decide +kernel : ∀ t : Fin grid0.N, t.val / 16 = 0 → win0_3.index t = ![0, t.val % 16, 0])
theorem ix_4 : ∀ t : Fin cfg0.N, t.val / 16 = 1 → win0_4.index t = ![0, t.val % 16, 0] :=
  (by decide +kernel : ∀ t : Fin grid0.N, t.val / 16 = 1 → win0_4.index t = ![0, t.val % 16, 0])
theorem ix_5 : ∀ t : Fin cfg0.N, t.val / 16 = 2 → win0_5.index t = ![0, t.val % 16, 0] :=
  (by decide +kernel : ∀ t : Fin grid0.N, t.val / 16 = 2 → win0_5.index t = ![0, t.val % 16, 0])
theorem ix_6 : ∀ t : Fin cfg0.N, t.val / 16 = 3 → win0_6.index t = ![0, t.val % 16, 0] :=
  (by decide +kernel : ∀ t : Fin grid0.N, t.val / 16 = 3 → win0_6.index t = ![0, t.val % 16, 0])

/-- The place of a tile's entry in the array. -/
abbrev place (t : Fin cfg0.N) (y : S1x128x1408.Idx) : S4x2048x1408.Idx :=
  ix3 (⟨t.val / 16, by have : t.val < 64 := t.isLt; omega⟩ : Fin 4)
    (⟨128 * (t.val % 16) + (y 1).val, by have : (y 1).val < 128 := (y 1).isLt; omega⟩ : Fin 2048) (y 2)

theorem place_val (t : Fin cfg0.N) (y : S1x128x1408.Idx) : (place t y 0).val = t.val / 16
    ∧ (place t y 1).val = 128 * (t.val % 16) + (y 1).val ∧ (place t y 2).val = (y 2).val := ⟨rfl, rfl, rfl⟩

/-- The gradient the call leaves, -/
def G (c : Dev nD) : FVec Ideal S4x2048x1408 .f32 :=
  grad (m ((c : Thread nD τ).loc main_arg3)) (m ((c : Thread nD τ).loc main_arg4)) (m ((c : Thread nD τ).loc main_arg5))
    (m ((c : Thread nD τ).loc main_arg6))
/-- the first moment, -/
abbrev M (c : Dev nD) : FVec Ideal S4x2048x1408 .f32 := fun i => first (m ((c : Thread nD τ).loc main_arg1) i) (G m c i)
/-- the second moment, -/
abbrev S (c : Dev nD) : FVec Ideal S4x2048x1408 .f32 := fun i => second (m ((c : Thread nD τ).loc main_arg2) i) (G m c i)
/-- and the change of the weight. -/
abbrev D (c : Dev nD) : FVec Ideal S4x2048x1408 .f32 := fun i => change (m ((c : Thread nD τ).loc main_arg0) i) (M m c i) (S m c i)

/-! What the tiles hold of the weight, of the moments and of the parts. -/

theorem block0 (c : Dev nD) (t : Fin cfg0.N) (y : S1x128x1408.Idx) : iblk m c 0 t y = m ((c : Thread nD τ).loc main_arg0) (place t y) := by
  blk_simp [iblk]
  congr 1
  have h0 : (y 0).val < 1 := (y 0).isLt
  obtain ⟨p0, p1, p2⟩ := place_val t y
  blk_ext [ix_0]
  all_goals omega
theorem block1 (c : Dev nD) (t : Fin cfg0.N) (y : S1x128x1408.Idx) : iblk m c 1 t y = m ((c : Thread nD τ).loc main_arg1) (place t y) := by
  blk_simp [iblk]
  congr 1
  have h0 : (y 0).val < 1 := (y 0).isLt
  obtain ⟨p0, p1, p2⟩ := place_val t y
  blk_ext [ix_1]
  all_goals omega
theorem block2 (c : Dev nD) (t : Fin cfg0.N) (y : S1x128x1408.Idx) : iblk m c 2 t y = m ((c : Thread nD τ).loc main_arg2) (place t y) := by
  blk_simp [iblk]
  congr 1
  have h0 : (y 0).val < 1 := (y 0).isLt
  obtain ⟨p0, p1, p2⟩ := place_val t y
  blk_ext [ix_2]
  all_goals omega

theorem total_3 (c : Dev nD) (t : Fin cfg0.N) (y : S1x128x1408.Idx) (ht : t.val / 16 = 0) : total y (iblk m c 3 t) = G m c (place t y) := by
  unfold total G grad
  refine congrArg (_ + ·) (Finset.sum_congr rfl fun k _ => ?_)
  rw [show place t y 0 = (0 : Fin 4) from Fin.ext ht]
  show _ = m ((c : Thread nD τ).loc main_arg3) _
  blk_simp [iblk]
  congr 1
  obtain ⟨-, p1, p2⟩ := place_val t y
  blk_ext [ix_3 t ht]
  all_goals omega
theorem total_4 (c : Dev nD) (t : Fin cfg0.N) (y : S1x128x1408.Idx) (ht : t.val / 16 = 1) : total y (iblk m c 4 t) = G m c (place t y) := by
  unfold total G grad
  refine congrArg (_ + ·) (Finset.sum_congr rfl fun k _ => ?_)
  rw [show place t y 0 = (1 : Fin 4) from Fin.ext ht]
  show _ = m ((c : Thread nD τ).loc main_arg4) _
  blk_simp [iblk]
  congr 1
  obtain ⟨-, p1, p2⟩ := place_val t y
  blk_ext [ix_4 t ht]
  all_goals omega
theorem total_5 (c : Dev nD) (t : Fin cfg0.N) (y : S1x128x1408.Idx) (ht : t.val / 16 = 2) : total y (iblk m c 5 t) = G m c (place t y) := by
  unfold total G grad
  refine congrArg (_ + ·) (Finset.sum_congr rfl fun k _ => ?_)
  rw [show place t y 0 = (2 : Fin 4) from Fin.ext ht]
  show _ = m ((c : Thread nD τ).loc main_arg5) _
  blk_simp [iblk]
  congr 1
  obtain ⟨-, p1, p2⟩ := place_val t y
  blk_ext [ix_5 t ht]
  all_goals omega
theorem total_6 (c : Dev nD) (t : Fin cfg0.N) (y : S1x128x1408.Idx) (ht : t.val / 16 = 3) : total y (iblk m c 6 t) = G m c (place t y) := by
  unfold total G grad
  refine congrArg (_ + ·) (Finset.sum_congr rfl fun k _ => ?_)
  rw [show place t y 0 = (3 : Fin 4) from Fin.ext ht]
  show _ = m ((c : Thread nD τ).loc main_arg6) _
  blk_simp [iblk]
  congr 1
  obtain ⟨-, p1, p2⟩ := place_val t y
  blk_ext [ix_6 t ht]
  all_goals omega

/-- What a point leaves in the four tiles: its part of the four arrays. -/
def Leaves (c : Dev nD) (t : Fin cfg0.N) (y : S1x128x1408.Idx) : Prop :=
  (outsAt0 m c t.val t.isLt).1 y = G m c (place t y) ∧ (outsAt0 m c t.val t.isLt).2.1 y = D m c (place t y)
    ∧ (outsAt0 m c t.val t.isLt).2.2.1 y = M m c (place t y) ∧ (outsAt0 m c t.val t.isLt).2.2.2 y = S m c (place t y)

/-! It does, layer by layer. -/

theorem outs_A (c : Dev nD) (t : Fin cfg0.N) (y : S1x128x1408.Idx) (ht : t.val / 16 = 0) : Leaves m c t y := by
  have hN : t.val < 64 := t.isLt
  rw [Leaves, outsAt0_A m c t (by omega) (by omega) (by omega) (by omega)]
  dsimp only
  obtain ⟨h7, h8, h9, h10⟩ := case_A (y := y) ..
  rw [h7, h8, h9, h10, total_3 m c t y ht, block0, block1, block2]
  exact ⟨rfl, rfl, rfl, rfl⟩
theorem outs_B (c : Dev nD) (t : Fin cfg0.N) (y : S1x128x1408.Idx) (ht : t.val / 16 = 1) : Leaves m c t y := by
  have hN : t.val < 64 := t.isLt
  rw [Leaves, outsAt0_B m c t (by omega) (by omega) (by omega) (by omega)]
  dsimp only
  obtain ⟨h7, h8, h9, h10⟩ := case_B (y := y) ..
  rw [h7, h8, h9, h10, total_4 m c t y ht, block0, block1, block2]
  exact ⟨rfl, rfl, rfl, rfl⟩
theorem outs_C (c : Dev nD) (t : Fin cfg0.N) (y : S1x128x1408.Idx) (ht : t.val / 16 = 2) : Leaves m c t y := by
  have hN : t.val < 64 := t.isLt
  rw [Leaves, outsAt0_C m c t (by omega) (by omega) (by omega) (by omega)]
  dsimp only
  obtain ⟨h7, h8, h9, h10⟩ := case_C (y := y) ..
  rw [h7, h8, h9, h10, total_5 m c t y ht, block0, block1, block2]
  exact ⟨rfl, rfl, rfl, rfl⟩
theorem outs_D (c : Dev nD) (t : Fin cfg0.N) (y : S1x128x1408.Idx) (ht : t.val / 16 = 3) : Leaves m c t y := by
  have hN : t.val < 64 := t.isLt
  rw [Leaves, outsAt0_D m c t (by omega) (by omega) (by omega) (by omega)]
  dsimp only
  obtain ⟨h7, h8, h9, h10⟩ := case_D (y := y) ..
  rw [h7, h8, h9, h10, total_6 m c t y ht, block0, block1, block2]
  exact ⟨rfl, rfl, rfl, rfl⟩

/-- What any point leaves in the four tiles. -/
theorem outs (c : Dev nD) (t : Fin cfg0.N) (y : S1x128x1408.Idx) : Leaves m c t y := by
  have hN : t.val < 64 := t.isLt
  rcases (by omega : t.val / 16 = 0 ∨ t.val / 16 = 1 ∨ t.val / 16 = 2 ∨ t.val / 16 = 3) with h | h | h | h
  · exact outs_A m c t y h
  · exact outs_B m c t y h
  · exact outs_C m c t y h
  · exact outs_D m c t y h

/-! The four arrays after the last point. -/

section Results

variable (c : Dev nD)

theorem final7 : (dats m 0 c).arrAt 7 cfg0.N = G m c := by
  refine (dats m 0 c).arrAt_eq_of_covers 7 _ (by decide +kernel) fun t hf y => ?_
  blk_simp
  rw [after0_7]
  refine ((outs m c t y).1).trans (congrArg (G m c) ?_)
  have h0 : (y 0).val < 1 := (y 0).isLt
  obtain ⟨p0, p1, p2⟩ := place_val t y
  blk_ext [ix_7]
  all_goals omega
theorem final8 : (dats m 0 c).arrAt 8 cfg0.N = D m c := by
  refine (dats m 0 c).arrAt_eq_of_covers 8 _ (by decide +kernel) fun t hf y => ?_
  blk_simp
  rw [after0_8]
  refine ((outs m c t y).2.1).trans (congrArg (D m c) ?_)
  have h0 : (y 0).val < 1 := (y 0).isLt
  obtain ⟨p0, p1, p2⟩ := place_val t y
  blk_ext [ix_8]
  all_goals omega
theorem final9 : (dats m 0 c).arrAt 9 cfg0.N = M m c := by
  refine (dats m 0 c).arrAt_eq_of_covers 9 _ (by decide +kernel) fun t hf y => ?_
  blk_simp
  rw [after0_9]
  refine ((outs m c t y).2.2.1).trans (congrArg (M m c) ?_)
  have h0 : (y 0).val < 1 := (y 0).isLt
  obtain ⟨p0, p1, p2⟩ := place_val t y
  blk_ext [ix_9]
  all_goals omega
theorem final10 : (dats m 0 c).arrAt 10 cfg0.N = S m c := by
  refine (dats m 0 c).arrAt_eq_of_covers 10 _ (by decide +kernel) fun t hf y => ?_
  blk_simp
  rw [after0_10]
  refine ((outs m c t y).2.2.2).trans (congrArg (S m c) ?_)
  have h0 : (y 0).val < 1 := (y 0).isLt
  obtain ⟨p0, p1, p2⟩ := place_val t y
  blk_ext [ix_10]
  all_goals omega

end Results

end Kernel

section Reference

open Cert.FfnInStepRefIdeal Cert.FfnInStepRefIdeal.Read

/-! A layer's sum over the devices, as the reference stacks it. -/

theorem sum_0 (p : FVec Ideal S8x2048x1408 .bf16) (i : S1x2048x1408.Idx) :
    val_main_v8 (F := Ideal) p i = word 0x00000000#32 + ∑ k : Fin 8, (p (ix3 k (i 1) (i 2)) : EReal) := by
  rw [val_main_v8_apply, val_main_v1_apply]
  refine congrArg (_ + ·) (Finset.sum_congr rfl fun k _ => congrArg p ?_)
  funext a; fin_cases a <;> rfl
theorem sum_1 (p : FVec Ideal S8x2048x1408 .bf16) (i : S1x2048x1408.Idx) :
    val_main_v9 (F := Ideal) p i = word 0x00000000#32 + ∑ k : Fin 8, (p (ix3 k (i 1) (i 2)) : EReal) := by
  rw [val_main_v9_apply, val_main_v3_apply]
  refine congrArg (_ + ·) (Finset.sum_congr rfl fun k _ => congrArg p ?_)
  funext a; fin_cases a <;> rfl
theorem sum_2 (p : FVec Ideal S8x2048x1408 .bf16) (i : S1x2048x1408.Idx) :
    val_main_v10 (F := Ideal) p i = word 0x00000000#32 + ∑ k : Fin 8, (p (ix3 k (i 1) (i 2)) : EReal) := by
  rw [val_main_v10_apply, val_main_v5_apply]
  refine congrArg (_ + ·) (Finset.sum_congr rfl fun k _ => congrArg p ?_)
  funext a; fin_cases a <;> rfl
theorem sum_3 (p : FVec Ideal S8x2048x1408 .bf16) (i : S1x2048x1408.Idx) :
    val_main_v11 (F := Ideal) p i = word 0x00000000#32 + ∑ k : Fin 8, (p (ix3 k (i 1) (i 2)) : EReal) := by
  rw [val_main_v11_apply, val_main_v7_apply]
  refine congrArg (_ + ·) (Finset.sum_congr rfl fun k _ => congrArg p ?_)
  funext a; fin_cases a <;> rfl

/-- The reference's gradient. -/
theorem ref_grad (p0 p1 p2 p3 : FVec Ideal S8x2048x1408 .bf16) : val_main_v12 (F := Ideal) p0 p1 p2 p3 = grad p0 p1 p2 p3 := by
  funext i
  have hsum : ∀ k : Fin 4, (![val_main_v8 (F := Ideal) p0, val_main_v9 (F := Ideal) p1, val_main_v10 (F := Ideal) p2,
      val_main_v11 (F := Ideal) p3] : Fin 4 → FVec Ideal S1x2048x1408 .f32) k (ix3 (0 : Fin 1) (i 1) (i 2)) =
      word 0x00000000#32 + ∑ j : Fin 8, (part p0 p1 p2 p3 k (ix3 j (i 1) (i 2)) : EReal) := by
    intro k
    fin_cases k
    · exact sum_0 p0 _
    · exact sum_1 p1 _
    · exact sum_2 p2 _
    · exact sum_3 p3 _
  refine Eq.trans ?_ (hsum (i 0))
  exact concatenate_ofFn_unit_apply (t := S4x2048x1408) (s₁ := S1x2048x1408) 0 (N := 4)
    (![val_main_v8 (F := Ideal) p0, val_main_v9 (F := Ideal) p1, val_main_v10 (F := Ideal) p2, val_main_v11 (F := Ideal) p3])
    Gen.concatenates_S1x2048x1408_S1x2048x1408_S1x2048x1408_S1x2048x1408_S4x2048x1408_d0 rfl rfl i (i 0) rfl (ix3 (0 : Fin 1) (i 1) (i 2))
    (fun b hb => by fin_cases b <;> first | exact absurd rfl hb | rfl)

end Reference

/-! ## The claims -/

theorem frame_kernel : Cert.quiescent_FfnInStep := fun m ρ _ => Cert.FfnInStep.Gen.frame m ρ
theorem frame_ideal : Cert.quiescent_FfnInStepIdeal := fun m ρ _ => Cert.FfnInStepIdeal.Gen.frame m ρ
theorem frame_ref : Cert.quiescent_FfnInStepRefIdeal := fun m ρ _ =>
  (θ_run Cert.FfnInStepRefIdeal.defs _ _).mono (fun r h => ⟨fun c => (h c).2.2.2.2, Idealize.ShloMosaic.sem_eq_zero_of_no_sems (by decide) r.2⟩)
    (Cert.FfnInStepRefIdeal.Value.run (F := Ideal) m ρ)

/-- The call and the reference leave the same four arrays. -/
theorem algebraic : Cert.algebraic_FfnInStepIdeal_FfnInStepRefIdeal := by
  intro m ρ m' ρ' _ hagree
  refine ⟨fun c => G m c, fun c => D m c, fun c => M m c, fun c => S m c, ?_, ?_⟩
  · exact (θ_run Cert.FfnInStepIdeal.defs _ _).mono
      (fun _ h c => ⟨(h c).1.trans (final7 m c), (h c).2.1.trans (final8 m c), (h c).2.2.1.trans (final9 m c),
        (h c).2.2.2.1.trans (final10 m c), (h c).2.2.2.2⟩)
      (Cert.FfnInStepIdeal.Value.run_blocks (F := Ideal) m ρ)
  · refine (θ_run Cert.FfnInStepRefIdeal.defs _ _).mono
      (fun _ h c => ⟨(h c).1.trans ?_, (h c).2.1.trans ?_, (h c).2.2.1.trans ?_, (h c).2.2.2.1.trans ?_, (h c).2.2.2.2⟩)
      (Cert.FfnInStepRefIdeal.Value.run (F := Ideal) m' ρ')
    all_goals
      have hg := (ref_grad _ _ _ _).trans (congr (congr (congrArg₂ grad (hagree c).2.2.2.1 (hagree c).2.2.2.2.1) (hagree c).2.2.2.2.2.1) (hagree c).2.2.2.2.2.2)
    · exact hg
    · exact host_change _ (hagree c).1 (host_first _ (hagree c).2.1 hg) (host_second _ (hagree c).2.2.1 hg)
    · exact host_first _ (hagree c).2.1 hg
    · exact host_second _ (hagree c).2.2.1 hg

end Cert.Proof.FfnInStep

end
-- ==== Proof.Step.Ada.lean ====
/-
  The optimiser's step of the modulation's matrix. The gradient is a product over the eight rows of the batch, of the conditioning with
  the gradient of the modulation; the call takes both padded with zeros to 128 rows, and one grid point makes 256 rows of one layer.
-/
module

public import proofs.«01_k».proof.Defs
public import proofs.«01_k».proof.Proof.Gen.AdaStep.Frame
public import proofs.«01_k».proof.Proof.Gen.AdaStepIdeal.Value
public import proofs.«01_k».proof.Proof.Gen.AdaStepRefIdeal.Run
public import proofs.«01_k».proof.Proof.Gen.AdaStepRefIdeal.Read
public import proofs.«01_k».proof.Proof.Step.Adam
public import Idealize.ShloMosaic.Lib.Pointwise
public import Idealize.ShloMosaic.Lib.Claim
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.AdaStep

open Cert.Proof.Step

/-- The gradient: the product over the batch's eight rows. -/
def grad (u : FVec Ideal ⟨2, ![8, 2048]⟩ .f32) (d : FVec Ideal ⟨3, ![8, 4, 1536]⟩ .f32) : FVec Ideal ⟨3, ![4, 2048, 1536]⟩ .f32 := fun i =>
  ∑ k : Fin 8, (u (ix2 k (i 1)) : EReal) * d (ix3 k (i 0) (i 2))

section Kernel

open Cert.AdaStepIdeal Cert.AdaStepIdeal.Gen

section Payload

variable (x0 x1 x2 : Vec Ideal S1x256x1536 .f32) (x3 : Vec Ideal S256x128 .f32) (x4 : Vec Ideal S1x128x1536 .f32)

/-- One tile of the gradient: the product over the 128 padded rows, -/
def tile (y : S1x256x1536.Idx) : EReal := ∑ k : Fin 128, (x3 (ix2 (y 1) k) : EReal) * x4 (ix3 0 k (y 2))

theorem tile_eq (y : S1x256x1536.Idx) : k0_pay5 x3 x4 (ix2 (y 1) (y 2)) = tile x3 x4 y := by
  unfold tile
  pointwise [k0_pay5]

/-- A tile stored, read at an index, -/
theorem stored (x : FVec Ideal S256x1536 .f32) (y : S1x256x1536.Idx) :
    shapeCast S1x256x1536 x shapeCasts_S256x1536_S1x256x1536 y = x (ix2 (y 1) (y 2)) := by
  pointwise []

/-- and one taken. -/
theorem taken (x : FVec Ideal S1x256x1536 .f32) (y : S1x256x1536.Idx) :
    shapeCast S256x1536 x shapeCasts_S1x256x1536_S256x1536 (ix2 (y 1) (y 2)) = x y := by
  pointwise []

/-- The gradient's tile, -/
theorem out5 (y : S1x256x1536.Idx) : out0_5 x0 x1 x2 x3 x4 y = tile x3 x4 y := by
  unfold out0_5
  frame_out
  exact (stored _ y).trans (tile_eq x3 x4 y)

theorem pay6 (y : S1x256x1536.Idx) : k0_pay6 x3 x4 x1 (ix2 (y 1) (y 2)) = first (x1 y) (tile x3 x4 y) := by
  rw [← tile_eq, ← taken x1 y]
  rfl

theorem pay7 (y : S1x256x1536.Idx) : k0_pay7 x3 x4 x2 (ix2 (y 1) (y 2)) = second (x2 y) (tile x3 x4 y) := by
  rw [← tile_eq, ← taken x2 y]
  rfl

/-- the first moment's, -/
theorem out7 (y : S1x256x1536.Idx) : out0_7 x0 x1 x2 x3 x4 y = first (x1 y) (tile x3 x4 y) := by
  unfold out0_7
  frame_out
  exact (stored _ y).trans (pay6 x1 x3 x4 y)

/-- the second moment's, -/
theorem out8 (y : S1x256x1536.Idx) : out0_8 x0 x1 x2 x3 x4 y = second (x2 y) (tile x3 x4 y) := by
  unfold out0_8
  frame_out
  exact (stored _ y).trans (pay7 x2 x3 x4 y)

/-- and the change's. -/
theorem out6 (y : S1x256x1536.Idx) :
    out0_6 x0 x1 x2 x3 x4 y = change (x0 y) (first (x1 y) (tile x3 x4 y)) (second (x2 y) (tile x3 x4 y)) := by
  unfold out0_6
  frame_out
  refine (stored (mulf (broadcast S256x1536 (word 0xBA83126F#32)) (k0_pay8 x3 x4 x0 x1 x2)) y).trans ?_
  rw [← pay6, ← pay7, ← taken x0 y]
  rfl

end Payload

variable (m : (ℓ : Loc nD τ sig) → Buf (Elt Ideal) ℓ)

theorem ix_0 : ∀ t : Fin cfg0.N, win0_0.index t = ![t.val / 8, t.val % 8, 0] :=
  (by decide +kernel : ∀ t : Fin grid0.N, win0_0.index t = ![t.val / 8, t.val % 8, 0])
theorem ix_1 : ∀ t : Fin cfg0.N, win0_1.index t = ![t.val / 8, t.val % 8, 0] :=
  (by decide +kernel : ∀ t : Fin grid0.N, win0_1.index t = ![t.val / 8, t.val % 8, 0])
theorem ix_2 : ∀ t : Fin cfg0.N, win0_2.index t = ![t.val / 8, t.val % 8, 0] :=
  (by decide +kernel : ∀ t : Fin grid0.N, win0_2.index t = ![t.val / 8, t.val % 8, 0])
theorem ix_3 : ∀ t : Fin cfg0.N, win0_3.index t = ![t.val % 8, 0] :=
  (by decide +kernel : ∀ t : Fin grid0.N, win0_3.index t = ![t.val % 8, 0])
theorem ix_4 : ∀ t : Fin cfg0.N, win0_4.index t = ![t.val / 8, 0, 0] :=
  (by decide +kernel : ∀ t : Fin grid0.N, win0_4.index t = ![t.val / 8, 0, 0])
theorem ix_5 : ∀ t : Fin cfg0.N, win0_5.index t = ![t.val / 8, t.val % 8, 0] :=
  (by decide +kernel : ∀ t : Fin grid0.N, win0_5.index t = ![t.val / 8, t.val % 8, 0])
theorem ix_6 : ∀ t : Fin cfg0.N, win0_6.index t = ![t.val / 8, t.val % 8, 0] :=
  (by decide +kernel : ∀ t : Fin grid0.N, win0_6.index t = ![t.val / 8, t.val % 8, 0])
theorem ix_7 : ∀ t : Fin cfg0.N, win0_7.index t = ![t.val / 8, t.val % 8, 0] :=
  (by decide +kernel : ∀ t : Fin grid0.N, win0_7.index t = ![t.val / 8, t.val % 8, 0])
theorem ix_8 : ∀ t : Fin cfg0.N, win0_8.index t = ![t.val / 8, t.val % 8, 0] :=
  (by decide +kernel : ∀ t : Fin grid0.N, win0_8.index t = ![t.val / 8, t.val % 8, 0])

/-! The padded factors, as the call takes them. -/

/-- The padding is zero. -/
theorem pad_zero (i : S_.Idx) : (sitofp (F := Ideal) .f32 (constantI S_ 32 0#32) : FVec Ideal S_ .f32) i = (0 : EReal) := by
  show (((0#32 : BitVec 32).toInt : ℝ) : EReal) = 0
  simp

theorem left_in (c : Dev nD) (r : Fin 2048) (k : Fin 8) :
    V m c main_v3 (ix2 r (⟨k.val, Nat.lt_of_lt_of_le k.isLt (by decide)⟩ : Fin 128)) = m ((c : Thread nD τ).loc main_arg3) (ix2 k r) := by
  unfold V
  simp only [hostOps0, hostOps0_1, hostOps0_2, hostOps0_3, List.flatten_cons, List.flatten_nil, List.append_nil, List.cons_append, List.nil_append]
  after_results_simp
  refine (pad_apply_of_inside _ _ _ _ _ pads_S2048x8_S2048x128_000_01200 h_S_ _ (ix2 r k) fun a => ?_).trans
    (transpose_apply _ _ _ _ (ix2 k r) fun a => match a with | ⟨0, _⟩ => rfl | ⟨1, _⟩ => rfl)
  match a with
  | ⟨0, _⟩ => exact (show r.val = 0 + r.val * (0 + 1) by omega)
  | ⟨1, _⟩ => exact (show k.val = 0 + k.val * (0 + 1) by omega)

theorem left_out (c : Dev nD) (r : Fin 2048) (k : Fin 128) (hk : 8 ≤ k.val) : V m c main_v3 (ix2 r k) = (0 : EReal) := by
  unfold V
  simp only [hostOps0, hostOps0_1, hostOps0_2, hostOps0_3, List.flatten_cons, List.flatten_nil, List.append_nil, List.cons_append, List.nil_append]
  after_results_simp
  refine (pad_apply_of_not_inside _ _ _ _ _ pads_S2048x8_S2048x128_000_01200 h_S_ (ix2 r k) 1 ?_).trans (pad_zero (Shape.Idx.first h_S_))
  exact (show ¬(0 ≤ k.val ∧ (k.val - 0) % (0 + 1) = 0 ∧ (k.val - 0) / (0 + 1) < 8) by omega)

theorem right_in (c : Dev nD) (l : Fin 4) (k : Fin 8) (n : Fin 1536) :
    V m c main_v1 (ix3 l (⟨k.val, Nat.lt_of_lt_of_le k.isLt (by decide)⟩ : Fin 128) n) = m ((c : Thread nD τ).loc main_arg4) (ix3 k l n) := by
  unfold V
  simp only [hostOps0, hostOps0_1, hostOps0_2, hostOps0_3, List.flatten_cons, List.flatten_nil, List.append_nil, List.cons_append, List.nil_append]
  after_results_simp
  refine (pad_apply_of_inside _ _ _ _ _ pads_S4x8x1536_S4x128x1536_000_01200_000 h_S_ _ (ix3 l k n) fun a => ?_).trans
    (transpose_apply _ _ _ _ (ix3 k l n) fun a => match a with | ⟨0, _⟩ => rfl | ⟨1, _⟩ => rfl | ⟨2, _⟩ => rfl)
  match a with
  | ⟨0, _⟩ => exact (show l.val = 0 + l.val * (0 + 1) by omega)
  | ⟨1, _⟩ => exact (show k.val = 0 + k.val * (0 + 1) by omega)
  | ⟨2, _⟩ => exact (show n.val = 0 + n.val * (0 + 1) by omega)

/-- The padded conditioning, -/
abbrev left (c : Dev nD) : FVec Ideal S2048x128 .f32 := V m c main_v3
/-- and the padded gradient of the modulation. -/
abbrev right (c : Dev nD) : FVec Ideal S4x128x1536 .f32 := V m c main_v1

/-- The product over the padded rows is the product over the batch's. -/
theorem padded (c : Dev nD) (l : Fin 4) (r : Fin 2048) (n : Fin 1536) :
    (∑ k : Fin 128, (left m c (ix2 r k) : EReal) * right m c (ix3 l k n))
      = grad (m ((c : Thread nD τ).loc main_arg3)) (m ((c : Thread nD τ).loc main_arg4)) (ix3 l r n) := by
  rw [sum_padded _ fun k hk => (congrArg (fun z : EReal => z * _) (left_out m c r k hk)).trans (zero_mul _)]
  exact Finset.sum_congr rfl fun k _ => congrArg₂ (fun z w : EReal => z * w) (left_in m c r k) (right_in m c l k n)

/-- The place of a tile's entry in the array. -/
abbrev place (t : Fin cfg0.N) (y : S1x256x1536.Idx) : S4x2048x1536.Idx :=
  ix3 (⟨t.val / 8, by have : t.val < 32 := t.isLt; omega⟩ : Fin 4)
    (⟨256 * (t.val % 8) + (y 1).val, by have : (y 1).val < 256 := (y 1).isLt; omega⟩ : Fin 2048) (y 2)

theorem tile_block (c : Dev nD) (t : Fin cfg0.N) (y : S1x256x1536.Idx) : tile (iblk m c 3 t) (iblk m c 4 t) y
    = grad (m ((c : Thread nD τ).loc main_arg3)) (m ((c : Thread nD τ).loc main_arg4)) (place t y) := by
  refine Eq.trans ?_ (padded m c _ _ _)
  unfold tile
  refine Finset.sum_congr rfl fun k _ => ?_
  blk_simp [iblk]
  congr 2
  · blk_ext [ix_3]
    all_goals omega
  · blk_ext [ix_4]

theorem block0 (c : Dev nD) (t : Fin cfg0.N) (y : S1x256x1536.Idx) : iblk m c 0 t y = m ((c : Thread nD τ).loc main_arg0) (place t y) := by
  blk_simp [iblk]
  congr 1
  have h0 : (y 0).val < 1 := (y 0).isLt
  have p0 : (place t y 0).val = t.val / 8 := rfl
  have p1 : (place t y 1).val = 256 * (t.val % 8) + (y 1).val := rfl
  have p2 : (place t y 2).val = (y 2).val := rfl
  blk_ext [ix_0]
  all_goals omega
theorem block1 (c : Dev nD) (t : Fin cfg0.N) (y : S1x256x1536.Idx) : iblk m c 1 t y = m ((c : Thread nD τ).loc main_arg1) (place t y) := by
  blk_simp [iblk]
  congr 1
  have h0 : (y 0).val < 1 := (y 0).isLt
  have p0 : (place t y 0).val = t.val / 8 := rfl
  have p1 : (place t y 1).val = 256 * (t.val % 8) + (y 1).val := rfl
  have p2 : (place t y 2).val = (y 2).val := rfl
  blk_ext [ix_1]
  all_goals omega
theorem block2 (c : Dev nD) (t : Fin cfg0.N) (y : S1x256x1536.Idx) : iblk m c 2 t y = m ((c : Thread nD τ).loc main_arg2) (place t y) := by
  blk_simp [iblk]
  congr 1
  have h0 : (y 0).val < 1 := (y 0).isLt
  have p0 : (place t y 0).val = t.val / 8 := rfl
  have p1 : (place t y 1).val = 256 * (t.val % 8) + (y 1).val := rfl
  have p2 : (place t y 2).val = (y 2).val := rfl
  blk_ext [ix_2]
  all_goals omega

section Results

variable (c : Dev nD)

/-- The gradient the call leaves, -/
abbrev G : FVec Ideal S4x2048x1536 .f32 := grad (m ((c : Thread nD τ).loc main_arg3)) (m ((c : Thread nD τ).loc main_arg4))
/-- the first moment, -/
abbrev M : FVec Ideal S4x2048x1536 .f32 := fun i => first (m ((c : Thread nD τ).loc main_arg1) i) (G m c i)
/-- the second moment, -/
abbrev S : FVec Ideal S4x2048x1536 .f32 := fun i => second (m ((c : Thread nD τ).loc main_arg2) i) (G m c i)
/-- and the change of the weight. -/
abbrev D : FVec Ideal S4x2048x1536 .f32 := fun i => change (m ((c : Thread nD τ).loc main_arg0) i) (M m c i) (S m c i)

theorem final5 : (dats m 0 c).arrAt 5 cfg0.N = G m c := by
  refine (dats m 0 c).arrAt_eq_of_covers 5 _ (by decide +kernel) fun t hf y => ?_
  blk_simp
  rw [after0_5, out5, tile_block]
  congr 1
  have h0 : (y 0).val < 1 := (y 0).isLt
  have p0 : (place t y 0).val = t.val / 8 := rfl
  have p1 : (place t y 1).val = 256 * (t.val % 8) + (y 1).val := rfl
  have p2 : (place t y 2).val = (y 2).val := rfl
  blk_ext [ix_5]
  all_goals omega
theorem final6 : (dats m 0 c).arrAt 6 cfg0.N = D m c := by
  refine (dats m 0 c).arrAt_eq_of_covers 6 _ (by decide +kernel) fun t hf y => ?_
  blk_simp
  rw [after0_6, out6, tile_block, block0, block1, block2]
  refine congrArg (D m c) ?_
  have h0 : (y 0).val < 1 := (y 0).isLt
  have p0 : (place t y 0).val = t.val / 8 := rfl
  have p1 : (place t y 1).val = 256 * (t.val % 8) + (y 1).val := rfl
  have p2 : (place t y 2).val = (y 2).val := rfl
  blk_ext [ix_6]
  all_goals omega
theorem final7 : (dats m 0 c).arrAt 7 cfg0.N = M m c := by
  refine (dats m 0 c).arrAt_eq_of_covers 7 _ (by decide +kernel) fun t hf y => ?_
  blk_simp
  rw [after0_7, out7, tile_block, block1]
  refine congrArg (M m c) ?_
  have h0 : (y 0).val < 1 := (y 0).isLt
  have p0 : (place t y 0).val = t.val / 8 := rfl
  have p1 : (place t y 1).val = 256 * (t.val % 8) + (y 1).val := rfl
  have p2 : (place t y 2).val = (y 2).val := rfl
  blk_ext [ix_7]
  all_goals omega
theorem final8 : (dats m 0 c).arrAt 8 cfg0.N = S m c := by
  refine (dats m 0 c).arrAt_eq_of_covers 8 _ (by decide +kernel) fun t hf y => ?_
  blk_simp
  rw [after0_8, out8, tile_block, block2]
  refine congrArg (S m c) ?_
  have h0 : (y 0).val < 1 := (y 0).isLt
  have p0 : (place t y 0).val = t.val / 8 := rfl
  have p1 : (place t y 1).val = 256 * (t.val % 8) + (y 1).val := rfl
  have p2 : (place t y 2).val = (y 2).val := rfl
  blk_ext [ix_8]
  all_goals omega

end Results

end Kernel

section Reference

open Cert.AdaStepRefIdeal Cert.AdaStepRefIdeal.Read

/-- The reference's gradient. -/
theorem ref_grad (u : FVec Ideal S8x2048 .f32) (d : FVec Ideal S8x4x1536 .f32) : val_main_v2 (F := Ideal) u d = grad u d := by
  funext i
  rw [val_main_v2_apply, val_main_v1_apply]
  refine Finset.sum_congr rfl fun k _ => (mul_comm _ _).trans (congrArg₂ (· * ·) (congrArg u ?_) (congrArg d ?_))
  · funext a; fin_cases a <;> rfl
  · funext a; fin_cases a <;> rfl

end Reference

theorem frame_kernel : Cert.quiescent_AdaStep := fun m ρ _ => Cert.AdaStep.Gen.frame m ρ
theorem frame_ideal : Cert.quiescent_AdaStepIdeal := fun m ρ _ => Cert.AdaStepIdeal.Gen.frame m ρ
theorem frame_ref : Cert.quiescent_AdaStepRefIdeal := fun m ρ _ =>
  (θ_run Cert.AdaStepRefIdeal.defs _ _).mono (fun r h => ⟨fun c => (h c).2.2.2.2, Idealize.ShloMosaic.sem_eq_zero_of_no_sems (by decide) r.2⟩)
    (Cert.AdaStepRefIdeal.Value.run (F := Ideal) m ρ)

theorem algebraic : Cert.algebraic_AdaStepIdeal_AdaStepRefIdeal := by
  intro m ρ m' ρ' _ hagree
  refine ⟨fun c => G m c, fun c => D m c, fun c => M m c, fun c => S m c, ?_, ?_⟩
  · exact (θ_run Cert.AdaStepIdeal.defs _ _).mono
      (fun _ h c => ⟨(h c).1.trans (final5 m c), (h c).2.1.trans (final6 m c), (h c).2.2.1.trans (final7 m c),
        (h c).2.2.2.1.trans (final8 m c), (h c).2.2.2.2⟩)
      (Cert.AdaStepIdeal.Value.run_blocks (F := Ideal) m ρ)
  · refine (θ_run Cert.AdaStepRefIdeal.defs _ _).mono
      (fun _ h c => ⟨(h c).1.trans ?_, (h c).2.1.trans ?_, (h c).2.2.1.trans ?_, (h c).2.2.2.1.trans ?_, (h c).2.2.2.2⟩)
      (Cert.AdaStepRefIdeal.Value.run (F := Ideal) m' ρ')
    all_goals
      have hg := (ref_grad _ _).trans (congrArg₂ grad (hagree c).2.2.2.1 (hagree c).2.2.2.2)
    · exact hg
    · exact host_change _ (hagree c).1 (host_first _ (hagree c).2.1 hg) (host_second _ (hagree c).2.2.1 hg)
    · exact host_first _ (hagree c).2.1 hg
    · exact host_second _ (hagree c).2.2.1 hg

end Cert.Proof.AdaStep

end
-- ==== Proof.Step.Head.lean ====
/-
  The optimiser's step of the head norms' weights. The call takes the four layers' rows padded with zeros to eight; its grid has one
  point; the padding's rows are cut off afterwards.
-/
module

public import proofs.«01_k».proof.Defs
public import proofs.«01_k».proof.Proof.Gen.HeadStep.Frame
public import proofs.«01_k».proof.Proof.Gen.HeadStepIdeal.Frame
public import proofs.«01_k».proof.Proof.Gen.HeadStepRefIdeal.Run
public import proofs.«01_k».proof.Proof.Gen.HeadStepRefIdeal.Read
public import proofs.«01_k».proof.Proof.Step.Rows
public import Idealize.ShloMosaic.Lib.Pointwise
public import Idealize.ShloMosaic.Lib.Claim
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.HeadStep

open Cert.Proof.Step

section Kernel

open Cert.HeadStepIdeal Cert.HeadStepIdeal.Gen

/-- Reading a whole block is the block. -/
theorem whole (x : Vec Ideal S8x1024 .f32) : shapeCast S8x1024 (View.ld x r0_8) shapeCasts_S8x1024_S8x1024 = x := by
  rw [View.ld_unit_zero (S := S8x1024) (funext fun a => by fin_cases a <;> rfl)]
  exact shapeCast_self _ _

section Payload

variable (x0 x1 x2 : Vec Ideal S8x1024 .f32) (x3 : Vec Ideal S8x8x1024 .f32)

/-- The parts added up, -/
theorem out4 (y : S8x1024.Idx) : out0_4 x0 x1 x2 x3 y = word 0x00000000#32 + ∑ k : Fin 8, x3 (ix3 k (y 0) (y 1)) := by
  rw [← sum_eight]
  unfold_out out0_4
  frame_out
  pointwise [k0_pay4]

/-- the first moment, -/
theorem out6 (y : S8x1024.Idx) : out0_6 x0 x1 x2 x3 y = first (x1 y) (out0_4 x0 x1 x2 x3 y) := by
  unfold out0_6 out0_4
  frame_out
  rw [show k0_pay9 x0 x1 x2 x3 = x1 from whole x1]
  rfl

/-- the second moment, -/
theorem out7 (y : S8x1024.Idx) : out0_7 x0 x1 x2 x3 y = second (x2 y) (out0_4 x0 x1 x2 x3 y) := by
  unfold out0_7 out0_4
  frame_out
  rw [show k0_pay10 x0 x1 x2 x3 = x2 from whole x2]
  rfl

/-- and the change of the weight. -/
theorem out5 (y : S8x1024.Idx) : out0_5 x0 x1 x2 x3 y = change (x0 y) (out0_6 x0 x1 x2 x3 y) (out0_7 x0 x1 x2 x3 y) := by
  unfold out0_5 out0_6 out0_7
  frame_out
  rw [show k0_pay5 x0 = x0 from shapeCast_self _ _]
  rfl

end Payload

variable (m : (ℓ : Loc nD τ sig) → Buf (Elt Ideal) ℓ)

/-- Every window is at its one block. -/
theorem ix : ∀ t : Fin cfg0.N, win0_0.index t = ![0, 0] ∧ win0_1.index t = ![0, 0] ∧ win0_2.index t = ![0, 0] ∧ win0_3.index t = ![0, 0, 0]
      ∧ win0_4.index t = ![0, 0] ∧ win0_5.index t = ![0, 0] ∧ win0_6.index t = ![0, 0] ∧ win0_7.index t = ![0, 0] :=
  (by decide +kernel : ∀ t : Fin grid0.N, win0_0.index t = ![0, 0] ∧ win0_1.index t = ![0, 0] ∧ win0_2.index t = ![0, 0] ∧ win0_3.index t = ![0, 0, 0]
      ∧ win0_4.index t = ![0, 0] ∧ win0_5.index t = ![0, 0] ∧ win0_6.index t = ![0, 0] ∧ win0_7.index t = ![0, 0])

variable (c : Dev nD)

theorem blocks (t : Fin cfg0.N) : iblk m c 0 t = V m c main_v2 ∧ iblk m c 1 t = V m c main_v5 ∧ iblk m c 2 t = V m c main_v8
    ∧ iblk m c 3 t = V m c main_v9 := by
  obtain ⟨i0, i1, i2, i3, -⟩ := ix t
  refine ⟨?_, ?_, ?_, ?_⟩
  all_goals
    funext y
    blk_simp [iblk]
    congr 1
    blk_ext [i0, i1, i2, i3]

/-- The grid's one point leaves the results whole. -/
theorem finals : (dats m 0 c).arrAt 4 cfg0.N = out0_4 (V m c main_v2) (V m c main_v5) (V m c main_v8) (V m c main_v9)
    ∧ (dats m 0 c).arrAt 5 cfg0.N = out0_5 (V m c main_v2) (V m c main_v5) (V m c main_v8) (V m c main_v9)
    ∧ (dats m 0 c).arrAt 6 cfg0.N = out0_6 (V m c main_v2) (V m c main_v5) (V m c main_v8) (V m c main_v9)
    ∧ (dats m 0 c).arrAt 7 cfg0.N = out0_7 (V m c main_v2) (V m c main_v5) (V m c main_v8) (V m c main_v9) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    first | rw [after0_4] | rw [after0_5] | rw [after0_6] | rw [after0_7]
    obtain ⟨b0, b1, b2, b3⟩ := blocks m c t
    obtain ⟨-, -, -, -, i4, i5, i6, i7⟩ := ix t
    rw [b0, b1, b2, b3]
    congr 1
    blk_ext [i4, i5, i6, i7]

/-- The arrays the call takes, at the four rows. -/
theorem entries : (∀ i, V m c main_v2 (at8 i) = m ((c : Thread nD τ).loc main_arg0) i)
    ∧ (∀ i, V m c main_v5 (at8 i) = m ((c : Thread nD τ).loc main_arg1) i)
    ∧ (∀ i, V m c main_v8 (at8 i) = m ((c : Thread nD τ).loc main_arg2) i)
    ∧ ∀ k (i : S4x1024.Idx), V m c main_v9 (ix3 k (at8 i 0) (at8 i 1)) = m ((c : Thread nD τ).loc main_arg3) (ix3 k (i 0) (i 1)) := by
  unfold V V0
  simp only [hostOps0, hostOps0_1, hostOps0_2, hostOps0_3, hostOps0_4, hostOps0_5, hostOps0_6, hostOps0_7, List.flatten_cons,
    List.flatten_nil, List.append_nil, List.cons_append, List.nil_append]
  after_results_simp
  have e := fun x v => padded (C := 1024) v h_S_ x bcast_S4x1024_S1x4x1024_1_2 pads_S1x4x1024_S1x8x1024_000_040_000 shapeCasts_S1x8x1024_S8x1024
  exact ⟨e _ _, e _ _, e _ _, fun k i => parts_apply (C := 1024) _ h_S_ _ pads_S8x4x1024_S8x8x1024_000_040_000 k (i 0) (i 1)⟩

theorem arrays_inj : Function.Injective (Pipeline.arrRef spec0) := by decide

/-! The results: the rows cut out of the four arrays. -/

abbrev G : FVec Ideal S4x1024 .f32 := grad (m ((c : Thread nD τ).loc main_arg3))
abbrev M : FVec Ideal S4x1024 .f32 := moment (m ((c : Thread nD τ).loc main_arg1)) (m ((c : Thread nD τ).loc main_arg3))
abbrev S : FVec Ideal S4x1024 .f32 := square (m ((c : Thread nD τ).loc main_arg2)) (m ((c : Thread nD τ).loc main_arg3))
abbrev D : FVec Ideal S4x1024 .f32 := delta (m ((c : Thread nD τ).loc main_arg0)) (m ((c : Thread nD τ).loc main_arg1))
  (m ((c : Thread nD τ).loc main_arg2)) (m ((c : Thread nD τ).loc main_arg3))

theorem results : Pipeline.afterTail₀ cfgs (dats m) 0 (V0 m) [hostOps1] c main_v11 = G m c
    ∧ Pipeline.afterTail₀ cfgs (dats m) 0 (V0 m) [hostOps1] c main_v12 = D m c
    ∧ Pipeline.afterTail₀ cfgs (dats m) 0 (V0 m) [hostOps1] c main_v13 = M m c
    ∧ Pipeline.afterTail₀ cfgs (dats m) 0 (V0 m) [hostOps1] c main_v14 = S m c := by
  obtain ⟨h0, h1, h2, h3⟩ := entries m c
  obtain ⟨f4, f5, f6, f7⟩ := finals m c
  obtain ⟨r4, r5, r6, r7⟩ := step_rows h0 h1 h2 h3 (out4 _ _ _ _) (out5 _ _ _ _) (out6 _ _ _ _) (out7 _ _ _ _)
  unfold Pipeline.afterTail₀
  simp only [hostOps1, List.flatten_cons, List.flatten_nil, List.append_nil, List.cons_append, List.nil_append]
  after_results_simp
  exact ⟨sliced _ ((Pipeline.withArrays_arr spec0 arrays_inj c (V0 m c) _ 4).trans f4) r4,
    sliced _ ((Pipeline.withArrays_arr spec0 arrays_inj c (V0 m c) _ 5).trans f5) r5,
    sliced _ ((Pipeline.withArrays_arr spec0 arrays_inj c (V0 m c) _ 6).trans f6) r6,
    sliced _ ((Pipeline.withArrays_arr spec0 arrays_inj c (V0 m c) _ 7).trans f7) r7⟩

end Kernel

/-- The reference's gradient. -/
theorem ref_grad (p : FVec Ideal Cert.HeadStepRefIdeal.S8x4x1024 .f32) : Cert.HeadStepRefIdeal.Read.val_main_v0 (F := Ideal) p = grad p := by
  funext i
  rw [Cert.HeadStepRefIdeal.Read.val_main_v0_apply]
  refine congrArg (_ + ·) (Finset.sum_congr rfl fun k _ => congrArg p ?_)
  funext a; fin_cases a <;> rfl

theorem frame_kernel : Cert.quiescent_HeadStep := fun m ρ _ => Cert.HeadStep.Gen.frame m ρ
theorem frame_ideal : Cert.quiescent_HeadStepIdeal := fun m ρ _ => Cert.HeadStepIdeal.Gen.frame m ρ
theorem frame_ref : Cert.quiescent_HeadStepRefIdeal := fun m ρ _ =>
  (θ_run Cert.HeadStepRefIdeal.defs _ _).mono (fun r h => ⟨fun c => (h c).2.2.2.2, Idealize.ShloMosaic.sem_eq_zero_of_no_sems (by decide) r.2⟩)
    (Cert.HeadStepRefIdeal.Value.run (F := Ideal) m ρ)

open Cert.HeadStepIdeal Cert.HeadStepIdeal.Gen in
theorem algebraic : Cert.algebraic_HeadStepIdeal_HeadStepRefIdeal := by
  intro m ρ m' ρ' _ hagree
  refine ⟨fun c => G m c, fun c => D m c, fun c => M m c, fun c => S m c, ?_, ?_⟩
  · refine (θ_run defs _ _).mono (fun r h c => ?_) (θ_run_and (run_main (F := Ideal) m ρ) (unchanged (F := Ideal) m ρ))
    exact ⟨((h.1 c).2 main_v11 (Pipeline.mem_restRefs_of main_v11 (by decide) (by decide))).trans (results m c).1,
      ((h.1 c).2 main_v12 (Pipeline.mem_restRefs_of main_v12 (by decide) (by decide))).trans (results m c).2.1,
      ((h.1 c).2 main_v13 (Pipeline.mem_restRefs_of main_v13 (by decide) (by decide))).trans (results m c).2.2.1,
      ((h.1 c).2 main_v14 (Pipeline.mem_restRefs_of main_v14 (by decide) (by decide))).trans (results m c).2.2.2, h.2 c⟩
  · refine (θ_run Cert.HeadStepRefIdeal.defs _ _).mono
      (fun _ h c => ⟨(h c).1.trans ?_, (h c).2.1.trans ?_, (h c).2.2.1.trans ?_, (h c).2.2.2.1.trans ?_, (h c).2.2.2.2⟩)
      (Cert.HeadStepRefIdeal.Value.run (F := Ideal) m' ρ')
    all_goals
      have hg := (ref_grad _).trans (congrArg grad (hagree c).2.2.2)
    · exact hg
    · exact host_change _ (hagree c).1 (host_first _ (hagree c).2.1 hg) (host_second _ (hagree c).2.2.1 hg)
    · exact host_first _ (hagree c).2.1 hg
    · exact host_second _ (hagree c).2.2.1 hg

end Cert.Proof.HeadStep
-- ==== Proof.Step.Qk.lean ====
/-
  The optimiser's step of the queries' and the keys' norm weights. The call takes the four layers' rows padded with zeros to eight; its grid has one
  point; the padding's rows are cut off afterwards.
-/
module

public import proofs.«01_k».proof.Defs
public import proofs.«01_k».proof.Proof.Gen.QkStep.Frame
public import proofs.«01_k».proof.Proof.Gen.QkStepIdeal.Frame
public import proofs.«01_k».proof.Proof.Gen.QkStepRefIdeal.Run
public import proofs.«01_k».proof.Proof.Gen.QkStepRefIdeal.Read
public import proofs.«01_k».proof.Proof.Step.Rows
public import Idealize.ShloMosaic.Lib.Pointwise
public import Idealize.ShloMosaic.Lib.Claim
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.QkStep

open Cert.Proof.Step

section Kernel

open Cert.QkStepIdeal Cert.QkStepIdeal.Gen

/-- Reading a whole block is the block. -/
theorem whole (x : Vec Ideal S8x128 .f32) : shapeCast S8x128 (View.ld x r0_8) shapeCasts_S8x128_S8x128 = x := by
  rw [View.ld_unit_zero (S := S8x128) (funext fun a => by fin_cases a <;> rfl)]
  exact shapeCast_self _ _

section Payload

variable (x0 x1 x2 : Vec Ideal S8x128 .f32) (x3 : Vec Ideal S8x8x128 .f32)

/-- The parts added up, -/
theorem out4 (y : S8x128.Idx) : out0_4 x0 x1 x2 x3 y = word 0x00000000#32 + ∑ k : Fin 8, x3 (ix3 k (y 0) (y 1)) := by
  rw [← sum_eight]
  unfold_out out0_4
  frame_out
  pointwise [k0_pay4]

/-- the first moment, -/
theorem out6 (y : S8x128.Idx) : out0_6 x0 x1 x2 x3 y = first (x1 y) (out0_4 x0 x1 x2 x3 y) := by
  unfold out0_6 out0_4
  frame_out
  rw [show k0_pay9 x0 x1 x2 x3 = x1 from whole x1]
  rfl

/-- the second moment, -/
theorem out7 (y : S8x128.Idx) : out0_7 x0 x1 x2 x3 y = second (x2 y) (out0_4 x0 x1 x2 x3 y) := by
  unfold out0_7 out0_4
  frame_out
  rw [show k0_pay10 x0 x1 x2 x3 = x2 from whole x2]
  rfl

/-- and the change of the weight. -/
theorem out5 (y : S8x128.Idx) : out0_5 x0 x1 x2 x3 y = change (x0 y) (out0_6 x0 x1 x2 x3 y) (out0_7 x0 x1 x2 x3 y) := by
  unfold out0_5 out0_6 out0_7
  frame_out
  rw [show k0_pay5 x0 = x0 from shapeCast_self _ _]
  rfl

end Payload

variable (m : (ℓ : Loc nD τ sig) → Buf (Elt Ideal) ℓ)

/-- Every window is at its one block. -/
theorem ix : ∀ t : Fin cfg0.N, win0_0.index t = ![0, 0] ∧ win0_1.index t = ![0, 0] ∧ win0_2.index t = ![0, 0] ∧ win0_3.index t = ![0, 0, 0]
      ∧ win0_4.index t = ![0, 0] ∧ win0_5.index t = ![0, 0] ∧ win0_6.index t = ![0, 0] ∧ win0_7.index t = ![0, 0] :=
  (by decide +kernel : ∀ t : Fin grid0.N, win0_0.index t = ![0, 0] ∧ win0_1.index t = ![0, 0] ∧ win0_2.index t = ![0, 0] ∧ win0_3.index t = ![0, 0, 0]
      ∧ win0_4.index t = ![0, 0] ∧ win0_5.index t = ![0, 0] ∧ win0_6.index t = ![0, 0] ∧ win0_7.index t = ![0, 0])

variable (c : Dev nD)

theorem blocks (t : Fin cfg0.N) : iblk m c 0 t = V m c main_v2 ∧ iblk m c 1 t = V m c main_v5 ∧ iblk m c 2 t = V m c main_v8
    ∧ iblk m c 3 t = V m c main_v9 := by
  obtain ⟨i0, i1, i2, i3, -⟩ := ix t
  refine ⟨?_, ?_, ?_, ?_⟩
  all_goals
    funext y
    blk_simp [iblk]
    congr 1
    blk_ext [i0, i1, i2, i3]

/-- The grid's one point leaves the results whole. -/
theorem finals : (dats m 0 c).arrAt 4 cfg0.N = out0_4 (V m c main_v2) (V m c main_v5) (V m c main_v8) (V m c main_v9)
    ∧ (dats m 0 c).arrAt 5 cfg0.N = out0_5 (V m c main_v2) (V m c main_v5) (V m c main_v8) (V m c main_v9)
    ∧ (dats m 0 c).arrAt 6 cfg0.N = out0_6 (V m c main_v2) (V m c main_v5) (V m c main_v8) (V m c main_v9)
    ∧ (dats m 0 c).arrAt 7 cfg0.N = out0_7 (V m c main_v2) (V m c main_v5) (V m c main_v8) (V m c main_v9) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    first | rw [after0_4] | rw [after0_5] | rw [after0_6] | rw [after0_7]
    obtain ⟨b0, b1, b2, b3⟩ := blocks m c t
    obtain ⟨-, -, -, -, i4, i5, i6, i7⟩ := ix t
    rw [b0, b1, b2, b3]
    congr 1
    blk_ext [i4, i5, i6, i7]

/-- The arrays the call takes, at the four rows. -/
theorem entries : (∀ i, V m c main_v2 (at8 i) = m ((c : Thread nD τ).loc main_arg0) i)
    ∧ (∀ i, V m c main_v5 (at8 i) = m ((c : Thread nD τ).loc main_arg1) i)
    ∧ (∀ i, V m c main_v8 (at8 i) = m ((c : Thread nD τ).loc main_arg2) i)
    ∧ ∀ k (i : S4x128.Idx), V m c main_v9 (ix3 k (at8 i 0) (at8 i 1)) = m ((c : Thread nD τ).loc main_arg3) (ix3 k (i 0) (i 1)) := by
  unfold V V0
  simp only [hostOps0, hostOps0_1, hostOps0_2, hostOps0_3, hostOps0_4, hostOps0_5, hostOps0_6, hostOps0_7, List.flatten_cons,
    List.flatten_nil, List.append_nil, List.cons_append, List.nil_append]
  after_results_simp
  have e := fun x v => padded (C := 128) v h_S_ x bcast_S4x128_S1x4x128_1_2 pads_S1x4x128_S1x8x128_000_040_000 shapeCasts_S1x8x128_S8x128
  exact ⟨e _ _, e _ _, e _ _, fun k i => parts_apply (C := 128) _ h_S_ _ pads_S8x4x128_S8x8x128_000_040_000 k (i 0) (i 1)⟩

theorem arrays_inj : Function.Injective (Pipeline.arrRef spec0) := by decide

/-! The results: the rows cut out of the four arrays. -/

abbrev G : FVec Ideal S4x128 .f32 := grad (m ((c : Thread nD τ).loc main_arg3))
abbrev M : FVec Ideal S4x128 .f32 := moment (m ((c : Thread nD τ).loc main_arg1)) (m ((c : Thread nD τ).loc main_arg3))
abbrev S : FVec Ideal S4x128 .f32 := square (m ((c : Thread nD τ).loc main_arg2)) (m ((c : Thread nD τ).loc main_arg3))
abbrev D : FVec Ideal S4x128 .f32 := delta (m ((c : Thread nD τ).loc main_arg0)) (m ((c : Thread nD τ).loc main_arg1))
  (m ((c : Thread nD τ).loc main_arg2)) (m ((c : Thread nD τ).loc main_arg3))

theorem results : Pipeline.afterTail₀ cfgs (dats m) 0 (V0 m) [hostOps1] c main_v11 = G m c
    ∧ Pipeline.afterTail₀ cfgs (dats m) 0 (V0 m) [hostOps1] c main_v12 = D m c
    ∧ Pipeline.afterTail₀ cfgs (dats m) 0 (V0 m) [hostOps1] c main_v13 = M m c
    ∧ Pipeline.afterTail₀ cfgs (dats m) 0 (V0 m) [hostOps1] c main_v14 = S m c := by
  obtain ⟨h0, h1, h2, h3⟩ := entries m c
  obtain ⟨f4, f5, f6, f7⟩ := finals m c
  obtain ⟨r4, r5, r6, r7⟩ := step_rows h0 h1 h2 h3 (out4 _ _ _ _) (out5 _ _ _ _) (out6 _ _ _ _) (out7 _ _ _ _)
  unfold Pipeline.afterTail₀
  simp only [hostOps1, List.flatten_cons, List.flatten_nil, List.append_nil, List.cons_append, List.nil_append]
  after_results_simp
  exact ⟨sliced _ ((Pipeline.withArrays_arr spec0 arrays_inj c (V0 m c) _ 4).trans f4) r4,
    sliced _ ((Pipeline.withArrays_arr spec0 arrays_inj c (V0 m c) _ 5).trans f5) r5,
    sliced _ ((Pipeline.withArrays_arr spec0 arrays_inj c (V0 m c) _ 6).trans f6) r6,
    sliced _ ((Pipeline.withArrays_arr spec0 arrays_inj c (V0 m c) _ 7).trans f7) r7⟩

end Kernel

/-- The reference's gradient. -/
theorem ref_grad (p : FVec Ideal Cert.QkStepRefIdeal.S8x4x128 .f32) : Cert.QkStepRefIdeal.Read.val_main_v0 (F := Ideal) p = grad p := by
  funext i
  rw [Cert.QkStepRefIdeal.Read.val_main_v0_apply]
  refine congrArg (_ + ·) (Finset.sum_congr rfl fun k _ => congrArg p ?_)
  funext a; fin_cases a <;> rfl

theorem frame_kernel : Cert.quiescent_QkStep := fun m ρ _ => Cert.QkStep.Gen.frame m ρ
theorem frame_ideal : Cert.quiescent_QkStepIdeal := fun m ρ _ => Cert.QkStepIdeal.Gen.frame m ρ
theorem frame_ref : Cert.quiescent_QkStepRefIdeal := fun m ρ _ =>
  (θ_run Cert.QkStepRefIdeal.defs _ _).mono (fun r h => ⟨fun c => (h c).2.2.2.2, Idealize.ShloMosaic.sem_eq_zero_of_no_sems (by decide) r.2⟩)
    (Cert.QkStepRefIdeal.Value.run (F := Ideal) m ρ)

open Cert.QkStepIdeal Cert.QkStepIdeal.Gen in
theorem algebraic : Cert.algebraic_QkStepIdeal_QkStepRefIdeal := by
  intro m ρ m' ρ' _ hagree
  refine ⟨fun c => G m c, fun c => D m c, fun c => M m c, fun c => S m c, ?_, ?_⟩
  · refine (θ_run defs _ _).mono (fun r h c => ?_) (θ_run_and (run_main (F := Ideal) m ρ) (unchanged (F := Ideal) m ρ))
    exact ⟨((h.1 c).2 main_v11 (Pipeline.mem_restRefs_of main_v11 (by decide) (by decide))).trans (results m c).1,
      ((h.1 c).2 main_v12 (Pipeline.mem_restRefs_of main_v12 (by decide) (by decide))).trans (results m c).2.1,
      ((h.1 c).2 main_v13 (Pipeline.mem_restRefs_of main_v13 (by decide) (by decide))).trans (results m c).2.2.1,
      ((h.1 c).2 main_v14 (Pipeline.mem_restRefs_of main_v14 (by decide) (by decide))).trans (results m c).2.2.2, h.2 c⟩
  · refine (θ_run Cert.QkStepRefIdeal.defs _ _).mono
      (fun _ h c => ⟨(h c).1.trans ?_, (h c).2.1.trans ?_, (h c).2.2.1.trans ?_, (h c).2.2.2.1.trans ?_, (h c).2.2.2.2⟩)
      (Cert.QkStepRefIdeal.Value.run (F := Ideal) m' ρ')
    all_goals
      have hg := (ref_grad _).trans (congrArg grad (hagree c).2.2.2)
    · exact hg
    · exact host_change _ (hagree c).1 (host_first _ (hagree c).2.1 hg) (host_second _ (hagree c).2.2.1 hg)
    · exact host_first _ (hagree c).2.1 hg
    · exact host_second _ (hagree c).2.2.1 hg

end Cert.Proof.QkStep
-- ==== Proof.Step.Bias.lean ====
/-
  The optimiser's step of the conditioning's bias. The call takes the four layers' rows padded with zeros to eight; its grid has one
  point; the padding's rows are cut off afterwards.
-/
module

public import proofs.«01_k».proof.Defs
public import proofs.«01_k».proof.Proof.Gen.BiasStep.Frame
public import proofs.«01_k».proof.Proof.Gen.BiasStepIdeal.Frame
public import proofs.«01_k».proof.Proof.Gen.BiasStepRefIdeal.Run
public import proofs.«01_k».proof.Proof.Gen.BiasStepRefIdeal.Read
public import proofs.«01_k».proof.Proof.Step.Rows
public import Idealize.ShloMosaic.Lib.Pointwise
public import Idealize.ShloMosaic.Lib.Claim
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.Proof.BiasStep

open Cert.Proof.Step

section Kernel

open Cert.BiasStepIdeal Cert.BiasStepIdeal.Gen

/-- Reading a whole block is the block. -/
theorem whole (x : Vec Ideal S8x12288 .f32) : shapeCast S8x12288 (View.ld x r0_8) shapeCasts_S8x12288_S8x12288 = x := by
  rw [View.ld_unit_zero (S := S8x12288) (funext fun a => by fin_cases a <;> rfl)]
  exact shapeCast_self _ _

section Payload

variable (x0 x1 x2 : Vec Ideal S8x12288 .f32) (x3 : Vec Ideal S8x8x12288 .f32)

/-- The parts added up, -/
theorem out4 (y : S8x12288.Idx) : out0_4 x0 x1 x2 x3 y = word 0x00000000#32 + ∑ k : Fin 8, x3 (ix3 k (y 0) (y 1)) := by
  rw [← sum_eight]
  unfold_out out0_4
  frame_out
  pointwise [k0_pay4]

/-- the first moment, -/
theorem out6 (y : S8x12288.Idx) : out0_6 x0 x1 x2 x3 y = first (x1 y) (out0_4 x0 x1 x2 x3 y) := by
  unfold out0_6 out0_4
  frame_out
  rw [show k0_pay9 x0 x1 x2 x3 = x1 from whole x1]
  rfl

/-- the second moment, -/
theorem out7 (y : S8x12288.Idx) : out0_7 x0 x1 x2 x3 y = second (x2 y) (out0_4 x0 x1 x2 x3 y) := by
  unfold out0_7 out0_4
  frame_out
  rw [show k0_pay10 x0 x1 x2 x3 = x2 from whole x2]
  rfl

/-- and the change of the weight. -/
theorem out5 (y : S8x12288.Idx) : out0_5 x0 x1 x2 x3 y = change (x0 y) (out0_6 x0 x1 x2 x3 y) (out0_7 x0 x1 x2 x3 y) := by
  unfold out0_5 out0_6 out0_7
  frame_out
  rw [show k0_pay5 x0 = x0 from shapeCast_self _ _]
  rfl

end Payload

variable (m : (ℓ : Loc nD τ sig) → Buf (Elt Ideal) ℓ)

/-- Every window is at its one block. -/
theorem ix : ∀ t : Fin cfg0.N, win0_0.index t = ![0, 0] ∧ win0_1.index t = ![0, 0] ∧ win0_2.index t = ![0, 0] ∧ win0_3.index t = ![0, 0, 0]
      ∧ win0_4.index t = ![0, 0] ∧ win0_5.index t = ![0, 0] ∧ win0_6.index t = ![0, 0] ∧ win0_7.index t = ![0, 0] :=
  (by decide +kernel : ∀ t : Fin grid0.N, win0_0.index t = ![0, 0] ∧ win0_1.index t = ![0, 0] ∧ win0_2.index t = ![0, 0] ∧ win0_3.index t = ![0, 0, 0]
      ∧ win0_4.index t = ![0, 0] ∧ win0_5.index t = ![0, 0] ∧ win0_6.index t = ![0, 0] ∧ win0_7.index t = ![0, 0])

variable (c : Dev nD)

theorem blocks (t : Fin cfg0.N) : iblk m c 0 t = V m c main_v2 ∧ iblk m c 1 t = V m c main_v5 ∧ iblk m c 2 t = V m c main_v8
    ∧ iblk m c 3 t = V m c main_v9 := by
  obtain ⟨i0, i1, i2, i3, -⟩ := ix t
  refine ⟨?_, ?_, ?_, ?_⟩
  all_goals
    funext y
    blk_simp [iblk]
    congr 1
    blk_ext [i0, i1, i2, i3]

/-- The grid's one point leaves the results whole. -/
theorem finals : (dats m 0 c).arrAt 4 cfg0.N = out0_4 (V m c main_v2) (V m c main_v5) (V m c main_v8) (V m c main_v9)
    ∧ (dats m 0 c).arrAt 5 cfg0.N = out0_5 (V m c main_v2) (V m c main_v5) (V m c main_v8) (V m c main_v9)
    ∧ (dats m 0 c).arrAt 6 cfg0.N = out0_6 (V m c main_v2) (V m c main_v5) (V m c main_v8) (V m c main_v9)
    ∧ (dats m 0 c).arrAt 7 cfg0.N = out0_7 (V m c main_v2) (V m c main_v5) (V m c main_v8) (V m c main_v9) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    first | rw [after0_4] | rw [after0_5] | rw [after0_6] | rw [after0_7]
    obtain ⟨b0, b1, b2, b3⟩ := blocks m c t
    obtain ⟨-, -, -, -, i4, i5, i6, i7⟩ := ix t
    rw [b0, b1, b2, b3]
    congr 1
    blk_ext [i4, i5, i6, i7]

/-- The arrays the call takes, at the four rows. -/
theorem entries : (∀ i, V m c main_v2 (at8 i) = m ((c : Thread nD τ).loc main_arg0) i)
    ∧ (∀ i, V m c main_v5 (at8 i) = m ((c : Thread nD τ).loc main_arg1) i)
    ∧ (∀ i, V m c main_v8 (at8 i) = m ((c : Thread nD τ).loc main_arg2) i)
    ∧ ∀ k (i : S4x12288.Idx), V m c main_v9 (ix3 k (at8 i 0) (at8 i 1)) = m ((c : Thread nD τ).loc main_arg3) (ix3 k (i 0) (i 1)) := by
  unfold V V0
  simp only [hostOps0, hostOps0_1, hostOps0_2, hostOps0_3, hostOps0_4, hostOps0_5, hostOps0_6, hostOps0_7, List.flatten_cons,
    List.flatten_nil, List.append_nil, List.cons_append, List.nil_append]
  after_results_simp
  have e := fun x v => padded (C := 12288) v h_S_ x bcast_S4x12288_S1x4x12288_1_2 pads_S1x4x12288_S1x8x12288_000_040_000 shapeCasts_S1x8x12288_S8x12288
  exact ⟨e _ _, e _ _, e _ _, fun k i => parts_apply (C := 12288) _ h_S_ _ pads_S8x4x12288_S8x8x12288_000_040_000 k (i 0) (i 1)⟩

theorem arrays_inj : Function.Injective (Pipeline.arrRef spec0) := by decide

/-! The results: the rows cut out of the four arrays. -/

abbrev G : FVec Ideal S4x12288 .f32 := grad (m ((c : Thread nD τ).loc main_arg3))
abbrev M : FVec Ideal S4x12288 .f32 := moment (m ((c : Thread nD τ).loc main_arg1)) (m ((c : Thread nD τ).loc main_arg3))
abbrev S : FVec Ideal S4x12288 .f32 := square (m ((c : Thread nD τ).loc main_arg2)) (m ((c : Thread nD τ).loc main_arg3))
abbrev D : FVec Ideal S4x12288 .f32 := delta (m ((c : Thread nD τ).loc main_arg0)) (m ((c : Thread nD τ).loc main_arg1))
  (m ((c : Thread nD τ).loc main_arg2)) (m ((c : Thread nD τ).loc main_arg3))

theorem results : Pipeline.afterTail₀ cfgs (dats m) 0 (V0 m) [hostOps1] c main_v11 = G m c
    ∧ Pipeline.afterTail₀ cfgs (dats m) 0 (V0 m) [hostOps1] c main_v12 = D m c
    ∧ Pipeline.afterTail₀ cfgs (dats m) 0 (V0 m) [hostOps1] c main_v13 = M m c
    ∧ Pipeline.afterTail₀ cfgs (dats m) 0 (V0 m) [hostOps1] c main_v14 = S m c := by
  obtain ⟨h0, h1, h2, h3⟩ := entries m c
  obtain ⟨f4, f5, f6, f7⟩ := finals m c
  obtain ⟨r4, r5, r6, r7⟩ := step_rows h0 h1 h2 h3 (out4 _ _ _ _) (out5 _ _ _ _) (out6 _ _ _ _) (out7 _ _ _ _)
  unfold Pipeline.afterTail₀
  simp only [hostOps1, List.flatten_cons, List.flatten_nil, List.append_nil, List.cons_append, List.nil_append]
  after_results_simp
  exact ⟨sliced _ ((Pipeline.withArrays_arr spec0 arrays_inj c (V0 m c) _ 4).trans f4) r4,
    sliced _ ((Pipeline.withArrays_arr spec0 arrays_inj c (V0 m c) _ 5).trans f5) r5,
    sliced _ ((Pipeline.withArrays_arr spec0 arrays_inj c (V0 m c) _ 6).trans f6) r6,
    sliced _ ((Pipeline.withArrays_arr spec0 arrays_inj c (V0 m c) _ 7).trans f7) r7⟩

end Kernel

/-- The reference's gradient. -/
theorem ref_grad (p : FVec Ideal Cert.BiasStepRefIdeal.S8x4x12288 .f32) : Cert.BiasStepRefIdeal.Read.val_main_v0 (F := Ideal) p = grad p := by
  funext i
  rw [Cert.BiasStepRefIdeal.Read.val_main_v0_apply]
  refine congrArg (_ + ·) (Finset.sum_congr rfl fun k _ => congrArg p ?_)
  funext a; fin_cases a <;> rfl

theorem frame_kernel : Cert.quiescent_BiasStep := fun m ρ _ => Cert.BiasStep.Gen.frame m ρ
theorem frame_ideal : Cert.quiescent_BiasStepIdeal := fun m ρ _ => Cert.BiasStepIdeal.Gen.frame m ρ
theorem frame_ref : Cert.quiescent_BiasStepRefIdeal := fun m ρ _ =>
  (θ_run Cert.BiasStepRefIdeal.defs _ _).mono (fun r h => ⟨fun c => (h c).2.2.2.2, Idealize.ShloMosaic.sem_eq_zero_of_no_sems (by decide) r.2⟩)
    (Cert.BiasStepRefIdeal.Value.run (F := Ideal) m ρ)

open Cert.BiasStepIdeal Cert.BiasStepIdeal.Gen in
theorem algebraic : Cert.algebraic_BiasStepIdeal_BiasStepRefIdeal := by
  intro m ρ m' ρ' _ hagree
  refine ⟨fun c => G m c, fun c => D m c, fun c => M m c, fun c => S m c, ?_, ?_⟩
  · refine (θ_run defs _ _).mono (fun r h c => ?_) (θ_run_and (run_main (F := Ideal) m ρ) (unchanged (F := Ideal) m ρ))
    exact ⟨((h.1 c).2 main_v11 (Pipeline.mem_restRefs_of main_v11 (by decide) (by decide))).trans (results m c).1,
      ((h.1 c).2 main_v12 (Pipeline.mem_restRefs_of main_v12 (by decide) (by decide))).trans (results m c).2.1,
      ((h.1 c).2 main_v13 (Pipeline.mem_restRefs_of main_v13 (by decide) (by decide))).trans (results m c).2.2.1,
      ((h.1 c).2 main_v14 (Pipeline.mem_restRefs_of main_v14 (by decide) (by decide))).trans (results m c).2.2.2, h.2 c⟩
  · refine (θ_run Cert.BiasStepRefIdeal.defs _ _).mono
      (fun _ h c => ⟨(h c).1.trans ?_, (h c).2.1.trans ?_, (h c).2.2.1.trans ?_, (h c).2.2.2.1.trans ?_, (h c).2.2.2.2⟩)
      (Cert.BiasStepRefIdeal.Value.run (F := Ideal) m' ρ')
    all_goals
      have hg := (ref_grad _).trans (congrArg grad (hagree c).2.2.2)
    · exact hg
    · exact host_change _ (hagree c).1 (host_first _ (hagree c).2.1 hg) (host_second _ (hagree c).2.2.1 hg)
    · exact host_first _ (hagree c).2.1 hg
    · exact host_second _ (hagree c).2.2.1 hg

end Cert.Proof.BiasStep
-- ==== Proof.lean ====
/-
  The claims of the certificate, put together: the gradient of the stick-breaking attention, the gradient of the SwiGLU gate, the
  products of the layers' projections with their gradients, and the optimiser's steps.
-/
module

public import proofs.«01_k».proof.Defs
public import proofs.«01_k».proof.Proof.Attn.Claim
public import proofs.«01_k».proof.Proof.Ffn.Claim
public import proofs.«01_k».proof.Proof.Prod.FfnOutW
public import proofs.«01_k».proof.Proof.Prod.FfnInW
public import proofs.«01_k».proof.Proof.Prod.ProjW
public import proofs.«01_k».proof.Proof.Prod.OutW
public import proofs.«01_k».proof.Proof.Prod.OutX
public import proofs.«01_k».proof.Proof.Prod.FfnInX
public import proofs.«01_k».proof.Proof.Prod.ProjX
public import proofs.«01_k».proof.Proof.Prod.FfnInFwd
public import proofs.«01_k».proof.Proof.Prod.ProjFwd
public import proofs.«01_k».proof.Proof.Step.Norm
public import proofs.«01_k».proof.Proof.Step.FfnIn
public import proofs.«01_k».proof.Proof.Step.Ada
public import proofs.«01_k».proof.Proof.Step.Head
public import proofs.«01_k».proof.Proof.Step.Qk
public import proofs.«01_k».proof.Proof.Step.Bias
public import Idealize.ShloMosaic.Adequacy
public import Idealize.ShloMosaic.Init

@[expose] public section

noncomputable section

namespace Cert.Proof

theorem claim : Cert.Claim :=
  ⟨Cert.AttnGrad.Gen.facts, Cert.AttnGradIdeal.Gen.facts, Cert.AttnGradRefIdeal.Gen.facts,
    Cert.SwigluGrad.Gen.facts, Cert.SwigluGradIdeal.Gen.facts, Cert.SwigluGradRefIdeal.Gen.facts,
    Cert.FfnOutGradW.Gen.facts, Cert.FfnOutGradWIdeal.Gen.facts, Cert.FfnOutGradWRefIdeal.Gen.facts,
    Cert.FfnInGradW.Gen.facts, Cert.FfnInGradWIdeal.Gen.facts, Cert.FfnInGradWRefIdeal.Gen.facts,
    Cert.ProjGradW.Gen.facts, Cert.ProjGradWIdeal.Gen.facts, Cert.ProjGradWRefIdeal.Gen.facts,
    Cert.OutGradW.Gen.facts, Cert.OutGradWIdeal.Gen.facts, Cert.OutGradWRefIdeal.Gen.facts,
    Cert.OutGradX.Gen.facts, Cert.OutGradXIdeal.Gen.facts, Cert.OutGradXRefIdeal.Gen.facts,
    Cert.FfnInGradX.Gen.facts, Cert.FfnInGradXIdeal.Gen.facts, Cert.FfnInGradXRefIdeal.Gen.facts,
    Cert.ProjGradX.Gen.facts, Cert.ProjGradXIdeal.Gen.facts, Cert.ProjGradXRefIdeal.Gen.facts,
    Cert.FfnIn.Gen.facts, Cert.FfnInIdeal.Gen.facts, Cert.FfnInRefIdeal.Gen.facts,
    Cert.Proj.Gen.facts, Cert.ProjIdeal.Gen.facts, Cert.ProjRefIdeal.Gen.facts,
    Cert.NormStep.Gen.facts, Cert.NormStepIdeal.Gen.facts, Cert.NormStepRefIdeal.Gen.facts,
    Cert.FfnInStep.Gen.facts, Cert.FfnInStepIdeal.Gen.facts, Cert.FfnInStepRefIdeal.Gen.facts,
    Cert.AdaStep.Gen.facts, Cert.AdaStepIdeal.Gen.facts, Cert.AdaStepRefIdeal.Gen.facts,
    Cert.HeadStep.Gen.facts, Cert.HeadStepIdeal.Gen.facts, Cert.HeadStepRefIdeal.Gen.facts,
    Cert.QkStep.Gen.facts, Cert.QkStepIdeal.Gen.facts, Cert.QkStepRefIdeal.Gen.facts,
    Cert.BiasStep.Gen.facts, Cert.BiasStepIdeal.Gen.facts, Cert.BiasStepRefIdeal.Gen.facts,
    Cert.Pre_attn_finite.Gen.facts, Cert.Pre_swiglu_finite.Gen.facts,
    Attn.frame_kernel, Attn.frame_ideal, Attn.frame_ideal_pre, Attn.frame_ref, Attn.frame_ref_pre,
    Ffn.frame_kernel, Ffn.frame_ideal, Ffn.frame_ideal_pre, Ffn.frame_ref, Ffn.frame_ref_pre,
    FfnOutW.frame_kernel, FfnOutW.frame_ideal, FfnOutW.frame_ref,
    FfnInW.frame_kernel, FfnInW.frame_ideal, FfnInW.frame_ref,
    ProjW.frame_kernel, ProjW.frame_ideal, ProjW.frame_ref,
    OutW.frame_kernel, OutW.frame_ideal, OutW.frame_ref,
    OutX.frame_kernel, OutX.frame_ideal, OutX.frame_ref,
    FfnInX.frame_kernel, FfnInX.frame_ideal, FfnInX.frame_ref,
    ProjX.frame_kernel, ProjX.frame_ideal, ProjX.frame_ref,
    FfnInFwd.frame_kernel, FfnInFwd.frame_ideal, FfnInFwd.frame_ref,
    ProjFwd.frame_kernel, ProjFwd.frame_ideal, ProjFwd.frame_ref,
    NormStep.frame_kernel, NormStep.frame_ideal, NormStep.frame_ref,
    FfnInStep.frame_kernel, FfnInStep.frame_ideal, FfnInStep.frame_ref,
    AdaStep.frame_kernel, AdaStep.frame_ideal, AdaStep.frame_ref,
    HeadStep.frame_kernel, HeadStep.frame_ideal, HeadStep.frame_ref,
    QkStep.frame_kernel, QkStep.frame_ideal, QkStep.frame_ref,
    BiasStep.frame_kernel, BiasStep.frame_ideal, BiasStep.frame_ref,
    Attn.preserves, Attn.algebraic, trivial, Ffn.algebraic,
    trivial, FfnOutW.algebraic,
    trivial, FfnInW.algebraic,
    trivial, ProjW.algebraic,
    trivial, OutW.algebraic,
    trivial, OutX.algebraic,
    trivial, FfnInX.algebraic,
    trivial, ProjX.algebraic,
    trivial, FfnInFwd.algebraic,
    trivial, ProjFwd.algebraic,
    trivial, NormStep.algebraic,
    trivial, FfnInStep.algebraic,
    trivial, AdaStep.algebraic,
    trivial, HeadStep.algebraic,
    trivial, QkStep.algebraic,
    trivial, BiasStep.algebraic⟩

end Cert.Proof

end
